-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Main (m : (ℓ : Loc Cert.Main.nD Cert.Main.τ Cert.Main.sig) → Buf (Elt Bits) ℓ) : Prop :=
  True

def Pre_MainIdeal (m : (ℓ : Loc Cert.MainIdeal.nD Cert.MainIdeal.τ Cert.MainIdeal.sig) → Buf (Elt Ideal) ℓ) : Prop :=
  True

def Pre_MainReferenceIdeal (m : (ℓ : Loc Cert.MainReferenceIdeal.nD Cert.MainReferenceIdeal.τ Cert.MainReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_Main [hMain : Cert.Main.Facts] : Prop :=
  ∀ (m : (ℓ : Loc Cert.Main.nD Cert.Main.τ Cert.Main.sig) → Buf (Elt Bits) ℓ) (g : Dev Cert.Main.nD → PrngReg), Pre_Main m →
    θ_run (Cert.Main.defs (F := Bits)) (onTc (τ := Cert.Main.τ) (Cert.Main.main (F := Bits))) ⟨m, fun _ => 0, g⟩ (fun r => (∀ c : Dev Cert.Main.nD,
      r.2.mem ((c.tc : Thread Cert.Main.nD Cert.Main.τ).loc Cert.Main.main_arg0) = m ((c.tc : Thread Cert.Main.nD Cert.Main.τ).loc Cert.Main.main_arg0)
      ∧ r.2.mem ((c.tc : Thread Cert.Main.nD Cert.Main.τ).loc Cert.Main.main_arg1) = m ((c.tc : Thread Cert.Main.nD Cert.Main.τ).loc Cert.Main.main_arg1)
      ∧ r.2.mem ((c.tc : Thread Cert.Main.nD Cert.Main.τ).loc Cert.Main.main_arg2) = m ((c.tc : Thread Cert.Main.nD Cert.Main.τ).loc Cert.Main.main_arg2)
      ∧ r.2.mem ((c.tc : Thread Cert.Main.nD Cert.Main.τ).loc Cert.Main.main_arg3) = m ((c.tc : Thread Cert.Main.nD Cert.Main.τ).loc Cert.Main.main_arg3)
      ∧ r.2.mem ((c.tc : Thread Cert.Main.nD Cert.Main.τ).loc Cert.Main.main_arg4) = m ((c.tc : Thread Cert.Main.nD Cert.Main.τ).loc Cert.Main.main_arg4))
      ∧ r.2.sem = fun _ => 0)

def quiescent_MainIdeal [hMainIdeal : Cert.MainIdeal.Facts] : Prop :=
  ∀ (m : (ℓ : Loc Cert.MainIdeal.nD Cert.MainIdeal.τ Cert.MainIdeal.sig) → Buf (Elt Ideal) ℓ) (g : Dev Cert.MainIdeal.nD → PrngReg), Pre_MainIdeal m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
      ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
      ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
      ∧ r.2.mem ((c.tc : Thread Cert.MainIdeal.nD Cert.MainIdeal.τ).loc Cert.MainIdeal.main_arg4) = m ((c.tc : Thread Cert.MainIdeal.nD Cert.MainIdeal.τ).loc Cert.MainIdeal.main_arg4))
      ∧ r.2.sem = fun _ => 0)

def quiescent_MainReferenceIdeal [hMainReferenceIdeal : Cert.MainReferenceIdeal.Facts] : Prop :=
  ∀ (m : (ℓ : Loc Cert.MainReferenceIdeal.nD Cert.MainReferenceIdeal.τ Cert.MainReferenceIdeal.sig) → Buf (Elt Ideal) ℓ) (g : Dev Cert.MainReferenceIdeal.nD → PrngReg), Pre_MainReferenceIdeal m →
    θ_run (Cert.MainReferenceIdeal.defs (F := Ideal)) (onTc (τ := Cert.MainReferenceIdeal.τ) (Cert.MainReferenceIdeal.main (F := Ideal))) ⟨m, fun _ => 0, g⟩ (fun r => (∀ c : Dev Cert.MainReferenceIdeal.nD,
      r.2.mem ((c.tc : Thread Cert.MainReferenceIdeal.nD Cert.MainReferenceIdeal.τ).loc Cert.MainReferenceIdeal.main_arg0) = m ((c.tc : Thread Cert.MainReferenceIdeal.nD Cert.MainReferenceIdeal.τ).loc Cert.MainReferenceIdeal.main_arg0)
      ∧ r.2.mem ((c.tc : Thread Cert.MainReferenceIdeal.nD Cert.MainReferenceIdeal.τ).loc Cert.MainReferenceIdeal.main_arg1) = m ((c.tc : Thread Cert.MainReferenceIdeal.nD Cert.MainReferenceIdeal.τ).loc Cert.MainReferenceIdeal.main_arg1)
      ∧ r.2.mem ((c.tc : Thread Cert.MainReferenceIdeal.nD Cert.MainReferenceIdeal.τ).loc Cert.MainReferenceIdeal.main_arg2) = m ((c.tc : Thread Cert.MainReferenceIdeal.nD Cert.MainReferenceIdeal.τ).loc Cert.MainReferenceIdeal.main_arg2)
      ∧ r.2.mem ((c.tc : Thread Cert.MainReferenceIdeal.nD Cert.MainReferenceIdeal.τ).loc Cert.MainReferenceIdeal.main_arg3) = m ((c.tc : Thread Cert.MainReferenceIdeal.nD Cert.MainReferenceIdeal.τ).loc Cert.MainReferenceIdeal.main_arg3)
      ∧ r.2.mem ((c.tc : Thread Cert.MainReferenceIdeal.nD Cert.MainReferenceIdeal.τ).loc Cert.MainReferenceIdeal.main_arg4) = m ((c.tc : Thread Cert.MainReferenceIdeal.nD Cert.MainReferenceIdeal.τ).loc Cert.MainReferenceIdeal.main_arg4))
      ∧ r.2.sem = fun _ => 0)

def preserves_Kernel_KernelIdeal : Prop :=
  True

def preserves_Main_MainIdeal : Prop :=
  True

def algebraic_MainIdeal_MainReferenceIdeal [hMainIdeal : Cert.MainIdeal.Facts] [hMainReferenceIdeal : Cert.MainReferenceIdeal.Facts] : Prop :=
  ∀ (m : (ℓ : Loc Cert.MainIdeal.nD Cert.MainIdeal.τ Cert.MainIdeal.sig) → Buf (Elt Ideal) ℓ) (g : Dev Cert.MainIdeal.nD → PrngReg)
    (m' : (ℓ : Loc Cert.MainReferenceIdeal.nD Cert.MainReferenceIdeal.τ Cert.MainReferenceIdeal.sig) → Buf (Elt Ideal) ℓ) (g' : Dev Cert.MainReferenceIdeal.nD → PrngReg), Pre_MainIdeal m →
    (∀ c : Dev Cert.MainIdeal.nD,
      m' ((c.tc : Thread Cert.MainReferenceIdeal.nD Cert.MainReferenceIdeal.τ).loc Cert.MainReferenceIdeal.main_arg0) = m ((c.tc : Thread Cert.MainIdeal.nD Cert.MainIdeal.τ).loc Cert.MainIdeal.main_arg0)
      ∧ m' ((c.tc : Thread Cert.MainReferenceIdeal.nD Cert.MainReferenceIdeal.τ).loc Cert.MainReferenceIdeal.main_arg1) = m ((c.tc : Thread Cert.MainIdeal.nD Cert.MainIdeal.τ).loc Cert.MainIdeal.main_arg1)
      ∧ m' ((c.tc : Thread Cert.MainReferenceIdeal.nD Cert.MainReferenceIdeal.τ).loc Cert.MainReferenceIdeal.main_arg2) = m ((c.tc : Thread Cert.MainIdeal.nD Cert.MainIdeal.τ).loc Cert.MainIdeal.main_arg2)
      ∧ m' ((c.tc : Thread Cert.MainReferenceIdeal.nD Cert.MainReferenceIdeal.τ).loc Cert.MainReferenceIdeal.main_arg3) = m ((c.tc : Thread Cert.MainIdeal.nD Cert.MainIdeal.τ).loc Cert.MainIdeal.main_arg3)
      ∧ m' ((c.tc : Thread Cert.MainReferenceIdeal.nD Cert.MainReferenceIdeal.τ).loc Cert.MainReferenceIdeal.main_arg4) = m ((c.tc : Thread Cert.MainIdeal.nD Cert.MainIdeal.τ).loc Cert.MainIdeal.main_arg4)) →
    ∃ (v0 : (c : Dev Cert.MainIdeal.nD) → Buf (Elt Ideal) ((c.tc : Thread Cert.MainIdeal.nD Cert.MainIdeal.τ).loc Cert.MainIdeal.main_v4_0)) (v1 : (c : Dev Cert.MainIdeal.nD) → Buf (Elt Ideal) ((c.tc : Thread Cert.MainIdeal.nD Cert.MainIdeal.τ).loc Cert.MainIdeal.main_v4_1)) (v2 : (c : Dev Cert.MainIdeal.nD) → Buf (Elt Ideal) ((c.tc : Thread Cert.MainIdeal.nD Cert.MainIdeal.τ).loc Cert.MainIdeal.main_v4_2)),
      θ_run (Cert.MainIdeal.defs (F := Ideal)) (onTc (τ := Cert.MainIdeal.τ) (Cert.MainIdeal.main (F := Ideal))) ⟨m, fun _ => 0, g⟩ (fun r => ∀ c : Dev Cert.MainIdeal.nD,
          r.2.mem ((c.tc : Thread Cert.MainIdeal.nD Cert.MainIdeal.τ).loc Cert.MainIdeal.main_v4_0) = v0 c
          ∧ r.2.mem ((c.tc : Thread Cert.MainIdeal.nD Cert.MainIdeal.τ).loc Cert.MainIdeal.main_v4_1) = v1 c
          ∧ r.2.mem ((c.tc : Thread Cert.MainIdeal.nD Cert.MainIdeal.τ).loc Cert.MainIdeal.main_v4_2) = v2 c
          ∧ r.2.mem ((c.tc : Thread Cert.MainIdeal.nD Cert.MainIdeal.τ).loc Cert.MainIdeal.main_arg0) = m ((c.tc : Thread Cert.MainIdeal.nD Cert.MainIdeal.τ).loc Cert.MainIdeal.main_arg0)
          ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
          ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
          ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
          ∧ r.2.mem ((c.tc : Thread Cert.MainIdeal.nD Cert.MainIdeal.τ).loc Cert.MainIdeal.main_arg4) = m ((c.tc : Thread Cert.MainIdeal.nD Cert.MainIdeal.τ).loc Cert.MainIdeal.main_arg4))
      ∧ θ_run (Cert.MainReferenceIdeal.defs (F := Ideal)) (onTc (τ := Cert.MainReferenceIdeal.τ) (Cert.MainReferenceIdeal.main (F := Ideal))) ⟨m', fun _ => 0, g'⟩ (fun r => ∀ c : Dev Cert.MainReferenceIdeal.nD,
          r.2.mem ((c.tc : Thread Cert.MainReferenceIdeal.nD Cert.MainReferenceIdeal.τ).loc Cert.MainReferenceIdeal.main_v8) = v0 c
          ∧ r.2.mem ((c.tc : Thread Cert.MainReferenceIdeal.nD Cert.MainReferenceIdeal.τ).loc Cert.MainReferenceIdeal.main_v1) = v1 c
          ∧ r.2.mem ((c.tc : Thread Cert.MainReferenceIdeal.nD Cert.MainReferenceIdeal.τ).loc Cert.MainReferenceIdeal.main_arg1) = v2 c
          ∧ r.2.mem ((c.tc : Thread Cert.MainReferenceIdeal.nD Cert.MainReferenceIdeal.τ).loc Cert.MainReferenceIdeal.main_arg0) = m' ((c.tc : Thread Cert.MainReferenceIdeal.nD Cert.MainReferenceIdeal.τ).loc Cert.MainReferenceIdeal.main_arg0)
          ∧ r.2.mem ((c.tc : Thread Cert.MainReferenceIdeal.nD Cert.MainReferenceIdeal.τ).loc Cert.MainReferenceIdeal.main_arg1) = m' ((c.tc : Thread Cert.MainReferenceIdeal.nD Cert.MainReferenceIdeal.τ).loc Cert.MainReferenceIdeal.main_arg1)
          ∧ r.2.mem ((c.tc : Thread Cert.MainReferenceIdeal.nD Cert.MainReferenceIdeal.τ).loc Cert.MainReferenceIdeal.main_arg2) = m' ((c.tc : Thread Cert.MainReferenceIdeal.nD Cert.MainReferenceIdeal.τ).loc Cert.MainReferenceIdeal.main_arg2)
          ∧ r.2.mem ((c.tc : Thread Cert.MainReferenceIdeal.nD Cert.MainReferenceIdeal.τ).loc Cert.MainReferenceIdeal.main_arg3) = m' ((c.tc : Thread Cert.MainReferenceIdeal.nD Cert.MainReferenceIdeal.τ).loc Cert.MainReferenceIdeal.main_arg3)
          ∧ r.2.mem ((c.tc : Thread Cert.MainReferenceIdeal.nD Cert.MainReferenceIdeal.τ).loc Cert.MainReferenceIdeal.main_arg4) = m' ((c.tc : Thread Cert.MainReferenceIdeal.nD Cert.MainReferenceIdeal.τ).loc Cert.MainReferenceIdeal.main_arg4))

def Claim : Prop :=
  ∃ (hKernel : Cert.Kernel.Facts) (hKernelIdeal : Cert.KernelIdeal.Facts) (hMain : Cert.Main.Facts) (hMainIdeal : Cert.MainIdeal.Facts) (hMainReferenceIdeal : Cert.MainReferenceIdeal.Facts),
    quiescent_Kernel (hKernel := hKernel)
    ∧ quiescent_KernelIdeal (hKernelIdeal := hKernelIdeal)
    ∧ quiescent_Main (hMain := hMain)
    ∧ quiescent_MainIdeal (hMainIdeal := hMainIdeal)
    ∧ quiescent_MainReferenceIdeal (hMainReferenceIdeal := hMainReferenceIdeal)
    ∧ preserves_Kernel_KernelIdeal
    ∧ preserves_Main_MainIdeal
    ∧ algebraic_MainIdeal_MainReferenceIdeal (hMainIdeal := hMainIdeal) (hMainReferenceIdeal := hMainReferenceIdeal)
-- ==== Kernel.lean ====
abbrev S2x128x3 : Shape := ⟨3, ![2, 128, 3]⟩
abbrev S2x128x2048 : Shape := ⟨3, ![2, 128, 2048]⟩
abbrev S2x128x64 : Shape := ⟨3, ![2, 128, 64]⟩
abbrev S2x128x24 : Shape := ⟨3, ![2, 128, 24]⟩
abbrev S2x128 : Shape := ⟨2, ![2, 128]⟩
abbrev S15x3 : Shape := ⟨2, ![15, 3]⟩
abbrev S15x2048x2560 : Shape := ⟨3, ![15, 2048, 2560]⟩
abbrev S2560 : Shape := ⟨1, ![2560]⟩
abbrev S3x2x128 : Shape := ⟨3, ![3, 2, 128]⟩
abbrev S2x64x128 : Shape := ⟨3, ![2, 64, 128]⟩
abbrev S2x24x128 : Shape := ⟨3, ![2, 24, 128]⟩
abbrev S3x15 : Shape := ⟨2, ![3, 15]⟩
abbrev S1x2560 : Shape := ⟨2, ![1, 2560]⟩
abbrev S256x2560 : Shape := ⟨2, ![256, 2560]⟩
abbrev S2x15x128x2048 : Shape := ⟨4, ![2, 15, 128, 2048]⟩
abbrev S2x256x2048 : Shape := ⟨3, ![2, 256, 2048]⟩
abbrev S2x3x128x128 : Shape := ⟨4, ![2, 3, 128, 128]⟩
abbrev S2x128x128 : Shape := ⟨3, ![2, 128, 128]⟩
abbrev S2x480x256 : Shape := ⟨3, ![2, 480, 256]⟩
abbrev S2x15x32x2048 : Shape := ⟨4, ![2, 15, 32, 2048]⟩
abbrev S15x256x2048 : Shape := ⟨3, ![15, 256, 2048]⟩
abbrev S256x128 : Shape := ⟨2, ![256, 128]⟩
abbrev S8x2048x2048 : Shape := ⟨3, ![8, 2048, 2048]⟩
abbrev S8 : Shape := ⟨1, ![8]⟩
abbrev S_ : Shape := ⟨0, ![]⟩
abbrev S1 : Shape := ⟨1, ![1]⟩
abbrev S1x2048x2048 : Shape := ⟨3, ![1, 2048, 2048]⟩
abbrev S2048x2048 : Shape := ⟨2, ![2048, 2048]⟩
abbrev S128x128 : Shape := ⟨2, ![128, 128]⟩
abbrev S1x128 : Shape := ⟨2, ![1, 128]⟩
abbrev S1x1x128 : Shape := ⟨3, ![1, 1, 128]⟩
abbrev S1x128x128 : Shape := ⟨3, ![1, 128, 128]⟩
abbrev S1x1x128x128 : Shape := ⟨4, ![1, 1, 128, 128]⟩
abbrev S1x64x128 : Shape := ⟨3, ![1, 64, 128]⟩
abbrev S64x128 : Shape := ⟨2, ![64, 128]⟩
abbrev S128x128x1 : Shape := ⟨3, ![128, 128, 1]⟩
abbrev S1x1x32x128 : Shape := ⟨4, ![1, 1, 32, 128]⟩
abbrev S32x128 : Shape := ⟨2, ![32, 128]⟩
abbrev S1x1 : Shape := ⟨2, ![1, 1]⟩
abbrev S1x32x128 : Shape := ⟨3, ![1, 32, 128]⟩
abbrev S1x256x256 : Shape := ⟨3, ![1, 256, 256]⟩
abbrev S256x256 : Shape := ⟨2, ![256, 256]⟩
abbrev S1x480x256 : Shape := ⟨3, ![1, 480, 256]⟩
abbrev S480x256 : Shape := ⟨2, ![480, 256]⟩
abbrev S15x32x256 : Shape := ⟨3, ![15, 32, 256]⟩
abbrev S1x15x32x256 : Shape := ⟨4, ![1, 15, 32, 256]⟩
abbrev S32x256 : Shape := ⟨2, ![32, 256]⟩
abbrev S32 : Shape := ⟨1, ![32]⟩
abbrev S32x1 : Shape := ⟨2, ![32, 1]⟩
abbrev S32x2048 : Shape := ⟨2, ![32, 2048]⟩
abbrev S1x1x32x2048 : Shape := ⟨4, ![1, 1, 32, 2048]⟩
abbrev S1x32x2048 : Shape := ⟨3, ![1, 32, 2048]⟩
abbrev S128 : Shape := ⟨1, ![128]⟩
abbrev S1x512x512 : Shape := ⟨3, ![1, 512, 512]⟩
abbrev S512x512 : Shape := ⟨2, ![512, 512]⟩
abbrev S1x1x128x2048 : Shape := ⟨4, ![1, 1, 128, 2048]⟩
abbrev S128x2048 : Shape := ⟨2, ![128, 2048]⟩
abbrev S1x128x2048 : Shape := ⟨3, ![1, 128, 2048]⟩
abbrev S1x256 : Shape := ⟨2, ![1, 256]⟩
abbrev S256x2048 : Shape := ⟨2, ![256, 2048]⟩
abbrev S256x512 : Shape := ⟨2, ![256, 512]⟩
abbrev S2x128x2560 : Shape := ⟨3, ![2, 128, 2560]⟩
abbrev S2x128x15x2048 : Shape := ⟨4, ![2, 128, 15, 2048]⟩

abbrev nBuf : Space → Nat
  | .hbm => 20
  | .vmem => 17
  | .smem => 1
  | _ => 0

abbrev bufTy : (tb : Table) → Fin (tcTables nBuf tb) → BufTy
  | .hbm, ⟨0, _⟩ => ⟨S2x128x3, .f32⟩
  | .hbm, ⟨1, _⟩ => ⟨S2x128x2048, .fp8e4m3⟩
  | .hbm, ⟨2, _⟩ => ⟨S2x128x64, .f32⟩
  | .hbm, ⟨3, _⟩ => ⟨S2x128x24, .i32⟩
  | .hbm, ⟨4, _⟩ => ⟨S2x128, .i32⟩
  | .hbm, ⟨5, _⟩ => ⟨S15x3, .f32⟩
  | .hbm, ⟨6, _⟩ => ⟨S15x2048x2560, .fp8e4m3⟩
  | .hbm, ⟨7, _⟩ => ⟨S2560, .f32⟩
  | .hbm, ⟨8, _⟩ => ⟨S2560, .f32⟩
  | .hbm, ⟨9, _⟩ => ⟨S3x2x128, .f32⟩
  | .hbm, ⟨10, _⟩ => ⟨S2x64x128, .f32⟩
  | .hbm, ⟨11, _⟩ => ⟨S2x24x128, .i32⟩
  | .hbm, ⟨12, _⟩ => ⟨S3x15, .f32⟩
  | .hbm, ⟨13, _⟩ => ⟨S1x2560, .f32⟩
  | .hbm, ⟨14, _⟩ => ⟨S1x2560, .f32⟩
  | .hbm, ⟨15, _⟩ => ⟨S256x2560, .bf16⟩
  | .hbm, ⟨16, _⟩ => ⟨S2x15x128x2048, .fp8e4m3⟩
  | .hbm, ⟨17, _⟩ => ⟨S2x128, .f32⟩
  | .hbm, ⟨18, _⟩ => ⟨S2x128x2560, .bf16⟩
  | .hbm, ⟨19, _⟩ => ⟨S2x128x15x2048, .fp8e4m3⟩
  | .local _ .vmem, ⟨0, _⟩ => ⟨S3x2x128, .f32⟩
  | .local _ .vmem, ⟨1, _⟩ => ⟨S2x128x2048, .fp8e4m3⟩
  | .local _ .vmem, ⟨2, _⟩ => ⟨S2x64x128, .f32⟩
  | .local _ .vmem, ⟨3, _⟩ => ⟨S2x24x128, .i32⟩
  | .local _ .vmem, ⟨4, _⟩ => ⟨S2x128, .i32⟩
  | .local _ .vmem, ⟨5, _⟩ => ⟨S1x2560, .f32⟩
  | .local _ .vmem, ⟨6, _⟩ => ⟨S1x2560, .f32⟩
  | .local _ .vmem, ⟨7, _⟩ => ⟨S2x256x2048, .bf16⟩
  | .local _ .vmem, ⟨8, _⟩ => ⟨S2x3x128x128, .f32⟩
  | .local _ .vmem, ⟨9, _⟩ => ⟨S2x128x128, .f32⟩
  | .local _ .vmem, ⟨10, _⟩ => ⟨S2x480x256, .bf16⟩
  | .local _ .vmem, ⟨11, _⟩ => ⟨S2x15x32x2048, .f32⟩
  | .local _ .vmem, ⟨12, _⟩ => ⟨S15x256x2048, .fp8e4m3⟩
  | .local _ .vmem, ⟨13, _⟩ => ⟨S256x128, .f32⟩
  | .local _ .vmem, ⟨14, _⟩ => ⟨S2x128, .f32⟩
  | .local _ .vmem, ⟨15, _⟩ => ⟨S256x2560, .bf16⟩
  | .local _ .vmem, ⟨16, _⟩ => ⟨S8x2048x2048, .fp8e4m3⟩
  | .local _ .smem, ⟨0, _⟩ => ⟨S3x15, .f32⟩
  | _, _ => ⟨S2x128x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v7 : Ref sig .tc := ⟨.hbm, 18, rfl⟩
abbrev main_v8 : Ref sig .tc := ⟨.hbm, 19, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch6 : Ref sig .tc := ⟨.vmem, 5, rfl⟩
abbrev cc0_scratch7 : Ref sig .tc := ⟨.vmem, 6, rfl⟩
abbrev cc0_scratch8 : Ref sig .tc := ⟨.vmem, 7, rfl⟩
abbrev cc0_scratch9 : Ref sig .tc := ⟨.vmem, 8, rfl⟩
abbrev cc0_scratch10 : Ref sig .tc := ⟨.vmem, 9, rfl⟩
abbrev cc0_scratch11 : Ref sig .tc := ⟨.vmem, 10, rfl⟩
abbrev cc0_scratch12 : Ref sig .tc := ⟨.vmem, 11, rfl⟩
abbrev cc0_scratch13 : Ref sig .tc := ⟨.vmem, 12, rfl⟩
abbrev cc0_scratch14 : Ref sig .tc := ⟨.vmem, 13, rfl⟩
abbrev cc0_scratch15 : Ref sig .tc := ⟨.vmem, 14, rfl⟩
abbrev cc0_scratch16 : Ref sig .tc := ⟨.vmem, 15, rfl⟩
abbrev cc0_scratch17 : Ref sig .tc := ⟨.vmem, 16, rfl⟩
abbrev cc0_scratch5 : Ref sig .tc := ⟨.smem, 0, rfl⟩

abbrev nD : Nat := 1
abbrev τ : Topo := Topo.v7x

variable {F : FTy → Type} [FloatOps F]

abbrev grid0 : Pipeline.Grid := .none

@[reducible] def k0_t1_loop : Scf.Loop 32 :=
  let c0_i32_1095_r1 : BitVec 32 := 0#32
  let c15_i32_1096_r1 : BitVec 32 := 15#32
  let v1600_r1 : BitVec 32 := Scalar.addi c0_i32_1095_r1 c15_i32_1096_r1
  let c1_i32_1097_r1 : BitVec 32 := 1#32
  ⟨c0_i32_1095_r1, v1600_r1, c1_i32_1097_r1⟩
def k0_cond1 (k0_t1 : Fin k0_t1_loop.trips) : BitVec 1 :=
  let c0_i32_1095_r1 : BitVec 32 := 0#32
  let c1_i32_1097_r1 : BitVec 32 := 1#32
  let arg35_r1 : BitVec 32 := Scf.iv c0_i32_1095_r1 c1_i32_1097_r1 k0_t1
  let c0_i32_1191_r1 : BitVec 32 := 0#32
  let v1749_r1 : BitVec 1 := Scalar.cmpi .sgt arg35_r1 c0_i32_1191_r1
  let v1750_r1 : BitVec 32 := Scalar.extui v1749_r1
  let c0_i32_1192_r1 : BitVec 32 := 0#32
  let v1751_r1 : BitVec 1 := Scalar.cmpi .ne v1750_r1 c0_i32_1192_r1
  v1751_r1

def k0_cond2 (k0_t1 : Fin k0_t1_loop.trips) : BitVec 1 :=
  let c0_i32_1095_r1 : BitVec 32 := 0#32
  let c1_i32_1097_r1 : BitVec 32 := 1#32
  let arg35_r1 : BitVec 32 := Scf.iv c0_i32_1095_r1 c1_i32_1097_r1 k0_t1
  let c1_i32_1352_r1 : BitVec 32 := 1#32
  let v2110_r1 : BitVec 32 := Scalar.subi arg35_r1 c1_i32_1352_r1
  let c8_i32_1353_r1 : BitVec 32 := 8#32
  let v2111_r1 : BitVec 32 := Scalar.addi v2110_r1 c8_i32_1353_r1
  let c15_i32_1355_r1 : BitVec 32 := 15#32
  let v2113_r1 : BitVec 1 := Scalar.cmpi .slt v2111_r1 c15_i32_1355_r1
  let v2114_r1 : BitVec 32 := Scalar.extui v2113_r1
  let c0_i32_1356_r1 : BitVec 32 := 0#32
  let v2115_r1 : BitVec 1 := Scalar.cmpi .ne v2114_r1 c0_i32_1356_r1
  v2115_r1

def k0_off1 (k0_t1 : Fin k0_t1_loop.trips) : Fin 1 → Nat :=
  let c0_i32_1095_r1 : BitVec 32 := 0#32
  let c1_i32_1097_r1 : BitVec 32 := 1#32
  let arg35_r1 : BitVec 32 := Scf.iv c0_i32_1095_r1 c1_i32_1097_r1 k0_t1
  let c1_i32_1352_r1 : BitVec 32 := 1#32
  let v2110_r1 : BitVec 32 := Scalar.subi arg35_r1 c1_i32_1352_r1
  let c8_i32_1353_r1 : BitVec 32 := 8#32
  let v2111_r1 : BitVec 32 := Scalar.addi v2110_r1 c8_i32_1353_r1
  let c8_i32_1354_r1 : BitVec 32 := 8#32
  let v2112_r1 : BitVec 32 := Scalar.remsi v2111_r1 c8_i32_1354_r1
  ![v2112_r1.toNat]
def k0_off2 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c1_i32_1352_r1 : BitVec 32 := 1#32
  let v2110_r1 : BitVec 32 := Scalar.subi arg35_r1 c1_i32_1352_r1
  let c8_i32_1353_r1 : BitVec 32 := 8#32
  let v2111_r1 : BitVec 32 := Scalar.addi v2110_r1 c8_i32_1353_r1
  let c8_i32_1354_r1 : BitVec 32 := 8#32
  let v2112_r1 : BitVec 32 := Scalar.remsi v2111_r1 c8_i32_1354_r1
  let c0_i32_1360_r1 : BitVec 32 := 0#32
  let c0_i32_1361_r1 : BitVec 32 := 0#32
  ![v2112_r1.toNat, 0, 0]
def k0_off3 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c1_i32_1352_r1 : BitVec 32 := 1#32
  let v2110_r1 : BitVec 32 := Scalar.subi arg35_r1 c1_i32_1352_r1
  let c8_i32_1353_r1 : BitVec 32 := 8#32
  let v2111_r1 : BitVec 32 := Scalar.addi v2110_r1 c8_i32_1353_r1
  let c0_i32_1362_r1 : BitVec 32 := 0#32
  let c0_i32_1363_r1 : BitVec 32 := 0#32
  ![v2111_r1.toNat, 0, 0]
def k0_cond3 (k0_t1 : Fin k0_t1_loop.trips) : BitVec 1 :=
  let c0_i32_1095_r1 : BitVec 32 := 0#32
  let c1_i32_1097_r1 : BitVec 32 := 1#32
  let arg35_r1 : BitVec 32 := Scf.iv c0_i32_1095_r1 c1_i32_1097_r1 k0_t1
  let c1_i32_1352_r1 : BitVec 32 := 1#32
  let v2110_r1 : BitVec 32 := Scalar.subi arg35_r1 c1_i32_1352_r1
  let c8_i32_1353_r1 : BitVec 32 := 8#32
  let v2111_r1 : BitVec 32 := Scalar.addi v2110_r1 c8_i32_1353_r1
  let c15_i32_1357_r1 : BitVec 32 := 15#32
  let v2116_r1 : BitVec 1 := Scalar.cmpi .sge v2111_r1 c15_i32_1357_r1
  let c20_i32_1358_r1 : BitVec 32 := 20#32
  let v2117_r1 : BitVec 1 := Scalar.cmpi .slt v2111_r1 c20_i32_1358_r1
  let v2118_r1 : BitVec 1 := Scalar.andi v2116_r1 v2117_r1
  let v2119_r1 : BitVec 32 := Scalar.extui v2118_r1
  let c0_i32_1359_r1 : BitVec 32 := 0#32
  let v2120_r1 : BitVec 1 := Scalar.cmpi .ne v2119_r1 c0_i32_1359_r1
  v2120_r1

def k0_off4 (k0_t1 : Fin k0_t1_loop.trips) : Fin 1 → Nat :=
  let c0_i32_1095_r1 : BitVec 32 := 0#32
  let c1_i32_1097_r1 : BitVec 32 := 1#32
  let arg35_r1 : BitVec 32 := Scf.iv c0_i32_1095_r1 c1_i32_1097_r1 k0_t1
  let c1_i32_1352_r1 : BitVec 32 := 1#32
  let v2110_r1 : BitVec 32 := Scalar.subi arg35_r1 c1_i32_1352_r1
  let c8_i32_1353_r1 : BitVec 32 := 8#32
  let v2111_r1 : BitVec 32 := Scalar.addi v2110_r1 c8_i32_1353_r1
  let c8_i32_1354_r1 : BitVec 32 := 8#32
  let v2112_r1 : BitVec 32 := Scalar.remsi v2111_r1 c8_i32_1354_r1
  ![v2112_r1.toNat]
def k0_off5 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c1_i32_1352_r1 : BitVec 32 := 1#32
  let v2110_r1 : BitVec 32 := Scalar.subi arg35_r1 c1_i32_1352_r1
  let c8_i32_1353_r1 : BitVec 32 := 8#32
  let v2111_r1 : BitVec 32 := Scalar.addi v2110_r1 c8_i32_1353_r1
  let c8_i32_1354_r1 : BitVec 32 := 8#32
  let v2112_r1 : BitVec 32 := Scalar.remsi v2111_r1 c8_i32_1354_r1
  let c0_i32_1385_r1 : BitVec 32 := 0#32
  let c0_i32_1386_r1 : BitVec 32 := 0#32
  ![v2112_r1.toNat, 0, 0]
def k0_off6 (k0_t1 : Fin k0_t1_loop.trips) (c0_i32_1362_r1 : BitVec 32) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c1_i32_1352_r1 : BitVec 32 := 1#32
  let v2110_r1 : BitVec 32 := Scalar.subi arg35_r1 c1_i32_1352_r1
  let c8_i32_1353_r1 : BitVec 32 := 8#32
  let v2111_r1 : BitVec 32 := Scalar.addi v2110_r1 c8_i32_1353_r1
  let c15_i32_1360_r1 : BitVec 32 := 15#32
  let v2121_r1 : BitVec 32 := Scalar.subi v2111_r1 c15_i32_1360_r1
  let c3_i32_1361_r1 : BitVec 32 := 3#32
  let v2122_r1 : BitVec 32 := Scalar.muli v2121_r1 c3_i32_1361_r1
  let v2123_r1 : BitVec 32 := Scalar.addi v2122_r1 c0_i32_1362_r1
  let c0_i32_1387_r1 : BitVec 32 := 0#32
  let c2048_i32_1388_r1 : BitVec 32 := 2048#32
  ![v2123_r1.toNat, 0, 2048]
def k0_off7 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c1_i32_1352_r1 : BitVec 32 := 1#32
  let v2110_r1 : BitVec 32 := Scalar.subi arg35_r1 c1_i32_1352_r1
  let c8_i32_1353_r1 : BitVec 32 := 8#32
  let v2111_r1 : BitVec 32 := Scalar.addi v2110_r1 c8_i32_1353_r1
  let c8_i32_1354_r1 : BitVec 32 := 8#32
  let v2112_r1 : BitVec 32 := Scalar.remsi v2111_r1 c8_i32_1354_r1
  let c0_i32_1389_r1 : BitVec 32 := 0#32
  let c512_i32_r1 : BitVec 32 := 512#32
  ![v2112_r1.toNat, 0, 512]
def k0_off8 (k0_t1 : Fin k0_t1_loop.trips) (c0_i32_1364_r1 : BitVec 32) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c1_i32_1352_r1 : BitVec 32 := 1#32
  let v2110_r1 : BitVec 32 := Scalar.subi arg35_r1 c1_i32_1352_r1
  let c8_i32_1353_r1 : BitVec 32 := 8#32
  let v2111_r1 : BitVec 32 := Scalar.addi v2110_r1 c8_i32_1353_r1
  let c15_i32_1360_r1 : BitVec 32 := 15#32
  let v2121_r1 : BitVec 32 := Scalar.subi v2111_r1 c15_i32_1360_r1
  let c3_i32_1363_r1 : BitVec 32 := 3#32
  let v2124_r1 : BitVec 32 := Scalar.muli v2121_r1 c3_i32_1363_r1
  let v2125_r1 : BitVec 32 := Scalar.addi v2124_r1 c0_i32_1364_r1
  let c512_i32_1390_r1 : BitVec 32 := 512#32
  let c2048_i32_1391_r1 : BitVec 32 := 2048#32
  ![v2125_r1.toNat, 512, 2048]
def k0_off9 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c1_i32_1352_r1 : BitVec 32 := 1#32
  let v2110_r1 : BitVec 32 := Scalar.subi arg35_r1 c1_i32_1352_r1
  let c8_i32_1353_r1 : BitVec 32 := 8#32
  let v2111_r1 : BitVec 32 := Scalar.addi v2110_r1 c8_i32_1353_r1
  let c8_i32_1354_r1 : BitVec 32 := 8#32
  let v2112_r1 : BitVec 32 := Scalar.remsi v2111_r1 c8_i32_1354_r1
  let c0_i32_1392_r1 : BitVec 32 := 0#32
  let c1024_i32_r1 : BitVec 32 := 1024#32
  ![v2112_r1.toNat, 0, 1024]
def k0_off10 (k0_t1 : Fin k0_t1_loop.trips) (c0_i32_1366_r1 : BitVec 32) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c1_i32_1352_r1 : BitVec 32 := 1#32
  let v2110_r1 : BitVec 32 := Scalar.subi arg35_r1 c1_i32_1352_r1
  let c8_i32_1353_r1 : BitVec 32 := 8#32
  let v2111_r1 : BitVec 32 := Scalar.addi v2110_r1 c8_i32_1353_r1
  let c15_i32_1360_r1 : BitVec 32 := 15#32
  let v2121_r1 : BitVec 32 := Scalar.subi v2111_r1 c15_i32_1360_r1
  let c3_i32_1365_r1 : BitVec 32 := 3#32
  let v2126_r1 : BitVec 32 := Scalar.muli v2121_r1 c3_i32_1365_r1
  let v2127_r1 : BitVec 32 := Scalar.addi v2126_r1 c0_i32_1366_r1
  let c1024_i32_1393_r1 : BitVec 32 := 1024#32
  let c2048_i32_1394_r1 : BitVec 32 := 2048#32
  ![v2127_r1.toNat, 1024, 2048]
def k0_off11 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c1_i32_1352_r1 : BitVec 32 := 1#32
  let v2110_r1 : BitVec 32 := Scalar.subi arg35_r1 c1_i32_1352_r1
  let c8_i32_1353_r1 : BitVec 32 := 8#32
  let v2111_r1 : BitVec 32 := Scalar.addi v2110_r1 c8_i32_1353_r1
  let c8_i32_1354_r1 : BitVec 32 := 8#32
  let v2112_r1 : BitVec 32 := Scalar.remsi v2111_r1 c8_i32_1354_r1
  let c0_i32_1395_r1 : BitVec 32 := 0#32
  let c1536_i32_r1 : BitVec 32 := 1536#32
  ![v2112_r1.toNat, 0, 1536]
def k0_off12 (k0_t1 : Fin k0_t1_loop.trips) (c0_i32_1368_r1 : BitVec 32) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c1_i32_1352_r1 : BitVec 32 := 1#32
  let v2110_r1 : BitVec 32 := Scalar.subi arg35_r1 c1_i32_1352_r1
  let c8_i32_1353_r1 : BitVec 32 := 8#32
  let v2111_r1 : BitVec 32 := Scalar.addi v2110_r1 c8_i32_1353_r1
  let c15_i32_1360_r1 : BitVec 32 := 15#32
  let v2121_r1 : BitVec 32 := Scalar.subi v2111_r1 c15_i32_1360_r1
  let c3_i32_1367_r1 : BitVec 32 := 3#32
  let v2128_r1 : BitVec 32 := Scalar.muli v2121_r1 c3_i32_1367_r1
  let v2129_r1 : BitVec 32 := Scalar.addi v2128_r1 c0_i32_1368_r1
  let c1536_i32_1396_r1 : BitVec 32 := 1536#32
  let c2048_i32_1397_r1 : BitVec 32 := 2048#32
  ![v2129_r1.toNat, 1536, 2048]
def k0_off13 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c1_i32_1352_r1 : BitVec 32 := 1#32
  let v2110_r1 : BitVec 32 := Scalar.subi arg35_r1 c1_i32_1352_r1
  let c8_i32_1353_r1 : BitVec 32 := 8#32
  let v2111_r1 : BitVec 32 := Scalar.addi v2110_r1 c8_i32_1353_r1
  let c8_i32_1354_r1 : BitVec 32 := 8#32
  let v2112_r1 : BitVec 32 := Scalar.remsi v2111_r1 c8_i32_1354_r1
  let c512_i32_1398_r1 : BitVec 32 := 512#32
  let c0_i32_1399_r1 : BitVec 32 := 0#32
  ![v2112_r1.toNat, 512, 0]
def k0_off14 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c1_i32_1352_r1 : BitVec 32 := 1#32
  let v2110_r1 : BitVec 32 := Scalar.subi arg35_r1 c1_i32_1352_r1
  let c8_i32_1353_r1 : BitVec 32 := 8#32
  let v2111_r1 : BitVec 32 := Scalar.addi v2110_r1 c8_i32_1353_r1
  let c8_i32_1354_r1 : BitVec 32 := 8#32
  let v2112_r1 : BitVec 32 := Scalar.remsi v2111_r1 c8_i32_1354_r1
  let c512_i32_1402_r1 : BitVec 32 := 512#32
  let c512_i32_1403_r1 : BitVec 32 := 512#32
  ![v2112_r1.toNat, 512, 512]
def k0_off15 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c1_i32_1352_r1 : BitVec 32 := 1#32
  let v2110_r1 : BitVec 32 := Scalar.subi arg35_r1 c1_i32_1352_r1
  let c8_i32_1353_r1 : BitVec 32 := 8#32
  let v2111_r1 : BitVec 32 := Scalar.addi v2110_r1 c8_i32_1353_r1
  let c8_i32_1354_r1 : BitVec 32 := 8#32
  let v2112_r1 : BitVec 32 := Scalar.remsi v2111_r1 c8_i32_1354_r1
  let c512_i32_1406_r1 : BitVec 32 := 512#32
  let c1024_i32_1407_r1 : BitVec 32 := 1024#32
  ![v2112_r1.toNat, 512, 1024]
def k0_off16 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c1_i32_1352_r1 : BitVec 32 := 1#32
  let v2110_r1 : BitVec 32 := Scalar.subi arg35_r1 c1_i32_1352_r1
  let c8_i32_1353_r1 : BitVec 32 := 8#32
  let v2111_r1 : BitVec 32 := Scalar.addi v2110_r1 c8_i32_1353_r1
  let c8_i32_1354_r1 : BitVec 32 := 8#32
  let v2112_r1 : BitVec 32 := Scalar.remsi v2111_r1 c8_i32_1354_r1
  let c512_i32_1410_r1 : BitVec 32 := 512#32
  let c1536_i32_1411_r1 : BitVec 32 := 1536#32
  ![v2112_r1.toNat, 512, 1536]
def k0_off17 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c1_i32_1352_r1 : BitVec 32 := 1#32
  let v2110_r1 : BitVec 32 := Scalar.subi arg35_r1 c1_i32_1352_r1
  let c8_i32_1353_r1 : BitVec 32 := 8#32
  let v2111_r1 : BitVec 32 := Scalar.addi v2110_r1 c8_i32_1353_r1
  let c8_i32_1354_r1 : BitVec 32 := 8#32
  let v2112_r1 : BitVec 32 := Scalar.remsi v2111_r1 c8_i32_1354_r1
  let c1024_i32_1414_r1 : BitVec 32 := 1024#32
  let c0_i32_1415_r1 : BitVec 32 := 0#32
  ![v2112_r1.toNat, 1024, 0]
def k0_off18 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c1_i32_1352_r1 : BitVec 32 := 1#32
  let v2110_r1 : BitVec 32 := Scalar.subi arg35_r1 c1_i32_1352_r1
  let c8_i32_1353_r1 : BitVec 32 := 8#32
  let v2111_r1 : BitVec 32 := Scalar.addi v2110_r1 c8_i32_1353_r1
  let c8_i32_1354_r1 : BitVec 32 := 8#32
  let v2112_r1 : BitVec 32 := Scalar.remsi v2111_r1 c8_i32_1354_r1
  let c1024_i32_1418_r1 : BitVec 32 := 1024#32
  let c512_i32_1419_r1 : BitVec 32 := 512#32
  ![v2112_r1.toNat, 1024, 512]
def k0_off19 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c1_i32_1352_r1 : BitVec 32 := 1#32
  let v2110_r1 : BitVec 32 := Scalar.subi arg35_r1 c1_i32_1352_r1
  let c8_i32_1353_r1 : BitVec 32 := 8#32
  let v2111_r1 : BitVec 32 := Scalar.addi v2110_r1 c8_i32_1353_r1
  let c8_i32_1354_r1 : BitVec 32 := 8#32
  let v2112_r1 : BitVec 32 := Scalar.remsi v2111_r1 c8_i32_1354_r1
  let c1024_i32_1422_r1 : BitVec 32 := 1024#32
  let c1024_i32_1423_r1 : BitVec 32 := 1024#32
  ![v2112_r1.toNat, 1024, 1024]
def k0_off20 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c1_i32_1352_r1 : BitVec 32 := 1#32
  let v2110_r1 : BitVec 32 := Scalar.subi arg35_r1 c1_i32_1352_r1
  let c8_i32_1353_r1 : BitVec 32 := 8#32
  let v2111_r1 : BitVec 32 := Scalar.addi v2110_r1 c8_i32_1353_r1
  let c8_i32_1354_r1 : BitVec 32 := 8#32
  let v2112_r1 : BitVec 32 := Scalar.remsi v2111_r1 c8_i32_1354_r1
  let c1024_i32_1426_r1 : BitVec 32 := 1024#32
  let c1536_i32_1427_r1 : BitVec 32 := 1536#32
  ![v2112_r1.toNat, 1024, 1536]
def k0_off21 (k0_t1 : Fin k0_t1_loop.trips) : Fin 4 → Nat :=
  let c0_i32_1193_r1 : BitVec 32 := 0#32
  let c0_i32_1095_r1 : BitVec 32 := 0#32
  let c1_i32_1097_r1 : BitVec 32 := 1#32
  let arg35_r1 : BitVec 32 := Scf.iv c0_i32_1095_r1 c1_i32_1097_r1 k0_t1
  let c0_i32_1194_r1 : BitVec 32 := 0#32
  let c0_i32_1195_r1 : BitVec 32 := 0#32
  ![0, arg35_r1.toNat, 0, 0]
def k0_off22 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c0_i32_1196_r1 : BitVec 32 := 0#32
  let c0_i32_1197_r1 : BitVec 32 := 0#32
  ![arg35_r1.toNat, 0, 0]
def k0_off23 (k0_t1 : Fin k0_t1_loop.trips) : Fin 4 → Nat :=
  let c1_i32_1198_r1 : BitVec 32 := 1#32
  let c0_i32_1095_r1 : BitVec 32 := 0#32
  let c1_i32_1097_r1 : BitVec 32 := 1#32
  let arg35_r1 : BitVec 32 := Scf.iv c0_i32_1095_r1 c1_i32_1097_r1 k0_t1
  let c0_i32_1199_r1 : BitVec 32 := 0#32
  let c0_i32_1200_r1 : BitVec 32 := 0#32
  ![1, arg35_r1.toNat, 0, 0]
def k0_off24 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c128_i32_1201_r1 : BitVec 32 := 128#32
  let c0_i32_1202_r1 : BitVec 32 := 0#32
  ![arg35_r1.toNat, 128, 0]
def k0_off25 (k0_t1 : Fin k0_t1_loop.trips) : Fin 1 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  ![v1748_r1.toNat]
def k0_off26 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let c0_i32_1203_r1 : BitVec 32 := 0#32
  let c0_i32_1204_r1 : BitVec 32 := 0#32
  ![v1748_r1.toNat, 0, 0]
def k0_off27 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c0_i32_1205_r1 : BitVec 32 := 0#32
  let c0_i32_1206_r1 : BitVec 32 := 0#32
  ![arg35_r1.toNat, 0, 0]
def k0_off28 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let v1766_r1 : Index := Scalar.indexCast arg35_r1
  let c0_1207_r1 : Index := 0#32
  let c0_1208_r1 : Index := 0#32
  ![v1766_r1.toNat, 0, 0]
def k0_off29 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1769_r1 : Index := Scalar.indexCast v1748_r1
  let c0_1209_r1 : Index := 0#32
  let c0_1210_r1 : Index := 0#32
  ![v1769_r1.toNat, 0, 0]
def k0_off30 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1774_r1 : Index := Scalar.indexCast v1748_r1
  let c0_1211_r1 : Index := 0#32
  let c256_1212_r1 : Index := 256#32
  ![v1774_r1.toNat, 0, 256]
def k0_off31 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1779_r1 : Index := Scalar.indexCast v1748_r1
  let c0_1213_r1 : Index := 0#32
  let c512_1214_r1 : Index := 512#32
  ![v1779_r1.toNat, 0, 512]
def k0_off32 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1784_r1 : Index := Scalar.indexCast v1748_r1
  let c0_1215_r1 : Index := 0#32
  let c768_1216_r1 : Index := 768#32
  ![v1784_r1.toNat, 0, 768]
def k0_off33 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1789_r1 : Index := Scalar.indexCast v1748_r1
  let c0_1217_r1 : Index := 0#32
  let c1024_1218_r1 : Index := 1024#32
  ![v1789_r1.toNat, 0, 1024]
def k0_off34 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1794_r1 : Index := Scalar.indexCast v1748_r1
  let c0_1219_r1 : Index := 0#32
  let c1280_1220_r1 : Index := 1280#32
  ![v1794_r1.toNat, 0, 1280]
def k0_off35 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1799_r1 : Index := Scalar.indexCast v1748_r1
  let c0_1221_r1 : Index := 0#32
  let c1536_1222_r1 : Index := 1536#32
  ![v1799_r1.toNat, 0, 1536]
def k0_off36 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1804_r1 : Index := Scalar.indexCast v1748_r1
  let c0_1223_r1 : Index := 0#32
  let c1792_1224_r1 : Index := 1792#32
  ![v1804_r1.toNat, 0, 1792]
def k0_off37 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let v1809_r1 : Index := Scalar.indexCast arg35_r1
  let c0_1225_r1 : Index := 0#32
  let c256_1226_r1 : Index := 256#32
  ![v1809_r1.toNat, 0, 256]
def k0_off38 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1812_r1 : Index := Scalar.indexCast v1748_r1
  let c256_1227_r1 : Index := 256#32
  let c0_1228_r1 : Index := 0#32
  ![v1812_r1.toNat, 256, 0]
def k0_off39 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1817_r1 : Index := Scalar.indexCast v1748_r1
  let c256_1229_r1 : Index := 256#32
  let c256_1230_r1 : Index := 256#32
  ![v1817_r1.toNat, 256, 256]
def k0_off40 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1822_r1 : Index := Scalar.indexCast v1748_r1
  let c256_1231_r1 : Index := 256#32
  let c512_1232_r1 : Index := 512#32
  ![v1822_r1.toNat, 256, 512]
def k0_off41 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1827_r1 : Index := Scalar.indexCast v1748_r1
  let c256_1233_r1 : Index := 256#32
  let c768_1234_r1 : Index := 768#32
  ![v1827_r1.toNat, 256, 768]
def k0_off42 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1832_r1 : Index := Scalar.indexCast v1748_r1
  let c256_1235_r1 : Index := 256#32
  let c1024_1236_r1 : Index := 1024#32
  ![v1832_r1.toNat, 256, 1024]
def k0_off43 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1837_r1 : Index := Scalar.indexCast v1748_r1
  let c256_1237_r1 : Index := 256#32
  let c1280_1238_r1 : Index := 1280#32
  ![v1837_r1.toNat, 256, 1280]
def k0_off44 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1842_r1 : Index := Scalar.indexCast v1748_r1
  let c256_1239_r1 : Index := 256#32
  let c1536_1240_r1 : Index := 1536#32
  ![v1842_r1.toNat, 256, 1536]
def k0_off45 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1847_r1 : Index := Scalar.indexCast v1748_r1
  let c256_1241_r1 : Index := 256#32
  let c1792_1242_r1 : Index := 1792#32
  ![v1847_r1.toNat, 256, 1792]
def k0_off46 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let v1852_r1 : Index := Scalar.indexCast arg35_r1
  let c0_1243_r1 : Index := 0#32
  let c512_1244_r1 : Index := 512#32
  ![v1852_r1.toNat, 0, 512]
def k0_off47 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1855_r1 : Index := Scalar.indexCast v1748_r1
  let c512_1245_r1 : Index := 512#32
  let c0_1246_r1 : Index := 0#32
  ![v1855_r1.toNat, 512, 0]
def k0_off48 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1860_r1 : Index := Scalar.indexCast v1748_r1
  let c512_1247_r1 : Index := 512#32
  let c256_1248_r1 : Index := 256#32
  ![v1860_r1.toNat, 512, 256]
def k0_off49 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1865_r1 : Index := Scalar.indexCast v1748_r1
  let c512_1249_r1 : Index := 512#32
  let c512_1250_r1 : Index := 512#32
  ![v1865_r1.toNat, 512, 512]
def k0_off50 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1870_r1 : Index := Scalar.indexCast v1748_r1
  let c512_1251_r1 : Index := 512#32
  let c768_1252_r1 : Index := 768#32
  ![v1870_r1.toNat, 512, 768]
def k0_off51 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1875_r1 : Index := Scalar.indexCast v1748_r1
  let c512_1253_r1 : Index := 512#32
  let c1024_1254_r1 : Index := 1024#32
  ![v1875_r1.toNat, 512, 1024]
def k0_off52 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1880_r1 : Index := Scalar.indexCast v1748_r1
  let c512_1255_r1 : Index := 512#32
  let c1280_1256_r1 : Index := 1280#32
  ![v1880_r1.toNat, 512, 1280]
def k0_off53 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1885_r1 : Index := Scalar.indexCast v1748_r1
  let c512_1257_r1 : Index := 512#32
  let c1536_1258_r1 : Index := 1536#32
  ![v1885_r1.toNat, 512, 1536]
def k0_off54 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1890_r1 : Index := Scalar.indexCast v1748_r1
  let c512_1259_r1 : Index := 512#32
  let c1792_1260_r1 : Index := 1792#32
  ![v1890_r1.toNat, 512, 1792]
def k0_off55 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let v1895_r1 : Index := Scalar.indexCast arg35_r1
  let c0_1261_r1 : Index := 0#32
  let c768_1262_r1 : Index := 768#32
  ![v1895_r1.toNat, 0, 768]
def k0_off56 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1898_r1 : Index := Scalar.indexCast v1748_r1
  let c768_1263_r1 : Index := 768#32
  let c0_1264_r1 : Index := 0#32
  ![v1898_r1.toNat, 768, 0]
def k0_off57 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1903_r1 : Index := Scalar.indexCast v1748_r1
  let c768_1265_r1 : Index := 768#32
  let c256_1266_r1 : Index := 256#32
  ![v1903_r1.toNat, 768, 256]
def k0_off58 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1908_r1 : Index := Scalar.indexCast v1748_r1
  let c768_1267_r1 : Index := 768#32
  let c512_1268_r1 : Index := 512#32
  ![v1908_r1.toNat, 768, 512]
def k0_off59 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1913_r1 : Index := Scalar.indexCast v1748_r1
  let c768_1269_r1 : Index := 768#32
  let c768_1270_r1 : Index := 768#32
  ![v1913_r1.toNat, 768, 768]
def k0_off60 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1918_r1 : Index := Scalar.indexCast v1748_r1
  let c768_1271_r1 : Index := 768#32
  let c1024_1272_r1 : Index := 1024#32
  ![v1918_r1.toNat, 768, 1024]
def k0_off61 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1923_r1 : Index := Scalar.indexCast v1748_r1
  let c768_1273_r1 : Index := 768#32
  let c1280_1274_r1 : Index := 1280#32
  ![v1923_r1.toNat, 768, 1280]
def k0_off62 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1928_r1 : Index := Scalar.indexCast v1748_r1
  let c768_1275_r1 : Index := 768#32
  let c1536_1276_r1 : Index := 1536#32
  ![v1928_r1.toNat, 768, 1536]
def k0_off63 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1933_r1 : Index := Scalar.indexCast v1748_r1
  let c768_1277_r1 : Index := 768#32
  let c1792_1278_r1 : Index := 1792#32
  ![v1933_r1.toNat, 768, 1792]
def k0_off64 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let v1938_r1 : Index := Scalar.indexCast arg35_r1
  let c0_1279_r1 : Index := 0#32
  let c1024_1280_r1 : Index := 1024#32
  ![v1938_r1.toNat, 0, 1024]
def k0_off65 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1941_r1 : Index := Scalar.indexCast v1748_r1
  let c1024_1281_r1 : Index := 1024#32
  let c0_1282_r1 : Index := 0#32
  ![v1941_r1.toNat, 1024, 0]
def k0_off66 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1946_r1 : Index := Scalar.indexCast v1748_r1
  let c1024_1283_r1 : Index := 1024#32
  let c256_1284_r1 : Index := 256#32
  ![v1946_r1.toNat, 1024, 256]
def k0_off67 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1951_r1 : Index := Scalar.indexCast v1748_r1
  let c1024_1285_r1 : Index := 1024#32
  let c512_1286_r1 : Index := 512#32
  ![v1951_r1.toNat, 1024, 512]
def k0_off68 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1956_r1 : Index := Scalar.indexCast v1748_r1
  let c1024_1287_r1 : Index := 1024#32
  let c768_1288_r1 : Index := 768#32
  ![v1956_r1.toNat, 1024, 768]
def k0_off69 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1961_r1 : Index := Scalar.indexCast v1748_r1
  let c1024_1289_r1 : Index := 1024#32
  let c1024_1290_r1 : Index := 1024#32
  ![v1961_r1.toNat, 1024, 1024]
def k0_off70 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1966_r1 : Index := Scalar.indexCast v1748_r1
  let c1024_1291_r1 : Index := 1024#32
  let c1280_1292_r1 : Index := 1280#32
  ![v1966_r1.toNat, 1024, 1280]
def k0_off71 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1971_r1 : Index := Scalar.indexCast v1748_r1
  let c1024_1293_r1 : Index := 1024#32
  let c1536_1294_r1 : Index := 1536#32
  ![v1971_r1.toNat, 1024, 1536]
def k0_off72 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1976_r1 : Index := Scalar.indexCast v1748_r1
  let c1024_1295_r1 : Index := 1024#32
  let c1792_1296_r1 : Index := 1792#32
  ![v1976_r1.toNat, 1024, 1792]
def k0_off73 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let v1981_r1 : Index := Scalar.indexCast arg35_r1
  let c0_1297_r1 : Index := 0#32
  let c1280_1298_r1 : Index := 1280#32
  ![v1981_r1.toNat, 0, 1280]
def k0_off74 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1984_r1 : Index := Scalar.indexCast v1748_r1
  let c1280_1299_r1 : Index := 1280#32
  let c0_1300_r1 : Index := 0#32
  ![v1984_r1.toNat, 1280, 0]
def k0_off75 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1989_r1 : Index := Scalar.indexCast v1748_r1
  let c1280_1301_r1 : Index := 1280#32
  let c256_1302_r1 : Index := 256#32
  ![v1989_r1.toNat, 1280, 256]
def k0_off76 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1994_r1 : Index := Scalar.indexCast v1748_r1
  let c1280_1303_r1 : Index := 1280#32
  let c512_1304_r1 : Index := 512#32
  ![v1994_r1.toNat, 1280, 512]
def k0_off77 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v1999_r1 : Index := Scalar.indexCast v1748_r1
  let c1280_1305_r1 : Index := 1280#32
  let c768_1306_r1 : Index := 768#32
  ![v1999_r1.toNat, 1280, 768]
def k0_off78 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v2004_r1 : Index := Scalar.indexCast v1748_r1
  let c1280_1307_r1 : Index := 1280#32
  let c1024_1308_r1 : Index := 1024#32
  ![v2004_r1.toNat, 1280, 1024]
def k0_off79 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v2009_r1 : Index := Scalar.indexCast v1748_r1
  let c1280_1309_r1 : Index := 1280#32
  let c1280_1310_r1 : Index := 1280#32
  ![v2009_r1.toNat, 1280, 1280]
def k0_off80 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v2014_r1 : Index := Scalar.indexCast v1748_r1
  let c1280_1311_r1 : Index := 1280#32
  let c1536_1312_r1 : Index := 1536#32
  ![v2014_r1.toNat, 1280, 1536]
def k0_off81 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v2019_r1 : Index := Scalar.indexCast v1748_r1
  let c1280_1313_r1 : Index := 1280#32
  let c1792_1314_r1 : Index := 1792#32
  ![v2019_r1.toNat, 1280, 1792]
def k0_off82 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let v2024_r1 : Index := Scalar.indexCast arg35_r1
  let c0_1315_r1 : Index := 0#32
  let c1536_1316_r1 : Index := 1536#32
  ![v2024_r1.toNat, 0, 1536]
def k0_off83 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v2027_r1 : Index := Scalar.indexCast v1748_r1
  let c1536_1317_r1 : Index := 1536#32
  let c0_1318_r1 : Index := 0#32
  ![v2027_r1.toNat, 1536, 0]
def k0_off84 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v2032_r1 : Index := Scalar.indexCast v1748_r1
  let c1536_1319_r1 : Index := 1536#32
  let c256_1320_r1 : Index := 256#32
  ![v2032_r1.toNat, 1536, 256]
def k0_off85 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v2037_r1 : Index := Scalar.indexCast v1748_r1
  let c1536_1321_r1 : Index := 1536#32
  let c512_1322_r1 : Index := 512#32
  ![v2037_r1.toNat, 1536, 512]
def k0_off86 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v2042_r1 : Index := Scalar.indexCast v1748_r1
  let c1536_1323_r1 : Index := 1536#32
  let c768_1324_r1 : Index := 768#32
  ![v2042_r1.toNat, 1536, 768]
def k0_off87 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v2047_r1 : Index := Scalar.indexCast v1748_r1
  let c1536_1325_r1 : Index := 1536#32
  let c1024_1326_r1 : Index := 1024#32
  ![v2047_r1.toNat, 1536, 1024]
def k0_off88 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v2052_r1 : Index := Scalar.indexCast v1748_r1
  let c1536_1327_r1 : Index := 1536#32
  let c1280_1328_r1 : Index := 1280#32
  ![v2052_r1.toNat, 1536, 1280]
def k0_off89 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v2057_r1 : Index := Scalar.indexCast v1748_r1
  let c1536_1329_r1 : Index := 1536#32
  let c1536_1330_r1 : Index := 1536#32
  ![v2057_r1.toNat, 1536, 1536]
def k0_off90 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v2062_r1 : Index := Scalar.indexCast v1748_r1
  let c1536_1331_r1 : Index := 1536#32
  let c1792_1332_r1 : Index := 1792#32
  ![v2062_r1.toNat, 1536, 1792]
def k0_off91 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let v2067_r1 : Index := Scalar.indexCast arg35_r1
  let c0_1333_r1 : Index := 0#32
  let c1792_1334_r1 : Index := 1792#32
  ![v2067_r1.toNat, 0, 1792]
def k0_off92 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v2070_r1 : Index := Scalar.indexCast v1748_r1
  let c1792_1335_r1 : Index := 1792#32
  let c0_1336_r1 : Index := 0#32
  ![v2070_r1.toNat, 1792, 0]
def k0_off93 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v2075_r1 : Index := Scalar.indexCast v1748_r1
  let c1792_1337_r1 : Index := 1792#32
  let c256_1338_r1 : Index := 256#32
  ![v2075_r1.toNat, 1792, 256]
def k0_off94 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v2080_r1 : Index := Scalar.indexCast v1748_r1
  let c1792_1339_r1 : Index := 1792#32
  let c512_1340_r1 : Index := 512#32
  ![v2080_r1.toNat, 1792, 512]
def k0_off95 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v2085_r1 : Index := Scalar.indexCast v1748_r1
  let c1792_1341_r1 : Index := 1792#32
  let c768_1342_r1 : Index := 768#32
  ![v2085_r1.toNat, 1792, 768]
def k0_off96 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v2090_r1 : Index := Scalar.indexCast v1748_r1
  let c1792_1343_r1 : Index := 1792#32
  let c1024_1344_r1 : Index := 1024#32
  ![v2090_r1.toNat, 1792, 1024]
def k0_off97 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v2095_r1 : Index := Scalar.indexCast v1748_r1
  let c1792_1345_r1 : Index := 1792#32
  let c1280_1346_r1 : Index := 1280#32
  ![v2095_r1.toNat, 1792, 1280]
def k0_off98 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v2100_r1 : Index := Scalar.indexCast v1748_r1
  let c1792_1347_r1 : Index := 1792#32
  let c1536_1348_r1 : Index := 1536#32
  ![v2100_r1.toNat, 1792, 1536]
def k0_off99 (k0_t1 : Fin k0_t1_loop.trips) : Fin 3 → Nat :=
  let c0_i32_1095_r1 : BitVec 32 := 0#32
  let c1_i32_1097_r1 : BitVec 32 := 1#32
  let arg35_r1 : BitVec 32 := Scf.iv c0_i32_1095_r1 c1_i32_1097_r1 k0_t1
  let c8_i32_1190_r1 : BitVec 32 := 8#32
  let v1748_r1 : BitVec 32 := Scalar.remsi arg35_r1 c8_i32_1190_r1
  let v2105_r1 : Index := Scalar.indexCast v1748_r1
  let c1792_1349_r1 : Index := 1792#32
  let c1792_1350_r1 : Index := 1792#32
  ![v2105_r1.toNat, 1792, 1792]
@[reducible] def k0_t2_loop : Scf.Loop 32 :=
  let c0_i32_1168_r1 : BitVec 32 := 0#32
  let c5_i32_1169_r1 : BitVec 32 := 5#32
  let v1716_r1 : BitVec 32 := Scalar.addi c0_i32_1168_r1 c5_i32_1169_r1
  let c1_i32_1170_r1 : BitVec 32 := 1#32
  ⟨c0_i32_1168_r1, v1716_r1, c1_i32_1170_r1⟩
def k0_cond4 (k0_t2 : Fin k0_t2_loop.trips) : BitVec 1 :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c1_i32_1192_r1 : BitVec 32 := 1#32
  let v1750_r1 : BitVec 32 := Scalar.subi v1748_r1 c1_i32_1192_r1
  let c8_i32_1193_r1 : BitVec 32 := 8#32
  let v1751_r1 : BitVec 32 := Scalar.addi v1750_r1 c8_i32_1193_r1
  let c15_i32_1195_r1 : BitVec 32 := 15#32
  let v1753_r1 : BitVec 1 := Scalar.cmpi .slt v1751_r1 c15_i32_1195_r1
  let v1754_r1 : BitVec 32 := Scalar.extui v1753_r1
  let c0_i32_1196_r1 : BitVec 32 := 0#32
  let v1755_r1 : BitVec 1 := Scalar.cmpi .ne v1754_r1 c0_i32_1196_r1
  v1755_r1

def k0_off100 (k0_t2 : Fin k0_t2_loop.trips) : Fin 1 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c1_i32_1192_r1 : BitVec 32 := 1#32
  let v1750_r1 : BitVec 32 := Scalar.subi v1748_r1 c1_i32_1192_r1
  let c8_i32_1193_r1 : BitVec 32 := 8#32
  let v1751_r1 : BitVec 32 := Scalar.addi v1750_r1 c8_i32_1193_r1
  let c8_i32_1194_r1 : BitVec 32 := 8#32
  let v1752_r1 : BitVec 32 := Scalar.remsi v1751_r1 c8_i32_1194_r1
  ![v1752_r1.toNat]
def k0_off101 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c1_i32_1192_r1 : BitVec 32 := 1#32
  let v1750_r1 : BitVec 32 := Scalar.subi v1748_r1 c1_i32_1192_r1
  let c8_i32_1193_r1 : BitVec 32 := 8#32
  let v1751_r1 : BitVec 32 := Scalar.addi v1750_r1 c8_i32_1193_r1
  let c8_i32_1194_r1 : BitVec 32 := 8#32
  let v1752_r1 : BitVec 32 := Scalar.remsi v1751_r1 c8_i32_1194_r1
  let c0_i32_1462_r1 : BitVec 32 := 0#32
  let c0_i32_1463_r1 : BitVec 32 := 0#32
  ![v1752_r1.toNat, 0, 0]
def k0_off102 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c1_i32_1192_r1 : BitVec 32 := 1#32
  let v1750_r1 : BitVec 32 := Scalar.subi v1748_r1 c1_i32_1192_r1
  let c8_i32_1193_r1 : BitVec 32 := 8#32
  let v1751_r1 : BitVec 32 := Scalar.addi v1750_r1 c8_i32_1193_r1
  let c0_i32_1464_r1 : BitVec 32 := 0#32
  let c0_i32_1465_r1 : BitVec 32 := 0#32
  ![v1751_r1.toNat, 0, 0]
def k0_cond5 (k0_t2 : Fin k0_t2_loop.trips) : BitVec 1 :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c1_i32_1192_r1 : BitVec 32 := 1#32
  let v1750_r1 : BitVec 32 := Scalar.subi v1748_r1 c1_i32_1192_r1
  let c8_i32_1193_r1 : BitVec 32 := 8#32
  let v1751_r1 : BitVec 32 := Scalar.addi v1750_r1 c8_i32_1193_r1
  let c15_i32_1197_r1 : BitVec 32 := 15#32
  let v1756_r1 : BitVec 1 := Scalar.cmpi .sge v1751_r1 c15_i32_1197_r1
  let c20_i32_1198_r1 : BitVec 32 := 20#32
  let v1757_r1 : BitVec 1 := Scalar.cmpi .slt v1751_r1 c20_i32_1198_r1
  let v1758_r1 : BitVec 1 := Scalar.andi v1756_r1 v1757_r1
  let v1759_r1 : BitVec 32 := Scalar.extui v1758_r1
  let c0_i32_1199_r1 : BitVec 32 := 0#32
  let v1760_r1 : BitVec 1 := Scalar.cmpi .ne v1759_r1 c0_i32_1199_r1
  v1760_r1

def k0_off103 (k0_t2 : Fin k0_t2_loop.trips) : Fin 1 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c1_i32_1192_r1 : BitVec 32 := 1#32
  let v1750_r1 : BitVec 32 := Scalar.subi v1748_r1 c1_i32_1192_r1
  let c8_i32_1193_r1 : BitVec 32 := 8#32
  let v1751_r1 : BitVec 32 := Scalar.addi v1750_r1 c8_i32_1193_r1
  let c8_i32_1194_r1 : BitVec 32 := 8#32
  let v1752_r1 : BitVec 32 := Scalar.remsi v1751_r1 c8_i32_1194_r1
  ![v1752_r1.toNat]
def k0_off104 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c1_i32_1192_r1 : BitVec 32 := 1#32
  let v1750_r1 : BitVec 32 := Scalar.subi v1748_r1 c1_i32_1192_r1
  let c8_i32_1193_r1 : BitVec 32 := 8#32
  let v1751_r1 : BitVec 32 := Scalar.addi v1750_r1 c8_i32_1193_r1
  let c8_i32_1194_r1 : BitVec 32 := 8#32
  let v1752_r1 : BitVec 32 := Scalar.remsi v1751_r1 c8_i32_1194_r1
  let c0_i32_1487_r1 : BitVec 32 := 0#32
  let c0_i32_1488_r1 : BitVec 32 := 0#32
  ![v1752_r1.toNat, 0, 0]
def k0_off105 (k0_t2 : Fin k0_t2_loop.trips) (c0_i32_1464_r1 : BitVec 32) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c1_i32_1192_r1 : BitVec 32 := 1#32
  let v1750_r1 : BitVec 32 := Scalar.subi v1748_r1 c1_i32_1192_r1
  let c8_i32_1193_r1 : BitVec 32 := 8#32
  let v1751_r1 : BitVec 32 := Scalar.addi v1750_r1 c8_i32_1193_r1
  let c15_i32_1462_r1 : BitVec 32 := 15#32
  let v2217_r1 : BitVec 32 := Scalar.subi v1751_r1 c15_i32_1462_r1
  let c3_i32_1463_r1 : BitVec 32 := 3#32
  let v2218_r1 : BitVec 32 := Scalar.muli v2217_r1 c3_i32_1463_r1
  let v2219_r1 : BitVec 32 := Scalar.addi v2218_r1 c0_i32_1464_r1
  let c0_i32_1489_r1 : BitVec 32 := 0#32
  let c2048_i32_1490_r1 : BitVec 32 := 2048#32
  ![v2219_r1.toNat, 0, 2048]
def k0_off106 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c1_i32_1192_r1 : BitVec 32 := 1#32
  let v1750_r1 : BitVec 32 := Scalar.subi v1748_r1 c1_i32_1192_r1
  let c8_i32_1193_r1 : BitVec 32 := 8#32
  let v1751_r1 : BitVec 32 := Scalar.addi v1750_r1 c8_i32_1193_r1
  let c8_i32_1194_r1 : BitVec 32 := 8#32
  let v1752_r1 : BitVec 32 := Scalar.remsi v1751_r1 c8_i32_1194_r1
  let c0_i32_1491_r1 : BitVec 32 := 0#32
  let c512_i32_1492_r1 : BitVec 32 := 512#32
  ![v1752_r1.toNat, 0, 512]
def k0_off107 (k0_t2 : Fin k0_t2_loop.trips) (c0_i32_1466_r1 : BitVec 32) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c1_i32_1192_r1 : BitVec 32 := 1#32
  let v1750_r1 : BitVec 32 := Scalar.subi v1748_r1 c1_i32_1192_r1
  let c8_i32_1193_r1 : BitVec 32 := 8#32
  let v1751_r1 : BitVec 32 := Scalar.addi v1750_r1 c8_i32_1193_r1
  let c15_i32_1462_r1 : BitVec 32 := 15#32
  let v2217_r1 : BitVec 32 := Scalar.subi v1751_r1 c15_i32_1462_r1
  let c3_i32_1465_r1 : BitVec 32 := 3#32
  let v2220_r1 : BitVec 32 := Scalar.muli v2217_r1 c3_i32_1465_r1
  let v2221_r1 : BitVec 32 := Scalar.addi v2220_r1 c0_i32_1466_r1
  let c512_i32_1493_r1 : BitVec 32 := 512#32
  let c2048_i32_1494_r1 : BitVec 32 := 2048#32
  ![v2221_r1.toNat, 512, 2048]
def k0_off108 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c1_i32_1192_r1 : BitVec 32 := 1#32
  let v1750_r1 : BitVec 32 := Scalar.subi v1748_r1 c1_i32_1192_r1
  let c8_i32_1193_r1 : BitVec 32 := 8#32
  let v1751_r1 : BitVec 32 := Scalar.addi v1750_r1 c8_i32_1193_r1
  let c8_i32_1194_r1 : BitVec 32 := 8#32
  let v1752_r1 : BitVec 32 := Scalar.remsi v1751_r1 c8_i32_1194_r1
  let c0_i32_1495_r1 : BitVec 32 := 0#32
  let c1024_i32_1496_r1 : BitVec 32 := 1024#32
  ![v1752_r1.toNat, 0, 1024]
def k0_off109 (k0_t2 : Fin k0_t2_loop.trips) (c0_i32_1468_r1 : BitVec 32) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c1_i32_1192_r1 : BitVec 32 := 1#32
  let v1750_r1 : BitVec 32 := Scalar.subi v1748_r1 c1_i32_1192_r1
  let c8_i32_1193_r1 : BitVec 32 := 8#32
  let v1751_r1 : BitVec 32 := Scalar.addi v1750_r1 c8_i32_1193_r1
  let c15_i32_1462_r1 : BitVec 32 := 15#32
  let v2217_r1 : BitVec 32 := Scalar.subi v1751_r1 c15_i32_1462_r1
  let c3_i32_1467_r1 : BitVec 32 := 3#32
  let v2222_r1 : BitVec 32 := Scalar.muli v2217_r1 c3_i32_1467_r1
  let v2223_r1 : BitVec 32 := Scalar.addi v2222_r1 c0_i32_1468_r1
  let c1024_i32_1497_r1 : BitVec 32 := 1024#32
  let c2048_i32_1498_r1 : BitVec 32 := 2048#32
  ![v2223_r1.toNat, 1024, 2048]
def k0_off110 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c1_i32_1192_r1 : BitVec 32 := 1#32
  let v1750_r1 : BitVec 32 := Scalar.subi v1748_r1 c1_i32_1192_r1
  let c8_i32_1193_r1 : BitVec 32 := 8#32
  let v1751_r1 : BitVec 32 := Scalar.addi v1750_r1 c8_i32_1193_r1
  let c8_i32_1194_r1 : BitVec 32 := 8#32
  let v1752_r1 : BitVec 32 := Scalar.remsi v1751_r1 c8_i32_1194_r1
  let c0_i32_1499_r1 : BitVec 32 := 0#32
  let c1536_i32_1500_r1 : BitVec 32 := 1536#32
  ![v1752_r1.toNat, 0, 1536]
def k0_off111 (k0_t2 : Fin k0_t2_loop.trips) (c0_i32_1470_r1 : BitVec 32) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c1_i32_1192_r1 : BitVec 32 := 1#32
  let v1750_r1 : BitVec 32 := Scalar.subi v1748_r1 c1_i32_1192_r1
  let c8_i32_1193_r1 : BitVec 32 := 8#32
  let v1751_r1 : BitVec 32 := Scalar.addi v1750_r1 c8_i32_1193_r1
  let c15_i32_1462_r1 : BitVec 32 := 15#32
  let v2217_r1 : BitVec 32 := Scalar.subi v1751_r1 c15_i32_1462_r1
  let c3_i32_1469_r1 : BitVec 32 := 3#32
  let v2224_r1 : BitVec 32 := Scalar.muli v2217_r1 c3_i32_1469_r1
  let v2225_r1 : BitVec 32 := Scalar.addi v2224_r1 c0_i32_1470_r1
  let c1536_i32_1501_r1 : BitVec 32 := 1536#32
  let c2048_i32_1502_r1 : BitVec 32 := 2048#32
  ![v2225_r1.toNat, 1536, 2048]
def k0_off112 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c1_i32_1192_r1 : BitVec 32 := 1#32
  let v1750_r1 : BitVec 32 := Scalar.subi v1748_r1 c1_i32_1192_r1
  let c8_i32_1193_r1 : BitVec 32 := 8#32
  let v1751_r1 : BitVec 32 := Scalar.addi v1750_r1 c8_i32_1193_r1
  let c8_i32_1194_r1 : BitVec 32 := 8#32
  let v1752_r1 : BitVec 32 := Scalar.remsi v1751_r1 c8_i32_1194_r1
  let c512_i32_1503_r1 : BitVec 32 := 512#32
  let c0_i32_1504_r1 : BitVec 32 := 0#32
  ![v1752_r1.toNat, 512, 0]
def k0_off113 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c1_i32_1192_r1 : BitVec 32 := 1#32
  let v1750_r1 : BitVec 32 := Scalar.subi v1748_r1 c1_i32_1192_r1
  let c8_i32_1193_r1 : BitVec 32 := 8#32
  let v1751_r1 : BitVec 32 := Scalar.addi v1750_r1 c8_i32_1193_r1
  let c8_i32_1194_r1 : BitVec 32 := 8#32
  let v1752_r1 : BitVec 32 := Scalar.remsi v1751_r1 c8_i32_1194_r1
  let c512_i32_1507_r1 : BitVec 32 := 512#32
  let c512_i32_1508_r1 : BitVec 32 := 512#32
  ![v1752_r1.toNat, 512, 512]
def k0_off114 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c1_i32_1192_r1 : BitVec 32 := 1#32
  let v1750_r1 : BitVec 32 := Scalar.subi v1748_r1 c1_i32_1192_r1
  let c8_i32_1193_r1 : BitVec 32 := 8#32
  let v1751_r1 : BitVec 32 := Scalar.addi v1750_r1 c8_i32_1193_r1
  let c8_i32_1194_r1 : BitVec 32 := 8#32
  let v1752_r1 : BitVec 32 := Scalar.remsi v1751_r1 c8_i32_1194_r1
  let c512_i32_1511_r1 : BitVec 32 := 512#32
  let c1024_i32_1512_r1 : BitVec 32 := 1024#32
  ![v1752_r1.toNat, 512, 1024]
def k0_off115 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c1_i32_1192_r1 : BitVec 32 := 1#32
  let v1750_r1 : BitVec 32 := Scalar.subi v1748_r1 c1_i32_1192_r1
  let c8_i32_1193_r1 : BitVec 32 := 8#32
  let v1751_r1 : BitVec 32 := Scalar.addi v1750_r1 c8_i32_1193_r1
  let c8_i32_1194_r1 : BitVec 32 := 8#32
  let v1752_r1 : BitVec 32 := Scalar.remsi v1751_r1 c8_i32_1194_r1
  let c512_i32_1515_r1 : BitVec 32 := 512#32
  let c1536_i32_1516_r1 : BitVec 32 := 1536#32
  ![v1752_r1.toNat, 512, 1536]
def k0_off116 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c1_i32_1192_r1 : BitVec 32 := 1#32
  let v1750_r1 : BitVec 32 := Scalar.subi v1748_r1 c1_i32_1192_r1
  let c8_i32_1193_r1 : BitVec 32 := 8#32
  let v1751_r1 : BitVec 32 := Scalar.addi v1750_r1 c8_i32_1193_r1
  let c8_i32_1194_r1 : BitVec 32 := 8#32
  let v1752_r1 : BitVec 32 := Scalar.remsi v1751_r1 c8_i32_1194_r1
  let c1024_i32_1519_r1 : BitVec 32 := 1024#32
  let c0_i32_1520_r1 : BitVec 32 := 0#32
  ![v1752_r1.toNat, 1024, 0]
def k0_off117 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c1_i32_1192_r1 : BitVec 32 := 1#32
  let v1750_r1 : BitVec 32 := Scalar.subi v1748_r1 c1_i32_1192_r1
  let c8_i32_1193_r1 : BitVec 32 := 8#32
  let v1751_r1 : BitVec 32 := Scalar.addi v1750_r1 c8_i32_1193_r1
  let c8_i32_1194_r1 : BitVec 32 := 8#32
  let v1752_r1 : BitVec 32 := Scalar.remsi v1751_r1 c8_i32_1194_r1
  let c1024_i32_1523_r1 : BitVec 32 := 1024#32
  let c512_i32_1524_r1 : BitVec 32 := 512#32
  ![v1752_r1.toNat, 1024, 512]
def k0_off118 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c1_i32_1192_r1 : BitVec 32 := 1#32
  let v1750_r1 : BitVec 32 := Scalar.subi v1748_r1 c1_i32_1192_r1
  let c8_i32_1193_r1 : BitVec 32 := 8#32
  let v1751_r1 : BitVec 32 := Scalar.addi v1750_r1 c8_i32_1193_r1
  let c8_i32_1194_r1 : BitVec 32 := 8#32
  let v1752_r1 : BitVec 32 := Scalar.remsi v1751_r1 c8_i32_1194_r1
  let c1024_i32_1527_r1 : BitVec 32 := 1024#32
  let c1024_i32_1528_r1 : BitVec 32 := 1024#32
  ![v1752_r1.toNat, 1024, 1024]
def k0_off119 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c1_i32_1192_r1 : BitVec 32 := 1#32
  let v1750_r1 : BitVec 32 := Scalar.subi v1748_r1 c1_i32_1192_r1
  let c8_i32_1193_r1 : BitVec 32 := 8#32
  let v1751_r1 : BitVec 32 := Scalar.addi v1750_r1 c8_i32_1193_r1
  let c8_i32_1194_r1 : BitVec 32 := 8#32
  let v1752_r1 : BitVec 32 := Scalar.remsi v1751_r1 c8_i32_1194_r1
  let c1024_i32_1531_r1 : BitVec 32 := 1024#32
  let c1536_i32_1532_r1 : BitVec 32 := 1536#32
  ![v1752_r1.toNat, 1024, 1536]
def k0_off120 (k0_t2 : Fin k0_t2_loop.trips) : Fin 1 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  ![v1749_r1.toNat]
def k0_off121 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let c0_i32_1224_r1 : BitVec 32 := 0#32
  let c0_i32_1225_r1 : BitVec 32 := 0#32
  ![v1749_r1.toNat, 0, 0]
def k0_off122 (k0_t2 : Fin k0_t2_loop.trips) (c0_i32_1201_r1 : BitVec 32) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c3_i32_1200_r1 : BitVec 32 := 3#32
  let v1761_r1 : BitVec 32 := Scalar.muli arg35_r1 c3_i32_1200_r1
  let v1762_r1 : BitVec 32 := Scalar.addi v1761_r1 c0_i32_1201_r1
  let c0_i32_1226_r1 : BitVec 32 := 0#32
  let c2048_i32_1227_r1 : BitVec 32 := 2048#32
  ![v1762_r1.toNat, 0, 2048]
def k0_off123 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let c0_i32_1228_r1 : BitVec 32 := 0#32
  let c512_i32_r1 : BitVec 32 := 512#32
  ![v1749_r1.toNat, 0, 512]
def k0_off124 (k0_t2 : Fin k0_t2_loop.trips) (c0_i32_1203_r1 : BitVec 32) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c3_i32_1202_r1 : BitVec 32 := 3#32
  let v1763_r1 : BitVec 32 := Scalar.muli arg35_r1 c3_i32_1202_r1
  let v1764_r1 : BitVec 32 := Scalar.addi v1763_r1 c0_i32_1203_r1
  let c512_i32_1229_r1 : BitVec 32 := 512#32
  let c2048_i32_1230_r1 : BitVec 32 := 2048#32
  ![v1764_r1.toNat, 512, 2048]
def k0_off125 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let c0_i32_1231_r1 : BitVec 32 := 0#32
  let c1024_i32_r1 : BitVec 32 := 1024#32
  ![v1749_r1.toNat, 0, 1024]
def k0_off126 (k0_t2 : Fin k0_t2_loop.trips) (c0_i32_1205_r1 : BitVec 32) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c3_i32_1204_r1 : BitVec 32 := 3#32
  let v1765_r1 : BitVec 32 := Scalar.muli arg35_r1 c3_i32_1204_r1
  let v1766_r1 : BitVec 32 := Scalar.addi v1765_r1 c0_i32_1205_r1
  let c1024_i32_1232_r1 : BitVec 32 := 1024#32
  let c2048_i32_1233_r1 : BitVec 32 := 2048#32
  ![v1766_r1.toNat, 1024, 2048]
def k0_off127 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let c0_i32_1234_r1 : BitVec 32 := 0#32
  let c1536_i32_r1 : BitVec 32 := 1536#32
  ![v1749_r1.toNat, 0, 1536]
def k0_off128 (k0_t2 : Fin k0_t2_loop.trips) (c0_i32_1207_r1 : BitVec 32) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c3_i32_1206_r1 : BitVec 32 := 3#32
  let v1767_r1 : BitVec 32 := Scalar.muli arg35_r1 c3_i32_1206_r1
  let v1768_r1 : BitVec 32 := Scalar.addi v1767_r1 c0_i32_1207_r1
  let c1536_i32_1235_r1 : BitVec 32 := 1536#32
  let c2048_i32_1236_r1 : BitVec 32 := 2048#32
  ![v1768_r1.toNat, 1536, 2048]
def k0_off129 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let c512_i32_1237_r1 : BitVec 32 := 512#32
  let c0_i32_1238_r1 : BitVec 32 := 0#32
  ![v1749_r1.toNat, 512, 0]
def k0_off130 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let c512_i32_1241_r1 : BitVec 32 := 512#32
  let c512_i32_1242_r1 : BitVec 32 := 512#32
  ![v1749_r1.toNat, 512, 512]
def k0_off131 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let c512_i32_1245_r1 : BitVec 32 := 512#32
  let c1024_i32_1246_r1 : BitVec 32 := 1024#32
  ![v1749_r1.toNat, 512, 1024]
def k0_off132 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let c512_i32_1249_r1 : BitVec 32 := 512#32
  let c1536_i32_1250_r1 : BitVec 32 := 1536#32
  ![v1749_r1.toNat, 512, 1536]
def k0_off133 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let c1024_i32_1253_r1 : BitVec 32 := 1024#32
  let c0_i32_1254_r1 : BitVec 32 := 0#32
  ![v1749_r1.toNat, 1024, 0]
def k0_off134 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let c1024_i32_1257_r1 : BitVec 32 := 1024#32
  let c512_i32_1258_r1 : BitVec 32 := 512#32
  ![v1749_r1.toNat, 1024, 512]
def k0_off135 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let c1024_i32_1261_r1 : BitVec 32 := 1024#32
  let c1024_i32_1262_r1 : BitVec 32 := 1024#32
  ![v1749_r1.toNat, 1024, 1024]
def k0_off136 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let c1024_i32_1265_r1 : BitVec 32 := 1024#32
  let c1536_i32_1266_r1 : BitVec 32 := 1536#32
  ![v1749_r1.toNat, 1024, 1536]
def k0_off137 (k0_t2 : Fin k0_t2_loop.trips) (c0_i32_1270_r1 : BitVec 32) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c3_i32_1269_r1 : BitVec 32 := 3#32
  let v1857_r1 : BitVec 32 := Scalar.muli arg35_r1 c3_i32_1269_r1
  let v1858_r1 : BitVec 32 := Scalar.addi v1857_r1 c0_i32_1270_r1
  let v1859_r1 : Index := Scalar.indexCast v1858_r1
  let c0_1271_r1 : Index := 0#32
  let c0_1272_r1 : Index := 0#32
  ![v1859_r1.toNat, 0, 0]
def k0_off138 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v1862_r1 : Index := Scalar.indexCast v1749_r1
  let c0_1273_r1 : Index := 0#32
  let c0_1274_r1 : Index := 0#32
  ![v1862_r1.toNat, 0, 0]
def k0_off139 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v1867_r1 : Index := Scalar.indexCast v1749_r1
  let c0_1275_r1 : Index := 0#32
  let c256_1276_r1 : Index := 256#32
  ![v1867_r1.toNat, 0, 256]
def k0_off140 (k0_t2 : Fin k0_t2_loop.trips) (c0_i32_1278_r1 : BitVec 32) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c3_i32_1277_r1 : BitVec 32 := 3#32
  let v1872_r1 : BitVec 32 := Scalar.muli arg35_r1 c3_i32_1277_r1
  let v1873_r1 : BitVec 32 := Scalar.addi v1872_r1 c0_i32_1278_r1
  let v1874_r1 : Index := Scalar.indexCast v1873_r1
  let c0_1279_r1 : Index := 0#32
  let c256_1280_r1 : Index := 256#32
  ![v1874_r1.toNat, 0, 256]
def k0_off141 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v1877_r1 : Index := Scalar.indexCast v1749_r1
  let c256_1281_r1 : Index := 256#32
  let c0_1282_r1 : Index := 0#32
  ![v1877_r1.toNat, 256, 0]
def k0_off142 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v1882_r1 : Index := Scalar.indexCast v1749_r1
  let c256_1283_r1 : Index := 256#32
  let c256_1284_r1 : Index := 256#32
  ![v1882_r1.toNat, 256, 256]
def k0_off143 (k0_t2 : Fin k0_t2_loop.trips) (c0_i32_1286_r1 : BitVec 32) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c3_i32_1285_r1 : BitVec 32 := 3#32
  let v1887_r1 : BitVec 32 := Scalar.muli arg35_r1 c3_i32_1285_r1
  let v1888_r1 : BitVec 32 := Scalar.addi v1887_r1 c0_i32_1286_r1
  let v1889_r1 : Index := Scalar.indexCast v1888_r1
  let c0_1287_r1 : Index := 0#32
  let c512_1288_r1 : Index := 512#32
  ![v1889_r1.toNat, 0, 512]
def k0_off144 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v1892_r1 : Index := Scalar.indexCast v1749_r1
  let c0_1289_r1 : Index := 0#32
  let c512_1290_r1 : Index := 512#32
  ![v1892_r1.toNat, 0, 512]
def k0_off145 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v1897_r1 : Index := Scalar.indexCast v1749_r1
  let c0_1291_r1 : Index := 0#32
  let c768_1292_r1 : Index := 768#32
  ![v1897_r1.toNat, 0, 768]
def k0_off146 (k0_t2 : Fin k0_t2_loop.trips) (c0_i32_1294_r1 : BitVec 32) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c3_i32_1293_r1 : BitVec 32 := 3#32
  let v1902_r1 : BitVec 32 := Scalar.muli arg35_r1 c3_i32_1293_r1
  let v1903_r1 : BitVec 32 := Scalar.addi v1902_r1 c0_i32_1294_r1
  let v1904_r1 : Index := Scalar.indexCast v1903_r1
  let c0_1295_r1 : Index := 0#32
  let c768_1296_r1 : Index := 768#32
  ![v1904_r1.toNat, 0, 768]
def k0_off147 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v1907_r1 : Index := Scalar.indexCast v1749_r1
  let c256_1297_r1 : Index := 256#32
  let c512_1298_r1 : Index := 512#32
  ![v1907_r1.toNat, 256, 512]
def k0_off148 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v1912_r1 : Index := Scalar.indexCast v1749_r1
  let c256_1299_r1 : Index := 256#32
  let c768_1300_r1 : Index := 768#32
  ![v1912_r1.toNat, 256, 768]
def k0_off149 (k0_t2 : Fin k0_t2_loop.trips) (c0_i32_1302_r1 : BitVec 32) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c3_i32_1301_r1 : BitVec 32 := 3#32
  let v1917_r1 : BitVec 32 := Scalar.muli arg35_r1 c3_i32_1301_r1
  let v1918_r1 : BitVec 32 := Scalar.addi v1917_r1 c0_i32_1302_r1
  let v1919_r1 : Index := Scalar.indexCast v1918_r1
  let c0_1303_r1 : Index := 0#32
  let c1024_1304_r1 : Index := 1024#32
  ![v1919_r1.toNat, 0, 1024]
def k0_off150 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v1922_r1 : Index := Scalar.indexCast v1749_r1
  let c0_1305_r1 : Index := 0#32
  let c1024_1306_r1 : Index := 1024#32
  ![v1922_r1.toNat, 0, 1024]
def k0_off151 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v1927_r1 : Index := Scalar.indexCast v1749_r1
  let c0_1307_r1 : Index := 0#32
  let c1280_1308_r1 : Index := 1280#32
  ![v1927_r1.toNat, 0, 1280]
def k0_off152 (k0_t2 : Fin k0_t2_loop.trips) (c0_i32_1310_r1 : BitVec 32) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c3_i32_1309_r1 : BitVec 32 := 3#32
  let v1932_r1 : BitVec 32 := Scalar.muli arg35_r1 c3_i32_1309_r1
  let v1933_r1 : BitVec 32 := Scalar.addi v1932_r1 c0_i32_1310_r1
  let v1934_r1 : Index := Scalar.indexCast v1933_r1
  let c0_1311_r1 : Index := 0#32
  let c1280_1312_r1 : Index := 1280#32
  ![v1934_r1.toNat, 0, 1280]
def k0_off153 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v1937_r1 : Index := Scalar.indexCast v1749_r1
  let c256_1313_r1 : Index := 256#32
  let c1024_1314_r1 : Index := 1024#32
  ![v1937_r1.toNat, 256, 1024]
def k0_off154 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v1942_r1 : Index := Scalar.indexCast v1749_r1
  let c256_1315_r1 : Index := 256#32
  let c1280_1316_r1 : Index := 1280#32
  ![v1942_r1.toNat, 256, 1280]
def k0_off155 (k0_t2 : Fin k0_t2_loop.trips) (c0_i32_1318_r1 : BitVec 32) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c3_i32_1317_r1 : BitVec 32 := 3#32
  let v1947_r1 : BitVec 32 := Scalar.muli arg35_r1 c3_i32_1317_r1
  let v1948_r1 : BitVec 32 := Scalar.addi v1947_r1 c0_i32_1318_r1
  let v1949_r1 : Index := Scalar.indexCast v1948_r1
  let c0_1319_r1 : Index := 0#32
  let c1536_1320_r1 : Index := 1536#32
  ![v1949_r1.toNat, 0, 1536]
def k0_off156 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v1952_r1 : Index := Scalar.indexCast v1749_r1
  let c0_1321_r1 : Index := 0#32
  let c1536_1322_r1 : Index := 1536#32
  ![v1952_r1.toNat, 0, 1536]
def k0_off157 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v1957_r1 : Index := Scalar.indexCast v1749_r1
  let c0_1323_r1 : Index := 0#32
  let c1792_1324_r1 : Index := 1792#32
  ![v1957_r1.toNat, 0, 1792]
def k0_off158 (k0_t2 : Fin k0_t2_loop.trips) (c0_i32_1326_r1 : BitVec 32) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c3_i32_1325_r1 : BitVec 32 := 3#32
  let v1962_r1 : BitVec 32 := Scalar.muli arg35_r1 c3_i32_1325_r1
  let v1963_r1 : BitVec 32 := Scalar.addi v1962_r1 c0_i32_1326_r1
  let v1964_r1 : Index := Scalar.indexCast v1963_r1
  let c0_1327_r1 : Index := 0#32
  let c1792_1328_r1 : Index := 1792#32
  ![v1964_r1.toNat, 0, 1792]
def k0_off159 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v1967_r1 : Index := Scalar.indexCast v1749_r1
  let c256_1329_r1 : Index := 256#32
  let c1536_1330_r1 : Index := 1536#32
  ![v1967_r1.toNat, 256, 1536]
def k0_off160 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v1972_r1 : Index := Scalar.indexCast v1749_r1
  let c256_1331_r1 : Index := 256#32
  let c1792_1332_r1 : Index := 1792#32
  ![v1972_r1.toNat, 256, 1792]
def k0_off161 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v1982_r1 : Index := Scalar.indexCast v1749_r1
  let c512_1337_r1 : Index := 512#32
  let c0_1338_r1 : Index := 0#32
  ![v1982_r1.toNat, 512, 0]
def k0_off162 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v1987_r1 : Index := Scalar.indexCast v1749_r1
  let c512_1339_r1 : Index := 512#32
  let c256_1340_r1 : Index := 256#32
  ![v1987_r1.toNat, 512, 256]
def k0_off163 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v1997_r1 : Index := Scalar.indexCast v1749_r1
  let c768_1345_r1 : Index := 768#32
  let c0_1346_r1 : Index := 0#32
  ![v1997_r1.toNat, 768, 0]
def k0_off164 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2002_r1 : Index := Scalar.indexCast v1749_r1
  let c768_1347_r1 : Index := 768#32
  let c256_1348_r1 : Index := 256#32
  ![v2002_r1.toNat, 768, 256]
def k0_off165 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2012_r1 : Index := Scalar.indexCast v1749_r1
  let c512_1353_r1 : Index := 512#32
  let c512_1354_r1 : Index := 512#32
  ![v2012_r1.toNat, 512, 512]
def k0_off166 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2017_r1 : Index := Scalar.indexCast v1749_r1
  let c512_1355_r1 : Index := 512#32
  let c768_1356_r1 : Index := 768#32
  ![v2017_r1.toNat, 512, 768]
def k0_off167 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2027_r1 : Index := Scalar.indexCast v1749_r1
  let c768_1361_r1 : Index := 768#32
  let c512_1362_r1 : Index := 512#32
  ![v2027_r1.toNat, 768, 512]
def k0_off168 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2032_r1 : Index := Scalar.indexCast v1749_r1
  let c768_1363_r1 : Index := 768#32
  let c768_1364_r1 : Index := 768#32
  ![v2032_r1.toNat, 768, 768]
def k0_off169 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2042_r1 : Index := Scalar.indexCast v1749_r1
  let c512_1369_r1 : Index := 512#32
  let c1024_1370_r1 : Index := 1024#32
  ![v2042_r1.toNat, 512, 1024]
def k0_off170 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2047_r1 : Index := Scalar.indexCast v1749_r1
  let c512_1371_r1 : Index := 512#32
  let c1280_1372_r1 : Index := 1280#32
  ![v2047_r1.toNat, 512, 1280]
def k0_off171 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2057_r1 : Index := Scalar.indexCast v1749_r1
  let c768_1377_r1 : Index := 768#32
  let c1024_1378_r1 : Index := 1024#32
  ![v2057_r1.toNat, 768, 1024]
def k0_off172 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2062_r1 : Index := Scalar.indexCast v1749_r1
  let c768_1379_r1 : Index := 768#32
  let c1280_1380_r1 : Index := 1280#32
  ![v2062_r1.toNat, 768, 1280]
def k0_off173 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2072_r1 : Index := Scalar.indexCast v1749_r1
  let c512_1385_r1 : Index := 512#32
  let c1536_1386_r1 : Index := 1536#32
  ![v2072_r1.toNat, 512, 1536]
def k0_off174 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2077_r1 : Index := Scalar.indexCast v1749_r1
  let c512_1387_r1 : Index := 512#32
  let c1792_1388_r1 : Index := 1792#32
  ![v2077_r1.toNat, 512, 1792]
def k0_off175 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2087_r1 : Index := Scalar.indexCast v1749_r1
  let c768_1393_r1 : Index := 768#32
  let c1536_1394_r1 : Index := 1536#32
  ![v2087_r1.toNat, 768, 1536]
def k0_off176 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2092_r1 : Index := Scalar.indexCast v1749_r1
  let c768_1395_r1 : Index := 768#32
  let c1792_1396_r1 : Index := 1792#32
  ![v2092_r1.toNat, 768, 1792]
def k0_off177 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2102_r1 : Index := Scalar.indexCast v1749_r1
  let c1024_1401_r1 : Index := 1024#32
  let c0_1402_r1 : Index := 0#32
  ![v2102_r1.toNat, 1024, 0]
def k0_off178 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2107_r1 : Index := Scalar.indexCast v1749_r1
  let c1024_1403_r1 : Index := 1024#32
  let c256_1404_r1 : Index := 256#32
  ![v2107_r1.toNat, 1024, 256]
def k0_off179 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2117_r1 : Index := Scalar.indexCast v1749_r1
  let c1280_1409_r1 : Index := 1280#32
  let c0_1410_r1 : Index := 0#32
  ![v2117_r1.toNat, 1280, 0]
def k0_off180 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2122_r1 : Index := Scalar.indexCast v1749_r1
  let c1280_1411_r1 : Index := 1280#32
  let c256_1412_r1 : Index := 256#32
  ![v2122_r1.toNat, 1280, 256]
def k0_off181 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2132_r1 : Index := Scalar.indexCast v1749_r1
  let c1024_1417_r1 : Index := 1024#32
  let c512_1418_r1 : Index := 512#32
  ![v2132_r1.toNat, 1024, 512]
def k0_off182 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2137_r1 : Index := Scalar.indexCast v1749_r1
  let c1024_1419_r1 : Index := 1024#32
  let c768_1420_r1 : Index := 768#32
  ![v2137_r1.toNat, 1024, 768]
def k0_off183 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2147_r1 : Index := Scalar.indexCast v1749_r1
  let c1280_1425_r1 : Index := 1280#32
  let c512_1426_r1 : Index := 512#32
  ![v2147_r1.toNat, 1280, 512]
def k0_off184 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2152_r1 : Index := Scalar.indexCast v1749_r1
  let c1280_1427_r1 : Index := 1280#32
  let c768_1428_r1 : Index := 768#32
  ![v2152_r1.toNat, 1280, 768]
def k0_off185 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2162_r1 : Index := Scalar.indexCast v1749_r1
  let c1024_1433_r1 : Index := 1024#32
  let c1024_1434_r1 : Index := 1024#32
  ![v2162_r1.toNat, 1024, 1024]
def k0_off186 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2167_r1 : Index := Scalar.indexCast v1749_r1
  let c1024_1435_r1 : Index := 1024#32
  let c1280_1436_r1 : Index := 1280#32
  ![v2167_r1.toNat, 1024, 1280]
def k0_off187 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2177_r1 : Index := Scalar.indexCast v1749_r1
  let c1280_1441_r1 : Index := 1280#32
  let c1024_1442_r1 : Index := 1024#32
  ![v2177_r1.toNat, 1280, 1024]
def k0_off188 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2182_r1 : Index := Scalar.indexCast v1749_r1
  let c1280_1443_r1 : Index := 1280#32
  let c1280_1444_r1 : Index := 1280#32
  ![v2182_r1.toNat, 1280, 1280]
def k0_off189 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2192_r1 : Index := Scalar.indexCast v1749_r1
  let c1024_1449_r1 : Index := 1024#32
  let c1536_1450_r1 : Index := 1536#32
  ![v2192_r1.toNat, 1024, 1536]
def k0_off190 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2197_r1 : Index := Scalar.indexCast v1749_r1
  let c1024_1451_r1 : Index := 1024#32
  let c1792_1452_r1 : Index := 1792#32
  ![v2197_r1.toNat, 1024, 1792]
def k0_off191 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2207_r1 : Index := Scalar.indexCast v1749_r1
  let c1280_1457_r1 : Index := 1280#32
  let c1536_1458_r1 : Index := 1536#32
  ![v2207_r1.toNat, 1280, 1536]
def k0_off192 (k0_t2 : Fin k0_t2_loop.trips) : Fin 3 → Nat :=
  let c0_i32_1168_r1 : BitVec 32 := 0#32
  let c1_i32_1170_r1 : BitVec 32 := 1#32
  let arg35_r1 : BitVec 32 := Scf.iv c0_i32_1168_r1 c1_i32_1170_r1 k0_t2
  let c15_i32_1190_r1 : BitVec 32 := 15#32
  let v1748_r1 : BitVec 32 := Scalar.addi arg35_r1 c15_i32_1190_r1
  let c8_i32_1191_r1 : BitVec 32 := 8#32
  let v1749_r1 : BitVec 32 := Scalar.remsi v1748_r1 c8_i32_1191_r1
  let v2212_r1 : Index := Scalar.indexCast v1749_r1
  let c1280_1459_r1 : Index := 1280#32
  let c1792_1460_r1 : Index := 1792#32
  ![v2212_r1.toNat, 1280, 1792]
-- ==== Main.lean ====
abbrev S15x256x2048 : Shape := ⟨3, ![15, 256, 2048]⟩
abbrev S2x128 : Shape := ⟨2, ![2, 128]⟩
abbrev S15x2048x2560 : Shape := ⟨3, ![15, 2048, 2560]⟩
abbrev S2560 : Shape := ⟨1, ![2560]⟩
abbrev S256x1 : Shape := ⟨2, ![256, 1]⟩
abbrev S256x128 : Shape := ⟨2, ![256, 128]⟩
abbrev S1x2560 : Shape := ⟨2, ![1, 2560]⟩
abbrev S256x2560 : Shape := ⟨2, ![256, 2560]⟩
abbrev S2x15x128x2048 : Shape := ⟨4, ![2, 15, 128, 2048]⟩
abbrev S8x2048x2048 : Shape := ⟨3, ![8, 2048, 2048]⟩
abbrev S8 : Shape := ⟨1, ![8]⟩
abbrev S_ : Shape := ⟨0, ![]⟩
abbrev S1 : Shape := ⟨1, ![1]⟩
abbrev S1x2048x2048 : Shape := ⟨3, ![1, 2048, 2048]⟩
abbrev S2048x2048 : Shape := ⟨2, ![2048, 2048]⟩
abbrev S1x512x512 : Shape := ⟨3, ![1, 512, 512]⟩
abbrev S512x512 : Shape := ⟨2, ![512, 512]⟩
abbrev S1x1x128x2048 : Shape := ⟨4, ![1, 1, 128, 2048]⟩
abbrev S128x2048 : Shape := ⟨2, ![128, 2048]⟩
abbrev S1x128x2048 : Shape := ⟨3, ![1, 128, 2048]⟩
abbrev S1x256x256 : Shape := ⟨3, ![1, 256, 256]⟩
abbrev S256x256 : Shape := ⟨2, ![256, 256]⟩
abbrev S1x256 : Shape := ⟨2, ![1, 256]⟩
abbrev S256x2048 : Shape := ⟨2, ![256, 2048]⟩
abbrev S256x512 : Shape := ⟨2, ![256, 512]⟩

abbrev nBuf : Space → Nat
  | .hbm => 12
  | .vmem => 7
  | .smem => 0
  | _ => 0

abbrev bufTy : (tb : Table) → Fin (tcTables nBuf tb) → BufTy
  | .hbm, ⟨0, _⟩ => ⟨S15x256x2048, .fp8e4m3⟩
  | .hbm, ⟨1, _⟩ => ⟨S2x128, .f32⟩
  | .hbm, ⟨2, _⟩ => ⟨S15x2048x2560, .fp8e4m3⟩
  | .hbm, ⟨3, _⟩ => ⟨S2560, .f32⟩
  | .hbm, ⟨4, _⟩ => ⟨S2560, .f32⟩
  | .hbm, ⟨5, _⟩ => ⟨S256x1, .f32⟩
  | .hbm, ⟨6, _⟩ => ⟨S256x128, .f32⟩
  | .hbm, ⟨7, _⟩ => ⟨S1x2560, .f32⟩
  | .hbm, ⟨8, _⟩ => ⟨S1x2560, .f32⟩
  | .hbm, ⟨9, _⟩ => ⟨S256x2560, .bf16⟩
  | .hbm, ⟨10, _⟩ => ⟨S2x15x128x2048, .fp8e4m3⟩
  | .hbm, ⟨11, _⟩ => ⟨S2x128, .f32⟩
  | .local _ .vmem, ⟨0, _⟩ => ⟨S15x256x2048, .fp8e4m3⟩
  | .local _ .vmem, ⟨1, _⟩ => ⟨S256x128, .f32⟩
  | .local _ .vmem, ⟨2, _⟩ => ⟨S2x128, .f32⟩
  | .local _ .vmem, ⟨3, _⟩ => ⟨S1x2560, .f32⟩
  | .local _ .vmem, ⟨4, _⟩ => ⟨S1x2560, .f32⟩
  | .local _ .vmem, ⟨5, _⟩ => ⟨S256x2560, .bf16⟩
  | .local _ .vmem, ⟨6, _⟩ => ⟨S8x2048x2048, .fp8e4m3⟩
  | _, _ => ⟨S15x256x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩

abbrev nD : Nat := 1
abbrev τ : Topo := Topo.v7x

variable {F : FTy → Type} [FloatOps F]

abbrev grid0 : Pipeline.Grid := .none

@[reducible] def k0_t1_loop : Scf.Loop 32 :=
  let c0_i32_268_r0 : BitVec 32 := 0#32
  let c15_i32_r0 : BitVec 32 := 15#32
  let v192_r0 : BitVec 32 := Scalar.addi c0_i32_268_r0 c15_i32_r0
  let c1_i32_269_r0 : BitVec 32 := 1#32
  ⟨c0_i32_268_r0, v192_r0, c1_i32_269_r0⟩
def k0_cond1 (k0_t1 : Fin k0_t1_loop.trips) : BitVec 1 :=
  let c0_i32_268_r0 : BitVec 32 := 0#32
  let c1_i32_269_r0 : BitVec 32 := 1#32
  let arg21_r0 : BitVec 32 := Scf.iv c0_i32_268_r0 c1_i32_269_r0 k0_t1
  let c0_i32_355_r0 : BitVec 32 := 0#32
  let v341_r0 : BitVec 1 := Scalar.cmpi .sgt arg21_r0 c0_i32_355_r0
  let v342_r0 : BitVec 32 := Scalar.extui v341_r0
  let c0_i32_356_r0 : BitVec 32 := 0#32
  let v343_r0 : BitVec 1 := Scalar.cmpi .ne v342_r0 c0_i32_356_r0
  v343_r0

def k0_cond2 (k0_t1 : Fin k0_t1_loop.trips) : BitVec 1 :=
  let c0_i32_268_r0 : BitVec 32 := 0#32
  let c1_i32_269_r0 : BitVec 32 := 1#32
  let arg21_r0 : BitVec 32 := Scf.iv c0_i32_268_r0 c1_i32_269_r0 k0_t1
  let c1_i32_516_r0 : BitVec 32 := 1#32
  let v702_r0 : BitVec 32 := Scalar.subi arg21_r0 c1_i32_516_r0
  let c8_i32_517_r0 : BitVec 32 := 8#32
  let v703_r0 : BitVec 32 := Scalar.addi v702_r0 c8_i32_517_r0
  let c15_i32_519_r0 : BitVec 32 := 15#32
  let v705_r0 : BitVec 1 := Scalar.cmpi .slt v703_r0 c15_i32_519_r0
  let v706_r0 : BitVec 32 := Scalar.extui v705_r0
  let c0_i32_520_r0 : BitVec 32 := 0#32
  let v707_r0 : BitVec 1 := Scalar.cmpi .ne v706_r0 c0_i32_520_r0
  v707_r0

def k0_off1 (k0_t1 : Fin k0_t1_loop.trips) : Fin 1 → Nat :=
  let c0_i32_268_r0 : BitVec 32 := 0#32
  let c1_i32_269_r0 : BitVec 32 := 1#32
  let arg21_r0 : BitVec 32 := Scf.iv c0_i32_268_r0 c1_i32_269_r0 k0_t1
  let c1_i32_516_r0 : BitVec 32 := 1#32
  let v702_r0 : BitVec 32 := Scalar.subi arg21_r0 c1_i32_516_r0
  let c8_i32_517_r0 : BitVec 32 := 8#32
  let v703_r0 : BitVec 32 := Scalar.addi v702_r0 c8_i32_517_r0
  let c8_i32_518_r0 : BitVec 32 := 8#32
  let v704_r0 : BitVec 32 := Scalar.remsi v703_r0 c8_i32_518_r0
  ![v704_r0.toNat]
def k0_off2 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c1_i32_516_r0 : BitVec 32 := 1#32
  let v702_r0 : BitVec 32 := Scalar.subi arg21_r0 c1_i32_516_r0
  let c8_i32_517_r0 : BitVec 32 := 8#32
  let v703_r0 : BitVec 32 := Scalar.addi v702_r0 c8_i32_517_r0
  let c8_i32_518_r0 : BitVec 32 := 8#32
  let v704_r0 : BitVec 32 := Scalar.remsi v703_r0 c8_i32_518_r0
  let c0_i32_523_r0 : BitVec 32 := 0#32
  let c0_i32_524_r0 : BitVec 32 := 0#32
  ![v704_r0.toNat, 0, 0]
def k0_off3 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c1_i32_516_r0 : BitVec 32 := 1#32
  let v702_r0 : BitVec 32 := Scalar.subi arg21_r0 c1_i32_516_r0
  let c8_i32_517_r0 : BitVec 32 := 8#32
  let v703_r0 : BitVec 32 := Scalar.addi v702_r0 c8_i32_517_r0
  let c0_i32_525_r0 : BitVec 32 := 0#32
  let c0_i32_526_r0 : BitVec 32 := 0#32
  ![v703_r0.toNat, 0, 0]
def k0_cond3 (k0_t1 : Fin k0_t1_loop.trips) : BitVec 1 :=
  let c0_i32_268_r0 : BitVec 32 := 0#32
  let c1_i32_269_r0 : BitVec 32 := 1#32
  let arg21_r0 : BitVec 32 := Scf.iv c0_i32_268_r0 c1_i32_269_r0 k0_t1
  let c1_i32_516_r0 : BitVec 32 := 1#32
  let v702_r0 : BitVec 32 := Scalar.subi arg21_r0 c1_i32_516_r0
  let c8_i32_517_r0 : BitVec 32 := 8#32
  let v703_r0 : BitVec 32 := Scalar.addi v702_r0 c8_i32_517_r0
  let c15_i32_521_r0 : BitVec 32 := 15#32
  let v708_r0 : BitVec 1 := Scalar.cmpi .sge v703_r0 c15_i32_521_r0
  let c20_i32_r0 : BitVec 32 := 20#32
  let v709_r0 : BitVec 1 := Scalar.cmpi .slt v703_r0 c20_i32_r0
  let v710_r0 : BitVec 1 := Scalar.andi v708_r0 v709_r0
  let v711_r0 : BitVec 32 := Scalar.extui v710_r0
  let c0_i32_522_r0 : BitVec 32 := 0#32
  let v712_r0 : BitVec 1 := Scalar.cmpi .ne v711_r0 c0_i32_522_r0
  v712_r0

def k0_off4 (k0_t1 : Fin k0_t1_loop.trips) : Fin 1 → Nat :=
  let c0_i32_268_r0 : BitVec 32 := 0#32
  let c1_i32_269_r0 : BitVec 32 := 1#32
  let arg21_r0 : BitVec 32 := Scf.iv c0_i32_268_r0 c1_i32_269_r0 k0_t1
  let c1_i32_516_r0 : BitVec 32 := 1#32
  let v702_r0 : BitVec 32 := Scalar.subi arg21_r0 c1_i32_516_r0
  let c8_i32_517_r0 : BitVec 32 := 8#32
  let v703_r0 : BitVec 32 := Scalar.addi v702_r0 c8_i32_517_r0
  let c8_i32_518_r0 : BitVec 32 := 8#32
  let v704_r0 : BitVec 32 := Scalar.remsi v703_r0 c8_i32_518_r0
  ![v704_r0.toNat]
def k0_off5 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c1_i32_516_r0 : BitVec 32 := 1#32
  let v702_r0 : BitVec 32 := Scalar.subi arg21_r0 c1_i32_516_r0
  let c8_i32_517_r0 : BitVec 32 := 8#32
  let v703_r0 : BitVec 32 := Scalar.addi v702_r0 c8_i32_517_r0
  let c8_i32_518_r0 : BitVec 32 := 8#32
  let v704_r0 : BitVec 32 := Scalar.remsi v703_r0 c8_i32_518_r0
  let c0_i32_548_r0 : BitVec 32 := 0#32
  let c0_i32_549_r0 : BitVec 32 := 0#32
  ![v704_r0.toNat, 0, 0]
def k0_off6 (k0_t1 : Fin k0_t1_loop.trips) (c0_i32_525_r0 : BitVec 32) : Fin 3 → Nat :=
  let c0_i32_268_r0 : BitVec 32 := 0#32
  let c1_i32_269_r0 : BitVec 32 := 1#32
  let arg21_r0 : BitVec 32 := Scf.iv c0_i32_268_r0 c1_i32_269_r0 k0_t1
  let c1_i32_516_r0 : BitVec 32 := 1#32
  let v702_r0 : BitVec 32 := Scalar.subi arg21_r0 c1_i32_516_r0
  let c8_i32_517_r0 : BitVec 32 := 8#32
  let v703_r0 : BitVec 32 := Scalar.addi v702_r0 c8_i32_517_r0
  let c15_i32_523_r0 : BitVec 32 := 15#32
  let v713_r0 : BitVec 32 := Scalar.subi v703_r0 c15_i32_523_r0
  let c3_i32_524_r0 : BitVec 32 := 3#32
  let v714_r0 : BitVec 32 := Scalar.muli v713_r0 c3_i32_524_r0
  let v715_r0 : BitVec 32 := Scalar.addi v714_r0 c0_i32_525_r0
  let c0_i32_550_r0 : BitVec 32 := 0#32
  let c2048_i32_551_r0 : BitVec 32 := 2048#32
  ![v715_r0.toNat, 0, 2048]
def k0_off7 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c1_i32_516_r0 : BitVec 32 := 1#32
  let v702_r0 : BitVec 32 := Scalar.subi arg21_r0 c1_i32_516_r0
  let c8_i32_517_r0 : BitVec 32 := 8#32
  let v703_r0 : BitVec 32 := Scalar.addi v702_r0 c8_i32_517_r0
  let c8_i32_518_r0 : BitVec 32 := 8#32
  let v704_r0 : BitVec 32 := Scalar.remsi v703_r0 c8_i32_518_r0
  let c0_i32_552_r0 : BitVec 32 := 0#32
  let c512_i32_r0 : BitVec 32 := 512#32
  ![v704_r0.toNat, 0, 512]
def k0_off8 (k0_t1 : Fin k0_t1_loop.trips) (c0_i32_527_r0 : BitVec 32) : Fin 3 → Nat :=
  let c0_i32_268_r0 : BitVec 32 := 0#32
  let c1_i32_269_r0 : BitVec 32 := 1#32
  let arg21_r0 : BitVec 32 := Scf.iv c0_i32_268_r0 c1_i32_269_r0 k0_t1
  let c1_i32_516_r0 : BitVec 32 := 1#32
  let v702_r0 : BitVec 32 := Scalar.subi arg21_r0 c1_i32_516_r0
  let c8_i32_517_r0 : BitVec 32 := 8#32
  let v703_r0 : BitVec 32 := Scalar.addi v702_r0 c8_i32_517_r0
  let c15_i32_523_r0 : BitVec 32 := 15#32
  let v713_r0 : BitVec 32 := Scalar.subi v703_r0 c15_i32_523_r0
  let c3_i32_526_r0 : BitVec 32 := 3#32
  let v716_r0 : BitVec 32 := Scalar.muli v713_r0 c3_i32_526_r0
  let v717_r0 : BitVec 32 := Scalar.addi v716_r0 c0_i32_527_r0
  let c512_i32_553_r0 : BitVec 32 := 512#32
  let c2048_i32_554_r0 : BitVec 32 := 2048#32
  ![v717_r0.toNat, 512, 2048]
def k0_off9 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c1_i32_516_r0 : BitVec 32 := 1#32
  let v702_r0 : BitVec 32 := Scalar.subi arg21_r0 c1_i32_516_r0
  let c8_i32_517_r0 : BitVec 32 := 8#32
  let v703_r0 : BitVec 32 := Scalar.addi v702_r0 c8_i32_517_r0
  let c8_i32_518_r0 : BitVec 32 := 8#32
  let v704_r0 : BitVec 32 := Scalar.remsi v703_r0 c8_i32_518_r0
  let c0_i32_555_r0 : BitVec 32 := 0#32
  let c1024_i32_r0 : BitVec 32 := 1024#32
  ![v704_r0.toNat, 0, 1024]
def k0_off10 (k0_t1 : Fin k0_t1_loop.trips) (c0_i32_529_r0 : BitVec 32) : Fin 3 → Nat :=
  let c0_i32_268_r0 : BitVec 32 := 0#32
  let c1_i32_269_r0 : BitVec 32 := 1#32
  let arg21_r0 : BitVec 32 := Scf.iv c0_i32_268_r0 c1_i32_269_r0 k0_t1
  let c1_i32_516_r0 : BitVec 32 := 1#32
  let v702_r0 : BitVec 32 := Scalar.subi arg21_r0 c1_i32_516_r0
  let c8_i32_517_r0 : BitVec 32 := 8#32
  let v703_r0 : BitVec 32 := Scalar.addi v702_r0 c8_i32_517_r0
  let c15_i32_523_r0 : BitVec 32 := 15#32
  let v713_r0 : BitVec 32 := Scalar.subi v703_r0 c15_i32_523_r0
  let c3_i32_528_r0 : BitVec 32 := 3#32
  let v718_r0 : BitVec 32 := Scalar.muli v713_r0 c3_i32_528_r0
  let v719_r0 : BitVec 32 := Scalar.addi v718_r0 c0_i32_529_r0
  let c1024_i32_556_r0 : BitVec 32 := 1024#32
  let c2048_i32_557_r0 : BitVec 32 := 2048#32
  ![v719_r0.toNat, 1024, 2048]
def k0_off11 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c1_i32_516_r0 : BitVec 32 := 1#32
  let v702_r0 : BitVec 32 := Scalar.subi arg21_r0 c1_i32_516_r0
  let c8_i32_517_r0 : BitVec 32 := 8#32
  let v703_r0 : BitVec 32 := Scalar.addi v702_r0 c8_i32_517_r0
  let c8_i32_518_r0 : BitVec 32 := 8#32
  let v704_r0 : BitVec 32 := Scalar.remsi v703_r0 c8_i32_518_r0
  let c0_i32_558_r0 : BitVec 32 := 0#32
  let c1536_i32_r0 : BitVec 32 := 1536#32
  ![v704_r0.toNat, 0, 1536]
def k0_off12 (k0_t1 : Fin k0_t1_loop.trips) (c0_i32_531_r0 : BitVec 32) : Fin 3 → Nat :=
  let c0_i32_268_r0 : BitVec 32 := 0#32
  let c1_i32_269_r0 : BitVec 32 := 1#32
  let arg21_r0 : BitVec 32 := Scf.iv c0_i32_268_r0 c1_i32_269_r0 k0_t1
  let c1_i32_516_r0 : BitVec 32 := 1#32
  let v702_r0 : BitVec 32 := Scalar.subi arg21_r0 c1_i32_516_r0
  let c8_i32_517_r0 : BitVec 32 := 8#32
  let v703_r0 : BitVec 32 := Scalar.addi v702_r0 c8_i32_517_r0
  let c15_i32_523_r0 : BitVec 32 := 15#32
  let v713_r0 : BitVec 32 := Scalar.subi v703_r0 c15_i32_523_r0
  let c3_i32_530_r0 : BitVec 32 := 3#32
  let v720_r0 : BitVec 32 := Scalar.muli v713_r0 c3_i32_530_r0
  let v721_r0 : BitVec 32 := Scalar.addi v720_r0 c0_i32_531_r0
  let c1536_i32_559_r0 : BitVec 32 := 1536#32
  let c2048_i32_560_r0 : BitVec 32 := 2048#32
  ![v721_r0.toNat, 1536, 2048]
def k0_off13 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c1_i32_516_r0 : BitVec 32 := 1#32
  let v702_r0 : BitVec 32 := Scalar.subi arg21_r0 c1_i32_516_r0
  let c8_i32_517_r0 : BitVec 32 := 8#32
  let v703_r0 : BitVec 32 := Scalar.addi v702_r0 c8_i32_517_r0
  let c8_i32_518_r0 : BitVec 32 := 8#32
  let v704_r0 : BitVec 32 := Scalar.remsi v703_r0 c8_i32_518_r0
  let c512_i32_561_r0 : BitVec 32 := 512#32
  let c0_i32_562_r0 : BitVec 32 := 0#32
  ![v704_r0.toNat, 512, 0]
def k0_off14 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c1_i32_516_r0 : BitVec 32 := 1#32
  let v702_r0 : BitVec 32 := Scalar.subi arg21_r0 c1_i32_516_r0
  let c8_i32_517_r0 : BitVec 32 := 8#32
  let v703_r0 : BitVec 32 := Scalar.addi v702_r0 c8_i32_517_r0
  let c8_i32_518_r0 : BitVec 32 := 8#32
  let v704_r0 : BitVec 32 := Scalar.remsi v703_r0 c8_i32_518_r0
  let c512_i32_565_r0 : BitVec 32 := 512#32
  let c512_i32_566_r0 : BitVec 32 := 512#32
  ![v704_r0.toNat, 512, 512]
def k0_off15 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c1_i32_516_r0 : BitVec 32 := 1#32
  let v702_r0 : BitVec 32 := Scalar.subi arg21_r0 c1_i32_516_r0
  let c8_i32_517_r0 : BitVec 32 := 8#32
  let v703_r0 : BitVec 32 := Scalar.addi v702_r0 c8_i32_517_r0
  let c8_i32_518_r0 : BitVec 32 := 8#32
  let v704_r0 : BitVec 32 := Scalar.remsi v703_r0 c8_i32_518_r0
  let c512_i32_569_r0 : BitVec 32 := 512#32
  let c1024_i32_570_r0 : BitVec 32 := 1024#32
  ![v704_r0.toNat, 512, 1024]
def k0_off16 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c1_i32_516_r0 : BitVec 32 := 1#32
  let v702_r0 : BitVec 32 := Scalar.subi arg21_r0 c1_i32_516_r0
  let c8_i32_517_r0 : BitVec 32 := 8#32
  let v703_r0 : BitVec 32 := Scalar.addi v702_r0 c8_i32_517_r0
  let c8_i32_518_r0 : BitVec 32 := 8#32
  let v704_r0 : BitVec 32 := Scalar.remsi v703_r0 c8_i32_518_r0
  let c512_i32_573_r0 : BitVec 32 := 512#32
  let c1536_i32_574_r0 : BitVec 32 := 1536#32
  ![v704_r0.toNat, 512, 1536]
def k0_off17 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c1_i32_516_r0 : BitVec 32 := 1#32
  let v702_r0 : BitVec 32 := Scalar.subi arg21_r0 c1_i32_516_r0
  let c8_i32_517_r0 : BitVec 32 := 8#32
  let v703_r0 : BitVec 32 := Scalar.addi v702_r0 c8_i32_517_r0
  let c8_i32_518_r0 : BitVec 32 := 8#32
  let v704_r0 : BitVec 32 := Scalar.remsi v703_r0 c8_i32_518_r0
  let c1024_i32_577_r0 : BitVec 32 := 1024#32
  let c0_i32_578_r0 : BitVec 32 := 0#32
  ![v704_r0.toNat, 1024, 0]
def k0_off18 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c1_i32_516_r0 : BitVec 32 := 1#32
  let v702_r0 : BitVec 32 := Scalar.subi arg21_r0 c1_i32_516_r0
  let c8_i32_517_r0 : BitVec 32 := 8#32
  let v703_r0 : BitVec 32 := Scalar.addi v702_r0 c8_i32_517_r0
  let c8_i32_518_r0 : BitVec 32 := 8#32
  let v704_r0 : BitVec 32 := Scalar.remsi v703_r0 c8_i32_518_r0
  let c1024_i32_581_r0 : BitVec 32 := 1024#32
  let c512_i32_582_r0 : BitVec 32 := 512#32
  ![v704_r0.toNat, 1024, 512]
def k0_off19 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c1_i32_516_r0 : BitVec 32 := 1#32
  let v702_r0 : BitVec 32 := Scalar.subi arg21_r0 c1_i32_516_r0
  let c8_i32_517_r0 : BitVec 32 := 8#32
  let v703_r0 : BitVec 32 := Scalar.addi v702_r0 c8_i32_517_r0
  let c8_i32_518_r0 : BitVec 32 := 8#32
  let v704_r0 : BitVec 32 := Scalar.remsi v703_r0 c8_i32_518_r0
  let c1024_i32_585_r0 : BitVec 32 := 1024#32
  let c1024_i32_586_r0 : BitVec 32 := 1024#32
  ![v704_r0.toNat, 1024, 1024]
def k0_off20 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c1_i32_516_r0 : BitVec 32 := 1#32
  let v702_r0 : BitVec 32 := Scalar.subi arg21_r0 c1_i32_516_r0
  let c8_i32_517_r0 : BitVec 32 := 8#32
  let v703_r0 : BitVec 32 := Scalar.addi v702_r0 c8_i32_517_r0
  let c8_i32_518_r0 : BitVec 32 := 8#32
  let v704_r0 : BitVec 32 := Scalar.remsi v703_r0 c8_i32_518_r0
  let c1024_i32_589_r0 : BitVec 32 := 1024#32
  let c1536_i32_590_r0 : BitVec 32 := 1536#32
  ![v704_r0.toNat, 1024, 1536]
def k0_off21 (k0_t1 : Fin k0_t1_loop.trips) : Fin 4 → Nat :=
  let c0_i32_357_r0 : BitVec 32 := 0#32
  let c0_i32_268_r0 : BitVec 32 := 0#32
  let c1_i32_269_r0 : BitVec 32 := 1#32
  let arg21_r0 : BitVec 32 := Scf.iv c0_i32_268_r0 c1_i32_269_r0 k0_t1
  let c0_i32_358_r0 : BitVec 32 := 0#32
  let c0_i32_359_r0 : BitVec 32 := 0#32
  ![0, arg21_r0.toNat, 0, 0]
def k0_off22 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c0_i32_360_r0 : BitVec 32 := 0#32
  let c0_i32_361_r0 : BitVec 32 := 0#32
  ![arg21_r0.toNat, 0, 0]
def k0_off23 (k0_t1 : Fin k0_t1_loop.trips) : Fin 4 → Nat :=
  let c1_i32_362_r0 : BitVec 32 := 1#32
  let c0_i32_268_r0 : BitVec 32 := 0#32
  let c1_i32_269_r0 : BitVec 32 := 1#32
  let arg21_r0 : BitVec 32 := Scf.iv c0_i32_268_r0 c1_i32_269_r0 k0_t1
  let c0_i32_363_r0 : BitVec 32 := 0#32
  let c0_i32_364_r0 : BitVec 32 := 0#32
  ![1, arg21_r0.toNat, 0, 0]
def k0_off24 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c128_i32_365_r0 : BitVec 32 := 128#32
  let c0_i32_366_r0 : BitVec 32 := 0#32
  ![arg21_r0.toNat, 128, 0]
def k0_off25 (k0_t1 : Fin k0_t1_loop.trips) : Fin 1 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  ![v340_r0.toNat]
def k0_off26 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let c0_i32_367_r0 : BitVec 32 := 0#32
  let c0_i32_368_r0 : BitVec 32 := 0#32
  ![v340_r0.toNat, 0, 0]
def k0_off27 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c0_i32_369_r0 : BitVec 32 := 0#32
  let c0_i32_370_r0 : BitVec 32 := 0#32
  ![arg21_r0.toNat, 0, 0]
def k0_off28 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let v358_r0 : Index := Scalar.indexCast arg21_r0
  let c0_371_r0 : Index := 0#32
  let c0_372_r0 : Index := 0#32
  ![v358_r0.toNat, 0, 0]
def k0_off29 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v361_r0 : Index := Scalar.indexCast v340_r0
  let c0_373_r0 : Index := 0#32
  let c0_374_r0 : Index := 0#32
  ![v361_r0.toNat, 0, 0]
def k0_off30 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v366_r0 : Index := Scalar.indexCast v340_r0
  let c0_375_r0 : Index := 0#32
  let c256_376_r0 : Index := 256#32
  ![v366_r0.toNat, 0, 256]
def k0_off31 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v371_r0 : Index := Scalar.indexCast v340_r0
  let c0_377_r0 : Index := 0#32
  let c512_378_r0 : Index := 512#32
  ![v371_r0.toNat, 0, 512]
def k0_off32 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v376_r0 : Index := Scalar.indexCast v340_r0
  let c0_379_r0 : Index := 0#32
  let c768_380_r0 : Index := 768#32
  ![v376_r0.toNat, 0, 768]
def k0_off33 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v381_r0 : Index := Scalar.indexCast v340_r0
  let c0_381_r0 : Index := 0#32
  let c1024_382_r0 : Index := 1024#32
  ![v381_r0.toNat, 0, 1024]
def k0_off34 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v386_r0 : Index := Scalar.indexCast v340_r0
  let c0_383_r0 : Index := 0#32
  let c1280_384_r0 : Index := 1280#32
  ![v386_r0.toNat, 0, 1280]
def k0_off35 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v391_r0 : Index := Scalar.indexCast v340_r0
  let c0_385_r0 : Index := 0#32
  let c1536_386_r0 : Index := 1536#32
  ![v391_r0.toNat, 0, 1536]
def k0_off36 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v396_r0 : Index := Scalar.indexCast v340_r0
  let c0_387_r0 : Index := 0#32
  let c1792_388_r0 : Index := 1792#32
  ![v396_r0.toNat, 0, 1792]
def k0_off37 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let v401_r0 : Index := Scalar.indexCast arg21_r0
  let c0_389_r0 : Index := 0#32
  let c256_390_r0 : Index := 256#32
  ![v401_r0.toNat, 0, 256]
def k0_off38 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v404_r0 : Index := Scalar.indexCast v340_r0
  let c256_391_r0 : Index := 256#32
  let c0_392_r0 : Index := 0#32
  ![v404_r0.toNat, 256, 0]
def k0_off39 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v409_r0 : Index := Scalar.indexCast v340_r0
  let c256_393_r0 : Index := 256#32
  let c256_394_r0 : Index := 256#32
  ![v409_r0.toNat, 256, 256]
def k0_off40 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v414_r0 : Index := Scalar.indexCast v340_r0
  let c256_395_r0 : Index := 256#32
  let c512_396_r0 : Index := 512#32
  ![v414_r0.toNat, 256, 512]
def k0_off41 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v419_r0 : Index := Scalar.indexCast v340_r0
  let c256_397_r0 : Index := 256#32
  let c768_398_r0 : Index := 768#32
  ![v419_r0.toNat, 256, 768]
def k0_off42 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v424_r0 : Index := Scalar.indexCast v340_r0
  let c256_399_r0 : Index := 256#32
  let c1024_400_r0 : Index := 1024#32
  ![v424_r0.toNat, 256, 1024]
def k0_off43 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v429_r0 : Index := Scalar.indexCast v340_r0
  let c256_401_r0 : Index := 256#32
  let c1280_402_r0 : Index := 1280#32
  ![v429_r0.toNat, 256, 1280]
def k0_off44 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v434_r0 : Index := Scalar.indexCast v340_r0
  let c256_403_r0 : Index := 256#32
  let c1536_404_r0 : Index := 1536#32
  ![v434_r0.toNat, 256, 1536]
def k0_off45 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v439_r0 : Index := Scalar.indexCast v340_r0
  let c256_405_r0 : Index := 256#32
  let c1792_406_r0 : Index := 1792#32
  ![v439_r0.toNat, 256, 1792]
def k0_off46 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let v444_r0 : Index := Scalar.indexCast arg21_r0
  let c0_407_r0 : Index := 0#32
  let c512_408_r0 : Index := 512#32
  ![v444_r0.toNat, 0, 512]
def k0_off47 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v447_r0 : Index := Scalar.indexCast v340_r0
  let c512_409_r0 : Index := 512#32
  let c0_410_r0 : Index := 0#32
  ![v447_r0.toNat, 512, 0]
def k0_off48 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v452_r0 : Index := Scalar.indexCast v340_r0
  let c512_411_r0 : Index := 512#32
  let c256_412_r0 : Index := 256#32
  ![v452_r0.toNat, 512, 256]
def k0_off49 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v457_r0 : Index := Scalar.indexCast v340_r0
  let c512_413_r0 : Index := 512#32
  let c512_414_r0 : Index := 512#32
  ![v457_r0.toNat, 512, 512]
def k0_off50 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v462_r0 : Index := Scalar.indexCast v340_r0
  let c512_415_r0 : Index := 512#32
  let c768_416_r0 : Index := 768#32
  ![v462_r0.toNat, 512, 768]
def k0_off51 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v467_r0 : Index := Scalar.indexCast v340_r0
  let c512_417_r0 : Index := 512#32
  let c1024_418_r0 : Index := 1024#32
  ![v467_r0.toNat, 512, 1024]
def k0_off52 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v472_r0 : Index := Scalar.indexCast v340_r0
  let c512_419_r0 : Index := 512#32
  let c1280_420_r0 : Index := 1280#32
  ![v472_r0.toNat, 512, 1280]
def k0_off53 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v477_r0 : Index := Scalar.indexCast v340_r0
  let c512_421_r0 : Index := 512#32
  let c1536_422_r0 : Index := 1536#32
  ![v477_r0.toNat, 512, 1536]
def k0_off54 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v482_r0 : Index := Scalar.indexCast v340_r0
  let c512_423_r0 : Index := 512#32
  let c1792_424_r0 : Index := 1792#32
  ![v482_r0.toNat, 512, 1792]
def k0_off55 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let v487_r0 : Index := Scalar.indexCast arg21_r0
  let c0_425_r0 : Index := 0#32
  let c768_426_r0 : Index := 768#32
  ![v487_r0.toNat, 0, 768]
def k0_off56 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v490_r0 : Index := Scalar.indexCast v340_r0
  let c768_427_r0 : Index := 768#32
  let c0_428_r0 : Index := 0#32
  ![v490_r0.toNat, 768, 0]
def k0_off57 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v495_r0 : Index := Scalar.indexCast v340_r0
  let c768_429_r0 : Index := 768#32
  let c256_430_r0 : Index := 256#32
  ![v495_r0.toNat, 768, 256]
def k0_off58 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v500_r0 : Index := Scalar.indexCast v340_r0
  let c768_431_r0 : Index := 768#32
  let c512_432_r0 : Index := 512#32
  ![v500_r0.toNat, 768, 512]
def k0_off59 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v505_r0 : Index := Scalar.indexCast v340_r0
  let c768_433_r0 : Index := 768#32
  let c768_434_r0 : Index := 768#32
  ![v505_r0.toNat, 768, 768]
def k0_off60 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v510_r0 : Index := Scalar.indexCast v340_r0
  let c768_435_r0 : Index := 768#32
  let c1024_436_r0 : Index := 1024#32
  ![v510_r0.toNat, 768, 1024]
def k0_off61 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v515_r0 : Index := Scalar.indexCast v340_r0
  let c768_437_r0 : Index := 768#32
  let c1280_438_r0 : Index := 1280#32
  ![v515_r0.toNat, 768, 1280]
def k0_off62 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v520_r0 : Index := Scalar.indexCast v340_r0
  let c768_439_r0 : Index := 768#32
  let c1536_440_r0 : Index := 1536#32
  ![v520_r0.toNat, 768, 1536]
def k0_off63 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v525_r0 : Index := Scalar.indexCast v340_r0
  let c768_441_r0 : Index := 768#32
  let c1792_442_r0 : Index := 1792#32
  ![v525_r0.toNat, 768, 1792]
def k0_off64 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let v530_r0 : Index := Scalar.indexCast arg21_r0
  let c0_443_r0 : Index := 0#32
  let c1024_444_r0 : Index := 1024#32
  ![v530_r0.toNat, 0, 1024]
def k0_off65 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v533_r0 : Index := Scalar.indexCast v340_r0
  let c1024_445_r0 : Index := 1024#32
  let c0_446_r0 : Index := 0#32
  ![v533_r0.toNat, 1024, 0]
def k0_off66 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v538_r0 : Index := Scalar.indexCast v340_r0
  let c1024_447_r0 : Index := 1024#32
  let c256_448_r0 : Index := 256#32
  ![v538_r0.toNat, 1024, 256]
def k0_off67 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v543_r0 : Index := Scalar.indexCast v340_r0
  let c1024_449_r0 : Index := 1024#32
  let c512_450_r0 : Index := 512#32
  ![v543_r0.toNat, 1024, 512]
def k0_off68 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v548_r0 : Index := Scalar.indexCast v340_r0
  let c1024_451_r0 : Index := 1024#32
  let c768_452_r0 : Index := 768#32
  ![v548_r0.toNat, 1024, 768]
def k0_off69 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v553_r0 : Index := Scalar.indexCast v340_r0
  let c1024_453_r0 : Index := 1024#32
  let c1024_454_r0 : Index := 1024#32
  ![v553_r0.toNat, 1024, 1024]
def k0_off70 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v558_r0 : Index := Scalar.indexCast v340_r0
  let c1024_455_r0 : Index := 1024#32
  let c1280_456_r0 : Index := 1280#32
  ![v558_r0.toNat, 1024, 1280]
def k0_off71 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v563_r0 : Index := Scalar.indexCast v340_r0
  let c1024_457_r0 : Index := 1024#32
  let c1536_458_r0 : Index := 1536#32
  ![v563_r0.toNat, 1024, 1536]
def k0_off72 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v568_r0 : Index := Scalar.indexCast v340_r0
  let c1024_459_r0 : Index := 1024#32
  let c1792_460_r0 : Index := 1792#32
  ![v568_r0.toNat, 1024, 1792]
def k0_off73 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let v573_r0 : Index := Scalar.indexCast arg21_r0
  let c0_461_r0 : Index := 0#32
  let c1280_462_r0 : Index := 1280#32
  ![v573_r0.toNat, 0, 1280]
def k0_off74 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v576_r0 : Index := Scalar.indexCast v340_r0
  let c1280_463_r0 : Index := 1280#32
  let c0_464_r0 : Index := 0#32
  ![v576_r0.toNat, 1280, 0]
def k0_off75 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v581_r0 : Index := Scalar.indexCast v340_r0
  let c1280_465_r0 : Index := 1280#32
  let c256_466_r0 : Index := 256#32
  ![v581_r0.toNat, 1280, 256]
def k0_off76 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v586_r0 : Index := Scalar.indexCast v340_r0
  let c1280_467_r0 : Index := 1280#32
  let c512_468_r0 : Index := 512#32
  ![v586_r0.toNat, 1280, 512]
def k0_off77 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v591_r0 : Index := Scalar.indexCast v340_r0
  let c1280_469_r0 : Index := 1280#32
  let c768_470_r0 : Index := 768#32
  ![v591_r0.toNat, 1280, 768]
def k0_off78 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v596_r0 : Index := Scalar.indexCast v340_r0
  let c1280_471_r0 : Index := 1280#32
  let c1024_472_r0 : Index := 1024#32
  ![v596_r0.toNat, 1280, 1024]
def k0_off79 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v601_r0 : Index := Scalar.indexCast v340_r0
  let c1280_473_r0 : Index := 1280#32
  let c1280_474_r0 : Index := 1280#32
  ![v601_r0.toNat, 1280, 1280]
def k0_off80 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v606_r0 : Index := Scalar.indexCast v340_r0
  let c1280_475_r0 : Index := 1280#32
  let c1536_476_r0 : Index := 1536#32
  ![v606_r0.toNat, 1280, 1536]
def k0_off81 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v611_r0 : Index := Scalar.indexCast v340_r0
  let c1280_477_r0 : Index := 1280#32
  let c1792_478_r0 : Index := 1792#32
  ![v611_r0.toNat, 1280, 1792]
def k0_off82 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let v616_r0 : Index := Scalar.indexCast arg21_r0
  let c0_479_r0 : Index := 0#32
  let c1536_480_r0 : Index := 1536#32
  ![v616_r0.toNat, 0, 1536]
def k0_off83 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v619_r0 : Index := Scalar.indexCast v340_r0
  let c1536_481_r0 : Index := 1536#32
  let c0_482_r0 : Index := 0#32
  ![v619_r0.toNat, 1536, 0]
def k0_off84 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v624_r0 : Index := Scalar.indexCast v340_r0
  let c1536_483_r0 : Index := 1536#32
  let c256_484_r0 : Index := 256#32
  ![v624_r0.toNat, 1536, 256]
def k0_off85 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v629_r0 : Index := Scalar.indexCast v340_r0
  let c1536_485_r0 : Index := 1536#32
  let c512_486_r0 : Index := 512#32
  ![v629_r0.toNat, 1536, 512]
def k0_off86 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v634_r0 : Index := Scalar.indexCast v340_r0
  let c1536_487_r0 : Index := 1536#32
  let c768_488_r0 : Index := 768#32
  ![v634_r0.toNat, 1536, 768]
def k0_off87 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v639_r0 : Index := Scalar.indexCast v340_r0
  let c1536_489_r0 : Index := 1536#32
  let c1024_490_r0 : Index := 1024#32
  ![v639_r0.toNat, 1536, 1024]
def k0_off88 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v644_r0 : Index := Scalar.indexCast v340_r0
  let c1536_491_r0 : Index := 1536#32
  let c1280_492_r0 : Index := 1280#32
  ![v644_r0.toNat, 1536, 1280]
def k0_off89 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v649_r0 : Index := Scalar.indexCast v340_r0
  let c1536_493_r0 : Index := 1536#32
  let c1536_494_r0 : Index := 1536#32
  ![v649_r0.toNat, 1536, 1536]
def k0_off90 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v654_r0 : Index := Scalar.indexCast v340_r0
  let c1536_495_r0 : Index := 1536#32
  let c1792_496_r0 : Index := 1792#32
  ![v654_r0.toNat, 1536, 1792]
def k0_off91 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let v659_r0 : Index := Scalar.indexCast arg21_r0
  let c0_497_r0 : Index := 0#32
  let c1792_498_r0 : Index := 1792#32
  ![v659_r0.toNat, 0, 1792]
def k0_off92 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v662_r0 : Index := Scalar.indexCast v340_r0
  let c1792_499_r0 : Index := 1792#32
  let c0_500_r0 : Index := 0#32
  ![v662_r0.toNat, 1792, 0]
def k0_off93 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v667_r0 : Index := Scalar.indexCast v340_r0
  let c1792_501_r0 : Index := 1792#32
  let c256_502_r0 : Index := 256#32
  ![v667_r0.toNat, 1792, 256]
def k0_off94 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v672_r0 : Index := Scalar.indexCast v340_r0
  let c1792_503_r0 : Index := 1792#32
  let c512_504_r0 : Index := 512#32
  ![v672_r0.toNat, 1792, 512]
def k0_off95 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v677_r0 : Index := Scalar.indexCast v340_r0
  let c1792_505_r0 : Index := 1792#32
  let c768_506_r0 : Index := 768#32
  ![v677_r0.toNat, 1792, 768]
def k0_off96 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v682_r0 : Index := Scalar.indexCast v340_r0
  let c1792_507_r0 : Index := 1792#32
  let c1024_508_r0 : Index := 1024#32
  ![v682_r0.toNat, 1792, 1024]
def k0_off97 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v687_r0 : Index := Scalar.indexCast v340_r0
  let c1792_509_r0 : Index := 1792#32
  let c1280_510_r0 : Index := 1280#32
  ![v687_r0.toNat, 1792, 1280]
def k0_off98 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v692_r0 : Index := Scalar.indexCast v340_r0
  let c1792_511_r0 : Index := 1792#32
  let c1536_512_r0 : Index := 1536#32
  ![v692_r0.toNat, 1792, 1536]
def k0_off99 (k0_t1 : Fin k0_t1_loop.trips) : Fin 3 → Nat :=
  let c0_i32_268_r0 : BitVec 32 := 0#32
  let c1_i32_269_r0 : BitVec 32 := 1#32
  let arg21_r0 : BitVec 32 := Scf.iv c0_i32_268_r0 c1_i32_269_r0 k0_t1
  let c8_i32_354_r0 : BitVec 32 := 8#32
  let v340_r0 : BitVec 32 := Scalar.remsi arg21_r0 c8_i32_354_r0
  let v697_r0 : Index := Scalar.indexCast v340_r0
  let c1792_513_r0 : Index := 1792#32
  let c1792_514_r0 : Index := 1792#32
  ![v697_r0.toNat, 1792, 1792]
@[reducible] def k0_t2_loop : Scf.Loop 32 :=
  let c0_i32_332_r0 : BitVec 32 := 0#32
  let c5_i32_333_r0 : BitVec 32 := 5#32
  let v308_r0 : BitVec 32 := Scalar.addi c0_i32_332_r0 c5_i32_333_r0
  let c1_i32_334_r0 : BitVec 32 := 1#32
  ⟨c0_i32_332_r0, v308_r0, c1_i32_334_r0⟩
def k0_cond4 (k0_t2 : Fin k0_t2_loop.trips) : BitVec 1 :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c1_i32_356_r0 : BitVec 32 := 1#32
  let v342_r0 : BitVec 32 := Scalar.subi v340_r0 c1_i32_356_r0
  let c8_i32_357_r0 : BitVec 32 := 8#32
  let v343_r0 : BitVec 32 := Scalar.addi v342_r0 c8_i32_357_r0
  let c15_i32_359_r0 : BitVec 32 := 15#32
  let v345_r0 : BitVec 1 := Scalar.cmpi .slt v343_r0 c15_i32_359_r0
  let v346_r0 : BitVec 32 := Scalar.extui v345_r0
  let c0_i32_360_r0 : BitVec 32 := 0#32
  let v347_r0 : BitVec 1 := Scalar.cmpi .ne v346_r0 c0_i32_360_r0
  v347_r0

def k0_off100 (k0_t2 : Fin k0_t2_loop.trips) : Fin 1 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c1_i32_356_r0 : BitVec 32 := 1#32
  let v342_r0 : BitVec 32 := Scalar.subi v340_r0 c1_i32_356_r0
  let c8_i32_357_r0 : BitVec 32 := 8#32
  let v343_r0 : BitVec 32 := Scalar.addi v342_r0 c8_i32_357_r0
  let c8_i32_358_r0 : BitVec 32 := 8#32
  let v344_r0 : BitVec 32 := Scalar.remsi v343_r0 c8_i32_358_r0
  ![v344_r0.toNat]
def k0_off101 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c1_i32_356_r0 : BitVec 32 := 1#32
  let v342_r0 : BitVec 32 := Scalar.subi v340_r0 c1_i32_356_r0
  let c8_i32_357_r0 : BitVec 32 := 8#32
  let v343_r0 : BitVec 32 := Scalar.addi v342_r0 c8_i32_357_r0
  let c8_i32_358_r0 : BitVec 32 := 8#32
  let v344_r0 : BitVec 32 := Scalar.remsi v343_r0 c8_i32_358_r0
  let c0_i32_625_r0 : BitVec 32 := 0#32
  let c0_i32_626_r0 : BitVec 32 := 0#32
  ![v344_r0.toNat, 0, 0]
def k0_off102 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c1_i32_356_r0 : BitVec 32 := 1#32
  let v342_r0 : BitVec 32 := Scalar.subi v340_r0 c1_i32_356_r0
  let c8_i32_357_r0 : BitVec 32 := 8#32
  let v343_r0 : BitVec 32 := Scalar.addi v342_r0 c8_i32_357_r0
  let c0_i32_627_r0 : BitVec 32 := 0#32
  let c0_i32_628_r0 : BitVec 32 := 0#32
  ![v343_r0.toNat, 0, 0]
def k0_cond5 (k0_t2 : Fin k0_t2_loop.trips) : BitVec 1 :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c1_i32_356_r0 : BitVec 32 := 1#32
  let v342_r0 : BitVec 32 := Scalar.subi v340_r0 c1_i32_356_r0
  let c8_i32_357_r0 : BitVec 32 := 8#32
  let v343_r0 : BitVec 32 := Scalar.addi v342_r0 c8_i32_357_r0
  let c15_i32_361_r0 : BitVec 32 := 15#32
  let v348_r0 : BitVec 1 := Scalar.cmpi .sge v343_r0 c15_i32_361_r0
  let c20_i32_r0 : BitVec 32 := 20#32
  let v349_r0 : BitVec 1 := Scalar.cmpi .slt v343_r0 c20_i32_r0
  let v350_r0 : BitVec 1 := Scalar.andi v348_r0 v349_r0
  let v351_r0 : BitVec 32 := Scalar.extui v350_r0
  let c0_i32_362_r0 : BitVec 32 := 0#32
  let v352_r0 : BitVec 1 := Scalar.cmpi .ne v351_r0 c0_i32_362_r0
  v352_r0

def k0_off103 (k0_t2 : Fin k0_t2_loop.trips) : Fin 1 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c1_i32_356_r0 : BitVec 32 := 1#32
  let v342_r0 : BitVec 32 := Scalar.subi v340_r0 c1_i32_356_r0
  let c8_i32_357_r0 : BitVec 32 := 8#32
  let v343_r0 : BitVec 32 := Scalar.addi v342_r0 c8_i32_357_r0
  let c8_i32_358_r0 : BitVec 32 := 8#32
  let v344_r0 : BitVec 32 := Scalar.remsi v343_r0 c8_i32_358_r0
  ![v344_r0.toNat]
def k0_off104 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c1_i32_356_r0 : BitVec 32 := 1#32
  let v342_r0 : BitVec 32 := Scalar.subi v340_r0 c1_i32_356_r0
  let c8_i32_357_r0 : BitVec 32 := 8#32
  let v343_r0 : BitVec 32 := Scalar.addi v342_r0 c8_i32_357_r0
  let c8_i32_358_r0 : BitVec 32 := 8#32
  let v344_r0 : BitVec 32 := Scalar.remsi v343_r0 c8_i32_358_r0
  let c0_i32_650_r0 : BitVec 32 := 0#32
  let c0_i32_651_r0 : BitVec 32 := 0#32
  ![v344_r0.toNat, 0, 0]
def k0_off105 (k0_t2 : Fin k0_t2_loop.trips) (c0_i32_627_r0 : BitVec 32) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c1_i32_356_r0 : BitVec 32 := 1#32
  let v342_r0 : BitVec 32 := Scalar.subi v340_r0 c1_i32_356_r0
  let c8_i32_357_r0 : BitVec 32 := 8#32
  let v343_r0 : BitVec 32 := Scalar.addi v342_r0 c8_i32_357_r0
  let c15_i32_625_r0 : BitVec 32 := 15#32
  let v809_r0 : BitVec 32 := Scalar.subi v343_r0 c15_i32_625_r0
  let c3_i32_626_r0 : BitVec 32 := 3#32
  let v810_r0 : BitVec 32 := Scalar.muli v809_r0 c3_i32_626_r0
  let v811_r0 : BitVec 32 := Scalar.addi v810_r0 c0_i32_627_r0
  let c0_i32_652_r0 : BitVec 32 := 0#32
  let c2048_i32_653_r0 : BitVec 32 := 2048#32
  ![v811_r0.toNat, 0, 2048]
def k0_off106 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c1_i32_356_r0 : BitVec 32 := 1#32
  let v342_r0 : BitVec 32 := Scalar.subi v340_r0 c1_i32_356_r0
  let c8_i32_357_r0 : BitVec 32 := 8#32
  let v343_r0 : BitVec 32 := Scalar.addi v342_r0 c8_i32_357_r0
  let c8_i32_358_r0 : BitVec 32 := 8#32
  let v344_r0 : BitVec 32 := Scalar.remsi v343_r0 c8_i32_358_r0
  let c0_i32_654_r0 : BitVec 32 := 0#32
  let c512_i32_655_r0 : BitVec 32 := 512#32
  ![v344_r0.toNat, 0, 512]
def k0_off107 (k0_t2 : Fin k0_t2_loop.trips) (c0_i32_629_r0 : BitVec 32) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c1_i32_356_r0 : BitVec 32 := 1#32
  let v342_r0 : BitVec 32 := Scalar.subi v340_r0 c1_i32_356_r0
  let c8_i32_357_r0 : BitVec 32 := 8#32
  let v343_r0 : BitVec 32 := Scalar.addi v342_r0 c8_i32_357_r0
  let c15_i32_625_r0 : BitVec 32 := 15#32
  let v809_r0 : BitVec 32 := Scalar.subi v343_r0 c15_i32_625_r0
  let c3_i32_628_r0 : BitVec 32 := 3#32
  let v812_r0 : BitVec 32 := Scalar.muli v809_r0 c3_i32_628_r0
  let v813_r0 : BitVec 32 := Scalar.addi v812_r0 c0_i32_629_r0
  let c512_i32_656_r0 : BitVec 32 := 512#32
  let c2048_i32_657_r0 : BitVec 32 := 2048#32
  ![v813_r0.toNat, 512, 2048]
def k0_off108 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c1_i32_356_r0 : BitVec 32 := 1#32
  let v342_r0 : BitVec 32 := Scalar.subi v340_r0 c1_i32_356_r0
  let c8_i32_357_r0 : BitVec 32 := 8#32
  let v343_r0 : BitVec 32 := Scalar.addi v342_r0 c8_i32_357_r0
  let c8_i32_358_r0 : BitVec 32 := 8#32
  let v344_r0 : BitVec 32 := Scalar.remsi v343_r0 c8_i32_358_r0
  let c0_i32_658_r0 : BitVec 32 := 0#32
  let c1024_i32_659_r0 : BitVec 32 := 1024#32
  ![v344_r0.toNat, 0, 1024]
def k0_off109 (k0_t2 : Fin k0_t2_loop.trips) (c0_i32_631_r0 : BitVec 32) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c1_i32_356_r0 : BitVec 32 := 1#32
  let v342_r0 : BitVec 32 := Scalar.subi v340_r0 c1_i32_356_r0
  let c8_i32_357_r0 : BitVec 32 := 8#32
  let v343_r0 : BitVec 32 := Scalar.addi v342_r0 c8_i32_357_r0
  let c15_i32_625_r0 : BitVec 32 := 15#32
  let v809_r0 : BitVec 32 := Scalar.subi v343_r0 c15_i32_625_r0
  let c3_i32_630_r0 : BitVec 32 := 3#32
  let v814_r0 : BitVec 32 := Scalar.muli v809_r0 c3_i32_630_r0
  let v815_r0 : BitVec 32 := Scalar.addi v814_r0 c0_i32_631_r0
  let c1024_i32_660_r0 : BitVec 32 := 1024#32
  let c2048_i32_661_r0 : BitVec 32 := 2048#32
  ![v815_r0.toNat, 1024, 2048]
def k0_off110 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c1_i32_356_r0 : BitVec 32 := 1#32
  let v342_r0 : BitVec 32 := Scalar.subi v340_r0 c1_i32_356_r0
  let c8_i32_357_r0 : BitVec 32 := 8#32
  let v343_r0 : BitVec 32 := Scalar.addi v342_r0 c8_i32_357_r0
  let c8_i32_358_r0 : BitVec 32 := 8#32
  let v344_r0 : BitVec 32 := Scalar.remsi v343_r0 c8_i32_358_r0
  let c0_i32_662_r0 : BitVec 32 := 0#32
  let c1536_i32_663_r0 : BitVec 32 := 1536#32
  ![v344_r0.toNat, 0, 1536]
def k0_off111 (k0_t2 : Fin k0_t2_loop.trips) (c0_i32_633_r0 : BitVec 32) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c1_i32_356_r0 : BitVec 32 := 1#32
  let v342_r0 : BitVec 32 := Scalar.subi v340_r0 c1_i32_356_r0
  let c8_i32_357_r0 : BitVec 32 := 8#32
  let v343_r0 : BitVec 32 := Scalar.addi v342_r0 c8_i32_357_r0
  let c15_i32_625_r0 : BitVec 32 := 15#32
  let v809_r0 : BitVec 32 := Scalar.subi v343_r0 c15_i32_625_r0
  let c3_i32_632_r0 : BitVec 32 := 3#32
  let v816_r0 : BitVec 32 := Scalar.muli v809_r0 c3_i32_632_r0
  let v817_r0 : BitVec 32 := Scalar.addi v816_r0 c0_i32_633_r0
  let c1536_i32_664_r0 : BitVec 32 := 1536#32
  let c2048_i32_665_r0 : BitVec 32 := 2048#32
  ![v817_r0.toNat, 1536, 2048]
def k0_off112 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c1_i32_356_r0 : BitVec 32 := 1#32
  let v342_r0 : BitVec 32 := Scalar.subi v340_r0 c1_i32_356_r0
  let c8_i32_357_r0 : BitVec 32 := 8#32
  let v343_r0 : BitVec 32 := Scalar.addi v342_r0 c8_i32_357_r0
  let c8_i32_358_r0 : BitVec 32 := 8#32
  let v344_r0 : BitVec 32 := Scalar.remsi v343_r0 c8_i32_358_r0
  let c512_i32_666_r0 : BitVec 32 := 512#32
  let c0_i32_667_r0 : BitVec 32 := 0#32
  ![v344_r0.toNat, 512, 0]
def k0_off113 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c1_i32_356_r0 : BitVec 32 := 1#32
  let v342_r0 : BitVec 32 := Scalar.subi v340_r0 c1_i32_356_r0
  let c8_i32_357_r0 : BitVec 32 := 8#32
  let v343_r0 : BitVec 32 := Scalar.addi v342_r0 c8_i32_357_r0
  let c8_i32_358_r0 : BitVec 32 := 8#32
  let v344_r0 : BitVec 32 := Scalar.remsi v343_r0 c8_i32_358_r0
  let c512_i32_670_r0 : BitVec 32 := 512#32
  let c512_i32_671_r0 : BitVec 32 := 512#32
  ![v344_r0.toNat, 512, 512]
def k0_off114 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c1_i32_356_r0 : BitVec 32 := 1#32
  let v342_r0 : BitVec 32 := Scalar.subi v340_r0 c1_i32_356_r0
  let c8_i32_357_r0 : BitVec 32 := 8#32
  let v343_r0 : BitVec 32 := Scalar.addi v342_r0 c8_i32_357_r0
  let c8_i32_358_r0 : BitVec 32 := 8#32
  let v344_r0 : BitVec 32 := Scalar.remsi v343_r0 c8_i32_358_r0
  let c512_i32_674_r0 : BitVec 32 := 512#32
  let c1024_i32_675_r0 : BitVec 32 := 1024#32
  ![v344_r0.toNat, 512, 1024]
def k0_off115 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c1_i32_356_r0 : BitVec 32 := 1#32
  let v342_r0 : BitVec 32 := Scalar.subi v340_r0 c1_i32_356_r0
  let c8_i32_357_r0 : BitVec 32 := 8#32
  let v343_r0 : BitVec 32 := Scalar.addi v342_r0 c8_i32_357_r0
  let c8_i32_358_r0 : BitVec 32 := 8#32
  let v344_r0 : BitVec 32 := Scalar.remsi v343_r0 c8_i32_358_r0
  let c512_i32_678_r0 : BitVec 32 := 512#32
  let c1536_i32_679_r0 : BitVec 32 := 1536#32
  ![v344_r0.toNat, 512, 1536]
def k0_off116 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c1_i32_356_r0 : BitVec 32 := 1#32
  let v342_r0 : BitVec 32 := Scalar.subi v340_r0 c1_i32_356_r0
  let c8_i32_357_r0 : BitVec 32 := 8#32
  let v343_r0 : BitVec 32 := Scalar.addi v342_r0 c8_i32_357_r0
  let c8_i32_358_r0 : BitVec 32 := 8#32
  let v344_r0 : BitVec 32 := Scalar.remsi v343_r0 c8_i32_358_r0
  let c1024_i32_682_r0 : BitVec 32 := 1024#32
  let c0_i32_683_r0 : BitVec 32 := 0#32
  ![v344_r0.toNat, 1024, 0]
def k0_off117 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c1_i32_356_r0 : BitVec 32 := 1#32
  let v342_r0 : BitVec 32 := Scalar.subi v340_r0 c1_i32_356_r0
  let c8_i32_357_r0 : BitVec 32 := 8#32
  let v343_r0 : BitVec 32 := Scalar.addi v342_r0 c8_i32_357_r0
  let c8_i32_358_r0 : BitVec 32 := 8#32
  let v344_r0 : BitVec 32 := Scalar.remsi v343_r0 c8_i32_358_r0
  let c1024_i32_686_r0 : BitVec 32 := 1024#32
  let c512_i32_687_r0 : BitVec 32 := 512#32
  ![v344_r0.toNat, 1024, 512]
def k0_off118 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c1_i32_356_r0 : BitVec 32 := 1#32
  let v342_r0 : BitVec 32 := Scalar.subi v340_r0 c1_i32_356_r0
  let c8_i32_357_r0 : BitVec 32 := 8#32
  let v343_r0 : BitVec 32 := Scalar.addi v342_r0 c8_i32_357_r0
  let c8_i32_358_r0 : BitVec 32 := 8#32
  let v344_r0 : BitVec 32 := Scalar.remsi v343_r0 c8_i32_358_r0
  let c1024_i32_690_r0 : BitVec 32 := 1024#32
  let c1024_i32_691_r0 : BitVec 32 := 1024#32
  ![v344_r0.toNat, 1024, 1024]
def k0_off119 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c1_i32_356_r0 : BitVec 32 := 1#32
  let v342_r0 : BitVec 32 := Scalar.subi v340_r0 c1_i32_356_r0
  let c8_i32_357_r0 : BitVec 32 := 8#32
  let v343_r0 : BitVec 32 := Scalar.addi v342_r0 c8_i32_357_r0
  let c8_i32_358_r0 : BitVec 32 := 8#32
  let v344_r0 : BitVec 32 := Scalar.remsi v343_r0 c8_i32_358_r0
  let c1024_i32_694_r0 : BitVec 32 := 1024#32
  let c1536_i32_695_r0 : BitVec 32 := 1536#32
  ![v344_r0.toNat, 1024, 1536]
def k0_off120 (k0_t2 : Fin k0_t2_loop.trips) : Fin 1 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  ![v341_r0.toNat]
def k0_off121 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let c0_i32_387_r0 : BitVec 32 := 0#32
  let c0_i32_388_r0 : BitVec 32 := 0#32
  ![v341_r0.toNat, 0, 0]
def k0_off122 (k0_t2 : Fin k0_t2_loop.trips) (c0_i32_364_r0 : BitVec 32) : Fin 3 → Nat :=
  let c0_i32_332_r0 : BitVec 32 := 0#32
  let c1_i32_334_r0 : BitVec 32 := 1#32
  let arg21_r0 : BitVec 32 := Scf.iv c0_i32_332_r0 c1_i32_334_r0 k0_t2
  let c3_i32_363_r0 : BitVec 32 := 3#32
  let v353_r0 : BitVec 32 := Scalar.muli arg21_r0 c3_i32_363_r0
  let v354_r0 : BitVec 32 := Scalar.addi v353_r0 c0_i32_364_r0
  let c0_i32_389_r0 : BitVec 32 := 0#32
  let c2048_i32_390_r0 : BitVec 32 := 2048#32
  ![v354_r0.toNat, 0, 2048]
def k0_off123 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let c0_i32_391_r0 : BitVec 32 := 0#32
  let c512_i32_r0 : BitVec 32 := 512#32
  ![v341_r0.toNat, 0, 512]
def k0_off124 (k0_t2 : Fin k0_t2_loop.trips) (c0_i32_366_r0 : BitVec 32) : Fin 3 → Nat :=
  let c0_i32_332_r0 : BitVec 32 := 0#32
  let c1_i32_334_r0 : BitVec 32 := 1#32
  let arg21_r0 : BitVec 32 := Scf.iv c0_i32_332_r0 c1_i32_334_r0 k0_t2
  let c3_i32_365_r0 : BitVec 32 := 3#32
  let v355_r0 : BitVec 32 := Scalar.muli arg21_r0 c3_i32_365_r0
  let v356_r0 : BitVec 32 := Scalar.addi v355_r0 c0_i32_366_r0
  let c512_i32_392_r0 : BitVec 32 := 512#32
  let c2048_i32_393_r0 : BitVec 32 := 2048#32
  ![v356_r0.toNat, 512, 2048]
def k0_off125 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let c0_i32_394_r0 : BitVec 32 := 0#32
  let c1024_i32_r0 : BitVec 32 := 1024#32
  ![v341_r0.toNat, 0, 1024]
def k0_off126 (k0_t2 : Fin k0_t2_loop.trips) (c0_i32_368_r0 : BitVec 32) : Fin 3 → Nat :=
  let c0_i32_332_r0 : BitVec 32 := 0#32
  let c1_i32_334_r0 : BitVec 32 := 1#32
  let arg21_r0 : BitVec 32 := Scf.iv c0_i32_332_r0 c1_i32_334_r0 k0_t2
  let c3_i32_367_r0 : BitVec 32 := 3#32
  let v357_r0 : BitVec 32 := Scalar.muli arg21_r0 c3_i32_367_r0
  let v358_r0 : BitVec 32 := Scalar.addi v357_r0 c0_i32_368_r0
  let c1024_i32_395_r0 : BitVec 32 := 1024#32
  let c2048_i32_396_r0 : BitVec 32 := 2048#32
  ![v358_r0.toNat, 1024, 2048]
def k0_off127 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let c0_i32_397_r0 : BitVec 32 := 0#32
  let c1536_i32_r0 : BitVec 32 := 1536#32
  ![v341_r0.toNat, 0, 1536]
def k0_off128 (k0_t2 : Fin k0_t2_loop.trips) (c0_i32_370_r0 : BitVec 32) : Fin 3 → Nat :=
  let c0_i32_332_r0 : BitVec 32 := 0#32
  let c1_i32_334_r0 : BitVec 32 := 1#32
  let arg21_r0 : BitVec 32 := Scf.iv c0_i32_332_r0 c1_i32_334_r0 k0_t2
  let c3_i32_369_r0 : BitVec 32 := 3#32
  let v359_r0 : BitVec 32 := Scalar.muli arg21_r0 c3_i32_369_r0
  let v360_r0 : BitVec 32 := Scalar.addi v359_r0 c0_i32_370_r0
  let c1536_i32_398_r0 : BitVec 32 := 1536#32
  let c2048_i32_399_r0 : BitVec 32 := 2048#32
  ![v360_r0.toNat, 1536, 2048]
def k0_off129 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let c512_i32_400_r0 : BitVec 32 := 512#32
  let c0_i32_401_r0 : BitVec 32 := 0#32
  ![v341_r0.toNat, 512, 0]
def k0_off130 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let c512_i32_404_r0 : BitVec 32 := 512#32
  let c512_i32_405_r0 : BitVec 32 := 512#32
  ![v341_r0.toNat, 512, 512]
def k0_off131 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let c512_i32_408_r0 : BitVec 32 := 512#32
  let c1024_i32_409_r0 : BitVec 32 := 1024#32
  ![v341_r0.toNat, 512, 1024]
def k0_off132 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let c512_i32_412_r0 : BitVec 32 := 512#32
  let c1536_i32_413_r0 : BitVec 32 := 1536#32
  ![v341_r0.toNat, 512, 1536]
def k0_off133 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let c1024_i32_416_r0 : BitVec 32 := 1024#32
  let c0_i32_417_r0 : BitVec 32 := 0#32
  ![v341_r0.toNat, 1024, 0]
def k0_off134 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let c1024_i32_420_r0 : BitVec 32 := 1024#32
  let c512_i32_421_r0 : BitVec 32 := 512#32
  ![v341_r0.toNat, 1024, 512]
def k0_off135 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let c1024_i32_424_r0 : BitVec 32 := 1024#32
  let c1024_i32_425_r0 : BitVec 32 := 1024#32
  ![v341_r0.toNat, 1024, 1024]
def k0_off136 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let c1024_i32_428_r0 : BitVec 32 := 1024#32
  let c1536_i32_429_r0 : BitVec 32 := 1536#32
  ![v341_r0.toNat, 1024, 1536]
def k0_off137 (k0_t2 : Fin k0_t2_loop.trips) (c0_i32_433_r0 : BitVec 32) : Fin 3 → Nat :=
  let c0_i32_332_r0 : BitVec 32 := 0#32
  let c1_i32_334_r0 : BitVec 32 := 1#32
  let arg21_r0 : BitVec 32 := Scf.iv c0_i32_332_r0 c1_i32_334_r0 k0_t2
  let c3_i32_432_r0 : BitVec 32 := 3#32
  let v449_r0 : BitVec 32 := Scalar.muli arg21_r0 c3_i32_432_r0
  let v450_r0 : BitVec 32 := Scalar.addi v449_r0 c0_i32_433_r0
  let v451_r0 : Index := Scalar.indexCast v450_r0
  let c0_434_r0 : Index := 0#32
  let c0_435_r0 : Index := 0#32
  ![v451_r0.toNat, 0, 0]
def k0_off138 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v454_r0 : Index := Scalar.indexCast v341_r0
  let c0_436_r0 : Index := 0#32
  let c0_437_r0 : Index := 0#32
  ![v454_r0.toNat, 0, 0]
def k0_off139 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v459_r0 : Index := Scalar.indexCast v341_r0
  let c0_438_r0 : Index := 0#32
  let c256_439_r0 : Index := 256#32
  ![v459_r0.toNat, 0, 256]
def k0_off140 (k0_t2 : Fin k0_t2_loop.trips) (c0_i32_441_r0 : BitVec 32) : Fin 3 → Nat :=
  let c0_i32_332_r0 : BitVec 32 := 0#32
  let c1_i32_334_r0 : BitVec 32 := 1#32
  let arg21_r0 : BitVec 32 := Scf.iv c0_i32_332_r0 c1_i32_334_r0 k0_t2
  let c3_i32_440_r0 : BitVec 32 := 3#32
  let v464_r0 : BitVec 32 := Scalar.muli arg21_r0 c3_i32_440_r0
  let v465_r0 : BitVec 32 := Scalar.addi v464_r0 c0_i32_441_r0
  let v466_r0 : Index := Scalar.indexCast v465_r0
  let c0_442_r0 : Index := 0#32
  let c256_443_r0 : Index := 256#32
  ![v466_r0.toNat, 0, 256]
def k0_off141 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v469_r0 : Index := Scalar.indexCast v341_r0
  let c256_444_r0 : Index := 256#32
  let c0_445_r0 : Index := 0#32
  ![v469_r0.toNat, 256, 0]
def k0_off142 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v474_r0 : Index := Scalar.indexCast v341_r0
  let c256_446_r0 : Index := 256#32
  let c256_447_r0 : Index := 256#32
  ![v474_r0.toNat, 256, 256]
def k0_off143 (k0_t2 : Fin k0_t2_loop.trips) (c0_i32_449_r0 : BitVec 32) : Fin 3 → Nat :=
  let c0_i32_332_r0 : BitVec 32 := 0#32
  let c1_i32_334_r0 : BitVec 32 := 1#32
  let arg21_r0 : BitVec 32 := Scf.iv c0_i32_332_r0 c1_i32_334_r0 k0_t2
  let c3_i32_448_r0 : BitVec 32 := 3#32
  let v479_r0 : BitVec 32 := Scalar.muli arg21_r0 c3_i32_448_r0
  let v480_r0 : BitVec 32 := Scalar.addi v479_r0 c0_i32_449_r0
  let v481_r0 : Index := Scalar.indexCast v480_r0
  let c0_450_r0 : Index := 0#32
  let c512_451_r0 : Index := 512#32
  ![v481_r0.toNat, 0, 512]
def k0_off144 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v484_r0 : Index := Scalar.indexCast v341_r0
  let c0_452_r0 : Index := 0#32
  let c512_453_r0 : Index := 512#32
  ![v484_r0.toNat, 0, 512]
def k0_off145 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v489_r0 : Index := Scalar.indexCast v341_r0
  let c0_454_r0 : Index := 0#32
  let c768_455_r0 : Index := 768#32
  ![v489_r0.toNat, 0, 768]
def k0_off146 (k0_t2 : Fin k0_t2_loop.trips) (c0_i32_457_r0 : BitVec 32) : Fin 3 → Nat :=
  let c0_i32_332_r0 : BitVec 32 := 0#32
  let c1_i32_334_r0 : BitVec 32 := 1#32
  let arg21_r0 : BitVec 32 := Scf.iv c0_i32_332_r0 c1_i32_334_r0 k0_t2
  let c3_i32_456_r0 : BitVec 32 := 3#32
  let v494_r0 : BitVec 32 := Scalar.muli arg21_r0 c3_i32_456_r0
  let v495_r0 : BitVec 32 := Scalar.addi v494_r0 c0_i32_457_r0
  let v496_r0 : Index := Scalar.indexCast v495_r0
  let c0_458_r0 : Index := 0#32
  let c768_459_r0 : Index := 768#32
  ![v496_r0.toNat, 0, 768]
def k0_off147 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v499_r0 : Index := Scalar.indexCast v341_r0
  let c256_460_r0 : Index := 256#32
  let c512_461_r0 : Index := 512#32
  ![v499_r0.toNat, 256, 512]
def k0_off148 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v504_r0 : Index := Scalar.indexCast v341_r0
  let c256_462_r0 : Index := 256#32
  let c768_463_r0 : Index := 768#32
  ![v504_r0.toNat, 256, 768]
def k0_off149 (k0_t2 : Fin k0_t2_loop.trips) (c0_i32_465_r0 : BitVec 32) : Fin 3 → Nat :=
  let c0_i32_332_r0 : BitVec 32 := 0#32
  let c1_i32_334_r0 : BitVec 32 := 1#32
  let arg21_r0 : BitVec 32 := Scf.iv c0_i32_332_r0 c1_i32_334_r0 k0_t2
  let c3_i32_464_r0 : BitVec 32 := 3#32
  let v509_r0 : BitVec 32 := Scalar.muli arg21_r0 c3_i32_464_r0
  let v510_r0 : BitVec 32 := Scalar.addi v509_r0 c0_i32_465_r0
  let v511_r0 : Index := Scalar.indexCast v510_r0
  let c0_466_r0 : Index := 0#32
  let c1024_467_r0 : Index := 1024#32
  ![v511_r0.toNat, 0, 1024]
def k0_off150 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v514_r0 : Index := Scalar.indexCast v341_r0
  let c0_468_r0 : Index := 0#32
  let c1024_469_r0 : Index := 1024#32
  ![v514_r0.toNat, 0, 1024]
def k0_off151 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v519_r0 : Index := Scalar.indexCast v341_r0
  let c0_470_r0 : Index := 0#32
  let c1280_471_r0 : Index := 1280#32
  ![v519_r0.toNat, 0, 1280]
def k0_off152 (k0_t2 : Fin k0_t2_loop.trips) (c0_i32_473_r0 : BitVec 32) : Fin 3 → Nat :=
  let c0_i32_332_r0 : BitVec 32 := 0#32
  let c1_i32_334_r0 : BitVec 32 := 1#32
  let arg21_r0 : BitVec 32 := Scf.iv c0_i32_332_r0 c1_i32_334_r0 k0_t2
  let c3_i32_472_r0 : BitVec 32 := 3#32
  let v524_r0 : BitVec 32 := Scalar.muli arg21_r0 c3_i32_472_r0
  let v525_r0 : BitVec 32 := Scalar.addi v524_r0 c0_i32_473_r0
  let v526_r0 : Index := Scalar.indexCast v525_r0
  let c0_474_r0 : Index := 0#32
  let c1280_475_r0 : Index := 1280#32
  ![v526_r0.toNat, 0, 1280]
def k0_off153 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v529_r0 : Index := Scalar.indexCast v341_r0
  let c256_476_r0 : Index := 256#32
  let c1024_477_r0 : Index := 1024#32
  ![v529_r0.toNat, 256, 1024]
def k0_off154 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v534_r0 : Index := Scalar.indexCast v341_r0
  let c256_478_r0 : Index := 256#32
  let c1280_479_r0 : Index := 1280#32
  ![v534_r0.toNat, 256, 1280]
def k0_off155 (k0_t2 : Fin k0_t2_loop.trips) (c0_i32_481_r0 : BitVec 32) : Fin 3 → Nat :=
  let c0_i32_332_r0 : BitVec 32 := 0#32
  let c1_i32_334_r0 : BitVec 32 := 1#32
  let arg21_r0 : BitVec 32 := Scf.iv c0_i32_332_r0 c1_i32_334_r0 k0_t2
  let c3_i32_480_r0 : BitVec 32 := 3#32
  let v539_r0 : BitVec 32 := Scalar.muli arg21_r0 c3_i32_480_r0
  let v540_r0 : BitVec 32 := Scalar.addi v539_r0 c0_i32_481_r0
  let v541_r0 : Index := Scalar.indexCast v540_r0
  let c0_482_r0 : Index := 0#32
  let c1536_483_r0 : Index := 1536#32
  ![v541_r0.toNat, 0, 1536]
def k0_off156 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v544_r0 : Index := Scalar.indexCast v341_r0
  let c0_484_r0 : Index := 0#32
  let c1536_485_r0 : Index := 1536#32
  ![v544_r0.toNat, 0, 1536]
def k0_off157 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v549_r0 : Index := Scalar.indexCast v341_r0
  let c0_486_r0 : Index := 0#32
  let c1792_487_r0 : Index := 1792#32
  ![v549_r0.toNat, 0, 1792]
def k0_off158 (k0_t2 : Fin k0_t2_loop.trips) (c0_i32_489_r0 : BitVec 32) : Fin 3 → Nat :=
  let c0_i32_332_r0 : BitVec 32 := 0#32
  let c1_i32_334_r0 : BitVec 32 := 1#32
  let arg21_r0 : BitVec 32 := Scf.iv c0_i32_332_r0 c1_i32_334_r0 k0_t2
  let c3_i32_488_r0 : BitVec 32 := 3#32
  let v554_r0 : BitVec 32 := Scalar.muli arg21_r0 c3_i32_488_r0
  let v555_r0 : BitVec 32 := Scalar.addi v554_r0 c0_i32_489_r0
  let v556_r0 : Index := Scalar.indexCast v555_r0
  let c0_490_r0 : Index := 0#32
  let c1792_491_r0 : Index := 1792#32
  ![v556_r0.toNat, 0, 1792]
def k0_off159 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v559_r0 : Index := Scalar.indexCast v341_r0
  let c256_492_r0 : Index := 256#32
  let c1536_493_r0 : Index := 1536#32
  ![v559_r0.toNat, 256, 1536]
def k0_off160 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v564_r0 : Index := Scalar.indexCast v341_r0
  let c256_494_r0 : Index := 256#32
  let c1792_495_r0 : Index := 1792#32
  ![v564_r0.toNat, 256, 1792]
def k0_off161 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v574_r0 : Index := Scalar.indexCast v341_r0
  let c512_500_r0 : Index := 512#32
  let c0_501_r0 : Index := 0#32
  ![v574_r0.toNat, 512, 0]
def k0_off162 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v579_r0 : Index := Scalar.indexCast v341_r0
  let c512_502_r0 : Index := 512#32
  let c256_503_r0 : Index := 256#32
  ![v579_r0.toNat, 512, 256]
def k0_off163 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v589_r0 : Index := Scalar.indexCast v341_r0
  let c768_508_r0 : Index := 768#32
  let c0_509_r0 : Index := 0#32
  ![v589_r0.toNat, 768, 0]
def k0_off164 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v594_r0 : Index := Scalar.indexCast v341_r0
  let c768_510_r0 : Index := 768#32
  let c256_511_r0 : Index := 256#32
  ![v594_r0.toNat, 768, 256]
def k0_off165 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v604_r0 : Index := Scalar.indexCast v341_r0
  let c512_516_r0 : Index := 512#32
  let c512_517_r0 : Index := 512#32
  ![v604_r0.toNat, 512, 512]
def k0_off166 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v609_r0 : Index := Scalar.indexCast v341_r0
  let c512_518_r0 : Index := 512#32
  let c768_519_r0 : Index := 768#32
  ![v609_r0.toNat, 512, 768]
def k0_off167 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v619_r0 : Index := Scalar.indexCast v341_r0
  let c768_524_r0 : Index := 768#32
  let c512_525_r0 : Index := 512#32
  ![v619_r0.toNat, 768, 512]
def k0_off168 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v624_r0 : Index := Scalar.indexCast v341_r0
  let c768_526_r0 : Index := 768#32
  let c768_527_r0 : Index := 768#32
  ![v624_r0.toNat, 768, 768]
def k0_off169 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v634_r0 : Index := Scalar.indexCast v341_r0
  let c512_532_r0 : Index := 512#32
  let c1024_533_r0 : Index := 1024#32
  ![v634_r0.toNat, 512, 1024]
def k0_off170 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v639_r0 : Index := Scalar.indexCast v341_r0
  let c512_534_r0 : Index := 512#32
  let c1280_535_r0 : Index := 1280#32
  ![v639_r0.toNat, 512, 1280]
def k0_off171 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v649_r0 : Index := Scalar.indexCast v341_r0
  let c768_540_r0 : Index := 768#32
  let c1024_541_r0 : Index := 1024#32
  ![v649_r0.toNat, 768, 1024]
def k0_off172 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v654_r0 : Index := Scalar.indexCast v341_r0
  let c768_542_r0 : Index := 768#32
  let c1280_543_r0 : Index := 1280#32
  ![v654_r0.toNat, 768, 1280]
def k0_off173 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v664_r0 : Index := Scalar.indexCast v341_r0
  let c512_548_r0 : Index := 512#32
  let c1536_549_r0 : Index := 1536#32
  ![v664_r0.toNat, 512, 1536]
def k0_off174 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v669_r0 : Index := Scalar.indexCast v341_r0
  let c512_550_r0 : Index := 512#32
  let c1792_551_r0 : Index := 1792#32
  ![v669_r0.toNat, 512, 1792]
def k0_off175 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v679_r0 : Index := Scalar.indexCast v341_r0
  let c768_556_r0 : Index := 768#32
  let c1536_557_r0 : Index := 1536#32
  ![v679_r0.toNat, 768, 1536]
def k0_off176 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v684_r0 : Index := Scalar.indexCast v341_r0
  let c768_558_r0 : Index := 768#32
  let c1792_559_r0 : Index := 1792#32
  ![v684_r0.toNat, 768, 1792]
def k0_off177 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v694_r0 : Index := Scalar.indexCast v341_r0
  let c1024_564_r0 : Index := 1024#32
  let c0_565_r0 : Index := 0#32
  ![v694_r0.toNat, 1024, 0]
def k0_off178 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v699_r0 : Index := Scalar.indexCast v341_r0
  let c1024_566_r0 : Index := 1024#32
  let c256_567_r0 : Index := 256#32
  ![v699_r0.toNat, 1024, 256]
def k0_off179 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v709_r0 : Index := Scalar.indexCast v341_r0
  let c1280_572_r0 : Index := 1280#32
  let c0_573_r0 : Index := 0#32
  ![v709_r0.toNat, 1280, 0]
def k0_off180 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v714_r0 : Index := Scalar.indexCast v341_r0
  let c1280_574_r0 : Index := 1280#32
  let c256_575_r0 : Index := 256#32
  ![v714_r0.toNat, 1280, 256]
def k0_off181 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v724_r0 : Index := Scalar.indexCast v341_r0
  let c1024_580_r0 : Index := 1024#32
  let c512_581_r0 : Index := 512#32
  ![v724_r0.toNat, 1024, 512]
def k0_off182 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v729_r0 : Index := Scalar.indexCast v341_r0
  let c1024_582_r0 : Index := 1024#32
  let c768_583_r0 : Index := 768#32
  ![v729_r0.toNat, 1024, 768]
def k0_off183 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v739_r0 : Index := Scalar.indexCast v341_r0
  let c1280_588_r0 : Index := 1280#32
  let c512_589_r0 : Index := 512#32
  ![v739_r0.toNat, 1280, 512]
def k0_off184 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v744_r0 : Index := Scalar.indexCast v341_r0
  let c1280_590_r0 : Index := 1280#32
  let c768_591_r0 : Index := 768#32
  ![v744_r0.toNat, 1280, 768]
def k0_off185 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v754_r0 : Index := Scalar.indexCast v341_r0
  let c1024_596_r0 : Index := 1024#32
  let c1024_597_r0 : Index := 1024#32
  ![v754_r0.toNat, 1024, 1024]
def k0_off186 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v759_r0 : Index := Scalar.indexCast v341_r0
  let c1024_598_r0 : Index := 1024#32
  let c1280_599_r0 : Index := 1280#32
  ![v759_r0.toNat, 1024, 1280]
def k0_off187 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v769_r0 : Index := Scalar.indexCast v341_r0
  let c1280_604_r0 : Index := 1280#32
  let c1024_605_r0 : Index := 1024#32
  ![v769_r0.toNat, 1280, 1024]
def k0_off188 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v774_r0 : Index := Scalar.indexCast v341_r0
  let c1280_606_r0 : Index := 1280#32
  let c1280_607_r0 : Index := 1280#32
  ![v774_r0.toNat, 1280, 1280]
def k0_off189 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v784_r0 : Index := Scalar.indexCast v341_r0
  let c1024_612_r0 : Index := 1024#32
  let c1536_613_r0 : Index := 1536#32
  ![v784_r0.toNat, 1024, 1536]
def k0_off190 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v789_r0 : Index := Scalar.indexCast v341_r0
  let c1024_614_r0 : Index := 1024#32
  let c1792_615_r0 : Index := 1792#32
  ![v789_r0.toNat, 1024, 1792]
def k0_off191 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v799_r0 : Index := Scalar.indexCast v341_r0
  let c1280_620_r0 : Index := 1280#32
  let c1536_621_r0 : Index := 1536#32
  ![v799_r0.toNat, 1280, 1536]
def k0_off192 (k0_t2 : Fin k0_t2_loop.trips) : Fin 3 → Nat :=
  let c0_i32_332_r0 : BitVec 32 := 0#32
  let c1_i32_334_r0 : BitVec 32 := 1#32
  let arg21_r0 : BitVec 32 := Scf.iv c0_i32_332_r0 c1_i32_334_r0 k0_t2
  let c15_i32_354_r0 : BitVec 32 := 15#32
  let v340_r0 : BitVec 32 := Scalar.addi arg21_r0 c15_i32_354_r0
  let c8_i32_355_r0 : BitVec 32 := 8#32
  let v341_r0 : BitVec 32 := Scalar.remsi v340_r0 c8_i32_355_r0
  let v804_r0 : Index := Scalar.indexCast v341_r0
  let c1280_622_r0 : Index := 1280#32
  let c1792_623_r0 : Index := 1792#32
  ![v804_r0.toNat, 1280, 1792]
-- ==== MainReferenceIdeal.lean ====
abbrev S15x256x2048 : Shape := ⟨3, ![15, 256, 2048]⟩
abbrev S2x128 : Shape := ⟨2, ![2, 128]⟩
abbrev S15x2048x2560 : Shape := ⟨3, ![15, 2048, 2560]⟩
abbrev S2560 : Shape := ⟨1, ![2560]⟩
abbrev S15x2x128x2048 : Shape := ⟨4, ![15, 2, 128, 2048]⟩
abbrev S2x15x128x2048 : Shape := ⟨4, ![2, 15, 128, 2048]⟩
abbrev S256x15x2048 : Shape := ⟨3, ![256, 15, 2048]⟩
abbrev S256x30720 : Shape := ⟨2, ![256, 30720]⟩
abbrev S256x1 : Shape := ⟨2, ![256, 1]⟩
abbrev S30720x2560 : Shape := ⟨2, ![30720, 2560]⟩
abbrev S1x2560 : Shape := ⟨2, ![1, 2560]⟩
abbrev S256x2560 : Shape := ⟨2, ![256, 2560]⟩

abbrev nBuf : Space → Nat
  | .hbm => 14
  | .vmem => 6
  | .smem => 0
  | _ => 0

abbrev bufTy : (tb : Table) → Fin (tcTables nBuf tb) → BufTy
  | .hbm, ⟨0, _⟩ => ⟨S15x256x2048, .fp8e4m3⟩
  | .hbm, ⟨1, _⟩ => ⟨S2x128, .f32⟩
  | .hbm, ⟨2, _⟩ => ⟨S15x2048x2560, .fp8e4m3⟩
  | .hbm, ⟨3, _⟩ => ⟨S2560, .f32⟩
  | .hbm, ⟨4, _⟩ => ⟨S2560, .f32⟩
  | .hbm, ⟨5, _⟩ => ⟨S15x2x128x2048, .fp8e4m3⟩
  | .hbm, ⟨6, _⟩ => ⟨S2x15x128x2048, .fp8e4m3⟩
  | .hbm, ⟨7, _⟩ => ⟨S256x15x2048, .fp8e4m3⟩
  | .hbm, ⟨8, _⟩ => ⟨S256x30720, .fp8e4m3⟩
  | .hbm, ⟨9, _⟩ => ⟨S256x1, .f32⟩
  | .hbm, ⟨10, _⟩ => ⟨S30720x2560, .fp8e4m3⟩
  | .hbm, ⟨11, _⟩ => ⟨S1x2560, .f32⟩
  | .hbm, ⟨12, _⟩ => ⟨S1x2560, .f32⟩
  | .hbm, ⟨13, _⟩ => ⟨S256x2560, .bf16⟩
  | .local _ .vmem, ⟨0, _⟩ => ⟨S256x30720, .fp8e4m3⟩
  | .local _ .vmem, ⟨1, _⟩ => ⟨S256x1, .f32⟩
  | .local _ .vmem, ⟨2, _⟩ => ⟨S30720x2560, .fp8e4m3⟩
  | .local _ .vmem, ⟨3, _⟩ => ⟨S1x2560, .f32⟩
  | .local _ .vmem, ⟨4, _⟩ => ⟨S1x2560, .f32⟩
  | .local _ .vmem, ⟨5, _⟩ => ⟨S256x2560, .bf16⟩
  | _, _ => ⟨S15x256x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x30720 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S30720x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Split.lean ====
module
public import proofs.«01_k».proof.Proof.Gen.Kernel.Frame
public import proofs.«01_k».proof.Proof.Gen.Kernel.Skeleton
public import Idealize.ShloMosaic.Lib.Tactic
public import Idealize.ShloMosaic.Lib.Pipeline.FrameBody
public import Idealize.ShloMosaic.Lib.MixedBatch
public import Idealize.ShloMosaic.Lib.Ring
public import Idealize.ShloMosaic.Lib.WordCmp
@[expose] public section
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

theorem halves (c : Dev nD) {sp : Space} {S : Shape} {e : EltTy} (M : Memref sig .tc sp S e) (f : Bf (F := F) c M) :
    pt c M f ⊢ iprop((M.view.loc (c : Thread nD τ) ↦{fullShare.left} f) ∗ (M.view.loc (c : Thread nD τ) ↦{fullShare.right} f)) :=
  (pointsTo_share (PosShare.mem_left_op_right _)).1

theorem token16 (c : Dev nD) {sp : Space} {S : Shape} {e : EltTy} (M : Memref sig .tc sp S e) (f : Bf (F := F) c M) :
    pt c M f ⊣⊢ iprop((M.view.loc (c : Thread nD τ) ↦{Transfers.shareDrop fullShare 17} f)
      ∗ (M.view.loc (c : Thread nD τ) ↦{Transfers.shareTokN fullShare 16} f)
      ∗ bigSep (Finset.range 16) (fun i => (M.view.loc (c : Thread nD τ) ↦{Transfers.shareTokN fullShare i} f : sProp 𝕄))) := by
  have h := Transfers.pointsTo_toks_range (Ix := Unit) (Name := ℕ) (U := Pipeline.UD sig nD τ) (Lvl := ℕ) (ℓ := M.view.loc (c : Thread nD τ)) (S := Finset.univ) (f := f) fullShare 17
  rw [Finset.range_add_one, BI.bigSep_insert Finset.notMem_range_self] at h
  exact h

/-! ## The weight ring, one slot at a time -/

theorem slot_inb (s : Fin 8) : ∀ a, (![s.val, 0, 0] : Fin 3 → ℕ) a + S1x2048x2048.size a ≤ S8x2048x2048.size a := by
  revert s; decide
/-- The elements of ring slot `s`. -/
abbrev slotSet (s : Fin 8) : Finset S8x2048x2048.Idx := (Rect.unit (s := S8x2048x2048) ![s.val, 0, 0] S1x2048x2048.size (slot_inb s)).set
theorem mem_slotSet (s : Fin 8) (y : S8x2048x2048.Idx) : y ∈ slotSet s ↔ (y 0).val = s.val := by
  rw [Rect.mem_set_unit]
  have h1 : (y 1).val < 2048 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 2048; omega
theorem slotSet_disjoint : ∀ s s' : Fin 8, s ≠ s' → Disjoint (slotSet s) (slotSet s') := by
  intro s s' hne; rw [Finset.disjoint_left]; intro y hy hy'; rw [mem_slotSet] at hy hy'; exact hne (Fin.ext (hy.symm.trans hy'))
theorem slotSet_cover : (Finset.univ : Finset (Fin 8)).biUnion slotSet = Finset.univ := by
  ext y; simp only [Finset.mem_biUnion, Finset.mem_univ, true_and, iff_true]; exact ⟨(y 0).cast (by decide), by rw [mem_slotSet]; rfl⟩

/-- Ring slot `s` as the kernel's copies name it. -/
abbrev slotM (arg29 : Memref sig .tc .vmem S8x2048x2048 .fp8e4m3) (s : ℕ) (h : ∀ a, (![s, 0, 0] : Fin 3 → ℕ) a + S1x2048x2048.size a ≤ S8x2048x2048.size a) :
    Memref sig .tc .vmem S2048x2048 .fp8e4m3 :=
  (arg29.slice (Rect.unit (s := S8x2048x2048) ![s, 0, 0] S1x2048x2048.size h) (fun _ => rfl)).squeeze S2048x2048 squeezes_S1x2048x2048_S2048x2048
/-- The ring's buffer. -/
abbrev ringM : Memref sig .tc .vmem S8x2048x2048 .fp8e4m3 := Memref.whole cc0_scratch17
omit [FloatOps F] in
theorem slotM_set (s : Fin 8) : (slotM ringM s.val (slot_inb s)).view.set = slotSet s :=
  (View.set_reshape _ _).trans (View.set_slice_whole _ _)

/-- Slot `s` held at contents `f`. -/
abbrev slotPt (c : Dev nD) (s : Fin 8) (f : Buf (Elt F) ((c : Thread nD τ).loc cc0_scratch17)) : sProp 𝕄 :=
  (slotM ringM s.val (slot_inb s)).view.loc (c : Thread nD τ) ↦[(slotM ringM s.val (slot_inb s)).view.set]{fullShare} f
omit [FloatOps F] in
theorem slotPt_eq (c : Dev nD) (s : Fin 8) (f) : slotPt (F := F) c s f = (((c : Thread nD τ).loc cc0_scratch17) ↦[slotSet s]{fullShare} f : sProp 𝕄) :=
  congrArg (fun S => (_ ↦[S]{fullShare} f : sProp 𝕄)) (slotM_set s)

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ
/-- The ring whole is its eight slots. -/
theorem ring_split (c : Dev nD) (f : Buf (Elt F) ((c : Thread nD τ).loc cc0_scratch17)) :
    (((c : Thread nD τ).loc cc0_scratch17) ↦{fullShare} f : sProp 𝕄)
      = iprop(slotPt c 0 f ∗ slotPt c 1 f ∗ slotPt c 2 f ∗ slotPt c 3 f ∗ slotPt c 4 f ∗ slotPt c 5 f ∗ slotPt c 6 f ∗ slotPt c 7 f) := by
  rw [Ring.pointsTo_blocks (Ix := Unit) (Name := ℕ) (U := Pipeline.UD sig nD τ) (Lvl := ℕ) (q := fullShare) (ℓ := (c : Thread nD τ).loc cc0_scratch17) slotSet slotSet_disjoint slotSet_cover f,
    bigSep_fin8]
  simp only [slotPt_eq]
/-- The eight slots, each at contents of its own, are the ring at some contents. -/
theorem ring_join (c : Dev nD) :
    iprop((∃ f, slotPt (F := F) c 0 f) ∗ (∃ f, slotPt (F := F) c 1 f) ∗ (∃ f, slotPt (F := F) c 2 f) ∗ (∃ f, slotPt (F := F) c 3 f) ∗ (∃ f, slotPt (F := F) c 4 f) ∗ (∃ f, slotPt (F := F) c 5 f) ∗ (∃ f, slotPt (F := F) c 6 f) ∗ (∃ f, slotPt (F := F) c 7 f))
      ⊢ (iprop(∃ f : Buf (Elt F) ((c : Thread nD τ).loc cc0_scratch17), ((c : Thread nD τ).loc cc0_scratch17) ↦{fullShare} f) : sProp 𝕄) := by
  iintro ⟨⟨%f0, H0⟩, HR⟩
  iapply (Ring.pointsTo_blocks_join_exists (Ix := Unit) (Name := ℕ) (U := Pipeline.UD sig nD τ) (Lvl := ℕ) (q := fullShare) (ℓ := (c : Thread nD τ).loc cc0_scratch17) slotSet slotSet_disjoint slotSet_cover f0)
  irw [bigSep_fin8]
  simp only [slotPt_eq]
  icases HR with ⟨H1, H2, H3, H4, H5, H6, H7⟩
  isplitl [H0]; · iexists f0; iexact H0
  isplitl [H1]; · iexact H1
  isplitl [H2]; · iexact H2
  isplitl [H3]; · iexact H3
  isplitl [H4]; · iexact H4
  isplitl [H5]; · iexact H5
  isplitl [H6]; · iexact H6
  iexact H7

/-! ## A buffer lent in read shares -/

/-- A buffer held whole, as sixteen read shares numbered by the semaphore they are lent to, and a rest. -/
theorem tokens (c : Dev nD) {sp : Space} {S : Shape} {e : EltTy} (M : Memref sig .tc sp S e) (f : Bf (F := F) c M) :
    pt c M f = iprop((M.view.loc (c : Thread nD τ) ↦{Transfers.shareDrop fullShare 16} f)
      ∗ (M.view.loc (c : Thread nD τ) ↦{Transfers.shareTokN fullShare 8} f) ∗ (M.view.loc (c : Thread nD τ) ↦{Transfers.shareTokN fullShare 9} f) ∗ (M.view.loc (c : Thread nD τ) ↦{Transfers.shareTokN fullShare 10} f) ∗ (M.view.loc (c : Thread nD τ) ↦{Transfers.shareTokN fullShare 11} f) ∗ (M.view.loc (c : Thread nD τ) ↦{Transfers.shareTokN fullShare 12} f) ∗ (M.view.loc (c : Thread nD τ) ↦{Transfers.shareTokN fullShare 13} f) ∗ (M.view.loc (c : Thread nD τ) ↦{Transfers.shareTokN fullShare 14} f) ∗ (M.view.loc (c : Thread nD τ) ↦{Transfers.shareTokN fullShare 15} f)
      ∗ bigSep (Finset.range 8) (fun i => (M.view.loc (c : Thread nD τ) ↦{Transfers.shareTokN fullShare i} f : sProp 𝕄))) := by
  have h := Transfers.pointsTo_toks_range (Ix := Unit) (Name := ℕ) (U := Pipeline.UD sig nD τ) (Lvl := ℕ) (ℓ := M.view.loc (c : Thread nD τ)) (S := Finset.univ) (f := f) fullShare 16
  have h' := Entails.antisymm h.1 h.2
  refine h'.trans ?_
  congr 1
  have e : Finset.range 16 = insert 8 (insert 9 (insert 10 (insert 11 (insert 12 (insert 13 (insert 14 (insert 15 (Finset.range 8)))))))) := by decide
  rw [e]
  iterate 8 rw [BI.bigSep_insert (by decide)]
  rfl

/-! ## A ring slot, one 512×512 window at a time -/

theorem win_inb (s r k : ℕ) (hs : s < 8) (hr : r ≤ 1536) (hk : k ≤ 1536) :
    ∀ a, (![s, r, k] : Fin 3 → ℕ) a + S1x512x512.size a ≤ S8x2048x2048.size a := by
  intro a; fin_cases a
  · show s + 1 ≤ 8; omega
  · show r + 512 ≤ 2048; omega
  · show k + 512 ≤ 2048; omega
/-- The window of slot `s` at row `r` and column `k`, as the kernel's copies name it. -/
abbrev winM (s r k : ℕ) (h : ∀ a, (![s, r, k] : Fin 3 → ℕ) a + S1x512x512.size a ≤ S8x2048x2048.size a) : Memref sig .tc .vmem S512x512 .fp8e4m3 :=
  (ringM.slice (Rect.unit (s := S8x2048x2048) ![s, r, k] S1x512x512.size h) (fun _ => rfl)).squeeze S512x512 squeezes_S1x512x512_S512x512
/-- That window held at contents `f`. -/
abbrev winPt (c : Dev nD) (s r k : ℕ) (h : ∀ a, (![s, r, k] : Fin 3 → ℕ) a + S1x512x512.size a ≤ S8x2048x2048.size a)
    (f : Buf (Elt F) ((c : Thread nD τ).loc cc0_scratch17)) : sProp 𝕄 :=
  (winM s r k h).view.loc (c : Thread nD τ) ↦[(winM s r k h).view.set]{fullShare} f
/-- The elements of that window. -/
abbrev winSet (s r k : ℕ) (h : ∀ a, (![s, r, k] : Fin 3 → ℕ) a + S1x512x512.size a ≤ S8x2048x2048.size a) : Finset S8x2048x2048.Idx :=
  (Rect.unit (s := S8x2048x2048) ![s, r, k] S1x512x512.size h).set
omit [FloatOps F] in
theorem winPt_eq (c : Dev nD) (s r k : ℕ) (h) (f) : winPt (F := F) c s r k h f = (((c : Thread nD τ).loc cc0_scratch17) ↦[winSet s r k h]{fullShare} f : sProp 𝕄) :=
  congrArg (fun S => (_ ↦[S]{fullShare} f : sProp 𝕄)) ((View.set_reshape _ _).trans (View.set_slice_whole _ _))
theorem mem_winSet (s r k : ℕ) (h) (y : S8x2048x2048.Idx) :
    y ∈ winSet s r k h ↔ (y 0).val = s ∧ (r ≤ (y 1).val ∧ (y 1).val < r + 512) ∧ (k ≤ (y 2).val ∧ (y 2).val < k + 512) := by
  rw [Rect.mem_set_unit]
  constructor
  · intro H; have a0 : s ≤ (y 0).val ∧ (y 0).val < s + 1 := H 0; have a1 : r ≤ (y 1).val ∧ (y 1).val < r + 512 := H 1
    have a2 : k ≤ (y 2).val ∧ (y 2).val < k + 512 := H 2; exact ⟨by omega, a1, a2⟩
  · intro ⟨h0, h1, h2⟩ i; fin_cases i
    · show s ≤ (y 0).val ∧ (y 0).val < s + 1; omega
    · exact h1
    · exact h2
/-- Window number `b` of slot `s`, of sixteen. -/
abbrev winBlk (s : ℕ) (hs : s < 8) (b : Fin 16) : Finset S8x2048x2048.Idx :=
  winSet s (512 * (b.val / 4)) (512 * (b.val % 4)) (win_inb s _ _ hs (by have := b.isLt; omega) (by have := b.isLt; omega))
theorem winBlk_disjoint (s : ℕ) (hs : s < 8) : ∀ b b' : Fin 16, b ≠ b' → Disjoint (winBlk s hs b) (winBlk s hs b') := by
  intro b b' hne; rw [Finset.disjoint_left]; intro y hy hy'; rw [mem_winSet] at hy hy'
  have := b.isLt; have := b'.isLt; exact hne (Fin.ext (by omega))
theorem winBlk_cover (s : ℕ) (hs : s < 8) : (Finset.univ : Finset (Fin 16)).biUnion (winBlk s hs) = slotSet ⟨s, hs⟩ := by
  ext y; simp only [Finset.mem_biUnion, Finset.mem_univ, true_and]; rw [mem_slotSet]
  have h1 : (y 1).val < 2048 := (y 1).isLt
  have h2 : (y 2).val < 2048 := (y 2).isLt
  constructor
  · rintro ⟨b, hb⟩; rw [mem_winSet] at hb; exact hb.1
  · intro h0; refine ⟨⟨4 * ((y 1).val / 512) + (y 2).val / 512, by omega⟩, ?_⟩
    rw [mem_winSet]; refine ⟨h0, ?_, ?_⟩ <;> dsimp only <;> omega
theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [(0 : Fin 16), 1, 2, 3, 4, 5, 6, 7, 8, 9, 10, 11, 12, 13, 14, 15] (by decide) (by decide) Φ
/-- A slot, by its number as the kernel names it. -/
abbrev slotAt (c : Dev nD) (s : ℕ) (hs : s < 8) (f : Buf (Elt F) ((c : Thread nD τ).loc cc0_scratch17)) : sProp 𝕄 :=
  (slotM ringM s (slot_inb ⟨s, hs⟩)).view.loc (c : Thread nD τ) ↦[(slotM ringM s (slot_inb ⟨s, hs⟩)).view.set]{fullShare} f
/-- A slot held at one contents is its sixteen windows. -/
theorem slot_windows (c : Dev nD) (s : ℕ) (hs : s < 8) (f : Buf (Elt F) ((c : Thread nD τ).loc cc0_scratch17)) :
    slotAt c s hs f = iprop(winPt c s 0 0 (win_inb s 0 0 hs (by decide) (by decide)) f ∗ winPt c s 0 512 (win_inb s 0 512 hs (by decide) (by decide)) f ∗ winPt c s 0 1024 (win_inb s 0 1024 hs (by decide) (by decide)) f ∗ winPt c s 0 1536 (win_inb s 0 1536 hs (by decide) (by decide)) f ∗ winPt c s 512 0 (win_inb s 512 0 hs (by decide) (by decide)) f ∗ winPt c s 512 512 (win_inb s 512 512 hs (by decide) (by decide)) f ∗ winPt c s 512 1024 (win_inb s 512 1024 hs (by decide) (by decide)) f ∗ winPt c s 512 1536 (win_inb s 512 1536 hs (by decide) (by decide)) f ∗ winPt c s 1024 0 (win_inb s 1024 0 hs (by decide) (by decide)) f ∗ winPt c s 1024 512 (win_inb s 1024 512 hs (by decide) (by decide)) f ∗ winPt c s 1024 1024 (win_inb s 1024 1024 hs (by decide) (by decide)) f ∗ winPt c s 1024 1536 (win_inb s 1024 1536 hs (by decide) (by decide)) f ∗ winPt c s 1536 0 (win_inb s 1536 0 hs (by decide) (by decide)) f ∗ winPt c s 1536 512 (win_inb s 1536 512 hs (by decide) (by decide)) f ∗ winPt c s 1536 1024 (win_inb s 1536 1024 hs (by decide) (by decide)) f ∗ winPt c s 1536 1536 (win_inb s 1536 1536 hs (by decide) (by decide)) f) := by
  refine (slotPt_eq c ⟨s, hs⟩ f).trans ?_
  rw [Ring.pointsTo_sub_blocks (Ix := Unit) (Name := ℕ) (U := Pipeline.UD sig nD τ) (Lvl := ℕ) (ℓ := (c : Thread nD τ).loc cc0_scratch17) (winBlk s hs) (winBlk_disjoint s hs) (slotSet ⟨s, hs⟩) (winBlk_cover s hs) f,
    bigSep_fin16]
  simp only [winPt_eq]; rfl
/-- Sixteen windows, each at contents of its own, are the slot at some contents. -/
theorem slot_windows_join (c : Dev nD) (s : ℕ) (hs : s < 8) :
    iprop((∃ f, winPt c s 0 0 (win_inb s 0 0 hs (by decide) (by decide)) f) ∗ (∃ f, winPt c s 0 512 (win_inb s 0 512 hs (by decide) (by decide)) f) ∗ (∃ f, winPt c s 0 1024 (win_inb s 0 1024 hs (by decide) (by decide)) f) ∗ (∃ f, winPt c s 0 1536 (win_inb s 0 1536 hs (by decide) (by decide)) f) ∗ (∃ f, winPt c s 512 0 (win_inb s 512 0 hs (by decide) (by decide)) f) ∗ (∃ f, winPt c s 512 512 (win_inb s 512 512 hs (by decide) (by decide)) f) ∗ (∃ f, winPt c s 512 1024 (win_inb s 512 1024 hs (by decide) (by decide)) f) ∗ (∃ f, winPt c s 512 1536 (win_inb s 512 1536 hs (by decide) (by decide)) f) ∗ (∃ f, winPt c s 1024 0 (win_inb s 1024 0 hs (by decide) (by decide)) f) ∗ (∃ f, winPt c s 1024 512 (win_inb s 1024 512 hs (by decide) (by decide)) f) ∗ (∃ f, winPt c s 1024 1024 (win_inb s 1024 1024 hs (by decide) (by decide)) f) ∗ (∃ f, winPt c s 1024 1536 (win_inb s 1024 1536 hs (by decide) (by decide)) f) ∗ (∃ f, winPt c s 1536 0 (win_inb s 1536 0 hs (by decide) (by decide)) f) ∗ (∃ f, winPt c s 1536 512 (win_inb s 1536 512 hs (by decide) (by decide)) f) ∗ (∃ f, winPt c s 1536 1024 (win_inb s 1536 1024 hs (by decide) (by decide)) f) ∗ (∃ f, winPt c s 1536 1536 (win_inb s 1536 1536 hs (by decide) (by decide)) f))
      ⊢ (iprop(∃ f : Buf (Elt F) ((c : Thread nD τ).loc cc0_scratch17), slotAt c s hs f) : sProp 𝕄) := by
  iintro ⟨⟨%f0, H0⟩, HR⟩
  have h := (Ring.pointsTo_sub_blocks_join_exists (Ix := Unit) (Name := ℕ) (U := Pipeline.UD sig nD τ) (Lvl := ℕ) (q := fullShare) (ℓ := (c : Thread nD τ).loc cc0_scratch17) (winBlk s hs) (winBlk_disjoint s hs) (slotSet ⟨s, hs⟩) (winBlk_cover s hs) f0)
  rw [bigSep_fin16] at h
  have h' : (iprop(∃ g : Buf (Elt F) ((c : Thread nD τ).loc cc0_scratch17), ((c : Thread nD τ).loc cc0_scratch17) ↦[slotSet ⟨s, hs⟩]{fullShare} g) : sProp 𝕄)
      ⊢ iprop(∃ f : Buf (Elt F) ((c : Thread nD τ).loc cc0_scratch17), slotAt c s hs f) :=
    exists_mono fun f => by rw [← slotPt_eq c ⟨s, hs⟩ f]
  iapply (h.trans h')
  simp only [winPt_eq]
  isplitl [H0]; · iexists f0; iexact H0
  iexact HR
/-- The ring whole is its eight slots, each spelled as the kernel's copies name it. -/
theorem ring_slots (c : Dev nD) (f : Buf (Elt F) ((c : Thread nD τ).loc cc0_scratch17)) :
    (((c : Thread nD τ).loc cc0_scratch17) ↦{fullShare} f : sProp 𝕄) = iprop(slotAt c 0 (by decide) f ∗ slotAt c 1 (by decide) f ∗ slotAt c 2 (by decide) f ∗ slotAt c 3 (by decide) f ∗ slotAt c 4 (by decide) f ∗ slotAt c 5 (by decide) f ∗ slotAt c 6 (by decide) f ∗ slotAt c 7 (by decide) f) := by
  rw [Ring.pointsTo_blocks (Ix := Unit) (Name := ℕ) (U := Pipeline.UD sig nD τ) (Lvl := ℕ) (q := fullShare) (ℓ := (c : Thread nD τ).loc cc0_scratch17) slotSet slotSet_disjoint slotSet_cover f,
    bigSep_fin8]
  rw [show slotAt c 0 (by decide) f = _ from slotPt_eq c ⟨0, by decide⟩ f, show slotAt c 1 (by decide) f = _ from slotPt_eq c ⟨1, by decide⟩ f, show slotAt c 2 (by decide) f = _ from slotPt_eq c ⟨2, by decide⟩ f, show slotAt c 3 (by decide) f = _ from slotPt_eq c ⟨3, by decide⟩ f, show slotAt c 4 (by decide) f = _ from slotPt_eq c ⟨4, by decide⟩ f, show slotAt c 5 (by decide) f = _ from slotPt_eq c ⟨5, by decide⟩ f, show slotAt c 6 (by decide) f = _ from slotPt_eq c ⟨6, by decide⟩ f, show slotAt c 7 (by decide) f = _ from slotPt_eq c ⟨7, by decide⟩ f]; rfl

/-! ## The result's two column windows -/

abbrev yWin0 {sp : Space} (M : Memref sig .tc sp S256x2560 .bf16) : Memref sig .tc sp S256x2048 .bf16 :=
  M.slice (Rect.unit (s := S256x2560) ![0, 0] S256x2048.size inb_S256x2560_S256x2048_0_0) (fun _ => rfl)
abbrev yWin1 {sp : Space} (M : Memref sig .tc sp S256x2560 .bf16) : Memref sig .tc sp S256x512 .bf16 :=
  M.slice (Rect.unit (s := S256x2560) ![0, 2048] S256x512.size inb_S256x2560_S256x512_0_2048) (fun _ => rfl)
/-- The units of the result's two copies, in issue order. -/
abbrev yAmts : Fin 2 → ℕ := ![32768, 8192]
/-- What each of the two copies delivers: its columns of the result, and its columns of the buffer it read. -/
def yDeliv (c : Dev nD) (arg9 : Memref sig .tc .hbm S256x2560 .bf16) (arg28 : Memref sig .tc .vmem S256x2560 .bf16) : Fin 2 → sProp 𝕄
  | 0 => iprop((∃ f, (yWin0 arg9).view.loc (c : Thread nD τ) ↦[(yWin0 arg9).view.set]{fullShare} f) ∗ (∃ f, (yWin0 arg28).view.loc (c : Thread nD τ) ↦[(yWin0 arg28).view.set]{fullShare} f))
  | 1 => iprop((∃ f, (yWin1 arg9).view.loc (c : Thread nD τ) ↦[(yWin1 arg9).view.set]{fullShare} f) ∗ (∃ f, (yWin1 arg28).view.loc (c : Thread nD τ) ↦[(yWin1 arg28).view.set]{fullShare} f))
instance yDeliv_storable (c : Dev nD) (arg9 : Memref sig .tc .hbm S256x2560 .bf16) (arg28 : Memref sig .tc .vmem S256x2560 .bf16) (t : Fin 2) :
    Storable (upEmb : UEmb _ 𝕄) (yDeliv (F := F) c arg9 arg28 t) := by
  fin_cases t <;> simp only [yDeliv] <;> infer_instance
/-- The elements of the result's column window `t`. -/
abbrev ySet : Fin 2 → Finset S256x2560.Idx
  | 0 => (Rect.unit (s := S256x2560) ![0, 0] S256x2048.size inb_S256x2560_S256x2048_0_0).set
  | 1 => (Rect.unit (s := S256x2560) ![0, 2048] S256x512.size inb_S256x2560_S256x512_0_2048).set
theorem mem_ySet0 (y : S256x2560.Idx) : y ∈ ySet 0 ↔ (y 1).val < 2048 := by
  rw [show ySet 0 = (Rect.unit (s := S256x2560) ![0, 0] S256x2048.size inb_S256x2560_S256x2048_0_0).set from rfl, Rect.mem_set_unit]
  have h0 : (y 0).val < 256 := (y 0).isLt
  constructor
  · intro H; have a1 : 0 ≤ (y 1).val ∧ (y 1).val < 0 + 2048 := H 1; omega
  · intro H i; fin_cases i
    · show 0 ≤ (y 0).val ∧ (y 0).val < 0 + 256; omega
    · show 0 ≤ (y 1).val ∧ (y 1).val < 0 + 2048; omega
theorem mem_ySet1 (y : S256x2560.Idx) : y ∈ ySet 1 ↔ 2048 ≤ (y 1).val := by
  rw [show ySet 1 = (Rect.unit (s := S256x2560) ![0, 2048] S256x512.size inb_S256x2560_S256x512_0_2048).set from rfl, Rect.mem_set_unit]
  have h0 : (y 0).val < 256 := (y 0).isLt
  have h1 : (y 1).val < 2560 := (y 1).isLt
  constructor
  · intro H; have a1 : 2048 ≤ (y 1).val ∧ (y 1).val < 2048 + 512 := H 1; omega
  · intro H i; fin_cases i
    · show 0 ≤ (y 0).val ∧ (y 0).val < 0 + 256; omega
    · show 2048 ≤ (y 1).val ∧ (y 1).val < 2048 + 512; omega
theorem ySet_disjoint : ∀ b b' : Fin 2, b ≠ b' → Disjoint (ySet b) (ySet b') := by
  have h : Disjoint (ySet 0) (ySet 1) := by
    rw [Finset.disjoint_left]; intro y hy hy'; rw [mem_ySet0] at hy; rw [mem_ySet1] at hy'; omega
  intro b b' hne; fin_cases b <;> fin_cases b'
  · exact absurd rfl hne
  · exact h
  · exact h.symm
  · exact absurd rfl hne
theorem ySet_cover : (Finset.univ : Finset (Fin 2)).biUnion ySet = Finset.univ := by
  ext y; simp only [Finset.mem_biUnion, Finset.mem_univ, true_and, iff_true]
  by_cases h : (y 1).val < 2048
  · exact ⟨0, (mem_ySet0 y).2 h⟩
  · exact ⟨1, (mem_ySet1 y).2 (by omega)⟩
theorem bigSep_fin2 (Φ : Fin 2 → sProp 𝕄) : bigSep Finset.univ Φ = iprop(Φ 0 ∗ Φ 1) :=
  bigSep_univ_eq_bigSepL [(0 : Fin 2), 1] (by decide) (by decide) Φ

/-- The two column windows, each at contents of its own, are the whole array at some contents. -/
theorem y_join_out (c : Dev nD) :
    iprop((∃ f, (yWin0 (Memref.whole main_v6_0)).view.loc (c : Thread nD τ) ↦[(yWin0 (Memref.whole main_v6_0)).view.set]{fullShare} f)
        ∗ (∃ f, (yWin1 (Memref.whole main_v6_0)).view.loc (c : Thread nD τ) ↦[(yWin1 (Memref.whole main_v6_0)).view.set]{fullShare} f))
      ⊢ (iprop(∃ f : Buf (Elt F) ((c : Thread nD τ).loc main_v6_0), ((c : Thread nD τ).loc main_v6_0) ↦{fullShare} f) : sProp 𝕄) := by
  have e0 : (yWin0 (Memref.whole main_v6_0)).view.set = ySet 0 := View.set_slice_whole _ _
  have e1 : (yWin1 (Memref.whole main_v6_0)).view.set = ySet 1 := View.set_slice_whole _ _
  rw [e0, e1]
  iintro ⟨⟨%f0, H0⟩, H1⟩
  iapply (Ring.pointsTo_blocks_join_exists (Ix := Unit) (Name := ℕ) (U := Pipeline.UD sig nD τ) (Lvl := ℕ) (q := fullShare) (ℓ := (c : Thread nD τ).loc main_v6_0) ySet ySet_disjoint ySet_cover f0)
  irw [bigSep_fin2]
  isplitl [H0]; · iexists f0; iexact H0
  iexact H1

/-- The two column windows, each at contents of its own, are the whole array at some contents. -/
theorem y_join_buf (c : Dev nD) :
    iprop((∃ f, (yWin0 (Memref.whole cc0_scratch16)).view.loc (c : Thread nD τ) ↦[(yWin0 (Memref.whole cc0_scratch16)).view.set]{fullShare} f)
        ∗ (∃ f, (yWin1 (Memref.whole cc0_scratch16)).view.loc (c : Thread nD τ) ↦[(yWin1 (Memref.whole cc0_scratch16)).view.set]{fullShare} f))
      ⊢ (iprop(∃ f : Buf (Elt F) ((c : Thread nD τ).loc cc0_scratch16), ((c : Thread nD τ).loc cc0_scratch16) ↦{fullShare} f) : sProp 𝕄) := by
  have e0 : (yWin0 (Memref.whole cc0_scratch16)).view.set = ySet 0 := View.set_slice_whole _ _
  have e1 : (yWin1 (Memref.whole cc0_scratch16)).view.set = ySet 1 := View.set_slice_whole _ _
  rw [e0, e1]
  iintro ⟨⟨%f0, H0⟩, H1⟩
  iapply (Ring.pointsTo_blocks_join_exists (Ix := Unit) (Name := ℕ) (U := Pipeline.UD sig nD τ) (Lvl := ℕ) (q := fullShare) (ℓ := (c : Thread nD τ).loc cc0_scratch16) ySet ySet_disjoint ySet_cover f0)
  irw [bigSep_fin2]
  isplitl [H0]; · iexists f0; iexact H0
  iexact H1

end Cert.Kernel.Hand
end
-- ==== Proof.Kernel.Join.lean ====
module
public import proofs.«01_k».proof.Proof.Kernel.Split
public import proofs.«01_k».proof.Proof.Gen.Kernel.Skeleton
public import Idealize.ShloMosaic.Lib.Tactic
public import Idealize.ShloMosaic.Lib.Pipeline.FrameBody
public import Idealize.ShloMosaic.Lib.MixedBatch
public import Idealize.ShloMosaic.Lib.Ring
public import Idealize.ShloMosaic.Lib.WordCmp
@[expose] public section
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

/-! # Putting a buffer back together from the windows lent out of it -/

section Generic
variable {ℓ : Loc nD τ sig} {q : PosShare TreeShare}

/-- The listed windows of a buffer, all at one contents. -/
def pieces (f : Buf (Elt F) ℓ) : List (Finset (Idx ℓ)) → sProp 𝕄
  | [] => iprop(emp)
  | T :: l => iprop((ℓ ↦[T]{q} f) ∗ pieces f l)
omit [FloatOps F] in
theorem rejoin (f : Buf (Elt F) ℓ) (l : List (Finset (Idx ℓ))) : ∀ S : Finset (Idx ℓ), l.Pairwise Disjoint → (∀ T ∈ l, T ⊆ S) →
    iprop((ℓ ↦[l.foldl (· \ ·) S]{q} f) ∗ pieces (q := q) f l) ⊢ (ℓ ↦[S]{q} f : sProp 𝕄) := by
  induction l with
  | nil => intro S _ _; exact Laws.sep_emp.1
  | cons T l ih =>
    intro S hd hs
    rw [List.pairwise_cons] at hd
    have h1 := ih (S \ T) hd.2 (fun T' h' => Finset.subset_sdiff.2 ⟨hs T' (List.mem_cons_of_mem _ h'), (hd.1 T' h').symm⟩)
    simp only [pieces]
    iintro ⟨H0, HT, HP⟩
    iapply ((pointsTo_split_subset (hs T List.mem_cons_self)).2)
    isplitl [HT]; · iexact HT
    iapply h1
    isplitl [H0]; · iexact H0
    iexact HP
omit [FloatOps F] in
/-- The same for a buffer held whole. -/
theorem rejoin_univ (f : Buf (Elt F) ℓ) (l : List (Finset (Idx ℓ))) (hd : l.Pairwise Disjoint) :
    iprop((ℓ ↦[l.foldl (· \ ·) Finset.univ]{q} f) ∗ pieces (q := q) f l) ⊢ (ℓ ↦{q} f : sProp 𝕄) :=
  rejoin f l Finset.univ hd (fun T _ => Finset.subset_univ T)
/-- The listed windows of a buffer, each at a contents of its own. -/
def somePieces (ℓ : Loc nD τ sig) : List (Finset (Idx ℓ)) → sProp 𝕄
  | [] => iprop(emp)
  | T :: l => iprop((∃ f : Buf (Elt F) ℓ, ℓ ↦[T]{fullShare} f) ∗ somePieces ℓ l)
omit [FloatOps F] in
theorem rejoin_some (l : List (Finset (Idx ℓ))) : ∀ S : Finset (Idx ℓ), l.Pairwise Disjoint → (∀ T ∈ l, T ⊆ S) →
    iprop((∃ f : Buf (Elt F) ℓ, ℓ ↦[l.foldl (· \ ·) S]{fullShare} f) ∗ somePieces ℓ l) ⊢ (iprop(∃ f : Buf (Elt F) ℓ, ℓ ↦[S]{fullShare} f) : sProp 𝕄) := by
  classical
  induction l with
  | nil => intro S _ _; exact Laws.sep_emp.1
  | cons T l ih =>
    intro S hd hs
    rw [List.pairwise_cons] at hd
    have h1 := ih (S \ T) hd.2 (fun T' h' => Finset.subset_sdiff.2 ⟨hs T' (List.mem_cons_of_mem _ h'), (hd.1 T' h').symm⟩)
    simp only [somePieces]
    iintro ⟨H0, ⟨%g, HT⟩, HP⟩
    ihave HR := h1 $$ [H0 HP]
    · isplitl [H0]; · iexact H0
      iexact HP
    icases HR with ⟨%f, HR⟩
    iexists (T.piecewise g f)
    iapply (pointsTo_join_subset (hs T List.mem_cons_self))
    isplitl [HT]; · iexact HT
    iexact HR
end Generic

/-! ## The weights' windows -/

theorem wW_inb (k : Fin 15) (j : Fin 4) : ∀ a, (![k.val, 512 * j.val, 2048] : Fin 3 → ℕ) a + S1x512x512.size a ≤ S15x2048x2560.size a := by
  have := k.isLt; have := j.isLt;
  intro a; fin_cases a
  · show k.val + 1 ≤ 15; omega
  · show 512 * j.val + 512 ≤ 2048; omega
  · show 2048 + 512 ≤ 2560; omega
/-- The rows `512 j …` and last columns of position `k` of the weights. -/
abbrev wWRect (k : Fin 15) (j : Fin 4) : Rect S15x2048x2560 := Rect.unit (s := S15x2048x2560) ![k.val, 512 * j.val, 2048] S1x512x512.size (wW_inb k j)
abbrev wWSet (k : Fin 15) (j : Fin 4) : Finset S15x2048x2560.Idx := (wWRect k j).set
abbrev wWM (k : Fin 15) (j : Fin 4) : Memref sig .tc .hbm S512x512 .fp8e4m3 :=
  ((Memref.whole main_arg6).slice (wWRect k j) (fun _ => rfl)).squeeze S512x512 squeezes_S1x512x512_S512x512
theorem wWM_set (k : Fin 15) (j : Fin 4) : (wWM k j).view.set = wWSet k j := (View.set_reshape _ _).trans (View.set_slice_whole _ _)
theorem wW_disjoint (k : Fin 15) (j : Fin 4) (k' : Fin 15) (j' : Fin 4) (h : ¬ (k = k' ∧ j = j')) : Disjoint (wWM k j).view.set (wWM k' j').view.set := by
  rw [wWM_set, wWM_set, Finset.disjoint_left]; intro y hy hy'
  rw [Rect.mem_set_unit] at hy hy'
  have a0 : k.val ≤ (y 0).val ∧ (y 0).val < k.val + 1 := hy 0; have b0 : k'.val ≤ (y 0).val ∧ (y 0).val < k'.val + 1 := hy' 0; have a1 : 512 * j.val ≤ (y 1).val ∧ (y 1).val < 512 * j.val + 512 := hy 1; have b1 : 512 * j'.val ≤ (y 1).val ∧ (y 1).val < 512 * j'.val + 512 := hy' 1; have a2 : 2048 ≤ (y 2).val ∧ (y 2).val < 2048 + 512 := hy 2; have b2 : 2048 ≤ (y 2).val ∧ (y 2).val < 2048 + 512 := hy' 2
  exact h ⟨Fin.ext (by omega), Fin.ext (by omega)⟩
/-! ## The codes' windows -/

theorem cW_inb (k : Fin 15) (b : Fin 2) : ∀ a, (![k.val, 128 * b.val, 0] : Fin 3 → ℕ) a + S1x128x2048.size a ≤ S15x256x2048.size a := by
  have := k.isLt; have := b.isLt;
  intro a; fin_cases a
  · show k.val + 1 ≤ 15; omega
  · show 128 * b.val + 128 ≤ 256; omega
  · show 0 + 2048 ≤ 2048; omega
/-- Batch `b` of position `k` of the codes. -/
abbrev cWRect (k : Fin 15) (b : Fin 2) : Rect S15x256x2048 := Rect.unit (s := S15x256x2048) ![k.val, 128 * b.val, 0] S1x128x2048.size (cW_inb k b)
abbrev cWSet (k : Fin 15) (b : Fin 2) : Finset S15x256x2048.Idx := (cWRect k b).set
abbrev cWM (k : Fin 15) (b : Fin 2) : Memref sig .tc .vmem S128x2048 .fp8e4m3 :=
  ((Memref.whole cc0_scratch13).slice (cWRect k b) (fun _ => rfl)).squeeze S128x2048 squeezes_S1x128x2048_S128x2048
theorem cWM_set (k : Fin 15) (b : Fin 2) : (cWM k b).view.set = cWSet k b := (View.set_reshape _ _).trans (View.set_slice_whole _ _)
theorem cW_disjoint (k : Fin 15) (b : Fin 2) (k' : Fin 15) (b' : Fin 2) (h : ¬ (k = k' ∧ b = b')) : Disjoint (cWM k b).view.set (cWM k' b').view.set := by
  rw [cWM_set, cWM_set, Finset.disjoint_left]; intro y hy hy'
  rw [Rect.mem_set_unit] at hy hy'
  have a0 : k.val ≤ (y 0).val ∧ (y 0).val < k.val + 1 := hy 0; have b0 : k'.val ≤ (y 0).val ∧ (y 0).val < k'.val + 1 := hy' 0; have a1 : 128 * b.val ≤ (y 1).val ∧ (y 1).val < 128 * b.val + 128 := hy 1; have b1 : 128 * b'.val ≤ (y 1).val ∧ (y 1).val < 128 * b'.val + 128 := hy' 1; have a2 : 0 ≤ (y 2).val ∧ (y 2).val < 0 + 2048 := hy 2; have b2 : 0 ≤ (y 2).val ∧ (y 2).val < 0 + 2048 := hy' 2
  exact h ⟨Fin.ext (by omega), Fin.ext (by omega)⟩
/-! ## The windows of the packed features' result -/

theorem gW_inb (b : Fin 2) (k : Fin 15) : ∀ a, (![b.val, k.val, 0, 0] : Fin 4 → ℕ) a + S1x1x128x2048.size a ≤ S2x15x128x2048.size a := by
  have := b.isLt; have := k.isLt;
  intro a; fin_cases a
  · show b.val + 1 ≤ 2; omega
  · show k.val + 1 ≤ 15; omega
  · show 0 + 128 ≤ 128; omega
  · show 0 + 2048 ≤ 2048; omega
/-- Position `k` of batch `b` of the result. -/
abbrev gWRect (b : Fin 2) (k : Fin 15) : Rect S2x15x128x2048 := Rect.unit (s := S2x15x128x2048) ![b.val, k.val, 0, 0] S1x1x128x2048.size (gW_inb b k)
abbrev gWSet (b : Fin 2) (k : Fin 15) : Finset S2x15x128x2048.Idx := (gWRect b k).set
abbrev gWM (b : Fin 2) (k : Fin 15) : Memref sig .tc .hbm S128x2048 .fp8e4m3 :=
  ((Memref.whole main_v6_1).slice (gWRect b k) (fun _ => rfl)).squeeze S128x2048 squeezes_S1x1x128x2048_S128x2048
theorem gWM_set (b : Fin 2) (k : Fin 15) : (gWM b k).view.set = gWSet b k := (View.set_reshape _ _).trans (View.set_slice_whole _ _)
theorem gW_disjoint (b : Fin 2) (k : Fin 15) (b' : Fin 2) (k' : Fin 15) (h : ¬ (b = b' ∧ k = k')) : Disjoint (gWM b k).view.set (gWM b' k').view.set := by
  rw [gWM_set, gWM_set, Finset.disjoint_left]; intro y hy hy'
  rw [Rect.mem_set_unit] at hy hy'
  have a0 : b.val ≤ (y 0).val ∧ (y 0).val < b.val + 1 := hy 0; have b0 : b'.val ≤ (y 0).val ∧ (y 0).val < b'.val + 1 := hy' 0; have a1 : k.val ≤ (y 1).val ∧ (y 1).val < k.val + 1 := hy 1; have b1 : k'.val ≤ (y 1).val ∧ (y 1).val < k'.val + 1 := hy' 1; have a2 : 0 ≤ (y 2).val ∧ (y 2).val < 0 + 128 := hy 2; have b2 : 0 ≤ (y 2).val ∧ (y 2).val < 0 + 128 := hy' 2; have a3 : 0 ≤ (y 3).val ∧ (y 3).val < 0 + 2048 := hy 3; have b3 : 0 ≤ (y 3).val ∧ (y 3).val < 0 + 2048 := hy' 3
  exact h ⟨Fin.ext (by omega), Fin.ext (by omega)⟩

theorem wW_pairwise0 : ([(wWM 0 0).view.set, (wWM 0 1).view.set, (wWM 0 2).view.set, (wWM 0 3).view.set, (wWM 1 0).view.set, (wWM 1 1).view.set, (wWM 1 2).view.set, (wWM 1 3).view.set, (wWM 2 0).view.set, (wWM 2 1).view.set, (wWM 2 2).view.set, (wWM 2 3).view.set] : List (Finset S15x2048x2560.Idx)).Pairwise Disjoint := by
  have h : (List.map (β := Finset S15x2048x2560.Idx) (fun p : Fin 15 × Fin 4 => (wWM p.1 p.2).view.set) [(0, 0), (0, 1), (0, 2), (0, 3), (1, 0), (1, 1), (1, 2), (1, 3), (2, 0), (2, 1), (2, 2), (2, 3)]).Pairwise Disjoint := by
    rw [List.pairwise_map]
    refine List.Pairwise.imp (fun {p q} (hne : p ≠ q) => wW_disjoint p.1 p.2 q.1 q.2 fun e => hne (Prod.ext e.1 e.2)) ?_
    decide
  exact h

theorem wW_pairwise1 : ([(wWM 3 0).view.set, (wWM 3 1).view.set, (wWM 3 2).view.set, (wWM 3 3).view.set, (wWM 4 0).view.set, (wWM 4 1).view.set, (wWM 4 2).view.set, (wWM 4 3).view.set, (wWM 5 0).view.set, (wWM 5 1).view.set, (wWM 5 2).view.set, (wWM 5 3).view.set] : List (Finset S15x2048x2560.Idx)).Pairwise Disjoint := by
  have h : (List.map (β := Finset S15x2048x2560.Idx) (fun p : Fin 15 × Fin 4 => (wWM p.1 p.2).view.set) [(3, 0), (3, 1), (3, 2), (3, 3), (4, 0), (4, 1), (4, 2), (4, 3), (5, 0), (5, 1), (5, 2), (5, 3)]).Pairwise Disjoint := by
    rw [List.pairwise_map]
    refine List.Pairwise.imp (fun {p q} (hne : p ≠ q) => wW_disjoint p.1 p.2 q.1 q.2 fun e => hne (Prod.ext e.1 e.2)) ?_
    decide
  exact h

theorem wW_pairwise2 : ([(wWM 6 0).view.set, (wWM 6 1).view.set, (wWM 6 2).view.set, (wWM 6 3).view.set, (wWM 7 0).view.set, (wWM 7 1).view.set, (wWM 7 2).view.set, (wWM 7 3).view.set, (wWM 8 0).view.set, (wWM 8 1).view.set, (wWM 8 2).view.set, (wWM 8 3).view.set] : List (Finset S15x2048x2560.Idx)).Pairwise Disjoint := by
  have h : (List.map (β := Finset S15x2048x2560.Idx) (fun p : Fin 15 × Fin 4 => (wWM p.1 p.2).view.set) [(6, 0), (6, 1), (6, 2), (6, 3), (7, 0), (7, 1), (7, 2), (7, 3), (8, 0), (8, 1), (8, 2), (8, 3)]).Pairwise Disjoint := by
    rw [List.pairwise_map]
    refine List.Pairwise.imp (fun {p q} (hne : p ≠ q) => wW_disjoint p.1 p.2 q.1 q.2 fun e => hne (Prod.ext e.1 e.2)) ?_
    decide
  exact h

theorem wW_pairwise3 : ([(wWM 9 0).view.set, (wWM 9 1).view.set, (wWM 9 2).view.set, (wWM 9 3).view.set, (wWM 10 0).view.set, (wWM 10 1).view.set, (wWM 10 2).view.set, (wWM 10 3).view.set, (wWM 11 0).view.set, (wWM 11 1).view.set, (wWM 11 2).view.set, (wWM 11 3).view.set] : List (Finset S15x2048x2560.Idx)).Pairwise Disjoint := by
  have h : (List.map (β := Finset S15x2048x2560.Idx) (fun p : Fin 15 × Fin 4 => (wWM p.1 p.2).view.set) [(9, 0), (9, 1), (9, 2), (9, 3), (10, 0), (10, 1), (10, 2), (10, 3), (11, 0), (11, 1), (11, 2), (11, 3)]).Pairwise Disjoint := by
    rw [List.pairwise_map]
    refine List.Pairwise.imp (fun {p q} (hne : p ≠ q) => wW_disjoint p.1 p.2 q.1 q.2 fun e => hne (Prod.ext e.1 e.2)) ?_
    decide
  exact h

theorem wW_pairwise4 : ([(wWM 12 0).view.set, (wWM 12 1).view.set, (wWM 12 2).view.set, (wWM 12 3).view.set, (wWM 13 0).view.set, (wWM 13 1).view.set, (wWM 13 2).view.set, (wWM 13 3).view.set, (wWM 14 0).view.set, (wWM 14 1).view.set, (wWM 14 2).view.set, (wWM 14 3).view.set] : List (Finset S15x2048x2560.Idx)).Pairwise Disjoint := by
  have h : (List.map (β := Finset S15x2048x2560.Idx) (fun p : Fin 15 × Fin 4 => (wWM p.1 p.2).view.set) [(12, 0), (12, 1), (12, 2), (12, 3), (13, 0), (13, 1), (13, 2), (13, 3), (14, 0), (14, 1), (14, 2), (14, 3)]).Pairwise Disjoint := by
    rw [List.pairwise_map]
    refine List.Pairwise.imp (fun {p q} (hne : p ≠ q) => wW_disjoint p.1 p.2 q.1 q.2 fun e => hne (Prod.ext e.1 e.2)) ?_
    decide
  exact h

theorem cW_pairwise : ([(cWM 0 0).view.set, (cWM 0 1).view.set, (cWM 1 0).view.set, (cWM 1 1).view.set, (cWM 2 0).view.set, (cWM 2 1).view.set, (cWM 3 0).view.set, (cWM 3 1).view.set, (cWM 4 0).view.set, (cWM 4 1).view.set, (cWM 5 0).view.set, (cWM 5 1).view.set, (cWM 6 0).view.set, (cWM 6 1).view.set, (cWM 7 0).view.set, (cWM 7 1).view.set, (cWM 8 0).view.set, (cWM 8 1).view.set, (cWM 9 0).view.set, (cWM 9 1).view.set, (cWM 10 0).view.set, (cWM 10 1).view.set, (cWM 11 0).view.set, (cWM 11 1).view.set, (cWM 12 0).view.set, (cWM 12 1).view.set, (cWM 13 0).view.set, (cWM 13 1).view.set, (cWM 14 0).view.set, (cWM 14 1).view.set] : List (Finset S15x256x2048.Idx)).Pairwise Disjoint := by
  have h : (List.map (β := Finset S15x256x2048.Idx) (fun p : Fin 15 × Fin 2 => (cWM p.1 p.2).view.set) [(0, 0), (0, 1), (1, 0), (1, 1), (2, 0), (2, 1), (3, 0), (3, 1), (4, 0), (4, 1), (5, 0), (5, 1), (6, 0), (6, 1), (7, 0), (7, 1), (8, 0), (8, 1), (9, 0), (9, 1), (10, 0), (10, 1), (11, 0), (11, 1), (12, 0), (12, 1), (13, 0), (13, 1), (14, 0), (14, 1)]).Pairwise Disjoint := by
    rw [List.pairwise_map]
    refine List.Pairwise.imp (fun {p q} (hne : p ≠ q) => cW_disjoint p.1 p.2 q.1 q.2 fun e => hne (Prod.ext e.1 e.2)) ?_
    decide
  exact h

theorem gW_pairwise : ([(gWM 0 0).view.set, (gWM 1 0).view.set, (gWM 0 1).view.set, (gWM 1 1).view.set, (gWM 0 2).view.set, (gWM 1 2).view.set, (gWM 0 3).view.set, (gWM 1 3).view.set, (gWM 0 4).view.set, (gWM 1 4).view.set, (gWM 0 5).view.set, (gWM 1 5).view.set, (gWM 0 6).view.set, (gWM 1 6).view.set, (gWM 0 7).view.set, (gWM 1 7).view.set, (gWM 0 8).view.set, (gWM 1 8).view.set, (gWM 0 9).view.set, (gWM 1 9).view.set, (gWM 0 10).view.set, (gWM 1 10).view.set, (gWM 0 11).view.set, (gWM 1 11).view.set, (gWM 0 12).view.set, (gWM 1 12).view.set, (gWM 0 13).view.set, (gWM 1 13).view.set, (gWM 0 14).view.set, (gWM 1 14).view.set] : List (Finset S2x15x128x2048.Idx)).Pairwise Disjoint := by
  have h : (List.map (β := Finset S2x15x128x2048.Idx) (fun p : Fin 2 × Fin 15 => (gWM p.1 p.2).view.set) [(0, 0), (1, 0), (0, 1), (1, 1), (0, 2), (1, 2), (0, 3), (1, 3), (0, 4), (1, 4), (0, 5), (1, 5), (0, 6), (1, 6), (0, 7), (1, 7), (0, 8), (1, 8), (0, 9), (1, 9), (0, 10), (1, 10), (0, 11), (1, 11), (0, 12), (1, 12), (0, 13), (1, 13), (0, 14), (1, 14)]).Pairwise Disjoint := by
    rw [List.pairwise_map]
    refine List.Pairwise.imp (fun {p q} (hne : p ≠ q) => gW_disjoint p.1 p.2 q.1 q.2 fun e => hne (Prod.ext e.1 e.2)) ?_
    decide
  exact h

end Cert.Kernel.Hand
end
-- ==== Proof.Kernel.Finish.lean ====
module
public import proofs.«01_k».proof.Proof.Kernel.Join
public import proofs.«01_k».proof.Proof.Gen.Kernel.Skeleton
public import Idealize.ShloMosaic.Lib.Tactic
public import Idealize.ShloMosaic.Lib.Pipeline.FrameBody
public import Idealize.ShloMosaic.Lib.MixedBatch
public import Idealize.ShloMosaic.Lib.Ring
public import Idealize.ShloMosaic.Lib.WordCmp
@[expose] public section
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

/-! # The results, from the windows their copies wrote -/

omit [FloatOps F] in
theorem g_skip (b : Fin 2) (k : Fin 15) (b' : Fin 2) (k' : Fin 15) (h : ¬ (b = b' ∧ k = k')) (f : Bf (F := F) (0 : Dev nD) (Memref.whole main_v6_1))
    (v : S128x2048.Idx → Elt F .fp8e4m3) : ∀ i ∈ (gWM b k).view.set, View.write (Elt F) (gWM b' k').view f v Finset.univ i = f i := fun i hi =>
  View.write_of_not_mem f v Finset.univ (Finset.disjoint_left.1 (gW_disjoint b k b' k' h) hi)

/-- The batch the packed features' copy `n` serves, and its kernel position. -/
abbrev gB (n : ℕ) : Fin 2 := ⟨n % 2, Nat.mod_lt _ (by decide)⟩
abbrev gK (n : ℕ) : Fin 15 := ⟨n / 2 % 15, Nat.mod_lt _ (by decide)⟩
/-- The packed features' array after its first `n` copies, of payloads `v`. -/
def gAfter (f : Bf (F := F) (0 : Dev nD) (Memref.whole main_v6_1)) (v : ℕ → S128x2048.Idx → Elt F .fp8e4m3) : ℕ → Bf (F := F) (0 : Dev nD) (Memref.whole main_v6_1)
  | 0 => f
  | n + 1 => View.write (Elt F) (gWM (gB n) (gK n)).view (gAfter f v n) (v n) Finset.univ

omit [FloatOps F] in
/-- A copy's window keeps its contents through the later copies. -/
theorem gAfter_keeps (f : Bf (F := F) (0 : Dev nD) (Memref.whole main_v6_1)) (v : ℕ → S128x2048.Idx → Elt F .fp8e4m3) (n : ℕ) (d : ℕ) (hd : n + d < 30) :
    ∀ i ∈ (gWM (gB n) (gK n)).view.set, gAfter f v (n + 1) i = gAfter f v (n + 1 + d) i := by
  intro i hi
  induction d with
  | zero => rfl
  | succ d ih =>
    rw [ih (by omega)]
    refine (g_skip (gB n) (gK n) (gB (n + 1 + d)) (gK (n + 1 + d)) ?_ (gAfter f v (n + 1 + d)) (v (n + 1 + d)) i hi).symm
    rintro ⟨h1, h2⟩
    have h1 := congrArg Fin.val h1; have h2 := congrArg Fin.val h2
    simp only [gB, gK] at h1 h2
    omega

omit [FloatOps F] in
theorem g_piece (c : Dev nD) (f : Bf (F := F) (0 : Dev nD) (Memref.whole main_v6_1)) (v : ℕ → S128x2048.Idx → Elt F .fp8e4m3) (b : Fin 2) (k : Fin 15) (n : ℕ) (hn : n < 30)
    (hb : b = gB n) (hk : k = gK n) :
    (((c : Thread nD τ).loc main_v6_1) ↦[(gWM b k).view.set]{fullShare} gAfter f v (n + 1) : sProp 𝕄) ⊢ (((c : Thread nD τ).loc main_v6_1) ↦[(gWM b k).view.set]{fullShare} gAfter f v 30) := by
  subst hb hk
  have h := gAfter_keeps f v n (29 - n) (by omega)
  rw [show n + 1 + (29 - n) = 30 by omega] at h
  exact Entails.of_eq (pointsTo_congr (ℓ := ((c : Thread nD τ).loc main_v6_1)) (I := (gWM (gB n) (gK n)).view.set) (q := fullShare) (f := gAfter f v (n + 1)) (g := gAfter f v 30) h)

/-- The packed features' array from the windows the copies wrote and the rest of it. -/
theorem g_join (c : Dev nD) (f : Bf (F := F) (0 : Dev nD) (Memref.whole main_v6_1)) (a : Fin 30 → S128x2048.Idx → Elt F .fp8e4m3) :
    iprop((((c : Thread nD τ).loc main_v6_1) ↦[((((((((((((((Finset.univ \ (gWM 0 0).view.set) \ (gWM 1 0).view.set) \ (gWM 0 1).view.set) \ (gWM 1 1).view.set) \ (gWM 0 2).view.set) \ (gWM 1 2).view.set) \ (gWM 0 3).view.set) \ (gWM 1 3).view.set) \ (gWM 0 4).view.set) \ (gWM 1 4).view.set) \ (gWM 0 5).view.set) \ (gWM 1 5).view.set) \ (gWM 0 6).view.set) \ (gWM 1 6).view.set)]{fullShare} gAfter f (fun n => a (Fin.ofNat 30 n)) 30)
        ∗ (((c : Thread nD τ).loc main_v6_1) ↦[(gWM 0 0).view.set]{fullShare} gAfter f (fun n => a (Fin.ofNat 30 n)) 1)
        ∗ (((c : Thread nD τ).loc main_v6_1) ↦[(gWM 1 0).view.set]{fullShare} gAfter f (fun n => a (Fin.ofNat 30 n)) 2)
        ∗ (((c : Thread nD τ).loc main_v6_1) ↦[(gWM 0 1).view.set]{fullShare} gAfter f (fun n => a (Fin.ofNat 30 n)) 3)
        ∗ (((c : Thread nD τ).loc main_v6_1) ↦[(gWM 1 1).view.set]{fullShare} gAfter f (fun n => a (Fin.ofNat 30 n)) 4)
        ∗ (((c : Thread nD τ).loc main_v6_1) ↦[(gWM 0 2).view.set]{fullShare} gAfter f (fun n => a (Fin.ofNat 30 n)) 5)
        ∗ (((c : Thread nD τ).loc main_v6_1) ↦[(gWM 1 2).view.set]{fullShare} gAfter f (fun n => a (Fin.ofNat 30 n)) 6)
        ∗ (((c : Thread nD τ).loc main_v6_1) ↦[(gWM 0 3).view.set]{fullShare} gAfter f (fun n => a (Fin.ofNat 30 n)) 7)
        ∗ (((c : Thread nD τ).loc main_v6_1) ↦[(gWM 1 3).view.set]{fullShare} gAfter f (fun n => a (Fin.ofNat 30 n)) 8)
        ∗ (((c : Thread nD τ).loc main_v6_1) ↦[(gWM 0 4).view.set]{fullShare} gAfter f (fun n => a (Fin.ofNat 30 n)) 9)
        ∗ (((c : Thread nD τ).loc main_v6_1) ↦[(gWM 1 4).view.set]{fullShare} gAfter f (fun n => a (Fin.ofNat 30 n)) 10)
        ∗ (((c : Thread nD τ).loc main_v6_1) ↦[(gWM 0 5).view.set]{fullShare} gAfter f (fun n => a (Fin.ofNat 30 n)) 11)
        ∗ (((c : Thread nD τ).loc main_v6_1) ↦[(gWM 1 5).view.set]{fullShare} gAfter f (fun n => a (Fin.ofNat 30 n)) 12)
        ∗ (((c : Thread nD τ).loc main_v6_1) ↦[(gWM 0 6).view.set]{fullShare} gAfter f (fun n => a (Fin.ofNat 30 n)) 13)
        ∗ (((c : Thread nD τ).loc main_v6_1) ↦[(gWM 1 6).view.set]{fullShare} gAfter f (fun n => a (Fin.ofNat 30 n)) 14))
      ⊢ (((c : Thread nD τ).loc main_v6_1) ↦{fullShare} gAfter f (fun n => a (Fin.ofNat 30 n)) 30 : sProp 𝕄) := by
  have hq := gW_pairwise.sublist (List.take_sublist 14 _)
  have hp : ([(gWM 0 0).view.set, (gWM 1 0).view.set, (gWM 0 1).view.set, (gWM 1 1).view.set, (gWM 0 2).view.set, (gWM 1 2).view.set, (gWM 0 3).view.set, (gWM 1 3).view.set, (gWM 0 4).view.set, (gWM 1 4).view.set, (gWM 0 5).view.set, (gWM 1 5).view.set, (gWM 0 6).view.set, (gWM 1 6).view.set] : List (Finset S2x15x128x2048.Idx)).Pairwise Disjoint := hq
  have h := rejoin_univ (F := F) (ℓ := ((c : Thread nD τ).loc main_v6_1)) (q := fullShare) (gAfter f (fun n => a (Fin.ofNat 30 n)) 30) [(gWM 0 0).view.set, (gWM 1 0).view.set, (gWM 0 1).view.set, (gWM 1 1).view.set, (gWM 0 2).view.set, (gWM 1 2).view.set, (gWM 0 3).view.set, (gWM 1 3).view.set, (gWM 0 4).view.set, (gWM 1 4).view.set, (gWM 0 5).view.set, (gWM 1 5).view.set, (gWM 0 6).view.set, (gWM 1 6).view.set] hp
  simp only [pieces] at h
  refine BIBase.Entails.trans ?_ h
  iintro ⟨HR, H0, H1, H2, H3, H4, H5, H6, H7, H8, H9, H10, H11, H12, H13⟩
  isplitl [HR]; · iexact HR
  isplitl [H0]
  · iapply (g_piece c f (fun n => a (Fin.ofNat 30 n)) 0 0 0 (by decide) rfl rfl); iexact H0
  isplitl [H1]
  · iapply (g_piece c f (fun n => a (Fin.ofNat 30 n)) 1 0 1 (by decide) rfl rfl); iexact H1
  isplitl [H2]
  · iapply (g_piece c f (fun n => a (Fin.ofNat 30 n)) 0 1 2 (by decide) rfl rfl); iexact H2
  isplitl [H3]
  · iapply (g_piece c f (fun n => a (Fin.ofNat 30 n)) 1 1 3 (by decide) rfl rfl); iexact H3
  isplitl [H4]
  · iapply (g_piece c f (fun n => a (Fin.ofNat 30 n)) 0 2 4 (by decide) rfl rfl); iexact H4
  isplitl [H5]
  · iapply (g_piece c f (fun n => a (Fin.ofNat 30 n)) 1 2 5 (by decide) rfl rfl); iexact H5
  isplitl [H6]
  · iapply (g_piece c f (fun n => a (Fin.ofNat 30 n)) 0 3 6 (by decide) rfl rfl); iexact H6
  isplitl [H7]
  · iapply (g_piece c f (fun n => a (Fin.ofNat 30 n)) 1 3 7 (by decide) rfl rfl); iexact H7
  isplitl [H8]
  · iapply (g_piece c f (fun n => a (Fin.ofNat 30 n)) 0 4 8 (by decide) rfl rfl); iexact H8
  isplitl [H9]
  · iapply (g_piece c f (fun n => a (Fin.ofNat 30 n)) 1 4 9 (by decide) rfl rfl); iexact H9
  isplitl [H10]
  · iapply (g_piece c f (fun n => a (Fin.ofNat 30 n)) 0 5 10 (by decide) rfl rfl); iexact H10
  isplitl [H11]
  · iapply (g_piece c f (fun n => a (Fin.ofNat 30 n)) 1 5 11 (by decide) rfl rfl); iexact H11
  isplitl [H12]
  · iapply (g_piece c f (fun n => a (Fin.ofNat 30 n)) 0 6 12 (by decide) rfl rfl); iexact H12
  isplitl [H13]
  · iapply (g_piece c f (fun n => a (Fin.ofNat 30 n)) 1 6 13 (by decide) rfl rfl); iexact H13
  iempintro

/-- The packed features' array at some contents, from the windows the copies wrote and the rest of it. -/
theorem g_join_some (c : Dev nD) :
    iprop((∃ f, ((c : Thread nD τ).loc main_v6_1) ↦[((((((((((((((Finset.univ \ (gWM 0 0).view.set) \ (gWM 1 0).view.set) \ (gWM 0 1).view.set) \ (gWM 1 1).view.set) \ (gWM 0 2).view.set) \ (gWM 1 2).view.set) \ (gWM 0 3).view.set) \ (gWM 1 3).view.set) \ (gWM 0 4).view.set) \ (gWM 1 4).view.set) \ (gWM 0 5).view.set) \ (gWM 1 5).view.set) \ (gWM 0 6).view.set) \ (gWM 1 6).view.set)]{fullShare} f)
        ∗ (∃ f, ((c : Thread nD τ).loc main_v6_1) ↦[(gWM 0 0).view.set]{fullShare} f)
        ∗ (∃ f, ((c : Thread nD τ).loc main_v6_1) ↦[(gWM 1 0).view.set]{fullShare} f)
        ∗ (∃ f, ((c : Thread nD τ).loc main_v6_1) ↦[(gWM 0 1).view.set]{fullShare} f)
        ∗ (∃ f, ((c : Thread nD τ).loc main_v6_1) ↦[(gWM 1 1).view.set]{fullShare} f)
        ∗ (∃ f, ((c : Thread nD τ).loc main_v6_1) ↦[(gWM 0 2).view.set]{fullShare} f)
        ∗ (∃ f, ((c : Thread nD τ).loc main_v6_1) ↦[(gWM 1 2).view.set]{fullShare} f)
        ∗ (∃ f, ((c : Thread nD τ).loc main_v6_1) ↦[(gWM 0 3).view.set]{fullShare} f)
        ∗ (∃ f, ((c : Thread nD τ).loc main_v6_1) ↦[(gWM 1 3).view.set]{fullShare} f)
        ∗ (∃ f, ((c : Thread nD τ).loc main_v6_1) ↦[(gWM 0 4).view.set]{fullShare} f)
        ∗ (∃ f, ((c : Thread nD τ).loc main_v6_1) ↦[(gWM 1 4).view.set]{fullShare} f)
        ∗ (∃ f, ((c : Thread nD τ).loc main_v6_1) ↦[(gWM 0 5).view.set]{fullShare} f)
        ∗ (∃ f, ((c : Thread nD τ).loc main_v6_1) ↦[(gWM 1 5).view.set]{fullShare} f)
        ∗ (∃ f, ((c : Thread nD τ).loc main_v6_1) ↦[(gWM 0 6).view.set]{fullShare} f)
        ∗ (∃ f, ((c : Thread nD τ).loc main_v6_1) ↦[(gWM 1 6).view.set]{fullShare} f))
      ⊢ (iprop(∃ f, ((c : Thread nD τ).loc main_v6_1) ↦{fullShare} f) : sProp 𝕄) := by
  have hq := gW_pairwise.sublist (List.take_sublist 14 _)
  have hp : ([(gWM 0 0).view.set, (gWM 1 0).view.set, (gWM 0 1).view.set, (gWM 1 1).view.set, (gWM 0 2).view.set, (gWM 1 2).view.set, (gWM 0 3).view.set, (gWM 1 3).view.set, (gWM 0 4).view.set, (gWM 1 4).view.set, (gWM 0 5).view.set, (gWM 1 5).view.set, (gWM 0 6).view.set, (gWM 1 6).view.set] : List (Finset S2x15x128x2048.Idx)).Pairwise Disjoint := hq
  have h := rejoin_some (F := F) (ℓ := ((c : Thread nD τ).loc main_v6_1)) [(gWM 0 0).view.set, (gWM 1 0).view.set, (gWM 0 1).view.set, (gWM 1 1).view.set, (gWM 0 2).view.set, (gWM 1 2).view.set, (gWM 0 3).view.set, (gWM 1 3).view.set, (gWM 0 4).view.set, (gWM 1 4).view.set, (gWM 0 5).view.set, (gWM 1 5).view.set, (gWM 0 6).view.set, (gWM 1 6).view.set] Finset.univ hp (fun _ _ => Finset.subset_univ _)
  simp only [somePieces] at h
  refine BIBase.Entails.trans ?_ h
  iintro ⟨HR, H0, H1, H2, H3, H4, H5, H6, H7, H8, H9, H10, H11, H12, H13⟩
  isplitl [HR]; · iexact HR
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iempintro

/-- What a buffer holds can be forgotten. -/
theorem forget (c : Dev nD) {sp : Space} {S : Shape} {e : EltTy} (M : Memref sig .tc sp S e) (f : Bf (F := F) c M) :
    pt c M f ⊢ (iprop(∃ f' : Bf (F := F) c M, pt c M f') : sProp 𝕄) := by
  iintro H; iexists f; iexact H

/-- The result from its two column windows. -/
theorem y_join (c : Dev nD) (f : Bf (F := F) c (Memref.whole main_v6_0)) (p0 : S256x2048.Idx → Elt F .bf16) (p1 : S256x512.Idx → Elt F .bf16) :
    iprop(((yWin0 (Memref.whole main_v6_0)).view.loc (c : Thread nD τ) ↦[(yWin0 (Memref.whole main_v6_0)).view.set]{fullShare}
          (Memref.whole main_v6_0).view.writes (Elt F) f [⟨Rect.unit (s := S256x2560) ![0, 0] S256x2048.size inb_S256x2560_S256x2048_0_0, p0⟩])
        ∗ ((yWin1 (Memref.whole main_v6_0)).view.loc (c : Thread nD τ) ↦[(yWin1 (Memref.whole main_v6_0)).view.set]{fullShare}
          (Memref.whole main_v6_0).view.writes (Elt F) f [⟨Rect.unit (s := S256x2560) ![0, 2048] S256x512.size inb_S256x2560_S256x512_0_2048, p1⟩,
            ⟨Rect.unit (s := S256x2560) ![0, 0] S256x2048.size inb_S256x2560_S256x2048_0_0, p0⟩]))
      ⊢ (((c : Thread nD τ).loc main_v6_0) ↦{fullShare} ((Memref.whole main_v6_0).view.writes (Elt F) f [⟨Rect.unit (s := S256x2560) ![0, 2048] S256x512.size inb_S256x2560_S256x512_0_2048, p1⟩,
            ⟨Rect.unit (s := S256x2560) ![0, 0] S256x2048.size inb_S256x2560_S256x2048_0_0, p0⟩]) : sProp 𝕄) := by
  have e0 : (yWin0 (Memref.whole main_v6_0)).view.set = ySet 0 := View.set_slice_whole _ _
  have e1 : (yWin1 (Memref.whole main_v6_0)).view.set = ySet 1 := View.set_slice_whole _ _
  have hd : Disjoint (yWin0 (Memref.whole main_v6_0)).view.set (yWin1 (Memref.whole main_v6_0)).view.set := by
    rw [e0, e1]; exact ySet_disjoint 0 1 (by decide)
  have hu : (Finset.univ : Finset S256x2560.Idx) = (yWin0 (Memref.whole main_v6_0)).view.set ∪ (yWin1 (Memref.whole main_v6_0)).view.set := by
    rw [e0, e1]; ext y
    refine ⟨fun _ => ?_, fun _ => Finset.mem_univ _⟩
    by_cases h : (y 1).val < 2048
    · exact Finset.mem_union_left _ ((mem_ySet0 y).2 h)
    · exact Finset.mem_union_right _ ((mem_ySet1 y).2 (by omega))
  refine BIBase.Entails.trans ?_ (Entails.of_eq (congrArg (fun S => (((c : Thread nD τ).loc main_v6_0) ↦[S]{fullShare} ((Memref.whole main_v6_0).view.writes (Elt F) f [⟨Rect.unit (s := S256x2560) ![0, 2048] S256x512.size inb_S256x2560_S256x512_0_2048, p1⟩,
            ⟨Rect.unit (s := S256x2560) ![0, 0] S256x2048.size inb_S256x2560_S256x2048_0_0, p0⟩]) : sProp 𝕄)) hu.symm))
  refine BIBase.Entails.trans ?_ (pointsTo_union hd).2
  iintro ⟨H0, H1⟩
  isplitl [H0]
  · rw [pointsTo_congr (ℓ := ((c : Thread nD τ).loc main_v6_0)) (I := (yWin0 (Memref.whole main_v6_0)).view.set)
      (f := (Memref.whole main_v6_0).view.writes (Elt F) f [⟨Rect.unit (s := S256x2560) ![0, 2048] S256x512.size inb_S256x2560_S256x512_0_2048, p1⟩,
            ⟨Rect.unit (s := S256x2560) ![0, 0] S256x2048.size inb_S256x2560_S256x2048_0_0, p0⟩])
      (g := (Memref.whole main_v6_0).view.writes (Elt F) f [⟨Rect.unit (s := S256x2560) ![0, 0] S256x2048.size inb_S256x2560_S256x2048_0_0, p0⟩])
      (fun i hi => View.write_of_not_mem _ _ Finset.univ (Finset.disjoint_left.1 hd hi))]
    iexact H0
  iexact H1

end Cert.Kernel.Hand
end
-- ==== Proof.Kernel.Run.lean ====
module
public import proofs.«01_k».proof.Proof.Gen.Kernel.Frame
public import proofs.«01_k».proof.Proof.Gen.Kernel.Skeleton
public import Idealize.ShloMosaic.Lib.Tactic
public import Idealize.ShloMosaic.Lib.Pipeline.FrameBody
public import Idealize.ShloMosaic.Lib.MixedBatch
public import Idealize.ShloMosaic.Lib.Ring
public import Idealize.ShloMosaic.Lib.WordCmp
public import Idealize.ShloMosaic.Lib.Mxu.Walk
public import proofs.«01_k».proof.Proof.Kernel.Finish
@[expose] public section
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

set_option maxHeartbeats 0 in

/-- The kernel body on its whole buffers: from the inputs at given contents, every other buffer at anything and every cell
    at zero, it runs to the inputs unchanged, the other buffers at some contents and every cell back at zero. -/
theorem body_whole (c : Dev nD) (g0 : Buf (Elt F) ((c : Thread nD τ).loc main_v0)) (g1 : Buf (Elt F) ((c : Thread nD τ).loc main_arg1)) (g2 : Buf (Elt F) ((c : Thread nD τ).loc main_v1)) (g3 : Buf (Elt F) ((c : Thread nD τ).loc main_v2)) (g4 : Buf (Elt F) ((c : Thread nD τ).loc main_arg4)) (g5 : Buf (Elt F) ((c : Thread nD τ).loc main_v3)) (g6 : Buf (Elt F) ((c : Thread nD τ).loc main_arg6)) (g7 : Buf (Elt F) ((c : Thread nD τ).loc main_v4)) (g8 : Buf (Elt F) ((c : Thread nD τ).loc main_v5)) (g9 : Buf (Elt F) ((c : Thread nD τ).loc main_v6_0)) (g10 : Buf (Elt F) ((c : Thread nD τ).loc main_v6_1)) (g11 : Buf (Elt F) ((c : Thread nD τ).loc main_v6_2)) (g12 : Buf (Elt F) ((c : Thread nD τ).loc cc0_scratch0)) (g13 : Buf (Elt F) ((c : Thread nD τ).loc cc0_scratch1)) (g14 : Buf (Elt F) ((c : Thread nD τ).loc cc0_scratch2)) (g15 : Buf (Elt F) ((c : Thread nD τ).loc cc0_scratch3)) (g16 : Buf (Elt F) ((c : Thread nD τ).loc cc0_scratch4)) (g17 : Buf (Elt F) ((c : Thread nD τ).loc cc0_scratch5)) (g18 : Buf (Elt F) ((c : Thread nD τ).loc cc0_scratch6)) (g19 : Buf (Elt F) ((c : Thread nD τ).loc cc0_scratch7)) (g20 : Buf (Elt F) ((c : Thread nD τ).loc cc0_scratch8)) (g21 : Buf (Elt F) ((c : Thread nD τ).loc cc0_scratch9)) (g22 : Buf (Elt F) ((c : Thread nD τ).loc cc0_scratch10)) (g23 : Buf (Elt F) ((c : Thread nD τ).loc cc0_scratch11)) (g24 : Buf (Elt F) ((c : Thread nD τ).loc cc0_scratch12)) (g25 : Buf (Elt F) ((c : Thread nD τ).loc cc0_scratch13)) (g26 : Buf (Elt F) ((c : Thread nD τ).loc cc0_scratch14)) (g27 : Buf (Elt F) ((c : Thread nD τ).loc cc0_scratch15)) (g28 : Buf (Elt F) ((c : Thread nD τ).loc cc0_scratch16)) (g29 : Buf (Elt F) ((c : Thread nD τ).loc cc0_scratch17)) (W : Waits sig Unit) (K : PUnit → sProp 𝕄) :
    iprop((((c : Thread nD τ).loc main_v0) ↦{fullShare} g0) ∗ (((c : Thread nD τ).loc main_arg1) ↦{fullShare} g1) ∗ (((c : Thread nD τ).loc main_v1) ↦{fullShare} g2) ∗ (((c : Thread nD τ).loc main_v2) ↦{fullShare} g3) ∗ (((c : Thread nD τ).loc main_arg4) ↦{fullShare} g4) ∗ (((c : Thread nD τ).loc main_v3) ↦{fullShare} g5) ∗ (((c : Thread nD τ).loc main_arg6) ↦{fullShare} g6) ∗ (((c : Thread nD τ).loc main_v4) ↦{fullShare} g7) ∗ (((c : Thread nD τ).loc main_v5) ↦{fullShare} g8) ∗ (((c : Thread nD τ).loc main_v6_0) ↦{fullShare} g9) ∗ (((c : Thread nD τ).loc main_v6_1) ↦{fullShare} g10) ∗ (((c : Thread nD τ).loc main_v6_2) ↦{fullShare} g11) ∗ (((c : Thread nD τ).loc cc0_scratch0) ↦{fullShare} g12) ∗ (((c : Thread nD τ).loc cc0_scratch1) ↦{fullShare} g13) ∗ (((c : Thread nD τ).loc cc0_scratch2) ↦{fullShare} g14) ∗ (((c : Thread nD τ).loc cc0_scratch3) ↦{fullShare} g15) ∗ (((c : Thread nD τ).loc cc0_scratch4) ↦{fullShare} g16) ∗ (((c : Thread nD τ).loc cc0_scratch5) ↦{fullShare} g17) ∗ (((c : Thread nD τ).loc cc0_scratch6) ↦{fullShare} g18) ∗ (((c : Thread nD τ).loc cc0_scratch7) ↦{fullShare} g19) ∗ (((c : Thread nD τ).loc cc0_scratch8) ↦{fullShare} g20) ∗ (((c : Thread nD τ).loc cc0_scratch9) ↦{fullShare} g21) ∗ (((c : Thread nD τ).loc cc0_scratch10) ↦{fullShare} g22) ∗ (((c : Thread nD τ).loc cc0_scratch11) ↦{fullShare} g23) ∗ (((c : Thread nD τ).loc cc0_scratch12) ↦{fullShare} g24) ∗ (((c : Thread nD τ).loc cc0_scratch13) ↦{fullShare} g25) ∗ (((c : Thread nD τ).loc cc0_scratch14) ↦{fullShare} g26) ∗ (((c : Thread nD τ).loc cc0_scratch15) ↦{fullShare} g27) ∗ (((c : Thread nD τ).loc cc0_scratch16) ↦{fullShare} g28) ∗ (((c : Thread nD τ).loc cc0_scratch17) ↦{fullShare} g29)
        ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ owes (c : Thread nD τ) 0 W
        ∗ (iprop((((c : Thread nD τ).loc main_v0) ↦{fullShare} g0) ∗ (((c : Thread nD τ).loc main_arg1) ↦{fullShare} g1) ∗ (((c : Thread nD τ).loc main_v1) ↦{fullShare} g2) ∗ (((c : Thread nD τ).loc main_v2) ↦{fullShare} g3) ∗ (((c : Thread nD τ).loc main_arg4) ↦{fullShare} g4) ∗ (((c : Thread nD τ).loc main_v3) ↦{fullShare} g5) ∗ (((c : Thread nD τ).loc main_arg6) ↦{fullShare} g6) ∗ (((c : Thread nD τ).loc main_v4) ↦{fullShare} g7) ∗ (((c : Thread nD τ).loc main_v5) ↦{fullShare} g8) ∗ (∃ f, ((c : Thread nD τ).loc main_v6_0) ↦{fullShare} f) ∗ (∃ f, ((c : Thread nD τ).loc main_v6_1) ↦{fullShare} f) ∗ (∃ f, ((c : Thread nD τ).loc main_v6_2) ↦{fullShare} f) ∗ (∃ f, ((c : Thread nD τ).loc cc0_scratch0) ↦{fullShare} f) ∗ (∃ f, ((c : Thread nD τ).loc cc0_scratch1) ↦{fullShare} f) ∗ (∃ f, ((c : Thread nD τ).loc cc0_scratch2) ↦{fullShare} f) ∗ (∃ f, ((c : Thread nD τ).loc cc0_scratch3) ↦{fullShare} f) ∗ (∃ f, ((c : Thread nD τ).loc cc0_scratch4) ↦{fullShare} f) ∗ (∃ f, ((c : Thread nD τ).loc cc0_scratch5) ↦{fullShare} f) ∗ (∃ f, ((c : Thread nD τ).loc cc0_scratch6) ↦{fullShare} f) ∗ (∃ f, ((c : Thread nD τ).loc cc0_scratch7) ↦{fullShare} f) ∗ (∃ f, ((c : Thread nD τ).loc cc0_scratch8) ↦{fullShare} f) ∗ (∃ f, ((c : Thread nD τ).loc cc0_scratch9) ↦{fullShare} f) ∗ (∃ f, ((c : Thread nD τ).loc cc0_scratch10) ↦{fullShare} f) ∗ (∃ f, ((c : Thread nD τ).loc cc0_scratch11) ↦{fullShare} f) ∗ (∃ f, ((c : Thread nD τ).loc cc0_scratch12) ↦{fullShare} f) ∗ (∃ f, ((c : Thread nD τ).loc cc0_scratch13) ↦{fullShare} f) ∗ (∃ f, ((c : Thread nD τ).loc cc0_scratch14) ↦{fullShare} f) ∗ (∃ f, ((c : Thread nD τ).loc cc0_scratch15) ↦{fullShare} f) ∗ (∃ f, ((c : Thread nD τ).loc cc0_scratch16) ↦{fullShare} f) ∗ (∃ f, ((c : Thread nD τ).loc cc0_scratch17) ↦{fullShare} f)
            ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ (∃ W', owes (c : Thread nD τ) 0 W')) -∗ K ⟨⟩))
      ⊢ wp frame (wpE (defs₀ (F := F)) Variants.none c none) Set.univ
          (cc0_kpconv (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_arg6) (Memref.isWhole_whole _) (Memref.whole main_v4) (Memref.isWhole_whole _) (Memref.whole main_v5) (Memref.isWhole_whole _) (Memref.whole main_v6_0) (Memref.isWhole_whole _) (Memref.whole main_v6_1) (Memref.isWhole_whole _) (Memref.whole main_v6_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22) K := by
  change iprop(pt c (Memref.whole main_v0) g0 ∗ pt c (Memref.whole main_arg1) g1 ∗ pt c (Memref.whole main_v1) g2 ∗ pt c (Memref.whole main_v2) g3 ∗ pt c (Memref.whole main_arg4) g4 ∗ pt c (Memref.whole main_v3) g5 ∗ pt c (Memref.whole main_arg6) g6 ∗ pt c (Memref.whole main_v4) g7 ∗ pt c (Memref.whole main_v5) g8 ∗ pt c (Memref.whole main_v6_0) g9 ∗ pt c (Memref.whole main_v6_1) g10 ∗ pt c (Memref.whole main_v6_2) g11 ∗ pt c (Memref.whole cc0_scratch0) g12 ∗ pt c (Memref.whole cc0_scratch1) g13 ∗ pt c (Memref.whole cc0_scratch2) g14 ∗ pt c (Memref.whole cc0_scratch3) g15 ∗ pt c (Memref.whole cc0_scratch4) g16 ∗ pt c (Memref.whole cc0_scratch5) g17 ∗ pt c (Memref.whole cc0_scratch6) g18 ∗ pt c (Memref.whole cc0_scratch7) g19 ∗ pt c (Memref.whole cc0_scratch8) g20 ∗ pt c (Memref.whole cc0_scratch9) g21 ∗ pt c (Memref.whole cc0_scratch10) g22 ∗ pt c (Memref.whole cc0_scratch11) g23 ∗ pt c (Memref.whole cc0_scratch12) g24 ∗ pt c (Memref.whole cc0_scratch13) g25 ∗ pt c (Memref.whole cc0_scratch14) g26 ∗ pt c (Memref.whole cc0_scratch15) g27 ∗ pt c (Memref.whole cc0_scratch16) g28 ∗ pt c (Memref.whole cc0_scratch17) g29
        ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ owes (c : Thread nD τ) 0 W
        ∗ (iprop((((c : Thread nD τ).loc main_v0) ↦{fullShare} g0) ∗ (((c : Thread nD τ).loc main_arg1) ↦{fullShare} g1) ∗ (((c : Thread nD τ).loc main_v1) ↦{fullShare} g2) ∗ (((c : Thread nD τ).loc main_v2) ↦{fullShare} g3) ∗ (((c : Thread nD τ).loc main_arg4) ↦{fullShare} g4) ∗ (((c : Thread nD τ).loc main_v3) ↦{fullShare} g5) ∗ (((c : Thread nD τ).loc main_arg6) ↦{fullShare} g6) ∗ (((c : Thread nD τ).loc main_v4) ↦{fullShare} g7) ∗ (((c : Thread nD τ).loc main_v5) ↦{fullShare} g8) ∗ (∃ f, ((c : Thread nD τ).loc main_v6_0) ↦{fullShare} f) ∗ (∃ f, ((c : Thread nD τ).loc main_v6_1) ↦{fullShare} f) ∗ (∃ f, ((c : Thread nD τ).loc main_v6_2) ↦{fullShare} f) ∗ (∃ f, ((c : Thread nD τ).loc cc0_scratch0) ↦{fullShare} f) ∗ (∃ f, ((c : Thread nD τ).loc cc0_scratch1) ↦{fullShare} f) ∗ (∃ f, ((c : Thread nD τ).loc cc0_scratch2) ↦{fullShare} f) ∗ (∃ f, ((c : Thread nD τ).loc cc0_scratch3) ↦{fullShare} f) ∗ (∃ f, ((c : Thread nD τ).loc cc0_scratch4) ↦{fullShare} f) ∗ (∃ f, ((c : Thread nD τ).loc cc0_scratch5) ↦{fullShare} f) ∗ (∃ f, ((c : Thread nD τ).loc cc0_scratch6) ↦{fullShare} f) ∗ (∃ f, ((c : Thread nD τ).loc cc0_scratch7) ↦{fullShare} f) ∗ (∃ f, ((c : Thread nD τ).loc cc0_scratch8) ↦{fullShare} f) ∗ (∃ f, ((c : Thread nD τ).loc cc0_scratch9) ↦{fullShare} f) ∗ (∃ f, ((c : Thread nD τ).loc cc0_scratch10) ↦{fullShare} f) ∗ (∃ f, ((c : Thread nD τ).loc cc0_scratch11) ↦{fullShare} f) ∗ (∃ f, ((c : Thread nD τ).loc cc0_scratch12) ↦{fullShare} f) ∗ (∃ f, ((c : Thread nD τ).loc cc0_scratch13) ↦{fullShare} f) ∗ (∃ f, ((c : Thread nD τ).loc cc0_scratch14) ↦{fullShare} f) ∗ (∃ f, ((c : Thread nD τ).loc cc0_scratch15) ↦{fullShare} f) ∗ (∃ f, ((c : Thread nD τ).loc cc0_scratch16) ↦{fullShare} f) ∗ (∃ f, ((c : Thread nD τ).loc cc0_scratch17) ↦{fullShare} f)
            ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ (∃ W', owes (c : Thread nD τ) 0 W')) -∗ K ⟨⟩)) ⊢ _
  iintro ⟨H0, H1, H2, H3, H4, H5, H6, H7, H8, H9, H10, H11, H12, H13, H14, H15, H16, H17, H18, H19, H20, H21, H22, H23, H24, H25, H26, H27, H28, H29, S0, S1, S2, S3, S4, S5, S6, S7, S8, S9, S10, S11, S12, S13, S14, S15, S16, S17, S18, HO, HK⟩
  ihave HH := (Entails.of_eq (ring_slots c g29)) $$ H29
  icases HH with ⟨H29s0, H29s1, H29s2, H29s3, H29s4, H29s5, H29s6, H29s7⟩
  ihave HH := (Entails.of_eq (tokens c (Memref.whole main_arg6) g6)) $$ H6
  icases HH with ⟨H6d, H6t8, H6t9, H6t10, H6t11, H6t12, H6t13, H6t14, H6t15, H6r⟩
  imod (Transfers.mixedBatch_alloc' (Lvl := ℕ) (countersEmb (U := Pipeline.UD sig nD τ)) (c : Thread nD τ) () yAmts
    (yDeliv c (Memref.whole main_v6_0) (Memref.whole cc0_scratch16)) (sm := SemLoc.dma 17) (E := Set.univ)) $$ S17 with HB
  unfold yDeliv
  unfold cc0_kpconv
  set_option sl_exec.stepHeartbeats 4000000 in
  set_option sl_exec.squeezeSlice true in
  set_option sl_exec.dmaWindow true in
  sl_exec_parts
  ihave HH := (forget c (Memref.whole cc0_scratch8) _) $$ H20
  icases HH with ⟨%e20, H20⟩
  ihave HH := (forget c (Memref.whole cc0_scratch9) _) $$ H21
  icases HH with ⟨%e21, H21⟩
  ihave HH := (forget c (Memref.whole cc0_scratch10) _) $$ H22
  icases HH with ⟨%e22, H22⟩
  ihave HH := (forget c (Memref.whole cc0_scratch11) _) $$ H23
  icases HH with ⟨%e23, H23⟩
  ihave HH := (forget c (Memref.whole cc0_scratch12) _) $$ H24
  icases HH with ⟨%e24, H24⟩
  ihave HH := (forget c (Memref.whole cc0_scratch14) _) $$ H26
  icases HH with ⟨%e26, H26⟩
  ihave HH := (forget c (Memref.whole cc0_scratch15) _) $$ H27
  icases HH with ⟨%e27, H27⟩
  ihave HH := (forget c (Memref.whole cc0_scratch13) _) $$ H25
  icases HH with ⟨%e25, H25⟩
  ihave HH := ((token16 c (Memref.whole cc0_scratch13) _).1) $$ H25
  icases HH with ⟨H25, H25t, H25r⟩
  have hp16 : Transfers.BatchOf (c : Thread nD τ) (SemLoc.dma (sig := sig) 16) 30 (windows := true) := trivial
  set_option sl_exec.unrollTrips 15 in
  set_option sl_exec.stepHeartbeats 4000000 in
  set_option sl_exec.squeezeSlice true in
  set_option sl_exec.dmaWindow true in
  sl_exec_parts
  ihave HH := (Entails.of_eq (slot_windows c 7 (by decide) _)) $$ H29s7
  icases HH with ⟨H29s7w0, H29s7w1, H29s7w2, H29s7w3, H29s7w4, H29s7w5, H29s7w6, H29s7w7, H29s7w8, H29s7w9, H29s7w10, H29s7w11, H29s7w12, H29s7w13, H29s7w14, H29s7w15⟩
  have hp15 : Transfers.BatchOfUse (c : Thread nD τ) (SemLoc.dma (sig := sig) 15) 0 12 (windows := true) := trivial
  set_option sl_exec.unrollTrips 15 in
  set_option sl_exec.stepHeartbeats 4000000 in
  set_option sl_exec.squeezeSlice true in
  set_option sl_exec.dmaWindow true in
  sl_exec_parts
  ihave HH := (Entails.of_eq (slot_windows c 0 (by decide) _)) $$ H29s0
  icases HH with ⟨H29s0w0, H29s0w1, H29s0w2, H29s0w3, H29s0w4, H29s0w5, H29s0w6, H29s0w7, H29s0w8, H29s0w9, H29s0w10, H29s0w11, H29s0w12, H29s0w13, H29s0w14, H29s0w15⟩
  have hp8 : Transfers.BatchOfUse (c : Thread nD τ) (SemLoc.dma (sig := sig) 8) 0 12 (windows := true) := trivial
  set_option sl_exec.unrollTrips 15 in
  set_option sl_exec.stepHeartbeats 4000000 in
  set_option sl_exec.squeezeSlice true in
  set_option sl_exec.dmaWindow true in
  sl_exec_parts
  ihave HH := (Entails.of_eq (slot_windows c 1 (by decide) _)) $$ H29s1
  icases HH with ⟨H29s1w0, H29s1w1, H29s1w2, H29s1w3, H29s1w4, H29s1w5, H29s1w6, H29s1w7, H29s1w8, H29s1w9, H29s1w10, H29s1w11, H29s1w12, H29s1w13, H29s1w14, H29s1w15⟩
  have hp9 : Transfers.BatchOfUse (c : Thread nD τ) (SemLoc.dma (sig := sig) 9) 0 12 (windows := true) := trivial
  set_option sl_exec.unrollTrips 15 in
  set_option sl_exec.stepHeartbeats 4000000 in
  set_option sl_exec.squeezeSlice true in
  set_option sl_exec.dmaWindow true in
  sl_exec_parts
  ihave HH := (Entails.of_eq (slot_windows c 2 (by decide) _)) $$ H29s2
  icases HH with ⟨H29s2w0, H29s2w1, H29s2w2, H29s2w3, H29s2w4, H29s2w5, H29s2w6, H29s2w7, H29s2w8, H29s2w9, H29s2w10, H29s2w11, H29s2w12, H29s2w13, H29s2w14, H29s2w15⟩
  have hp10 : Transfers.BatchOfUse (c : Thread nD τ) (SemLoc.dma (sig := sig) 10) 0 12 (windows := true) := trivial
  set_option sl_exec.unrollTrips 15 in
  set_option sl_exec.stepHeartbeats 4000000 in
  set_option sl_exec.squeezeSlice true in
  set_option sl_exec.dmaWindow true in
  sl_exec_parts
  ihave HH := (Entails.of_eq (slot_windows c 3 (by decide) _)) $$ H29s3
  icases HH with ⟨H29s3w0, H29s3w1, H29s3w2, H29s3w3, H29s3w4, H29s3w5, H29s3w6, H29s3w7, H29s3w8, H29s3w9, H29s3w10, H29s3w11, H29s3w12, H29s3w13, H29s3w14, H29s3w15⟩
  have hp11 : Transfers.BatchOfUse (c : Thread nD τ) (SemLoc.dma (sig := sig) 11) 0 12 (windows := true) := trivial
  set_option sl_exec.unrollTrips 15 in
  set_option sl_exec.stepHeartbeats 4000000 in
  set_option sl_exec.squeezeSlice true in
  set_option sl_exec.dmaWindow true in
  sl_exec_parts
  ihave H6 := (Entails.of_eq (tokens c (Memref.whole main_arg6) g6).symm) $$ [H6d H6t8 H6t9 H6t10 H6t11 H6t12 H6t13 H6t14 H6t15 H6r]
  · isplitl [H6d]; · iexact H6d
    isplitl [H6t8]; · iexact H6t8
    isplitl [H6t9]; · iexact H6t9
    isplitl [H6t10]; · iexact H6t10
    isplitl [H6t11]; · iexact H6t11
    isplitl [H6t12]; · iexact H6t12
    isplitl [H6t13]; · iexact H6t13
    isplitl [H6t14]; · iexact H6t14
    isplitl [H6t15]; · iexact H6t15
    iexact H6r
  ihave H25 := ((token16 c (Memref.whole cc0_scratch13) _).2) $$ [H25 H25t H25r]
  · isplitl [H25]; · iexact H25
    isplitl [H25t]; · iexact H25t
    iexact H25r
  ihave H29s7 := (slot_windows_join c 7 (by decide)) $$ [H29s7w0 H29s7w1 H29s7w2 H29s7w3 H29s7w4 H29s7w5 H29s7w6 H29s7w7 H29s7w8 H29s7w9 H29s7w10 H29s7w11 H29s7w12 H29s7w13 H29s7w14 H29s7w15]
  · isplitl [H29s7w0]; · iexists _; iexact H29s7w0
    isplitl [H29s7w1]; · iexists _; iexact H29s7w1
    isplitl [H29s7w2]; · iexists _; iexact H29s7w2
    isplitl [H29s7w3]; · iexists _; iexact H29s7w3
    isplitl [H29s7w4]; · iexists _; iexact H29s7w4
    isplitl [H29s7w5]; · iexists _; iexact H29s7w5
    isplitl [H29s7w6]; · iexists _; iexact H29s7w6
    isplitl [H29s7w7]; · iexists _; iexact H29s7w7
    isplitl [H29s7w8]; · iexists _; iexact H29s7w8
    isplitl [H29s7w9]; · iexists _; iexact H29s7w9
    isplitl [H29s7w10]; · iexists _; iexact H29s7w10
    isplitl [H29s7w11]; · iexists _; iexact H29s7w11
    isplitl [H29s7w12]; · iexists _; iexact H29s7w12
    isplitl [H29s7w13]; · iexists _; iexact H29s7w13
    isplitl [H29s7w14]; · iexists _; iexact H29s7w14
    iexists _; iexact H29s7w15
  ihave H29s0 := (slot_windows_join c 0 (by decide)) $$ [H29s0w0 H29s0w1 H29s0w2 H29s0w3 H29s0w4 H29s0w5 H29s0w6 H29s0w7 H29s0w8 H29s0w9 H29s0w10 H29s0w11 H29s0w12 H29s0w13 H29s0w14 H29s0w15]
  · isplitl [H29s0w0]; · iexists _; iexact H29s0w0
    isplitl [H29s0w1]; · iexists _; iexact H29s0w1
    isplitl [H29s0w2]; · iexists _; iexact H29s0w2
    isplitl [H29s0w3]; · iexists _; iexact H29s0w3
    isplitl [H29s0w4]; · iexists _; iexact H29s0w4
    isplitl [H29s0w5]; · iexists _; iexact H29s0w5
    isplitl [H29s0w6]; · iexists _; iexact H29s0w6
    isplitl [H29s0w7]; · iexists _; iexact H29s0w7
    isplitl [H29s0w8]; · iexists _; iexact H29s0w8
    isplitl [H29s0w9]; · iexists _; iexact H29s0w9
    isplitl [H29s0w10]; · iexists _; iexact H29s0w10
    isplitl [H29s0w11]; · iexists _; iexact H29s0w11
    isplitl [H29s0w12]; · iexists _; iexact H29s0w12
    isplitl [H29s0w13]; · iexists _; iexact H29s0w13
    isplitl [H29s0w14]; · iexists _; iexact H29s0w14
    iexists _; iexact H29s0w15
  ihave H29s1 := (slot_windows_join c 1 (by decide)) $$ [H29s1w0 H29s1w1 H29s1w2 H29s1w3 H29s1w4 H29s1w5 H29s1w6 H29s1w7 H29s1w8 H29s1w9 H29s1w10 H29s1w11 H29s1w12 H29s1w13 H29s1w14 H29s1w15]
  · isplitl [H29s1w0]; · iexists _; iexact H29s1w0
    isplitl [H29s1w1]; · iexists _; iexact H29s1w1
    isplitl [H29s1w2]; · iexists _; iexact H29s1w2
    isplitl [H29s1w3]; · iexists _; iexact H29s1w3
    isplitl [H29s1w4]; · iexists _; iexact H29s1w4
    isplitl [H29s1w5]; · iexists _; iexact H29s1w5
    isplitl [H29s1w6]; · iexists _; iexact H29s1w6
    isplitl [H29s1w7]; · iexists _; iexact H29s1w7
    isplitl [H29s1w8]; · iexists _; iexact H29s1w8
    isplitl [H29s1w9]; · iexists _; iexact H29s1w9
    isplitl [H29s1w10]; · iexists _; iexact H29s1w10
    isplitl [H29s1w11]; · iexists _; iexact H29s1w11
    isplitl [H29s1w12]; · iexists _; iexact H29s1w12
    isplitl [H29s1w13]; · iexists _; iexact H29s1w13
    isplitl [H29s1w14]; · iexists _; iexact H29s1w14
    iexists _; iexact H29s1w15
  ihave H29s2 := (slot_windows_join c 2 (by decide)) $$ [H29s2w0 H29s2w1 H29s2w2 H29s2w3 H29s2w4 H29s2w5 H29s2w6 H29s2w7 H29s2w8 H29s2w9 H29s2w10 H29s2w11 H29s2w12 H29s2w13 H29s2w14 H29s2w15]
  · isplitl [H29s2w0]; · iexists _; iexact H29s2w0
    isplitl [H29s2w1]; · iexists _; iexact H29s2w1
    isplitl [H29s2w2]; · iexists _; iexact H29s2w2
    isplitl [H29s2w3]; · iexists _; iexact H29s2w3
    isplitl [H29s2w4]; · iexists _; iexact H29s2w4
    isplitl [H29s2w5]; · iexists _; iexact H29s2w5
    isplitl [H29s2w6]; · iexists _; iexact H29s2w6
    isplitl [H29s2w7]; · iexists _; iexact H29s2w7
    isplitl [H29s2w8]; · iexists _; iexact H29s2w8
    isplitl [H29s2w9]; · iexists _; iexact H29s2w9
    isplitl [H29s2w10]; · iexists _; iexact H29s2w10
    isplitl [H29s2w11]; · iexists _; iexact H29s2w11
    isplitl [H29s2w12]; · iexists _; iexact H29s2w12
    isplitl [H29s2w13]; · iexists _; iexact H29s2w13
    isplitl [H29s2w14]; · iexists _; iexact H29s2w14
    iexists _; iexact H29s2w15
  ihave H29s3 := (slot_windows_join c 3 (by decide)) $$ [H29s3w0 H29s3w1 H29s3w2 H29s3w3 H29s3w4 H29s3w5 H29s3w6 H29s3w7 H29s3w8 H29s3w9 H29s3w10 H29s3w11 H29s3w12 H29s3w13 H29s3w14 H29s3w15]
  · isplitl [H29s3w0]; · iexists _; iexact H29s3w0
    isplitl [H29s3w1]; · iexists _; iexact H29s3w1
    isplitl [H29s3w2]; · iexists _; iexact H29s3w2
    isplitl [H29s3w3]; · iexists _; iexact H29s3w3
    isplitl [H29s3w4]; · iexists _; iexact H29s3w4
    isplitl [H29s3w5]; · iexists _; iexact H29s3w5
    isplitl [H29s3w6]; · iexists _; iexact H29s3w6
    isplitl [H29s3w7]; · iexists _; iexact H29s3w7
    isplitl [H29s3w8]; · iexists _; iexact H29s3w8
    isplitl [H29s3w9]; · iexists _; iexact H29s3w9
    isplitl [H29s3w10]; · iexists _; iexact H29s3w10
    isplitl [H29s3w11]; · iexists _; iexact H29s3w11
    isplitl [H29s3w12]; · iexists _; iexact H29s3w12
    isplitl [H29s3w13]; · iexists _; iexact H29s3w13
    isplitl [H29s3w14]; · iexists _; iexact H29s3w14
    iexists _; iexact H29s3w15
  ihave H29 := (ring_join c) $$ [H29s0 H29s1 H29s2 H29s3 H29s4 H29s5 H29s6 H29s7]
  · isplitl [H29s0]; · iexact H29s0
    isplitl [H29s1]; · iexact H29s1
    isplitl [H29s2]; · iexact H29s2
    isplitl [H29s3]; · iexact H29s3
    isplitl [H29s4]; · iexists _; iexact H29s4
    isplitl [H29s5]; · iexists _; iexact H29s5
    isplitl [H29s6]; · iexists _; iexact H29s6
    iexact H29s7
  ihave HG := (g_join_some c) $$ [H10 H10_15 H10_14 H10_13 H10_12 H10_11 H10_10 H10_9 H10_8 H10_7 H10_6 H10_5 H10_4 H10_3 H10_2]
  · isplitl [H10]; · iexists _; iexact H10
    isplitl [H10_15]; · iexists _; iexact H10_15
    isplitl [H10_14]; · iexists _; iexact H10_14
    isplitl [H10_13]; · iexists _; iexact H10_13
    isplitl [H10_12]; · iexists _; iexact H10_12
    isplitl [H10_11]; · iexists _; iexact H10_11
    isplitl [H10_10]; · iexists _; iexact H10_10
    isplitl [H10_9]; · iexists _; iexact H10_9
    isplitl [H10_8]; · iexists _; iexact H10_8
    isplitl [H10_7]; · iexists _; iexact H10_7
    isplitl [H10_6]; · iexists _; iexact H10_6
    isplitl [H10_5]; · iexists _; iexact H10_5
    isplitl [H10_4]; · iexists _; iexact H10_4
    isplitl [H10_3]; · iexists _; iexact H10_3
    iexists _; iexact H10_2
  ihave HY := (y_join_out c) $$ [HB_dst0 HB_dst1]
  · isplitl [HB_dst0]; · iexact HB_dst0
    iexact HB_dst1
  ihave HZ := (y_join_buf c) $$ [HB_src0 HB_src1]
  · isplitl [HB_src0]; · iexact HB_src0
    iexact HB_src1
  rw [wp_ret]; imodintro
  iapply HK
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HY]; · iexact HY
  isplitl [HG]; · iexact HG
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [HZ]; · iexact HZ
  isplitl [H29]; · iexact H29
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [HB]; · iexact HB
  isplitl [S18]; · iexact S18
  iexists _; iexact HO

end Cert.Kernel.Hand
end
-- ==== Proof.Kernel.Frame.lean ====
module
public import proofs.«01_k».proof.Proof.Gen.Kernel.Frame
public import proofs.«01_k».proof.Proof.Gen.Kernel.Launch
public import proofs.«01_k».proof.Proof.Gen.Kernel.Points
public import proofs.«01_k».proof.Proof.Kernel.Run
public import Idealize.ShloMosaic.Lib.Tactic
public import Idealize.ShloMosaic.Lib.Pipeline.FrameBody
public import Idealize.ShloMosaic.Lib.MixedBatch
public import Idealize.ShloMosaic.Lib.Ring
public import Idealize.ShloMosaic.Lib.WordCmp
@[expose] public section
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! ## The region's operands -/

/-- The buffers the kernel's copies read: the nine inputs. -/
def H0 : Finset (Ref sig .tc) := {main_v0, main_arg1, main_v1, main_v2, main_arg4, main_v3, main_arg6, main_v4, main_v5}
/-- The buffers the kernel's copies write: the three results. -/
def R0 : Finset (Ref sig .tc) := {main_v6_0, main_v6_1, main_v6_2}
/-- The buffers the host lines after the region write. -/
def T0 : Finset (Ref sig .tc) := {main_v7, main_v8}
theorem H0_sub : H0 ⊆ Pipeline.restRefs sig (cfg0.spec) := by decide
theorem R0_sub : R0 ⊆ Pipeline.restRefs sig (cfg0.spec) \ H0 := by decide

/-- The kernel's nineteen DMA cells. -/
abbrev osem0 : Fin 19 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18] : Fin 19 → SemLoc sig) j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) := by
  rw [Pipeline.ownSems0_eq_of_list c osem0 [0, 1, 2, 3, 4, 5, 6, 7, 8, 9, 10, 11, 12, 13, 14, 15, 16, 17, 18] (by decide) (by decide)]; rfl
theorem hbmPts0_eq (c : Dev nD) :
    (bigSep H0 (fun b => ((c : Thread nD τ).loc b) ↦{fullShare} V m c b) : sProp 𝕄)
      = iprop((((c : Thread nD τ).loc main_v0) ↦{fullShare} V m c main_v0) ∗ (((c : Thread nD τ).loc main_arg1) ↦{fullShare} V m c main_arg1) ∗ (((c : Thread nD τ).loc main_v1) ↦{fullShare} V m c main_v1) ∗ (((c : Thread nD τ).loc main_v2) ↦{fullShare} V m c main_v2) ∗ (((c : Thread nD τ).loc main_arg4) ↦{fullShare} V m c main_arg4) ∗ (((c : Thread nD τ).loc main_v3) ↦{fullShare} V m c main_v3) ∗ (((c : Thread nD τ).loc main_arg6) ↦{fullShare} V m c main_arg6) ∗ (((c : Thread nD τ).loc main_v4) ↦{fullShare} V m c main_v4) ∗ (((c : Thread nD τ).loc main_v5) ↦{fullShare} V m c main_v5)) := by
  rw [BI.bigSep_eq_bigSepL_of_eq [main_v0, main_arg1, main_v1, main_v2, main_arg4, main_v3, main_arg6, main_v4, main_v5] (by decide) (by decide)]; rfl
theorem ownedPts0_eq (c : Dev nD) :
    (Pipeline.owned R0 c : sProp 𝕄)
      = iprop((∃ f, ((c : Thread nD τ).loc main_v6_0) ↦{fullShare} f) ∗ (∃ f, ((c : Thread nD τ).loc main_v6_1) ↦{fullShare} f) ∗ (∃ f, ((c : Thread nD τ).loc main_v6_2) ↦{fullShare} f)) := by
  unfold Pipeline.owned; rw [BI.bigSep_eq_bigSepL_of_eq [main_v6_0, main_v6_1, main_v6_2] (by decide) (by decide)]; rfl
theorem PhiDR0_eq (c : Dev nD) :
    (Pipeline.ΦDR osem0 (cfg0.spec) H0 R0 (V m) c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f) ∗ (∃ f : Buf (Elt F) ((c : Thread nD τ).loc cc0_scratch10), ((c : Thread nD τ).loc cc0_scratch10) ↦{fullShare} f) ∗ (∃ f : Buf (Elt F) ((c : Thread nD τ).loc cc0_scratch11), ((c : Thread nD τ).loc cc0_scratch11) ↦{fullShare} f) ∗ (∃ f : Buf (Elt F) ((c : Thread nD τ).loc cc0_scratch12), ((c : Thread nD τ).loc cc0_scratch12) ↦{fullShare} f) ∗ (∃ f : Buf (Elt F) ((c : Thread nD τ).loc cc0_scratch13), ((c : Thread nD τ).loc cc0_scratch13) ↦{fullShare} f) ∗ (∃ f : Buf (Elt F) ((c : Thread nD τ).loc cc0_scratch14), ((c : Thread nD τ).loc cc0_scratch14) ↦{fullShare} f) ∗ (∃ f : Buf (Elt F) ((c : Thread nD τ).loc cc0_scratch15), ((c : Thread nD τ).loc cc0_scratch15) ↦{fullShare} f) ∗ (∃ f : Buf (Elt F) ((c : Thread nD τ).loc cc0_scratch16), ((c : Thread nD τ).loc cc0_scratch16) ↦{fullShare} f) ∗ (∃ f : Buf (Elt F) ((c : Thread nD τ).loc cc0_scratch17), ((c : Thread nD τ).loc cc0_scratch17) ↦{fullShare} f) ∗ (∃ f : Buf (Elt F) ((c : Thread nD τ).loc cc0_scratch5), ((c : Thread nD τ).loc cc0_scratch5) ↦{fullShare} f))
          ∗ (∃ r, prngReg c r)
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0)
          ∗ iprop((((c : Thread nD τ).loc main_v0) ↦{fullShare} V m c main_v0) ∗ (((c : Thread nD τ).loc main_arg1) ↦{fullShare} V m c main_arg1) ∗ (((c : Thread nD τ).loc main_v1) ↦{fullShare} V m c main_v1) ∗ (((c : Thread nD τ).loc main_v2) ↦{fullShare} V m c main_v2) ∗ (((c : Thread nD τ).loc main_arg4) ↦{fullShare} V m c main_arg4) ∗ (((c : Thread nD τ).loc main_v3) ↦{fullShare} V m c main_v3) ∗ (((c : Thread nD τ).loc main_arg6) ↦{fullShare} V m c main_arg6) ∗ (((c : Thread nD τ).loc main_v4) ↦{fullShare} V m c main_v4) ∗ (((c : Thread nD τ).loc main_v5) ↦{fullShare} V m c main_v5))
          ∗ iprop((∃ f, ((c : Thread nD τ).loc main_v6_0) ↦{fullShare} f) ∗ (∃ f, ((c : Thread nD τ).loc main_v6_1) ↦{fullShare} f) ∗ (∃ f, ((c : Thread nD τ).loc main_v6_2) ↦{fullShare} f))) := by
  rw [Pipeline.ΦDR_eq, scopedRest0_eq, ownSems00_eq, hbmPts0_eq, ownedPts0_eq]

/-! ## The body at the one point -/

/-- The proof data of the region: no staged windows, the kernel's own buffers and cells in the invariant. -/
def dats (_ : Fin 1) (c : Dev nD) : Dat τ (Elt F) Unit ℕ (Pipeline.UD sig nD τ) ℕ cfg0 c where
  A w := V m c (Pipeline.arrRef (cfg0.spec) w)
  after w t := w.elim0
  Φ _ := Pipeline.ΦDR osem0 (cfg0.spec) H0 R0 (V m) c
  q _ := fullShare
  owed _ := 0

theorem A_eq (c : Dev nD) (w : Fin cfg0.W) : (dats m 0 c).A w = V m c (Pipeline.arrRef (cfg0.spec) w) := by
  dsimp only [dats]

def bodyPre (c : Dev nD) (t : Fin cfg0.N) : sProp 𝕄 :=
  iprop((dats m 0 c).Φ t.castSucc ∗ (dats m 0 c).owesAt () t.castSucc)
def bodyPost (c : Dev nD) (t : Fin cfg0.N) : sProp 𝕄 :=
  iprop((dats m 0 c).Φ t.succ ∗ (dats m 0 c).owesAt () t.succ)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦDR osem0 (cfg0.spec) H0 R0 (V m) c from rfl, PhiDR0_eq]
  unfold Dat.owesAt Pipeline.owesWithin
  rw [show (dats m 0 c).owed t.castSucc = 0 from rfl, show (dats m 0 c).owed t.succ = 0 from rfl]
  iintro ⟨⟨⟨⟨%fs0, HS0⟩, ⟨%fs1, HS1⟩, ⟨%fs2, HS2⟩, ⟨%fs3, HS3⟩, ⟨%fs4, HS4⟩, ⟨%fs6, HS6⟩, ⟨%fs7, HS7⟩, ⟨%fs8, HS8⟩, ⟨%fs9, HS9⟩, ⟨%fs10, HS10⟩, ⟨%fs11, HS11⟩, ⟨%fs12, HS12⟩, ⟨%fs13, HS13⟩, ⟨%fs14, HS14⟩, ⟨%fs15, HS15⟩, ⟨%fs16, HS16⟩, ⟨%fs17, HS17⟩, ⟨%fs5, HS5⟩⟩, Hg, ⟨Hq0, Hq1, Hq2, Hq3, Hq4, Hq5, Hq6, Hq7, Hq8, Hq9, Hq10, Hq11, Hq12, Hq13, Hq14, Hq15, Hq16, Hq17, Hq18⟩, ⟨HH0, HH1, HH2, HH3, HH4, HH5, HH6, HH7, HH8⟩, ⟨⟨%fr0, HH9⟩, ⟨%fr1, HH10⟩, ⟨%fr2, HH11⟩⟩⟩, ⟨%W, -, HW⟩⟩
  iapply (body_whole (F := F) c (V m c main_v0) (V m c main_arg1) (V m c main_v1) (V m c main_v2) (V m c main_arg4) (V m c main_v3) (V m c main_arg6) (V m c main_v4) (V m c main_v5) fr0 fr1 fr2 fs0 fs1 fs2 fs3 fs4 fs5 fs6 fs7 fs8 fs9 fs10 fs11 fs12 fs13 fs14 fs15 fs16 fs17 W _)
  isplitl [HH0]; · iexact HH0
  isplitl [HH1]; · iexact HH1
  isplitl [HH2]; · iexact HH2
  isplitl [HH3]; · iexact HH3
  isplitl [HH4]; · iexact HH4
  isplitl [HH5]; · iexact HH5
  isplitl [HH6]; · iexact HH6
  isplitl [HH7]; · iexact HH7
  isplitl [HH8]; · iexact HH8
  isplitl [HH9]; · iexact HH9
  isplitl [HH10]; · iexact HH10
  isplitl [HH11]; · iexact HH11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [HW]; · iexact HW
  iintro ⟨HH0, HH1, HH2, HH3, HH4, HH5, HH6, HH7, HH8, HH9, HH10, HH11, HS0, HS1, HS2, HS3, HS4, HS5, HS6, HS7, HS8, HS9, HS10, HS11, HS12, HS13, HS14, HS15, HS16, HS17, Hq0, Hq1, Hq2, Hq3, Hq4, Hq5, Hq6, Hq7, Hq8, Hq9, Hq10, Hq11, Hq12, Hq13, Hq14, Hq15, Hq16, Hq17, Hq18, ⟨%W', HW'⟩⟩
  isplitl [HH0 HH1 HH2 HH3 HH4 HH5 HH6 HH7 HH8 HH9 HH10 HH11 HS0 HS1 HS2 HS3 HS4 HS5 HS6 HS7 HS8 HS9 HS10 HS11 HS12 HS13 HS14 HS15 HS16 HS17 Hg Hq0 Hq1 Hq2 Hq3 Hq4 Hq5 Hq6 Hq7 Hq8 Hq9 Hq10 Hq11 Hq12 Hq13 Hq14 Hq15 Hq16 Hq17 Hq18]
  · isplitl [HS0 HS1 HS2 HS3 HS4 HS6 HS7 HS8 HS9 HS10 HS11 HS12 HS13 HS14 HS15 HS16 HS17 HS5]
    · isplitl [HS0]; · iexact HS0
      isplitl [HS1]; · iexact HS1
      isplitl [HS2]; · iexact HS2
      isplitl [HS3]; · iexact HS3
      isplitl [HS4]; · iexact HS4
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      iexact HS5
    isplitl [Hg]; · iexact Hg
    isplitl [Hq0 Hq1 Hq2 Hq3 Hq4 Hq5 Hq6 Hq7 Hq8 Hq9 Hq10 Hq11 Hq12 Hq13 Hq14 Hq15 Hq16 Hq17 Hq18]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      iexact Hq18
    isplitl [HH0 HH1 HH2 HH3 HH4 HH5 HH6 HH7 HH8]
    · isplitl [HH0]; · iexact HH0
      isplitl [HH1]; · iexact HH1
      isplitl [HH2]; · iexact HH2
      isplitl [HH3]; · iexact HH3
      isplitl [HH4]; · iexact HH4
      isplitl [HH5]; · iexact HH5
      isplitl [HH6]; · iexact HH6
      isplitl [HH7]; · iexact HH7
      iexact HH8
    isplitl [HH9]; · iexact HH9
    isplitl [HH10]; · iexact HH10
    iexact HH11
  iexists W'; isplitr; · ipureintro; exact fun _ _ => Or.inl trivial
  iexact HW'

theorem defs₀_row (t : Fin cfg0.N) :
    defs₀ (F := F) .tc cfg0.body (cfg0.bodyArgs t (cfg0.slots t)) = bodyAt0 t := by
  unfold defs₀; rw [Defs.onTc_tc]

theorem bigSep_none (Φ : Fin cfg0.W → sProp 𝕄) : bigSep Finset.univ Φ = iprop(emp) := by
  rw [show (Finset.univ : Finset (Fin cfg0.W)) = ∅ from rfl]; exact BI.bigSep_empty

theorem body_obligation (c : Dev nD) : BodyObligation (dats (F := F) m 0 c) (defs₀ (F := F)) Variants.none () Set.univ := fun t => by
  rw [bigSep_none, bigSep_none, defs₀_row]
  exact triple_restated (sound_body m c t) rfl (Laws.sep_mono .rfl Laws.sep_emp.1) fun _ => Laws.sep_mono .rfl Laws.sep_emp.2

/-! ## The run and the frame -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_writes : ∀ ops ∈ ([hostOps1] : List (List (HloOp τ sig (Elt F)))), ∀ op ∈ ops, ∀ b : Ref sig .tc,
    Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl | rfl
  · simp only [StableHlo.reshape_writes, Finset.mem_singleton] at hb
    rw [show b = main_v7 from of_not_not fun hne => StableHlo.devRef_ne_of_ne hne hb]; decide
  · simp only [StableHlo.unary_writes, Finset.mem_singleton] at hb
    rw [show b = main_v8 from of_not_not fun hne => StableHlo.devRef_ne_of_ne hne hb]; decide

set_option backward.isDefEq.respectTransparency.types false in
theorem run_main : θ_run defs (onTc (τ := τ) (main (F := F))) (s₀ m ρ) (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmainD m Variants.none) (hA := A_eq m)
    (hin := fun _ => .rfl) (hout := fun _ => .rfl)

/-- THE FRAME: the program runs to its end, its arguments end as they were, every semaphore counter ends at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).2 main_arg8 (Finset.mem_sdiff.mpr ⟨Pipeline.mem_restRefs_of main_arg8 (by decide) (by decide), by decide⟩)).trans (V_main_arg8 m c)⟩, h.2⟩) (run_main m ρ)

end Cert.Kernel.Hand

end
-- ==== Proof.KernelIdeal.Split.lean ====
module
public import proofs.«01_k».proof.Proof.Gen.KernelIdeal.Frame
public import proofs.«01_k».proof.Proof.Gen.KernelIdeal.Skeleton
public import Idealize.ShloMosaic.Lib.Tactic
public import Idealize.ShloMosaic.Lib.Pipeline.FrameBody
public import Idealize.ShloMosaic.Lib.MixedBatch
public import Idealize.ShloMosaic.Lib.Ring
public import Idealize.ShloMosaic.Lib.WordCmp
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

theorem halves (c : Dev nD) {sp : Space} {S : Shape} {e : EltTy} (M : Memref sig .tc sp S e) (f : Bf (F := F) c M) :
    pt c M f ⊢ iprop((M.view.loc (c : Thread nD τ) ↦{fullShare.left} f) ∗ (M.view.loc (c : Thread nD τ) ↦{fullShare.right} f)) :=
  (pointsTo_share (PosShare.mem_left_op_right _)).1

theorem token16 (c : Dev nD) {sp : Space} {S : Shape} {e : EltTy} (M : Memref sig .tc sp S e) (f : Bf (F := F) c M) :
    pt c M f ⊣⊢ iprop((M.view.loc (c : Thread nD τ) ↦{Transfers.shareDrop fullShare 17} f)
      ∗ (M.view.loc (c : Thread nD τ) ↦{Transfers.shareTokN fullShare 16} f)
      ∗ bigSep (Finset.range 16) (fun i => (M.view.loc (c : Thread nD τ) ↦{Transfers.shareTokN fullShare i} f : sProp 𝕄))) := by
  have h := Transfers.pointsTo_toks_range (Ix := Unit) (Name := ℕ) (U := Pipeline.UD sig nD τ) (Lvl := ℕ) (ℓ := M.view.loc (c : Thread nD τ)) (S := Finset.univ) (f := f) fullShare 17
  rw [Finset.range_add_one, BI.bigSep_insert Finset.notMem_range_self] at h
  exact h

/-! ## The weight ring, one slot at a time -/

theorem slot_inb (s : Fin 8) : ∀ a, (![s.val, 0, 0] : Fin 3 → ℕ) a + S1x2048x2048.size a ≤ S8x2048x2048.size a := by
  revert s; decide
/-- The elements of ring slot `s`. -/
abbrev slotSet (s : Fin 8) : Finset S8x2048x2048.Idx := (Rect.unit (s := S8x2048x2048) ![s.val, 0, 0] S1x2048x2048.size (slot_inb s)).set
theorem mem_slotSet (s : Fin 8) (y : S8x2048x2048.Idx) : y ∈ slotSet s ↔ (y 0).val = s.val := by
  rw [Rect.mem_set_unit]
  have h1 : (y 1).val < 2048 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 2048; omega
theorem slotSet_disjoint : ∀ s s' : Fin 8, s ≠ s' → Disjoint (slotSet s) (slotSet s') := by
  intro s s' hne; rw [Finset.disjoint_left]; intro y hy hy'; rw [mem_slotSet] at hy hy'; exact hne (Fin.ext (hy.symm.trans hy'))
theorem slotSet_cover : (Finset.univ : Finset (Fin 8)).biUnion slotSet = Finset.univ := by
  ext y; simp only [Finset.mem_biUnion, Finset.mem_univ, true_and, iff_true]; exact ⟨(y 0).cast (by decide), by rw [mem_slotSet]; rfl⟩

/-- Ring slot `s` as the kernel's copies name it. -/
abbrev slotM (arg29 : Memref sig .tc .vmem S8x2048x2048 .fp8e4m3) (s : ℕ) (h : ∀ a, (![s, 0, 0] : Fin 3 → ℕ) a + S1x2048x2048.size a ≤ S8x2048x2048.size a) :
    Memref sig .tc .vmem S2048x2048 .fp8e4m3 :=
  (arg29.slice (Rect.unit (s := S8x2048x2048) ![s, 0, 0] S1x2048x2048.size h) (fun _ => rfl)).squeeze S2048x2048 squeezes_S1x2048x2048_S2048x2048
/-- The ring's buffer. -/
abbrev ringM : Memref sig .tc .vmem S8x2048x2048 .fp8e4m3 := Memref.whole cc0_scratch17
omit [FloatOps F] in
theorem slotM_set (s : Fin 8) : (slotM ringM s.val (slot_inb s)).view.set = slotSet s :=
  (View.set_reshape _ _).trans (View.set_slice_whole _ _)

/-- Slot `s` held at contents `f`. -/
abbrev slotPt (c : Dev nD) (s : Fin 8) (f : Buf (Elt F) ((c : Thread nD τ).loc cc0_scratch17)) : sProp 𝕄 :=
  (slotM ringM s.val (slot_inb s)).view.loc (c : Thread nD τ) ↦[(slotM ringM s.val (slot_inb s)).view.set]{fullShare} f
omit [FloatOps F] in
theorem slotPt_eq (c : Dev nD) (s : Fin 8) (f) : slotPt (F := F) c s f = (((c : Thread nD τ).loc cc0_scratch17) ↦[slotSet s]{fullShare} f : sProp 𝕄) :=
  congrArg (fun S => (_ ↦[S]{fullShare} f : sProp 𝕄)) (slotM_set s)

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ
/-- The ring whole is its eight slots. -/
theorem ring_split (c : Dev nD) (f : Buf (Elt F) ((c : Thread nD τ).loc cc0_scratch17)) :
    (((c : Thread nD τ).loc cc0_scratch17) ↦{fullShare} f : sProp 𝕄)
      = iprop(slotPt c 0 f ∗ slotPt c 1 f ∗ slotPt c 2 f ∗ slotPt c 3 f ∗ slotPt c 4 f ∗ slotPt c 5 f ∗ slotPt c 6 f ∗ slotPt c 7 f) := by
  rw [Ring.pointsTo_blocks (Ix := Unit) (Name := ℕ) (U := Pipeline.UD sig nD τ) (Lvl := ℕ) (q := fullShare) (ℓ := (c : Thread nD τ).loc cc0_scratch17) slotSet slotSet_disjoint slotSet_cover f,
    bigSep_fin8]
  simp only [slotPt_eq]
/-- The eight slots, each at contents of its own, are the ring at some contents. -/
theorem ring_join (c : Dev nD) :
    iprop((∃ f, slotPt (F := F) c 0 f) ∗ (∃ f, slotPt (F := F) c 1 f) ∗ (∃ f, slotPt (F := F) c 2 f) ∗ (∃ f, slotPt (F := F) c 3 f) ∗ (∃ f, slotPt (F := F) c 4 f) ∗ (∃ f, slotPt (F := F) c 5 f) ∗ (∃ f, slotPt (F := F) c 6 f) ∗ (∃ f, slotPt (F := F) c 7 f))
      ⊢ (iprop(∃ f : Buf (Elt F) ((c : Thread nD τ).loc cc0_scratch17), ((c : Thread nD τ).loc cc0_scratch17) ↦{fullShare} f) : sProp 𝕄) := by
  iintro ⟨⟨%f0, H0⟩, HR⟩
  iapply (Ring.pointsTo_blocks_join_exists (Ix := Unit) (Name := ℕ) (U := Pipeline.UD sig nD τ) (Lvl := ℕ) (q := fullShare) (ℓ := (c : Thread nD τ).loc cc0_scratch17) slotSet slotSet_disjoint slotSet_cover f0)
  irw [bigSep_fin8]
  simp only [slotPt_eq]
  icases HR with ⟨H1, H2, H3, H4, H5, H6, H7⟩
  isplitl [H0]; · iexists f0; iexact H0
  isplitl [H1]; · iexact H1
  isplitl [H2]; · iexact H2
  isplitl [H3]; · iexact H3
  isplitl [H4]; · iexact H4
  isplitl [H5]; · iexact H5
  isplitl [H6]; · iexact H6
  iexact H7

/-! ## A buffer lent in read shares -/

/-- A buffer held whole, as sixteen read shares numbered by the semaphore they are lent to, and a rest. -/
theorem tokens (c : Dev nD) {sp : Space} {S : Shape} {e : EltTy} (M : Memref sig .tc sp S e) (f : Bf (F := F) c M) :
    pt c M f = iprop((M.view.loc (c : Thread nD τ) ↦{Transfers.shareDrop fullShare 16} f)
      ∗ (M.view.loc (c : Thread nD τ) ↦{Transfers.shareTokN fullShare 8} f) ∗ (M.view.loc (c : Thread nD τ) ↦{Transfers.shareTokN fullShare 9} f) ∗ (M.view.loc (c : Thread nD τ) ↦{Transfers.shareTokN fullShare 10} f) ∗ (M.view.loc (c : Thread nD τ) ↦{Transfers.shareTokN fullShare 11} f) ∗ (M.view.loc (c : Thread nD τ) ↦{Transfers.shareTokN fullShare 12} f) ∗ (M.view.loc (c : Thread nD τ) ↦{Transfers.shareTokN fullShare 13} f) ∗ (M.view.loc (c : Thread nD τ) ↦{Transfers.shareTokN fullShare 14} f) ∗ (M.view.loc (c : Thread nD τ) ↦{Transfers.shareTokN fullShare 15} f)
      ∗ bigSep (Finset.range 8) (fun i => (M.view.loc (c : Thread nD τ) ↦{Transfers.shareTokN fullShare i} f : sProp 𝕄))) := by
  have h := Transfers.pointsTo_toks_range (Ix := Unit) (Name := ℕ) (U := Pipeline.UD sig nD τ) (Lvl := ℕ) (ℓ := M.view.loc (c : Thread nD τ)) (S := Finset.univ) (f := f) fullShare 16
  have h' := Entails.antisymm h.1 h.2
  refine h'.trans ?_
  congr 1
  have e : Finset.range 16 = insert 8 (insert 9 (insert 10 (insert 11 (insert 12 (insert 13 (insert 14 (insert 15 (Finset.range 8)))))))) := by decide
  rw [e]
  iterate 8 rw [BI.bigSep_insert (by decide)]
  rfl

/-! ## A ring slot, one 512×512 window at a time -/

theorem win_inb (s r k : ℕ) (hs : s < 8) (hr : r ≤ 1536) (hk : k ≤ 1536) :
    ∀ a, (![s, r, k] : Fin 3 → ℕ) a + S1x512x512.size a ≤ S8x2048x2048.size a := by
  intro a; fin_cases a
  · show s + 1 ≤ 8; omega
  · show r + 512 ≤ 2048; omega
  · show k + 512 ≤ 2048; omega
/-- The window of slot `s` at row `r` and column `k`, as the kernel's copies name it. -/
abbrev winM (s r k : ℕ) (h : ∀ a, (![s, r, k] : Fin 3 → ℕ) a + S1x512x512.size a ≤ S8x2048x2048.size a) : Memref sig .tc .vmem S512x512 .fp8e4m3 :=
  (ringM.slice (Rect.unit (s := S8x2048x2048) ![s, r, k] S1x512x512.size h) (fun _ => rfl)).squeeze S512x512 squeezes_S1x512x512_S512x512
/-- That window held at contents `f`. -/
abbrev winPt (c : Dev nD) (s r k : ℕ) (h : ∀ a, (![s, r, k] : Fin 3 → ℕ) a + S1x512x512.size a ≤ S8x2048x2048.size a)
    (f : Buf (Elt F) ((c : Thread nD τ).loc cc0_scratch17)) : sProp 𝕄 :=
  (winM s r k h).view.loc (c : Thread nD τ) ↦[(winM s r k h).view.set]{fullShare} f
/-- The elements of that window. -/
abbrev winSet (s r k : ℕ) (h : ∀ a, (![s, r, k] : Fin 3 → ℕ) a + S1x512x512.size a ≤ S8x2048x2048.size a) : Finset S8x2048x2048.Idx :=
  (Rect.unit (s := S8x2048x2048) ![s, r, k] S1x512x512.size h).set
omit [FloatOps F] in
theorem winPt_eq (c : Dev nD) (s r k : ℕ) (h) (f) : winPt (F := F) c s r k h f = (((c : Thread nD τ).loc cc0_scratch17) ↦[winSet s r k h]{fullShare} f : sProp 𝕄) :=
  congrArg (fun S => (_ ↦[S]{fullShare} f : sProp 𝕄)) ((View.set_reshape _ _).trans (View.set_slice_whole _ _))
theorem mem_winSet (s r k : ℕ) (h) (y : S8x2048x2048.Idx) :
    y ∈ winSet s r k h ↔ (y 0).val = s ∧ (r ≤ (y 1).val ∧ (y 1).val < r + 512) ∧ (k ≤ (y 2).val ∧ (y 2).val < k + 512) := by
  rw [Rect.mem_set_unit]
  constructor
  · intro H; have a0 : s ≤ (y 0).val ∧ (y 0).val < s + 1 := H 0; have a1 : r ≤ (y 1).val ∧ (y 1).val < r + 512 := H 1
    have a2 : k ≤ (y 2).val ∧ (y 2).val < k + 512 := H 2; exact ⟨by omega, a1, a2⟩
  · intro ⟨h0, h1, h2⟩ i; fin_cases i
    · show s ≤ (y 0).val ∧ (y 0).val < s + 1; omega
    · exact h1
    · exact h2
/-- Window number `b` of slot `s`, of sixteen. -/
abbrev winBlk (s : ℕ) (hs : s < 8) (b : Fin 16) : Finset S8x2048x2048.Idx :=
  winSet s (512 * (b.val / 4)) (512 * (b.val % 4)) (win_inb s _ _ hs (by have := b.isLt; omega) (by have := b.isLt; omega))
theorem winBlk_disjoint (s : ℕ) (hs : s < 8) : ∀ b b' : Fin 16, b ≠ b' → Disjoint (winBlk s hs b) (winBlk s hs b') := by
  intro b b' hne; rw [Finset.disjoint_left]; intro y hy hy'; rw [mem_winSet] at hy hy'
  have := b.isLt; have := b'.isLt; exact hne (Fin.ext (by omega))
theorem winBlk_cover (s : ℕ) (hs : s < 8) : (Finset.univ : Finset (Fin 16)).biUnion (winBlk s hs) = slotSet ⟨s, hs⟩ := by
  ext y; simp only [Finset.mem_biUnion, Finset.mem_univ, true_and]; rw [mem_slotSet]
  have h1 : (y 1).val < 2048 := (y 1).isLt
  have h2 : (y 2).val < 2048 := (y 2).isLt
  constructor
  · rintro ⟨b, hb⟩; rw [mem_winSet] at hb; exact hb.1
  · intro h0; refine ⟨⟨4 * ((y 1).val / 512) + (y 2).val / 512, by omega⟩, ?_⟩
    rw [mem_winSet]; refine ⟨h0, ?_, ?_⟩ <;> dsimp only <;> omega
theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [(0 : Fin 16), 1, 2, 3, 4, 5, 6, 7, 8, 9, 10, 11, 12, 13, 14, 15] (by decide) (by decide) Φ
/-- A slot, by its number as the kernel names it. -/
abbrev slotAt (c : Dev nD) (s : ℕ) (hs : s < 8) (f : Buf (Elt F) ((c : Thread nD τ).loc cc0_scratch17)) : sProp 𝕄 :=
  (slotM ringM s (slot_inb ⟨s, hs⟩)).view.loc (c : Thread nD τ) ↦[(slotM ringM s (slot_inb ⟨s, hs⟩)).view.set]{fullShare} f
/-- A slot held at one contents is its sixteen windows. -/
theorem slot_windows (c : Dev nD) (s : ℕ) (hs : s < 8) (f : Buf (Elt F) ((c : Thread nD τ).loc cc0_scratch17)) :
    slotAt c s hs f = iprop(winPt c s 0 0 (win_inb s 0 0 hs (by decide) (by decide)) f ∗ winPt c s 0 512 (win_inb s 0 512 hs (by decide) (by decide)) f ∗ winPt c s 0 1024 (win_inb s 0 1024 hs (by decide) (by decide)) f ∗ winPt c s 0 1536 (win_inb s 0 1536 hs (by decide) (by decide)) f ∗ winPt c s 512 0 (win_inb s 512 0 hs (by decide) (by decide)) f ∗ winPt c s 512 512 (win_inb s 512 512 hs (by decide) (by decide)) f ∗ winPt c s 512 1024 (win_inb s 512 1024 hs (by decide) (by decide)) f ∗ winPt c s 512 1536 (win_inb s 512 1536 hs (by decide) (by decide)) f ∗ winPt c s 1024 0 (win_inb s 1024 0 hs (by decide) (by decide)) f ∗ winPt c s 1024 512 (win_inb s 1024 512 hs (by decide) (by decide)) f ∗ winPt c s 1024 1024 (win_inb s 1024 1024 hs (by decide) (by decide)) f ∗ winPt c s 1024 1536 (win_inb s 1024 1536 hs (by decide) (by decide)) f ∗ winPt c s 1536 0 (win_inb s 1536 0 hs (by decide) (by decide)) f ∗ winPt c s 1536 512 (win_inb s 1536 512 hs (by decide) (by decide)) f ∗ winPt c s 1536 1024 (win_inb s 1536 1024 hs (by decide) (by decide)) f ∗ winPt c s 1536 1536 (win_inb s 1536 1536 hs (by decide) (by decide)) f) := by
  refine (slotPt_eq c ⟨s, hs⟩ f).trans ?_
  rw [Ring.pointsTo_sub_blocks (Ix := Unit) (Name := ℕ) (U := Pipeline.UD sig nD τ) (Lvl := ℕ) (ℓ := (c : Thread nD τ).loc cc0_scratch17) (winBlk s hs) (winBlk_disjoint s hs) (slotSet ⟨s, hs⟩) (winBlk_cover s hs) f,
    bigSep_fin16]
  simp only [winPt_eq]; rfl
/-- Sixteen windows, each at contents of its own, are the slot at some contents. -/
theorem slot_windows_join (c : Dev nD) (s : ℕ) (hs : s < 8) :
    iprop((∃ f, winPt c s 0 0 (win_inb s 0 0 hs (by decide) (by decide)) f) ∗ (∃ f, winPt c s 0 512 (win_inb s 0 512 hs (by decide) (by decide)) f) ∗ (∃ f, winPt c s 0 1024 (win_inb s 0 1024 hs (by decide) (by decide)) f) ∗ (∃ f, winPt c s 0 1536 (win_inb s 0 1536 hs (by decide) (by decide)) f) ∗ (∃ f, winPt c s 512 0 (win_inb s 512 0 hs (by decide) (by decide)) f) ∗ (∃ f, winPt c s 512 512 (win_inb s 512 512 hs (by decide) (by decide)) f) ∗ (∃ f, winPt c s 512 1024 (win_inb s 512 1024 hs (by decide) (by decide)) f) ∗ (∃ f, winPt c s 512 1536 (win_inb s 512 1536 hs (by decide) (by decide)) f) ∗ (∃ f, winPt c s 1024 0 (win_inb s 1024 0 hs (by decide) (by decide)) f) ∗ (∃ f, winPt c s 1024 512 (win_inb s 1024 512 hs (by decide) (by decide)) f) ∗ (∃ f, winPt c s 1024 1024 (win_inb s 1024 1024 hs (by decide) (by decide)) f) ∗ (∃ f, winPt c s 1024 1536 (win_inb s 1024 1536 hs (by decide) (by decide)) f) ∗ (∃ f, winPt c s 1536 0 (win_inb s 1536 0 hs (by decide) (by decide)) f) ∗ (∃ f, winPt c s 1536 512 (win_inb s 1536 512 hs (by decide) (by decide)) f) ∗ (∃ f, winPt c s 1536 1024 (win_inb s 1536 1024 hs (by decide) (by decide)) f) ∗ (∃ f, winPt c s 1536 1536 (win_inb s 1536 1536 hs (by decide) (by decide)) f))
      ⊢ (iprop(∃ f : Buf (Elt F) ((c : Thread nD τ).loc cc0_scratch17), slotAt c s hs f) : sProp 𝕄) := by
  iintro ⟨⟨%f0, H0⟩, HR⟩
  have h := (Ring.pointsTo_sub_blocks_join_exists (Ix := Unit) (Name := ℕ) (U := Pipeline.UD sig nD τ) (Lvl := ℕ) (q := fullShare) (ℓ := (c : Thread nD τ).loc cc0_scratch17) (winBlk s hs) (winBlk_disjoint s hs) (slotSet ⟨s, hs⟩) (winBlk_cover s hs) f0)
  rw [bigSep_fin16] at h
  have h' : (iprop(∃ g : Buf (Elt F) ((c : Thread nD τ).loc cc0_scratch17), ((c : Thread nD τ).loc cc0_scratch17) ↦[slotSet ⟨s, hs⟩]{fullShare} g) : sProp 𝕄)
      ⊢ iprop(∃ f : Buf (Elt F) ((c : Thread nD τ).loc cc0_scratch17), slotAt c s hs f) :=
    exists_mono fun f => by rw [← slotPt_eq c ⟨s, hs⟩ f]
  iapply (h.trans h')
  simp only [winPt_eq]
  isplitl [H0]; · iexists f0; iexact H0
  iexact HR
/-- The ring whole is its eight slots, each spelled as the kernel's copies name it. -/
theorem ring_slots (c : Dev nD) (f : Buf (Elt F) ((c : Thread nD τ).loc cc0_scratch17)) :
    (((c : Thread nD τ).loc cc0_scratch17) ↦{fullShare} f : sProp 𝕄) = iprop(slotAt c 0 (by decide) f ∗ slotAt c 1 (by decide) f ∗ slotAt c 2 (by decide) f ∗ slotAt c 3 (by decide) f ∗ slotAt c 4 (by decide) f ∗ slotAt c 5 (by decide) f ∗ slotAt c 6 (by decide) f ∗ slotAt c 7 (by decide) f) := by
  rw [Ring.pointsTo_blocks (Ix := Unit) (Name := ℕ) (U := Pipeline.UD sig nD τ) (Lvl := ℕ) (q := fullShare) (ℓ := (c : Thread nD τ).loc cc0_scratch17) slotSet slotSet_disjoint slotSet_cover f,
    bigSep_fin8]
  rw [show slotAt c 0 (by decide) f = _ from slotPt_eq c ⟨0, by decide⟩ f, show slotAt c 1 (by decide) f = _ from slotPt_eq c ⟨1, by decide⟩ f, show slotAt c 2 (by decide) f = _ from slotPt_eq c ⟨2, by decide⟩ f, show slotAt c 3 (by decide) f = _ from slotPt_eq c ⟨3, by decide⟩ f, show slotAt c 4 (by decide) f = _ from slotPt_eq c ⟨4, by decide⟩ f, show slotAt c 5 (by decide) f = _ from slotPt_eq c ⟨5, by decide⟩ f, show slotAt c 6 (by decide) f = _ from slotPt_eq c ⟨6, by decide⟩ f, show slotAt c 7 (by decide) f = _ from slotPt_eq c ⟨7, by decide⟩ f]; rfl

/-! ## The result's two column windows -/

abbrev yWin0 {sp : Space} (M : Memref sig .tc sp S256x2560 .bf16) : Memref sig .tc sp S256x2048 .bf16 :=
  M.slice (Rect.unit (s := S256x2560) ![0, 0] S256x2048.size inb_S256x2560_S256x2048_0_0) (fun _ => rfl)
abbrev yWin1 {sp : Space} (M : Memref sig .tc sp S256x2560 .bf16) : Memref sig .tc sp S256x512 .bf16 :=
  M.slice (Rect.unit (s := S256x2560) ![0, 2048] S256x512.size inb_S256x2560_S256x512_0_2048) (fun _ => rfl)
/-- The units of the result's two copies, in issue order. -/
abbrev yAmts : Fin 2 → ℕ := ![32768, 8192]
/-- What each of the two copies delivers: its columns of the result, and its columns of the buffer it read. -/
def yDeliv (c : Dev nD) (arg9 : Memref sig .tc .hbm S256x2560 .bf16) (arg28 : Memref sig .tc .vmem S256x2560 .bf16) : Fin 2 → sProp 𝕄
  | 0 => iprop((∃ f, (yWin0 arg9).view.loc (c : Thread nD τ) ↦[(yWin0 arg9).view.set]{fullShare} f) ∗ (∃ f, (yWin0 arg28).view.loc (c : Thread nD τ) ↦[(yWin0 arg28).view.set]{fullShare} f))
  | 1 => iprop((∃ f, (yWin1 arg9).view.loc (c : Thread nD τ) ↦[(yWin1 arg9).view.set]{fullShare} f) ∗ (∃ f, (yWin1 arg28).view.loc (c : Thread nD τ) ↦[(yWin1 arg28).view.set]{fullShare} f))
instance yDeliv_storable (c : Dev nD) (arg9 : Memref sig .tc .hbm S256x2560 .bf16) (arg28 : Memref sig .tc .vmem S256x2560 .bf16) (t : Fin 2) :
    Storable (upEmb : UEmb _ 𝕄) (yDeliv (F := F) c arg9 arg28 t) := by
  fin_cases t <;> simp only [yDeliv] <;> infer_instance
/-- The elements of the result's column window `t`. -/
abbrev ySet : Fin 2 → Finset S256x2560.Idx
  | 0 => (Rect.unit (s := S256x2560) ![0, 0] S256x2048.size inb_S256x2560_S256x2048_0_0).set
  | 1 => (Rect.unit (s := S256x2560) ![0, 2048] S256x512.size inb_S256x2560_S256x512_0_2048).set
theorem mem_ySet0 (y : S256x2560.Idx) : y ∈ ySet 0 ↔ (y 1).val < 2048 := by
  rw [show ySet 0 = (Rect.unit (s := S256x2560) ![0, 0] S256x2048.size inb_S256x2560_S256x2048_0_0).set from rfl, Rect.mem_set_unit]
  have h0 : (y 0).val < 256 := (y 0).isLt
  constructor
  · intro H; have a1 : 0 ≤ (y 1).val ∧ (y 1).val < 0 + 2048 := H 1; omega
  · intro H i; fin_cases i
    · show 0 ≤ (y 0).val ∧ (y 0).val < 0 + 256; omega
    · show 0 ≤ (y 1).val ∧ (y 1).val < 0 + 2048; omega
theorem mem_ySet1 (y : S256x2560.Idx) : y ∈ ySet 1 ↔ 2048 ≤ (y 1).val := by
  rw [show ySet 1 = (Rect.unit (s := S256x2560) ![0, 2048] S256x512.size inb_S256x2560_S256x512_0_2048).set from rfl, Rect.mem_set_unit]
  have h0 : (y 0).val < 256 := (y 0).isLt
  have h1 : (y 1).val < 2560 := (y 1).isLt
  constructor
  · intro H; have a1 : 2048 ≤ (y 1).val ∧ (y 1).val < 2048 + 512 := H 1; omega
  · intro H i; fin_cases i
    · show 0 ≤ (y 0).val ∧ (y 0).val < 0 + 256; omega
    · show 2048 ≤ (y 1).val ∧ (y 1).val < 2048 + 512; omega
theorem ySet_disjoint : ∀ b b' : Fin 2, b ≠ b' → Disjoint (ySet b) (ySet b') := by
  have h : Disjoint (ySet 0) (ySet 1) := by
    rw [Finset.disjoint_left]; intro y hy hy'; rw [mem_ySet0] at hy; rw [mem_ySet1] at hy'; omega
  intro b b' hne; fin_cases b <;> fin_cases b'
  · exact absurd rfl hne
  · exact h
  · exact h.symm
  · exact absurd rfl hne
theorem ySet_cover : (Finset.univ : Finset (Fin 2)).biUnion ySet = Finset.univ := by
  ext y; simp only [Finset.mem_biUnion, Finset.mem_univ, true_and, iff_true]
  by_cases h : (y 1).val < 2048
  · exact ⟨0, (mem_ySet0 y).2 h⟩
  · exact ⟨1, (mem_ySet1 y).2 (by omega)⟩
theorem bigSep_fin2 (Φ : Fin 2 → sProp 𝕄) : bigSep Finset.univ Φ = iprop(Φ 0 ∗ Φ 1) :=
  bigSep_univ_eq_bigSepL [(0 : Fin 2), 1] (by decide) (by decide) Φ

/-- The two column windows, each at contents of its own, are the whole array at some contents. -/
theorem y_join_out (c : Dev nD) :
    iprop((∃ f, (yWin0 (Memref.whole main_v6_0)).view.loc (c : Thread nD τ) ↦[(yWin0 (Memref.whole main_v6_0)).view.set]{fullShare} f)
        ∗ (∃ f, (yWin1 (Memref.whole main_v6_0)).view.loc (c : Thread nD τ) ↦[(yWin1 (Memref.whole main_v6_0)).view.set]{fullShare} f))
      ⊢ (iprop(∃ f : Buf (Elt F) ((c : Thread nD τ).loc main_v6_0), ((c : Thread nD τ).loc main_v6_0) ↦{fullShare} f) : sProp 𝕄) := by
  have e0 : (yWin0 (Memref.whole main_v6_0)).view.set = ySet 0 := View.set_slice_whole _ _
  have e1 : (yWin1 (Memref.whole main_v6_0)).view.set = ySet 1 := View.set_slice_whole _ _
  rw [e0, e1]
  iintro ⟨⟨%f0, H0⟩, H1⟩
  iapply (Ring.pointsTo_blocks_join_exists (Ix := Unit) (Name := ℕ) (U := Pipeline.UD sig nD τ) (Lvl := ℕ) (q := fullShare) (ℓ := (c : Thread nD τ).loc main_v6_0) ySet ySet_disjoint ySet_cover f0)
  irw [bigSep_fin2]
  isplitl [H0]; · iexists f0; iexact H0
  iexact H1

/-- The two column windows, each at contents of its own, are the whole array at some contents. -/
theorem y_join_buf (c : Dev nD) :
    iprop((∃ f, (yWin0 (Memref.whole cc0_scratch16)).view.loc (c : Thread nD τ) ↦[(yWin0 (Memref.whole cc0_scratch16)).view.set]{fullShare} f)
        ∗ (∃ f, (yWin1 (Memref.whole cc0_scratch16)).view.loc (c : Thread nD τ) ↦[(yWin1 (Memref.whole cc0_scratch16)).view.set]{fullShare} f))
      ⊢ (iprop(∃ f : Buf (Elt F) ((c : Thread nD τ).loc cc0_scratch16), ((c : Thread nD τ).loc cc0_scratch16) ↦{fullShare} f) : sProp 𝕄) := by
  have e0 : (yWin0 (Memref.whole cc0_scratch16)).view.set = ySet 0 := View.set_slice_whole _ _
  have e1 : (yWin1 (Memref.whole cc0_scratch16)).view.set = ySet 1 := View.set_slice_whole _ _
  rw [e0, e1]
  iintro ⟨⟨%f0, H0⟩, H1⟩
  iapply (Ring.pointsTo_blocks_join_exists (Ix := Unit) (Name := ℕ) (U := Pipeline.UD sig nD τ) (Lvl := ℕ) (q := fullShare) (ℓ := (c : Thread nD τ).loc cc0_scratch16) ySet ySet_disjoint ySet_cover f0)
  irw [bigSep_fin2]
  isplitl [H0]; · iexists f0; iexact H0
  iexact H1

end Cert.KernelIdeal.Hand
end
-- ==== Proof.KernelIdeal.Join.lean ====
module
public import proofs.«01_k».proof.Proof.KernelIdeal.Split
public import proofs.«01_k».proof.Proof.Gen.KernelIdeal.Skeleton
public import Idealize.ShloMosaic.Lib.Tactic
public import Idealize.ShloMosaic.Lib.Pipeline.FrameBody
public import Idealize.ShloMosaic.Lib.MixedBatch
public import Idealize.ShloMosaic.Lib.Ring
public import Idealize.ShloMosaic.Lib.WordCmp
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

/-! # Putting a buffer back together from the windows lent out of it -/

section Generic
variable {ℓ : Loc nD τ sig} {q : PosShare TreeShare}

/-- The listed windows of a buffer, all at one contents. -/
def pieces (f : Buf (Elt F) ℓ) : List (Finset (Idx ℓ)) → sProp 𝕄
  | [] => iprop(emp)
  | T :: l => iprop((ℓ ↦[T]{q} f) ∗ pieces f l)
omit [FloatOps F] in
theorem rejoin (f : Buf (Elt F) ℓ) (l : List (Finset (Idx ℓ))) : ∀ S : Finset (Idx ℓ), l.Pairwise Disjoint → (∀ T ∈ l, T ⊆ S) →
    iprop((ℓ ↦[l.foldl (· \ ·) S]{q} f) ∗ pieces (q := q) f l) ⊢ (ℓ ↦[S]{q} f : sProp 𝕄) := by
  induction l with
  | nil => intro S _ _; exact Laws.sep_emp.1
  | cons T l ih =>
    intro S hd hs
    rw [List.pairwise_cons] at hd
    have h1 := ih (S \ T) hd.2 (fun T' h' => Finset.subset_sdiff.2 ⟨hs T' (List.mem_cons_of_mem _ h'), (hd.1 T' h').symm⟩)
    simp only [pieces]
    iintro ⟨H0, HT, HP⟩
    iapply ((pointsTo_split_subset (hs T List.mem_cons_self)).2)
    isplitl [HT]; · iexact HT
    iapply h1
    isplitl [H0]; · iexact H0
    iexact HP
omit [FloatOps F] in
/-- The same for a buffer held whole. -/
theorem rejoin_univ (f : Buf (Elt F) ℓ) (l : List (Finset (Idx ℓ))) (hd : l.Pairwise Disjoint) :
    iprop((ℓ ↦[l.foldl (· \ ·) Finset.univ]{q} f) ∗ pieces (q := q) f l) ⊢ (ℓ ↦{q} f : sProp 𝕄) :=
  rejoin f l Finset.univ hd (fun T _ => Finset.subset_univ T)
/-- The listed windows of a buffer, each at a contents of its own. -/
def somePieces (ℓ : Loc nD τ sig) : List (Finset (Idx ℓ)) → sProp 𝕄
  | [] => iprop(emp)
  | T :: l => iprop((∃ f : Buf (Elt F) ℓ, ℓ ↦[T]{fullShare} f) ∗ somePieces ℓ l)
omit [FloatOps F] in
theorem rejoin_some (l : List (Finset (Idx ℓ))) : ∀ S : Finset (Idx ℓ), l.Pairwise Disjoint → (∀ T ∈ l, T ⊆ S) →
    iprop((∃ f : Buf (Elt F) ℓ, ℓ ↦[l.foldl (· \ ·) S]{fullShare} f) ∗ somePieces ℓ l) ⊢ (iprop(∃ f : Buf (Elt F) ℓ, ℓ ↦[S]{fullShare} f) : sProp 𝕄) := by
  classical
  induction l with
  | nil => intro S _ _; exact Laws.sep_emp.1
  | cons T l ih =>
    intro S hd hs
    rw [List.pairwise_cons] at hd
    have h1 := ih (S \ T) hd.2 (fun T' h' => Finset.subset_sdiff.2 ⟨hs T' (List.mem_cons_of_mem _ h'), (hd.1 T' h').symm⟩)
    simp only [somePieces]
    iintro ⟨H0, ⟨%g, HT⟩, HP⟩
    ihave HR := h1 $$ [H0 HP]
    · isplitl [H0]; · iexact H0
      iexact HP
    icases HR with ⟨%f, HR⟩
    iexists (T.piecewise g f)
    iapply (pointsTo_join_subset (hs T List.mem_cons_self))
    isplitl [HT]; · iexact HT
    iexact HR
end Generic

/-! ## The weights' windows -/

theorem wW_inb (k : Fin 15) (j : Fin 4) : ∀ a, (![k.val, 512 * j.val, 2048] : Fin 3 → ℕ) a + S1x512x512.size a ≤ S15x2048x2560.size a := by
  have := k.isLt; have := j.isLt;
  intro a; fin_cases a
  · show k.val + 1 ≤ 15; omega
  · show 512 * j.val + 512 ≤ 2048; omega
  · show 2048 + 512 ≤ 2560; omega
/-- The rows `512 j …` and last columns of position `k` of the weights. -/
abbrev wWRect (k : Fin 15) (j : Fin 4) : Rect S15x2048x2560 := Rect.unit (s := S15x2048x2560) ![k.val, 512 * j.val, 2048] S1x512x512.size (wW_inb k j)
abbrev wWSet (k : Fin 15) (j : Fin 4) : Finset S15x2048x2560.Idx := (wWRect k j).set
abbrev wWM (k : Fin 15) (j : Fin 4) : Memref sig .tc .hbm S512x512 .fp8e4m3 :=
  ((Memref.whole main_arg6).slice (wWRect k j) (fun _ => rfl)).squeeze S512x512 squeezes_S1x512x512_S512x512
theorem wWM_set (k : Fin 15) (j : Fin 4) : (wWM k j).view.set = wWSet k j := (View.set_reshape _ _).trans (View.set_slice_whole _ _)
theorem wW_disjoint (k : Fin 15) (j : Fin 4) (k' : Fin 15) (j' : Fin 4) (h : ¬ (k = k' ∧ j = j')) : Disjoint (wWM k j).view.set (wWM k' j').view.set := by
  rw [wWM_set, wWM_set, Finset.disjoint_left]; intro y hy hy'
  rw [Rect.mem_set_unit] at hy hy'
  have a0 : k.val ≤ (y 0).val ∧ (y 0).val < k.val + 1 := hy 0; have b0 : k'.val ≤ (y 0).val ∧ (y 0).val < k'.val + 1 := hy' 0; have a1 : 512 * j.val ≤ (y 1).val ∧ (y 1).val < 512 * j.val + 512 := hy 1; have b1 : 512 * j'.val ≤ (y 1).val ∧ (y 1).val < 512 * j'.val + 512 := hy' 1; have a2 : 2048 ≤ (y 2).val ∧ (y 2).val < 2048 + 512 := hy 2; have b2 : 2048 ≤ (y 2).val ∧ (y 2).val < 2048 + 512 := hy' 2
  exact h ⟨Fin.ext (by omega), Fin.ext (by omega)⟩
/-! ## The codes' windows -/

theorem cW_inb (k : Fin 15) (b : Fin 2) : ∀ a, (![k.val, 128 * b.val, 0] : Fin 3 → ℕ) a + S1x128x2048.size a ≤ S15x256x2048.size a := by
  have := k.isLt; have := b.isLt;
  intro a; fin_cases a
  · show k.val + 1 ≤ 15; omega
  · show 128 * b.val + 128 ≤ 256; omega
  · show 0 + 2048 ≤ 2048; omega
/-- Batch `b` of position `k` of the codes. -/
abbrev cWRect (k : Fin 15) (b : Fin 2) : Rect S15x256x2048 := Rect.unit (s := S15x256x2048) ![k.val, 128 * b.val, 0] S1x128x2048.size (cW_inb k b)
abbrev cWSet (k : Fin 15) (b : Fin 2) : Finset S15x256x2048.Idx := (cWRect k b).set
abbrev cWM (k : Fin 15) (b : Fin 2) : Memref sig .tc .vmem S128x2048 .fp8e4m3 :=
  ((Memref.whole cc0_scratch13).slice (cWRect k b) (fun _ => rfl)).squeeze S128x2048 squeezes_S1x128x2048_S128x2048
theorem cWM_set (k : Fin 15) (b : Fin 2) : (cWM k b).view.set = cWSet k b := (View.set_reshape _ _).trans (View.set_slice_whole _ _)
theorem cW_disjoint (k : Fin 15) (b : Fin 2) (k' : Fin 15) (b' : Fin 2) (h : ¬ (k = k' ∧ b = b')) : Disjoint (cWM k b).view.set (cWM k' b').view.set := by
  rw [cWM_set, cWM_set, Finset.disjoint_left]; intro y hy hy'
  rw [Rect.mem_set_unit] at hy hy'
  have a0 : k.val ≤ (y 0).val ∧ (y 0).val < k.val + 1 := hy 0; have b0 : k'.val ≤ (y 0).val ∧ (y 0).val < k'.val + 1 := hy' 0; have a1 : 128 * b.val ≤ (y 1).val ∧ (y 1).val < 128 * b.val + 128 := hy 1; have b1 : 128 * b'.val ≤ (y 1).val ∧ (y 1).val < 128 * b'.val + 128 := hy' 1; have a2 : 0 ≤ (y 2).val ∧ (y 2).val < 0 + 2048 := hy 2; have b2 : 0 ≤ (y 2).val ∧ (y 2).val < 0 + 2048 := hy' 2
  exact h ⟨Fin.ext (by omega), Fin.ext (by omega)⟩
/-! ## The windows of the packed features' result -/

theorem gW_inb (b : Fin 2) (k : Fin 15) : ∀ a, (![b.val, k.val, 0, 0] : Fin 4 → ℕ) a + S1x1x128x2048.size a ≤ S2x15x128x2048.size a := by
  have := b.isLt; have := k.isLt;
  intro a; fin_cases a
  · show b.val + 1 ≤ 2; omega
  · show k.val + 1 ≤ 15; omega
  · show 0 + 128 ≤ 128; omega
  · show 0 + 2048 ≤ 2048; omega
/-- Position `k` of batch `b` of the result. -/
abbrev gWRect (b : Fin 2) (k : Fin 15) : Rect S2x15x128x2048 := Rect.unit (s := S2x15x128x2048) ![b.val, k.val, 0, 0] S1x1x128x2048.size (gW_inb b k)
abbrev gWSet (b : Fin 2) (k : Fin 15) : Finset S2x15x128x2048.Idx := (gWRect b k).set
abbrev gWM (b : Fin 2) (k : Fin 15) : Memref sig .tc .hbm S128x2048 .fp8e4m3 :=
  ((Memref.whole main_v6_1).slice (gWRect b k) (fun _ => rfl)).squeeze S128x2048 squeezes_S1x1x128x2048_S128x2048
theorem gWM_set (b : Fin 2) (k : Fin 15) : (gWM b k).view.set = gWSet b k := (View.set_reshape _ _).trans (View.set_slice_whole _ _)
theorem gW_disjoint (b : Fin 2) (k : Fin 15) (b' : Fin 2) (k' : Fin 15) (h : ¬ (b = b' ∧ k = k')) : Disjoint (gWM b k).view.set (gWM b' k').view.set := by
  rw [gWM_set, gWM_set, Finset.disjoint_left]; intro y hy hy'
  rw [Rect.mem_set_unit] at hy hy'
  have a0 : b.val ≤ (y 0).val ∧ (y 0).val < b.val + 1 := hy 0; have b0 : b'.val ≤ (y 0).val ∧ (y 0).val < b'.val + 1 := hy' 0; have a1 : k.val ≤ (y 1).val ∧ (y 1).val < k.val + 1 := hy 1; have b1 : k'.val ≤ (y 1).val ∧ (y 1).val < k'.val + 1 := hy' 1; have a2 : 0 ≤ (y 2).val ∧ (y 2).val < 0 + 128 := hy 2; have b2 : 0 ≤ (y 2).val ∧ (y 2).val < 0 + 128 := hy' 2; have a3 : 0 ≤ (y 3).val ∧ (y 3).val < 0 + 2048 := hy 3; have b3 : 0 ≤ (y 3).val ∧ (y 3).val < 0 + 2048 := hy' 3
  exact h ⟨Fin.ext (by omega), Fin.ext (by omega)⟩

theorem wW_pairwise0 : ([(wWM 0 0).view.set, (wWM 0 1).view.set, (wWM 0 2).view.set, (wWM 0 3).view.set, (wWM 1 0).view.set, (wWM 1 1).view.set, (wWM 1 2).view.set, (wWM 1 3).view.set, (wWM 2 0).view.set, (wWM 2 1).view.set, (wWM 2 2).view.set, (wWM 2 3).view.set] : List (Finset S15x2048x2560.Idx)).Pairwise Disjoint := by
  have h : (List.map (β := Finset S15x2048x2560.Idx) (fun p : Fin 15 × Fin 4 => (wWM p.1 p.2).view.set) [(0, 0), (0, 1), (0, 2), (0, 3), (1, 0), (1, 1), (1, 2), (1, 3), (2, 0), (2, 1), (2, 2), (2, 3)]).Pairwise Disjoint := by
    rw [List.pairwise_map]
    refine List.Pairwise.imp (fun {p q} (hne : p ≠ q) => wW_disjoint p.1 p.2 q.1 q.2 fun e => hne (Prod.ext e.1 e.2)) ?_
    decide
  exact h

theorem wW_pairwise1 : ([(wWM 3 0).view.set, (wWM 3 1).view.set, (wWM 3 2).view.set, (wWM 3 3).view.set, (wWM 4 0).view.set, (wWM 4 1).view.set, (wWM 4 2).view.set, (wWM 4 3).view.set, (wWM 5 0).view.set, (wWM 5 1).view.set, (wWM 5 2).view.set, (wWM 5 3).view.set] : List (Finset S15x2048x2560.Idx)).Pairwise Disjoint := by
  have h : (List.map (β := Finset S15x2048x2560.Idx) (fun p : Fin 15 × Fin 4 => (wWM p.1 p.2).view.set) [(3, 0), (3, 1), (3, 2), (3, 3), (4, 0), (4, 1), (4, 2), (4, 3), (5, 0), (5, 1), (5, 2), (5, 3)]).Pairwise Disjoint := by
    rw [List.pairwise_map]
    refine List.Pairwise.imp (fun {p q} (hne : p ≠ q) => wW_disjoint p.1 p.2 q.1 q.2 fun e => hne (Prod.ext e.1 e.2)) ?_
    decide
  exact h

theorem wW_pairwise2 : ([(wWM 6 0).view.set, (wWM 6 1).view.set, (wWM 6 2).view.set, (wWM 6 3).view.set, (wWM 7 0).view.set, (wWM 7 1).view.set, (wWM 7 2).view.set, (wWM 7 3).view.set, (wWM 8 0).view.set, (wWM 8 1).view.set, (wWM 8 2).view.set, (wWM 8 3).view.set] : List (Finset S15x2048x2560.Idx)).Pairwise Disjoint := by
  have h : (List.map (β := Finset S15x2048x2560.Idx) (fun p : Fin 15 × Fin 4 => (wWM p.1 p.2).view.set) [(6, 0), (6, 1), (6, 2), (6, 3), (7, 0), (7, 1), (7, 2), (7, 3), (8, 0), (8, 1), (8, 2), (8, 3)]).Pairwise Disjoint := by
    rw [List.pairwise_map]
    refine List.Pairwise.imp (fun {p q} (hne : p ≠ q) => wW_disjoint p.1 p.2 q.1 q.2 fun e => hne (Prod.ext e.1 e.2)) ?_
    decide
  exact h

theorem wW_pairwise3 : ([(wWM 9 0).view.set, (wWM 9 1).view.set, (wWM 9 2).view.set, (wWM 9 3).view.set, (wWM 10 0).view.set, (wWM 10 1).view.set, (wWM 10 2).view.set, (wWM 10 3).view.set, (wWM 11 0).view.set, (wWM 11 1).view.set, (wWM 11 2).view.set, (wWM 11 3).view.set] : List (Finset S15x2048x2560.Idx)).Pairwise Disjoint := by
  have h : (List.map (β := Finset S15x2048x2560.Idx) (fun p : Fin 15 × Fin 4 => (wWM p.1 p.2).view.set) [(9, 0), (9, 1), (9, 2), (9, 3), (10, 0), (10, 1), (10, 2), (10, 3), (11, 0), (11, 1), (11, 2), (11, 3)]).Pairwise Disjoint := by
    rw [List.pairwise_map]
    refine List.Pairwise.imp (fun {p q} (hne : p ≠ q) => wW_disjoint p.1 p.2 q.1 q.2 fun e => hne (Prod.ext e.1 e.2)) ?_
    decide
  exact h

theorem wW_pairwise4 : ([(wWM 12 0).view.set, (wWM 12 1).view.set, (wWM 12 2).view.set, (wWM 12 3).view.set, (wWM 13 0).view.set, (wWM 13 1).view.set, (wWM 13 2).view.set, (wWM 13 3).view.set, (wWM 14 0).view.set, (wWM 14 1).view.set, (wWM 14 2).view.set, (wWM 14 3).view.set] : List (Finset S15x2048x2560.Idx)).Pairwise Disjoint := by
  have h : (List.map (β := Finset S15x2048x2560.Idx) (fun p : Fin 15 × Fin 4 => (wWM p.1 p.2).view.set) [(12, 0), (12, 1), (12, 2), (12, 3), (13, 0), (13, 1), (13, 2), (13, 3), (14, 0), (14, 1), (14, 2), (14, 3)]).Pairwise Disjoint := by
    rw [List.pairwise_map]
    refine List.Pairwise.imp (fun {p q} (hne : p ≠ q) => wW_disjoint p.1 p.2 q.1 q.2 fun e => hne (Prod.ext e.1 e.2)) ?_
    decide
  exact h

theorem cW_pairwise : ([(cWM 0 0).view.set, (cWM 0 1).view.set, (cWM 1 0).view.set, (cWM 1 1).view.set, (cWM 2 0).view.set, (cWM 2 1).view.set, (cWM 3 0).view.set, (cWM 3 1).view.set, (cWM 4 0).view.set, (cWM 4 1).view.set, (cWM 5 0).view.set, (cWM 5 1).view.set, (cWM 6 0).view.set, (cWM 6 1).view.set, (cWM 7 0).view.set, (cWM 7 1).view.set, (cWM 8 0).view.set, (cWM 8 1).view.set, (cWM 9 0).view.set, (cWM 9 1).view.set, (cWM 10 0).view.set, (cWM 10 1).view.set, (cWM 11 0).view.set, (cWM 11 1).view.set, (cWM 12 0).view.set, (cWM 12 1).view.set, (cWM 13 0).view.set, (cWM 13 1).view.set, (cWM 14 0).view.set, (cWM 14 1).view.set] : List (Finset S15x256x2048.Idx)).Pairwise Disjoint := by
  have h : (List.map (β := Finset S15x256x2048.Idx) (fun p : Fin 15 × Fin 2 => (cWM p.1 p.2).view.set) [(0, 0), (0, 1), (1, 0), (1, 1), (2, 0), (2, 1), (3, 0), (3, 1), (4, 0), (4, 1), (5, 0), (5, 1), (6, 0), (6, 1), (7, 0), (7, 1), (8, 0), (8, 1), (9, 0), (9, 1), (10, 0), (10, 1), (11, 0), (11, 1), (12, 0), (12, 1), (13, 0), (13, 1), (14, 0), (14, 1)]).Pairwise Disjoint := by
    rw [List.pairwise_map]
    refine List.Pairwise.imp (fun {p q} (hne : p ≠ q) => cW_disjoint p.1 p.2 q.1 q.2 fun e => hne (Prod.ext e.1 e.2)) ?_
    decide
  exact h

theorem gW_pairwise : ([(gWM 0 0).view.set, (gWM 1 0).view.set, (gWM 0 1).view.set, (gWM 1 1).view.set, (gWM 0 2).view.set, (gWM 1 2).view.set, (gWM 0 3).view.set, (gWM 1 3).view.set, (gWM 0 4).view.set, (gWM 1 4).view.set, (gWM 0 5).view.set, (gWM 1 5).view.set, (gWM 0 6).view.set, (gWM 1 6).view.set, (gWM 0 7).view.set, (gWM 1 7).view.set, (gWM 0 8).view.set, (gWM 1 8).view.set, (gWM 0 9).view.set, (gWM 1 9).view.set, (gWM 0 10).view.set, (gWM 1 10).view.set, (gWM 0 11).view.set, (gWM 1 11).view.set, (gWM 0 12).view.set, (gWM 1 12).view.set, (gWM 0 13).view.set, (gWM 1 13).view.set, (gWM 0 14).view.set, (gWM 1 14).view.set] : List (Finset S2x15x128x2048.Idx)).Pairwise Disjoint := by
  have h : (List.map (β := Finset S2x15x128x2048.Idx) (fun p : Fin 2 × Fin 15 => (gWM p.1 p.2).view.set) [(0, 0), (1, 0), (0, 1), (1, 1), (0, 2), (1, 2), (0, 3), (1, 3), (0, 4), (1, 4), (0, 5), (1, 5), (0, 6), (1, 6), (0, 7), (1, 7), (0, 8), (1, 8), (0, 9), (1, 9), (0, 10), (1, 10), (0, 11), (1, 11), (0, 12), (1, 12), (0, 13), (1, 13), (0, 14), (1, 14)]).Pairwise Disjoint := by
    rw [List.pairwise_map]
    refine List.Pairwise.imp (fun {p q} (hne : p ≠ q) => gW_disjoint p.1 p.2 q.1 q.2 fun e => hne (Prod.ext e.1 e.2)) ?_
    decide
  exact h

end Cert.KernelIdeal.Hand
end
-- ==== Proof.KernelIdeal.Finish.lean ====
module
public import proofs.«01_k».proof.Proof.KernelIdeal.Join
public import proofs.«01_k».proof.Proof.Gen.KernelIdeal.Skeleton
public import Idealize.ShloMosaic.Lib.Tactic
public import Idealize.ShloMosaic.Lib.Pipeline.FrameBody
public import Idealize.ShloMosaic.Lib.MixedBatch
public import Idealize.ShloMosaic.Lib.Ring
public import Idealize.ShloMosaic.Lib.WordCmp
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

/-! # The results, from the windows their copies wrote -/

omit [FloatOps F] in
theorem g_skip (b : Fin 2) (k : Fin 15) (b' : Fin 2) (k' : Fin 15) (h : ¬ (b = b' ∧ k = k')) (f : Bf (F := F) (0 : Dev nD) (Memref.whole main_v6_1))
    (v : S128x2048.Idx → Elt F .fp8e4m3) : ∀ i ∈ (gWM b k).view.set, View.write (Elt F) (gWM b' k').view f v Finset.univ i = f i := fun i hi =>
  View.write_of_not_mem f v Finset.univ (Finset.disjoint_left.1 (gW_disjoint b k b' k' h) hi)

/-- The batch the packed features' copy `n` serves, and its kernel position. -/
abbrev gB (n : ℕ) : Fin 2 := ⟨n % 2, Nat.mod_lt _ (by decide)⟩
abbrev gK (n : ℕ) : Fin 15 := ⟨n / 2 % 15, Nat.mod_lt _ (by decide)⟩
/-- The packed features' array after its first `n` copies, of payloads `v`. -/
def gAfter (f : Bf (F := F) (0 : Dev nD) (Memref.whole main_v6_1)) (v : ℕ → S128x2048.Idx → Elt F .fp8e4m3) : ℕ → Bf (F := F) (0 : Dev nD) (Memref.whole main_v6_1)
  | 0 => f
  | n + 1 => View.write (Elt F) (gWM (gB n) (gK n)).view (gAfter f v n) (v n) Finset.univ

omit [FloatOps F] in
/-- A copy's window keeps its contents through the later copies. -/
theorem gAfter_keeps (f : Bf (F := F) (0 : Dev nD) (Memref.whole main_v6_1)) (v : ℕ → S128x2048.Idx → Elt F .fp8e4m3) (n : ℕ) (d : ℕ) (hd : n + d < 30) :
    ∀ i ∈ (gWM (gB n) (gK n)).view.set, gAfter f v (n + 1) i = gAfter f v (n + 1 + d) i := by
  intro i hi
  induction d with
  | zero => rfl
  | succ d ih =>
    rw [ih (by omega)]
    refine (g_skip (gB n) (gK n) (gB (n + 1 + d)) (gK (n + 1 + d)) ?_ (gAfter f v (n + 1 + d)) (v (n + 1 + d)) i hi).symm
    rintro ⟨h1, h2⟩
    have h1 := congrArg Fin.val h1; have h2 := congrArg Fin.val h2
    simp only [gB, gK] at h1 h2
    omega

omit [FloatOps F] in
theorem g_piece (c : Dev nD) (f : Bf (F := F) (0 : Dev nD) (Memref.whole main_v6_1)) (v : ℕ → S128x2048.Idx → Elt F .fp8e4m3) (b : Fin 2) (k : Fin 15) (n : ℕ) (hn : n < 30)
    (hb : b = gB n) (hk : k = gK n) :
    (((c : Thread nD τ).loc main_v6_1) ↦[(gWM b k).view.set]{fullShare} gAfter f v (n + 1) : sProp 𝕄) ⊢ (((c : Thread nD τ).loc main_v6_1) ↦[(gWM b k).view.set]{fullShare} gAfter f v 30) := by
  subst hb hk
  have h := gAfter_keeps f v n (29 - n) (by omega)
  rw [show n + 1 + (29 - n) = 30 by omega] at h
  exact Entails.of_eq (pointsTo_congr (ℓ := ((c : Thread nD τ).loc main_v6_1)) (I := (gWM (gB n) (gK n)).view.set) (q := fullShare) (f := gAfter f v (n + 1)) (g := gAfter f v 30) h)

/-- The packed features' array from the windows the copies wrote and the rest of it. -/
theorem g_join (c : Dev nD) (f : Bf (F := F) (0 : Dev nD) (Memref.whole main_v6_1)) (a : Fin 30 → S128x2048.Idx → Elt F .fp8e4m3) :
    iprop((((c : Thread nD τ).loc main_v6_1) ↦[((((((((((((((Finset.univ \ (gWM 0 0).view.set) \ (gWM 1 0).view.set) \ (gWM 0 1).view.set) \ (gWM 1 1).view.set) \ (gWM 0 2).view.set) \ (gWM 1 2).view.set) \ (gWM 0 3).view.set) \ (gWM 1 3).view.set) \ (gWM 0 4).view.set) \ (gWM 1 4).view.set) \ (gWM 0 5).view.set) \ (gWM 1 5).view.set) \ (gWM 0 6).view.set) \ (gWM 1 6).view.set)]{fullShare} gAfter f (fun n => a (Fin.ofNat 30 n)) 30)
        ∗ (((c : Thread nD τ).loc main_v6_1) ↦[(gWM 0 0).view.set]{fullShare} gAfter f (fun n => a (Fin.ofNat 30 n)) 1)
        ∗ (((c : Thread nD τ).loc main_v6_1) ↦[(gWM 1 0).view.set]{fullShare} gAfter f (fun n => a (Fin.ofNat 30 n)) 2)
        ∗ (((c : Thread nD τ).loc main_v6_1) ↦[(gWM 0 1).view.set]{fullShare} gAfter f (fun n => a (Fin.ofNat 30 n)) 3)
        ∗ (((c : Thread nD τ).loc main_v6_1) ↦[(gWM 1 1).view.set]{fullShare} gAfter f (fun n => a (Fin.ofNat 30 n)) 4)
        ∗ (((c : Thread nD τ).loc main_v6_1) ↦[(gWM 0 2).view.set]{fullShare} gAfter f (fun n => a (Fin.ofNat 30 n)) 5)
        ∗ (((c : Thread nD τ).loc main_v6_1) ↦[(gWM 1 2).view.set]{fullShare} gAfter f (fun n => a (Fin.ofNat 30 n)) 6)
        ∗ (((c : Thread nD τ).loc main_v6_1) ↦[(gWM 0 3).view.set]{fullShare} gAfter f (fun n => a (Fin.ofNat 30 n)) 7)
        ∗ (((c : Thread nD τ).loc main_v6_1) ↦[(gWM 1 3).view.set]{fullShare} gAfter f (fun n => a (Fin.ofNat 30 n)) 8)
        ∗ (((c : Thread nD τ).loc main_v6_1) ↦[(gWM 0 4).view.set]{fullShare} gAfter f (fun n => a (Fin.ofNat 30 n)) 9)
        ∗ (((c : Thread nD τ).loc main_v6_1) ↦[(gWM 1 4).view.set]{fullShare} gAfter f (fun n => a (Fin.ofNat 30 n)) 10)
        ∗ (((c : Thread nD τ).loc main_v6_1) ↦[(gWM 0 5).view.set]{fullShare} gAfter f (fun n => a (Fin.ofNat 30 n)) 11)
        ∗ (((c : Thread nD τ).loc main_v6_1) ↦[(gWM 1 5).view.set]{fullShare} gAfter f (fun n => a (Fin.ofNat 30 n)) 12)
        ∗ (((c : Thread nD τ).loc main_v6_1) ↦[(gWM 0 6).view.set]{fullShare} gAfter f (fun n => a (Fin.ofNat 30 n)) 13)
        ∗ (((c : Thread nD τ).loc main_v6_1) ↦[(gWM 1 6).view.set]{fullShare} gAfter f (fun n => a (Fin.ofNat 30 n)) 14))
      ⊢ (((c : Thread nD τ).loc main_v6_1) ↦{fullShare} gAfter f (fun n => a (Fin.ofNat 30 n)) 30 : sProp 𝕄) := by
  have hq := gW_pairwise.sublist (List.take_sublist 14 _)
  have hp : ([(gWM 0 0).view.set, (gWM 1 0).view.set, (gWM 0 1).view.set, (gWM 1 1).view.set, (gWM 0 2).view.set, (gWM 1 2).view.set, (gWM 0 3).view.set, (gWM 1 3).view.set, (gWM 0 4).view.set, (gWM 1 4).view.set, (gWM 0 5).view.set, (gWM 1 5).view.set, (gWM 0 6).view.set, (gWM 1 6).view.set] : List (Finset S2x15x128x2048.Idx)).Pairwise Disjoint := hq
  have h := rejoin_univ (F := F) (ℓ := ((c : Thread nD τ).loc main_v6_1)) (q := fullShare) (gAfter f (fun n => a (Fin.ofNat 30 n)) 30) [(gWM 0 0).view.set, (gWM 1 0).view.set, (gWM 0 1).view.set, (gWM 1 1).view.set, (gWM 0 2).view.set, (gWM 1 2).view.set, (gWM 0 3).view.set, (gWM 1 3).view.set, (gWM 0 4).view.set, (gWM 1 4).view.set, (gWM 0 5).view.set, (gWM 1 5).view.set, (gWM 0 6).view.set, (gWM 1 6).view.set] hp
  simp only [pieces] at h
  refine BIBase.Entails.trans ?_ h
  iintro ⟨HR, H0, H1, H2, H3, H4, H5, H6, H7, H8, H9, H10, H11, H12, H13⟩
  isplitl [HR]; · iexact HR
  isplitl [H0]
  · iapply (g_piece c f (fun n => a (Fin.ofNat 30 n)) 0 0 0 (by decide) rfl rfl); iexact H0
  isplitl [H1]
  · iapply (g_piece c f (fun n => a (Fin.ofNat 30 n)) 1 0 1 (by decide) rfl rfl); iexact H1
  isplitl [H2]
  · iapply (g_piece c f (fun n => a (Fin.ofNat 30 n)) 0 1 2 (by decide) rfl rfl); iexact H2
  isplitl [H3]
  · iapply (g_piece c f (fun n => a (Fin.ofNat 30 n)) 1 1 3 (by decide) rfl rfl); iexact H3
  isplitl [H4]
  · iapply (g_piece c f (fun n => a (Fin.ofNat 30 n)) 0 2 4 (by decide) rfl rfl); iexact H4
  isplitl [H5]
  · iapply (g_piece c f (fun n => a (Fin.ofNat 30 n)) 1 2 5 (by decide) rfl rfl); iexact H5
  isplitl [H6]
  · iapply (g_piece c f (fun n => a (Fin.ofNat 30 n)) 0 3 6 (by decide) rfl rfl); iexact H6
  isplitl [H7]
  · iapply (g_piece c f (fun n => a (Fin.ofNat 30 n)) 1 3 7 (by decide) rfl rfl); iexact H7
  isplitl [H8]
  · iapply (g_piece c f (fun n => a (Fin.ofNat 30 n)) 0 4 8 (by decide) rfl rfl); iexact H8
  isplitl [H9]
  · iapply (g_piece c f (fun n => a (Fin.ofNat 30 n)) 1 4 9 (by decide) rfl rfl); iexact H9
  isplitl [H10]
  · iapply (g_piece c f (fun n => a (Fin.ofNat 30 n)) 0 5 10 (by decide) rfl rfl); iexact H10
  isplitl [H11]
  · iapply (g_piece c f (fun n => a (Fin.ofNat 30 n)) 1 5 11 (by decide) rfl rfl); iexact H11
  isplitl [H12]
  · iapply (g_piece c f (fun n => a (Fin.ofNat 30 n)) 0 6 12 (by decide) rfl rfl); iexact H12
  isplitl [H13]
  · iapply (g_piece c f (fun n => a (Fin.ofNat 30 n)) 1 6 13 (by decide) rfl rfl); iexact H13
  iempintro

/-- The packed features' array at some contents, from the windows the copies wrote and the rest of it. -/
theorem g_join_some (c : Dev nD) :
    iprop((∃ f, ((c : Thread nD τ).loc main_v6_1) ↦[((((((((((((((Finset.univ \ (gWM 0 0).view.set) \ (gWM 1 0).view.set) \ (gWM 0 1).view.set) \ (gWM 1 1).view.set) \ (gWM 0 2).view.set) \ (gWM 1 2).view.set) \ (gWM 0 3).view.set) \ (gWM 1 3).view.set) \ (gWM 0 4).view.set) \ (gWM 1 4).view.set) \ (gWM 0 5).view.set) \ (gWM 1 5).view.set) \ (gWM 0 6).view.set) \ (gWM 1 6).view.set)]{fullShare} f)
        ∗ (∃ f, ((c : Thread nD τ).loc main_v6_1) ↦[(gWM 0 0).view.set]{fullShare} f)
        ∗ (∃ f, ((c : Thread nD τ).loc main_v6_1) ↦[(gWM 1 0).view.set]{fullShare} f)
        ∗ (∃ f, ((c : Thread nD τ).loc main_v6_1) ↦[(gWM 0 1).view.set]{fullShare} f)
        ∗ (∃ f, ((c : Thread nD τ).loc main_v6_1) ↦[(gWM 1 1).view.set]{fullShare} f)
        ∗ (∃ f, ((c : Thread nD τ).loc main_v6_1) ↦[(gWM 0 2).view.set]{fullShare} f)
        ∗ (∃ f, ((c : Thread nD τ).loc main_v6_1) ↦[(gWM 1 2).view.set]{fullShare} f)
        ∗ (∃ f, ((c : Thread nD τ).loc main_v6_1) ↦[(gWM 0 3).view.set]{fullShare} f)
        ∗ (∃ f, ((c : Thread nD τ).loc main_v6_1) ↦[(gWM 1 3).view.set]{fullShare} f)
        ∗ (∃ f, ((c : Thread nD τ).loc main_v6_1) ↦[(gWM 0 4).view.set]{fullShare} f)
        ∗ (∃ f, ((c : Thread nD τ).loc main_v6_1) ↦[(gWM 1 4).view.set]{fullShare} f)
        ∗ (∃ f, ((c : Thread nD τ).loc main_v6_1) ↦[(gWM 0 5).view.set]{fullShare} f)
        ∗ (∃ f, ((c : Thread nD τ).loc main_v6_1) ↦[(gWM 1 5).view.set]{fullShare} f)
        ∗ (∃ f, ((c : Thread nD τ).loc main_v6_1) ↦[(gWM 0 6).view.set]{fullShare} f)
        ∗ (∃ f, ((c : Thread nD τ).loc main_v6_1) ↦[(gWM 1 6).view.set]{fullShare} f))
      ⊢ (iprop(∃ f, ((c : Thread nD τ).loc main_v6_1) ↦{fullShare} f) : sProp 𝕄) := by
  have hq := gW_pairwise.sublist (List.take_sublist 14 _)
  have hp : ([(gWM 0 0).view.set, (gWM 1 0).view.set, (gWM 0 1).view.set, (gWM 1 1).view.set, (gWM 0 2).view.set, (gWM 1 2).view.set, (gWM 0 3).view.set, (gWM 1 3).view.set, (gWM 0 4).view.set, (gWM 1 4).view.set, (gWM 0 5).view.set, (gWM 1 5).view.set, (gWM 0 6).view.set, (gWM 1 6).view.set] : List (Finset S2x15x128x2048.Idx)).Pairwise Disjoint := hq
  have h := rejoin_some (F := F) (ℓ := ((c : Thread nD τ).loc main_v6_1)) [(gWM 0 0).view.set, (gWM 1 0).view.set, (gWM 0 1).view.set, (gWM 1 1).view.set, (gWM 0 2).view.set, (gWM 1 2).view.set, (gWM 0 3).view.set, (gWM 1 3).view.set, (gWM 0 4).view.set, (gWM 1 4).view.set, (gWM 0 5).view.set, (gWM 1 5).view.set, (gWM 0 6).view.set, (gWM 1 6).view.set] Finset.univ hp (fun _ _ => Finset.subset_univ _)
  simp only [somePieces] at h
  refine BIBase.Entails.trans ?_ h
  iintro ⟨HR, H0, H1, H2, H3, H4, H5, H6, H7, H8, H9, H10, H11, H12, H13⟩
  isplitl [HR]; · iexact HR
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iempintro

/-- What a buffer holds can be forgotten. -/
theorem forget (c : Dev nD) {sp : Space} {S : Shape} {e : EltTy} (M : Memref sig .tc sp S e) (f : Bf (F := F) c M) :
    pt c M f ⊢ (iprop(∃ f' : Bf (F := F) c M, pt c M f') : sProp 𝕄) := by
  iintro H; iexists f; iexact H

/-- The result from its two column windows. -/
theorem y_join (c : Dev nD) (f : Bf (F := F) c (Memref.whole main_v6_0)) (p0 : S256x2048.Idx → Elt F .bf16) (p1 : S256x512.Idx → Elt F .bf16) :
    iprop(((yWin0 (Memref.whole main_v6_0)).view.loc (c : Thread nD τ) ↦[(yWin0 (Memref.whole main_v6_0)).view.set]{fullShare}
          (Memref.whole main_v6_0).view.writes (Elt F) f [⟨Rect.unit (s := S256x2560) ![0, 0] S256x2048.size inb_S256x2560_S256x2048_0_0, p0⟩])
        ∗ ((yWin1 (Memref.whole main_v6_0)).view.loc (c : Thread nD τ) ↦[(yWin1 (Memref.whole main_v6_0)).view.set]{fullShare}
          (Memref.whole main_v6_0).view.writes (Elt F) f [⟨Rect.unit (s := S256x2560) ![0, 2048] S256x512.size inb_S256x2560_S256x512_0_2048, p1⟩,
            ⟨Rect.unit (s := S256x2560) ![0, 0] S256x2048.size inb_S256x2560_S256x2048_0_0, p0⟩]))
      ⊢ (((c : Thread nD τ).loc main_v6_0) ↦{fullShare} ((Memref.whole main_v6_0).view.writes (Elt F) f [⟨Rect.unit (s := S256x2560) ![0, 2048] S256x512.size inb_S256x2560_S256x512_0_2048, p1⟩,
            ⟨Rect.unit (s := S256x2560) ![0, 0] S256x2048.size inb_S256x2560_S256x2048_0_0, p0⟩]) : sProp 𝕄) := by
  have e0 : (yWin0 (Memref.whole main_v6_0)).view.set = ySet 0 := View.set_slice_whole _ _
  have e1 : (yWin1 (Memref.whole main_v6_0)).view.set = ySet 1 := View.set_slice_whole _ _
  have hd : Disjoint (yWin0 (Memref.whole main_v6_0)).view.set (yWin1 (Memref.whole main_v6_0)).view.set := by
    rw [e0, e1]; exact ySet_disjoint 0 1 (by decide)
  have hu : (Finset.univ : Finset S256x2560.Idx) = (yWin0 (Memref.whole main_v6_0)).view.set ∪ (yWin1 (Memref.whole main_v6_0)).view.set := by
    rw [e0, e1]; ext y
    refine ⟨fun _ => ?_, fun _ => Finset.mem_univ _⟩
    by_cases h : (y 1).val < 2048
    · exact Finset.mem_union_left _ ((mem_ySet0 y).2 h)
    · exact Finset.mem_union_right _ ((mem_ySet1 y).2 (by omega))
  refine BIBase.Entails.trans ?_ (Entails.of_eq (congrArg (fun S => (((c : Thread nD τ).loc main_v6_0) ↦[S]{fullShare} ((Memref.whole main_v6_0).view.writes (Elt F) f [⟨Rect.unit (s := S256x2560) ![0, 2048] S256x512.size inb_S256x2560_S256x512_0_2048, p1⟩,
            ⟨Rect.unit (s := S256x2560) ![0, 0] S256x2048.size inb_S256x2560_S256x2048_0_0, p0⟩]) : sProp 𝕄)) hu.symm))
  refine BIBase.Entails.trans ?_ (pointsTo_union hd).2
  iintro ⟨H0, H1⟩
  isplitl [H0]
  · rw [pointsTo_congr (ℓ := ((c : Thread nD τ).loc main_v6_0)) (I := (yWin0 (Memref.whole main_v6_0)).view.set)
      (f := (Memref.whole main_v6_0).view.writes (Elt F) f [⟨Rect.unit (s := S256x2560) ![0, 2048] S256x512.size inb_S256x2560_S256x512_0_2048, p1⟩,
            ⟨Rect.unit (s := S256x2560) ![0, 0] S256x2048.size inb_S256x2560_S256x2048_0_0, p0⟩])
      (g := (Memref.whole main_v6_0).view.writes (Elt F) f [⟨Rect.unit (s := S256x2560) ![0, 0] S256x2048.size inb_S256x2560_S256x2048_0_0, p0⟩])
      (fun i hi => View.write_of_not_mem _ _ Finset.univ (Finset.disjoint_left.1 hd hi))]
    iexact H0
  iexact H1

end Cert.KernelIdeal.Hand
end
-- ==== Proof.KernelIdeal.Run.lean ====
module
public import proofs.«01_k».proof.Proof.Gen.KernelIdeal.Frame
public import proofs.«01_k».proof.Proof.Gen.KernelIdeal.Skeleton
public import Idealize.ShloMosaic.Lib.Tactic
public import Idealize.ShloMosaic.Lib.Pipeline.FrameBody
public import Idealize.ShloMosaic.Lib.MixedBatch
public import Idealize.ShloMosaic.Lib.Ring
public import Idealize.ShloMosaic.Lib.WordCmp
public import Idealize.ShloMosaic.Lib.Mxu.Walk
public import proofs.«01_k».proof.Proof.KernelIdeal.Finish
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

set_option maxHeartbeats 0 in

/-- The kernel body on its whole buffers: from the inputs at given contents, every other buffer at anything and every cell
    at zero, it runs to the inputs unchanged, the other buffers at some contents and every cell back at zero. -/
theorem body_whole (c : Dev nD) (g0 : Buf (Elt F) ((c : Thread nD τ).loc main_v0)) (g1 : Buf (Elt F) ((c : Thread nD τ).loc main_arg1)) (g2 : Buf (Elt F) ((c : Thread nD τ).loc main_v1)) (g3 : Buf (Elt F) ((c : Thread nD τ).loc main_v2)) (g4 : Buf (Elt F) ((c : Thread nD τ).loc main_arg4)) (g5 : Buf (Elt F) ((c : Thread nD τ).loc main_v3)) (g6 : Buf (Elt F) ((c : Thread nD τ).loc main_arg6)) (g7 : Buf (Elt F) ((c : Thread nD τ).loc main_v4)) (g8 : Buf (Elt F) ((c : Thread nD τ).loc main_v5)) (g9 : Buf (Elt F) ((c : Thread nD τ).loc main_v6_0)) (g10 : Buf (Elt F) ((c : Thread nD τ).loc main_v6_1)) (g11 : Buf (Elt F) ((c : Thread nD τ).loc main_v6_2)) (g12 : Buf (Elt F) ((c : Thread nD τ).loc cc0_scratch0)) (g13 : Buf (Elt F) ((c : Thread nD τ).loc cc0_scratch1)) (g14 : Buf (Elt F) ((c : Thread nD τ).loc cc0_scratch2)) (g15 : Buf (Elt F) ((c : Thread nD τ).loc cc0_scratch3)) (g16 : Buf (Elt F) ((c : Thread nD τ).loc cc0_scratch4)) (g17 : Buf (Elt F) ((c : Thread nD τ).loc cc0_scratch5)) (g18 : Buf (Elt F) ((c : Thread nD τ).loc cc0_scratch6)) (g19 : Buf (Elt F) ((c : Thread nD τ).loc cc0_scratch7)) (g20 : Buf (Elt F) ((c : Thread nD τ).loc cc0_scratch8)) (g21 : Buf (Elt F) ((c : Thread nD τ).loc cc0_scratch9)) (g22 : Buf (Elt F) ((c : Thread nD τ).loc cc0_scratch10)) (g23 : Buf (Elt F) ((c : Thread nD τ).loc cc0_scratch11)) (g24 : Buf (Elt F) ((c : Thread nD τ).loc cc0_scratch12)) (g25 : Buf (Elt F) ((c : Thread nD τ).loc cc0_scratch13)) (g26 : Buf (Elt F) ((c : Thread nD τ).loc cc0_scratch14)) (g27 : Buf (Elt F) ((c : Thread nD τ).loc cc0_scratch15)) (g28 : Buf (Elt F) ((c : Thread nD τ).loc cc0_scratch16)) (g29 : Buf (Elt F) ((c : Thread nD τ).loc cc0_scratch17)) (W : Waits sig Unit) (K : PUnit → sProp 𝕄) :
    iprop((((c : Thread nD τ).loc main_v0) ↦{fullShare} g0) ∗ (((c : Thread nD τ).loc main_arg1) ↦{fullShare} g1) ∗ (((c : Thread nD τ).loc main_v1) ↦{fullShare} g2) ∗ (((c : Thread nD τ).loc main_v2) ↦{fullShare} g3) ∗ (((c : Thread nD τ).loc main_arg4) ↦{fullShare} g4) ∗ (((c : Thread nD τ).loc main_v3) ↦{fullShare} g5) ∗ (((c : Thread nD τ).loc main_arg6) ↦{fullShare} g6) ∗ (((c : Thread nD τ).loc main_v4) ↦{fullShare} g7) ∗ (((c : Thread nD τ).loc main_v5) ↦{fullShare} g8) ∗ (((c : Thread nD τ).loc main_v6_0) ↦{fullShare} g9) ∗ (((c : Thread nD τ).loc main_v6_1) ↦{fullShare} g10) ∗ (((c : Thread nD τ).loc main_v6_2) ↦{fullShare} g11) ∗ (((c : Thread nD τ).loc cc0_scratch0) ↦{fullShare} g12) ∗ (((c : Thread nD τ).loc cc0_scratch1) ↦{fullShare} g13) ∗ (((c : Thread nD τ).loc cc0_scratch2) ↦{fullShare} g14) ∗ (((c : Thread nD τ).loc cc0_scratch3) ↦{fullShare} g15) ∗ (((c : Thread nD τ).loc cc0_scratch4) ↦{fullShare} g16) ∗ (((c : Thread nD τ).loc cc0_scratch5) ↦{fullShare} g17) ∗ (((c : Thread nD τ).loc cc0_scratch6) ↦{fullShare} g18) ∗ (((c : Thread nD τ).loc cc0_scratch7) ↦{fullShare} g19) ∗ (((c : Thread nD τ).loc cc0_scratch8) ↦{fullShare} g20) ∗ (((c : Thread nD τ).loc cc0_scratch9) ↦{fullShare} g21) ∗ (((c : Thread nD τ).loc cc0_scratch10) ↦{fullShare} g22) ∗ (((c : Thread nD τ).loc cc0_scratch11) ↦{fullShare} g23) ∗ (((c : Thread nD τ).loc cc0_scratch12) ↦{fullShare} g24) ∗ (((c : Thread nD τ).loc cc0_scratch13) ↦{fullShare} g25) ∗ (((c : Thread nD τ).loc cc0_scratch14) ↦{fullShare} g26) ∗ (((c : Thread nD τ).loc cc0_scratch15) ↦{fullShare} g27) ∗ (((c : Thread nD τ).loc cc0_scratch16) ↦{fullShare} g28) ∗ (((c : Thread nD τ).loc cc0_scratch17) ↦{fullShare} g29)
        ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ owes (c : Thread nD τ) 0 W
        ∗ (iprop((((c : Thread nD τ).loc main_v0) ↦{fullShare} g0) ∗ (((c : Thread nD τ).loc main_arg1) ↦{fullShare} g1) ∗ (((c : Thread nD τ).loc main_v1) ↦{fullShare} g2) ∗ (((c : Thread nD τ).loc main_v2) ↦{fullShare} g3) ∗ (((c : Thread nD τ).loc main_arg4) ↦{fullShare} g4) ∗ (((c : Thread nD τ).loc main_v3) ↦{fullShare} g5) ∗ (((c : Thread nD τ).loc main_arg6) ↦{fullShare} g6) ∗ (((c : Thread nD τ).loc main_v4) ↦{fullShare} g7) ∗ (((c : Thread nD τ).loc main_v5) ↦{fullShare} g8) ∗ (∃ f, ((c : Thread nD τ).loc main_v6_0) ↦{fullShare} f) ∗ (∃ f, ((c : Thread nD τ).loc main_v6_1) ↦{fullShare} f) ∗ (∃ f, ((c : Thread nD τ).loc main_v6_2) ↦{fullShare} f) ∗ (∃ f, ((c : Thread nD τ).loc cc0_scratch0) ↦{fullShare} f) ∗ (∃ f, ((c : Thread nD τ).loc cc0_scratch1) ↦{fullShare} f) ∗ (∃ f, ((c : Thread nD τ).loc cc0_scratch2) ↦{fullShare} f) ∗ (∃ f, ((c : Thread nD τ).loc cc0_scratch3) ↦{fullShare} f) ∗ (∃ f, ((c : Thread nD τ).loc cc0_scratch4) ↦{fullShare} f) ∗ (∃ f, ((c : Thread nD τ).loc cc0_scratch5) ↦{fullShare} f) ∗ (∃ f, ((c : Thread nD τ).loc cc0_scratch6) ↦{fullShare} f) ∗ (∃ f, ((c : Thread nD τ).loc cc0_scratch7) ↦{fullShare} f) ∗ (∃ f, ((c : Thread nD τ).loc cc0_scratch8) ↦{fullShare} f) ∗ (∃ f, ((c : Thread nD τ).loc cc0_scratch9) ↦{fullShare} f) ∗ (∃ f, ((c : Thread nD τ).loc cc0_scratch10) ↦{fullShare} f) ∗ (∃ f, ((c : Thread nD τ).loc cc0_scratch11) ↦{fullShare} f) ∗ (∃ f, ((c : Thread nD τ).loc cc0_scratch12) ↦{fullShare} f) ∗ (∃ f, ((c : Thread nD τ).loc cc0_scratch13) ↦{fullShare} f) ∗ (∃ f, ((c : Thread nD τ).loc cc0_scratch14) ↦{fullShare} f) ∗ (∃ f, ((c : Thread nD τ).loc cc0_scratch15) ↦{fullShare} f) ∗ (∃ f, ((c : Thread nD τ).loc cc0_scratch16) ↦{fullShare} f) ∗ (∃ f, ((c : Thread nD τ).loc cc0_scratch17) ↦{fullShare} f)
            ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ (∃ W', owes (c : Thread nD τ) 0 W')) -∗ K ⟨⟩))
      ⊢ wp frame (wpE (defs₀ (F := F)) Variants.none c none) Set.univ
          (cc0_kpconv (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_arg6) (Memref.isWhole_whole _) (Memref.whole main_v4) (Memref.isWhole_whole _) (Memref.whole main_v5) (Memref.isWhole_whole _) (Memref.whole main_v6_0) (Memref.isWhole_whole _) (Memref.whole main_v6_1) (Memref.isWhole_whole _) (Memref.whole main_v6_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22) K := by
  change iprop(pt c (Memref.whole main_v0) g0 ∗ pt c (Memref.whole main_arg1) g1 ∗ pt c (Memref.whole main_v1) g2 ∗ pt c (Memref.whole main_v2) g3 ∗ pt c (Memref.whole main_arg4) g4 ∗ pt c (Memref.whole main_v3) g5 ∗ pt c (Memref.whole main_arg6) g6 ∗ pt c (Memref.whole main_v4) g7 ∗ pt c (Memref.whole main_v5) g8 ∗ pt c (Memref.whole main_v6_0) g9 ∗ pt c (Memref.whole main_v6_1) g10 ∗ pt c (Memref.whole main_v6_2) g11 ∗ pt c (Memref.whole cc0_scratch0) g12 ∗ pt c (Memref.whole cc0_scratch1) g13 ∗ pt c (Memref.whole cc0_scratch2) g14 ∗ pt c (Memref.whole cc0_scratch3) g15 ∗ pt c (Memref.whole cc0_scratch4) g16 ∗ pt c (Memref.whole cc0_scratch5) g17 ∗ pt c (Memref.whole cc0_scratch6) g18 ∗ pt c (Memref.whole cc0_scratch7) g19 ∗ pt c (Memref.whole cc0_scratch8) g20 ∗ pt c (Memref.whole cc0_scratch9) g21 ∗ pt c (Memref.whole cc0_scratch10) g22 ∗ pt c (Memref.whole cc0_scratch11) g23 ∗ pt c (Memref.whole cc0_scratch12) g24 ∗ pt c (Memref.whole cc0_scratch13) g25 ∗ pt c (Memref.whole cc0_scratch14) g26 ∗ pt c (Memref.whole cc0_scratch15) g27 ∗ pt c (Memref.whole cc0_scratch16) g28 ∗ pt c (Memref.whole cc0_scratch17) g29
        ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ owes (c : Thread nD τ) 0 W
        ∗ (iprop((((c : Thread nD τ).loc main_v0) ↦{fullShare} g0) ∗ (((c : Thread nD τ).loc main_arg1) ↦{fullShare} g1) ∗ (((c : Thread nD τ).loc main_v1) ↦{fullShare} g2) ∗ (((c : Thread nD τ).loc main_v2) ↦{fullShare} g3) ∗ (((c : Thread nD τ).loc main_arg4) ↦{fullShare} g4) ∗ (((c : Thread nD τ).loc main_v3) ↦{fullShare} g5) ∗ (((c : Thread nD τ).loc main_arg6) ↦{fullShare} g6) ∗ (((c : Thread nD τ).loc main_v4) ↦{fullShare} g7) ∗ (((c : Thread nD τ).loc main_v5) ↦{fullShare} g8) ∗ (∃ f, ((c : Thread nD τ).loc main_v6_0) ↦{fullShare} f) ∗ (∃ f, ((c : Thread nD τ).loc main_v6_1) ↦{fullShare} f) ∗ (∃ f, ((c : Thread nD τ).loc main_v6_2) ↦{fullShare} f) ∗ (∃ f, ((c : Thread nD τ).loc cc0_scratch0) ↦{fullShare} f) ∗ (∃ f, ((c : Thread nD τ).loc cc0_scratch1) ↦{fullShare} f) ∗ (∃ f, ((c : Thread nD τ).loc cc0_scratch2) ↦{fullShare} f) ∗ (∃ f, ((c : Thread nD τ).loc cc0_scratch3) ↦{fullShare} f) ∗ (∃ f, ((c : Thread nD τ).loc cc0_scratch4) ↦{fullShare} f) ∗ (∃ f, ((c : Thread nD τ).loc cc0_scratch5) ↦{fullShare} f) ∗ (∃ f, ((c : Thread nD τ).loc cc0_scratch6) ↦{fullShare} f) ∗ (∃ f, ((c : Thread nD τ).loc cc0_scratch7) ↦{fullShare} f) ∗ (∃ f, ((c : Thread nD τ).loc cc0_scratch8) ↦{fullShare} f) ∗ (∃ f, ((c : Thread nD τ).loc cc0_scratch9) ↦{fullShare} f) ∗ (∃ f, ((c : Thread nD τ).loc cc0_scratch10) ↦{fullShare} f) ∗ (∃ f, ((c : Thread nD τ).loc cc0_scratch11) ↦{fullShare} f) ∗ (∃ f, ((c : Thread nD τ).loc cc0_scratch12) ↦{fullShare} f) ∗ (∃ f, ((c : Thread nD τ).loc cc0_scratch13) ↦{fullShare} f) ∗ (∃ f, ((c : Thread nD τ).loc cc0_scratch14) ↦{fullShare} f) ∗ (∃ f, ((c : Thread nD τ).loc cc0_scratch15) ↦{fullShare} f) ∗ (∃ f, ((c : Thread nD τ).loc cc0_scratch16) ↦{fullShare} f) ∗ (∃ f, ((c : Thread nD τ).loc cc0_scratch17) ↦{fullShare} f)
            ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ (∃ W', owes (c : Thread nD τ) 0 W')) -∗ K ⟨⟩)) ⊢ _
  iintro ⟨H0, H1, H2, H3, H4, H5, H6, H7, H8, H9, H10, H11, H12, H13, H14, H15, H16, H17, H18, H19, H20, H21, H22, H23, H24, H25, H26, H27, H28, H29, S0, S1, S2, S3, S4, S5, S6, S7, S8, S9, S10, S11, S12, S13, S14, S15, S16, S17, S18, HO, HK⟩
  ihave HH := (Entails.of_eq (ring_slots c g29)) $$ H29
  icases HH with ⟨H29s0, H29s1, H29s2, H29s3, H29s4, H29s5, H29s6, H29s7⟩
  ihave HH := (Entails.of_eq (tokens c (Memref.whole main_arg6) g6)) $$ H6
  icases HH with ⟨H6d, H6t8, H6t9, H6t10, H6t11, H6t12, H6t13, H6t14, H6t15, H6r⟩
  imod (Transfers.mixedBatch_alloc' (Lvl := ℕ) (countersEmb (U := Pipeline.UD sig nD τ)) (c : Thread nD τ) () yAmts
    (yDeliv c (Memref.whole main_v6_0) (Memref.whole cc0_scratch16)) (sm := SemLoc.dma 17) (E := Set.univ)) $$ S17 with HB
  unfold yDeliv
  unfold cc0_kpconv
  set_option sl_exec.stepHeartbeats 4000000 in
  set_option sl_exec.squeezeSlice true in
  set_option sl_exec.dmaWindow true in
  sl_exec_parts
  ihave HH := (forget c (Memref.whole cc0_scratch8) _) $$ H20
  icases HH with ⟨%e20, H20⟩
  ihave HH := (forget c (Memref.whole cc0_scratch9) _) $$ H21
  icases HH with ⟨%e21, H21⟩
  ihave HH := (forget c (Memref.whole cc0_scratch10) _) $$ H22
  icases HH with ⟨%e22, H22⟩
  ihave HH := (forget c (Memref.whole cc0_scratch11) _) $$ H23
  icases HH with ⟨%e23, H23⟩
  ihave HH := (forget c (Memref.whole cc0_scratch12) _) $$ H24
  icases HH with ⟨%e24, H24⟩
  ihave HH := (forget c (Memref.whole cc0_scratch14) _) $$ H26
  icases HH with ⟨%e26, H26⟩
  ihave HH := (forget c (Memref.whole cc0_scratch15) _) $$ H27
  icases HH with ⟨%e27, H27⟩
  ihave HH := (forget c (Memref.whole cc0_scratch13) _) $$ H25
  icases HH with ⟨%e25, H25⟩
  ihave HH := ((token16 c (Memref.whole cc0_scratch13) _).1) $$ H25
  icases HH with ⟨H25, H25t, H25r⟩
  have hp16 : Transfers.BatchOf (c : Thread nD τ) (SemLoc.dma (sig := sig) 16) 30 (windows := true) := trivial
  set_option sl_exec.unrollTrips 15 in
  set_option sl_exec.stepHeartbeats 4000000 in
  set_option sl_exec.squeezeSlice true in
  set_option sl_exec.dmaWindow true in
  sl_exec_parts
  ihave HH := (Entails.of_eq (slot_windows c 7 (by decide) _)) $$ H29s7
  icases HH with ⟨H29s7w0, H29s7w1, H29s7w2, H29s7w3, H29s7w4, H29s7w5, H29s7w6, H29s7w7, H29s7w8, H29s7w9, H29s7w10, H29s7w11, H29s7w12, H29s7w13, H29s7w14, H29s7w15⟩
  have hp15 : Transfers.BatchOfUse (c : Thread nD τ) (SemLoc.dma (sig := sig) 15) 0 12 (windows := true) := trivial
  set_option sl_exec.unrollTrips 15 in
  set_option sl_exec.stepHeartbeats 4000000 in
  set_option sl_exec.squeezeSlice true in
  set_option sl_exec.dmaWindow true in
  sl_exec_parts
  ihave HH := (Entails.of_eq (slot_windows c 0 (by decide) _)) $$ H29s0
  icases HH with ⟨H29s0w0, H29s0w1, H29s0w2, H29s0w3, H29s0w4, H29s0w5, H29s0w6, H29s0w7, H29s0w8, H29s0w9, H29s0w10, H29s0w11, H29s0w12, H29s0w13, H29s0w14, H29s0w15⟩
  have hp8 : Transfers.BatchOfUse (c : Thread nD τ) (SemLoc.dma (sig := sig) 8) 0 12 (windows := true) := trivial
  set_option sl_exec.unrollTrips 15 in
  set_option sl_exec.stepHeartbeats 4000000 in
  set_option sl_exec.squeezeSlice true in
  set_option sl_exec.dmaWindow true in
  sl_exec_parts
  ihave HH := (Entails.of_eq (slot_windows c 1 (by decide) _)) $$ H29s1
  icases HH with ⟨H29s1w0, H29s1w1, H29s1w2, H29s1w3, H29s1w4, H29s1w5, H29s1w6, H29s1w7, H29s1w8, H29s1w9, H29s1w10, H29s1w11, H29s1w12, H29s1w13, H29s1w14, H29s1w15⟩
  have hp9 : Transfers.BatchOfUse (c : Thread nD τ) (SemLoc.dma (sig := sig) 9) 0 12 (windows := true) := trivial
  set_option sl_exec.unrollTrips 15 in
  set_option sl_exec.stepHeartbeats 4000000 in
  set_option sl_exec.squeezeSlice true in
  set_option sl_exec.dmaWindow true in
  sl_exec_parts
  ihave HH := (Entails.of_eq (slot_windows c 2 (by decide) _)) $$ H29s2
  icases HH with ⟨H29s2w0, H29s2w1, H29s2w2, H29s2w3, H29s2w4, H29s2w5, H29s2w6, H29s2w7, H29s2w8, H29s2w9, H29s2w10, H29s2w11, H29s2w12, H29s2w13, H29s2w14, H29s2w15⟩
  have hp10 : Transfers.BatchOfUse (c : Thread nD τ) (SemLoc.dma (sig := sig) 10) 0 12 (windows := true) := trivial
  set_option sl_exec.unrollTrips 15 in
  set_option sl_exec.stepHeartbeats 4000000 in
  set_option sl_exec.squeezeSlice true in
  set_option sl_exec.dmaWindow true in
  sl_exec_parts
  ihave HH := (Entails.of_eq (slot_windows c 3 (by decide) _)) $$ H29s3
  icases HH with ⟨H29s3w0, H29s3w1, H29s3w2, H29s3w3, H29s3w4, H29s3w5, H29s3w6, H29s3w7, H29s3w8, H29s3w9, H29s3w10, H29s3w11, H29s3w12, H29s3w13, H29s3w14, H29s3w15⟩
  have hp11 : Transfers.BatchOfUse (c : Thread nD τ) (SemLoc.dma (sig := sig) 11) 0 12 (windows := true) := trivial
  set_option sl_exec.unrollTrips 15 in
  set_option sl_exec.stepHeartbeats 4000000 in
  set_option sl_exec.squeezeSlice true in
  set_option sl_exec.dmaWindow true in
  sl_exec_parts
  ihave H6 := (Entails.of_eq (tokens c (Memref.whole main_arg6) g6).symm) $$ [H6d H6t8 H6t9 H6t10 H6t11 H6t12 H6t13 H6t14 H6t15 H6r]
  · isplitl [H6d]; · iexact H6d
    isplitl [H6t8]; · iexact H6t8
    isplitl [H6t9]; · iexact H6t9
    isplitl [H6t10]; · iexact H6t10
    isplitl [H6t11]; · iexact H6t11
    isplitl [H6t12]; · iexact H6t12
    isplitl [H6t13]; · iexact H6t13
    isplitl [H6t14]; · iexact H6t14
    isplitl [H6t15]; · iexact H6t15
    iexact H6r
  ihave H25 := ((token16 c (Memref.whole cc0_scratch13) _).2) $$ [H25 H25t H25r]
  · isplitl [H25]; · iexact H25
    isplitl [H25t]; · iexact H25t
    iexact H25r
  ihave H29s7 := (slot_windows_join c 7 (by decide)) $$ [H29s7w0 H29s7w1 H29s7w2 H29s7w3 H29s7w4 H29s7w5 H29s7w6 H29s7w7 H29s7w8 H29s7w9 H29s7w10 H29s7w11 H29s7w12 H29s7w13 H29s7w14 H29s7w15]
  · isplitl [H29s7w0]; · iexists _; iexact H29s7w0
    isplitl [H29s7w1]; · iexists _; iexact H29s7w1
    isplitl [H29s7w2]; · iexists _; iexact H29s7w2
    isplitl [H29s7w3]; · iexists _; iexact H29s7w3
    isplitl [H29s7w4]; · iexists _; iexact H29s7w4
    isplitl [H29s7w5]; · iexists _; iexact H29s7w5
    isplitl [H29s7w6]; · iexists _; iexact H29s7w6
    isplitl [H29s7w7]; · iexists _; iexact H29s7w7
    isplitl [H29s7w8]; · iexists _; iexact H29s7w8
    isplitl [H29s7w9]; · iexists _; iexact H29s7w9
    isplitl [H29s7w10]; · iexists _; iexact H29s7w10
    isplitl [H29s7w11]; · iexists _; iexact H29s7w11
    isplitl [H29s7w12]; · iexists _; iexact H29s7w12
    isplitl [H29s7w13]; · iexists _; iexact H29s7w13
    isplitl [H29s7w14]; · iexists _; iexact H29s7w14
    iexists _; iexact H29s7w15
  ihave H29s0 := (slot_windows_join c 0 (by decide)) $$ [H29s0w0 H29s0w1 H29s0w2 H29s0w3 H29s0w4 H29s0w5 H29s0w6 H29s0w7 H29s0w8 H29s0w9 H29s0w10 H29s0w11 H29s0w12 H29s0w13 H29s0w14 H29s0w15]
  · isplitl [H29s0w0]; · iexists _; iexact H29s0w0
    isplitl [H29s0w1]; · iexists _; iexact H29s0w1
    isplitl [H29s0w2]; · iexists _; iexact H29s0w2
    isplitl [H29s0w3]; · iexists _; iexact H29s0w3
    isplitl [H29s0w4]; · iexists _; iexact H29s0w4
    isplitl [H29s0w5]; · iexists _; iexact H29s0w5
    isplitl [H29s0w6]; · iexists _; iexact H29s0w6
    isplitl [H29s0w7]; · iexists _; iexact H29s0w7
    isplitl [H29s0w8]; · iexists _; iexact H29s0w8
    isplitl [H29s0w9]; · iexists _; iexact H29s0w9
    isplitl [H29s0w10]; · iexists _; iexact H29s0w10
    isplitl [H29s0w11]; · iexists _; iexact H29s0w11
    isplitl [H29s0w12]; · iexists _; iexact H29s0w12
    isplitl [H29s0w13]; · iexists _; iexact H29s0w13
    isplitl [H29s0w14]; · iexists _; iexact H29s0w14
    iexists _; iexact H29s0w15
  ihave H29s1 := (slot_windows_join c 1 (by decide)) $$ [H29s1w0 H29s1w1 H29s1w2 H29s1w3 H29s1w4 H29s1w5 H29s1w6 H29s1w7 H29s1w8 H29s1w9 H29s1w10 H29s1w11 H29s1w12 H29s1w13 H29s1w14 H29s1w15]
  · isplitl [H29s1w0]; · iexists _; iexact H29s1w0
    isplitl [H29s1w1]; · iexists _; iexact H29s1w1
    isplitl [H29s1w2]; · iexists _; iexact H29s1w2
    isplitl [H29s1w3]; · iexists _; iexact H29s1w3
    isplitl [H29s1w4]; · iexists _; iexact H29s1w4
    isplitl [H29s1w5]; · iexists _; iexact H29s1w5
    isplitl [H29s1w6]; · iexists _; iexact H29s1w6
    isplitl [H29s1w7]; · iexists _; iexact H29s1w7
    isplitl [H29s1w8]; · iexists _; iexact H29s1w8
    isplitl [H29s1w9]; · iexists _; iexact H29s1w9
    isplitl [H29s1w10]; · iexists _; iexact H29s1w10
    isplitl [H29s1w11]; · iexists _; iexact H29s1w11
    isplitl [H29s1w12]; · iexists _; iexact H29s1w12
    isplitl [H29s1w13]; · iexists _; iexact H29s1w13
    isplitl [H29s1w14]; · iexists _; iexact H29s1w14
    iexists _; iexact H29s1w15
  ihave H29s2 := (slot_windows_join c 2 (by decide)) $$ [H29s2w0 H29s2w1 H29s2w2 H29s2w3 H29s2w4 H29s2w5 H29s2w6 H29s2w7 H29s2w8 H29s2w9 H29s2w10 H29s2w11 H29s2w12 H29s2w13 H29s2w14 H29s2w15]
  · isplitl [H29s2w0]; · iexists _; iexact H29s2w0
    isplitl [H29s2w1]; · iexists _; iexact H29s2w1
    isplitl [H29s2w2]; · iexists _; iexact H29s2w2
    isplitl [H29s2w3]; · iexists _; iexact H29s2w3
    isplitl [H29s2w4]; · iexists _; iexact H29s2w4
    isplitl [H29s2w5]; · iexists _; iexact H29s2w5
    isplitl [H29s2w6]; · iexists _; iexact H29s2w6
    isplitl [H29s2w7]; · iexists _; iexact H29s2w7
    isplitl [H29s2w8]; · iexists _; iexact H29s2w8
    isplitl [H29s2w9]; · iexists _; iexact H29s2w9
    isplitl [H29s2w10]; · iexists _; iexact H29s2w10
    isplitl [H29s2w11]; · iexists _; iexact H29s2w11
    isplitl [H29s2w12]; · iexists _; iexact H29s2w12
    isplitl [H29s2w13]; · iexists _; iexact H29s2w13
    isplitl [H29s2w14]; · iexists _; iexact H29s2w14
    iexists _; iexact H29s2w15
  ihave H29s3 := (slot_windows_join c 3 (by decide)) $$ [H29s3w0 H29s3w1 H29s3w2 H29s3w3 H29s3w4 H29s3w5 H29s3w6 H29s3w7 H29s3w8 H29s3w9 H29s3w10 H29s3w11 H29s3w12 H29s3w13 H29s3w14 H29s3w15]
  · isplitl [H29s3w0]; · iexists _; iexact H29s3w0
    isplitl [H29s3w1]; · iexists _; iexact H29s3w1
    isplitl [H29s3w2]; · iexists _; iexact H29s3w2
    isplitl [H29s3w3]; · iexists _; iexact H29s3w3
    isplitl [H29s3w4]; · iexists _; iexact H29s3w4
    isplitl [H29s3w5]; · iexists _; iexact H29s3w5
    isplitl [H29s3w6]; · iexists _; iexact H29s3w6
    isplitl [H29s3w7]; · iexists _; iexact H29s3w7
    isplitl [H29s3w8]; · iexists _; iexact H29s3w8
    isplitl [H29s3w9]; · iexists _; iexact H29s3w9
    isplitl [H29s3w10]; · iexists _; iexact H29s3w10
    isplitl [H29s3w11]; · iexists _; iexact H29s3w11
    isplitl [H29s3w12]; · iexists _; iexact H29s3w12
    isplitl [H29s3w13]; · iexists _; iexact H29s3w13
    isplitl [H29s3w14]; · iexists _; iexact H29s3w14
    iexists _; iexact H29s3w15
  ihave H29 := (ring_join c) $$ [H29s0 H29s1 H29s2 H29s3 H29s4 H29s5 H29s6 H29s7]
  · isplitl [H29s0]; · iexact H29s0
    isplitl [H29s1]; · iexact H29s1
    isplitl [H29s2]; · iexact H29s2
    isplitl [H29s3]; · iexact H29s3
    isplitl [H29s4]; · iexists _; iexact H29s4
    isplitl [H29s5]; · iexists _; iexact H29s5
    isplitl [H29s6]; · iexists _; iexact H29s6
    iexact H29s7
  ihave HG := (g_join_some c) $$ [H10 H10_15 H10_14 H10_13 H10_12 H10_11 H10_10 H10_9 H10_8 H10_7 H10_6 H10_5 H10_4 H10_3 H10_2]
  · isplitl [H10]; · iexists _; iexact H10
    isplitl [H10_15]; · iexists _; iexact H10_15
    isplitl [H10_14]; · iexists _; iexact H10_14
    isplitl [H10_13]; · iexists _; iexact H10_13
    isplitl [H10_12]; · iexists _; iexact H10_12
    isplitl [H10_11]; · iexists _; iexact H10_11
    isplitl [H10_10]; · iexists _; iexact H10_10
    isplitl [H10_9]; · iexists _; iexact H10_9
    isplitl [H10_8]; · iexists _; iexact H10_8
    isplitl [H10_7]; · iexists _; iexact H10_7
    isplitl [H10_6]; · iexists _; iexact H10_6
    isplitl [H10_5]; · iexists _; iexact H10_5
    isplitl [H10_4]; · iexists _; iexact H10_4
    isplitl [H10_3]; · iexists _; iexact H10_3
    iexists _; iexact H10_2
  ihave HY := (y_join_out c) $$ [HB_dst0 HB_dst1]
  · isplitl [HB_dst0]; · iexact HB_dst0
    iexact HB_dst1
  ihave HZ := (y_join_buf c) $$ [HB_src0 HB_src1]
  · isplitl [HB_src0]; · iexact HB_src0
    iexact HB_src1
  rw [wp_ret]; imodintro
  iapply HK
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HY]; · iexact HY
  isplitl [HG]; · iexact HG
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [HZ]; · iexact HZ
  isplitl [H29]; · iexact H29
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [HB]; · iexact HB
  isplitl [S18]; · iexact S18
  iexists _; iexact HO

end Cert.KernelIdeal.Hand
end
-- ==== Proof.KernelIdeal.Frame.lean ====
module
public import proofs.«01_k».proof.Proof.Gen.KernelIdeal.Frame
public import proofs.«01_k».proof.Proof.Gen.KernelIdeal.Launch
public import proofs.«01_k».proof.Proof.Gen.KernelIdeal.Points
public import proofs.«01_k».proof.Proof.KernelIdeal.Run
public import Idealize.ShloMosaic.Lib.Tactic
public import Idealize.ShloMosaic.Lib.Pipeline.FrameBody
public import Idealize.ShloMosaic.Lib.MixedBatch
public import Idealize.ShloMosaic.Lib.Ring
public import Idealize.ShloMosaic.Lib.WordCmp
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! ## The region's operands -/

/-- The buffers the kernel's copies read: the nine inputs. -/
def H0 : Finset (Ref sig .tc) := {main_v0, main_arg1, main_v1, main_v2, main_arg4, main_v3, main_arg6, main_v4, main_v5}
/-- The buffers the kernel's copies write: the three results. -/
def R0 : Finset (Ref sig .tc) := {main_v6_0, main_v6_1, main_v6_2}
/-- The buffers the host lines after the region write. -/
def T0 : Finset (Ref sig .tc) := {main_v7, main_v8}
theorem H0_sub : H0 ⊆ Pipeline.restRefs sig (cfg0.spec) := by decide
theorem R0_sub : R0 ⊆ Pipeline.restRefs sig (cfg0.spec) \ H0 := by decide

/-- The kernel's nineteen DMA cells. -/
abbrev osem0 : Fin 19 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18] : Fin 19 → SemLoc sig) j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) := by
  rw [Pipeline.ownSems0_eq_of_list c osem0 [0, 1, 2, 3, 4, 5, 6, 7, 8, 9, 10, 11, 12, 13, 14, 15, 16, 17, 18] (by decide) (by decide)]; rfl
theorem hbmPts0_eq (c : Dev nD) :
    (bigSep H0 (fun b => ((c : Thread nD τ).loc b) ↦{fullShare} V m c b) : sProp 𝕄)
      = iprop((((c : Thread nD τ).loc main_v0) ↦{fullShare} V m c main_v0) ∗ (((c : Thread nD τ).loc main_arg1) ↦{fullShare} V m c main_arg1) ∗ (((c : Thread nD τ).loc main_v1) ↦{fullShare} V m c main_v1) ∗ (((c : Thread nD τ).loc main_v2) ↦{fullShare} V m c main_v2) ∗ (((c : Thread nD τ).loc main_arg4) ↦{fullShare} V m c main_arg4) ∗ (((c : Thread nD τ).loc main_v3) ↦{fullShare} V m c main_v3) ∗ (((c : Thread nD τ).loc main_arg6) ↦{fullShare} V m c main_arg6) ∗ (((c : Thread nD τ).loc main_v4) ↦{fullShare} V m c main_v4) ∗ (((c : Thread nD τ).loc main_v5) ↦{fullShare} V m c main_v5)) := by
  rw [BI.bigSep_eq_bigSepL_of_eq [main_v0, main_arg1, main_v1, main_v2, main_arg4, main_v3, main_arg6, main_v4, main_v5] (by decide) (by decide)]; rfl
theorem ownedPts0_eq (c : Dev nD) :
    (Pipeline.owned R0 c : sProp 𝕄)
      = iprop((∃ f, ((c : Thread nD τ).loc main_v6_0) ↦{fullShare} f) ∗ (∃ f, ((c : Thread nD τ).loc main_v6_1) ↦{fullShare} f) ∗ (∃ f, ((c : Thread nD τ).loc main_v6_2) ↦{fullShare} f)) := by
  unfold Pipeline.owned; rw [BI.bigSep_eq_bigSepL_of_eq [main_v6_0, main_v6_1, main_v6_2] (by decide) (by decide)]; rfl
theorem PhiDR0_eq (c : Dev nD) :
    (Pipeline.ΦDR osem0 (cfg0.spec) H0 R0 (V m) c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f) ∗ (∃ f : Buf (Elt F) ((c : Thread nD τ).loc cc0_scratch10), ((c : Thread nD τ).loc cc0_scratch10) ↦{fullShare} f) ∗ (∃ f : Buf (Elt F) ((c : Thread nD τ).loc cc0_scratch11), ((c : Thread nD τ).loc cc0_scratch11) ↦{fullShare} f) ∗ (∃ f : Buf (Elt F) ((c : Thread nD τ).loc cc0_scratch12), ((c : Thread nD τ).loc cc0_scratch12) ↦{fullShare} f) ∗ (∃ f : Buf (Elt F) ((c : Thread nD τ).loc cc0_scratch13), ((c : Thread nD τ).loc cc0_scratch13) ↦{fullShare} f) ∗ (∃ f : Buf (Elt F) ((c : Thread nD τ).loc cc0_scratch14), ((c : Thread nD τ).loc cc0_scratch14) ↦{fullShare} f) ∗ (∃ f : Buf (Elt F) ((c : Thread nD τ).loc cc0_scratch15), ((c : Thread nD τ).loc cc0_scratch15) ↦{fullShare} f) ∗ (∃ f : Buf (Elt F) ((c : Thread nD τ).loc cc0_scratch16), ((c : Thread nD τ).loc cc0_scratch16) ↦{fullShare} f) ∗ (∃ f : Buf (Elt F) ((c : Thread nD τ).loc cc0_scratch17), ((c : Thread nD τ).loc cc0_scratch17) ↦{fullShare} f) ∗ (∃ f : Buf (Elt F) ((c : Thread nD τ).loc cc0_scratch5), ((c : Thread nD τ).loc cc0_scratch5) ↦{fullShare} f))
          ∗ (∃ r, prngReg c r)
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0)
          ∗ iprop((((c : Thread nD τ).loc main_v0) ↦{fullShare} V m c main_v0) ∗ (((c : Thread nD τ).loc main_arg1) ↦{fullShare} V m c main_arg1) ∗ (((c : Thread nD τ).loc main_v1) ↦{fullShare} V m c main_v1) ∗ (((c : Thread nD τ).loc main_v2) ↦{fullShare} V m c main_v2) ∗ (((c : Thread nD τ).loc main_arg4) ↦{fullShare} V m c main_arg4) ∗ (((c : Thread nD τ).loc main_v3) ↦{fullShare} V m c main_v3) ∗ (((c : Thread nD τ).loc main_arg6) ↦{fullShare} V m c main_arg6) ∗ (((c : Thread nD τ).loc main_v4) ↦{fullShare} V m c main_v4) ∗ (((c : Thread nD τ).loc main_v5) ↦{fullShare} V m c main_v5))
          ∗ iprop((∃ f, ((c : Thread nD τ).loc main_v6_0) ↦{fullShare} f) ∗ (∃ f, ((c : Thread nD τ).loc main_v6_1) ↦{fullShare} f) ∗ (∃ f, ((c : Thread nD τ).loc main_v6_2) ↦{fullShare} f))) := by
  rw [Pipeline.ΦDR_eq, scopedRest0_eq, ownSems00_eq, hbmPts0_eq, ownedPts0_eq]

/-! ## The body at the one point -/

/-- The proof data of the region: no staged windows, the kernel's own buffers and cells in the invariant. -/
def dats (_ : Fin 1) (c : Dev nD) : Dat τ (Elt F) Unit ℕ (Pipeline.UD sig nD τ) ℕ cfg0 c where
  A w := V m c (Pipeline.arrRef (cfg0.spec) w)
  after w t := w.elim0
  Φ _ := Pipeline.ΦDR osem0 (cfg0.spec) H0 R0 (V m) c
  q _ := fullShare
  owed _ := 0

theorem A_eq (c : Dev nD) (w : Fin cfg0.W) : (dats m 0 c).A w = V m c (Pipeline.arrRef (cfg0.spec) w) := by
  dsimp only [dats]

def bodyPre (c : Dev nD) (t : Fin cfg0.N) : sProp 𝕄 :=
  iprop((dats m 0 c).Φ t.castSucc ∗ (dats m 0 c).owesAt () t.castSucc)
def bodyPost (c : Dev nD) (t : Fin cfg0.N) : sProp 𝕄 :=
  iprop((dats m 0 c).Φ t.succ ∗ (dats m 0 c).owesAt () t.succ)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦDR osem0 (cfg0.spec) H0 R0 (V m) c from rfl, PhiDR0_eq]
  unfold Dat.owesAt Pipeline.owesWithin
  rw [show (dats m 0 c).owed t.castSucc = 0 from rfl, show (dats m 0 c).owed t.succ = 0 from rfl]
  iintro ⟨⟨⟨⟨%fs0, HS0⟩, ⟨%fs1, HS1⟩, ⟨%fs2, HS2⟩, ⟨%fs3, HS3⟩, ⟨%fs4, HS4⟩, ⟨%fs6, HS6⟩, ⟨%fs7, HS7⟩, ⟨%fs8, HS8⟩, ⟨%fs9, HS9⟩, ⟨%fs10, HS10⟩, ⟨%fs11, HS11⟩, ⟨%fs12, HS12⟩, ⟨%fs13, HS13⟩, ⟨%fs14, HS14⟩, ⟨%fs15, HS15⟩, ⟨%fs16, HS16⟩, ⟨%fs17, HS17⟩, ⟨%fs5, HS5⟩⟩, Hg, ⟨Hq0, Hq1, Hq2, Hq3, Hq4, Hq5, Hq6, Hq7, Hq8, Hq9, Hq10, Hq11, Hq12, Hq13, Hq14, Hq15, Hq16, Hq17, Hq18⟩, ⟨HH0, HH1, HH2, HH3, HH4, HH5, HH6, HH7, HH8⟩, ⟨⟨%fr0, HH9⟩, ⟨%fr1, HH10⟩, ⟨%fr2, HH11⟩⟩⟩, ⟨%W, -, HW⟩⟩
  iapply (body_whole (F := F) c (V m c main_v0) (V m c main_arg1) (V m c main_v1) (V m c main_v2) (V m c main_arg4) (V m c main_v3) (V m c main_arg6) (V m c main_v4) (V m c main_v5) fr0 fr1 fr2 fs0 fs1 fs2 fs3 fs4 fs5 fs6 fs7 fs8 fs9 fs10 fs11 fs12 fs13 fs14 fs15 fs16 fs17 W _)
  isplitl [HH0]; · iexact HH0
  isplitl [HH1]; · iexact HH1
  isplitl [HH2]; · iexact HH2
  isplitl [HH3]; · iexact HH3
  isplitl [HH4]; · iexact HH4
  isplitl [HH5]; · iexact HH5
  isplitl [HH6]; · iexact HH6
  isplitl [HH7]; · iexact HH7
  isplitl [HH8]; · iexact HH8
  isplitl [HH9]; · iexact HH9
  isplitl [HH10]; · iexact HH10
  isplitl [HH11]; · iexact HH11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [HW]; · iexact HW
  iintro ⟨HH0, HH1, HH2, HH3, HH4, HH5, HH6, HH7, HH8, HH9, HH10, HH11, HS0, HS1, HS2, HS3, HS4, HS5, HS6, HS7, HS8, HS9, HS10, HS11, HS12, HS13, HS14, HS15, HS16, HS17, Hq0, Hq1, Hq2, Hq3, Hq4, Hq5, Hq6, Hq7, Hq8, Hq9, Hq10, Hq11, Hq12, Hq13, Hq14, Hq15, Hq16, Hq17, Hq18, ⟨%W', HW'⟩⟩
  isplitl [HH0 HH1 HH2 HH3 HH4 HH5 HH6 HH7 HH8 HH9 HH10 HH11 HS0 HS1 HS2 HS3 HS4 HS5 HS6 HS7 HS8 HS9 HS10 HS11 HS12 HS13 HS14 HS15 HS16 HS17 Hg Hq0 Hq1 Hq2 Hq3 Hq4 Hq5 Hq6 Hq7 Hq8 Hq9 Hq10 Hq11 Hq12 Hq13 Hq14 Hq15 Hq16 Hq17 Hq18]
  · isplitl [HS0 HS1 HS2 HS3 HS4 HS6 HS7 HS8 HS9 HS10 HS11 HS12 HS13 HS14 HS15 HS16 HS17 HS5]
    · isplitl [HS0]; · iexact HS0
      isplitl [HS1]; · iexact HS1
      isplitl [HS2]; · iexact HS2
      isplitl [HS3]; · iexact HS3
      isplitl [HS4]; · iexact HS4
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      iexact HS5
    isplitl [Hg]; · iexact Hg
    isplitl [Hq0 Hq1 Hq2 Hq3 Hq4 Hq5 Hq6 Hq7 Hq8 Hq9 Hq10 Hq11 Hq12 Hq13 Hq14 Hq15 Hq16 Hq17 Hq18]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      iexact Hq18
    isplitl [HH0 HH1 HH2 HH3 HH4 HH5 HH6 HH7 HH8]
    · isplitl [HH0]; · iexact HH0
      isplitl [HH1]; · iexact HH1
      isplitl [HH2]; · iexact HH2
      isplitl [HH3]; · iexact HH3
      isplitl [HH4]; · iexact HH4
      isplitl [HH5]; · iexact HH5
      isplitl [HH6]; · iexact HH6
      isplitl [HH7]; · iexact HH7
      iexact HH8
    isplitl [HH9]; · iexact HH9
    isplitl [HH10]; · iexact HH10
    iexact HH11
  iexists W'; isplitr; · ipureintro; exact fun _ _ => Or.inl trivial
  iexact HW'

theorem defs₀_row (t : Fin cfg0.N) :
    defs₀ (F := F) .tc cfg0.body (cfg0.bodyArgs t (cfg0.slots t)) = bodyAt0 t := by
  unfold defs₀; rw [Defs.onTc_tc]

theorem bigSep_none (Φ : Fin cfg0.W → sProp 𝕄) : bigSep Finset.univ Φ = iprop(emp) := by
  rw [show (Finset.univ : Finset (Fin cfg0.W)) = ∅ from rfl]; exact BI.bigSep_empty

theorem body_obligation (c : Dev nD) : BodyObligation (dats (F := F) m 0 c) (defs₀ (F := F)) Variants.none () Set.univ := fun t => by
  rw [bigSep_none, bigSep_none, defs₀_row]
  exact triple_restated (sound_body m c t) rfl (Laws.sep_mono .rfl Laws.sep_emp.1) fun _ => Laws.sep_mono .rfl Laws.sep_emp.2

/-! ## The run and the frame -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_writes : ∀ ops ∈ ([hostOps1] : List (List (HloOp τ sig (Elt F)))), ∀ op ∈ ops, ∀ b : Ref sig .tc,
    Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl | rfl
  · simp only [StableHlo.reshape_writes, Finset.mem_singleton] at hb
    rw [show b = main_v7 from of_not_not fun hne => StableHlo.devRef_ne_of_ne hne hb]; decide
  · simp only [StableHlo.unary_writes, Finset.mem_singleton] at hb
    rw [show b = main_v8 from of_not_not fun hne => StableHlo.devRef_ne_of_ne hne hb]; decide

set_option backward.isDefEq.respectTransparency.types false in
theorem run_main : θ_run defs (onTc (τ := τ) (main (F := F))) (s₀ m ρ) (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmainD m Variants.none) (hA := A_eq m)
    (hin := fun _ => .rfl) (hout := fun _ => .rfl)

/-- THE FRAME: the program runs to its end, its arguments end as they were, every semaphore counter ends at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).2 main_arg8 (Finset.mem_sdiff.mpr ⟨Pipeline.mem_restRefs_of main_arg8 (by decide) (by decide), by decide⟩)).trans (V_main_arg8 m c)⟩, h.2⟩) (run_main m ρ)

end Cert.KernelIdeal.Hand

end
-- ==== Proof.Main.Split.lean ====
module
public import proofs.«01_k».proof.Proof.Gen.Main.Frame
public import proofs.«01_k».proof.Proof.Gen.Main.Skeleton
public import Idealize.ShloMosaic.Lib.Tactic
public import Idealize.ShloMosaic.Lib.Pipeline.FrameBody
public import Idealize.ShloMosaic.Lib.MixedBatch
public import Idealize.ShloMosaic.Lib.Ring
public import Idealize.ShloMosaic.Lib.WordCmp
@[expose] public section
noncomputable section
namespace Cert.Main.Hand
open Cert.Main Cert.Main.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

theorem halves (c : Dev nD) {sp : Space} {S : Shape} {e : EltTy} (M : Memref sig .tc sp S e) (f : Bf (F := F) c M) :
    pt c M f ⊢ iprop((M.view.loc (c : Thread nD τ) ↦{fullShare.left} f) ∗ (M.view.loc (c : Thread nD τ) ↦{fullShare.right} f)) :=
  (pointsTo_share (PosShare.mem_left_op_right _)).1

theorem token16 (c : Dev nD) {sp : Space} {S : Shape} {e : EltTy} (M : Memref sig .tc sp S e) (f : Bf (F := F) c M) :
    pt c M f ⊣⊢ iprop((M.view.loc (c : Thread nD τ) ↦{Transfers.shareDrop fullShare 17} f)
      ∗ (M.view.loc (c : Thread nD τ) ↦{Transfers.shareTokN fullShare 16} f)
      ∗ bigSep (Finset.range 16) (fun i => (M.view.loc (c : Thread nD τ) ↦{Transfers.shareTokN fullShare i} f : sProp 𝕄))) := by
  have h := Transfers.pointsTo_toks_range (Ix := Unit) (Name := ℕ) (U := Pipeline.UD sig nD τ) (Lvl := ℕ) (ℓ := M.view.loc (c : Thread nD τ)) (S := Finset.univ) (f := f) fullShare 17
  rw [Finset.range_add_one, BI.bigSep_insert Finset.notMem_range_self] at h
  exact h

/-! ## The weight ring, one slot at a time -/

theorem slot_inb (s : Fin 8) : ∀ a, (![s.val, 0, 0] : Fin 3 → ℕ) a + S1x2048x2048.size a ≤ S8x2048x2048.size a := by
  revert s; decide
/-- The elements of ring slot `s`. -/
abbrev slotSet (s : Fin 8) : Finset S8x2048x2048.Idx := (Rect.unit (s := S8x2048x2048) ![s.val, 0, 0] S1x2048x2048.size (slot_inb s)).set
theorem mem_slotSet (s : Fin 8) (y : S8x2048x2048.Idx) : y ∈ slotSet s ↔ (y 0).val = s.val := by
  rw [Rect.mem_set_unit]
  have h1 : (y 1).val < 2048 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 2048; omega
theorem slotSet_disjoint : ∀ s s' : Fin 8, s ≠ s' → Disjoint (slotSet s) (slotSet s') := by
  intro s s' hne; rw [Finset.disjoint_left]; intro y hy hy'; rw [mem_slotSet] at hy hy'; exact hne (Fin.ext (hy.symm.trans hy'))
theorem slotSet_cover : (Finset.univ : Finset (Fin 8)).biUnion slotSet = Finset.univ := by
  ext y; simp only [Finset.mem_biUnion, Finset.mem_univ, true_and, iff_true]; exact ⟨(y 0).cast (by decide), by rw [mem_slotSet]; rfl⟩

/-- Ring slot `s` as the kernel's copies name it. -/
abbrev slotM (arg29 : Memref sig .tc .vmem S8x2048x2048 .fp8e4m3) (s : ℕ) (h : ∀ a, (![s, 0, 0] : Fin 3 → ℕ) a + S1x2048x2048.size a ≤ S8x2048x2048.size a) :
    Memref sig .tc .vmem S2048x2048 .fp8e4m3 :=
  (arg29.slice (Rect.unit (s := S8x2048x2048) ![s, 0, 0] S1x2048x2048.size h) (fun _ => rfl)).squeeze S2048x2048 squeezes_S1x2048x2048_S2048x2048
/-- The ring's buffer. -/
abbrev ringM : Memref sig .tc .vmem S8x2048x2048 .fp8e4m3 := Memref.whole cc0_scratch6
omit [FloatOps F] in
theorem slotM_set (s : Fin 8) : (slotM ringM s.val (slot_inb s)).view.set = slotSet s :=
  (View.set_reshape _ _).trans (View.set_slice_whole _ _)

/-- Slot `s` held at contents `f`. -/
abbrev slotPt (c : Dev nD) (s : Fin 8) (f : Buf (Elt F) ((c : Thread nD τ).loc cc0_scratch6)) : sProp 𝕄 :=
  (slotM ringM s.val (slot_inb s)).view.loc (c : Thread nD τ) ↦[(slotM ringM s.val (slot_inb s)).view.set]{fullShare} f
omit [FloatOps F] in
theorem slotPt_eq (c : Dev nD) (s : Fin 8) (f) : slotPt (F := F) c s f = (((c : Thread nD τ).loc cc0_scratch6) ↦[slotSet s]{fullShare} f : sProp 𝕄) :=
  congrArg (fun S => (_ ↦[S]{fullShare} f : sProp 𝕄)) (slotM_set s)

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ
/-- The ring whole is its eight slots. -/
theorem ring_split (c : Dev nD) (f : Buf (Elt F) ((c : Thread nD τ).loc cc0_scratch6)) :
    (((c : Thread nD τ).loc cc0_scratch6) ↦{fullShare} f : sProp 𝕄)
      = iprop(slotPt c 0 f ∗ slotPt c 1 f ∗ slotPt c 2 f ∗ slotPt c 3 f ∗ slotPt c 4 f ∗ slotPt c 5 f ∗ slotPt c 6 f ∗ slotPt c 7 f) := by
  rw [Ring.pointsTo_blocks (Ix := Unit) (Name := ℕ) (U := Pipeline.UD sig nD τ) (Lvl := ℕ) (q := fullShare) (ℓ := (c : Thread nD τ).loc cc0_scratch6) slotSet slotSet_disjoint slotSet_cover f,
    bigSep_fin8]
  simp only [slotPt_eq]
/-- The eight slots, each at contents of its own, are the ring at some contents. -/
theorem ring_join (c : Dev nD) :
    iprop((∃ f, slotPt (F := F) c 0 f) ∗ (∃ f, slotPt (F := F) c 1 f) ∗ (∃ f, slotPt (F := F) c 2 f) ∗ (∃ f, slotPt (F := F) c 3 f) ∗ (∃ f, slotPt (F := F) c 4 f) ∗ (∃ f, slotPt (F := F) c 5 f) ∗ (∃ f, slotPt (F := F) c 6 f) ∗ (∃ f, slotPt (F := F) c 7 f))
      ⊢ (iprop(∃ f : Buf (Elt F) ((c : Thread nD τ).loc cc0_scratch6), ((c : Thread nD τ).loc cc0_scratch6) ↦{fullShare} f) : sProp 𝕄) := by
  iintro ⟨⟨%f0, H0⟩, HR⟩
  iapply (Ring.pointsTo_blocks_join_exists (Ix := Unit) (Name := ℕ) (U := Pipeline.UD sig nD τ) (Lvl := ℕ) (q := fullShare) (ℓ := (c : Thread nD τ).loc cc0_scratch6) slotSet slotSet_disjoint slotSet_cover f0)
  irw [bigSep_fin8]
  simp only [slotPt_eq]
  icases HR with ⟨H1, H2, H3, H4, H5, H6, H7⟩
  isplitl [H0]; · iexists f0; iexact H0
  isplitl [H1]; · iexact H1
  isplitl [H2]; · iexact H2
  isplitl [H3]; · iexact H3
  isplitl [H4]; · iexact H4
  isplitl [H5]; · iexact H5
  isplitl [H6]; · iexact H6
  iexact H7

/-! ## A buffer lent in read shares -/

/-- A buffer held whole, as sixteen read shares numbered by the semaphore they are lent to, and a rest. -/
theorem tokens (c : Dev nD) {sp : Space} {S : Shape} {e : EltTy} (M : Memref sig .tc sp S e) (f : Bf (F := F) c M) :
    pt c M f = iprop((M.view.loc (c : Thread nD τ) ↦{Transfers.shareDrop fullShare 16} f)
      ∗ (M.view.loc (c : Thread nD τ) ↦{Transfers.shareTokN fullShare 8} f) ∗ (M.view.loc (c : Thread nD τ) ↦{Transfers.shareTokN fullShare 9} f) ∗ (M.view.loc (c : Thread nD τ) ↦{Transfers.shareTokN fullShare 10} f) ∗ (M.view.loc (c : Thread nD τ) ↦{Transfers.shareTokN fullShare 11} f) ∗ (M.view.loc (c : Thread nD τ) ↦{Transfers.shareTokN fullShare 12} f) ∗ (M.view.loc (c : Thread nD τ) ↦{Transfers.shareTokN fullShare 13} f) ∗ (M.view.loc (c : Thread nD τ) ↦{Transfers.shareTokN fullShare 14} f) ∗ (M.view.loc (c : Thread nD τ) ↦{Transfers.shareTokN fullShare 15} f)
      ∗ bigSep (Finset.range 8) (fun i => (M.view.loc (c : Thread nD τ) ↦{Transfers.shareTokN fullShare i} f : sProp 𝕄))) := by
  have h := Transfers.pointsTo_toks_range (Ix := Unit) (Name := ℕ) (U := Pipeline.UD sig nD τ) (Lvl := ℕ) (ℓ := M.view.loc (c : Thread nD τ)) (S := Finset.univ) (f := f) fullShare 16
  have h' := Entails.antisymm h.1 h.2
  refine h'.trans ?_
  congr 1
  have e : Finset.range 16 = insert 8 (insert 9 (insert 10 (insert 11 (insert 12 (insert 13 (insert 14 (insert 15 (Finset.range 8)))))))) := by decide
  rw [e]
  iterate 8 rw [BI.bigSep_insert (by decide)]
  rfl

/-! ## A ring slot, one 512×512 window at a time -/

theorem win_inb (s r k : ℕ) (hs : s < 8) (hr : r ≤ 1536) (hk : k ≤ 1536) :
    ∀ a, (![s, r, k] : Fin 3 → ℕ) a + S1x512x512.size a ≤ S8x2048x2048.size a := by
  intro a; fin_cases a
  · show s + 1 ≤ 8; omega
  · show r + 512 ≤ 2048; omega
  · show k + 512 ≤ 2048; omega
/-- The window of slot `s` at row `r` and column `k`, as the kernel's copies name it. -/
abbrev winM (s r k : ℕ) (h : ∀ a, (![s, r, k] : Fin 3 → ℕ) a + S1x512x512.size a ≤ S8x2048x2048.size a) : Memref sig .tc .vmem S512x512 .fp8e4m3 :=
  (ringM.slice (Rect.unit (s := S8x2048x2048) ![s, r, k] S1x512x512.size h) (fun _ => rfl)).squeeze S512x512 squeezes_S1x512x512_S512x512
/-- That window held at contents `f`. -/
abbrev winPt (c : Dev nD) (s r k : ℕ) (h : ∀ a, (![s, r, k] : Fin 3 → ℕ) a + S1x512x512.size a ≤ S8x2048x2048.size a)
    (f : Buf (Elt F) ((c : Thread nD τ).loc cc0_scratch6)) : sProp 𝕄 :=
  (winM s r k h).view.loc (c : Thread nD τ) ↦[(winM s r k h).view.set]{fullShare} f
/-- The elements of that window. -/
abbrev winSet (s r k : ℕ) (h : ∀ a, (![s, r, k] : Fin 3 → ℕ) a + S1x512x512.size a ≤ S8x2048x2048.size a) : Finset S8x2048x2048.Idx :=
  (Rect.unit (s := S8x2048x2048) ![s, r, k] S1x512x512.size h).set
omit [FloatOps F] in
theorem winPt_eq (c : Dev nD) (s r k : ℕ) (h) (f) : winPt (F := F) c s r k h f = (((c : Thread nD τ).loc cc0_scratch6) ↦[winSet s r k h]{fullShare} f : sProp 𝕄) :=
  congrArg (fun S => (_ ↦[S]{fullShare} f : sProp 𝕄)) ((View.set_reshape _ _).trans (View.set_slice_whole _ _))
theorem mem_winSet (s r k : ℕ) (h) (y : S8x2048x2048.Idx) :
    y ∈ winSet s r k h ↔ (y 0).val = s ∧ (r ≤ (y 1).val ∧ (y 1).val < r + 512) ∧ (k ≤ (y 2).val ∧ (y 2).val < k + 512) := by
  rw [Rect.mem_set_unit]
  constructor
  · intro H; have a0 : s ≤ (y 0).val ∧ (y 0).val < s + 1 := H 0; have a1 : r ≤ (y 1).val ∧ (y 1).val < r + 512 := H 1
    have a2 : k ≤ (y 2).val ∧ (y 2).val < k + 512 := H 2; exact ⟨by omega, a1, a2⟩
  · intro ⟨h0, h1, h2⟩ i; fin_cases i
    · show s ≤ (y 0).val ∧ (y 0).val < s + 1; omega
    · exact h1
    · exact h2
/-- Window number `b` of slot `s`, of sixteen. -/
abbrev winBlk (s : ℕ) (hs : s < 8) (b : Fin 16) : Finset S8x2048x2048.Idx :=
  winSet s (512 * (b.val / 4)) (512 * (b.val % 4)) (win_inb s _ _ hs (by have := b.isLt; omega) (by have := b.isLt; omega))
theorem winBlk_disjoint (s : ℕ) (hs : s < 8) : ∀ b b' : Fin 16, b ≠ b' → Disjoint (winBlk s hs b) (winBlk s hs b') := by
  intro b b' hne; rw [Finset.disjoint_left]; intro y hy hy'; rw [mem_winSet] at hy hy'
  have := b.isLt; have := b'.isLt; exact hne (Fin.ext (by omega))
theorem winBlk_cover (s : ℕ) (hs : s < 8) : (Finset.univ : Finset (Fin 16)).biUnion (winBlk s hs) = slotSet ⟨s, hs⟩ := by
  ext y; simp only [Finset.mem_biUnion, Finset.mem_univ, true_and]; rw [mem_slotSet]
  have h1 : (y 1).val < 2048 := (y 1).isLt
  have h2 : (y 2).val < 2048 := (y 2).isLt
  constructor
  · rintro ⟨b, hb⟩; rw [mem_winSet] at hb; exact hb.1
  · intro h0; refine ⟨⟨4 * ((y 1).val / 512) + (y 2).val / 512, by omega⟩, ?_⟩
    rw [mem_winSet]; refine ⟨h0, ?_, ?_⟩ <;> dsimp only <;> omega
theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [(0 : Fin 16), 1, 2, 3, 4, 5, 6, 7, 8, 9, 10, 11, 12, 13, 14, 15] (by decide) (by decide) Φ
/-- A slot, by its number as the kernel names it. -/
abbrev slotAt (c : Dev nD) (s : ℕ) (hs : s < 8) (f : Buf (Elt F) ((c : Thread nD τ).loc cc0_scratch6)) : sProp 𝕄 :=
  (slotM ringM s (slot_inb ⟨s, hs⟩)).view.loc (c : Thread nD τ) ↦[(slotM ringM s (slot_inb ⟨s, hs⟩)).view.set]{fullShare} f
/-- A slot held at one contents is its sixteen windows. -/
theorem slot_windows (c : Dev nD) (s : ℕ) (hs : s < 8) (f : Buf (Elt F) ((c : Thread nD τ).loc cc0_scratch6)) :
    slotAt c s hs f = iprop(winPt c s 0 0 (win_inb s 0 0 hs (by decide) (by decide)) f ∗ winPt c s 0 512 (win_inb s 0 512 hs (by decide) (by decide)) f ∗ winPt c s 0 1024 (win_inb s 0 1024 hs (by decide) (by decide)) f ∗ winPt c s 0 1536 (win_inb s 0 1536 hs (by decide) (by decide)) f ∗ winPt c s 512 0 (win_inb s 512 0 hs (by decide) (by decide)) f ∗ winPt c s 512 512 (win_inb s 512 512 hs (by decide) (by decide)) f ∗ winPt c s 512 1024 (win_inb s 512 1024 hs (by decide) (by decide)) f ∗ winPt c s 512 1536 (win_inb s 512 1536 hs (by decide) (by decide)) f ∗ winPt c s 1024 0 (win_inb s 1024 0 hs (by decide) (by decide)) f ∗ winPt c s 1024 512 (win_inb s 1024 512 hs (by decide) (by decide)) f ∗ winPt c s 1024 1024 (win_inb s 1024 1024 hs (by decide) (by decide)) f ∗ winPt c s 1024 1536 (win_inb s 1024 1536 hs (by decide) (by decide)) f ∗ winPt c s 1536 0 (win_inb s 1536 0 hs (by decide) (by decide)) f ∗ winPt c s 1536 512 (win_inb s 1536 512 hs (by decide) (by decide)) f ∗ winPt c s 1536 1024 (win_inb s 1536 1024 hs (by decide) (by decide)) f ∗ winPt c s 1536 1536 (win_inb s 1536 1536 hs (by decide) (by decide)) f) := by
  refine (slotPt_eq c ⟨s, hs⟩ f).trans ?_
  rw [Ring.pointsTo_sub_blocks (Ix := Unit) (Name := ℕ) (U := Pipeline.UD sig nD τ) (Lvl := ℕ) (ℓ := (c : Thread nD τ).loc cc0_scratch6) (winBlk s hs) (winBlk_disjoint s hs) (slotSet ⟨s, hs⟩) (winBlk_cover s hs) f,
    bigSep_fin16]
  simp only [winPt_eq]; rfl
/-- Sixteen windows, each at contents of its own, are the slot at some contents. -/
theorem slot_windows_join (c : Dev nD) (s : ℕ) (hs : s < 8) :
    iprop((∃ f, winPt c s 0 0 (win_inb s 0 0 hs (by decide) (by decide)) f) ∗ (∃ f, winPt c s 0 512 (win_inb s 0 512 hs (by decide) (by decide)) f) ∗ (∃ f, winPt c s 0 1024 (win_inb s 0 1024 hs (by decide) (by decide)) f) ∗ (∃ f, winPt c s 0 1536 (win_inb s 0 1536 hs (by decide) (by decide)) f) ∗ (∃ f, winPt c s 512 0 (win_inb s 512 0 hs (by decide) (by decide)) f) ∗ (∃ f, winPt c s 512 512 (win_inb s 512 512 hs (by decide) (by decide)) f) ∗ (∃ f, winPt c s 512 1024 (win_inb s 512 1024 hs (by decide) (by decide)) f) ∗ (∃ f, winPt c s 512 1536 (win_inb s 512 1536 hs (by decide) (by decide)) f) ∗ (∃ f, winPt c s 1024 0 (win_inb s 1024 0 hs (by decide) (by decide)) f) ∗ (∃ f, winPt c s 1024 512 (win_inb s 1024 512 hs (by decide) (by decide)) f) ∗ (∃ f, winPt c s 1024 1024 (win_inb s 1024 1024 hs (by decide) (by decide)) f) ∗ (∃ f, winPt c s 1024 1536 (win_inb s 1024 1536 hs (by decide) (by decide)) f) ∗ (∃ f, winPt c s 1536 0 (win_inb s 1536 0 hs (by decide) (by decide)) f) ∗ (∃ f, winPt c s 1536 512 (win_inb s 1536 512 hs (by decide) (by decide)) f) ∗ (∃ f, winPt c s 1536 1024 (win_inb s 1536 1024 hs (by decide) (by decide)) f) ∗ (∃ f, winPt c s 1536 1536 (win_inb s 1536 1536 hs (by decide) (by decide)) f))
      ⊢ (iprop(∃ f : Buf (Elt F) ((c : Thread nD τ).loc cc0_scratch6), slotAt c s hs f) : sProp 𝕄) := by
  iintro ⟨⟨%f0, H0⟩, HR⟩
  have h := (Ring.pointsTo_sub_blocks_join_exists (Ix := Unit) (Name := ℕ) (U := Pipeline.UD sig nD τ) (Lvl := ℕ) (q := fullShare) (ℓ := (c : Thread nD τ).loc cc0_scratch6) (winBlk s hs) (winBlk_disjoint s hs) (slotSet ⟨s, hs⟩) (winBlk_cover s hs) f0)
  rw [bigSep_fin16] at h
  have h' : (iprop(∃ g : Buf (Elt F) ((c : Thread nD τ).loc cc0_scratch6), ((c : Thread nD τ).loc cc0_scratch6) ↦[slotSet ⟨s, hs⟩]{fullShare} g) : sProp 𝕄)
      ⊢ iprop(∃ f : Buf (Elt F) ((c : Thread nD τ).loc cc0_scratch6), slotAt c s hs f) :=
    exists_mono fun f => by rw [← slotPt_eq c ⟨s, hs⟩ f]
  iapply (h.trans h')
  simp only [winPt_eq]
  isplitl [H0]; · iexists f0; iexact H0
  iexact HR
/-- The ring whole is its eight slots, each spelled as the kernel's copies name it. -/
theorem ring_slots (c : Dev nD) (f : Buf (Elt F) ((c : Thread nD τ).loc cc0_scratch6)) :
    (((c : Thread nD τ).loc cc0_scratch6) ↦{fullShare} f : sProp 𝕄) = iprop(slotAt c 0 (by decide) f ∗ slotAt c 1 (by decide) f ∗ slotAt c 2 (by decide) f ∗ slotAt c 3 (by decide) f ∗ slotAt c 4 (by decide) f ∗ slotAt c 5 (by decide) f ∗ slotAt c 6 (by decide) f ∗ slotAt c 7 (by decide) f) := by
  rw [Ring.pointsTo_blocks (Ix := Unit) (Name := ℕ) (U := Pipeline.UD sig nD τ) (Lvl := ℕ) (q := fullShare) (ℓ := (c : Thread nD τ).loc cc0_scratch6) slotSet slotSet_disjoint slotSet_cover f,
    bigSep_fin8]
  rw [show slotAt c 0 (by decide) f = _ from slotPt_eq c ⟨0, by decide⟩ f, show slotAt c 1 (by decide) f = _ from slotPt_eq c ⟨1, by decide⟩ f, show slotAt c 2 (by decide) f = _ from slotPt_eq c ⟨2, by decide⟩ f, show slotAt c 3 (by decide) f = _ from slotPt_eq c ⟨3, by decide⟩ f, show slotAt c 4 (by decide) f = _ from slotPt_eq c ⟨4, by decide⟩ f, show slotAt c 5 (by decide) f = _ from slotPt_eq c ⟨5, by decide⟩ f, show slotAt c 6 (by decide) f = _ from slotPt_eq c ⟨6, by decide⟩ f, show slotAt c 7 (by decide) f = _ from slotPt_eq c ⟨7, by decide⟩ f]; rfl

/-! ## The result's two column windows -/

abbrev yWin0 {sp : Space} (M : Memref sig .tc sp S256x2560 .bf16) : Memref sig .tc sp S256x2048 .bf16 :=
  M.slice (Rect.unit (s := S256x2560) ![0, 0] S256x2048.size inb_S256x2560_S256x2048_0_0) (fun _ => rfl)
abbrev yWin1 {sp : Space} (M : Memref sig .tc sp S256x2560 .bf16) : Memref sig .tc sp S256x512 .bf16 :=
  M.slice (Rect.unit (s := S256x2560) ![0, 2048] S256x512.size inb_S256x2560_S256x512_0_2048) (fun _ => rfl)
/-- The units of the result's two copies, in issue order. -/
abbrev yAmts : Fin 2 → ℕ := ![32768, 8192]
/-- What each of the two copies delivers: its columns of the result, and its columns of the buffer it read. -/
def yDeliv (c : Dev nD) (arg9 : Memref sig .tc .hbm S256x2560 .bf16) (arg28 : Memref sig .tc .vmem S256x2560 .bf16) : Fin 2 → sProp 𝕄
  | 0 => iprop((∃ f, (yWin0 arg9).view.loc (c : Thread nD τ) ↦[(yWin0 arg9).view.set]{fullShare} f) ∗ (∃ f, (yWin0 arg28).view.loc (c : Thread nD τ) ↦[(yWin0 arg28).view.set]{fullShare} f))
  | 1 => iprop((∃ f, (yWin1 arg9).view.loc (c : Thread nD τ) ↦[(yWin1 arg9).view.set]{fullShare} f) ∗ (∃ f, (yWin1 arg28).view.loc (c : Thread nD τ) ↦[(yWin1 arg28).view.set]{fullShare} f))
instance yDeliv_storable (c : Dev nD) (arg9 : Memref sig .tc .hbm S256x2560 .bf16) (arg28 : Memref sig .tc .vmem S256x2560 .bf16) (t : Fin 2) :
    Storable (upEmb : UEmb _ 𝕄) (yDeliv (F := F) c arg9 arg28 t) := by
  fin_cases t <;> simp only [yDeliv] <;> infer_instance
/-- The elements of the result's column window `t`. -/
abbrev ySet : Fin 2 → Finset S256x2560.Idx
  | 0 => (Rect.unit (s := S256x2560) ![0, 0] S256x2048.size inb_S256x2560_S256x2048_0_0).set
  | 1 => (Rect.unit (s := S256x2560) ![0, 2048] S256x512.size inb_S256x2560_S256x512_0_2048).set
theorem mem_ySet0 (y : S256x2560.Idx) : y ∈ ySet 0 ↔ (y 1).val < 2048 := by
  rw [show ySet 0 = (Rect.unit (s := S256x2560) ![0, 0] S256x2048.size inb_S256x2560_S256x2048_0_0).set from rfl, Rect.mem_set_unit]
  have h0 : (y 0).val < 256 := (y 0).isLt
  constructor
  · intro H; have a1 : 0 ≤ (y 1).val ∧ (y 1).val < 0 + 2048 := H 1; omega
  · intro H i; fin_cases i
    · show 0 ≤ (y 0).val ∧ (y 0).val < 0 + 256; omega
    · show 0 ≤ (y 1).val ∧ (y 1).val < 0 + 2048; omega
theorem mem_ySet1 (y : S256x2560.Idx) : y ∈ ySet 1 ↔ 2048 ≤ (y 1).val := by
  rw [show ySet 1 = (Rect.unit (s := S256x2560) ![0, 2048] S256x512.size inb_S256x2560_S256x512_0_2048).set from rfl, Rect.mem_set_unit]
  have h0 : (y 0).val < 256 := (y 0).isLt
  have h1 : (y 1).val < 2560 := (y 1).isLt
  constructor
  · intro H; have a1 : 2048 ≤ (y 1).val ∧ (y 1).val < 2048 + 512 := H 1; omega
  · intro H i; fin_cases i
    · show 0 ≤ (y 0).val ∧ (y 0).val < 0 + 256; omega
    · show 2048 ≤ (y 1).val ∧ (y 1).val < 2048 + 512; omega
theorem ySet_disjoint : ∀ b b' : Fin 2, b ≠ b' → Disjoint (ySet b) (ySet b') := by
  have h : Disjoint (ySet 0) (ySet 1) := by
    rw [Finset.disjoint_left]; intro y hy hy'; rw [mem_ySet0] at hy; rw [mem_ySet1] at hy'; omega
  intro b b' hne; fin_cases b <;> fin_cases b'
  · exact absurd rfl hne
  · exact h
  · exact h.symm
  · exact absurd rfl hne
theorem ySet_cover : (Finset.univ : Finset (Fin 2)).biUnion ySet = Finset.univ := by
  ext y; simp only [Finset.mem_biUnion, Finset.mem_univ, true_and, iff_true]
  by_cases h : (y 1).val < 2048
  · exact ⟨0, (mem_ySet0 y).2 h⟩
  · exact ⟨1, (mem_ySet1 y).2 (by omega)⟩
theorem bigSep_fin2 (Φ : Fin 2 → sProp 𝕄) : bigSep Finset.univ Φ = iprop(Φ 0 ∗ Φ 1) :=
  bigSep_univ_eq_bigSepL [(0 : Fin 2), 1] (by decide) (by decide) Φ

/-- The two column windows, each at contents of its own, are the whole array at some contents. -/
theorem y_join_out (c : Dev nD) :
    iprop((∃ f, (yWin0 (Memref.whole main_v4_0)).view.loc (c : Thread nD τ) ↦[(yWin0 (Memref.whole main_v4_0)).view.set]{fullShare} f)
        ∗ (∃ f, (yWin1 (Memref.whole main_v4_0)).view.loc (c : Thread nD τ) ↦[(yWin1 (Memref.whole main_v4_0)).view.set]{fullShare} f))
      ⊢ (iprop(∃ f : Buf (Elt F) ((c : Thread nD τ).loc main_v4_0), ((c : Thread nD τ).loc main_v4_0) ↦{fullShare} f) : sProp 𝕄) := by
  have e0 : (yWin0 (Memref.whole main_v4_0)).view.set = ySet 0 := View.set_slice_whole _ _
  have e1 : (yWin1 (Memref.whole main_v4_0)).view.set = ySet 1 := View.set_slice_whole _ _
  rw [e0, e1]
  iintro ⟨⟨%f0, H0⟩, H1⟩
  iapply (Ring.pointsTo_blocks_join_exists (Ix := Unit) (Name := ℕ) (U := Pipeline.UD sig nD τ) (Lvl := ℕ) (q := fullShare) (ℓ := (c : Thread nD τ).loc main_v4_0) ySet ySet_disjoint ySet_cover f0)
  irw [bigSep_fin2]
  isplitl [H0]; · iexists f0; iexact H0
  iexact H1

/-- The two column windows, each at contents of its own, are the whole array at some contents. -/
theorem y_join_buf (c : Dev nD) :
    iprop((∃ f, (yWin0 (Memref.whole cc0_scratch5)).view.loc (c : Thread nD τ) ↦[(yWin0 (Memref.whole cc0_scratch5)).view.set]{fullShare} f)
        ∗ (∃ f, (yWin1 (Memref.whole cc0_scratch5)).view.loc (c : Thread nD τ) ↦[(yWin1 (Memref.whole cc0_scratch5)).view.set]{fullShare} f))
      ⊢ (iprop(∃ f : Buf (Elt F) ((c : Thread nD τ).loc cc0_scratch5), ((c : Thread nD τ).loc cc0_scratch5) ↦{fullShare} f) : sProp 𝕄) := by
  have e0 : (yWin0 (Memref.whole cc0_scratch5)).view.set = ySet 0 := View.set_slice_whole _ _
  have e1 : (yWin1 (Memref.whole cc0_scratch5)).view.set = ySet 1 := View.set_slice_whole _ _
  rw [e0, e1]
  iintro ⟨⟨%f0, H0⟩, H1⟩
  iapply (Ring.pointsTo_blocks_join_exists (Ix := Unit) (Name := ℕ) (U := Pipeline.UD sig nD τ) (Lvl := ℕ) (q := fullShare) (ℓ := (c : Thread nD τ).loc cc0_scratch5) ySet ySet_disjoint ySet_cover f0)
  irw [bigSep_fin2]
  isplitl [H0]; · iexists f0; iexact H0
  iexact H1

/-- What each of the result's two copies delivers, at stated contents. -/
def yDelivV (c : Dev nD) (d0 : Buf (Elt F) ((c : Thread nD τ).loc main_v4_0)) (s0 : Buf (Elt F) ((c : Thread nD τ).loc cc0_scratch5))
    (d1 : Buf (Elt F) ((c : Thread nD τ).loc main_v4_0)) (s1 : Buf (Elt F) ((c : Thread nD τ).loc cc0_scratch5)) : Fin 2 → sProp 𝕄
  | 0 => iprop(((yWin0 (Memref.whole main_v4_0)).view.loc (c : Thread nD τ) ↦[(yWin0 (Memref.whole main_v4_0)).view.set]{fullShare} d0)
      ∗ ((yWin0 (Memref.whole cc0_scratch5)).view.loc (c : Thread nD τ) ↦[(yWin0 (Memref.whole cc0_scratch5)).view.set]{fullShare} s0))
  | 1 => iprop(((yWin1 (Memref.whole main_v4_0)).view.loc (c : Thread nD τ) ↦[(yWin1 (Memref.whole main_v4_0)).view.set]{fullShare} d1)
      ∗ ((yWin1 (Memref.whole cc0_scratch5)).view.loc (c : Thread nD τ) ↦[(yWin1 (Memref.whole cc0_scratch5)).view.set]{fullShare} s1))
instance yDelivV_storable (c : Dev nD) (d0 s0 d1 s1) (t : Fin 2) : Storable (upEmb : UEmb _ 𝕄) (yDelivV (F := F) c d0 s0 d1 s1 t) := by
  fin_cases t <;> simp only [yDelivV] <;> infer_instance
theorem y_alloc (c : Dev nD) (d0 : Buf (Elt F) ((c : Thread nD τ).loc main_v4_0)) (s0 : Buf (Elt F) ((c : Thread nD τ).loc cc0_scratch5))
    (d1 : Buf (Elt F) ((c : Thread nD τ).loc main_v4_0)) (s1 : Buf (Elt F) ((c : Thread nD τ).loc cc0_scratch5)) :
    (semVal ((c : Thread nD τ), SemLoc.dma 17) 0 : sProp 𝕄) ⊢ |={Set.univ}=>
      Transfers.MixedBatch (countersEmb (U := Pipeline.UD sig nD τ)) (c : Thread nD τ) (SemLoc.dma 17) () yAmts (yDelivV c d0 s0 d1 s1) 0 0 :=
  Transfers.mixedBatch_alloc' (Lvl := ℕ) (countersEmb (U := Pipeline.UD sig nD τ)) (c : Thread nD τ) () yAmts
    (yDelivV c d0 s0 d1 s1) (sm := SemLoc.dma 17) (E := Set.univ)

end Cert.Main.Hand
end
-- ==== Proof.Main.Join.lean ====
module
public import proofs.«01_k».proof.Proof.Main.Split
public import proofs.«01_k».proof.Proof.Gen.Main.Skeleton
public import Idealize.ShloMosaic.Lib.Tactic
public import Idealize.ShloMosaic.Lib.Pipeline.FrameBody
public import Idealize.ShloMosaic.Lib.MixedBatch
public import Idealize.ShloMosaic.Lib.Ring
public import Idealize.ShloMosaic.Lib.WordCmp
@[expose] public section
noncomputable section
namespace Cert.Main.Hand
open Cert.Main Cert.Main.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

/-! # Putting a buffer back together from the windows lent out of it -/

section Generic
variable {ℓ : Loc nD τ sig} {q : PosShare TreeShare}

/-- The listed windows of a buffer, all at one contents. -/
def pieces (f : Buf (Elt F) ℓ) : List (Finset (Idx ℓ)) → sProp 𝕄
  | [] => iprop(emp)
  | T :: l => iprop((ℓ ↦[T]{q} f) ∗ pieces f l)
omit [FloatOps F] in
theorem rejoin (f : Buf (Elt F) ℓ) (l : List (Finset (Idx ℓ))) : ∀ S : Finset (Idx ℓ), l.Pairwise Disjoint → (∀ T ∈ l, T ⊆ S) →
    iprop((ℓ ↦[l.foldl (· \ ·) S]{q} f) ∗ pieces (q := q) f l) ⊢ (ℓ ↦[S]{q} f : sProp 𝕄) := by
  induction l with
  | nil => intro S _ _; exact Laws.sep_emp.1
  | cons T l ih =>
    intro S hd hs
    rw [List.pairwise_cons] at hd
    have h1 := ih (S \ T) hd.2 (fun T' h' => Finset.subset_sdiff.2 ⟨hs T' (List.mem_cons_of_mem _ h'), (hd.1 T' h').symm⟩)
    simp only [pieces]
    iintro ⟨H0, HT, HP⟩
    iapply ((pointsTo_split_subset (hs T List.mem_cons_self)).2)
    isplitl [HT]; · iexact HT
    iapply h1
    isplitl [H0]; · iexact H0
    iexact HP
omit [FloatOps F] in
/-- The same for a buffer held whole. -/
theorem rejoin_univ (f : Buf (Elt F) ℓ) (l : List (Finset (Idx ℓ))) (hd : l.Pairwise Disjoint) :
    iprop((ℓ ↦[l.foldl (· \ ·) Finset.univ]{q} f) ∗ pieces (q := q) f l) ⊢ (ℓ ↦{q} f : sProp 𝕄) :=
  rejoin f l Finset.univ hd (fun T _ => Finset.subset_univ T)
/-- The listed windows of a buffer, each at a contents of its own. -/
def somePieces (ℓ : Loc nD τ sig) : List (Finset (Idx ℓ)) → sProp 𝕄
  | [] => iprop(emp)
  | T :: l => iprop((∃ f : Buf (Elt F) ℓ, ℓ ↦[T]{fullShare} f) ∗ somePieces ℓ l)
omit [FloatOps F] in
theorem rejoin_some (l : List (Finset (Idx ℓ))) : ∀ S : Finset (Idx ℓ), l.Pairwise Disjoint → (∀ T ∈ l, T ⊆ S) →
    iprop((∃ f : Buf (Elt F) ℓ, ℓ ↦[l.foldl (· \ ·) S]{fullShare} f) ∗ somePieces ℓ l) ⊢ (iprop(∃ f : Buf (Elt F) ℓ, ℓ ↦[S]{fullShare} f) : sProp 𝕄) := by
  classical
  induction l with
  | nil => intro S _ _; exact Laws.sep_emp.1
  | cons T l ih =>
    intro S hd hs
    rw [List.pairwise_cons] at hd
    have h1 := ih (S \ T) hd.2 (fun T' h' => Finset.subset_sdiff.2 ⟨hs T' (List.mem_cons_of_mem _ h'), (hd.1 T' h').symm⟩)
    simp only [somePieces]
    iintro ⟨H0, ⟨%g, HT⟩, HP⟩
    ihave HR := h1 $$ [H0 HP]
    · isplitl [H0]; · iexact H0
      iexact HP
    icases HR with ⟨%f, HR⟩
    iexists (T.piecewise g f)
    iapply (pointsTo_join_subset (hs T List.mem_cons_self))
    isplitl [HT]; · iexact HT
    iexact HR
end Generic

/-! ## The weights' windows -/

theorem wW_inb (k : Fin 15) (j : Fin 4) : ∀ a, (![k.val, 512 * j.val, 2048] : Fin 3 → ℕ) a + S1x512x512.size a ≤ S15x2048x2560.size a := by
  have := k.isLt; have := j.isLt;
  intro a; fin_cases a
  · show k.val + 1 ≤ 15; omega
  · show 512 * j.val + 512 ≤ 2048; omega
  · show 2048 + 512 ≤ 2560; omega
/-- The rows `512 j …` and last columns of position `k` of the weights. -/
abbrev wWRect (k : Fin 15) (j : Fin 4) : Rect S15x2048x2560 := Rect.unit (s := S15x2048x2560) ![k.val, 512 * j.val, 2048] S1x512x512.size (wW_inb k j)
abbrev wWSet (k : Fin 15) (j : Fin 4) : Finset S15x2048x2560.Idx := (wWRect k j).set
abbrev wWM (k : Fin 15) (j : Fin 4) : Memref sig .tc .hbm S512x512 .fp8e4m3 :=
  ((Memref.whole main_arg2).slice (wWRect k j) (fun _ => rfl)).squeeze S512x512 squeezes_S1x512x512_S512x512
theorem wWM_set (k : Fin 15) (j : Fin 4) : (wWM k j).view.set = wWSet k j := (View.set_reshape _ _).trans (View.set_slice_whole _ _)
theorem wW_disjoint (k : Fin 15) (j : Fin 4) (k' : Fin 15) (j' : Fin 4) (h : ¬ (k = k' ∧ j = j')) : Disjoint (wWM k j).view.set (wWM k' j').view.set := by
  rw [wWM_set, wWM_set, Finset.disjoint_left]; intro y hy hy'
  rw [Rect.mem_set_unit] at hy hy'
  have a0 : k.val ≤ (y 0).val ∧ (y 0).val < k.val + 1 := hy 0; have b0 : k'.val ≤ (y 0).val ∧ (y 0).val < k'.val + 1 := hy' 0; have a1 : 512 * j.val ≤ (y 1).val ∧ (y 1).val < 512 * j.val + 512 := hy 1; have b1 : 512 * j'.val ≤ (y 1).val ∧ (y 1).val < 512 * j'.val + 512 := hy' 1; have a2 : 2048 ≤ (y 2).val ∧ (y 2).val < 2048 + 512 := hy 2; have b2 : 2048 ≤ (y 2).val ∧ (y 2).val < 2048 + 512 := hy' 2
  exact h ⟨Fin.ext (by omega), Fin.ext (by omega)⟩
/-! ## The codes' windows -/

theorem cW_inb (k : Fin 15) (b : Fin 2) : ∀ a, (![k.val, 128 * b.val, 0] : Fin 3 → ℕ) a + S1x128x2048.size a ≤ S15x256x2048.size a := by
  have := k.isLt; have := b.isLt;
  intro a; fin_cases a
  · show k.val + 1 ≤ 15; omega
  · show 128 * b.val + 128 ≤ 256; omega
  · show 0 + 2048 ≤ 2048; omega
/-- Batch `b` of position `k` of the codes. -/
abbrev cWRect (k : Fin 15) (b : Fin 2) : Rect S15x256x2048 := Rect.unit (s := S15x256x2048) ![k.val, 128 * b.val, 0] S1x128x2048.size (cW_inb k b)
abbrev cWSet (k : Fin 15) (b : Fin 2) : Finset S15x256x2048.Idx := (cWRect k b).set
abbrev cWM (k : Fin 15) (b : Fin 2) : Memref sig .tc .vmem S128x2048 .fp8e4m3 :=
  ((Memref.whole cc0_scratch0).slice (cWRect k b) (fun _ => rfl)).squeeze S128x2048 squeezes_S1x128x2048_S128x2048
theorem cWM_set (k : Fin 15) (b : Fin 2) : (cWM k b).view.set = cWSet k b := (View.set_reshape _ _).trans (View.set_slice_whole _ _)
theorem cW_disjoint (k : Fin 15) (b : Fin 2) (k' : Fin 15) (b' : Fin 2) (h : ¬ (k = k' ∧ b = b')) : Disjoint (cWM k b).view.set (cWM k' b').view.set := by
  rw [cWM_set, cWM_set, Finset.disjoint_left]; intro y hy hy'
  rw [Rect.mem_set_unit] at hy hy'
  have a0 : k.val ≤ (y 0).val ∧ (y 0).val < k.val + 1 := hy 0; have b0 : k'.val ≤ (y 0).val ∧ (y 0).val < k'.val + 1 := hy' 0; have a1 : 128 * b.val ≤ (y 1).val ∧ (y 1).val < 128 * b.val + 128 := hy 1; have b1 : 128 * b'.val ≤ (y 1).val ∧ (y 1).val < 128 * b'.val + 128 := hy' 1; have a2 : 0 ≤ (y 2).val ∧ (y 2).val < 0 + 2048 := hy 2; have b2 : 0 ≤ (y 2).val ∧ (y 2).val < 0 + 2048 := hy' 2
  exact h ⟨Fin.ext (by omega), Fin.ext (by omega)⟩
/-! ## The windows of the packed features' result -/

theorem gW_inb (b : Fin 2) (k : Fin 15) : ∀ a, (![b.val, k.val, 0, 0] : Fin 4 → ℕ) a + S1x1x128x2048.size a ≤ S2x15x128x2048.size a := by
  have := b.isLt; have := k.isLt;
  intro a; fin_cases a
  · show b.val + 1 ≤ 2; omega
  · show k.val + 1 ≤ 15; omega
  · show 0 + 128 ≤ 128; omega
  · show 0 + 2048 ≤ 2048; omega
/-- Position `k` of batch `b` of the result. -/
abbrev gWRect (b : Fin 2) (k : Fin 15) : Rect S2x15x128x2048 := Rect.unit (s := S2x15x128x2048) ![b.val, k.val, 0, 0] S1x1x128x2048.size (gW_inb b k)
abbrev gWSet (b : Fin 2) (k : Fin 15) : Finset S2x15x128x2048.Idx := (gWRect b k).set
abbrev gWM (b : Fin 2) (k : Fin 15) : Memref sig .tc .hbm S128x2048 .fp8e4m3 :=
  ((Memref.whole main_v4_1).slice (gWRect b k) (fun _ => rfl)).squeeze S128x2048 squeezes_S1x1x128x2048_S128x2048
theorem gWM_set (b : Fin 2) (k : Fin 15) : (gWM b k).view.set = gWSet b k := (View.set_reshape _ _).trans (View.set_slice_whole _ _)
theorem gW_disjoint (b : Fin 2) (k : Fin 15) (b' : Fin 2) (k' : Fin 15) (h : ¬ (b = b' ∧ k = k')) : Disjoint (gWM b k).view.set (gWM b' k').view.set := by
  rw [gWM_set, gWM_set, Finset.disjoint_left]; intro y hy hy'
  rw [Rect.mem_set_unit] at hy hy'
  have a0 : b.val ≤ (y 0).val ∧ (y 0).val < b.val + 1 := hy 0; have b0 : b'.val ≤ (y 0).val ∧ (y 0).val < b'.val + 1 := hy' 0; have a1 : k.val ≤ (y 1).val ∧ (y 1).val < k.val + 1 := hy 1; have b1 : k'.val ≤ (y 1).val ∧ (y 1).val < k'.val + 1 := hy' 1; have a2 : 0 ≤ (y 2).val ∧ (y 2).val < 0 + 128 := hy 2; have b2 : 0 ≤ (y 2).val ∧ (y 2).val < 0 + 128 := hy' 2; have a3 : 0 ≤ (y 3).val ∧ (y 3).val < 0 + 2048 := hy 3; have b3 : 0 ≤ (y 3).val ∧ (y 3).val < 0 + 2048 := hy' 3
  exact h ⟨Fin.ext (by omega), Fin.ext (by omega)⟩

theorem wW_pairwise0 : ([(wWM 0 0).view.set, (wWM 0 1).view.set, (wWM 0 2).view.set, (wWM 0 3).view.set, (wWM 1 0).view.set, (wWM 1 1).view.set, (wWM 1 2).view.set, (wWM 1 3).view.set, (wWM 2 0).view.set, (wWM 2 1).view.set, (wWM 2 2).view.set, (wWM 2 3).view.set] : List (Finset S15x2048x2560.Idx)).Pairwise Disjoint := by
  have h : (List.map (β := Finset S15x2048x2560.Idx) (fun p : Fin 15 × Fin 4 => (wWM p.1 p.2).view.set) [(0, 0), (0, 1), (0, 2), (0, 3), (1, 0), (1, 1), (1, 2), (1, 3), (2, 0), (2, 1), (2, 2), (2, 3)]).Pairwise Disjoint := by
    rw [List.pairwise_map]
    refine List.Pairwise.imp (fun {p q} (hne : p ≠ q) => wW_disjoint p.1 p.2 q.1 q.2 fun e => hne (Prod.ext e.1 e.2)) ?_
    decide
  exact h

theorem wW_pairwise1 : ([(wWM 3 0).view.set, (wWM 3 1).view.set, (wWM 3 2).view.set, (wWM 3 3).view.set, (wWM 4 0).view.set, (wWM 4 1).view.set, (wWM 4 2).view.set, (wWM 4 3).view.set, (wWM 5 0).view.set, (wWM 5 1).view.set, (wWM 5 2).view.set, (wWM 5 3).view.set] : List (Finset S15x2048x2560.Idx)).Pairwise Disjoint := by
  have h : (List.map (β := Finset S15x2048x2560.Idx) (fun p : Fin 15 × Fin 4 => (wWM p.1 p.2).view.set) [(3, 0), (3, 1), (3, 2), (3, 3), (4, 0), (4, 1), (4, 2), (4, 3), (5, 0), (5, 1), (5, 2), (5, 3)]).Pairwise Disjoint := by
    rw [List.pairwise_map]
    refine List.Pairwise.imp (fun {p q} (hne : p ≠ q) => wW_disjoint p.1 p.2 q.1 q.2 fun e => hne (Prod.ext e.1 e.2)) ?_
    decide
  exact h

theorem wW_pairwise2 : ([(wWM 6 0).view.set, (wWM 6 1).view.set, (wWM 6 2).view.set, (wWM 6 3).view.set, (wWM 7 0).view.set, (wWM 7 1).view.set, (wWM 7 2).view.set, (wWM 7 3).view.set, (wWM 8 0).view.set, (wWM 8 1).view.set, (wWM 8 2).view.set, (wWM 8 3).view.set] : List (Finset S15x2048x2560.Idx)).Pairwise Disjoint := by
  have h : (List.map (β := Finset S15x2048x2560.Idx) (fun p : Fin 15 × Fin 4 => (wWM p.1 p.2).view.set) [(6, 0), (6, 1), (6, 2), (6, 3), (7, 0), (7, 1), (7, 2), (7, 3), (8, 0), (8, 1), (8, 2), (8, 3)]).Pairwise Disjoint := by
    rw [List.pairwise_map]
    refine List.Pairwise.imp (fun {p q} (hne : p ≠ q) => wW_disjoint p.1 p.2 q.1 q.2 fun e => hne (Prod.ext e.1 e.2)) ?_
    decide
  exact h

theorem wW_pairwise3 : ([(wWM 9 0).view.set, (wWM 9 1).view.set, (wWM 9 2).view.set, (wWM 9 3).view.set, (wWM 10 0).view.set, (wWM 10 1).view.set, (wWM 10 2).view.set, (wWM 10 3).view.set, (wWM 11 0).view.set, (wWM 11 1).view.set, (wWM 11 2).view.set, (wWM 11 3).view.set] : List (Finset S15x2048x2560.Idx)).Pairwise Disjoint := by
  have h : (List.map (β := Finset S15x2048x2560.Idx) (fun p : Fin 15 × Fin 4 => (wWM p.1 p.2).view.set) [(9, 0), (9, 1), (9, 2), (9, 3), (10, 0), (10, 1), (10, 2), (10, 3), (11, 0), (11, 1), (11, 2), (11, 3)]).Pairwise Disjoint := by
    rw [List.pairwise_map]
    refine List.Pairwise.imp (fun {p q} (hne : p ≠ q) => wW_disjoint p.1 p.2 q.1 q.2 fun e => hne (Prod.ext e.1 e.2)) ?_
    decide
  exact h

theorem wW_pairwise4 : ([(wWM 12 0).view.set, (wWM 12 1).view.set, (wWM 12 2).view.set, (wWM 12 3).view.set, (wWM 13 0).view.set, (wWM 13 1).view.set, (wWM 13 2).view.set, (wWM 13 3).view.set, (wWM 14 0).view.set, (wWM 14 1).view.set, (wWM 14 2).view.set, (wWM 14 3).view.set] : List (Finset S15x2048x2560.Idx)).Pairwise Disjoint := by
  have h : (List.map (β := Finset S15x2048x2560.Idx) (fun p : Fin 15 × Fin 4 => (wWM p.1 p.2).view.set) [(12, 0), (12, 1), (12, 2), (12, 3), (13, 0), (13, 1), (13, 2), (13, 3), (14, 0), (14, 1), (14, 2), (14, 3)]).Pairwise Disjoint := by
    rw [List.pairwise_map]
    refine List.Pairwise.imp (fun {p q} (hne : p ≠ q) => wW_disjoint p.1 p.2 q.1 q.2 fun e => hne (Prod.ext e.1 e.2)) ?_
    decide
  exact h

theorem cW_pairwise : ([(cWM 0 0).view.set, (cWM 0 1).view.set, (cWM 1 0).view.set, (cWM 1 1).view.set, (cWM 2 0).view.set, (cWM 2 1).view.set, (cWM 3 0).view.set, (cWM 3 1).view.set, (cWM 4 0).view.set, (cWM 4 1).view.set, (cWM 5 0).view.set, (cWM 5 1).view.set, (cWM 6 0).view.set, (cWM 6 1).view.set, (cWM 7 0).view.set, (cWM 7 1).view.set, (cWM 8 0).view.set, (cWM 8 1).view.set, (cWM 9 0).view.set, (cWM 9 1).view.set, (cWM 10 0).view.set, (cWM 10 1).view.set, (cWM 11 0).view.set, (cWM 11 1).view.set, (cWM 12 0).view.set, (cWM 12 1).view.set, (cWM 13 0).view.set, (cWM 13 1).view.set, (cWM 14 0).view.set, (cWM 14 1).view.set] : List (Finset S15x256x2048.Idx)).Pairwise Disjoint := by
  have h : (List.map (β := Finset S15x256x2048.Idx) (fun p : Fin 15 × Fin 2 => (cWM p.1 p.2).view.set) [(0, 0), (0, 1), (1, 0), (1, 1), (2, 0), (2, 1), (3, 0), (3, 1), (4, 0), (4, 1), (5, 0), (5, 1), (6, 0), (6, 1), (7, 0), (7, 1), (8, 0), (8, 1), (9, 0), (9, 1), (10, 0), (10, 1), (11, 0), (11, 1), (12, 0), (12, 1), (13, 0), (13, 1), (14, 0), (14, 1)]).Pairwise Disjoint := by
    rw [List.pairwise_map]
    refine List.Pairwise.imp (fun {p q} (hne : p ≠ q) => cW_disjoint p.1 p.2 q.1 q.2 fun e => hne (Prod.ext e.1 e.2)) ?_
    decide
  exact h

theorem gW_pairwise : ([(gWM 0 0).view.set, (gWM 1 0).view.set, (gWM 0 1).view.set, (gWM 1 1).view.set, (gWM 0 2).view.set, (gWM 1 2).view.set, (gWM 0 3).view.set, (gWM 1 3).view.set, (gWM 0 4).view.set, (gWM 1 4).view.set, (gWM 0 5).view.set, (gWM 1 5).view.set, (gWM 0 6).view.set, (gWM 1 6).view.set, (gWM 0 7).view.set, (gWM 1 7).view.set, (gWM 0 8).view.set, (gWM 1 8).view.set, (gWM 0 9).view.set, (gWM 1 9).view.set, (gWM 0 10).view.set, (gWM 1 10).view.set, (gWM 0 11).view.set, (gWM 1 11).view.set, (gWM 0 12).view.set, (gWM 1 12).view.set, (gWM 0 13).view.set, (gWM 1 13).view.set, (gWM 0 14).view.set, (gWM 1 14).view.set] : List (Finset S2x15x128x2048.Idx)).Pairwise Disjoint := by
  have h : (List.map (β := Finset S2x15x128x2048.Idx) (fun p : Fin 2 × Fin 15 => (gWM p.1 p.2).view.set) [(0, 0), (1, 0), (0, 1), (1, 1), (0, 2), (1, 2), (0, 3), (1, 3), (0, 4), (1, 4), (0, 5), (1, 5), (0, 6), (1, 6), (0, 7), (1, 7), (0, 8), (1, 8), (0, 9), (1, 9), (0, 10), (1, 10), (0, 11), (1, 11), (0, 12), (1, 12), (0, 13), (1, 13), (0, 14), (1, 14)]).Pairwise Disjoint := by
    rw [List.pairwise_map]
    refine List.Pairwise.imp (fun {p q} (hne : p ≠ q) => gW_disjoint p.1 p.2 q.1 q.2 fun e => hne (Prod.ext e.1 e.2)) ?_
    decide
  exact h

end Cert.Main.Hand
end
-- ==== Proof.Main.Finish.lean ====
module
public import proofs.«01_k».proof.Proof.Main.Join
public import proofs.«01_k».proof.Proof.Gen.Main.Skeleton
public import Idealize.ShloMosaic.Lib.Tactic
public import Idealize.ShloMosaic.Lib.Pipeline.FrameBody
public import Idealize.ShloMosaic.Lib.MixedBatch
public import Idealize.ShloMosaic.Lib.Ring
public import Idealize.ShloMosaic.Lib.WordCmp
@[expose] public section
noncomputable section
namespace Cert.Main.Hand
open Cert.Main Cert.Main.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

/-! # The results, from the windows their copies wrote -/

omit [FloatOps F] in
theorem g_skip (b : Fin 2) (k : Fin 15) (b' : Fin 2) (k' : Fin 15) (h : ¬ (b = b' ∧ k = k')) (f : Bf (F := F) (0 : Dev nD) (Memref.whole main_v4_1))
    (v : S128x2048.Idx → Elt F .fp8e4m3) : ∀ i ∈ (gWM b k).view.set, View.write (Elt F) (gWM b' k').view f v Finset.univ i = f i := fun i hi =>
  View.write_of_not_mem f v Finset.univ (Finset.disjoint_left.1 (gW_disjoint b k b' k' h) hi)

/-- The batch the packed features' copy `n` serves, and its kernel position. -/
abbrev gB (n : ℕ) : Fin 2 := ⟨n % 2, Nat.mod_lt _ (by decide)⟩
abbrev gK (n : ℕ) : Fin 15 := ⟨n / 2 % 15, Nat.mod_lt _ (by decide)⟩
/-- The packed features' array after its first `n` copies, of payloads `v`. -/
def gAfter (f : Bf (F := F) (0 : Dev nD) (Memref.whole main_v4_1)) (v : ℕ → S128x2048.Idx → Elt F .fp8e4m3) : ℕ → Bf (F := F) (0 : Dev nD) (Memref.whole main_v4_1)
  | 0 => f
  | n + 1 => View.write (Elt F) (gWM (gB n) (gK n)).view (gAfter f v n) (v n) Finset.univ

omit [FloatOps F] in
/-- A copy's window keeps its contents through the later copies. -/
theorem gAfter_keeps (f : Bf (F := F) (0 : Dev nD) (Memref.whole main_v4_1)) (v : ℕ → S128x2048.Idx → Elt F .fp8e4m3) (n : ℕ) (d : ℕ) (hd : n + d < 30) :
    ∀ i ∈ (gWM (gB n) (gK n)).view.set, gAfter f v (n + 1) i = gAfter f v (n + 1 + d) i := by
  intro i hi
  induction d with
  | zero => rfl
  | succ d ih =>
    rw [ih (by omega)]
    refine (g_skip (gB n) (gK n) (gB (n + 1 + d)) (gK (n + 1 + d)) ?_ (gAfter f v (n + 1 + d)) (v (n + 1 + d)) i hi).symm
    rintro ⟨h1, h2⟩
    have h1 := congrArg Fin.val h1; have h2 := congrArg Fin.val h2
    simp only [gB, gK] at h1 h2
    omega

omit [FloatOps F] in
theorem g_piece (c : Dev nD) (f : Bf (F := F) (0 : Dev nD) (Memref.whole main_v4_1)) (v : ℕ → S128x2048.Idx → Elt F .fp8e4m3) (b : Fin 2) (k : Fin 15) (n : ℕ) (hn : n < 30)
    (hb : b = gB n) (hk : k = gK n) :
    (((c : Thread nD τ).loc main_v4_1) ↦[(gWM b k).view.set]{fullShare} gAfter f v (n + 1) : sProp 𝕄) ⊢ (((c : Thread nD τ).loc main_v4_1) ↦[(gWM b k).view.set]{fullShare} gAfter f v 30) := by
  subst hb hk
  have h := gAfter_keeps f v n (29 - n) (by omega)
  rw [show n + 1 + (29 - n) = 30 by omega] at h
  exact Entails.of_eq (pointsTo_congr (ℓ := ((c : Thread nD τ).loc main_v4_1)) (I := (gWM (gB n) (gK n)).view.set) (q := fullShare) (f := gAfter f v (n + 1)) (g := gAfter f v 30) h)

/-- The packed features' array from the windows the copies wrote and the rest of it. -/
theorem g_join (c : Dev nD) (f : Bf (F := F) (0 : Dev nD) (Memref.whole main_v4_1)) (a : Fin 30 → S128x2048.Idx → Elt F .fp8e4m3) :
    iprop((((c : Thread nD τ).loc main_v4_1) ↦[((((((((((((((Finset.univ \ (gWM 0 0).view.set) \ (gWM 1 0).view.set) \ (gWM 0 1).view.set) \ (gWM 1 1).view.set) \ (gWM 0 2).view.set) \ (gWM 1 2).view.set) \ (gWM 0 3).view.set) \ (gWM 1 3).view.set) \ (gWM 0 4).view.set) \ (gWM 1 4).view.set) \ (gWM 0 5).view.set) \ (gWM 1 5).view.set) \ (gWM 0 6).view.set) \ (gWM 1 6).view.set)]{fullShare} gAfter f (fun n => a (Fin.ofNat 30 n)) 30)
        ∗ (((c : Thread nD τ).loc main_v4_1) ↦[(gWM 0 0).view.set]{fullShare} gAfter f (fun n => a (Fin.ofNat 30 n)) 1)
        ∗ (((c : Thread nD τ).loc main_v4_1) ↦[(gWM 1 0).view.set]{fullShare} gAfter f (fun n => a (Fin.ofNat 30 n)) 2)
        ∗ (((c : Thread nD τ).loc main_v4_1) ↦[(gWM 0 1).view.set]{fullShare} gAfter f (fun n => a (Fin.ofNat 30 n)) 3)
        ∗ (((c : Thread nD τ).loc main_v4_1) ↦[(gWM 1 1).view.set]{fullShare} gAfter f (fun n => a (Fin.ofNat 30 n)) 4)
        ∗ (((c : Thread nD τ).loc main_v4_1) ↦[(gWM 0 2).view.set]{fullShare} gAfter f (fun n => a (Fin.ofNat 30 n)) 5)
        ∗ (((c : Thread nD τ).loc main_v4_1) ↦[(gWM 1 2).view.set]{fullShare} gAfter f (fun n => a (Fin.ofNat 30 n)) 6)
        ∗ (((c : Thread nD τ).loc main_v4_1) ↦[(gWM 0 3).view.set]{fullShare} gAfter f (fun n => a (Fin.ofNat 30 n)) 7)
        ∗ (((c : Thread nD τ).loc main_v4_1) ↦[(gWM 1 3).view.set]{fullShare} gAfter f (fun n => a (Fin.ofNat 30 n)) 8)
        ∗ (((c : Thread nD τ).loc main_v4_1) ↦[(gWM 0 4).view.set]{fullShare} gAfter f (fun n => a (Fin.ofNat 30 n)) 9)
        ∗ (((c : Thread nD τ).loc main_v4_1) ↦[(gWM 1 4).view.set]{fullShare} gAfter f (fun n => a (Fin.ofNat 30 n)) 10)
        ∗ (((c : Thread nD τ).loc main_v4_1) ↦[(gWM 0 5).view.set]{fullShare} gAfter f (fun n => a (Fin.ofNat 30 n)) 11)
        ∗ (((c : Thread nD τ).loc main_v4_1) ↦[(gWM 1 5).view.set]{fullShare} gAfter f (fun n => a (Fin.ofNat 30 n)) 12)
        ∗ (((c : Thread nD τ).loc main_v4_1) ↦[(gWM 0 6).view.set]{fullShare} gAfter f (fun n => a (Fin.ofNat 30 n)) 13)
        ∗ (((c : Thread nD τ).loc main_v4_1) ↦[(gWM 1 6).view.set]{fullShare} gAfter f (fun n => a (Fin.ofNat 30 n)) 14))
      ⊢ (((c : Thread nD τ).loc main_v4_1) ↦{fullShare} gAfter f (fun n => a (Fin.ofNat 30 n)) 30 : sProp 𝕄) := by
  have hq := gW_pairwise.sublist (List.take_sublist 14 _)
  have hp : ([(gWM 0 0).view.set, (gWM 1 0).view.set, (gWM 0 1).view.set, (gWM 1 1).view.set, (gWM 0 2).view.set, (gWM 1 2).view.set, (gWM 0 3).view.set, (gWM 1 3).view.set, (gWM 0 4).view.set, (gWM 1 4).view.set, (gWM 0 5).view.set, (gWM 1 5).view.set, (gWM 0 6).view.set, (gWM 1 6).view.set] : List (Finset S2x15x128x2048.Idx)).Pairwise Disjoint := hq
  have h := rejoin_univ (F := F) (ℓ := ((c : Thread nD τ).loc main_v4_1)) (q := fullShare) (gAfter f (fun n => a (Fin.ofNat 30 n)) 30) [(gWM 0 0).view.set, (gWM 1 0).view.set, (gWM 0 1).view.set, (gWM 1 1).view.set, (gWM 0 2).view.set, (gWM 1 2).view.set, (gWM 0 3).view.set, (gWM 1 3).view.set, (gWM 0 4).view.set, (gWM 1 4).view.set, (gWM 0 5).view.set, (gWM 1 5).view.set, (gWM 0 6).view.set, (gWM 1 6).view.set] hp
  simp only [pieces] at h
  refine BIBase.Entails.trans ?_ h
  iintro ⟨HR, H0, H1, H2, H3, H4, H5, H6, H7, H8, H9, H10, H11, H12, H13⟩
  isplitl [HR]; · iexact HR
  isplitl [H0]
  · iapply (g_piece c f (fun n => a (Fin.ofNat 30 n)) 0 0 0 (by decide) rfl rfl); iexact H0
  isplitl [H1]
  · iapply (g_piece c f (fun n => a (Fin.ofNat 30 n)) 1 0 1 (by decide) rfl rfl); iexact H1
  isplitl [H2]
  · iapply (g_piece c f (fun n => a (Fin.ofNat 30 n)) 0 1 2 (by decide) rfl rfl); iexact H2
  isplitl [H3]
  · iapply (g_piece c f (fun n => a (Fin.ofNat 30 n)) 1 1 3 (by decide) rfl rfl); iexact H3
  isplitl [H4]
  · iapply (g_piece c f (fun n => a (Fin.ofNat 30 n)) 0 2 4 (by decide) rfl rfl); iexact H4
  isplitl [H5]
  · iapply (g_piece c f (fun n => a (Fin.ofNat 30 n)) 1 2 5 (by decide) rfl rfl); iexact H5
  isplitl [H6]
  · iapply (g_piece c f (fun n => a (Fin.ofNat 30 n)) 0 3 6 (by decide) rfl rfl); iexact H6
  isplitl [H7]
  · iapply (g_piece c f (fun n => a (Fin.ofNat 30 n)) 1 3 7 (by decide) rfl rfl); iexact H7
  isplitl [H8]
  · iapply (g_piece c f (fun n => a (Fin.ofNat 30 n)) 0 4 8 (by decide) rfl rfl); iexact H8
  isplitl [H9]
  · iapply (g_piece c f (fun n => a (Fin.ofNat 30 n)) 1 4 9 (by decide) rfl rfl); iexact H9
  isplitl [H10]
  · iapply (g_piece c f (fun n => a (Fin.ofNat 30 n)) 0 5 10 (by decide) rfl rfl); iexact H10
  isplitl [H11]
  · iapply (g_piece c f (fun n => a (Fin.ofNat 30 n)) 1 5 11 (by decide) rfl rfl); iexact H11
  isplitl [H12]
  · iapply (g_piece c f (fun n => a (Fin.ofNat 30 n)) 0 6 12 (by decide) rfl rfl); iexact H12
  isplitl [H13]
  · iapply (g_piece c f (fun n => a (Fin.ofNat 30 n)) 1 6 13 (by decide) rfl rfl); iexact H13
  iempintro

/-- The packed features' array at some contents, from the windows the copies wrote and the rest of it. -/
theorem g_join_some (c : Dev nD) :
    iprop((∃ f, ((c : Thread nD τ).loc main_v4_1) ↦[((((((((((((((Finset.univ \ (gWM 0 0).view.set) \ (gWM 1 0).view.set) \ (gWM 0 1).view.set) \ (gWM 1 1).view.set) \ (gWM 0 2).view.set) \ (gWM 1 2).view.set) \ (gWM 0 3).view.set) \ (gWM 1 3).view.set) \ (gWM 0 4).view.set) \ (gWM 1 4).view.set) \ (gWM 0 5).view.set) \ (gWM 1 5).view.set) \ (gWM 0 6).view.set) \ (gWM 1 6).view.set)]{fullShare} f)
        ∗ (∃ f, ((c : Thread nD τ).loc main_v4_1) ↦[(gWM 0 0).view.set]{fullShare} f)
        ∗ (∃ f, ((c : Thread nD τ).loc main_v4_1) ↦[(gWM 1 0).view.set]{fullShare} f)
        ∗ (∃ f, ((c : Thread nD τ).loc main_v4_1) ↦[(gWM 0 1).view.set]{fullShare} f)
        ∗ (∃ f, ((c : Thread nD τ).loc main_v4_1) ↦[(gWM 1 1).view.set]{fullShare} f)
        ∗ (∃ f, ((c : Thread nD τ).loc main_v4_1) ↦[(gWM 0 2).view.set]{fullShare} f)
        ∗ (∃ f, ((c : Thread nD τ).loc main_v4_1) ↦[(gWM 1 2).view.set]{fullShare} f)
        ∗ (∃ f, ((c : Thread nD τ).loc main_v4_1) ↦[(gWM 0 3).view.set]{fullShare} f)
        ∗ (∃ f, ((c : Thread nD τ).loc main_v4_1) ↦[(gWM 1 3).view.set]{fullShare} f)
        ∗ (∃ f, ((c : Thread nD τ).loc main_v4_1) ↦[(gWM 0 4).view.set]{fullShare} f)
        ∗ (∃ f, ((c : Thread nD τ).loc main_v4_1) ↦[(gWM 1 4).view.set]{fullShare} f)
        ∗ (∃ f, ((c : Thread nD τ).loc main_v4_1) ↦[(gWM 0 5).view.set]{fullShare} f)
        ∗ (∃ f, ((c : Thread nD τ).loc main_v4_1) ↦[(gWM 1 5).view.set]{fullShare} f)
        ∗ (∃ f, ((c : Thread nD τ).loc main_v4_1) ↦[(gWM 0 6).view.set]{fullShare} f)
        ∗ (∃ f, ((c : Thread nD τ).loc main_v4_1) ↦[(gWM 1 6).view.set]{fullShare} f))
      ⊢ (iprop(∃ f, ((c : Thread nD τ).loc main_v4_1) ↦{fullShare} f) : sProp 𝕄) := by
  have hq := gW_pairwise.sublist (List.take_sublist 14 _)
  have hp : ([(gWM 0 0).view.set, (gWM 1 0).view.set, (gWM 0 1).view.set, (gWM 1 1).view.set, (gWM 0 2).view.set, (gWM 1 2).view.set, (gWM 0 3).view.set, (gWM 1 3).view.set, (gWM 0 4).view.set, (gWM 1 4).view.set, (gWM 0 5).view.set, (gWM 1 5).view.set, (gWM 0 6).view.set, (gWM 1 6).view.set] : List (Finset S2x15x128x2048.Idx)).Pairwise Disjoint := hq
  have h := rejoin_some (F := F) (ℓ := ((c : Thread nD τ).loc main_v4_1)) [(gWM 0 0).view.set, (gWM 1 0).view.set, (gWM 0 1).view.set, (gWM 1 1).view.set, (gWM 0 2).view.set, (gWM 1 2).view.set, (gWM 0 3).view.set, (gWM 1 3).view.set, (gWM 0 4).view.set, (gWM 1 4).view.set, (gWM 0 5).view.set, (gWM 1 5).view.set, (gWM 0 6).view.set, (gWM 1 6).view.set] Finset.univ hp (fun _ _ => Finset.subset_univ _)
  simp only [somePieces] at h
  refine BIBase.Entails.trans ?_ h
  iintro ⟨HR, H0, H1, H2, H3, H4, H5, H6, H7, H8, H9, H10, H11, H12, H13⟩
  isplitl [HR]; · iexact HR
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iempintro

/-- The result from its two column windows. -/
theorem y_join (c : Dev nD) (f : Bf (F := F) c (Memref.whole main_v4_0)) (p0 : S256x2048.Idx → Elt F .bf16) (p1 : S256x512.Idx → Elt F .bf16) :
    iprop(((yWin0 (Memref.whole main_v4_0)).view.loc (c : Thread nD τ) ↦[(yWin0 (Memref.whole main_v4_0)).view.set]{fullShare}
          (Memref.whole main_v4_0).view.writes (Elt F) f [⟨Rect.unit (s := S256x2560) ![0, 0] S256x2048.size inb_S256x2560_S256x2048_0_0, p0⟩])
        ∗ ((yWin1 (Memref.whole main_v4_0)).view.loc (c : Thread nD τ) ↦[(yWin1 (Memref.whole main_v4_0)).view.set]{fullShare}
          (Memref.whole main_v4_0).view.writes (Elt F) f [⟨Rect.unit (s := S256x2560) ![0, 2048] S256x512.size inb_S256x2560_S256x512_0_2048, p1⟩,
            ⟨Rect.unit (s := S256x2560) ![0, 0] S256x2048.size inb_S256x2560_S256x2048_0_0, p0⟩]))
      ⊢ (((c : Thread nD τ).loc main_v4_0) ↦{fullShare} ((Memref.whole main_v4_0).view.writes (Elt F) f [⟨Rect.unit (s := S256x2560) ![0, 2048] S256x512.size inb_S256x2560_S256x512_0_2048, p1⟩,
            ⟨Rect.unit (s := S256x2560) ![0, 0] S256x2048.size inb_S256x2560_S256x2048_0_0, p0⟩]) : sProp 𝕄) := by
  have e0 : (yWin0 (Memref.whole main_v4_0)).view.set = ySet 0 := View.set_slice_whole _ _
  have e1 : (yWin1 (Memref.whole main_v4_0)).view.set = ySet 1 := View.set_slice_whole _ _
  have hd : Disjoint (yWin0 (Memref.whole main_v4_0)).view.set (yWin1 (Memref.whole main_v4_0)).view.set := by
    rw [e0, e1]; exact ySet_disjoint 0 1 (by decide)
  have hu : (Finset.univ : Finset S256x2560.Idx) = (yWin0 (Memref.whole main_v4_0)).view.set ∪ (yWin1 (Memref.whole main_v4_0)).view.set := by
    rw [e0, e1]; ext y
    refine ⟨fun _ => ?_, fun _ => Finset.mem_univ _⟩
    by_cases h : (y 1).val < 2048
    · exact Finset.mem_union_left _ ((mem_ySet0 y).2 h)
    · exact Finset.mem_union_right _ ((mem_ySet1 y).2 (by omega))
  refine BIBase.Entails.trans ?_ (Entails.of_eq (congrArg (fun S => (((c : Thread nD τ).loc main_v4_0) ↦[S]{fullShare} ((Memref.whole main_v4_0).view.writes (Elt F) f [⟨Rect.unit (s := S256x2560) ![0, 2048] S256x512.size inb_S256x2560_S256x512_0_2048, p1⟩,
            ⟨Rect.unit (s := S256x2560) ![0, 0] S256x2048.size inb_S256x2560_S256x2048_0_0, p0⟩]) : sProp 𝕄)) hu.symm))
  refine BIBase.Entails.trans ?_ (pointsTo_union hd).2
  iintro ⟨H0, H1⟩
  isplitl [H0]
  · rw [pointsTo_congr (ℓ := ((c : Thread nD τ).loc main_v4_0)) (I := (yWin0 (Memref.whole main_v4_0)).view.set)
      (f := (Memref.whole main_v4_0).view.writes (Elt F) f [⟨Rect.unit (s := S256x2560) ![0, 2048] S256x512.size inb_S256x2560_S256x512_0_2048, p1⟩,
            ⟨Rect.unit (s := S256x2560) ![0, 0] S256x2048.size inb_S256x2560_S256x2048_0_0, p0⟩])
      (g := (Memref.whole main_v4_0).view.writes (Elt F) f [⟨Rect.unit (s := S256x2560) ![0, 0] S256x2048.size inb_S256x2560_S256x2048_0_0, p0⟩])
      (fun i hi => View.write_of_not_mem _ _ Finset.univ (Finset.disjoint_left.1 hd hi))]
    iexact H0
  iexact H1

end Cert.Main.Hand
end
-- ==== Proof.Main.Run.lean ====
module
public import proofs.«01_k».proof.Proof.Gen.Main.Frame
public import proofs.«01_k».proof.Proof.Gen.Main.Skeleton
public import Idealize.ShloMosaic.Lib.Tactic
public import Idealize.ShloMosaic.Lib.Pipeline.FrameBody
public import Idealize.ShloMosaic.Lib.MixedBatch
public import Idealize.ShloMosaic.Lib.Ring
public import Idealize.ShloMosaic.Lib.WordCmp
public import Idealize.ShloMosaic.Lib.Mxu.Walk
public import proofs.«01_k».proof.Proof.Main.Finish
@[expose] public section
noncomputable section
namespace Cert.Main.Hand
open Cert.Main Cert.Main.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

set_option maxHeartbeats 0 in

/-- The kernel body on its whole buffers: from the inputs at given contents, every other buffer at anything and every cell
    at zero, it runs to the inputs unchanged, the other buffers at some contents and every cell back at zero. -/
theorem body_whole (c : Dev nD) (g0 : Buf (Elt F) ((c : Thread nD τ).loc main_arg0)) (g1 : Buf (Elt F) ((c : Thread nD τ).loc main_v1)) (g2 : Buf (Elt F) ((c : Thread nD τ).loc main_arg1)) (g3 : Buf (Elt F) ((c : Thread nD τ).loc main_arg2)) (g4 : Buf (Elt F) ((c : Thread nD τ).loc main_v2)) (g5 : Buf (Elt F) ((c : Thread nD τ).loc main_v3)) (g6 : Buf (Elt F) ((c : Thread nD τ).loc main_v4_0)) (g7 : Buf (Elt F) ((c : Thread nD τ).loc main_v4_1)) (g8 : Buf (Elt F) ((c : Thread nD τ).loc main_v4_2)) (g9 : Buf (Elt F) ((c : Thread nD τ).loc cc0_scratch0)) (g10 : Buf (Elt F) ((c : Thread nD τ).loc cc0_scratch1)) (g11 : Buf (Elt F) ((c : Thread nD τ).loc cc0_scratch2)) (g12 : Buf (Elt F) ((c : Thread nD τ).loc cc0_scratch3)) (g13 : Buf (Elt F) ((c : Thread nD τ).loc cc0_scratch4)) (g14 : Buf (Elt F) ((c : Thread nD τ).loc cc0_scratch5)) (g15 : Buf (Elt F) ((c : Thread nD τ).loc cc0_scratch6)) (W : Waits sig Unit) (K : PUnit → sProp 𝕄) :
    iprop((((c : Thread nD τ).loc main_arg0) ↦{fullShare} g0) ∗ (((c : Thread nD τ).loc main_v1) ↦{fullShare} g1) ∗ (((c : Thread nD τ).loc main_arg1) ↦{fullShare} g2) ∗ (((c : Thread nD τ).loc main_arg2) ↦{fullShare} g3) ∗ (((c : Thread nD τ).loc main_v2) ↦{fullShare} g4) ∗ (((c : Thread nD τ).loc main_v3) ↦{fullShare} g5) ∗ (((c : Thread nD τ).loc main_v4_0) ↦{fullShare} g6) ∗ (((c : Thread nD τ).loc main_v4_1) ↦{fullShare} g7) ∗ (((c : Thread nD τ).loc main_v4_2) ↦{fullShare} g8) ∗ (((c : Thread nD τ).loc cc0_scratch0) ↦{fullShare} g9) ∗ (((c : Thread nD τ).loc cc0_scratch1) ↦{fullShare} g10) ∗ (((c : Thread nD τ).loc cc0_scratch2) ↦{fullShare} g11) ∗ (((c : Thread nD τ).loc cc0_scratch3) ↦{fullShare} g12) ∗ (((c : Thread nD τ).loc cc0_scratch4) ↦{fullShare} g13) ∗ (((c : Thread nD τ).loc cc0_scratch5) ↦{fullShare} g14) ∗ (((c : Thread nD τ).loc cc0_scratch6) ↦{fullShare} g15)
        ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ owes (c : Thread nD τ) 0 W
        ∗ (iprop((((c : Thread nD τ).loc main_arg0) ↦{fullShare} g0) ∗ (((c : Thread nD τ).loc main_v1) ↦{fullShare} g1) ∗ (((c : Thread nD τ).loc main_arg1) ↦{fullShare} g2) ∗ (((c : Thread nD τ).loc main_arg2) ↦{fullShare} g3) ∗ (((c : Thread nD τ).loc main_v2) ↦{fullShare} g4) ∗ (((c : Thread nD τ).loc main_v3) ↦{fullShare} g5) ∗ (∃ f, ((c : Thread nD τ).loc main_v4_0) ↦{fullShare} f) ∗ (∃ f, ((c : Thread nD τ).loc main_v4_1) ↦{fullShare} f) ∗ (∃ f, ((c : Thread nD τ).loc main_v4_2) ↦{fullShare} f) ∗ (∃ f, ((c : Thread nD τ).loc cc0_scratch0) ↦{fullShare} f) ∗ (∃ f, ((c : Thread nD τ).loc cc0_scratch1) ↦{fullShare} f) ∗ (∃ f, ((c : Thread nD τ).loc cc0_scratch2) ↦{fullShare} f) ∗ (∃ f, ((c : Thread nD τ).loc cc0_scratch3) ↦{fullShare} f) ∗ (∃ f, ((c : Thread nD τ).loc cc0_scratch4) ↦{fullShare} f) ∗ (∃ f, ((c : Thread nD τ).loc cc0_scratch5) ↦{fullShare} f) ∗ (∃ f, ((c : Thread nD τ).loc cc0_scratch6) ↦{fullShare} f)
            ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ (∃ W', owes (c : Thread nD τ) 0 W')) -∗ K ⟨⟩))
      ⊢ wp frame (wpE (defs₀ (F := F)) Variants.none c none) Set.univ
          (cc0_kpconv_main (Memref.whole main_arg0) (Memref.isWhole_whole _) (Memref.whole main_v1) (Memref.isWhole_whole _) (Memref.whole main_arg1) (Memref.isWhole_whole _) (Memref.whole main_arg2) (Memref.isWhole_whole _) (Memref.whole main_v2) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11) K := by

  change iprop(pt c (Memref.whole main_arg0) g0 ∗ pt c (Memref.whole main_v1) g1 ∗ pt c (Memref.whole main_arg1) g2 ∗ pt c (Memref.whole main_arg2) g3 ∗ pt c (Memref.whole main_v2) g4 ∗ pt c (Memref.whole main_v3) g5 ∗ pt c (Memref.whole main_v4_0) g6 ∗ pt c (Memref.whole main_v4_1) g7 ∗ pt c (Memref.whole main_v4_2) g8 ∗ pt c (Memref.whole cc0_scratch0) g9 ∗ pt c (Memref.whole cc0_scratch1) g10 ∗ pt c (Memref.whole cc0_scratch2) g11 ∗ pt c (Memref.whole cc0_scratch3) g12 ∗ pt c (Memref.whole cc0_scratch4) g13 ∗ pt c (Memref.whole cc0_scratch5) g14 ∗ pt c (Memref.whole cc0_scratch6) g15
        ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ owes (c : Thread nD τ) 0 W
        ∗ (iprop((((c : Thread nD τ).loc main_arg0) ↦{fullShare} g0) ∗ (((c : Thread nD τ).loc main_v1) ↦{fullShare} g1) ∗ (((c : Thread nD τ).loc main_arg1) ↦{fullShare} g2) ∗ (((c : Thread nD τ).loc main_arg2) ↦{fullShare} g3) ∗ (((c : Thread nD τ).loc main_v2) ↦{fullShare} g4) ∗ (((c : Thread nD τ).loc main_v3) ↦{fullShare} g5) ∗ (∃ f, ((c : Thread nD τ).loc main_v4_0) ↦{fullShare} f) ∗ (∃ f, ((c : Thread nD τ).loc main_v4_1) ↦{fullShare} f) ∗ (∃ f, ((c : Thread nD τ).loc main_v4_2) ↦{fullShare} f) ∗ (∃ f, ((c : Thread nD τ).loc cc0_scratch0) ↦{fullShare} f) ∗ (∃ f, ((c : Thread nD τ).loc cc0_scratch1) ↦{fullShare} f) ∗ (∃ f, ((c : Thread nD τ).loc cc0_scratch2) ↦{fullShare} f) ∗ (∃ f, ((c : Thread nD τ).loc cc0_scratch3) ↦{fullShare} f) ∗ (∃ f, ((c : Thread nD τ).loc cc0_scratch4) ↦{fullShare} f) ∗ (∃ f, ((c : Thread nD τ).loc cc0_scratch5) ↦{fullShare} f) ∗ (∃ f, ((c : Thread nD τ).loc cc0_scratch6) ↦{fullShare} f)
            ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ (∃ W', owes (c : Thread nD τ) 0 W')) -∗ K ⟨⟩)) ⊢ _
  iintro ⟨H0, H1, H2, H3, H4, H5, H6, H7, H8, H9, H10, H11, H12, H13, H14, H15, S0, S1, S2, S3, S4, S5, S6, S7, S8, S9, S10, S11, S12, S13, S14, S15, S16, S17, S18, HO, HK⟩
  ihave HH := (Entails.of_eq (ring_slots c g15)) $$ H15
  icases HH with ⟨H15s0, H15s1, H15s2, H15s3, H15s4, H15s5, H15s6, H15s7⟩
  ihave HH := (Entails.of_eq (tokens c (Memref.whole main_arg2) g3)) $$ H3
  icases HH with ⟨H3d, H3t8, H3t9, H3t10, H3t11, H3t12, H3t13, H3t14, H3t15, H3r⟩
  imod (y_alloc c _ _ _ _) $$ S17 with HB
  unfold yDelivV
  unfold cc0_kpconv_main
  set_option sl_exec.squeezeSlice true in
  set_option sl_exec.dmaWindow true in
  sl_exec_parts
  ihave HH := ((token16 c (Memref.whole cc0_scratch0) _).1) $$ H9
  icases HH with ⟨H9, H9t, H9r⟩
  have hp16 : Transfers.BatchOf (c : Thread nD τ) (SemLoc.dma (sig := sig) 16) 30 (windows := true) := trivial
  set_option sl_exec.unrollTrips 15 in
  set_option sl_exec.squeezeSlice true in
  set_option sl_exec.dmaWindow true in
  sl_exec_parts
  ihave HH := (Entails.of_eq (slot_windows c 7 (by decide) _)) $$ H15s7
  icases HH with ⟨H15s7w0, H15s7w1, H15s7w2, H15s7w3, H15s7w4, H15s7w5, H15s7w6, H15s7w7, H15s7w8, H15s7w9, H15s7w10, H15s7w11, H15s7w12, H15s7w13, H15s7w14, H15s7w15⟩
  have hp15 : Transfers.BatchOfUse (c : Thread nD τ) (SemLoc.dma (sig := sig) 15) 0 12 (windows := true) := trivial
  set_option sl_exec.unrollTrips 15 in
  set_option sl_exec.squeezeSlice true in
  set_option sl_exec.dmaWindow true in
  sl_exec_parts
  ihave HH := (Entails.of_eq (slot_windows c 0 (by decide) _)) $$ H15s0
  icases HH with ⟨H15s0w0, H15s0w1, H15s0w2, H15s0w3, H15s0w4, H15s0w5, H15s0w6, H15s0w7, H15s0w8, H15s0w9, H15s0w10, H15s0w11, H15s0w12, H15s0w13, H15s0w14, H15s0w15⟩
  have hp8 : Transfers.BatchOfUse (c : Thread nD τ) (SemLoc.dma (sig := sig) 8) 0 12 (windows := true) := trivial
  set_option sl_exec.unrollTrips 15 in
  set_option sl_exec.squeezeSlice true in
  set_option sl_exec.dmaWindow true in
  sl_exec_parts
  ihave HH := (Entails.of_eq (slot_windows c 1 (by decide) _)) $$ H15s1
  icases HH with ⟨H15s1w0, H15s1w1, H15s1w2, H15s1w3, H15s1w4, H15s1w5, H15s1w6, H15s1w7, H15s1w8, H15s1w9, H15s1w10, H15s1w11, H15s1w12, H15s1w13, H15s1w14, H15s1w15⟩
  have hp9 : Transfers.BatchOfUse (c : Thread nD τ) (SemLoc.dma (sig := sig) 9) 0 12 (windows := true) := trivial
  set_option sl_exec.unrollTrips 15 in
  set_option sl_exec.squeezeSlice true in
  set_option sl_exec.dmaWindow true in
  sl_exec_parts
  ihave HH := (Entails.of_eq (slot_windows c 2 (by decide) _)) $$ H15s2
  icases HH with ⟨H15s2w0, H15s2w1, H15s2w2, H15s2w3, H15s2w4, H15s2w5, H15s2w6, H15s2w7, H15s2w8, H15s2w9, H15s2w10, H15s2w11, H15s2w12, H15s2w13, H15s2w14, H15s2w15⟩
  have hp10 : Transfers.BatchOfUse (c : Thread nD τ) (SemLoc.dma (sig := sig) 10) 0 12 (windows := true) := trivial
  set_option sl_exec.unrollTrips 15 in
  set_option sl_exec.squeezeSlice true in
  set_option sl_exec.dmaWindow true in
  sl_exec_parts
  ihave HH := (Entails.of_eq (slot_windows c 3 (by decide) _)) $$ H15s3
  icases HH with ⟨H15s3w0, H15s3w1, H15s3w2, H15s3w3, H15s3w4, H15s3w5, H15s3w6, H15s3w7, H15s3w8, H15s3w9, H15s3w10, H15s3w11, H15s3w12, H15s3w13, H15s3w14, H15s3w15⟩
  have hp11 : Transfers.BatchOfUse (c : Thread nD τ) (SemLoc.dma (sig := sig) 11) 0 12 (windows := true) := trivial
  set_option sl_exec.unrollTrips 15 in
  set_option sl_exec.squeezeSlice true in
  set_option sl_exec.dmaWindow true in
  sl_exec_parts
  ihave H3 := (Entails.of_eq (tokens c (Memref.whole main_arg2) g3).symm) $$ [H3d H3t8 H3t9 H3t10 H3t11 H3t12 H3t13 H3t14 H3t15 H3r]
  · isplitl [H3d]; · iexact H3d
    isplitl [H3t8]; · iexact H3t8
    isplitl [H3t9]; · iexact H3t9
    isplitl [H3t10]; · iexact H3t10
    isplitl [H3t11]; · iexact H3t11
    isplitl [H3t12]; · iexact H3t12
    isplitl [H3t13]; · iexact H3t13
    isplitl [H3t14]; · iexact H3t14
    isplitl [H3t15]; · iexact H3t15
    iexact H3r
  ihave H9 := ((token16 c (Memref.whole cc0_scratch0) _).2) $$ [H9 H9t H9r]
  · isplitl [H9]; · iexact H9
    isplitl [H9t]; · iexact H9t
    iexact H9r
  ihave H15s7 := (slot_windows_join c 7 (by decide)) $$ [H15s7w0 H15s7w1 H15s7w2 H15s7w3 H15s7w4 H15s7w5 H15s7w6 H15s7w7 H15s7w8 H15s7w9 H15s7w10 H15s7w11 H15s7w12 H15s7w13 H15s7w14 H15s7w15]
  · isplitl [H15s7w0]; · iexists _; iexact H15s7w0
    isplitl [H15s7w1]; · iexists _; iexact H15s7w1
    isplitl [H15s7w2]; · iexists _; iexact H15s7w2
    isplitl [H15s7w3]; · iexists _; iexact H15s7w3
    isplitl [H15s7w4]; · iexists _; iexact H15s7w4
    isplitl [H15s7w5]; · iexists _; iexact H15s7w5
    isplitl [H15s7w6]; · iexists _; iexact H15s7w6
    isplitl [H15s7w7]; · iexists _; iexact H15s7w7
    isplitl [H15s7w8]; · iexists _; iexact H15s7w8
    isplitl [H15s7w9]; · iexists _; iexact H15s7w9
    isplitl [H15s7w10]; · iexists _; iexact H15s7w10
    isplitl [H15s7w11]; · iexists _; iexact H15s7w11
    isplitl [H15s7w12]; · iexists _; iexact H15s7w12
    isplitl [H15s7w13]; · iexists _; iexact H15s7w13
    isplitl [H15s7w14]; · iexists _; iexact H15s7w14
    iexists _; iexact H15s7w15
  ihave H15s0 := (slot_windows_join c 0 (by decide)) $$ [H15s0w0 H15s0w1 H15s0w2 H15s0w3 H15s0w4 H15s0w5 H15s0w6 H15s0w7 H15s0w8 H15s0w9 H15s0w10 H15s0w11 H15s0w12 H15s0w13 H15s0w14 H15s0w15]
  · isplitl [H15s0w0]; · iexists _; iexact H15s0w0
    isplitl [H15s0w1]; · iexists _; iexact H15s0w1
    isplitl [H15s0w2]; · iexists _; iexact H15s0w2
    isplitl [H15s0w3]; · iexists _; iexact H15s0w3
    isplitl [H15s0w4]; · iexists _; iexact H15s0w4
    isplitl [H15s0w5]; · iexists _; iexact H15s0w5
    isplitl [H15s0w6]; · iexists _; iexact H15s0w6
    isplitl [H15s0w7]; · iexists _; iexact H15s0w7
    isplitl [H15s0w8]; · iexists _; iexact H15s0w8
    isplitl [H15s0w9]; · iexists _; iexact H15s0w9
    isplitl [H15s0w10]; · iexists _; iexact H15s0w10
    isplitl [H15s0w11]; · iexists _; iexact H15s0w11
    isplitl [H15s0w12]; · iexists _; iexact H15s0w12
    isplitl [H15s0w13]; · iexists _; iexact H15s0w13
    isplitl [H15s0w14]; · iexists _; iexact H15s0w14
    iexists _; iexact H15s0w15
  ihave H15s1 := (slot_windows_join c 1 (by decide)) $$ [H15s1w0 H15s1w1 H15s1w2 H15s1w3 H15s1w4 H15s1w5 H15s1w6 H15s1w7 H15s1w8 H15s1w9 H15s1w10 H15s1w11 H15s1w12 H15s1w13 H15s1w14 H15s1w15]
  · isplitl [H15s1w0]; · iexists _; iexact H15s1w0
    isplitl [H15s1w1]; · iexists _; iexact H15s1w1
    isplitl [H15s1w2]; · iexists _; iexact H15s1w2
    isplitl [H15s1w3]; · iexists _; iexact H15s1w3
    isplitl [H15s1w4]; · iexists _; iexact H15s1w4
    isplitl [H15s1w5]; · iexists _; iexact H15s1w5
    isplitl [H15s1w6]; · iexists _; iexact H15s1w6
    isplitl [H15s1w7]; · iexists _; iexact H15s1w7
    isplitl [H15s1w8]; · iexists _; iexact H15s1w8
    isplitl [H15s1w9]; · iexists _; iexact H15s1w9
    isplitl [H15s1w10]; · iexists _; iexact H15s1w10
    isplitl [H15s1w11]; · iexists _; iexact H15s1w11
    isplitl [H15s1w12]; · iexists _; iexact H15s1w12
    isplitl [H15s1w13]; · iexists _; iexact H15s1w13
    isplitl [H15s1w14]; · iexists _; iexact H15s1w14
    iexists _; iexact H15s1w15
  ihave H15s2 := (slot_windows_join c 2 (by decide)) $$ [H15s2w0 H15s2w1 H15s2w2 H15s2w3 H15s2w4 H15s2w5 H15s2w6 H15s2w7 H15s2w8 H15s2w9 H15s2w10 H15s2w11 H15s2w12 H15s2w13 H15s2w14 H15s2w15]
  · isplitl [H15s2w0]; · iexists _; iexact H15s2w0
    isplitl [H15s2w1]; · iexists _; iexact H15s2w1
    isplitl [H15s2w2]; · iexists _; iexact H15s2w2
    isplitl [H15s2w3]; · iexists _; iexact H15s2w3
    isplitl [H15s2w4]; · iexists _; iexact H15s2w4
    isplitl [H15s2w5]; · iexists _; iexact H15s2w5
    isplitl [H15s2w6]; · iexists _; iexact H15s2w6
    isplitl [H15s2w7]; · iexists _; iexact H15s2w7
    isplitl [H15s2w8]; · iexists _; iexact H15s2w8
    isplitl [H15s2w9]; · iexists _; iexact H15s2w9
    isplitl [H15s2w10]; · iexists _; iexact H15s2w10
    isplitl [H15s2w11]; · iexists _; iexact H15s2w11
    isplitl [H15s2w12]; · iexists _; iexact H15s2w12
    isplitl [H15s2w13]; · iexists _; iexact H15s2w13
    isplitl [H15s2w14]; · iexists _; iexact H15s2w14
    iexists _; iexact H15s2w15
  ihave H15s3 := (slot_windows_join c 3 (by decide)) $$ [H15s3w0 H15s3w1 H15s3w2 H15s3w3 H15s3w4 H15s3w5 H15s3w6 H15s3w7 H15s3w8 H15s3w9 H15s3w10 H15s3w11 H15s3w12 H15s3w13 H15s3w14 H15s3w15]
  · isplitl [H15s3w0]; · iexists _; iexact H15s3w0
    isplitl [H15s3w1]; · iexists _; iexact H15s3w1
    isplitl [H15s3w2]; · iexists _; iexact H15s3w2
    isplitl [H15s3w3]; · iexists _; iexact H15s3w3
    isplitl [H15s3w4]; · iexists _; iexact H15s3w4
    isplitl [H15s3w5]; · iexists _; iexact H15s3w5
    isplitl [H15s3w6]; · iexists _; iexact H15s3w6
    isplitl [H15s3w7]; · iexists _; iexact H15s3w7
    isplitl [H15s3w8]; · iexists _; iexact H15s3w8
    isplitl [H15s3w9]; · iexists _; iexact H15s3w9
    isplitl [H15s3w10]; · iexists _; iexact H15s3w10
    isplitl [H15s3w11]; · iexists _; iexact H15s3w11
    isplitl [H15s3w12]; · iexists _; iexact H15s3w12
    isplitl [H15s3w13]; · iexists _; iexact H15s3w13
    isplitl [H15s3w14]; · iexists _; iexact H15s3w14
    iexists _; iexact H15s3w15
  ihave H15 := (ring_join c) $$ [H15s0 H15s1 H15s2 H15s3 H15s4 H15s5 H15s6 H15s7]
  · isplitl [H15s0]; · iexact H15s0
    isplitl [H15s1]; · iexact H15s1
    isplitl [H15s2]; · iexact H15s2
    isplitl [H15s3]; · iexact H15s3
    isplitl [H15s4]; · iexists _; iexact H15s4
    isplitl [H15s5]; · iexists _; iexact H15s5
    isplitl [H15s6]; · iexists _; iexact H15s6
    iexact H15s7
  ihave H7 := (g_join_some c) $$ [H7 H7_15 H7_14 H7_13 H7_12 H7_11 H7_10 H7_9 H7_8 H7_7 H7_6 H7_5 H7_4 H7_3 H7_2]
  · isplitl [H7]; · iexists _; iexact H7
    isplitl [H7_15]; · iexists _; iexact H7_15
    isplitl [H7_14]; · iexists _; iexact H7_14
    isplitl [H7_13]; · iexists _; iexact H7_13
    isplitl [H7_12]; · iexists _; iexact H7_12
    isplitl [H7_11]; · iexists _; iexact H7_11
    isplitl [H7_10]; · iexists _; iexact H7_10
    isplitl [H7_9]; · iexists _; iexact H7_9
    isplitl [H7_8]; · iexists _; iexact H7_8
    isplitl [H7_7]; · iexists _; iexact H7_7
    isplitl [H7_6]; · iexists _; iexact H7_6
    isplitl [H7_5]; · iexists _; iexact H7_5
    isplitl [H7_4]; · iexists _; iexact H7_4
    isplitl [H7_3]; · iexists _; iexact H7_3
    iexists _; iexact H7_2
  ihave HY := (y_join c g6 _ _) $$ [HB_dst0 HB_dst1]
  · isplitl [HB_dst0]; · iexact HB_dst0
    iexact HB_dst1
  rw [wp_ret]; imodintro
  iapply HK
  isplitl [H0]; · iexact H0
  isplitl [H1]; · iexact H1
  isplitl [H2]; · iexact H2
  isplitl [H3]; · iexact H3
  isplitl [H4]; · iexact H4
  isplitl [H5]; · iexact H5
  isplitl [HY]; · iexists _; iexact HY
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexact H15
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [HB]; · iexact HB
  isplitl [S18]; · iexact S18
  iexists _; iexact HO

end Cert.Main.Hand
end
-- ==== Proof.Main.Frame.lean ====
module
public import proofs.«01_k».proof.Proof.Gen.Main.Frame
public import proofs.«01_k».proof.Proof.Gen.Main.Launch
public import proofs.«01_k».proof.Proof.Gen.Main.Points
public import proofs.«01_k».proof.Proof.Main.Run
public import Idealize.ShloMosaic.Lib.Tactic
public import Idealize.ShloMosaic.Lib.Pipeline.FrameBody
public import Idealize.ShloMosaic.Lib.MixedBatch
public import Idealize.ShloMosaic.Lib.Ring
public import Idealize.ShloMosaic.Lib.WordCmp
@[expose] public section
noncomputable section
namespace Cert.Main.Hand
open Cert.Main Cert.Main.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! ## The region's operands -/

/-- The buffers the kernel's copies read: the six inputs. -/
def H0 : Finset (Ref sig .tc) := {main_arg0, main_v1, main_arg1, main_arg2, main_v2, main_v3}
/-- The buffers the kernel's copies write: the three results. -/
def R0 : Finset (Ref sig .tc) := {main_v4_0, main_v4_1, main_v4_2}
theorem H0_sub : H0 ⊆ Pipeline.restRefs sig (cfg0.spec) := by decide
theorem R0_sub : R0 ⊆ Pipeline.restRefs sig (cfg0.spec) \ H0 := by decide

/-- The kernel's nineteen DMA cells. -/
abbrev osem0 : Fin 19 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18] : Fin 19 → SemLoc sig) j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) := by
  rw [Pipeline.ownSems0_eq_of_list c osem0 [0, 1, 2, 3, 4, 5, 6, 7, 8, 9, 10, 11, 12, 13, 14, 15, 16, 17, 18] (by decide) (by decide)]; rfl
theorem hbmPts0_eq (c : Dev nD) :
    (bigSep H0 (fun b => ((c : Thread nD τ).loc b) ↦{fullShare} V m c b) : sProp 𝕄)
      = iprop((((c : Thread nD τ).loc main_arg0) ↦{fullShare} V m c main_arg0) ∗ (((c : Thread nD τ).loc main_v1) ↦{fullShare} V m c main_v1) ∗ (((c : Thread nD τ).loc main_arg1) ↦{fullShare} V m c main_arg1) ∗ (((c : Thread nD τ).loc main_arg2) ↦{fullShare} V m c main_arg2) ∗ (((c : Thread nD τ).loc main_v2) ↦{fullShare} V m c main_v2) ∗ (((c : Thread nD τ).loc main_v3) ↦{fullShare} V m c main_v3)) := by
  rw [BI.bigSep_eq_bigSepL_of_eq [main_arg0, main_v1, main_arg1, main_arg2, main_v2, main_v3] (by decide) (by decide)]; rfl
theorem ownedPts0_eq (c : Dev nD) :
    (Pipeline.owned R0 c : sProp 𝕄)
      = iprop((∃ f, ((c : Thread nD τ).loc main_v4_0) ↦{fullShare} f) ∗ (∃ f, ((c : Thread nD τ).loc main_v4_1) ↦{fullShare} f) ∗ (∃ f, ((c : Thread nD τ).loc main_v4_2) ↦{fullShare} f)) := by
  unfold Pipeline.owned; rw [BI.bigSep_eq_bigSepL_of_eq [main_v4_0, main_v4_1, main_v4_2] (by decide) (by decide)]; rfl
theorem Phi0_eq (c : Dev nD) :
    (Pipeline.ΦDR osem0 (cfg0.spec) H0 R0 (V m) c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f))
          ∗ (∃ r, prngReg c r)
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0)
          ∗ iprop((((c : Thread nD τ).loc main_arg0) ↦{fullShare} V m c main_arg0) ∗ (((c : Thread nD τ).loc main_v1) ↦{fullShare} V m c main_v1) ∗ (((c : Thread nD τ).loc main_arg1) ↦{fullShare} V m c main_arg1) ∗ (((c : Thread nD τ).loc main_arg2) ↦{fullShare} V m c main_arg2) ∗ (((c : Thread nD τ).loc main_v2) ↦{fullShare} V m c main_v2) ∗ (((c : Thread nD τ).loc main_v3) ↦{fullShare} V m c main_v3))
          ∗ iprop((∃ f, ((c : Thread nD τ).loc main_v4_0) ↦{fullShare} f) ∗ (∃ f, ((c : Thread nD τ).loc main_v4_1) ↦{fullShare} f) ∗ (∃ f, ((c : Thread nD τ).loc main_v4_2) ↦{fullShare} f))) := by
  rw [Pipeline.ΦDR_eq, scopedRest0_eq, ownSems00_eq, hbmPts0_eq, ownedPts0_eq]

/-! ## The body at the one point -/

/-- The proof data of the region: no staged windows, the kernel's own buffers and cells in the invariant. -/
def dats (_ : Fin 1) (c : Dev nD) : Dat τ (Elt F) Unit ℕ (Pipeline.UD sig nD τ) ℕ cfg0 c where
  A w := V m c (Pipeline.arrRef (cfg0.spec) w)
  after w t := w.elim0
  Φ _ := Pipeline.ΦDR osem0 (cfg0.spec) H0 R0 (V m) c
  q _ := fullShare
  owed _ := 0

theorem A_eq (c : Dev nD) (w : Fin cfg0.W) : (dats m 0 c).A w = V m c (Pipeline.arrRef (cfg0.spec) w) := by
  dsimp only [dats]

theorem Phi_start (c : Dev nD) (t : Fin cfg0.N) : (dats m 0 c).Φ t.castSucc = Pipeline.ΦDR osem0 (cfg0.spec) H0 R0 (V m) c := by
  rfl
theorem Phi_end (c : Dev nD) (t : Fin cfg0.N) : (dats m 0 c).Φ t.succ = Pipeline.ΦDR osem0 (cfg0.spec) H0 R0 (V m) c := by
  rfl

def bodyPre (c : Dev nD) (t : Fin cfg0.N) : sProp 𝕄 :=
  iprop((dats m 0 c).Φ t.castSucc ∗ (dats m 0 c).owesAt () t.castSucc)
def bodyPost (c : Dev nD) (t : Fin cfg0.N) : sProp 𝕄 :=
  iprop((dats m 0 c).Φ t.succ ∗ (dats m 0 c).owesAt () t.succ)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_start, Phi_end, Phi0_eq]
  unfold Dat.owesAt Pipeline.owesWithin
  rw [show (dats m 0 c).owed t.castSucc = 0 from rfl, show (dats m 0 c).owed t.succ = 0 from rfl]
  iintro ⟨⟨⟨⟨%fs0, HS0⟩, ⟨%fs1, HS1⟩, ⟨%fs2, HS2⟩, ⟨%fs3, HS3⟩, ⟨%fs4, HS4⟩, ⟨%fs5, HS5⟩, ⟨%fs6, HS6⟩⟩, Hg, ⟨Hq0, Hq1, Hq2, Hq3, Hq4, Hq5, Hq6, Hq7, Hq8, Hq9, Hq10, Hq11, Hq12, Hq13, Hq14, Hq15, Hq16, Hq17, Hq18⟩, ⟨HH0, HH1, HH2, HH3, HH4, HH5⟩, ⟨⟨%fr0, HH6⟩, ⟨%fr1, HH7⟩, ⟨%fr2, HH8⟩⟩⟩, ⟨%W, -, HW⟩⟩
  iapply (body_whole (F := F) c (V m c main_arg0) (V m c main_v1) (V m c main_arg1) (V m c main_arg2) (V m c main_v2) (V m c main_v3) fr0 fr1 fr2 fs0 fs1 fs2 fs3 fs4 fs5 fs6 W _)
  isplitl [HH0]; · iexact HH0
  isplitl [HH1]; · iexact HH1
  isplitl [HH2]; · iexact HH2
  isplitl [HH3]; · iexact HH3
  isplitl [HH4]; · iexact HH4
  isplitl [HH5]; · iexact HH5
  isplitl [HH6]; · iexact HH6
  isplitl [HH7]; · iexact HH7
  isplitl [HH8]; · iexact HH8
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [HW]; · iexact HW
  iintro ⟨HH0, HH1, HH2, HH3, HH4, HH5, HH6, HH7, HH8, HS0, HS1, HS2, HS3, HS4, HS5, HS6, Hq0, Hq1, Hq2, Hq3, Hq4, Hq5, Hq6, Hq7, Hq8, Hq9, Hq10, Hq11, Hq12, Hq13, Hq14, Hq15, Hq16, Hq17, Hq18, ⟨%W', HW'⟩⟩
  isplitl [HH0 HH1 HH2 HH3 HH4 HH5 HH6 HH7 HH8 HS0 HS1 HS2 HS3 HS4 HS5 HS6 Hg Hq0 Hq1 Hq2 Hq3 Hq4 Hq5 Hq6 Hq7 Hq8 Hq9 Hq10 Hq11 Hq12 Hq13 Hq14 Hq15 Hq16 Hq17 Hq18]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    isplitl [Hg]; · iexact Hg
    isplitl [Hq0 Hq1 Hq2 Hq3 Hq4 Hq5 Hq6 Hq7 Hq8 Hq9 Hq10 Hq11 Hq12 Hq13 Hq14 Hq15 Hq16 Hq17 Hq18]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      iexact Hq18
    isplitl [HH0 HH1 HH2 HH3 HH4 HH5]
    · isplitl [HH0]; · iexact HH0
      isplitl [HH1]; · iexact HH1
      isplitl [HH2]; · iexact HH2
      isplitl [HH3]; · iexact HH3
      isplitl [HH4]; · iexact HH4
      iexact HH5
    isplitl [HH6]; · iexact HH6
    isplitl [HH7]; · iexact HH7
    iexact HH8
  iexists W'; isplitr; · ipureintro; exact fun _ _ => Or.inl trivial
  iexact HW'

theorem defs₀_row (t : Fin cfg0.N) :
    defs₀ (F := F) .tc cfg0.body (cfg0.bodyArgs t (cfg0.slots t)) = bodyAt0 t := by
  unfold defs₀; rw [Defs.onTc_tc]

theorem bigSep_none (Φ : Fin cfg0.W → sProp 𝕄) : bigSep Finset.univ Φ = iprop(emp) := by
  rw [show (Finset.univ : Finset (Fin cfg0.W)) = ∅ from rfl]; exact BI.bigSep_empty

theorem body_obligation (c : Dev nD) : BodyObligation (dats (F := F) m 0 c) (defs₀ (F := F)) Variants.none () Set.univ := fun t => by
  rw [bigSep_none, bigSep_none, defs₀_row]
  exact triple_restated (sound_body m c t) rfl (Laws.sep_mono .rfl Laws.sep_emp.1) fun _ => Laws.sep_mono .rfl Laws.sep_emp.2

/-! ## The run and the frame -/

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m)
    (hmain := hmainD m Variants.none) (hA := A_eq m)
    (hin := fun _ => .rfl) (hout := fun _ => .rfl)

/-- THE FRAME: the program runs to its end, its arguments end as they were, every semaphore counter ends at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c)⟩, h.2⟩) (run_main m ρ)

end Cert.Main.Hand

end
-- ==== Proof.MainIdeal.Split.lean ====
module
public import proofs.«01_k».proof.Proof.Gen.MainIdeal.Frame
public import proofs.«01_k».proof.Proof.Gen.MainIdeal.Skeleton
public import Idealize.ShloMosaic.Lib.Tactic
public import Idealize.ShloMosaic.Lib.Pipeline.FrameBody
public import Idealize.ShloMosaic.Lib.MixedBatch
public import Idealize.ShloMosaic.Lib.Ring
public import Idealize.ShloMosaic.Lib.WordCmp
@[expose] public section
noncomputable section
namespace Cert.MainIdeal.Hand
open Cert.MainIdeal Cert.MainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

theorem halves (c : Dev nD) {sp : Space} {S : Shape} {e : EltTy} (M : Memref sig .tc sp S e) (f : Bf (F := F) c M) :
    pt c M f ⊢ iprop((M.view.loc (c : Thread nD τ) ↦{fullShare.left} f) ∗ (M.view.loc (c : Thread nD τ) ↦{fullShare.right} f)) :=
  (pointsTo_share (PosShare.mem_left_op_right _)).1

theorem token16 (c : Dev nD) {sp : Space} {S : Shape} {e : EltTy} (M : Memref sig .tc sp S e) (f : Bf (F := F) c M) :
    pt c M f ⊣⊢ iprop((M.view.loc (c : Thread nD τ) ↦{Transfers.shareDrop fullShare 17} f)
      ∗ (M.view.loc (c : Thread nD τ) ↦{Transfers.shareTokN fullShare 16} f)
      ∗ bigSep (Finset.range 16) (fun i => (M.view.loc (c : Thread nD τ) ↦{Transfers.shareTokN fullShare i} f : sProp 𝕄))) := by
  have h := Transfers.pointsTo_toks_range (Ix := Unit) (Name := ℕ) (U := Pipeline.UD sig nD τ) (Lvl := ℕ) (ℓ := M.view.loc (c : Thread nD τ)) (S := Finset.univ) (f := f) fullShare 17
  rw [Finset.range_add_one, BI.bigSep_insert Finset.notMem_range_self] at h
  exact h

/-! ## The weight ring, one slot at a time -/

theorem slot_inb (s : Fin 8) : ∀ a, (![s.val, 0, 0] : Fin 3 → ℕ) a + S1x2048x2048.size a ≤ S8x2048x2048.size a := by
  revert s; decide
/-- The elements of ring slot `s`. -/
abbrev slotSet (s : Fin 8) : Finset S8x2048x2048.Idx := (Rect.unit (s := S8x2048x2048) ![s.val, 0, 0] S1x2048x2048.size (slot_inb s)).set
theorem mem_slotSet (s : Fin 8) (y : S8x2048x2048.Idx) : y ∈ slotSet s ↔ (y 0).val = s.val := by
  rw [Rect.mem_set_unit]
  have h1 : (y 1).val < 2048 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 2048; omega
theorem slotSet_disjoint : ∀ s s' : Fin 8, s ≠ s' → Disjoint (slotSet s) (slotSet s') := by
  intro s s' hne; rw [Finset.disjoint_left]; intro y hy hy'; rw [mem_slotSet] at hy hy'; exact hne (Fin.ext (hy.symm.trans hy'))
theorem slotSet_cover : (Finset.univ : Finset (Fin 8)).biUnion slotSet = Finset.univ := by
  ext y; simp only [Finset.mem_biUnion, Finset.mem_univ, true_and, iff_true]; exact ⟨(y 0).cast (by decide), by rw [mem_slotSet]; rfl⟩

/-- Ring slot `s` as the kernel's copies name it. -/
abbrev slotM (arg29 : Memref sig .tc .vmem S8x2048x2048 .fp8e4m3) (s : ℕ) (h : ∀ a, (![s, 0, 0] : Fin 3 → ℕ) a + S1x2048x2048.size a ≤ S8x2048x2048.size a) :
    Memref sig .tc .vmem S2048x2048 .fp8e4m3 :=
  (arg29.slice (Rect.unit (s := S8x2048x2048) ![s, 0, 0] S1x2048x2048.size h) (fun _ => rfl)).squeeze S2048x2048 squeezes_S1x2048x2048_S2048x2048
/-- The ring's buffer. -/
abbrev ringM : Memref sig .tc .vmem S8x2048x2048 .fp8e4m3 := Memref.whole cc0_scratch6
omit [FloatOps F] in
theorem slotM_set (s : Fin 8) : (slotM ringM s.val (slot_inb s)).view.set = slotSet s :=
  (View.set_reshape _ _).trans (View.set_slice_whole _ _)

/-- Slot `s` held at contents `f`. -/
abbrev slotPt (c : Dev nD) (s : Fin 8) (f : Buf (Elt F) ((c : Thread nD τ).loc cc0_scratch6)) : sProp 𝕄 :=
  (slotM ringM s.val (slot_inb s)).view.loc (c : Thread nD τ) ↦[(slotM ringM s.val (slot_inb s)).view.set]{fullShare} f
omit [FloatOps F] in
theorem slotPt_eq (c : Dev nD) (s : Fin 8) (f) : slotPt (F := F) c s f = (((c : Thread nD τ).loc cc0_scratch6) ↦[slotSet s]{fullShare} f : sProp 𝕄) :=
  congrArg (fun S => (_ ↦[S]{fullShare} f : sProp 𝕄)) (slotM_set s)

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ
/-- The ring whole is its eight slots. -/
theorem ring_split (c : Dev nD) (f : Buf (Elt F) ((c : Thread nD τ).loc cc0_scratch6)) :
    (((c : Thread nD τ).loc cc0_scratch6) ↦{fullShare} f : sProp 𝕄)
      = iprop(slotPt c 0 f ∗ slotPt c 1 f ∗ slotPt c 2 f ∗ slotPt c 3 f ∗ slotPt c 4 f ∗ slotPt c 5 f ∗ slotPt c 6 f ∗ slotPt c 7 f) := by
  rw [Ring.pointsTo_blocks (Ix := Unit) (Name := ℕ) (U := Pipeline.UD sig nD τ) (Lvl := ℕ) (q := fullShare) (ℓ := (c : Thread nD τ).loc cc0_scratch6) slotSet slotSet_disjoint slotSet_cover f,
    bigSep_fin8]
  simp only [slotPt_eq]
/-- The eight slots, each at contents of its own, are the ring at some contents. -/
theorem ring_join (c : Dev nD) :
    iprop((∃ f, slotPt (F := F) c 0 f) ∗ (∃ f, slotPt (F := F) c 1 f) ∗ (∃ f, slotPt (F := F) c 2 f) ∗ (∃ f, slotPt (F := F) c 3 f) ∗ (∃ f, slotPt (F := F) c 4 f) ∗ (∃ f, slotPt (F := F) c 5 f) ∗ (∃ f, slotPt (F := F) c 6 f) ∗ (∃ f, slotPt (F := F) c 7 f))
      ⊢ (iprop(∃ f : Buf (Elt F) ((c : Thread nD τ).loc cc0_scratch6), ((c : Thread nD τ).loc cc0_scratch6) ↦{fullShare} f) : sProp 𝕄) := by
  iintro ⟨⟨%f0, H0⟩, HR⟩
  iapply (Ring.pointsTo_blocks_join_exists (Ix := Unit) (Name := ℕ) (U := Pipeline.UD sig nD τ) (Lvl := ℕ) (q := fullShare) (ℓ := (c : Thread nD τ).loc cc0_scratch6) slotSet slotSet_disjoint slotSet_cover f0)
  irw [bigSep_fin8]
  simp only [slotPt_eq]
  icases HR with ⟨H1, H2, H3, H4, H5, H6, H7⟩
  isplitl [H0]; · iexists f0; iexact H0
  isplitl [H1]; · iexact H1
  isplitl [H2]; · iexact H2
  isplitl [H3]; · iexact H3
  isplitl [H4]; · iexact H4
  isplitl [H5]; · iexact H5
  isplitl [H6]; · iexact H6
  iexact H7

/-! ## A buffer lent in read shares -/

/-- A buffer held whole, as sixteen read shares numbered by the semaphore they are lent to, and a rest. -/
theorem tokens (c : Dev nD) {sp : Space} {S : Shape} {e : EltTy} (M : Memref sig .tc sp S e) (f : Bf (F := F) c M) :
    pt c M f = iprop((M.view.loc (c : Thread nD τ) ↦{Transfers.shareDrop fullShare 16} f)
      ∗ (M.view.loc (c : Thread nD τ) ↦{Transfers.shareTokN fullShare 8} f) ∗ (M.view.loc (c : Thread nD τ) ↦{Transfers.shareTokN fullShare 9} f) ∗ (M.view.loc (c : Thread nD τ) ↦{Transfers.shareTokN fullShare 10} f) ∗ (M.view.loc (c : Thread nD τ) ↦{Transfers.shareTokN fullShare 11} f) ∗ (M.view.loc (c : Thread nD τ) ↦{Transfers.shareTokN fullShare 12} f) ∗ (M.view.loc (c : Thread nD τ) ↦{Transfers.shareTokN fullShare 13} f) ∗ (M.view.loc (c : Thread nD τ) ↦{Transfers.shareTokN fullShare 14} f) ∗ (M.view.loc (c : Thread nD τ) ↦{Transfers.shareTokN fullShare 15} f)
      ∗ bigSep (Finset.range 8) (fun i => (M.view.loc (c : Thread nD τ) ↦{Transfers.shareTokN fullShare i} f : sProp 𝕄))) := by
  have h := Transfers.pointsTo_toks_range (Ix := Unit) (Name := ℕ) (U := Pipeline.UD sig nD τ) (Lvl := ℕ) (ℓ := M.view.loc (c : Thread nD τ)) (S := Finset.univ) (f := f) fullShare 16
  have h' := Entails.antisymm h.1 h.2
  refine h'.trans ?_
  congr 1
  have e : Finset.range 16 = insert 8 (insert 9 (insert 10 (insert 11 (insert 12 (insert 13 (insert 14 (insert 15 (Finset.range 8)))))))) := by decide
  rw [e]
  iterate 8 rw [BI.bigSep_insert (by decide)]
  rfl

/-! ## A ring slot, one 512×512 window at a time -/

theorem win_inb (s r k : ℕ) (hs : s < 8) (hr : r ≤ 1536) (hk : k ≤ 1536) :
    ∀ a, (![s, r, k] : Fin 3 → ℕ) a + S1x512x512.size a ≤ S8x2048x2048.size a := by
  intro a; fin_cases a
  · show s + 1 ≤ 8; omega
  · show r + 512 ≤ 2048; omega
  · show k + 512 ≤ 2048; omega
/-- The window of slot `s` at row `r` and column `k`, as the kernel's copies name it. -/
abbrev winM (s r k : ℕ) (h : ∀ a, (![s, r, k] : Fin 3 → ℕ) a + S1x512x512.size a ≤ S8x2048x2048.size a) : Memref sig .tc .vmem S512x512 .fp8e4m3 :=
  (ringM.slice (Rect.unit (s := S8x2048x2048) ![s, r, k] S1x512x512.size h) (fun _ => rfl)).squeeze S512x512 squeezes_S1x512x512_S512x512
/-- That window held at contents `f`. -/
abbrev winPt (c : Dev nD) (s r k : ℕ) (h : ∀ a, (![s, r, k] : Fin 3 → ℕ) a + S1x512x512.size a ≤ S8x2048x2048.size a)
    (f : Buf (Elt F) ((c : Thread nD τ).loc cc0_scratch6)) : sProp 𝕄 :=
  (winM s r k h).view.loc (c : Thread nD τ) ↦[(winM s r k h).view.set]{fullShare} f
/-- The elements of that window. -/
abbrev winSet (s r k : ℕ) (h : ∀ a, (![s, r, k] : Fin 3 → ℕ) a + S1x512x512.size a ≤ S8x2048x2048.size a) : Finset S8x2048x2048.Idx :=
  (Rect.unit (s := S8x2048x2048) ![s, r, k] S1x512x512.size h).set
omit [FloatOps F] in
theorem winPt_eq (c : Dev nD) (s r k : ℕ) (h) (f) : winPt (F := F) c s r k h f = (((c : Thread nD τ).loc cc0_scratch6) ↦[winSet s r k h]{fullShare} f : sProp 𝕄) :=
  congrArg (fun S => (_ ↦[S]{fullShare} f : sProp 𝕄)) ((View.set_reshape _ _).trans (View.set_slice_whole _ _))
theorem mem_winSet (s r k : ℕ) (h) (y : S8x2048x2048.Idx) :
    y ∈ winSet s r k h ↔ (y 0).val = s ∧ (r ≤ (y 1).val ∧ (y 1).val < r + 512) ∧ (k ≤ (y 2).val ∧ (y 2).val < k + 512) := by
  rw [Rect.mem_set_unit]
  constructor
  · intro H; have a0 : s ≤ (y 0).val ∧ (y 0).val < s + 1 := H 0; have a1 : r ≤ (y 1).val ∧ (y 1).val < r + 512 := H 1
    have a2 : k ≤ (y 2).val ∧ (y 2).val < k + 512 := H 2; exact ⟨by omega, a1, a2⟩
  · intro ⟨h0, h1, h2⟩ i; fin_cases i
    · show s ≤ (y 0).val ∧ (y 0).val < s + 1; omega
    · exact h1
    · exact h2
/-- Window number `b` of slot `s`, of sixteen. -/
abbrev winBlk (s : ℕ) (hs : s < 8) (b : Fin 16) : Finset S8x2048x2048.Idx :=
  winSet s (512 * (b.val / 4)) (512 * (b.val % 4)) (win_inb s _ _ hs (by have := b.isLt; omega) (by have := b.isLt; omega))
theorem winBlk_disjoint (s : ℕ) (hs : s < 8) : ∀ b b' : Fin 16, b ≠ b' → Disjoint (winBlk s hs b) (winBlk s hs b') := by
  intro b b' hne; rw [Finset.disjoint_left]; intro y hy hy'; rw [mem_winSet] at hy hy'
  have := b.isLt; have := b'.isLt; exact hne (Fin.ext (by omega))
theorem winBlk_cover (s : ℕ) (hs : s < 8) : (Finset.univ : Finset (Fin 16)).biUnion (winBlk s hs) = slotSet ⟨s, hs⟩ := by
  ext y; simp only [Finset.mem_biUnion, Finset.mem_univ, true_and]; rw [mem_slotSet]
  have h1 : (y 1).val < 2048 := (y 1).isLt
  have h2 : (y 2).val < 2048 := (y 2).isLt
  constructor
  · rintro ⟨b, hb⟩; rw [mem_winSet] at hb; exact hb.1
  · intro h0; refine ⟨⟨4 * ((y 1).val / 512) + (y 2).val / 512, by omega⟩, ?_⟩
    rw [mem_winSet]; refine ⟨h0, ?_, ?_⟩ <;> dsimp only <;> omega
theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [(0 : Fin 16), 1, 2, 3, 4, 5, 6, 7, 8, 9, 10, 11, 12, 13, 14, 15] (by decide) (by decide) Φ
/-- A slot, by its number as the kernel names it. -/
abbrev slotAt (c : Dev nD) (s : ℕ) (hs : s < 8) (f : Buf (Elt F) ((c : Thread nD τ).loc cc0_scratch6)) : sProp 𝕄 :=
  (slotM ringM s (slot_inb ⟨s, hs⟩)).view.loc (c : Thread nD τ) ↦[(slotM ringM s (slot_inb ⟨s, hs⟩)).view.set]{fullShare} f
/-- A slot held at one contents is its sixteen windows. -/
theorem slot_windows (c : Dev nD) (s : ℕ) (hs : s < 8) (f : Buf (Elt F) ((c : Thread nD τ).loc cc0_scratch6)) :
    slotAt c s hs f = iprop(winPt c s 0 0 (win_inb s 0 0 hs (by decide) (by decide)) f ∗ winPt c s 0 512 (win_inb s 0 512 hs (by decide) (by decide)) f ∗ winPt c s 0 1024 (win_inb s 0 1024 hs (by decide) (by decide)) f ∗ winPt c s 0 1536 (win_inb s 0 1536 hs (by decide) (by decide)) f ∗ winPt c s 512 0 (win_inb s 512 0 hs (by decide) (by decide)) f ∗ winPt c s 512 512 (win_inb s 512 512 hs (by decide) (by decide)) f ∗ winPt c s 512 1024 (win_inb s 512 1024 hs (by decide) (by decide)) f ∗ winPt c s 512 1536 (win_inb s 512 1536 hs (by decide) (by decide)) f ∗ winPt c s 1024 0 (win_inb s 1024 0 hs (by decide) (by decide)) f ∗ winPt c s 1024 512 (win_inb s 1024 512 hs (by decide) (by decide)) f ∗ winPt c s 1024 1024 (win_inb s 1024 1024 hs (by decide) (by decide)) f ∗ winPt c s 1024 1536 (win_inb s 1024 1536 hs (by decide) (by decide)) f ∗ winPt c s 1536 0 (win_inb s 1536 0 hs (by decide) (by decide)) f ∗ winPt c s 1536 512 (win_inb s 1536 512 hs (by decide) (by decide)) f ∗ winPt c s 1536 1024 (win_inb s 1536 1024 hs (by decide) (by decide)) f ∗ winPt c s 1536 1536 (win_inb s 1536 1536 hs (by decide) (by decide)) f) := by
  refine (slotPt_eq c ⟨s, hs⟩ f).trans ?_
  rw [Ring.pointsTo_sub_blocks (Ix := Unit) (Name := ℕ) (U := Pipeline.UD sig nD τ) (Lvl := ℕ) (ℓ := (c : Thread nD τ).loc cc0_scratch6) (winBlk s hs) (winBlk_disjoint s hs) (slotSet ⟨s, hs⟩) (winBlk_cover s hs) f,
    bigSep_fin16]
  simp only [winPt_eq]; rfl
/-- Sixteen windows, each at contents of its own, are the slot at some contents. -/
theorem slot_windows_join (c : Dev nD) (s : ℕ) (hs : s < 8) :
    iprop((∃ f, winPt c s 0 0 (win_inb s 0 0 hs (by decide) (by decide)) f) ∗ (∃ f, winPt c s 0 512 (win_inb s 0 512 hs (by decide) (by decide)) f) ∗ (∃ f, winPt c s 0 1024 (win_inb s 0 1024 hs (by decide) (by decide)) f) ∗ (∃ f, winPt c s 0 1536 (win_inb s 0 1536 hs (by decide) (by decide)) f) ∗ (∃ f, winPt c s 512 0 (win_inb s 512 0 hs (by decide) (by decide)) f) ∗ (∃ f, winPt c s 512 512 (win_inb s 512 512 hs (by decide) (by decide)) f) ∗ (∃ f, winPt c s 512 1024 (win_inb s 512 1024 hs (by decide) (by decide)) f) ∗ (∃ f, winPt c s 512 1536 (win_inb s 512 1536 hs (by decide) (by decide)) f) ∗ (∃ f, winPt c s 1024 0 (win_inb s 1024 0 hs (by decide) (by decide)) f) ∗ (∃ f, winPt c s 1024 512 (win_inb s 1024 512 hs (by decide) (by decide)) f) ∗ (∃ f, winPt c s 1024 1024 (win_inb s 1024 1024 hs (by decide) (by decide)) f) ∗ (∃ f, winPt c s 1024 1536 (win_inb s 1024 1536 hs (by decide) (by decide)) f) ∗ (∃ f, winPt c s 1536 0 (win_inb s 1536 0 hs (by decide) (by decide)) f) ∗ (∃ f, winPt c s 1536 512 (win_inb s 1536 512 hs (by decide) (by decide)) f) ∗ (∃ f, winPt c s 1536 1024 (win_inb s 1536 1024 hs (by decide) (by decide)) f) ∗ (∃ f, winPt c s 1536 1536 (win_inb s 1536 1536 hs (by decide) (by decide)) f))
      ⊢ (iprop(∃ f : Buf (Elt F) ((c : Thread nD τ).loc cc0_scratch6), slotAt c s hs f) : sProp 𝕄) := by
  iintro ⟨⟨%f0, H0⟩, HR⟩
  have h := (Ring.pointsTo_sub_blocks_join_exists (Ix := Unit) (Name := ℕ) (U := Pipeline.UD sig nD τ) (Lvl := ℕ) (q := fullShare) (ℓ := (c : Thread nD τ).loc cc0_scratch6) (winBlk s hs) (winBlk_disjoint s hs) (slotSet ⟨s, hs⟩) (winBlk_cover s hs) f0)
  rw [bigSep_fin16] at h
  have h' : (iprop(∃ g : Buf (Elt F) ((c : Thread nD τ).loc cc0_scratch6), ((c : Thread nD τ).loc cc0_scratch6) ↦[slotSet ⟨s, hs⟩]{fullShare} g) : sProp 𝕄)
      ⊢ iprop(∃ f : Buf (Elt F) ((c : Thread nD τ).loc cc0_scratch6), slotAt c s hs f) :=
    exists_mono fun f => by rw [← slotPt_eq c ⟨s, hs⟩ f]
  iapply (h.trans h')
  simp only [winPt_eq]
  isplitl [H0]; · iexists f0; iexact H0
  iexact HR
/-- The ring whole is its eight slots, each spelled as the kernel's copies name it. -/
theorem ring_slots (c : Dev nD) (f : Buf (Elt F) ((c : Thread nD τ).loc cc0_scratch6)) :
    (((c : Thread nD τ).loc cc0_scratch6) ↦{fullShare} f : sProp 𝕄) = iprop(slotAt c 0 (by decide) f ∗ slotAt c 1 (by decide) f ∗ slotAt c 2 (by decide) f ∗ slotAt c 3 (by decide) f ∗ slotAt c 4 (by decide) f ∗ slotAt c 5 (by decide) f ∗ slotAt c 6 (by decide) f ∗ slotAt c 7 (by decide) f) := by
  rw [Ring.pointsTo_blocks (Ix := Unit) (Name := ℕ) (U := Pipeline.UD sig nD τ) (Lvl := ℕ) (q := fullShare) (ℓ := (c : Thread nD τ).loc cc0_scratch6) slotSet slotSet_disjoint slotSet_cover f,
    bigSep_fin8]
  rw [show slotAt c 0 (by decide) f = _ from slotPt_eq c ⟨0, by decide⟩ f, show slotAt c 1 (by decide) f = _ from slotPt_eq c ⟨1, by decide⟩ f, show slotAt c 2 (by decide) f = _ from slotPt_eq c ⟨2, by decide⟩ f, show slotAt c 3 (by decide) f = _ from slotPt_eq c ⟨3, by decide⟩ f, show slotAt c 4 (by decide) f = _ from slotPt_eq c ⟨4, by decide⟩ f, show slotAt c 5 (by decide) f = _ from slotPt_eq c ⟨5, by decide⟩ f, show slotAt c 6 (by decide) f = _ from slotPt_eq c ⟨6, by decide⟩ f, show slotAt c 7 (by decide) f = _ from slotPt_eq c ⟨7, by decide⟩ f]; rfl

/-! ## The result's two column windows -/

abbrev yWin0 {sp : Space} (M : Memref sig .tc sp S256x2560 .bf16) : Memref sig .tc sp S256x2048 .bf16 :=
  M.slice (Rect.unit (s := S256x2560) ![0, 0] S256x2048.size inb_S256x2560_S256x2048_0_0) (fun _ => rfl)
abbrev yWin1 {sp : Space} (M : Memref sig .tc sp S256x2560 .bf16) : Memref sig .tc sp S256x512 .bf16 :=
  M.slice (Rect.unit (s := S256x2560) ![0, 2048] S256x512.size inb_S256x2560_S256x512_0_2048) (fun _ => rfl)
/-- The units of the result's two copies, in issue order. -/
abbrev yAmts : Fin 2 → ℕ := ![32768, 8192]
/-- What each of the two copies delivers: its columns of the result, and its columns of the buffer it read. -/
def yDeliv (c : Dev nD) (arg9 : Memref sig .tc .hbm S256x2560 .bf16) (arg28 : Memref sig .tc .vmem S256x2560 .bf16) : Fin 2 → sProp 𝕄
  | 0 => iprop((∃ f, (yWin0 arg9).view.loc (c : Thread nD τ) ↦[(yWin0 arg9).view.set]{fullShare} f) ∗ (∃ f, (yWin0 arg28).view.loc (c : Thread nD τ) ↦[(yWin0 arg28).view.set]{fullShare} f))
  | 1 => iprop((∃ f, (yWin1 arg9).view.loc (c : Thread nD τ) ↦[(yWin1 arg9).view.set]{fullShare} f) ∗ (∃ f, (yWin1 arg28).view.loc (c : Thread nD τ) ↦[(yWin1 arg28).view.set]{fullShare} f))
instance yDeliv_storable (c : Dev nD) (arg9 : Memref sig .tc .hbm S256x2560 .bf16) (arg28 : Memref sig .tc .vmem S256x2560 .bf16) (t : Fin 2) :
    Storable (upEmb : UEmb _ 𝕄) (yDeliv (F := F) c arg9 arg28 t) := by
  fin_cases t <;> simp only [yDeliv] <;> infer_instance
/-- The elements of the result's column window `t`. -/
abbrev ySet : Fin 2 → Finset S256x2560.Idx
  | 0 => (Rect.unit (s := S256x2560) ![0, 0] S256x2048.size inb_S256x2560_S256x2048_0_0).set
  | 1 => (Rect.unit (s := S256x2560) ![0, 2048] S256x512.size inb_S256x2560_S256x512_0_2048).set
theorem mem_ySet0 (y : S256x2560.Idx) : y ∈ ySet 0 ↔ (y 1).val < 2048 := by
  rw [show ySet 0 = (Rect.unit (s := S256x2560) ![0, 0] S256x2048.size inb_S256x2560_S256x2048_0_0).set from rfl, Rect.mem_set_unit]
  have h0 : (y 0).val < 256 := (y 0).isLt
  constructor
  · intro H; have a1 : 0 ≤ (y 1).val ∧ (y 1).val < 0 + 2048 := H 1; omega
  · intro H i; fin_cases i
    · show 0 ≤ (y 0).val ∧ (y 0).val < 0 + 256; omega
    · show 0 ≤ (y 1).val ∧ (y 1).val < 0 + 2048; omega
theorem mem_ySet1 (y : S256x2560.Idx) : y ∈ ySet 1 ↔ 2048 ≤ (y 1).val := by
  rw [show ySet 1 = (Rect.unit (s := S256x2560) ![0, 2048] S256x512.size inb_S256x2560_S256x512_0_2048).set from rfl, Rect.mem_set_unit]
  have h0 : (y 0).val < 256 := (y 0).isLt
  have h1 : (y 1).val < 2560 := (y 1).isLt
  constructor
  · intro H; have a1 : 2048 ≤ (y 1).val ∧ (y 1).val < 2048 + 512 := H 1; omega
  · intro H i; fin_cases i
    · show 0 ≤ (y 0).val ∧ (y 0).val < 0 + 256; omega
    · show 2048 ≤ (y 1).val ∧ (y 1).val < 2048 + 512; omega
theorem ySet_disjoint : ∀ b b' : Fin 2, b ≠ b' → Disjoint (ySet b) (ySet b') := by
  have h : Disjoint (ySet 0) (ySet 1) := by
    rw [Finset.disjoint_left]; intro y hy hy'; rw [mem_ySet0] at hy; rw [mem_ySet1] at hy'; omega
  intro b b' hne; fin_cases b <;> fin_cases b'
  · exact absurd rfl hne
  · exact h
  · exact h.symm
  · exact absurd rfl hne
theorem ySet_cover : (Finset.univ : Finset (Fin 2)).biUnion ySet = Finset.univ := by
  ext y; simp only [Finset.mem_biUnion, Finset.mem_univ, true_and, iff_true]
  by_cases h : (y 1).val < 2048
  · exact ⟨0, (mem_ySet0 y).2 h⟩
  · exact ⟨1, (mem_ySet1 y).2 (by omega)⟩
theorem bigSep_fin2 (Φ : Fin 2 → sProp 𝕄) : bigSep Finset.univ Φ = iprop(Φ 0 ∗ Φ 1) :=
  bigSep_univ_eq_bigSepL [(0 : Fin 2), 1] (by decide) (by decide) Φ

/-- The two column windows, each at contents of its own, are the whole array at some contents. -/
theorem y_join_out (c : Dev nD) :
    iprop((∃ f, (yWin0 (Memref.whole main_v4_0)).view.loc (c : Thread nD τ) ↦[(yWin0 (Memref.whole main_v4_0)).view.set]{fullShare} f)
        ∗ (∃ f, (yWin1 (Memref.whole main_v4_0)).view.loc (c : Thread nD τ) ↦[(yWin1 (Memref.whole main_v4_0)).view.set]{fullShare} f))
      ⊢ (iprop(∃ f : Buf (Elt F) ((c : Thread nD τ).loc main_v4_0), ((c : Thread nD τ).loc main_v4_0) ↦{fullShare} f) : sProp 𝕄) := by
  have e0 : (yWin0 (Memref.whole main_v4_0)).view.set = ySet 0 := View.set_slice_whole _ _
  have e1 : (yWin1 (Memref.whole main_v4_0)).view.set = ySet 1 := View.set_slice_whole _ _
  rw [e0, e1]
  iintro ⟨⟨%f0, H0⟩, H1⟩
  iapply (Ring.pointsTo_blocks_join_exists (Ix := Unit) (Name := ℕ) (U := Pipeline.UD sig nD τ) (Lvl := ℕ) (q := fullShare) (ℓ := (c : Thread nD τ).loc main_v4_0) ySet ySet_disjoint ySet_cover f0)
  irw [bigSep_fin2]
  isplitl [H0]; · iexists f0; iexact H0
  iexact H1

/-- The two column windows, each at contents of its own, are the whole array at some contents. -/
theorem y_join_buf (c : Dev nD) :
    iprop((∃ f, (yWin0 (Memref.whole cc0_scratch5)).view.loc (c : Thread nD τ) ↦[(yWin0 (Memref.whole cc0_scratch5)).view.set]{fullShare} f)
        ∗ (∃ f, (yWin1 (Memref.whole cc0_scratch5)).view.loc (c : Thread nD τ) ↦[(yWin1 (Memref.whole cc0_scratch5)).view.set]{fullShare} f))
      ⊢ (iprop(∃ f : Buf (Elt F) ((c : Thread nD τ).loc cc0_scratch5), ((c : Thread nD τ).loc cc0_scratch5) ↦{fullShare} f) : sProp 𝕄) := by
  have e0 : (yWin0 (Memref.whole cc0_scratch5)).view.set = ySet 0 := View.set_slice_whole _ _
  have e1 : (yWin1 (Memref.whole cc0_scratch5)).view.set = ySet 1 := View.set_slice_whole _ _
  rw [e0, e1]
  iintro ⟨⟨%f0, H0⟩, H1⟩
  iapply (Ring.pointsTo_blocks_join_exists (Ix := Unit) (Name := ℕ) (U := Pipeline.UD sig nD τ) (Lvl := ℕ) (q := fullShare) (ℓ := (c : Thread nD τ).loc cc0_scratch5) ySet ySet_disjoint ySet_cover f0)
  irw [bigSep_fin2]
  isplitl [H0]; · iexists f0; iexact H0
  iexact H1

/-- What each of the result's two copies delivers, at stated contents. -/
def yDelivV (c : Dev nD) (d0 : Buf (Elt F) ((c : Thread nD τ).loc main_v4_0)) (s0 : Buf (Elt F) ((c : Thread nD τ).loc cc0_scratch5))
    (d1 : Buf (Elt F) ((c : Thread nD τ).loc main_v4_0)) (s1 : Buf (Elt F) ((c : Thread nD τ).loc cc0_scratch5)) : Fin 2 → sProp 𝕄
  | 0 => iprop(((yWin0 (Memref.whole main_v4_0)).view.loc (c : Thread nD τ) ↦[(yWin0 (Memref.whole main_v4_0)).view.set]{fullShare} d0)
      ∗ ((yWin0 (Memref.whole cc0_scratch5)).view.loc (c : Thread nD τ) ↦[(yWin0 (Memref.whole cc0_scratch5)).view.set]{fullShare} s0))
  | 1 => iprop(((yWin1 (Memref.whole main_v4_0)).view.loc (c : Thread nD τ) ↦[(yWin1 (Memref.whole main_v4_0)).view.set]{fullShare} d1)
      ∗ ((yWin1 (Memref.whole cc0_scratch5)).view.loc (c : Thread nD τ) ↦[(yWin1 (Memref.whole cc0_scratch5)).view.set]{fullShare} s1))
instance yDelivV_storable (c : Dev nD) (d0 s0 d1 s1) (t : Fin 2) : Storable (upEmb : UEmb _ 𝕄) (yDelivV (F := F) c d0 s0 d1 s1 t) := by
  fin_cases t <;> simp only [yDelivV] <;> infer_instance
theorem y_alloc (c : Dev nD) (d0 : Buf (Elt F) ((c : Thread nD τ).loc main_v4_0)) (s0 : Buf (Elt F) ((c : Thread nD τ).loc cc0_scratch5))
    (d1 : Buf (Elt F) ((c : Thread nD τ).loc main_v4_0)) (s1 : Buf (Elt F) ((c : Thread nD τ).loc cc0_scratch5)) :
    (semVal ((c : Thread nD τ), SemLoc.dma 17) 0 : sProp 𝕄) ⊢ |={Set.univ}=>
      Transfers.MixedBatch (countersEmb (U := Pipeline.UD sig nD τ)) (c : Thread nD τ) (SemLoc.dma 17) () yAmts (yDelivV c d0 s0 d1 s1) 0 0 :=
  Transfers.mixedBatch_alloc' (Lvl := ℕ) (countersEmb (U := Pipeline.UD sig nD τ)) (c : Thread nD τ) () yAmts
    (yDelivV c d0 s0 d1 s1) (sm := SemLoc.dma 17) (E := Set.univ)

end Cert.MainIdeal.Hand
end
-- ==== Proof.MainIdeal.Join.lean ====
module
public import proofs.«01_k».proof.Proof.MainIdeal.Split
public import proofs.«01_k».proof.Proof.Gen.MainIdeal.Skeleton
public import Idealize.ShloMosaic.Lib.Tactic
public import Idealize.ShloMosaic.Lib.Pipeline.FrameBody
public import Idealize.ShloMosaic.Lib.MixedBatch
public import Idealize.ShloMosaic.Lib.Ring
public import Idealize.ShloMosaic.Lib.WordCmp
@[expose] public section
noncomputable section
namespace Cert.MainIdeal.Hand
open Cert.MainIdeal Cert.MainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

/-! # Putting a buffer back together from the windows lent out of it -/

section Generic
variable {ℓ : Loc nD τ sig} {q : PosShare TreeShare}

/-- The listed windows of a buffer, all at one contents. -/
def pieces (f : Buf (Elt F) ℓ) : List (Finset (Idx ℓ)) → sProp 𝕄
  | [] => iprop(emp)
  | T :: l => iprop((ℓ ↦[T]{q} f) ∗ pieces f l)
omit [FloatOps F] in
theorem rejoin (f : Buf (Elt F) ℓ) (l : List (Finset (Idx ℓ))) : ∀ S : Finset (Idx ℓ), l.Pairwise Disjoint → (∀ T ∈ l, T ⊆ S) →
    iprop((ℓ ↦[l.foldl (· \ ·) S]{q} f) ∗ pieces (q := q) f l) ⊢ (ℓ ↦[S]{q} f : sProp 𝕄) := by
  induction l with
  | nil => intro S _ _; exact Laws.sep_emp.1
  | cons T l ih =>
    intro S hd hs
    rw [List.pairwise_cons] at hd
    have h1 := ih (S \ T) hd.2 (fun T' h' => Finset.subset_sdiff.2 ⟨hs T' (List.mem_cons_of_mem _ h'), (hd.1 T' h').symm⟩)
    simp only [pieces]
    iintro ⟨H0, HT, HP⟩
    iapply ((pointsTo_split_subset (hs T List.mem_cons_self)).2)
    isplitl [HT]; · iexact HT
    iapply h1
    isplitl [H0]; · iexact H0
    iexact HP
omit [FloatOps F] in
/-- The same for a buffer held whole. -/
theorem rejoin_univ (f : Buf (Elt F) ℓ) (l : List (Finset (Idx ℓ))) (hd : l.Pairwise Disjoint) :
    iprop((ℓ ↦[l.foldl (· \ ·) Finset.univ]{q} f) ∗ pieces (q := q) f l) ⊢ (ℓ ↦{q} f : sProp 𝕄) :=
  rejoin f l Finset.univ hd (fun T _ => Finset.subset_univ T)
/-- The listed windows of a buffer, each at a contents of its own. -/
def somePieces (ℓ : Loc nD τ sig) : List (Finset (Idx ℓ)) → sProp 𝕄
  | [] => iprop(emp)
  | T :: l => iprop((∃ f : Buf (Elt F) ℓ, ℓ ↦[T]{fullShare} f) ∗ somePieces ℓ l)
omit [FloatOps F] in
theorem rejoin_some (l : List (Finset (Idx ℓ))) : ∀ S : Finset (Idx ℓ), l.Pairwise Disjoint → (∀ T ∈ l, T ⊆ S) →
    iprop((∃ f : Buf (Elt F) ℓ, ℓ ↦[l.foldl (· \ ·) S]{fullShare} f) ∗ somePieces ℓ l) ⊢ (iprop(∃ f : Buf (Elt F) ℓ, ℓ ↦[S]{fullShare} f) : sProp 𝕄) := by
  classical
  induction l with
  | nil => intro S _ _; exact Laws.sep_emp.1
  | cons T l ih =>
    intro S hd hs
    rw [List.pairwise_cons] at hd
    have h1 := ih (S \ T) hd.2 (fun T' h' => Finset.subset_sdiff.2 ⟨hs T' (List.mem_cons_of_mem _ h'), (hd.1 T' h').symm⟩)
    simp only [somePieces]
    iintro ⟨H0, ⟨%g, HT⟩, HP⟩
    ihave HR := h1 $$ [H0 HP]
    · isplitl [H0]; · iexact H0
      iexact HP
    icases HR with ⟨%f, HR⟩
    iexists (T.piecewise g f)
    iapply (pointsTo_join_subset (hs T List.mem_cons_self))
    isplitl [HT]; · iexact HT
    iexact HR
end Generic

/-! ## The weights' windows -/

theorem wW_inb (k : Fin 15) (j : Fin 4) : ∀ a, (![k.val, 512 * j.val, 2048] : Fin 3 → ℕ) a + S1x512x512.size a ≤ S15x2048x2560.size a := by
  have := k.isLt; have := j.isLt;
  intro a; fin_cases a
  · show k.val + 1 ≤ 15; omega
  · show 512 * j.val + 512 ≤ 2048; omega
  · show 2048 + 512 ≤ 2560; omega
/-- The rows `512 j …` and last columns of position `k` of the weights. -/
abbrev wWRect (k : Fin 15) (j : Fin 4) : Rect S15x2048x2560 := Rect.unit (s := S15x2048x2560) ![k.val, 512 * j.val, 2048] S1x512x512.size (wW_inb k j)
abbrev wWSet (k : Fin 15) (j : Fin 4) : Finset S15x2048x2560.Idx := (wWRect k j).set
abbrev wWM (k : Fin 15) (j : Fin 4) : Memref sig .tc .hbm S512x512 .fp8e4m3 :=
  ((Memref.whole main_arg2).slice (wWRect k j) (fun _ => rfl)).squeeze S512x512 squeezes_S1x512x512_S512x512
theorem wWM_set (k : Fin 15) (j : Fin 4) : (wWM k j).view.set = wWSet k j := (View.set_reshape _ _).trans (View.set_slice_whole _ _)
theorem wW_disjoint (k : Fin 15) (j : Fin 4) (k' : Fin 15) (j' : Fin 4) (h : ¬ (k = k' ∧ j = j')) : Disjoint (wWM k j).view.set (wWM k' j').view.set := by
  rw [wWM_set, wWM_set, Finset.disjoint_left]; intro y hy hy'
  rw [Rect.mem_set_unit] at hy hy'
  have a0 : k.val ≤ (y 0).val ∧ (y 0).val < k.val + 1 := hy 0; have b0 : k'.val ≤ (y 0).val ∧ (y 0).val < k'.val + 1 := hy' 0; have a1 : 512 * j.val ≤ (y 1).val ∧ (y 1).val < 512 * j.val + 512 := hy 1; have b1 : 512 * j'.val ≤ (y 1).val ∧ (y 1).val < 512 * j'.val + 512 := hy' 1; have a2 : 2048 ≤ (y 2).val ∧ (y 2).val < 2048 + 512 := hy 2; have b2 : 2048 ≤ (y 2).val ∧ (y 2).val < 2048 + 512 := hy' 2
  exact h ⟨Fin.ext (by omega), Fin.ext (by omega)⟩
/-! ## The codes' windows -/

theorem cW_inb (k : Fin 15) (b : Fin 2) : ∀ a, (![k.val, 128 * b.val, 0] : Fin 3 → ℕ) a + S1x128x2048.size a ≤ S15x256x2048.size a := by
  have := k.isLt; have := b.isLt;
  intro a; fin_cases a
  · show k.val + 1 ≤ 15; omega
  · show 128 * b.val + 128 ≤ 256; omega
  · show 0 + 2048 ≤ 2048; omega
/-- Batch `b` of position `k` of the codes. -/
abbrev cWRect (k : Fin 15) (b : Fin 2) : Rect S15x256x2048 := Rect.unit (s := S15x256x2048) ![k.val, 128 * b.val, 0] S1x128x2048.size (cW_inb k b)
abbrev cWSet (k : Fin 15) (b : Fin 2) : Finset S15x256x2048.Idx := (cWRect k b).set
abbrev cWM (k : Fin 15) (b : Fin 2) : Memref sig .tc .vmem S128x2048 .fp8e4m3 :=
  ((Memref.whole cc0_scratch0).slice (cWRect k b) (fun _ => rfl)).squeeze S128x2048 squeezes_S1x128x2048_S128x2048
theorem cWM_set (k : Fin 15) (b : Fin 2) : (cWM k b).view.set = cWSet k b := (View.set_reshape _ _).trans (View.set_slice_whole _ _)
theorem cW_disjoint (k : Fin 15) (b : Fin 2) (k' : Fin 15) (b' : Fin 2) (h : ¬ (k = k' ∧ b = b')) : Disjoint (cWM k b).view.set (cWM k' b').view.set := by
  rw [cWM_set, cWM_set, Finset.disjoint_left]; intro y hy hy'
  rw [Rect.mem_set_unit] at hy hy'
  have a0 : k.val ≤ (y 0).val ∧ (y 0).val < k.val + 1 := hy 0; have b0 : k'.val ≤ (y 0).val ∧ (y 0).val < k'.val + 1 := hy' 0; have a1 : 128 * b.val ≤ (y 1).val ∧ (y 1).val < 128 * b.val + 128 := hy 1; have b1 : 128 * b'.val ≤ (y 1).val ∧ (y 1).val < 128 * b'.val + 128 := hy' 1; have a2 : 0 ≤ (y 2).val ∧ (y 2).val < 0 + 2048 := hy 2; have b2 : 0 ≤ (y 2).val ∧ (y 2).val < 0 + 2048 := hy' 2
  exact h ⟨Fin.ext (by omega), Fin.ext (by omega)⟩
/-! ## The windows of the packed features' result -/

theorem gW_inb (b : Fin 2) (k : Fin 15) : ∀ a, (![b.val, k.val, 0, 0] : Fin 4 → ℕ) a + S1x1x128x2048.size a ≤ S2x15x128x2048.size a := by
  have := b.isLt; have := k.isLt;
  intro a; fin_cases a
  · show b.val + 1 ≤ 2; omega
  · show k.val + 1 ≤ 15; omega
  · show 0 + 128 ≤ 128; omega
  · show 0 + 2048 ≤ 2048; omega
/-- Position `k` of batch `b` of the result. -/
abbrev gWRect (b : Fin 2) (k : Fin 15) : Rect S2x15x128x2048 := Rect.unit (s := S2x15x128x2048) ![b.val, k.val, 0, 0] S1x1x128x2048.size (gW_inb b k)
abbrev gWSet (b : Fin 2) (k : Fin 15) : Finset S2x15x128x2048.Idx := (gWRect b k).set
abbrev gWM (b : Fin 2) (k : Fin 15) : Memref sig .tc .hbm S128x2048 .fp8e4m3 :=
  ((Memref.whole main_v4_1).slice (gWRect b k) (fun _ => rfl)).squeeze S128x2048 squeezes_S1x1x128x2048_S128x2048
theorem gWM_set (b : Fin 2) (k : Fin 15) : (gWM b k).view.set = gWSet b k := (View.set_reshape _ _).trans (View.set_slice_whole _ _)
theorem gW_disjoint (b : Fin 2) (k : Fin 15) (b' : Fin 2) (k' : Fin 15) (h : ¬ (b = b' ∧ k = k')) : Disjoint (gWM b k).view.set (gWM b' k').view.set := by
  rw [gWM_set, gWM_set, Finset.disjoint_left]; intro y hy hy'
  rw [Rect.mem_set_unit] at hy hy'
  have a0 : b.val ≤ (y 0).val ∧ (y 0).val < b.val + 1 := hy 0; have b0 : b'.val ≤ (y 0).val ∧ (y 0).val < b'.val + 1 := hy' 0; have a1 : k.val ≤ (y 1).val ∧ (y 1).val < k.val + 1 := hy 1; have b1 : k'.val ≤ (y 1).val ∧ (y 1).val < k'.val + 1 := hy' 1; have a2 : 0 ≤ (y 2).val ∧ (y 2).val < 0 + 128 := hy 2; have b2 : 0 ≤ (y 2).val ∧ (y 2).val < 0 + 128 := hy' 2; have a3 : 0 ≤ (y 3).val ∧ (y 3).val < 0 + 2048 := hy 3; have b3 : 0 ≤ (y 3).val ∧ (y 3).val < 0 + 2048 := hy' 3
  exact h ⟨Fin.ext (by omega), Fin.ext (by omega)⟩

theorem wW_pairwise0 : ([(wWM 0 0).view.set, (wWM 0 1).view.set, (wWM 0 2).view.set, (wWM 0 3).view.set, (wWM 1 0).view.set, (wWM 1 1).view.set, (wWM 1 2).view.set, (wWM 1 3).view.set, (wWM 2 0).view.set, (wWM 2 1).view.set, (wWM 2 2).view.set, (wWM 2 3).view.set] : List (Finset S15x2048x2560.Idx)).Pairwise Disjoint := by
  have h : (List.map (β := Finset S15x2048x2560.Idx) (fun p : Fin 15 × Fin 4 => (wWM p.1 p.2).view.set) [(0, 0), (0, 1), (0, 2), (0, 3), (1, 0), (1, 1), (1, 2), (1, 3), (2, 0), (2, 1), (2, 2), (2, 3)]).Pairwise Disjoint := by
    rw [List.pairwise_map]
    refine List.Pairwise.imp (fun {p q} (hne : p ≠ q) => wW_disjoint p.1 p.2 q.1 q.2 fun e => hne (Prod.ext e.1 e.2)) ?_
    decide
  exact h

theorem wW_pairwise1 : ([(wWM 3 0).view.set, (wWM 3 1).view.set, (wWM 3 2).view.set, (wWM 3 3).view.set, (wWM 4 0).view.set, (wWM 4 1).view.set, (wWM 4 2).view.set, (wWM 4 3).view.set, (wWM 5 0).view.set, (wWM 5 1).view.set, (wWM 5 2).view.set, (wWM 5 3).view.set] : List (Finset S15x2048x2560.Idx)).Pairwise Disjoint := by
  have h : (List.map (β := Finset S15x2048x2560.Idx) (fun p : Fin 15 × Fin 4 => (wWM p.1 p.2).view.set) [(3, 0), (3, 1), (3, 2), (3, 3), (4, 0), (4, 1), (4, 2), (4, 3), (5, 0), (5, 1), (5, 2), (5, 3)]).Pairwise Disjoint := by
    rw [List.pairwise_map]
    refine List.Pairwise.imp (fun {p q} (hne : p ≠ q) => wW_disjoint p.1 p.2 q.1 q.2 fun e => hne (Prod.ext e.1 e.2)) ?_
    decide
  exact h

theorem wW_pairwise2 : ([(wWM 6 0).view.set, (wWM 6 1).view.set, (wWM 6 2).view.set, (wWM 6 3).view.set, (wWM 7 0).view.set, (wWM 7 1).view.set, (wWM 7 2).view.set, (wWM 7 3).view.set, (wWM 8 0).view.set, (wWM 8 1).view.set, (wWM 8 2).view.set, (wWM 8 3).view.set] : List (Finset S15x2048x2560.Idx)).Pairwise Disjoint := by
  have h : (List.map (β := Finset S15x2048x2560.Idx) (fun p : Fin 15 × Fin 4 => (wWM p.1 p.2).view.set) [(6, 0), (6, 1), (6, 2), (6, 3), (7, 0), (7, 1), (7, 2), (7, 3), (8, 0), (8, 1), (8, 2), (8, 3)]).Pairwise Disjoint := by
    rw [List.pairwise_map]
    refine List.Pairwise.imp (fun {p q} (hne : p ≠ q) => wW_disjoint p.1 p.2 q.1 q.2 fun e => hne (Prod.ext e.1 e.2)) ?_
    decide
  exact h

theorem wW_pairwise3 : ([(wWM 9 0).view.set, (wWM 9 1).view.set, (wWM 9 2).view.set, (wWM 9 3).view.set, (wWM 10 0).view.set, (wWM 10 1).view.set, (wWM 10 2).view.set, (wWM 10 3).view.set, (wWM 11 0).view.set, (wWM 11 1).view.set, (wWM 11 2).view.set, (wWM 11 3).view.set] : List (Finset S15x2048x2560.Idx)).Pairwise Disjoint := by
  have h : (List.map (β := Finset S15x2048x2560.Idx) (fun p : Fin 15 × Fin 4 => (wWM p.1 p.2).view.set) [(9, 0), (9, 1), (9, 2), (9, 3), (10, 0), (10, 1), (10, 2), (10, 3), (11, 0), (11, 1), (11, 2), (11, 3)]).Pairwise Disjoint := by
    rw [List.pairwise_map]
    refine List.Pairwise.imp (fun {p q} (hne : p ≠ q) => wW_disjoint p.1 p.2 q.1 q.2 fun e => hne (Prod.ext e.1 e.2)) ?_
    decide
  exact h

theorem wW_pairwise4 : ([(wWM 12 0).view.set, (wWM 12 1).view.set, (wWM 12 2).view.set, (wWM 12 3).view.set, (wWM 13 0).view.set, (wWM 13 1).view.set, (wWM 13 2).view.set, (wWM 13 3).view.set, (wWM 14 0).view.set, (wWM 14 1).view.set, (wWM 14 2).view.set, (wWM 14 3).view.set] : List (Finset S15x2048x2560.Idx)).Pairwise Disjoint := by
  have h : (List.map (β := Finset S15x2048x2560.Idx) (fun p : Fin 15 × Fin 4 => (wWM p.1 p.2).view.set) [(12, 0), (12, 1), (12, 2), (12, 3), (13, 0), (13, 1), (13, 2), (13, 3), (14, 0), (14, 1), (14, 2), (14, 3)]).Pairwise Disjoint := by
    rw [List.pairwise_map]
    refine List.Pairwise.imp (fun {p q} (hne : p ≠ q) => wW_disjoint p.1 p.2 q.1 q.2 fun e => hne (Prod.ext e.1 e.2)) ?_
    decide
  exact h

theorem cW_pairwise : ([(cWM 0 0).view.set, (cWM 0 1).view.set, (cWM 1 0).view.set, (cWM 1 1).view.set, (cWM 2 0).view.set, (cWM 2 1).view.set, (cWM 3 0).view.set, (cWM 3 1).view.set, (cWM 4 0).view.set, (cWM 4 1).view.set, (cWM 5 0).view.set, (cWM 5 1).view.set, (cWM 6 0).view.set, (cWM 6 1).view.set, (cWM 7 0).view.set, (cWM 7 1).view.set, (cWM 8 0).view.set, (cWM 8 1).view.set, (cWM 9 0).view.set, (cWM 9 1).view.set, (cWM 10 0).view.set, (cWM 10 1).view.set, (cWM 11 0).view.set, (cWM 11 1).view.set, (cWM 12 0).view.set, (cWM 12 1).view.set, (cWM 13 0).view.set, (cWM 13 1).view.set, (cWM 14 0).view.set, (cWM 14 1).view.set] : List (Finset S15x256x2048.Idx)).Pairwise Disjoint := by
  have h : (List.map (β := Finset S15x256x2048.Idx) (fun p : Fin 15 × Fin 2 => (cWM p.1 p.2).view.set) [(0, 0), (0, 1), (1, 0), (1, 1), (2, 0), (2, 1), (3, 0), (3, 1), (4, 0), (4, 1), (5, 0), (5, 1), (6, 0), (6, 1), (7, 0), (7, 1), (8, 0), (8, 1), (9, 0), (9, 1), (10, 0), (10, 1), (11, 0), (11, 1), (12, 0), (12, 1), (13, 0), (13, 1), (14, 0), (14, 1)]).Pairwise Disjoint := by
    rw [List.pairwise_map]
    refine List.Pairwise.imp (fun {p q} (hne : p ≠ q) => cW_disjoint p.1 p.2 q.1 q.2 fun e => hne (Prod.ext e.1 e.2)) ?_
    decide
  exact h

theorem gW_pairwise : ([(gWM 0 0).view.set, (gWM 1 0).view.set, (gWM 0 1).view.set, (gWM 1 1).view.set, (gWM 0 2).view.set, (gWM 1 2).view.set, (gWM 0 3).view.set, (gWM 1 3).view.set, (gWM 0 4).view.set, (gWM 1 4).view.set, (gWM 0 5).view.set, (gWM 1 5).view.set, (gWM 0 6).view.set, (gWM 1 6).view.set, (gWM 0 7).view.set, (gWM 1 7).view.set, (gWM 0 8).view.set, (gWM 1 8).view.set, (gWM 0 9).view.set, (gWM 1 9).view.set, (gWM 0 10).view.set, (gWM 1 10).view.set, (gWM 0 11).view.set, (gWM 1 11).view.set, (gWM 0 12).view.set, (gWM 1 12).view.set, (gWM 0 13).view.set, (gWM 1 13).view.set, (gWM 0 14).view.set, (gWM 1 14).view.set] : List (Finset S2x15x128x2048.Idx)).Pairwise Disjoint := by
  have h : (List.map (β := Finset S2x15x128x2048.Idx) (fun p : Fin 2 × Fin 15 => (gWM p.1 p.2).view.set) [(0, 0), (1, 0), (0, 1), (1, 1), (0, 2), (1, 2), (0, 3), (1, 3), (0, 4), (1, 4), (0, 5), (1, 5), (0, 6), (1, 6), (0, 7), (1, 7), (0, 8), (1, 8), (0, 9), (1, 9), (0, 10), (1, 10), (0, 11), (1, 11), (0, 12), (1, 12), (0, 13), (1, 13), (0, 14), (1, 14)]).Pairwise Disjoint := by
    rw [List.pairwise_map]
    refine List.Pairwise.imp (fun {p q} (hne : p ≠ q) => gW_disjoint p.1 p.2 q.1 q.2 fun e => hne (Prod.ext e.1 e.2)) ?_
    decide
  exact h

end Cert.MainIdeal.Hand
end
-- ==== Proof.MainIdeal.Finish.lean ====
module
public import proofs.«01_k».proof.Proof.MainIdeal.Join
public import proofs.«01_k».proof.Proof.Gen.MainIdeal.Skeleton
public import Idealize.ShloMosaic.Lib.Tactic
public import Idealize.ShloMosaic.Lib.Pipeline.FrameBody
public import Idealize.ShloMosaic.Lib.MixedBatch
public import Idealize.ShloMosaic.Lib.Ring
public import Idealize.ShloMosaic.Lib.WordCmp
@[expose] public section
noncomputable section
namespace Cert.MainIdeal.Hand
open Cert.MainIdeal Cert.MainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

/-! # The results, from the windows their copies wrote -/

omit [FloatOps F] in
theorem g_skip (b : Fin 2) (k : Fin 15) (b' : Fin 2) (k' : Fin 15) (h : ¬ (b = b' ∧ k = k')) (f : Bf (F := F) (0 : Dev nD) (Memref.whole main_v4_1))
    (v : S128x2048.Idx → Elt F .fp8e4m3) : ∀ i ∈ (gWM b k).view.set, View.write (Elt F) (gWM b' k').view f v Finset.univ i = f i := fun i hi =>
  View.write_of_not_mem f v Finset.univ (Finset.disjoint_left.1 (gW_disjoint b k b' k' h) hi)

/-- The batch the packed features' copy `n` serves, and its kernel position. -/
abbrev gB (n : ℕ) : Fin 2 := ⟨n % 2, Nat.mod_lt _ (by decide)⟩
abbrev gK (n : ℕ) : Fin 15 := ⟨n / 2 % 15, Nat.mod_lt _ (by decide)⟩
/-- The packed features' array after its first `n` copies, of payloads `v`. -/
def gAfter (f : Bf (F := F) (0 : Dev nD) (Memref.whole main_v4_1)) (v : ℕ → S128x2048.Idx → Elt F .fp8e4m3) : ℕ → Bf (F := F) (0 : Dev nD) (Memref.whole main_v4_1)
  | 0 => f
  | n + 1 => View.write (Elt F) (gWM (gB n) (gK n)).view (gAfter f v n) (v n) Finset.univ

omit [FloatOps F] in
/-- A copy's window keeps its contents through the later copies. -/
theorem gAfter_keeps (f : Bf (F := F) (0 : Dev nD) (Memref.whole main_v4_1)) (v : ℕ → S128x2048.Idx → Elt F .fp8e4m3) (n : ℕ) (d : ℕ) (hd : n + d < 30) :
    ∀ i ∈ (gWM (gB n) (gK n)).view.set, gAfter f v (n + 1) i = gAfter f v (n + 1 + d) i := by
  intro i hi
  induction d with
  | zero => rfl
  | succ d ih =>
    rw [ih (by omega)]
    refine (g_skip (gB n) (gK n) (gB (n + 1 + d)) (gK (n + 1 + d)) ?_ (gAfter f v (n + 1 + d)) (v (n + 1 + d)) i hi).symm
    rintro ⟨h1, h2⟩
    have h1 := congrArg Fin.val h1; have h2 := congrArg Fin.val h2
    simp only [gB, gK] at h1 h2
    omega

omit [FloatOps F] in
theorem g_piece (c : Dev nD) (f : Bf (F := F) (0 : Dev nD) (Memref.whole main_v4_1)) (v : ℕ → S128x2048.Idx → Elt F .fp8e4m3) (b : Fin 2) (k : Fin 15) (n : ℕ) (hn : n < 30)
    (hb : b = gB n) (hk : k = gK n) :
    (((c : Thread nD τ).loc main_v4_1) ↦[(gWM b k).view.set]{fullShare} gAfter f v (n + 1) : sProp 𝕄) ⊢ (((c : Thread nD τ).loc main_v4_1) ↦[(gWM b k).view.set]{fullShare} gAfter f v 30) := by
  subst hb hk
  have h := gAfter_keeps f v n (29 - n) (by omega)
  rw [show n + 1 + (29 - n) = 30 by omega] at h
  exact Entails.of_eq (pointsTo_congr (ℓ := ((c : Thread nD τ).loc main_v4_1)) (I := (gWM (gB n) (gK n)).view.set) (q := fullShare) (f := gAfter f v (n + 1)) (g := gAfter f v 30) h)

/-- The packed features' array from the windows the copies wrote and the rest of it. -/
theorem g_join (c : Dev nD) (f : Bf (F := F) (0 : Dev nD) (Memref.whole main_v4_1)) (a : Fin 30 → S128x2048.Idx → Elt F .fp8e4m3) :
    iprop((((c : Thread nD τ).loc main_v4_1) ↦[((((((((((((((Finset.univ \ (gWM 0 0).view.set) \ (gWM 1 0).view.set) \ (gWM 0 1).view.set) \ (gWM 1 1).view.set) \ (gWM 0 2).view.set) \ (gWM 1 2).view.set) \ (gWM 0 3).view.set) \ (gWM 1 3).view.set) \ (gWM 0 4).view.set) \ (gWM 1 4).view.set) \ (gWM 0 5).view.set) \ (gWM 1 5).view.set) \ (gWM 0 6).view.set) \ (gWM 1 6).view.set)]{fullShare} gAfter f (fun n => a (Fin.ofNat 30 n)) 30)
        ∗ (((c : Thread nD τ).loc main_v4_1) ↦[(gWM 0 0).view.set]{fullShare} gAfter f (fun n => a (Fin.ofNat 30 n)) 1)
        ∗ (((c : Thread nD τ).loc main_v4_1) ↦[(gWM 1 0).view.set]{fullShare} gAfter f (fun n => a (Fin.ofNat 30 n)) 2)
        ∗ (((c : Thread nD τ).loc main_v4_1) ↦[(gWM 0 1).view.set]{fullShare} gAfter f (fun n => a (Fin.ofNat 30 n)) 3)
        ∗ (((c : Thread nD τ).loc main_v4_1) ↦[(gWM 1 1).view.set]{fullShare} gAfter f (fun n => a (Fin.ofNat 30 n)) 4)
        ∗ (((c : Thread nD τ).loc main_v4_1) ↦[(gWM 0 2).view.set]{fullShare} gAfter f (fun n => a (Fin.ofNat 30 n)) 5)
        ∗ (((c : Thread nD τ).loc main_v4_1) ↦[(gWM 1 2).view.set]{fullShare} gAfter f (fun n => a (Fin.ofNat 30 n)) 6)
        ∗ (((c : Thread nD τ).loc main_v4_1) ↦[(gWM 0 3).view.set]{fullShare} gAfter f (fun n => a (Fin.ofNat 30 n)) 7)
        ∗ (((c : Thread nD τ).loc main_v4_1) ↦[(gWM 1 3).view.set]{fullShare} gAfter f (fun n => a (Fin.ofNat 30 n)) 8)
        ∗ (((c : Thread nD τ).loc main_v4_1) ↦[(gWM 0 4).view.set]{fullShare} gAfter f (fun n => a (Fin.ofNat 30 n)) 9)
        ∗ (((c : Thread nD τ).loc main_v4_1) ↦[(gWM 1 4).view.set]{fullShare} gAfter f (fun n => a (Fin.ofNat 30 n)) 10)
        ∗ (((c : Thread nD τ).loc main_v4_1) ↦[(gWM 0 5).view.set]{fullShare} gAfter f (fun n => a (Fin.ofNat 30 n)) 11)
        ∗ (((c : Thread nD τ).loc main_v4_1) ↦[(gWM 1 5).view.set]{fullShare} gAfter f (fun n => a (Fin.ofNat 30 n)) 12)
        ∗ (((c : Thread nD τ).loc main_v4_1) ↦[(gWM 0 6).view.set]{fullShare} gAfter f (fun n => a (Fin.ofNat 30 n)) 13)
        ∗ (((c : Thread nD τ).loc main_v4_1) ↦[(gWM 1 6).view.set]{fullShare} gAfter f (fun n => a (Fin.ofNat 30 n)) 14))
      ⊢ (((c : Thread nD τ).loc main_v4_1) ↦{fullShare} gAfter f (fun n => a (Fin.ofNat 30 n)) 30 : sProp 𝕄) := by
  have hq := gW_pairwise.sublist (List.take_sublist 14 _)
  have hp : ([(gWM 0 0).view.set, (gWM 1 0).view.set, (gWM 0 1).view.set, (gWM 1 1).view.set, (gWM 0 2).view.set, (gWM 1 2).view.set, (gWM 0 3).view.set, (gWM 1 3).view.set, (gWM 0 4).view.set, (gWM 1 4).view.set, (gWM 0 5).view.set, (gWM 1 5).view.set, (gWM 0 6).view.set, (gWM 1 6).view.set] : List (Finset S2x15x128x2048.Idx)).Pairwise Disjoint := hq
  have h := rejoin_univ (F := F) (ℓ := ((c : Thread nD τ).loc main_v4_1)) (q := fullShare) (gAfter f (fun n => a (Fin.ofNat 30 n)) 30) [(gWM 0 0).view.set, (gWM 1 0).view.set, (gWM 0 1).view.set, (gWM 1 1).view.set, (gWM 0 2).view.set, (gWM 1 2).view.set, (gWM 0 3).view.set, (gWM 1 3).view.set, (gWM 0 4).view.set, (gWM 1 4).view.set, (gWM 0 5).view.set, (gWM 1 5).view.set, (gWM 0 6).view.set, (gWM 1 6).view.set] hp
  simp only [pieces] at h
  refine BIBase.Entails.trans ?_ h
  iintro ⟨HR, H0, H1, H2, H3, H4, H5, H6, H7, H8, H9, H10, H11, H12, H13⟩
  isplitl [HR]; · iexact HR
  isplitl [H0]
  · iapply (g_piece c f (fun n => a (Fin.ofNat 30 n)) 0 0 0 (by decide) rfl rfl); iexact H0
  isplitl [H1]
  · iapply (g_piece c f (fun n => a (Fin.ofNat 30 n)) 1 0 1 (by decide) rfl rfl); iexact H1
  isplitl [H2]
  · iapply (g_piece c f (fun n => a (Fin.ofNat 30 n)) 0 1 2 (by decide) rfl rfl); iexact H2
  isplitl [H3]
  · iapply (g_piece c f (fun n => a (Fin.ofNat 30 n)) 1 1 3 (by decide) rfl rfl); iexact H3
  isplitl [H4]
  · iapply (g_piece c f (fun n => a (Fin.ofNat 30 n)) 0 2 4 (by decide) rfl rfl); iexact H4
  isplitl [H5]
  · iapply (g_piece c f (fun n => a (Fin.ofNat 30 n)) 1 2 5 (by decide) rfl rfl); iexact H5
  isplitl [H6]
  · iapply (g_piece c f (fun n => a (Fin.ofNat 30 n)) 0 3 6 (by decide) rfl rfl); iexact H6
  isplitl [H7]
  · iapply (g_piece c f (fun n => a (Fin.ofNat 30 n)) 1 3 7 (by decide) rfl rfl); iexact H7
  isplitl [H8]
  · iapply (g_piece c f (fun n => a (Fin.ofNat 30 n)) 0 4 8 (by decide) rfl rfl); iexact H8
  isplitl [H9]
  · iapply (g_piece c f (fun n => a (Fin.ofNat 30 n)) 1 4 9 (by decide) rfl rfl); iexact H9
  isplitl [H10]
  · iapply (g_piece c f (fun n => a (Fin.ofNat 30 n)) 0 5 10 (by decide) rfl rfl); iexact H10
  isplitl [H11]
  · iapply (g_piece c f (fun n => a (Fin.ofNat 30 n)) 1 5 11 (by decide) rfl rfl); iexact H11
  isplitl [H12]
  · iapply (g_piece c f (fun n => a (Fin.ofNat 30 n)) 0 6 12 (by decide) rfl rfl); iexact H12
  isplitl [H13]
  · iapply (g_piece c f (fun n => a (Fin.ofNat 30 n)) 1 6 13 (by decide) rfl rfl); iexact H13
  iempintro

/-- The packed features' array at some contents, from the windows the copies wrote and the rest of it. -/
theorem g_join_some (c : Dev nD) :
    iprop((∃ f, ((c : Thread nD τ).loc main_v4_1) ↦[((((((((((((((Finset.univ \ (gWM 0 0).view.set) \ (gWM 1 0).view.set) \ (gWM 0 1).view.set) \ (gWM 1 1).view.set) \ (gWM 0 2).view.set) \ (gWM 1 2).view.set) \ (gWM 0 3).view.set) \ (gWM 1 3).view.set) \ (gWM 0 4).view.set) \ (gWM 1 4).view.set) \ (gWM 0 5).view.set) \ (gWM 1 5).view.set) \ (gWM 0 6).view.set) \ (gWM 1 6).view.set)]{fullShare} f)
        ∗ (∃ f, ((c : Thread nD τ).loc main_v4_1) ↦[(gWM 0 0).view.set]{fullShare} f)
        ∗ (∃ f, ((c : Thread nD τ).loc main_v4_1) ↦[(gWM 1 0).view.set]{fullShare} f)
        ∗ (∃ f, ((c : Thread nD τ).loc main_v4_1) ↦[(gWM 0 1).view.set]{fullShare} f)
        ∗ (∃ f, ((c : Thread nD τ).loc main_v4_1) ↦[(gWM 1 1).view.set]{fullShare} f)
        ∗ (∃ f, ((c : Thread nD τ).loc main_v4_1) ↦[(gWM 0 2).view.set]{fullShare} f)
        ∗ (∃ f, ((c : Thread nD τ).loc main_v4_1) ↦[(gWM 1 2).view.set]{fullShare} f)
        ∗ (∃ f, ((c : Thread nD τ).loc main_v4_1) ↦[(gWM 0 3).view.set]{fullShare} f)
        ∗ (∃ f, ((c : Thread nD τ).loc main_v4_1) ↦[(gWM 1 3).view.set]{fullShare} f)
        ∗ (∃ f, ((c : Thread nD τ).loc main_v4_1) ↦[(gWM 0 4).view.set]{fullShare} f)
        ∗ (∃ f, ((c : Thread nD τ).loc main_v4_1) ↦[(gWM 1 4).view.set]{fullShare} f)
        ∗ (∃ f, ((c : Thread nD τ).loc main_v4_1) ↦[(gWM 0 5).view.set]{fullShare} f)
        ∗ (∃ f, ((c : Thread nD τ).loc main_v4_1) ↦[(gWM 1 5).view.set]{fullShare} f)
        ∗ (∃ f, ((c : Thread nD τ).loc main_v4_1) ↦[(gWM 0 6).view.set]{fullShare} f)
        ∗ (∃ f, ((c : Thread nD τ).loc main_v4_1) ↦[(gWM 1 6).view.set]{fullShare} f))
      ⊢ (iprop(∃ f, ((c : Thread nD τ).loc main_v4_1) ↦{fullShare} f) : sProp 𝕄) := by
  have hq := gW_pairwise.sublist (List.take_sublist 14 _)
  have hp : ([(gWM 0 0).view.set, (gWM 1 0).view.set, (gWM 0 1).view.set, (gWM 1 1).view.set, (gWM 0 2).view.set, (gWM 1 2).view.set, (gWM 0 3).view.set, (gWM 1 3).view.set, (gWM 0 4).view.set, (gWM 1 4).view.set, (gWM 0 5).view.set, (gWM 1 5).view.set, (gWM 0 6).view.set, (gWM 1 6).view.set] : List (Finset S2x15x128x2048.Idx)).Pairwise Disjoint := hq
  have h := rejoin_some (F := F) (ℓ := ((c : Thread nD τ).loc main_v4_1)) [(gWM 0 0).view.set, (gWM 1 0).view.set, (gWM 0 1).view.set, (gWM 1 1).view.set, (gWM 0 2).view.set, (gWM 1 2).view.set, (gWM 0 3).view.set, (gWM 1 3).view.set, (gWM 0 4).view.set, (gWM 1 4).view.set, (gWM 0 5).view.set, (gWM 1 5).view.set, (gWM 0 6).view.set, (gWM 1 6).view.set] Finset.univ hp (fun _ _ => Finset.subset_univ _)
  simp only [somePieces] at h
  refine BIBase.Entails.trans ?_ h
  iintro ⟨HR, H0, H1, H2, H3, H4, H5, H6, H7, H8, H9, H10, H11, H12, H13⟩
  isplitl [HR]; · iexact HR
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iempintro

/-- The result from its two column windows. -/
theorem y_join (c : Dev nD) (f : Bf (F := F) c (Memref.whole main_v4_0)) (p0 : S256x2048.Idx → Elt F .bf16) (p1 : S256x512.Idx → Elt F .bf16) :
    iprop(((yWin0 (Memref.whole main_v4_0)).view.loc (c : Thread nD τ) ↦[(yWin0 (Memref.whole main_v4_0)).view.set]{fullShare}
          (Memref.whole main_v4_0).view.writes (Elt F) f [⟨Rect.unit (s := S256x2560) ![0, 0] S256x2048.size inb_S256x2560_S256x2048_0_0, p0⟩])
        ∗ ((yWin1 (Memref.whole main_v4_0)).view.loc (c : Thread nD τ) ↦[(yWin1 (Memref.whole main_v4_0)).view.set]{fullShare}
          (Memref.whole main_v4_0).view.writes (Elt F) f [⟨Rect.unit (s := S256x2560) ![0, 2048] S256x512.size inb_S256x2560_S256x512_0_2048, p1⟩,
            ⟨Rect.unit (s := S256x2560) ![0, 0] S256x2048.size inb_S256x2560_S256x2048_0_0, p0⟩]))
      ⊢ (((c : Thread nD τ).loc main_v4_0) ↦{fullShare} ((Memref.whole main_v4_0).view.writes (Elt F) f [⟨Rect.unit (s := S256x2560) ![0, 2048] S256x512.size inb_S256x2560_S256x512_0_2048, p1⟩,
            ⟨Rect.unit (s := S256x2560) ![0, 0] S256x2048.size inb_S256x2560_S256x2048_0_0, p0⟩]) : sProp 𝕄) := by
  have e0 : (yWin0 (Memref.whole main_v4_0)).view.set = ySet 0 := View.set_slice_whole _ _
  have e1 : (yWin1 (Memref.whole main_v4_0)).view.set = ySet 1 := View.set_slice_whole _ _
  have hd : Disjoint (yWin0 (Memref.whole main_v4_0)).view.set (yWin1 (Memref.whole main_v4_0)).view.set := by
    rw [e0, e1]; exact ySet_disjoint 0 1 (by decide)
  have hu : (Finset.univ : Finset S256x2560.Idx) = (yWin0 (Memref.whole main_v4_0)).view.set ∪ (yWin1 (Memref.whole main_v4_0)).view.set := by
    rw [e0, e1]; ext y
    refine ⟨fun _ => ?_, fun _ => Finset.mem_univ _⟩
    by_cases h : (y 1).val < 2048
    · exact Finset.mem_union_left _ ((mem_ySet0 y).2 h)
    · exact Finset.mem_union_right _ ((mem_ySet1 y).2 (by omega))
  refine BIBase.Entails.trans ?_ (Entails.of_eq (congrArg (fun S => (((c : Thread nD τ).loc main_v4_0) ↦[S]{fullShare} ((Memref.whole main_v4_0).view.writes (Elt F) f [⟨Rect.unit (s := S256x2560) ![0, 2048] S256x512.size inb_S256x2560_S256x512_0_2048, p1⟩,
            ⟨Rect.unit (s := S256x2560) ![0, 0] S256x2048.size inb_S256x2560_S256x2048_0_0, p0⟩]) : sProp 𝕄)) hu.symm))
  refine BIBase.Entails.trans ?_ (pointsTo_union hd).2
  iintro ⟨H0, H1⟩
  isplitl [H0]
  · rw [pointsTo_congr (ℓ := ((c : Thread nD τ).loc main_v4_0)) (I := (yWin0 (Memref.whole main_v4_0)).view.set)
      (f := (Memref.whole main_v4_0).view.writes (Elt F) f [⟨Rect.unit (s := S256x2560) ![0, 2048] S256x512.size inb_S256x2560_S256x512_0_2048, p1⟩,
            ⟨Rect.unit (s := S256x2560) ![0, 0] S256x2048.size inb_S256x2560_S256x2048_0_0, p0⟩])
      (g := (Memref.whole main_v4_0).view.writes (Elt F) f [⟨Rect.unit (s := S256x2560) ![0, 0] S256x2048.size inb_S256x2560_S256x2048_0_0, p0⟩])
      (fun i hi => View.write_of_not_mem _ _ Finset.univ (Finset.disjoint_left.1 hd hi))]
    iexact H0
  iexact H1

end Cert.MainIdeal.Hand
end
-- ==== Proof.MainIdeal.Run.lean ====
module
public import proofs.«01_k».proof.Proof.Gen.MainIdeal.Frame
public import proofs.«01_k».proof.Proof.Gen.MainIdeal.Skeleton
public import Idealize.ShloMosaic.Lib.Tactic
public import Idealize.ShloMosaic.Lib.Pipeline.FrameBody
public import Idealize.ShloMosaic.Lib.MixedBatch
public import Idealize.ShloMosaic.Lib.Ring
public import Idealize.ShloMosaic.Lib.WordCmp
public import Idealize.ShloMosaic.Lib.Mxu.Walk
public import proofs.«01_k».proof.Proof.MainIdeal.Finish
@[expose] public section
noncomputable section
namespace Cert.MainIdeal.Hand
open Cert.MainIdeal Cert.MainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

set_option maxHeartbeats 0 in

/-- The kernel body on its whole buffers: from the inputs at given contents, every other buffer at anything and every cell
    at zero, it runs to the inputs unchanged, the results at the contents this names, the scratch buffers at some contents and
    every cell back at zero. -/
def bodyRun (c : Dev nD) (g0 : Buf (Elt F) ((c : Thread nD τ).loc main_arg0)) (g1 : Buf (Elt F) ((c : Thread nD τ).loc main_v1)) (g2 : Buf (Elt F) ((c : Thread nD τ).loc main_arg1)) (g3 : Buf (Elt F) ((c : Thread nD τ).loc main_arg2)) (g4 : Buf (Elt F) ((c : Thread nD τ).loc main_v2)) (g5 : Buf (Elt F) ((c : Thread nD τ).loc main_v3)) (g6 : Buf (Elt F) ((c : Thread nD τ).loc main_v4_0)) (g7 : Buf (Elt F) ((c : Thread nD τ).loc main_v4_1)) (g8 : Buf (Elt F) ((c : Thread nD τ).loc main_v4_2)) (g9 : Buf (Elt F) ((c : Thread nD τ).loc cc0_scratch0)) (g10 : Buf (Elt F) ((c : Thread nD τ).loc cc0_scratch1)) (g11 : Buf (Elt F) ((c : Thread nD τ).loc cc0_scratch2)) (g12 : Buf (Elt F) ((c : Thread nD τ).loc cc0_scratch3)) (g13 : Buf (Elt F) ((c : Thread nD τ).loc cc0_scratch4)) (g14 : Buf (Elt F) ((c : Thread nD τ).loc cc0_scratch5)) (g15 : Buf (Elt F) ((c : Thread nD τ).loc cc0_scratch6)) :
    { Y : Buf (Elt F) ((c : Thread nD τ).loc main_v4_0) × Buf (Elt F) ((c : Thread nD τ).loc main_v4_1) × Buf (Elt F) ((c : Thread nD τ).loc main_v4_2) //
      ∀ (W : Waits sig Unit) (K : PUnit → sProp 𝕄),
    iprop((((c : Thread nD τ).loc main_arg0) ↦{fullShare} g0) ∗ (((c : Thread nD τ).loc main_v1) ↦{fullShare} g1) ∗ (((c : Thread nD τ).loc main_arg1) ↦{fullShare} g2) ∗ (((c : Thread nD τ).loc main_arg2) ↦{fullShare} g3) ∗ (((c : Thread nD τ).loc main_v2) ↦{fullShare} g4) ∗ (((c : Thread nD τ).loc main_v3) ↦{fullShare} g5) ∗ (((c : Thread nD τ).loc main_v4_0) ↦{fullShare} g6) ∗ (((c : Thread nD τ).loc main_v4_1) ↦{fullShare} g7) ∗ (((c : Thread nD τ).loc main_v4_2) ↦{fullShare} g8) ∗ (((c : Thread nD τ).loc cc0_scratch0) ↦{fullShare} g9) ∗ (((c : Thread nD τ).loc cc0_scratch1) ↦{fullShare} g10) ∗ (((c : Thread nD τ).loc cc0_scratch2) ↦{fullShare} g11) ∗ (((c : Thread nD τ).loc cc0_scratch3) ↦{fullShare} g12) ∗ (((c : Thread nD τ).loc cc0_scratch4) ↦{fullShare} g13) ∗ (((c : Thread nD τ).loc cc0_scratch5) ↦{fullShare} g14) ∗ (((c : Thread nD τ).loc cc0_scratch6) ↦{fullShare} g15)
        ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ owes (c : Thread nD τ) 0 W
        ∗ (iprop((((c : Thread nD τ).loc main_arg0) ↦{fullShare} g0) ∗ (((c : Thread nD τ).loc main_v1) ↦{fullShare} g1) ∗ (((c : Thread nD τ).loc main_arg1) ↦{fullShare} g2) ∗ (((c : Thread nD τ).loc main_arg2) ↦{fullShare} g3) ∗ (((c : Thread nD τ).loc main_v2) ↦{fullShare} g4) ∗ (((c : Thread nD τ).loc main_v3) ↦{fullShare} g5) ∗ (((c : Thread nD τ).loc main_v4_0) ↦{fullShare} Y.1) ∗ (((c : Thread nD τ).loc main_v4_1) ↦{fullShare} Y.2.1) ∗ (((c : Thread nD τ).loc main_v4_2) ↦{fullShare} Y.2.2) ∗ (∃ f, ((c : Thread nD τ).loc cc0_scratch0) ↦{fullShare} f) ∗ (∃ f, ((c : Thread nD τ).loc cc0_scratch1) ↦{fullShare} f) ∗ (∃ f, ((c : Thread nD τ).loc cc0_scratch2) ↦{fullShare} f) ∗ (∃ f, ((c : Thread nD τ).loc cc0_scratch3) ↦{fullShare} f) ∗ (∃ f, ((c : Thread nD τ).loc cc0_scratch4) ↦{fullShare} f) ∗ (∃ f, ((c : Thread nD τ).loc cc0_scratch5) ↦{fullShare} f) ∗ (∃ f, ((c : Thread nD τ).loc cc0_scratch6) ↦{fullShare} f)
            ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ (∃ W', owes (c : Thread nD τ) 0 W')) -∗ K ⟨⟩))
      ⊢ wp frame (wpE (defs₀ (F := F)) Variants.none c none) Set.univ
          (cc0_kpconv_main (Memref.whole main_arg0) (Memref.isWhole_whole _) (Memref.whole main_v1) (Memref.isWhole_whole _) (Memref.whole main_arg1) (Memref.isWhole_whole _) (Memref.whole main_arg2) (Memref.isWhole_whole _) (Memref.whole main_v2) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11) K } := by
  refine' ⟨(_, _, _), fun W K => ?_⟩
  rotate_left 3

  change iprop(pt c (Memref.whole main_arg0) g0 ∗ pt c (Memref.whole main_v1) g1 ∗ pt c (Memref.whole main_arg1) g2 ∗ pt c (Memref.whole main_arg2) g3 ∗ pt c (Memref.whole main_v2) g4 ∗ pt c (Memref.whole main_v3) g5 ∗ pt c (Memref.whole main_v4_0) g6 ∗ pt c (Memref.whole main_v4_1) g7 ∗ pt c (Memref.whole main_v4_2) g8 ∗ pt c (Memref.whole cc0_scratch0) g9 ∗ pt c (Memref.whole cc0_scratch1) g10 ∗ pt c (Memref.whole cc0_scratch2) g11 ∗ pt c (Memref.whole cc0_scratch3) g12 ∗ pt c (Memref.whole cc0_scratch4) g13 ∗ pt c (Memref.whole cc0_scratch5) g14 ∗ pt c (Memref.whole cc0_scratch6) g15
        ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ owes (c : Thread nD τ) 0 W
        ∗ (iprop((((c : Thread nD τ).loc main_arg0) ↦{fullShare} g0) ∗ (((c : Thread nD τ).loc main_v1) ↦{fullShare} g1) ∗ (((c : Thread nD τ).loc main_arg1) ↦{fullShare} g2) ∗ (((c : Thread nD τ).loc main_arg2) ↦{fullShare} g3) ∗ (((c : Thread nD τ).loc main_v2) ↦{fullShare} g4) ∗ (((c : Thread nD τ).loc main_v3) ↦{fullShare} g5) ∗ (((c : Thread nD τ).loc main_v4_0) ↦{fullShare} _) ∗ (((c : Thread nD τ).loc main_v4_1) ↦{fullShare} _) ∗ (((c : Thread nD τ).loc main_v4_2) ↦{fullShare} _) ∗ (∃ f, ((c : Thread nD τ).loc cc0_scratch0) ↦{fullShare} f) ∗ (∃ f, ((c : Thread nD τ).loc cc0_scratch1) ↦{fullShare} f) ∗ (∃ f, ((c : Thread nD τ).loc cc0_scratch2) ↦{fullShare} f) ∗ (∃ f, ((c : Thread nD τ).loc cc0_scratch3) ↦{fullShare} f) ∗ (∃ f, ((c : Thread nD τ).loc cc0_scratch4) ↦{fullShare} f) ∗ (∃ f, ((c : Thread nD τ).loc cc0_scratch5) ↦{fullShare} f) ∗ (∃ f, ((c : Thread nD τ).loc cc0_scratch6) ↦{fullShare} f)
            ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ (∃ W', owes (c : Thread nD τ) 0 W')) -∗ K ⟨⟩)) ⊢ _
  iintro ⟨H0, H1, H2, H3, H4, H5, H6, H7, H8, H9, H10, H11, H12, H13, H14, H15, S0, S1, S2, S3, S4, S5, S6, S7, S8, S9, S10, S11, S12, S13, S14, S15, S16, S17, S18, HO, HK⟩
  ihave HH := (Entails.of_eq (ring_slots c g15)) $$ H15
  icases HH with ⟨H15s0, H15s1, H15s2, H15s3, H15s4, H15s5, H15s6, H15s7⟩
  ihave HH := (Entails.of_eq (tokens c (Memref.whole main_arg2) g3)) $$ H3
  icases HH with ⟨H3d, H3t8, H3t9, H3t10, H3t11, H3t12, H3t13, H3t14, H3t15, H3r⟩
  imod (y_alloc c _ _ _ _) $$ S17 with HB
  unfold yDelivV
  unfold cc0_kpconv_main
  set_option sl_exec.squeezeSlice true in
  set_option sl_exec.dmaWindow true in
  sl_exec_parts
  ihave HH := ((token16 c (Memref.whole cc0_scratch0) _).1) $$ H9
  icases HH with ⟨H9, H9t, H9r⟩
  have hp16 : Transfers.BatchOf (c : Thread nD τ) (SemLoc.dma (sig := sig) 16) 30 (windows := true) := trivial
  set_option sl_exec.unrollTrips 15 in
  set_option sl_exec.squeezeSlice true in
  set_option sl_exec.dmaWindow true in
  sl_exec_parts
  ihave HH := (Entails.of_eq (slot_windows c 7 (by decide) _)) $$ H15s7
  icases HH with ⟨H15s7w0, H15s7w1, H15s7w2, H15s7w3, H15s7w4, H15s7w5, H15s7w6, H15s7w7, H15s7w8, H15s7w9, H15s7w10, H15s7w11, H15s7w12, H15s7w13, H15s7w14, H15s7w15⟩
  have hp15 : Transfers.BatchOfUse (c : Thread nD τ) (SemLoc.dma (sig := sig) 15) 0 12 (windows := true) := trivial
  set_option sl_exec.unrollTrips 15 in
  set_option sl_exec.squeezeSlice true in
  set_option sl_exec.dmaWindow true in
  sl_exec_parts
  ihave HH := (Entails.of_eq (slot_windows c 0 (by decide) _)) $$ H15s0
  icases HH with ⟨H15s0w0, H15s0w1, H15s0w2, H15s0w3, H15s0w4, H15s0w5, H15s0w6, H15s0w7, H15s0w8, H15s0w9, H15s0w10, H15s0w11, H15s0w12, H15s0w13, H15s0w14, H15s0w15⟩
  have hp8 : Transfers.BatchOfUse (c : Thread nD τ) (SemLoc.dma (sig := sig) 8) 0 12 (windows := true) := trivial
  set_option sl_exec.unrollTrips 15 in
  set_option sl_exec.squeezeSlice true in
  set_option sl_exec.dmaWindow true in
  sl_exec_parts
  ihave HH := (Entails.of_eq (slot_windows c 1 (by decide) _)) $$ H15s1
  icases HH with ⟨H15s1w0, H15s1w1, H15s1w2, H15s1w3, H15s1w4, H15s1w5, H15s1w6, H15s1w7, H15s1w8, H15s1w9, H15s1w10, H15s1w11, H15s1w12, H15s1w13, H15s1w14, H15s1w15⟩
  have hp9 : Transfers.BatchOfUse (c : Thread nD τ) (SemLoc.dma (sig := sig) 9) 0 12 (windows := true) := trivial
  set_option sl_exec.unrollTrips 15 in
  set_option sl_exec.squeezeSlice true in
  set_option sl_exec.dmaWindow true in
  sl_exec_parts
  ihave HH := (Entails.of_eq (slot_windows c 2 (by decide) _)) $$ H15s2
  icases HH with ⟨H15s2w0, H15s2w1, H15s2w2, H15s2w3, H15s2w4, H15s2w5, H15s2w6, H15s2w7, H15s2w8, H15s2w9, H15s2w10, H15s2w11, H15s2w12, H15s2w13, H15s2w14, H15s2w15⟩
  have hp10 : Transfers.BatchOfUse (c : Thread nD τ) (SemLoc.dma (sig := sig) 10) 0 12 (windows := true) := trivial
  set_option sl_exec.unrollTrips 15 in
  set_option sl_exec.squeezeSlice true in
  set_option sl_exec.dmaWindow true in
  sl_exec_parts
  ihave HH := (Entails.of_eq (slot_windows c 3 (by decide) _)) $$ H15s3
  icases HH with ⟨H15s3w0, H15s3w1, H15s3w2, H15s3w3, H15s3w4, H15s3w5, H15s3w6, H15s3w7, H15s3w8, H15s3w9, H15s3w10, H15s3w11, H15s3w12, H15s3w13, H15s3w14, H15s3w15⟩
  have hp11 : Transfers.BatchOfUse (c : Thread nD τ) (SemLoc.dma (sig := sig) 11) 0 12 (windows := true) := trivial
  set_option sl_exec.unrollTrips 15 in
  set_option sl_exec.squeezeSlice true in
  set_option sl_exec.dmaWindow true in
  sl_exec_parts
  ihave H3 := (Entails.of_eq (tokens c (Memref.whole main_arg2) g3).symm) $$ [H3d H3t8 H3t9 H3t10 H3t11 H3t12 H3t13 H3t14 H3t15 H3r]
  · isplitl [H3d]; · iexact H3d
    isplitl [H3t8]; · iexact H3t8
    isplitl [H3t9]; · iexact H3t9
    isplitl [H3t10]; · iexact H3t10
    isplitl [H3t11]; · iexact H3t11
    isplitl [H3t12]; · iexact H3t12
    isplitl [H3t13]; · iexact H3t13
    isplitl [H3t14]; · iexact H3t14
    isplitl [H3t15]; · iexact H3t15
    iexact H3r
  ihave H9 := ((token16 c (Memref.whole cc0_scratch0) _).2) $$ [H9 H9t H9r]
  · isplitl [H9]; · iexact H9
    isplitl [H9t]; · iexact H9t
    iexact H9r
  ihave H15s7 := (slot_windows_join c 7 (by decide)) $$ [H15s7w0 H15s7w1 H15s7w2 H15s7w3 H15s7w4 H15s7w5 H15s7w6 H15s7w7 H15s7w8 H15s7w9 H15s7w10 H15s7w11 H15s7w12 H15s7w13 H15s7w14 H15s7w15]
  · isplitl [H15s7w0]; · iexists _; iexact H15s7w0
    isplitl [H15s7w1]; · iexists _; iexact H15s7w1
    isplitl [H15s7w2]; · iexists _; iexact H15s7w2
    isplitl [H15s7w3]; · iexists _; iexact H15s7w3
    isplitl [H15s7w4]; · iexists _; iexact H15s7w4
    isplitl [H15s7w5]; · iexists _; iexact H15s7w5
    isplitl [H15s7w6]; · iexists _; iexact H15s7w6
    isplitl [H15s7w7]; · iexists _; iexact H15s7w7
    isplitl [H15s7w8]; · iexists _; iexact H15s7w8
    isplitl [H15s7w9]; · iexists _; iexact H15s7w9
    isplitl [H15s7w10]; · iexists _; iexact H15s7w10
    isplitl [H15s7w11]; · iexists _; iexact H15s7w11
    isplitl [H15s7w12]; · iexists _; iexact H15s7w12
    isplitl [H15s7w13]; · iexists _; iexact H15s7w13
    isplitl [H15s7w14]; · iexists _; iexact H15s7w14
    iexists _; iexact H15s7w15
  ihave H15s0 := (slot_windows_join c 0 (by decide)) $$ [H15s0w0 H15s0w1 H15s0w2 H15s0w3 H15s0w4 H15s0w5 H15s0w6 H15s0w7 H15s0w8 H15s0w9 H15s0w10 H15s0w11 H15s0w12 H15s0w13 H15s0w14 H15s0w15]
  · isplitl [H15s0w0]; · iexists _; iexact H15s0w0
    isplitl [H15s0w1]; · iexists _; iexact H15s0w1
    isplitl [H15s0w2]; · iexists _; iexact H15s0w2
    isplitl [H15s0w3]; · iexists _; iexact H15s0w3
    isplitl [H15s0w4]; · iexists _; iexact H15s0w4
    isplitl [H15s0w5]; · iexists _; iexact H15s0w5
    isplitl [H15s0w6]; · iexists _; iexact H15s0w6
    isplitl [H15s0w7]; · iexists _; iexact H15s0w7
    isplitl [H15s0w8]; · iexists _; iexact H15s0w8
    isplitl [H15s0w9]; · iexists _; iexact H15s0w9
    isplitl [H15s0w10]; · iexists _; iexact H15s0w10
    isplitl [H15s0w11]; · iexists _; iexact H15s0w11
    isplitl [H15s0w12]; · iexists _; iexact H15s0w12
    isplitl [H15s0w13]; · iexists _; iexact H15s0w13
    isplitl [H15s0w14]; · iexists _; iexact H15s0w14
    iexists _; iexact H15s0w15
  ihave H15s1 := (slot_windows_join c 1 (by decide)) $$ [H15s1w0 H15s1w1 H15s1w2 H15s1w3 H15s1w4 H15s1w5 H15s1w6 H15s1w7 H15s1w8 H15s1w9 H15s1w10 H15s1w11 H15s1w12 H15s1w13 H15s1w14 H15s1w15]
  · isplitl [H15s1w0]; · iexists _; iexact H15s1w0
    isplitl [H15s1w1]; · iexists _; iexact H15s1w1
    isplitl [H15s1w2]; · iexists _; iexact H15s1w2
    isplitl [H15s1w3]; · iexists _; iexact H15s1w3
    isplitl [H15s1w4]; · iexists _; iexact H15s1w4
    isplitl [H15s1w5]; · iexists _; iexact H15s1w5
    isplitl [H15s1w6]; · iexists _; iexact H15s1w6
    isplitl [H15s1w7]; · iexists _; iexact H15s1w7
    isplitl [H15s1w8]; · iexists _; iexact H15s1w8
    isplitl [H15s1w9]; · iexists _; iexact H15s1w9
    isplitl [H15s1w10]; · iexists _; iexact H15s1w10
    isplitl [H15s1w11]; · iexists _; iexact H15s1w11
    isplitl [H15s1w12]; · iexists _; iexact H15s1w12
    isplitl [H15s1w13]; · iexists _; iexact H15s1w13
    isplitl [H15s1w14]; · iexists _; iexact H15s1w14
    iexists _; iexact H15s1w15
  ihave H15s2 := (slot_windows_join c 2 (by decide)) $$ [H15s2w0 H15s2w1 H15s2w2 H15s2w3 H15s2w4 H15s2w5 H15s2w6 H15s2w7 H15s2w8 H15s2w9 H15s2w10 H15s2w11 H15s2w12 H15s2w13 H15s2w14 H15s2w15]
  · isplitl [H15s2w0]; · iexists _; iexact H15s2w0
    isplitl [H15s2w1]; · iexists _; iexact H15s2w1
    isplitl [H15s2w2]; · iexists _; iexact H15s2w2
    isplitl [H15s2w3]; · iexists _; iexact H15s2w3
    isplitl [H15s2w4]; · iexists _; iexact H15s2w4
    isplitl [H15s2w5]; · iexists _; iexact H15s2w5
    isplitl [H15s2w6]; · iexists _; iexact H15s2w6
    isplitl [H15s2w7]; · iexists _; iexact H15s2w7
    isplitl [H15s2w8]; · iexists _; iexact H15s2w8
    isplitl [H15s2w9]; · iexists _; iexact H15s2w9
    isplitl [H15s2w10]; · iexists _; iexact H15s2w10
    isplitl [H15s2w11]; · iexists _; iexact H15s2w11
    isplitl [H15s2w12]; · iexists _; iexact H15s2w12
    isplitl [H15s2w13]; · iexists _; iexact H15s2w13
    isplitl [H15s2w14]; · iexists _; iexact H15s2w14
    iexists _; iexact H15s2w15
  ihave H15s3 := (slot_windows_join c 3 (by decide)) $$ [H15s3w0 H15s3w1 H15s3w2 H15s3w3 H15s3w4 H15s3w5 H15s3w6 H15s3w7 H15s3w8 H15s3w9 H15s3w10 H15s3w11 H15s3w12 H15s3w13 H15s3w14 H15s3w15]
  · isplitl [H15s3w0]; · iexists _; iexact H15s3w0
    isplitl [H15s3w1]; · iexists _; iexact H15s3w1
    isplitl [H15s3w2]; · iexists _; iexact H15s3w2
    isplitl [H15s3w3]; · iexists _; iexact H15s3w3
    isplitl [H15s3w4]; · iexists _; iexact H15s3w4
    isplitl [H15s3w5]; · iexists _; iexact H15s3w5
    isplitl [H15s3w6]; · iexists _; iexact H15s3w6
    isplitl [H15s3w7]; · iexists _; iexact H15s3w7
    isplitl [H15s3w8]; · iexists _; iexact H15s3w8
    isplitl [H15s3w9]; · iexists _; iexact H15s3w9
    isplitl [H15s3w10]; · iexists _; iexact H15s3w10
    isplitl [H15s3w11]; · iexists _; iexact H15s3w11
    isplitl [H15s3w12]; · iexists _; iexact H15s3w12
    isplitl [H15s3w13]; · iexists _; iexact H15s3w13
    isplitl [H15s3w14]; · iexists _; iexact H15s3w14
    iexists _; iexact H15s3w15
  ihave H15 := (ring_join c) $$ [H15s0 H15s1 H15s2 H15s3 H15s4 H15s5 H15s6 H15s7]
  · isplitl [H15s0]; · iexact H15s0
    isplitl [H15s1]; · iexact H15s1
    isplitl [H15s2]; · iexact H15s2
    isplitl [H15s3]; · iexact H15s3
    isplitl [H15s4]; · iexists _; iexact H15s4
    isplitl [H15s5]; · iexists _; iexact H15s5
    isplitl [H15s6]; · iexists _; iexact H15s6
    iexact H15s7
  ihave H7 := (g_join c g7 ![_, _, _, _, _, _, _, _, _, _, _, _, _, _, _, _, _, _, _, _, _, _, _, _, _, _, _, _, _, _]) $$ [H7 H7_15 H7_14 H7_13 H7_12 H7_11 H7_10 H7_9 H7_8 H7_7 H7_6 H7_5 H7_4 H7_3 H7_2]
  · isplitl [H7]; · iexact H7
    isplitl [H7_15]; · iexact H7_15
    isplitl [H7_14]; · iexact H7_14
    isplitl [H7_13]; · iexact H7_13
    isplitl [H7_12]; · iexact H7_12
    isplitl [H7_11]; · iexact H7_11
    isplitl [H7_10]; · iexact H7_10
    isplitl [H7_9]; · iexact H7_9
    isplitl [H7_8]; · iexact H7_8
    isplitl [H7_7]; · iexact H7_7
    isplitl [H7_6]; · iexact H7_6
    isplitl [H7_5]; · iexact H7_5
    isplitl [H7_4]; · iexact H7_4
    isplitl [H7_3]; · iexact H7_3
    iexact H7_2
  ihave HY := (y_join c g6 _ _) $$ [HB_dst0 HB_dst1]
  · isplitl [HB_dst0]; · iexact HB_dst0
    iexact HB_dst1
  rw [wp_ret]; imodintro
  iapply HK
  isplitl [H0]; · iexact H0
  isplitl [H1]; · iexact H1
  isplitl [H2]; · iexact H2
  isplitl [H3]; · iexact H3
  isplitl [H4]; · iexact H4
  isplitl [H5]; · iexact H5
  isplitl [HY]; · iexact HY
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexact H15
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [HB]; · iexact HB
  isplitl [S18]; · iexact S18
  iexists _; iexact HO

end Cert.MainIdeal.Hand
end
-- ==== Proof.MxuSum.lean ====
module
public import Idealize.ShloMosaic.Lib.Mxu.PassChain
public import Idealize.ShloMosaic.Lib.MatmulPlain
public import Idealize.ShloMosaic.PureOps.Ideal.Laws
@[expose] public section
noncomputable section
namespace Cert.MxuSum
open Idealize.ShloMosaic Idealize.ShloMosaic.ValueIdx
open scoped BigOperators

/-! # What the two matrix units hold after a run of push-and-accumulate steps, over the reals -/

abbrev Tile : Type := FVec Ideal ⟨2, ![256, 256]⟩ .bf16
abbrev Acc : Type := FVec Ideal ⟨2, ![256, 256]⟩ .f32

theorem fits (j : Fin 4) : Mxu.Fits (64 * j.val) 256 := by revert j; decide

/-- Every staging register is empty and the rows of accumulator `j` of unit `q` hold `a q j`. -/
structure Holds (s : Mxu Ideal) (a : Fin 2 → Fin 4 → Acc) : Prop where
  reg : ∀ q r, s.reg q r = none
  val : ∀ q j, s.read q (64 * j.val) (fits j) = a q j

theorem holds_init : Holds Mxu.init (fun _ _ _ => 0) where
  reg _ _ := Mxu.reg_init _ _
  val q j := by rw [Mxu.read_init]; funext i; exact Ideal.ofBits_zero_f32

/-- One pass at an element: the row of the left tile against the column of the right. -/
theorem pass_apply (v : Tile) (l : Tile) (i : (⟨2, ![256, 256]⟩ : Shape).Idx) :
    (Mxu.Staged.pass (⟨.bf16, false, v⟩ : Mxu.Staged Ideal) l : Acc) i = ∑ x : Fin 256, l (ix2 (i 0) x) * v (ix2 x (i 1)) := by
  obtain ⟨r, c, rfl⟩ : ∃ (r c : Fin 256), i = ix2 r c := ⟨i 0, i 1, by funext a; fin_cases a <;> rfl⟩
  have h := Ideal.matmul_plain_apply (M := 256) (K := 256) (N := 256) none l v (fun _ => (0 : EReal)) r c
  rw [Ideal.matmul_apply, zero_add, zero_add] at h
  exact h

/-- The accumulators after one step. -/
def upd (a : Fin 2 → Fin 4 → Acc) (q : Fin 2) (j : Fin 4) (v l : Tile) : Fin 2 → Fin 4 → Acc := fun q' j' i =>
  if q' = q ∧ j' = j then a q' j' i + ∑ x : Fin 256, l (ix2 (i 0) x) * v (ix2 x (i 1)) else a q' j' i

theorem Holds.step {s : Mxu Ideal} {a : Fin 2 → Fin 4 → Acc} (h : Holds s a) (q r : Fin 2) (j : Fin 4) (v l : Tile) :
    Holds ((s.pushed q r false v).accLhs q r (64 * j.val) l (fits j)) (upd a q j v l) where
  reg q' r' := by
    by_cases e : q' = q ∧ r' = r
    · rw [e.1, e.2]; exact Mxu.reg_accLhs _ _ _ _ _ _
    · rw [Mxu.reg_accLhs_ne _ _ _ _ _ _ _ _ e, Mxu.reg_pushed_ne _ _ _ _ _ _ _ e]; exact h.reg q' r'
  val q' j' := by
    by_cases e : q' = q ∧ j' = j
    · obtain ⟨rfl, rfl⟩ := e
      funext i
      rw [Mxu.read_accLhs]
      simp only [upd, and_self, if_true, Mxu.read_pushed, Mxu.live_pushed, h.val, Mxu.staged_eq, Mxu.reg_pushed_of_none _ _ _ _ _ (h.reg q' r), Option.getD_some]
      rw [← pass_apply]
      cases hl : s.live q' (Mxu.row (fits j') (i 0)) with
      | true => rfl
      | false =>
        have hz : a q' j' i = 0 := by
          rw [← h.val q' j']
          exact (s.clean q' _ _ hl).trans Ideal.ofBits_zero_f32
        rw [hz, zero_add]; rfl
    · rw [Mxu.read_accLhs_ne _ _ _ _ _ _ _ _ _ (by
        by_cases hq : q' = q
        · have hj : j' ≠ j := fun hj => e ⟨hq, hj⟩
          have : j'.val ≠ j.val := fun h => hj (Fin.ext h)
          right; omega
        · exact Or.inl hq), Mxu.read_pushed, h.val]
      funext i; simp only [upd, e, if_false]

theorem Holds.pop {s : Mxu Ideal} {a : Fin 2 → Fin 4 → Acc} (h : Holds s a) (q : Fin 2) (j : Fin 4) :
    Holds (s.pop q (64 * j.val) 256 (fits j)) (fun q' j' i => if q' = q ∧ j' = j then 0 else a q' j' i) where
  reg q' r' := by rw [Mxu.reg_pop]; exact h.reg q' r'
  val q' j' := by
    by_cases e : q' = q ∧ j' = j
    · obtain ⟨rfl, rfl⟩ := e
      rw [Mxu.read_pop]; funext i; simp only [and_self, if_true]; exact Ideal.ofBits_zero_f32
    · rw [Mxu.read_pop_ne _ _ _ _ _ _ _ (by
        by_cases hq : q' = q
        · have hj : j' ≠ j := fun hj => e ⟨hq, hj⟩
          have : j'.val ≠ j.val := fun h => hj (Fin.ext h)
          right; omega
        · exact Or.inl hq), h.val]
      funext i; simp only [e, if_false]

end Cert.MxuSum
end
-- ==== Proof.MainIdeal.Tiles.lean ====
module
public import proofs.«01_k».proof.Proof.MainIdeal.Finish
public import proofs.«01_k».proof.Proof.MxuSum
public import Idealize.ShloMosaic.Lib.ValueLayout
public import Idealize.ShloMosaic.Lib.ValueIdx
@[expose] public section
noncomputable section
namespace Cert.MainIdeal.Hand
open Cert.MainIdeal Cert.MainIdeal.Gen
open Idealize.ShloMosaic Idealize.ShloMosaic.ValueIdx
open scoped BigOperators

/-! # The tiles the matrix units read, in terms of the arrays of the call -/

abbrev WArr : Type := S15x2048x2560.Idx → EReal
abbrev CArr : Type := S15x256x2048.Idx → EReal

/-- The 256×256 tile of chunk `k`'s weights at row `a` and column `b`. -/
def wTile (g3 : WArr) (k : Fin 15) (a b : ℕ) (ha : a + 256 ≤ 2048) (hb : b + 256 ≤ 2560) : Cert.MxuSum.Tile := fun i =>
  g3 (ix3 k (⟨a + (i 0).val, by have := (i 0).isLt; change (i 0).val < 256 at this; omega⟩ : Fin 2048) (⟨b + (i 1).val, by have := (i 1).isLt; change (i 1).val < 256 at this; omega⟩ : Fin 2560))
/-- The 256×256 tile of position `k`'s codes at column `a`. -/
def cTile (g0 : CArr) (k : Fin 15) (a : ℕ) (ha : a + 256 ≤ 2048) : Cert.MxuSum.Tile := fun i =>
  g0 (ix3 k (⟨(i 0).val, (i 0).isLt⟩ : Fin 256) (⟨a + (i 1).val, by have := (i 1).isLt; change (i 1).val < 256 at this; omega⟩ : Fin 2048))

theorem ix2_exists (i : S256x256.Idx) : ∃ r n : Fin 256, i = ix2 r n := ⟨i 0, i 1, by funext x; fin_cases x <;> rfl⟩

/-- A read of the codes' buffer after the copy of the codes filled it. -/
theorem read_codes {g9 : S15x256x2048.Idx → EReal} {g0 : CArr} (k : Fin 15) (a : ℕ) (ha : a + 256 ≤ 2048 := by decide)
    {h : ∀ x, (![k.val, 0, a] : Fin 3 → ℕ) x + S1x256x256.size x ≤ S15x256x2048.size x} {hs : S1x256x256.ShapeCasts S256x256} {he} :
    (extf (F := Ideal) (φ := .fp8e4m3) .bf16 (shapeCast S256x256 (View.readAt (Elt Ideal) (Memref.whole cc0_scratch0).view (Rect.unit (s := S15x256x2048) ![k.val, 0, a] S1x256x256.size h).toLoadRect
      (View.write (Elt Ideal) (Memref.whole cc0_scratch0).view g9 (ReadAs.same.apply (View.read (Elt Ideal) (Memref.whole main_arg0).view g0)) Finset.univ)) hs) he : Cert.MxuSum.Tile)
      = cTile g0 k a ha := by
  funext i
  obtain ⟨r, n, rfl⟩ := ix2_exists i
  rw [ValueIdx.extf_apply]; unfold shapeCast
  rw [reshapeEquiv_ix2_1ab, View.readAt_apply, View.read_apply]
  have e : (View.write (Elt Ideal) (Memref.whole cc0_scratch0).view g9 (ReadAs.same.apply (View.read (Elt Ideal) (Memref.whole main_arg0).view g0)) Finset.univ) = g0 := by
    exact View.write_whole_univ _ _ _
  rw [e]
  show g0 _ = g0 _
  congr 1
  funext x; fin_cases x <;> apply Fin.ext
  · show k.val + (1 * 0) = k.val; omega
  · show 0 + 1 * r.val = r.val; omega
  · show a + 1 * n.val = a + n.val; omega

theorem whole_emb {s : Shape} (x : s.Idx) : (Rect.whole s).emb x = x := funext fun a => Fin.ext (by
  show 0 + 1 * (x a).val = (x a).val; omega)

/-- Chunk `k`'s weights as its copy reads them. -/
abbrev wSrc (k : ℕ) (hk : ∀ x, (![k, 0, 0] : Fin 3 → ℕ) x + S1x2048x2048.size x ≤ S15x2048x2560.size x) : Memref sig .tc .hbm S2048x2048 .fp8e4m3 :=
  ((Memref.whole main_arg2).slice (Rect.unit (s := S15x2048x2560) ![k, 0, 0] S1x2048x2048.size hk) (fun _ => rfl)).squeeze S2048x2048 squeezes_S1x2048x2048_S2048x2048

theorem slot_emb (s : ℕ) (a b : ℕ) (ha : a + 256 ≤ 2048) (hb : b + 256 ≤ 2048) (hs0)
    (h : ∀ x, (![s, a, b] : Fin 3 → ℕ) x + S1x256x256.size x ≤ S8x2048x2048.size x) (r n : Fin 256) :
    (Memref.whole cc0_scratch6).view.emb ((Rect.unit (s := S8x2048x2048) ![s, a, b] S1x256x256.size h).toLoadRect.idx (ix3 (⟨0, Nat.one_pos⟩ : Fin 1) r n))
      = ((slotM ringM s hs0).view.slice (Rect.whole S2048x2048)).emb (ix2 (⟨a + r.val, by omega⟩ : Fin 2048) (⟨b + n.val, by omega⟩ : Fin 2048)) := by
  have e2 : ((slotM ringM s hs0).view.slice (Rect.whole S2048x2048)).emb (ix2 (⟨a + r.val, by omega⟩ : Fin 2048) (⟨b + n.val, by omega⟩ : Fin 2048))
      = (Rect.unit (s := S8x2048x2048) ![s, 0, 0] S1x2048x2048.size hs0).emb (ix3 (⟨0, Nat.one_pos⟩ : Fin 1) (⟨a + r.val, by omega⟩ : Fin 2048) (⟨b + n.val, by omega⟩ : Fin 2048)) := by
    show (Rect.unit (s := S8x2048x2048) ![s, 0, 0] S1x2048x2048.size hs0).emb (Shape.reshapeEquiv _ ((Rect.whole S2048x2048).emb _)) = _
    rw [whole_emb]
    congr 1
    exact reshapeEquiv_ix2_1ab _ _ _
  rw [e2]
  funext x; fin_cases x <;> apply Fin.ext
  · show s + (1 * 0) = s + 1 * 0; rfl
  · show a + 1 * r.val = 0 + 1 * (a + r.val); omega
  · show b + 1 * n.val = 0 + 1 * (b + n.val); omega

/-- A read of a tile of a ring slot after the copy of chunk `k` filled it. -/
theorem read_slot {g3 : WArr} (s : ℕ) (k : Fin 15) (a b : ℕ) (ha : a + 256 ≤ 2048 := by decide) (hb : b + 256 ≤ 2048 := by decide) {hs0}
    {G : (slotM ringM s hs0).view.ty.Contents (Elt Ideal)}
    {h : ∀ x, (![s, a, b] : Fin 3 → ℕ) x + S1x256x256.size x ≤ S8x2048x2048.size x}
    {hk : ∀ x, (![k.val, 0, 0] : Fin 3 → ℕ) x + S1x2048x2048.size x ≤ S15x2048x2560.size x}
    {L : List (View.Piece (Elt Ideal) S2048x2048 .fp8e4m3)} {hs : S1x256x256.ShapeCasts S256x256} {he} :
    (extf (F := Ideal) (φ := .fp8e4m3) .bf16 (shapeCast S256x256 (View.readAt (Elt Ideal) (Memref.whole cc0_scratch6).view (Rect.unit (s := S8x2048x2048) ![s, a, b] S1x256x256.size h).toLoadRect
      ((slotM ringM s hs0).view.writes (Elt Ideal) G (⟨Rect.whole S2048x2048, ReadAs.same.apply (View.read (Elt Ideal) (wSrc k.val hk).view g3)⟩ :: L))) hs) he : Cert.MxuSum.Tile)
      = wTile g3 k a b ha (by omega) := by
  funext i
  obtain ⟨r, n, rfl⟩ := ix2_exists i
  rw [ValueIdx.extf_apply]; unfold shapeCast
  rw [reshapeEquiv_ix2_1ab, View.readAt_apply, View.read_apply, View.writes_cons]
  rw [slot_emb s a b ha hb hs0, View.write_emb_of_mem _ _ (Finset.mem_univ _)]
  show View.read (Elt Ideal) (wSrc k.val hk).view g3 _ = _
  rw [View.read_apply]
  show g3 ((Rect.unit (s := S15x2048x2560) ![k.val, 0, 0] S1x2048x2048.size hk).emb (Shape.reshapeEquiv _ _)) = g3 _
  rw [reshapeEquiv_ix2_1ab]
  congr 1
  funext x; fin_cases x <;> apply Fin.ext
  · show k.val + 1 * 0 = k.val; omega
  · show 0 + 1 * (a + r.val) = a + r.val; omega
  · show 0 + 1 * (b + n.val) = b + n.val; omega

/-- A 512×512 block of chunk `k`'s weights as its copy reads it. -/
abbrev wSrcW (k r c : ℕ) (hk : ∀ x, (![k, r, c] : Fin 3 → ℕ) x + S1x512x512.size x ≤ S15x2048x2560.size x) : Memref sig .tc .hbm S512x512 .fp8e4m3 :=
  ((Memref.whole main_arg2).slice (Rect.unit (s := S15x2048x2560) ![k, r, c] S1x512x512.size hk) (fun _ => rfl)).squeeze S512x512 squeezes_S1x512x512_S512x512

theorem win_emb (s r0 c0 : ℕ) (a b : ℕ) (ha : a + 256 ≤ 512) (hb : b + 256 ≤ 512) (hs0)
    (h : ∀ x, (![s, r0 + a, c0 + b] : Fin 3 → ℕ) x + S1x256x256.size x ≤ S8x2048x2048.size x) (r n : Fin 256) :
    (Memref.whole cc0_scratch6).view.emb ((Rect.unit (s := S8x2048x2048) ![s, r0 + a, c0 + b] S1x256x256.size h).toLoadRect.idx (ix3 (⟨0, Nat.one_pos⟩ : Fin 1) r n))
      = ((winM s r0 c0 hs0).view.slice (Rect.whole S512x512)).emb (ix2 (⟨a + r.val, by omega⟩ : Fin 512) (⟨b + n.val, by omega⟩ : Fin 512)) := by
  have e2 : ((winM s r0 c0 hs0).view.slice (Rect.whole S512x512)).emb (ix2 (⟨a + r.val, by omega⟩ : Fin 512) (⟨b + n.val, by omega⟩ : Fin 512))
      = (Rect.unit (s := S8x2048x2048) ![s, r0, c0] S1x512x512.size hs0).emb (ix3 (⟨0, Nat.one_pos⟩ : Fin 1) (⟨a + r.val, by omega⟩ : Fin 512) (⟨b + n.val, by omega⟩ : Fin 512)) := by
    show (Rect.unit (s := S8x2048x2048) ![s, r0, c0] S1x512x512.size hs0).emb (Shape.reshapeEquiv _ ((Rect.whole S512x512).emb _)) = _
    rw [whole_emb]
    congr 1
    exact reshapeEquiv_ix2_1ab _ _ _
  rw [e2]
  funext x; fin_cases x <;> apply Fin.ext
  · show s + (1 * 0) = s + 1 * 0; rfl
  · show r0 + a + 1 * r.val = r0 + 1 * (a + r.val); omega
  · show c0 + b + 1 * n.val = c0 + 1 * (b + n.val); omega

/-- A read of a tile of a ring slot's window after the copy of a 512×512 block of chunk `k` filled it. -/
theorem read_win {g3 : WArr} (s r0 c0 : ℕ) (k : Fin 15) (r1 c1 a b : ℕ) (ha : a + 256 ≤ 512 := by decide) (hb : b + 256 ≤ 512 := by decide) (hr : r1 + 512 ≤ 2048 := by decide) (hc : c1 + 512 ≤ 2560 := by decide) {hs0}
    {G : (winM s r0 c0 hs0).view.ty.Contents (Elt Ideal)}
    {h : ∀ x, (![s, r0 + a, c0 + b] : Fin 3 → ℕ) x + S1x256x256.size x ≤ S8x2048x2048.size x}
    {hk : ∀ x, (![k.val, r1, c1] : Fin 3 → ℕ) x + S1x512x512.size x ≤ S15x2048x2560.size x}
    {L : List (View.Piece (Elt Ideal) S512x512 .fp8e4m3)} {hs : S1x256x256.ShapeCasts S256x256} {he} :
    (extf (F := Ideal) (φ := .fp8e4m3) .bf16 (shapeCast S256x256 (View.readAt (Elt Ideal) (Memref.whole cc0_scratch6).view (Rect.unit (s := S8x2048x2048) ![s, r0 + a, c0 + b] S1x256x256.size h).toLoadRect
      ((winM s r0 c0 hs0).view.writes (Elt Ideal) G (⟨Rect.whole S512x512, ReadAs.same.apply (View.read (Elt Ideal) (wSrcW k.val r1 c1 hk).view g3)⟩ :: L))) hs) he : Cert.MxuSum.Tile)
      = wTile g3 k (r1 + a) (c1 + b) (by omega) (by omega) := by
  funext i
  obtain ⟨r, n, rfl⟩ := ix2_exists i
  rw [ValueIdx.extf_apply]; unfold shapeCast
  rw [reshapeEquiv_ix2_1ab, View.readAt_apply, View.read_apply, View.writes_cons]
  rw [win_emb s r0 c0 a b ha hb hs0, View.write_emb_of_mem _ _ (Finset.mem_univ _)]
  show View.read (Elt Ideal) (wSrcW k.val r1 c1 hk).view g3 _ = _
  rw [View.read_apply]
  show g3 ((Rect.unit (s := S15x2048x2560) ![k.val, r1, c1] S1x512x512.size hk).emb (Shape.reshapeEquiv _ _)) = g3 _
  rw [reshapeEquiv_ix2_1ab]
  congr 1
  funext x; fin_cases x <;> apply Fin.ext
  · show k.val + 1 * 0 = k.val; omega
  · show r1 + 1 * (a + r.val) = r1 + a + r.val; omega
  · show c1 + 1 * (b + n.val) = c1 + b + n.val; omega

end Cert.MainIdeal.Hand
end
-- ==== Proof.MainIdeal.Acc.lean ====
module
public import proofs.«01_k».proof.Proof.MainIdeal.Tiles
@[expose] public section
noncomputable section
namespace Cert.MainIdeal.Hand
open Cert.MainIdeal Cert.MainIdeal.Gen Cert.MxuSum
open Idealize.ShloMosaic Idealize.ShloMosaic.ValueIdx
open scoped BigOperators

/-! # The partial sums after a number of push-and-accumulate steps -/

/-- The steps' positions in their run: one more step adds its own term. -/
theorem sum_lt_succ {ι : Type} [Fintype ι] [DecidableEq ι] (f : ι → ℕ) (hf : Function.Injective f) (g : ι → EReal) (p0 : ι) :
    (∑ p, if f p < f p0 + 1 then g p else 0) = (∑ p, if f p < f p0 then g p else 0) + g p0 := by
  have e : ∀ p, (if f p < f p0 + 1 then g p else 0) = (if f p < f p0 then g p else 0) + (if p = p0 then g p else 0) := by
    intro p
    by_cases h : p = p0
    · subst h; simp
    · have hne : f p ≠ f p0 := fun h' => h (hf h')
      rw [if_neg h, add_zero]
      congr 1
      exact propext ⟨fun h' => by omega, fun h' => by omega⟩
  rw [Finset.sum_congr rfl (fun p _ => e p), Finset.sum_add_distrib]
  congr 1
  rw [Finset.sum_ite_eq' Finset.univ p0 g]; simp

theorem sum_lt_skip {ι : Type} [Fintype ι] (f : ι → ℕ) (g : ι → EReal) (t : ℕ) (h : ∀ p, f p ≠ t) :
    (∑ p, if f p < t + 1 then g p else 0) = (∑ p, if f p < t then g p else 0) := by
  refine Finset.sum_congr rfl fun p _ => ?_
  congr 1
  have := h p
  exact propext ⟨fun h' => by omega, fun h' => by omega⟩

/-- Position `k` and column block `kt` of the sum at column block `n` of the weights. -/
def term (g0 : CArr) (g3 : WArr) (n : Fin 10) (p : Fin 15 × Fin 8) (i : S256x256.Idx) : EReal :=
  ∑ x : Fin 256, cTile g0 p.1 (256 * p.2.val) (by omega) (ix2 (i 0) x) * wTile g3 p.1 (256 * p.2.val) (256 * n.val) (by omega) (by omega) (ix2 x (i 1))

/-- The column block unit `q` accumulates at position `j` in the first loop. -/
abbrev colM (q : Fin 2) (j : Fin 4) : Fin 10 := ⟨2 * j.val + q.val, by omega⟩
abbrev colT (q : Fin 2) : Fin 10 := ⟨8 + q.val, by omega⟩

/-- The accumulators after `t` steps of the first loop. -/
def accM (g0 : CArr) (g3 : WArr) (t : ℕ) : Fin 2 → Fin 4 → Acc := fun q j i =>
  ∑ p : Fin 15 × Fin 8, if 64 * p.1.val + 8 * p.2.val + 2 * j.val + q.val < t then term g0 g3 (colM q j) p i else 0

theorem accM_zero (g0 : CArr) (g3 : WArr) : accM g0 g3 0 = fun _ _ _ => 0 := by
  funext q j i; simp [accM]

theorem holdsM_init (g0 : CArr) (g3 : WArr) : Holds Mxu.init (accM g0 g3 0) := by rw [accM_zero]; exact holds_init

theorem stepM {g0 : CArr} {g3 : WArr} (k : Fin 15) (kt : Fin 8) (j : Fin 4) (q r : Fin 2) {s : Mxu Ideal} {v l : Tile}
    (h : Holds s (accM g0 g3 (64 * k.val + 8 * kt.val + 2 * j.val + q.val)))
    (hv : v = wTile g3 k (256 * kt.val) (256 * (colM q j).val) (by omega) (by omega)) (hl : l = cTile g0 k (256 * kt.val) (by omega)) :
    Holds ((s.pushed q r false v).accLhs q r (64 * j.val) l (fits j)) (accM g0 g3 (64 * k.val + 8 * kt.val + 2 * j.val + q.val + 1)) := by
  have h' := h.step q r j v l
  have e : upd (accM g0 g3 (64 * k.val + 8 * kt.val + 2 * j.val + q.val)) q j v l = accM g0 g3 (64 * k.val + 8 * kt.val + 2 * j.val + q.val + 1) := by
    funext q' j' i
    unfold upd
    by_cases c : q' = q ∧ j' = j
    · obtain ⟨rfl, rfl⟩ := c
      rw [if_pos ⟨rfl, rfl⟩]
      exact ((sum_lt_succ (fun p : Fin 15 × Fin 8 => 64 * p.1.val + 8 * p.2.val + 2 * j'.val + q'.val) (fun a b hab => by
        have hab : 64 * a.1.val + 8 * a.2.val + 2 * j'.val + q'.val = 64 * b.1.val + 8 * b.2.val + 2 * j'.val + q'.val := hab
        ext <;> omega) (fun p => term g0 g3 (colM q' j') p i) (k, kt)).trans (by rw [hv, hl]; rfl)).symm
    · rw [if_neg c]
      refine (sum_lt_skip (fun p : Fin 15 × Fin 8 => 64 * p.1.val + 8 * p.2.val + 2 * j'.val + q'.val) (fun p => term g0 g3 (colM q' j') p i) _ ?_).symm
      intro p hp
      refine c ⟨?_, ?_⟩
      · ext; omega
      · ext; omega
  rw [e] at h'
  exact h'

/-- The accumulators after the first `n` of the eight blocks were taken out. -/
def accP (g0 : CArr) (g3 : WArr) (n : ℕ) : Fin 2 → Fin 4 → Acc := fun q j i => if 2 * j.val + q.val < n then 0 else accM g0 g3 960 q j i

theorem holdsP_init {g0 : CArr} {g3 : WArr} {s : Mxu Ideal} (h : Holds s (accM g0 g3 960)) : Holds s (accP g0 g3 0) := h
theorem stepP {g0 : CArr} {g3 : WArr} (q : Fin 2) (j : Fin 4) {s : Mxu Ideal} (h : Holds s (accP g0 g3 (2 * j.val + q.val))) :
    Holds (s.pop q (64 * j.val) 256 (fits j)) (accP g0 g3 (2 * j.val + q.val + 1)) := by
  have h' := h.pop q j
  have e : (fun q' j' i => if q' = q ∧ j' = j then 0 else accP g0 g3 (2 * j.val + q.val) q' j' i) = accP g0 g3 (2 * j.val + q.val + 1) := by
    funext q' j' i
    unfold accP
    by_cases c : q' = q ∧ j' = j
    · obtain ⟨rfl, rfl⟩ := c
      rw [if_pos ⟨rfl, rfl⟩, if_pos (by omega)]
    · rw [if_neg c]
      have hc : 2 * j'.val + q'.val ≠ 2 * j.val + q.val := fun hp => c ⟨by ext; omega, by ext; omega⟩
      congr 1
      exact propext ⟨fun h' => by omega, fun h' => by omega⟩
  rw [e] at h'
  exact h'
theorem readP {g0 : CArr} {g3 : WArr} (q : Fin 2) (j : Fin 4) {s : Mxu Ideal} (h : Holds s (accP g0 g3 (2 * j.val + q.val))) :
    s.read q (64 * j.val) (fits j) = accM g0 g3 960 q j := by
  rw [h.val]; funext i; unfold accP; rw [if_neg (by omega)]

/-- The accumulators after `t` steps of the second loop. -/
def accT (g0 : CArr) (g3 : WArr) (t : ℕ) : Fin 2 → Fin 4 → Acc := fun q j i =>
  if j = 0 then ∑ p : Fin 15 × Fin 8, if 16 * p.1.val + 2 * p.2.val + q.val < t then term g0 g3 (colT q) p i else 0 else 0

theorem holdsT_init {g0 : CArr} {g3 : WArr} {s : Mxu Ideal} (h : Holds s (accP g0 g3 8)) : Holds s (accT g0 g3 0) := by
  have e : accP g0 g3 8 = accT g0 g3 0 := by
    funext q j i; unfold accP accT; rw [if_pos (by omega)]; simp
  rw [← e]; exact h

theorem stepT {g0 : CArr} {g3 : WArr} (k : Fin 15) (kt : Fin 8) (q r : Fin 2) {s : Mxu Ideal} {v l : Tile}
    (h : Holds s (accT g0 g3 (16 * k.val + 2 * kt.val + q.val)))
    (hv : v = wTile g3 k (256 * kt.val) (256 * (colT q).val) (by omega) (by omega)) (hl : l = cTile g0 k (256 * kt.val) (by omega)) :
    Holds ((s.pushed q r false v).accLhs q r (64 * (0 : Fin 4).val) l (fits 0)) (accT g0 g3 (16 * k.val + 2 * kt.val + q.val + 1)) := by
  have h' := h.step q r 0 v l
  have e : upd (accT g0 g3 (16 * k.val + 2 * kt.val + q.val)) q 0 v l = accT g0 g3 (16 * k.val + 2 * kt.val + q.val + 1) := by
    funext q' j' i
    unfold upd
    by_cases c : q' = q ∧ j' = 0
    · obtain ⟨rfl, rfl⟩ := c
      rw [if_pos ⟨rfl, rfl⟩]
      unfold accT
      rw [if_pos rfl, if_pos rfl]
      exact ((sum_lt_succ (fun p : Fin 15 × Fin 8 => 16 * p.1.val + 2 * p.2.val + q'.val) (fun a b hab => by
        have hab : 16 * a.1.val + 2 * a.2.val + q'.val = 16 * b.1.val + 2 * b.2.val + q'.val := hab
        ext <;> omega) (fun p => term g0 g3 (colT q') p i) (k, kt)).trans (by rw [hv, hl]; rfl)).symm
    · rw [if_neg c]
      unfold accT
      by_cases hj : j' = 0
      · rw [if_pos hj, if_pos hj]
        refine (sum_lt_skip (fun p : Fin 15 × Fin 8 => 16 * p.1.val + 2 * p.2.val + q'.val) (fun p => term g0 g3 (colT q') p i) _ ?_).symm
        intro p hp
        refine c ⟨?_, hj⟩
        ext; omega
      · rw [if_neg hj, if_neg hj]
  rw [e] at h'
  exact h'

theorem accM_full (g0 : CArr) (g3 : WArr) (q : Fin 2) (j : Fin 4) : accM g0 g3 960 q j = fun i => ∑ p : Fin 15 × Fin 8, term g0 g3 (colM q j) p i := by
  funext i; unfold accM; exact Finset.sum_congr rfl fun p _ => if_pos (by omega)
theorem accT_full (g0 : CArr) (g3 : WArr) (q : Fin 2) : accT g0 g3 240 q 0 = fun i => ∑ p : Fin 15 × Fin 8, term g0 g3 (colT q) p i := by
  funext i; unfold accT; rw [if_pos rfl]; exact Finset.sum_congr rfl fun p _ => if_pos (by omega)

end Cert.MainIdeal.Hand
end
-- ==== Proof.MainIdeal.Chain1.lean ====
module
public import proofs.«01_k».proof.Proof.MainIdeal.Run
public import proofs.«01_k».proof.Proof.MainIdeal.Acc
@[expose] public section
noncomputable section
namespace Cert.MainIdeal.Hand.bodyRun.sl
open Cert.MainIdeal Cert.MainIdeal.Gen Cert.MxuSum
open Idealize.ShloMosaic Idealize.ShloMosaic.ValueIdx
open scoped BigOperators

/-! # The matrix units' accumulators, step by step through the kernel's run -/

/-- A value of the run: a function of the device and of the arrays the run starts from. -/
abbrev Of (α : Type) : Type := (c : Dev nD) → Buf (Elt Ideal) ((c.tc : Thread nD τ).loc main_arg0) → Buf (Elt Ideal) ((c.tc : Thread nD τ).loc main_arg2) → Buf (Elt Ideal) ((c.tc : Thread nD τ).loc cc0_scratch0) → α

/-- The matrix units `f` hold the first `t` products of the sum. -/
def At (f : Of (Mxu Ideal)) (t : ℕ) : Prop := ∀ c g0 g3 g9, Holds (f c g0 g3 g9) (accM g0 g3 t)

/-- One step: a tile of the weights is pushed from kernel position `k`'s slot of the ring, and multiplied by a tile of the codes. -/
theorem st {f : Of (Mxu Ideal)} (k : Fin 15) (kt : Fin 8) (j : Fin 4) (q r : Fin 2) (h : At f (64 * k.val + 8 * kt.val + 2 * j.val + q.val)) {hs0}
    {G : Of ((slotM ringM (k.val % 8) hs0).view.ty.Contents (Elt Ideal))} {L : Of (List (View.Piece (Elt Ideal) S2048x2048 .fp8e4m3))}
    {h1 : ∀ x, (![k.val % 8, 256 * kt.val, 256 * (2 * j.val + q.val)] : Fin 3 → ℕ) x + S1x256x256.size x ≤ S8x2048x2048.size x}
    {hk : ∀ x, (![k.val, 0, 0] : Fin 3 → ℕ) x + S1x2048x2048.size x ≤ S15x2048x2560.size x} {hs : S1x256x256.ShapeCasts S256x256} {he : FTy.bits .fp8e4m3 < FTy.bits .bf16}
    {h2 : ∀ x, (![k.val, 0, 256 * kt.val] : Fin 3 → ℕ) x + S1x256x256.size x ≤ S15x256x2048.size x} {hs' : S1x256x256.ShapeCasts S256x256} {he' : FTy.bits .fp8e4m3 < FTy.bits .bf16} {fit} :
    At (fun c g0 g3 g9 => ((f c g0 g3 g9).pushed q r false
        (extf (F := Ideal) (φ := .fp8e4m3) .bf16 (shapeCast S256x256 (View.readAt (Elt Ideal) (Memref.whole cc0_scratch6).view (Rect.unit (s := S8x2048x2048) ![k.val % 8, 256 * kt.val, 256 * (2 * j.val + q.val)] S1x256x256.size h1).toLoadRect
          ((slotM ringM (k.val % 8) hs0).view.writes (Elt Ideal) (G c g0 g3 g9) (⟨Rect.whole S2048x2048, ReadAs.same.apply (View.read (Elt Ideal) (wSrc k.val hk).view g3)⟩ :: L c g0 g3 g9))) hs) he)).accLhs q r (64 * j.val)
        (extf (F := Ideal) (φ := .fp8e4m3) .bf16 (shapeCast S256x256 (View.readAt (Elt Ideal) (Memref.whole cc0_scratch0).view (Rect.unit (s := S15x256x2048) ![k.val, 0, 256 * kt.val] S1x256x256.size h2).toLoadRect
          (View.write (Elt Ideal) (Memref.whole cc0_scratch0).view g9 (ReadAs.same.apply (View.read (Elt Ideal) (Memref.whole main_arg0).view g0)) Finset.univ)) hs') he') fit)
      (64 * k.val + 8 * kt.val + 2 * j.val + q.val + 1) := fun c g0 g3 g9 =>
  stepM k kt j q r (h c g0 g3 g9) (read_slot (k.val % 8) k (256 * kt.val) (256 * (2 * j.val + q.val)) (by omega) (by omega)) (read_codes k (256 * kt.val) (by omega))

theorem a0 : At (fun _ _ _ _ => Mxu.init) 0 := fun _ g0 g3 _ => holdsM_init g0 g3
theorem a1 : At k0_mxu5 1 := st 0 0 0 0 0 a0
theorem a2 : At k0_mxu7 2 := st 0 0 0 1 0 a1
theorem a3 : At k0_mxu9 3 := st 0 0 1 0 1 a2
theorem a4 : At k0_mxu11 4 := st 0 0 1 1 1 a3
theorem a5 : At k0_mxu13 5 := st 0 0 2 0 0 a4
theorem a6 : At k0_mxu15 6 := st 0 0 2 1 0 a5
theorem a7 : At k0_mxu17 7 := st 0 0 3 0 1 a6
theorem a8 : At k0_mxu19 8 := st 0 0 3 1 1 a7
theorem a9 : At k0_mxu21 9 := st 0 1 0 0 0 a8
theorem a10 : At k0_mxu23 10 := st 0 1 0 1 0 a9
theorem a11 : At k0_mxu25 11 := st 0 1 1 0 1 a10
theorem a12 : At k0_mxu27 12 := st 0 1 1 1 1 a11
theorem a13 : At k0_mxu29 13 := st 0 1 2 0 0 a12
theorem a14 : At k0_mxu31 14 := st 0 1 2 1 0 a13
theorem a15 : At k0_mxu33 15 := st 0 1 3 0 1 a14
theorem a16 : At k0_mxu35 16 := st 0 1 3 1 1 a15
theorem a17 : At k0_mxu37 17 := st 0 2 0 0 0 a16
theorem a18 : At k0_mxu39 18 := st 0 2 0 1 0 a17
theorem a19 : At k0_mxu41 19 := st 0 2 1 0 1 a18
theorem a20 : At k0_mxu43 20 := st 0 2 1 1 1 a19
theorem a21 : At k0_mxu45 21 := fun c g0 g3 g9 => stepM 0 2 2 0 0 (a20 c g0 g3 g9) (by delta k0_pay45 r_24 k0_pay44; exact read_slot 0 0 512 1024) (read_codes 0 512)
theorem a22 : At k0_mxu47 22 := st 0 2 2 1 0 a21
theorem a23 : At k0_mxu49 23 := st 0 2 3 0 1 a22
theorem a24 : At k0_mxu51 24 := st 0 2 3 1 1 a23
theorem a25 : At k0_mxu53 25 := st 0 3 0 0 0 a24
theorem a26 : At k0_mxu55 26 := st 0 3 0 1 0 a25
theorem a27 : At k0_mxu57 27 := st 0 3 1 0 1 a26
theorem a28 : At k0_mxu59 28 := st 0 3 1 1 1 a27
theorem a29 : At k0_mxu61 29 := st 0 3 2 0 0 a28
theorem a30 : At k0_mxu63 30 := st 0 3 2 1 0 a29
theorem a31 : At k0_mxu65 31 := st 0 3 3 0 1 a30
theorem a32 : At k0_mxu67 32 := st 0 3 3 1 1 a31
theorem a33 : At k0_mxu69 33 := st 0 4 0 0 0 a32
theorem a34 : At k0_mxu71 34 := st 0 4 0 1 0 a33
theorem a35 : At k0_mxu73 35 := st 0 4 1 0 1 a34
theorem a36 : At k0_mxu75 36 := st 0 4 1 1 1 a35
theorem a37 : At k0_mxu77 37 := st 0 4 2 0 0 a36
theorem a38 : At k0_mxu79 38 := st 0 4 2 1 0 a37
theorem a39 : At k0_mxu81 39 := st 0 4 3 0 1 a38
theorem a40 : At k0_mxu83 40 := st 0 4 3 1 1 a39
theorem a41 : At k0_mxu85 41 := st 0 5 0 0 0 a40
theorem a42 : At k0_mxu87 42 := st 0 5 0 1 0 a41
theorem a43 : At k0_mxu89 43 := st 0 5 1 0 1 a42
theorem a44 : At k0_mxu91 44 := st 0 5 1 1 1 a43
theorem a45 : At k0_mxu93 45 := st 0 5 2 0 0 a44
theorem a46 : At k0_mxu95 46 := fun c g0 g3 g9 => stepM 0 5 2 1 0 (a45 c g0 g3 g9) (by delta k0_pay99 r_54 k0_pay98; exact read_slot 0 0 1280 1280) (read_codes 0 1280)
theorem a47 : At k0_mxu97 47 := st 0 5 3 0 1 a46
theorem a48 : At k0_mxu99 48 := st 0 5 3 1 1 a47
theorem a49 : At k0_mxu101 49 := st 0 6 0 0 0 a48
theorem a50 : At k0_mxu103 50 := st 0 6 0 1 0 a49
theorem a51 : At k0_mxu105 51 := st 0 6 1 0 1 a50
theorem a52 : At k0_mxu107 52 := st 0 6 1 1 1 a51
theorem a53 : At k0_mxu109 53 := st 0 6 2 0 0 a52
theorem a54 : At k0_mxu111 54 := st 0 6 2 1 0 a53
theorem a55 : At k0_mxu113 55 := st 0 6 3 0 1 a54
theorem a56 : At k0_mxu115 56 := st 0 6 3 1 1 a55
theorem a57 : At k0_mxu117 57 := st 0 7 0 0 0 a56
theorem a58 : At k0_mxu119 58 := st 0 7 0 1 0 a57
theorem a59 : At k0_mxu121 59 := st 0 7 1 0 1 a58
theorem a60 : At k0_mxu123 60 := st 0 7 1 1 1 a59
theorem a61 : At k0_mxu125 61 := st 0 7 2 0 0 a60
theorem a62 : At k0_mxu127 62 := st 0 7 2 1 0 a61
theorem a63 : At k0_mxu129 63 := st 0 7 3 0 1 a62
theorem a64 : At k0_mxu131 64 := st 0 7 3 1 1 a63
theorem a65 : At k0_mxu5_1 65 := st 1 0 0 0 0 a64
theorem a66 : At k0_mxu7_1 66 := st 1 0 0 1 0 a65
theorem a67 : At k0_mxu9_1 67 := st 1 0 1 0 1 a66
theorem a68 : At k0_mxu11_1 68 := st 1 0 1 1 1 a67
theorem a69 : At k0_mxu13_1 69 := st 1 0 2 0 0 a68
theorem a70 : At k0_mxu15_1 70 := st 1 0 2 1 0 a69
theorem a71 : At k0_mxu17_1 71 := st 1 0 3 0 1 a70
theorem a72 : At k0_mxu19_1 72 := st 1 0 3 1 1 a71
theorem a73 : At k0_mxu21_1 73 := st 1 1 0 0 0 a72
theorem a74 : At k0_mxu23_1 74 := st 1 1 0 1 0 a73
theorem a75 : At k0_mxu25_1 75 := st 1 1 1 0 1 a74
theorem a76 : At k0_mxu27_1 76 := st 1 1 1 1 1 a75
theorem a77 : At k0_mxu29_1 77 := st 1 1 2 0 0 a76
theorem a78 : At k0_mxu31_1 78 := st 1 1 2 1 0 a77
theorem a79 : At k0_mxu33_1 79 := st 1 1 3 0 1 a78
theorem a80 : At k0_mxu35_1 80 := st 1 1 3 1 1 a79
theorem a81 : At k0_mxu37_1 81 := st 1 2 0 0 0 a80
theorem a82 : At k0_mxu39_1 82 := st 1 2 0 1 0 a81
theorem a83 : At k0_mxu41_1 83 := st 1 2 1 0 1 a82
theorem a84 : At k0_mxu43_1 84 := st 1 2 1 1 1 a83
theorem a85 : At k0_mxu45_1 85 := fun c g0 g3 g9 => stepM 1 2 2 0 0 (a84 c g0 g3 g9) (by delta k0_pay45 r_101 k0_pay44; exact read_slot 1 1 512 1024) (read_codes 1 512)
theorem a86 : At k0_mxu47_1 86 := st 1 2 2 1 0 a85
theorem a87 : At k0_mxu49_1 87 := st 1 2 3 0 1 a86
theorem a88 : At k0_mxu51_1 88 := st 1 2 3 1 1 a87
theorem a89 : At k0_mxu53_1 89 := st 1 3 0 0 0 a88
theorem a90 : At k0_mxu55_1 90 := st 1 3 0 1 0 a89
theorem a91 : At k0_mxu57_1 91 := st 1 3 1 0 1 a90
theorem a92 : At k0_mxu59_1 92 := st 1 3 1 1 1 a91
theorem a93 : At k0_mxu61_1 93 := st 1 3 2 0 0 a92
theorem a94 : At k0_mxu63_1 94 := st 1 3 2 1 0 a93
theorem a95 : At k0_mxu65_1 95 := st 1 3 3 0 1 a94
theorem a96 : At k0_mxu67_1 96 := st 1 3 3 1 1 a95
theorem a97 : At k0_mxu69_1 97 := st 1 4 0 0 0 a96
theorem a98 : At k0_mxu71_1 98 := st 1 4 0 1 0 a97
theorem a99 : At k0_mxu73_1 99 := st 1 4 1 0 1 a98
theorem a100 : At k0_mxu75_1 100 := st 1 4 1 1 1 a99
theorem a101 : At k0_mxu77_1 101 := st 1 4 2 0 0 a100
theorem a102 : At k0_mxu79_1 102 := st 1 4 2 1 0 a101
theorem a103 : At k0_mxu81_1 103 := st 1 4 3 0 1 a102
theorem a104 : At k0_mxu83_1 104 := st 1 4 3 1 1 a103
theorem a105 : At k0_mxu85_1 105 := st 1 5 0 0 0 a104
theorem a106 : At k0_mxu87_1 106 := st 1 5 0 1 0 a105
theorem a107 : At k0_mxu89_1 107 := st 1 5 1 0 1 a106
theorem a108 : At k0_mxu91_1 108 := st 1 5 1 1 1 a107
theorem a109 : At k0_mxu93_1 109 := st 1 5 2 0 0 a108
theorem a110 : At k0_mxu95_1 110 := fun c g0 g3 g9 => stepM 1 5 2 1 0 (a109 c g0 g3 g9) (by delta k0_pay99 r_131 k0_pay98; exact read_slot 1 1 1280 1280) (read_codes 1 1280)
theorem a111 : At k0_mxu97_1 111 := st 1 5 3 0 1 a110
theorem a112 : At k0_mxu99_1 112 := st 1 5 3 1 1 a111
theorem a113 : At k0_mxu101_1 113 := st 1 6 0 0 0 a112
theorem a114 : At k0_mxu103_1 114 := st 1 6 0 1 0 a113
theorem a115 : At k0_mxu105_1 115 := st 1 6 1 0 1 a114
theorem a116 : At k0_mxu107_1 116 := st 1 6 1 1 1 a115
theorem a117 : At k0_mxu109_1 117 := st 1 6 2 0 0 a116
theorem a118 : At k0_mxu111_1 118 := st 1 6 2 1 0 a117
theorem a119 : At k0_mxu113_1 119 := st 1 6 3 0 1 a118
theorem a120 : At k0_mxu115_1 120 := st 1 6 3 1 1 a119
theorem a121 : At k0_mxu117_1 121 := st 1 7 0 0 0 a120
theorem a122 : At k0_mxu119_1 122 := st 1 7 0 1 0 a121
theorem a123 : At k0_mxu121_1 123 := st 1 7 1 0 1 a122
theorem a124 : At k0_mxu123_1 124 := st 1 7 1 1 1 a123
theorem a125 : At k0_mxu125_1 125 := st 1 7 2 0 0 a124
theorem a126 : At k0_mxu127_1 126 := st 1 7 2 1 0 a125
theorem a127 : At k0_mxu129_1 127 := st 1 7 3 0 1 a126
theorem a128 : At k0_mxu131_1 128 := st 1 7 3 1 1 a127
theorem a129 : At k0_mxu5_2 129 := st 2 0 0 0 0 a128
theorem a130 : At k0_mxu7_2 130 := st 2 0 0 1 0 a129
theorem a131 : At k0_mxu9_2 131 := st 2 0 1 0 1 a130
theorem a132 : At k0_mxu11_2 132 := st 2 0 1 1 1 a131
theorem a133 : At k0_mxu13_2 133 := st 2 0 2 0 0 a132
theorem a134 : At k0_mxu15_2 134 := st 2 0 2 1 0 a133
theorem a135 : At k0_mxu17_2 135 := st 2 0 3 0 1 a134
theorem a136 : At k0_mxu19_2 136 := st 2 0 3 1 1 a135
theorem a137 : At k0_mxu21_2 137 := st 2 1 0 0 0 a136
theorem a138 : At k0_mxu23_2 138 := st 2 1 0 1 0 a137
theorem a139 : At k0_mxu25_2 139 := st 2 1 1 0 1 a138
theorem a140 : At k0_mxu27_2 140 := st 2 1 1 1 1 a139
theorem a141 : At k0_mxu29_2 141 := st 2 1 2 0 0 a140
theorem a142 : At k0_mxu31_2 142 := st 2 1 2 1 0 a141
theorem a143 : At k0_mxu33_2 143 := st 2 1 3 0 1 a142
theorem a144 : At k0_mxu35_2 144 := st 2 1 3 1 1 a143
theorem a145 : At k0_mxu37_2 145 := st 2 2 0 0 0 a144
theorem a146 : At k0_mxu39_2 146 := st 2 2 0 1 0 a145
theorem a147 : At k0_mxu41_2 147 := st 2 2 1 0 1 a146
theorem a148 : At k0_mxu43_2 148 := st 2 2 1 1 1 a147
theorem a149 : At k0_mxu45_2 149 := fun c g0 g3 g9 => stepM 2 2 2 0 0 (a148 c g0 g3 g9) (by delta k0_pay45 r_178 k0_pay44; exact read_slot 2 2 512 1024) (read_codes 2 512)
theorem a150 : At k0_mxu47_2 150 := st 2 2 2 1 0 a149
theorem a151 : At k0_mxu49_2 151 := st 2 2 3 0 1 a150
theorem a152 : At k0_mxu51_2 152 := st 2 2 3 1 1 a151
theorem a153 : At k0_mxu53_2 153 := st 2 3 0 0 0 a152
theorem a154 : At k0_mxu55_2 154 := st 2 3 0 1 0 a153
theorem a155 : At k0_mxu57_2 155 := st 2 3 1 0 1 a154
theorem a156 : At k0_mxu59_2 156 := st 2 3 1 1 1 a155
theorem a157 : At k0_mxu61_2 157 := st 2 3 2 0 0 a156
theorem a158 : At k0_mxu63_2 158 := st 2 3 2 1 0 a157
theorem a159 : At k0_mxu65_2 159 := st 2 3 3 0 1 a158
theorem a160 : At k0_mxu67_2 160 := st 2 3 3 1 1 a159
theorem a161 : At k0_mxu69_2 161 := st 2 4 0 0 0 a160
theorem a162 : At k0_mxu71_2 162 := st 2 4 0 1 0 a161
theorem a163 : At k0_mxu73_2 163 := st 2 4 1 0 1 a162
theorem a164 : At k0_mxu75_2 164 := st 2 4 1 1 1 a163
theorem a165 : At k0_mxu77_2 165 := st 2 4 2 0 0 a164
theorem a166 : At k0_mxu79_2 166 := st 2 4 2 1 0 a165
theorem a167 : At k0_mxu81_2 167 := st 2 4 3 0 1 a166
theorem a168 : At k0_mxu83_2 168 := st 2 4 3 1 1 a167
theorem a169 : At k0_mxu85_2 169 := st 2 5 0 0 0 a168
theorem a170 : At k0_mxu87_2 170 := st 2 5 0 1 0 a169
theorem a171 : At k0_mxu89_2 171 := st 2 5 1 0 1 a170
theorem a172 : At k0_mxu91_2 172 := st 2 5 1 1 1 a171
theorem a173 : At k0_mxu93_2 173 := st 2 5 2 0 0 a172
theorem a174 : At k0_mxu95_2 174 := fun c g0 g3 g9 => stepM 2 5 2 1 0 (a173 c g0 g3 g9) (by delta k0_pay99 r_208 k0_pay98; exact read_slot 2 2 1280 1280) (read_codes 2 1280)
theorem a175 : At k0_mxu97_2 175 := st 2 5 3 0 1 a174
theorem a176 : At k0_mxu99_2 176 := st 2 5 3 1 1 a175
theorem a177 : At k0_mxu101_2 177 := st 2 6 0 0 0 a176
theorem a178 : At k0_mxu103_2 178 := st 2 6 0 1 0 a177
theorem a179 : At k0_mxu105_2 179 := st 2 6 1 0 1 a178
theorem a180 : At k0_mxu107_2 180 := st 2 6 1 1 1 a179
theorem a181 : At k0_mxu109_2 181 := st 2 6 2 0 0 a180
theorem a182 : At k0_mxu111_2 182 := st 2 6 2 1 0 a181
theorem a183 : At k0_mxu113_2 183 := st 2 6 3 0 1 a182
theorem a184 : At k0_mxu115_2 184 := st 2 6 3 1 1 a183
theorem a185 : At k0_mxu117_2 185 := st 2 7 0 0 0 a184
theorem a186 : At k0_mxu119_2 186 := st 2 7 0 1 0 a185
theorem a187 : At k0_mxu121_2 187 := st 2 7 1 0 1 a186
theorem a188 : At k0_mxu123_2 188 := st 2 7 1 1 1 a187
theorem a189 : At k0_mxu125_2 189 := st 2 7 2 0 0 a188
theorem a190 : At k0_mxu127_2 190 := st 2 7 2 1 0 a189
theorem a191 : At k0_mxu129_2 191 := st 2 7 3 0 1 a190
theorem a192 : At k0_mxu131_2 192 := st 2 7 3 1 1 a191
theorem a193 : At k0_mxu5_3 193 := st 3 0 0 0 0 a192
theorem a194 : At k0_mxu7_3 194 := st 3 0 0 1 0 a193
theorem a195 : At k0_mxu9_3 195 := st 3 0 1 0 1 a194
theorem a196 : At k0_mxu11_3 196 := st 3 0 1 1 1 a195
theorem a197 : At k0_mxu13_3 197 := st 3 0 2 0 0 a196
theorem a198 : At k0_mxu15_3 198 := st 3 0 2 1 0 a197
theorem a199 : At k0_mxu17_3 199 := st 3 0 3 0 1 a198
theorem a200 : At k0_mxu19_3 200 := st 3 0 3 1 1 a199
theorem a201 : At k0_mxu21_3 201 := st 3 1 0 0 0 a200
theorem a202 : At k0_mxu23_3 202 := st 3 1 0 1 0 a201
theorem a203 : At k0_mxu25_3 203 := st 3 1 1 0 1 a202
theorem a204 : At k0_mxu27_3 204 := st 3 1 1 1 1 a203
theorem a205 : At k0_mxu29_3 205 := st 3 1 2 0 0 a204
theorem a206 : At k0_mxu31_3 206 := st 3 1 2 1 0 a205
theorem a207 : At k0_mxu33_3 207 := st 3 1 3 0 1 a206
theorem a208 : At k0_mxu35_3 208 := st 3 1 3 1 1 a207
theorem a209 : At k0_mxu37_3 209 := st 3 2 0 0 0 a208
theorem a210 : At k0_mxu39_3 210 := st 3 2 0 1 0 a209
theorem a211 : At k0_mxu41_3 211 := st 3 2 1 0 1 a210
theorem a212 : At k0_mxu43_3 212 := st 3 2 1 1 1 a211
theorem a213 : At k0_mxu45_3 213 := fun c g0 g3 g9 => stepM 3 2 2 0 0 (a212 c g0 g3 g9) (by delta k0_pay45 r_255 k0_pay44; exact read_slot 3 3 512 1024) (read_codes 3 512)
theorem a214 : At k0_mxu47_3 214 := st 3 2 2 1 0 a213
theorem a215 : At k0_mxu49_3 215 := st 3 2 3 0 1 a214
theorem a216 : At k0_mxu51_3 216 := st 3 2 3 1 1 a215
theorem a217 : At k0_mxu53_3 217 := st 3 3 0 0 0 a216
theorem a218 : At k0_mxu55_3 218 := st 3 3 0 1 0 a217
theorem a219 : At k0_mxu57_3 219 := st 3 3 1 0 1 a218
theorem a220 : At k0_mxu59_3 220 := st 3 3 1 1 1 a219
theorem a221 : At k0_mxu61_3 221 := st 3 3 2 0 0 a220
theorem a222 : At k0_mxu63_3 222 := st 3 3 2 1 0 a221
theorem a223 : At k0_mxu65_3 223 := st 3 3 3 0 1 a222
theorem a224 : At k0_mxu67_3 224 := st 3 3 3 1 1 a223
theorem a225 : At k0_mxu69_3 225 := st 3 4 0 0 0 a224
theorem a226 : At k0_mxu71_3 226 := st 3 4 0 1 0 a225
theorem a227 : At k0_mxu73_3 227 := st 3 4 1 0 1 a226
theorem a228 : At k0_mxu75_3 228 := st 3 4 1 1 1 a227
theorem a229 : At k0_mxu77_3 229 := st 3 4 2 0 0 a228
theorem a230 : At k0_mxu79_3 230 := st 3 4 2 1 0 a229
theorem a231 : At k0_mxu81_3 231 := st 3 4 3 0 1 a230
theorem a232 : At k0_mxu83_3 232 := st 3 4 3 1 1 a231
theorem a233 : At k0_mxu85_3 233 := st 3 5 0 0 0 a232
theorem a234 : At k0_mxu87_3 234 := st 3 5 0 1 0 a233
theorem a235 : At k0_mxu89_3 235 := st 3 5 1 0 1 a234
theorem a236 : At k0_mxu91_3 236 := st 3 5 1 1 1 a235
theorem a237 : At k0_mxu93_3 237 := st 3 5 2 0 0 a236
theorem a238 : At k0_mxu95_3 238 := fun c g0 g3 g9 => stepM 3 5 2 1 0 (a237 c g0 g3 g9) (by delta k0_pay99 r_285 k0_pay98; exact read_slot 3 3 1280 1280) (read_codes 3 1280)
theorem a239 : At k0_mxu97_3 239 := st 3 5 3 0 1 a238
theorem a240 : At k0_mxu99_3 240 := st 3 5 3 1 1 a239
theorem a241 : At k0_mxu101_3 241 := st 3 6 0 0 0 a240
theorem a242 : At k0_mxu103_3 242 := st 3 6 0 1 0 a241
theorem a243 : At k0_mxu105_3 243 := st 3 6 1 0 1 a242
theorem a244 : At k0_mxu107_3 244 := st 3 6 1 1 1 a243
theorem a245 : At k0_mxu109_3 245 := st 3 6 2 0 0 a244
theorem a246 : At k0_mxu111_3 246 := st 3 6 2 1 0 a245
theorem a247 : At k0_mxu113_3 247 := st 3 6 3 0 1 a246
theorem a248 : At k0_mxu115_3 248 := st 3 6 3 1 1 a247
theorem a249 : At k0_mxu117_3 249 := st 3 7 0 0 0 a248
theorem a250 : At k0_mxu119_3 250 := st 3 7 0 1 0 a249
theorem a251 : At k0_mxu121_3 251 := st 3 7 1 0 1 a250
theorem a252 : At k0_mxu123_3 252 := st 3 7 1 1 1 a251
theorem a253 : At k0_mxu125_3 253 := st 3 7 2 0 0 a252
theorem a254 : At k0_mxu127_3 254 := st 3 7 2 1 0 a253
theorem a255 : At k0_mxu129_3 255 := st 3 7 3 0 1 a254
theorem a256 : At k0_mxu131_3 256 := st 3 7 3 1 1 a255
theorem a257 : At k0_mxu5_4 257 := st 4 0 0 0 0 a256
theorem a258 : At k0_mxu7_4 258 := st 4 0 0 1 0 a257
theorem a259 : At k0_mxu9_4 259 := st 4 0 1 0 1 a258
theorem a260 : At k0_mxu11_4 260 := st 4 0 1 1 1 a259
theorem a261 : At k0_mxu13_4 261 := st 4 0 2 0 0 a260
theorem a262 : At k0_mxu15_4 262 := st 4 0 2 1 0 a261
theorem a263 : At k0_mxu17_4 263 := st 4 0 3 0 1 a262
theorem a264 : At k0_mxu19_4 264 := st 4 0 3 1 1 a263
theorem a265 : At k0_mxu21_4 265 := st 4 1 0 0 0 a264
theorem a266 : At k0_mxu23_4 266 := st 4 1 0 1 0 a265
theorem a267 : At k0_mxu25_4 267 := st 4 1 1 0 1 a266
theorem a268 : At k0_mxu27_4 268 := st 4 1 1 1 1 a267
theorem a269 : At k0_mxu29_4 269 := st 4 1 2 0 0 a268
theorem a270 : At k0_mxu31_4 270 := st 4 1 2 1 0 a269
theorem a271 : At k0_mxu33_4 271 := st 4 1 3 0 1 a270
theorem a272 : At k0_mxu35_4 272 := st 4 1 3 1 1 a271
theorem a273 : At k0_mxu37_4 273 := st 4 2 0 0 0 a272
theorem a274 : At k0_mxu39_4 274 := st 4 2 0 1 0 a273
theorem a275 : At k0_mxu41_4 275 := st 4 2 1 0 1 a274
theorem a276 : At k0_mxu43_4 276 := st 4 2 1 1 1 a275
theorem a277 : At k0_mxu45_4 277 := fun c g0 g3 g9 => stepM 4 2 2 0 0 (a276 c g0 g3 g9) (by delta k0_pay45 r_332 k0_pay44; exact read_slot 4 4 512 1024) (read_codes 4 512)
theorem a278 : At k0_mxu47_4 278 := st 4 2 2 1 0 a277
theorem a279 : At k0_mxu49_4 279 := st 4 2 3 0 1 a278
theorem a280 : At k0_mxu51_4 280 := st 4 2 3 1 1 a279
theorem a281 : At k0_mxu53_4 281 := st 4 3 0 0 0 a280
theorem a282 : At k0_mxu55_4 282 := st 4 3 0 1 0 a281
theorem a283 : At k0_mxu57_4 283 := st 4 3 1 0 1 a282
theorem a284 : At k0_mxu59_4 284 := st 4 3 1 1 1 a283
theorem a285 : At k0_mxu61_4 285 := st 4 3 2 0 0 a284
theorem a286 : At k0_mxu63_4 286 := st 4 3 2 1 0 a285
theorem a287 : At k0_mxu65_4 287 := st 4 3 3 0 1 a286
theorem a288 : At k0_mxu67_4 288 := st 4 3 3 1 1 a287
theorem a289 : At k0_mxu69_4 289 := st 4 4 0 0 0 a288
theorem a290 : At k0_mxu71_4 290 := st 4 4 0 1 0 a289
theorem a291 : At k0_mxu73_4 291 := st 4 4 1 0 1 a290
theorem a292 : At k0_mxu75_4 292 := st 4 4 1 1 1 a291
theorem a293 : At k0_mxu77_4 293 := st 4 4 2 0 0 a292
theorem a294 : At k0_mxu79_4 294 := st 4 4 2 1 0 a293
theorem a295 : At k0_mxu81_4 295 := st 4 4 3 0 1 a294
theorem a296 : At k0_mxu83_4 296 := st 4 4 3 1 1 a295
theorem a297 : At k0_mxu85_4 297 := st 4 5 0 0 0 a296
theorem a298 : At k0_mxu87_4 298 := st 4 5 0 1 0 a297
theorem a299 : At k0_mxu89_4 299 := st 4 5 1 0 1 a298
theorem a300 : At k0_mxu91_4 300 := st 4 5 1 1 1 a299
theorem a301 : At k0_mxu93_4 301 := st 4 5 2 0 0 a300
theorem a302 : At k0_mxu95_4 302 := fun c g0 g3 g9 => stepM 4 5 2 1 0 (a301 c g0 g3 g9) (by delta k0_pay99 r_362 k0_pay98; exact read_slot 4 4 1280 1280) (read_codes 4 1280)
theorem a303 : At k0_mxu97_4 303 := st 4 5 3 0 1 a302
theorem a304 : At k0_mxu99_4 304 := st 4 5 3 1 1 a303
theorem a305 : At k0_mxu101_4 305 := st 4 6 0 0 0 a304
theorem a306 : At k0_mxu103_4 306 := st 4 6 0 1 0 a305
theorem a307 : At k0_mxu105_4 307 := st 4 6 1 0 1 a306
theorem a308 : At k0_mxu107_4 308 := st 4 6 1 1 1 a307
theorem a309 : At k0_mxu109_4 309 := st 4 6 2 0 0 a308
theorem a310 : At k0_mxu111_4 310 := st 4 6 2 1 0 a309
theorem a311 : At k0_mxu113_4 311 := st 4 6 3 0 1 a310
theorem a312 : At k0_mxu115_4 312 := st 4 6 3 1 1 a311
theorem a313 : At k0_mxu117_4 313 := st 4 7 0 0 0 a312
theorem a314 : At k0_mxu119_4 314 := st 4 7 0 1 0 a313
theorem a315 : At k0_mxu121_4 315 := st 4 7 1 0 1 a314
theorem a316 : At k0_mxu123_4 316 := st 4 7 1 1 1 a315
theorem a317 : At k0_mxu125_4 317 := st 4 7 2 0 0 a316
theorem a318 : At k0_mxu127_4 318 := st 4 7 2 1 0 a317
theorem a319 : At k0_mxu129_4 319 := st 4 7 3 0 1 a318
theorem a320 : At k0_mxu131_4 320 := st 4 7 3 1 1 a319
theorem a321 : At k0_mxu5_5 321 := st 5 0 0 0 0 a320
theorem a322 : At k0_mxu7_5 322 := st 5 0 0 1 0 a321
theorem a323 : At k0_mxu9_5 323 := st 5 0 1 0 1 a322
theorem a324 : At k0_mxu11_5 324 := st 5 0 1 1 1 a323
theorem a325 : At k0_mxu13_5 325 := st 5 0 2 0 0 a324
theorem a326 : At k0_mxu15_5 326 := st 5 0 2 1 0 a325
theorem a327 : At k0_mxu17_5 327 := st 5 0 3 0 1 a326
theorem a328 : At k0_mxu19_5 328 := st 5 0 3 1 1 a327
theorem a329 : At k0_mxu21_5 329 := st 5 1 0 0 0 a328
theorem a330 : At k0_mxu23_5 330 := st 5 1 0 1 0 a329
theorem a331 : At k0_mxu25_5 331 := st 5 1 1 0 1 a330
theorem a332 : At k0_mxu27_5 332 := st 5 1 1 1 1 a331
theorem a333 : At k0_mxu29_5 333 := st 5 1 2 0 0 a332
theorem a334 : At k0_mxu31_5 334 := st 5 1 2 1 0 a333
theorem a335 : At k0_mxu33_5 335 := st 5 1 3 0 1 a334
theorem a336 : At k0_mxu35_5 336 := st 5 1 3 1 1 a335
theorem a337 : At k0_mxu37_5 337 := st 5 2 0 0 0 a336
theorem a338 : At k0_mxu39_5 338 := st 5 2 0 1 0 a337
theorem a339 : At k0_mxu41_5 339 := st 5 2 1 0 1 a338
theorem a340 : At k0_mxu43_5 340 := st 5 2 1 1 1 a339
theorem a341 : At k0_mxu45_5 341 := fun c g0 g3 g9 => stepM 5 2 2 0 0 (a340 c g0 g3 g9) (by delta k0_pay45 r_409 k0_pay44; exact read_slot 5 5 512 1024) (read_codes 5 512)
theorem a342 : At k0_mxu47_5 342 := st 5 2 2 1 0 a341
theorem a343 : At k0_mxu49_5 343 := st 5 2 3 0 1 a342
theorem a344 : At k0_mxu51_5 344 := st 5 2 3 1 1 a343
theorem a345 : At k0_mxu53_5 345 := st 5 3 0 0 0 a344
theorem a346 : At k0_mxu55_5 346 := st 5 3 0 1 0 a345
theorem a347 : At k0_mxu57_5 347 := st 5 3 1 0 1 a346
theorem a348 : At k0_mxu59_5 348 := st 5 3 1 1 1 a347
theorem a349 : At k0_mxu61_5 349 := st 5 3 2 0 0 a348
theorem a350 : At k0_mxu63_5 350 := st 5 3 2 1 0 a349
theorem a351 : At k0_mxu65_5 351 := st 5 3 3 0 1 a350
theorem a352 : At k0_mxu67_5 352 := st 5 3 3 1 1 a351
theorem a353 : At k0_mxu69_5 353 := st 5 4 0 0 0 a352
theorem a354 : At k0_mxu71_5 354 := st 5 4 0 1 0 a353
theorem a355 : At k0_mxu73_5 355 := st 5 4 1 0 1 a354
theorem a356 : At k0_mxu75_5 356 := st 5 4 1 1 1 a355
theorem a357 : At k0_mxu77_5 357 := st 5 4 2 0 0 a356
theorem a358 : At k0_mxu79_5 358 := st 5 4 2 1 0 a357
theorem a359 : At k0_mxu81_5 359 := st 5 4 3 0 1 a358
theorem a360 : At k0_mxu83_5 360 := st 5 4 3 1 1 a359
theorem a361 : At k0_mxu85_5 361 := st 5 5 0 0 0 a360
theorem a362 : At k0_mxu87_5 362 := st 5 5 0 1 0 a361
theorem a363 : At k0_mxu89_5 363 := st 5 5 1 0 1 a362
theorem a364 : At k0_mxu91_5 364 := st 5 5 1 1 1 a363
theorem a365 : At k0_mxu93_5 365 := st 5 5 2 0 0 a364
theorem a366 : At k0_mxu95_5 366 := fun c g0 g3 g9 => stepM 5 5 2 1 0 (a365 c g0 g3 g9) (by delta k0_pay99 r_439 k0_pay98; exact read_slot 5 5 1280 1280) (read_codes 5 1280)
theorem a367 : At k0_mxu97_5 367 := st 5 5 3 0 1 a366
theorem a368 : At k0_mxu99_5 368 := st 5 5 3 1 1 a367
theorem a369 : At k0_mxu101_5 369 := st 5 6 0 0 0 a368
theorem a370 : At k0_mxu103_5 370 := st 5 6 0 1 0 a369
theorem a371 : At k0_mxu105_5 371 := st 5 6 1 0 1 a370
theorem a372 : At k0_mxu107_5 372 := st 5 6 1 1 1 a371
theorem a373 : At k0_mxu109_5 373 := st 5 6 2 0 0 a372
theorem a374 : At k0_mxu111_5 374 := st 5 6 2 1 0 a373
theorem a375 : At k0_mxu113_5 375 := st 5 6 3 0 1 a374
theorem a376 : At k0_mxu115_5 376 := st 5 6 3 1 1 a375
theorem a377 : At k0_mxu117_5 377 := st 5 7 0 0 0 a376
theorem a378 : At k0_mxu119_5 378 := st 5 7 0 1 0 a377
theorem a379 : At k0_mxu121_5 379 := st 5 7 1 0 1 a378
theorem a380 : At k0_mxu123_5 380 := st 5 7 1 1 1 a379
theorem a381 : At k0_mxu125_5 381 := st 5 7 2 0 0 a380
theorem a382 : At k0_mxu127_5 382 := st 5 7 2 1 0 a381
theorem a383 : At k0_mxu129_5 383 := st 5 7 3 0 1 a382
theorem a384 : At k0_mxu131_5 384 := st 5 7 3 1 1 a383
theorem a385 : At k0_mxu5_6 385 := st 6 0 0 0 0 a384
theorem a386 : At k0_mxu7_6 386 := st 6 0 0 1 0 a385
theorem a387 : At k0_mxu9_6 387 := st 6 0 1 0 1 a386
theorem a388 : At k0_mxu11_6 388 := st 6 0 1 1 1 a387
theorem a389 : At k0_mxu13_6 389 := st 6 0 2 0 0 a388
theorem a390 : At k0_mxu15_6 390 := st 6 0 2 1 0 a389
theorem a391 : At k0_mxu17_6 391 := st 6 0 3 0 1 a390
theorem a392 : At k0_mxu19_6 392 := st 6 0 3 1 1 a391
theorem a393 : At k0_mxu21_6 393 := st 6 1 0 0 0 a392
theorem a394 : At k0_mxu23_6 394 := st 6 1 0 1 0 a393
theorem a395 : At k0_mxu25_6 395 := st 6 1 1 0 1 a394
theorem a396 : At k0_mxu27_6 396 := st 6 1 1 1 1 a395
theorem a397 : At k0_mxu29_6 397 := st 6 1 2 0 0 a396
theorem a398 : At k0_mxu31_6 398 := st 6 1 2 1 0 a397
theorem a399 : At k0_mxu33_6 399 := st 6 1 3 0 1 a398
theorem a400 : At k0_mxu35_6 400 := st 6 1 3 1 1 a399
theorem a401 : At k0_mxu37_6 401 := st 6 2 0 0 0 a400
theorem a402 : At k0_mxu39_6 402 := st 6 2 0 1 0 a401
theorem a403 : At k0_mxu41_6 403 := st 6 2 1 0 1 a402
theorem a404 : At k0_mxu43_6 404 := st 6 2 1 1 1 a403
theorem a405 : At k0_mxu45_6 405 := fun c g0 g3 g9 => stepM 6 2 2 0 0 (a404 c g0 g3 g9) (by delta k0_pay45 r_486 k0_pay44; exact read_slot 6 6 512 1024) (read_codes 6 512)
theorem a406 : At k0_mxu47_6 406 := st 6 2 2 1 0 a405
theorem a407 : At k0_mxu49_6 407 := st 6 2 3 0 1 a406
theorem a408 : At k0_mxu51_6 408 := st 6 2 3 1 1 a407
theorem a409 : At k0_mxu53_6 409 := st 6 3 0 0 0 a408
theorem a410 : At k0_mxu55_6 410 := st 6 3 0 1 0 a409
theorem a411 : At k0_mxu57_6 411 := st 6 3 1 0 1 a410
theorem a412 : At k0_mxu59_6 412 := st 6 3 1 1 1 a411
theorem a413 : At k0_mxu61_6 413 := st 6 3 2 0 0 a412
theorem a414 : At k0_mxu63_6 414 := st 6 3 2 1 0 a413
theorem a415 : At k0_mxu65_6 415 := st 6 3 3 0 1 a414
theorem a416 : At k0_mxu67_6 416 := st 6 3 3 1 1 a415
theorem a417 : At k0_mxu69_6 417 := st 6 4 0 0 0 a416
theorem a418 : At k0_mxu71_6 418 := st 6 4 0 1 0 a417
theorem a419 : At k0_mxu73_6 419 := st 6 4 1 0 1 a418
theorem a420 : At k0_mxu75_6 420 := st 6 4 1 1 1 a419
theorem a421 : At k0_mxu77_6 421 := st 6 4 2 0 0 a420
theorem a422 : At k0_mxu79_6 422 := st 6 4 2 1 0 a421
theorem a423 : At k0_mxu81_6 423 := st 6 4 3 0 1 a422
theorem a424 : At k0_mxu83_6 424 := st 6 4 3 1 1 a423
theorem a425 : At k0_mxu85_6 425 := st 6 5 0 0 0 a424
theorem a426 : At k0_mxu87_6 426 := st 6 5 0 1 0 a425
theorem a427 : At k0_mxu89_6 427 := st 6 5 1 0 1 a426
theorem a428 : At k0_mxu91_6 428 := st 6 5 1 1 1 a427
theorem a429 : At k0_mxu93_6 429 := st 6 5 2 0 0 a428
theorem a430 : At k0_mxu95_6 430 := fun c g0 g3 g9 => stepM 6 5 2 1 0 (a429 c g0 g3 g9) (by delta k0_pay99 r_516 k0_pay98; exact read_slot 6 6 1280 1280) (read_codes 6 1280)
theorem a431 : At k0_mxu97_6 431 := st 6 5 3 0 1 a430
theorem a432 : At k0_mxu99_6 432 := st 6 5 3 1 1 a431
theorem a433 : At k0_mxu101_6 433 := st 6 6 0 0 0 a432
theorem a434 : At k0_mxu103_6 434 := st 6 6 0 1 0 a433
theorem a435 : At k0_mxu105_6 435 := st 6 6 1 0 1 a434
theorem a436 : At k0_mxu107_6 436 := st 6 6 1 1 1 a435
theorem a437 : At k0_mxu109_6 437 := st 6 6 2 0 0 a436
theorem a438 : At k0_mxu111_6 438 := st 6 6 2 1 0 a437
theorem a439 : At k0_mxu113_6 439 := st 6 6 3 0 1 a438
theorem a440 : At k0_mxu115_6 440 := st 6 6 3 1 1 a439
theorem a441 : At k0_mxu117_6 441 := st 6 7 0 0 0 a440
theorem a442 : At k0_mxu119_6 442 := st 6 7 0 1 0 a441
theorem a443 : At k0_mxu121_6 443 := st 6 7 1 0 1 a442
theorem a444 : At k0_mxu123_6 444 := st 6 7 1 1 1 a443
theorem a445 : At k0_mxu125_6 445 := st 6 7 2 0 0 a444
theorem a446 : At k0_mxu127_6 446 := st 6 7 2 1 0 a445
theorem a447 : At k0_mxu129_6 447 := st 6 7 3 0 1 a446
theorem a448 : At k0_mxu131_6 448 := st 6 7 3 1 1 a447
theorem a449 : At k0_mxu5_7 449 := st 7 0 0 0 0 a448
theorem a450 : At k0_mxu7_7 450 := st 7 0 0 1 0 a449
theorem a451 : At k0_mxu9_7 451 := st 7 0 1 0 1 a450
theorem a452 : At k0_mxu11_7 452 := st 7 0 1 1 1 a451
theorem a453 : At k0_mxu13_7 453 := st 7 0 2 0 0 a452
theorem a454 : At k0_mxu15_7 454 := st 7 0 2 1 0 a453
theorem a455 : At k0_mxu17_7 455 := st 7 0 3 0 1 a454
theorem a456 : At k0_mxu19_7 456 := st 7 0 3 1 1 a455
theorem a457 : At k0_mxu21_7 457 := st 7 1 0 0 0 a456
theorem a458 : At k0_mxu23_7 458 := st 7 1 0 1 0 a457
theorem a459 : At k0_mxu25_7 459 := st 7 1 1 0 1 a458
theorem a460 : At k0_mxu27_7 460 := st 7 1 1 1 1 a459
theorem a461 : At k0_mxu29_7 461 := st 7 1 2 0 0 a460
theorem a462 : At k0_mxu31_7 462 := st 7 1 2 1 0 a461
theorem a463 : At k0_mxu33_7 463 := st 7 1 3 0 1 a462
theorem a464 : At k0_mxu35_7 464 := st 7 1 3 1 1 a463
theorem a465 : At k0_mxu37_7 465 := st 7 2 0 0 0 a464
theorem a466 : At k0_mxu39_7 466 := st 7 2 0 1 0 a465
theorem a467 : At k0_mxu41_7 467 := st 7 2 1 0 1 a466
theorem a468 : At k0_mxu43_7 468 := st 7 2 1 1 1 a467
theorem a469 : At k0_mxu45_7 469 := fun c g0 g3 g9 => stepM 7 2 2 0 0 (a468 c g0 g3 g9) (by delta k0_pay45 r_563 k0_pay44; exact read_slot 7 7 512 1024) (read_codes 7 512)
theorem a470 : At k0_mxu47_7 470 := st 7 2 2 1 0 a469
theorem a471 : At k0_mxu49_7 471 := st 7 2 3 0 1 a470
theorem a472 : At k0_mxu51_7 472 := st 7 2 3 1 1 a471
theorem a473 : At k0_mxu53_7 473 := st 7 3 0 0 0 a472
theorem a474 : At k0_mxu55_7 474 := st 7 3 0 1 0 a473
theorem a475 : At k0_mxu57_7 475 := st 7 3 1 0 1 a474
theorem a476 : At k0_mxu59_7 476 := st 7 3 1 1 1 a475
theorem a477 : At k0_mxu61_7 477 := st 7 3 2 0 0 a476
theorem a478 : At k0_mxu63_7 478 := st 7 3 2 1 0 a477
theorem a479 : At k0_mxu65_7 479 := st 7 3 3 0 1 a478
theorem a480 : At k0_mxu67_7 480 := st 7 3 3 1 1 a479
theorem a481 : At k0_mxu69_7 481 := st 7 4 0 0 0 a480
theorem a482 : At k0_mxu71_7 482 := st 7 4 0 1 0 a481
theorem a483 : At k0_mxu73_7 483 := st 7 4 1 0 1 a482
theorem a484 : At k0_mxu75_7 484 := st 7 4 1 1 1 a483
theorem a485 : At k0_mxu77_7 485 := st 7 4 2 0 0 a484
theorem a486 : At k0_mxu79_7 486 := st 7 4 2 1 0 a485
theorem a487 : At k0_mxu81_7 487 := st 7 4 3 0 1 a486
theorem a488 : At k0_mxu83_7 488 := st 7 4 3 1 1 a487
theorem a489 : At k0_mxu85_7 489 := st 7 5 0 0 0 a488
theorem a490 : At k0_mxu87_7 490 := st 7 5 0 1 0 a489
theorem a491 : At k0_mxu89_7 491 := st 7 5 1 0 1 a490
theorem a492 : At k0_mxu91_7 492 := st 7 5 1 1 1 a491
theorem a493 : At k0_mxu93_7 493 := st 7 5 2 0 0 a492
theorem a494 : At k0_mxu95_7 494 := fun c g0 g3 g9 => stepM 7 5 2 1 0 (a493 c g0 g3 g9) (by delta k0_pay99 r_593 k0_pay98; exact read_slot 7 7 1280 1280) (read_codes 7 1280)
theorem a495 : At k0_mxu97_7 495 := st 7 5 3 0 1 a494
theorem a496 : At k0_mxu99_7 496 := st 7 5 3 1 1 a495
theorem a497 : At k0_mxu101_7 497 := st 7 6 0 0 0 a496
theorem a498 : At k0_mxu103_7 498 := st 7 6 0 1 0 a497
theorem a499 : At k0_mxu105_7 499 := st 7 6 1 0 1 a498
theorem a500 : At k0_mxu107_7 500 := st 7 6 1 1 1 a499
theorem a501 : At k0_mxu109_7 501 := st 7 6 2 0 0 a500
theorem a502 : At k0_mxu111_7 502 := st 7 6 2 1 0 a501
theorem a503 : At k0_mxu113_7 503 := st 7 6 3 0 1 a502
theorem a504 : At k0_mxu115_7 504 := st 7 6 3 1 1 a503
theorem a505 : At k0_mxu117_7 505 := st 7 7 0 0 0 a504
theorem a506 : At k0_mxu119_7 506 := st 7 7 0 1 0 a505
theorem a507 : At k0_mxu121_7 507 := st 7 7 1 0 1 a506
theorem a508 : At k0_mxu123_7 508 := st 7 7 1 1 1 a507
theorem a509 : At k0_mxu125_7 509 := st 7 7 2 0 0 a508
theorem a510 : At k0_mxu127_7 510 := st 7 7 2 1 0 a509
theorem a511 : At k0_mxu129_7 511 := st 7 7 3 0 1 a510
theorem a512 : At k0_mxu131_7 512 := st 7 7 3 1 1 a511
theorem a513 : At k0_mxu5_8 513 := st 8 0 0 0 0 a512
theorem a514 : At k0_mxu7_8 514 := st 8 0 0 1 0 a513
theorem a515 : At k0_mxu9_8 515 := st 8 0 1 0 1 a514
theorem a516 : At k0_mxu11_8 516 := st 8 0 1 1 1 a515
theorem a517 : At k0_mxu13_8 517 := st 8 0 2 0 0 a516
theorem a518 : At k0_mxu15_8 518 := st 8 0 2 1 0 a517
theorem a519 : At k0_mxu17_8 519 := st 8 0 3 0 1 a518
theorem a520 : At k0_mxu19_8 520 := st 8 0 3 1 1 a519
theorem a521 : At k0_mxu21_8 521 := st 8 1 0 0 0 a520
theorem a522 : At k0_mxu23_8 522 := st 8 1 0 1 0 a521
theorem a523 : At k0_mxu25_8 523 := st 8 1 1 0 1 a522
theorem a524 : At k0_mxu27_8 524 := st 8 1 1 1 1 a523
theorem a525 : At k0_mxu29_8 525 := st 8 1 2 0 0 a524
theorem a526 : At k0_mxu31_8 526 := st 8 1 2 1 0 a525
theorem a527 : At k0_mxu33_8 527 := st 8 1 3 0 1 a526
theorem a528 : At k0_mxu35_8 528 := st 8 1 3 1 1 a527
theorem a529 : At k0_mxu37_8 529 := st 8 2 0 0 0 a528
theorem a530 : At k0_mxu39_8 530 := st 8 2 0 1 0 a529
theorem a531 : At k0_mxu41_8 531 := st 8 2 1 0 1 a530
theorem a532 : At k0_mxu43_8 532 := st 8 2 1 1 1 a531
theorem a533 : At k0_mxu45_8 533 := fun c g0 g3 g9 => stepM 8 2 2 0 0 (a532 c g0 g3 g9) (by delta k0_pay45 r_640 k0_pay44; exact read_slot 0 8 512 1024) (read_codes 8 512)
theorem a534 : At k0_mxu47_8 534 := st 8 2 2 1 0 a533
theorem a535 : At k0_mxu49_8 535 := st 8 2 3 0 1 a534
theorem a536 : At k0_mxu51_8 536 := st 8 2 3 1 1 a535
theorem a537 : At k0_mxu53_8 537 := st 8 3 0 0 0 a536
theorem a538 : At k0_mxu55_8 538 := st 8 3 0 1 0 a537
theorem a539 : At k0_mxu57_8 539 := st 8 3 1 0 1 a538
theorem a540 : At k0_mxu59_8 540 := st 8 3 1 1 1 a539
theorem a541 : At k0_mxu61_8 541 := st 8 3 2 0 0 a540
theorem a542 : At k0_mxu63_8 542 := st 8 3 2 1 0 a541
theorem a543 : At k0_mxu65_8 543 := st 8 3 3 0 1 a542
theorem a544 : At k0_mxu67_8 544 := st 8 3 3 1 1 a543
theorem a545 : At k0_mxu69_8 545 := st 8 4 0 0 0 a544
theorem a546 : At k0_mxu71_8 546 := st 8 4 0 1 0 a545
theorem a547 : At k0_mxu73_8 547 := st 8 4 1 0 1 a546
theorem a548 : At k0_mxu75_8 548 := st 8 4 1 1 1 a547
theorem a549 : At k0_mxu77_8 549 := st 8 4 2 0 0 a548
theorem a550 : At k0_mxu79_8 550 := st 8 4 2 1 0 a549
theorem a551 : At k0_mxu81_8 551 := st 8 4 3 0 1 a550
theorem a552 : At k0_mxu83_8 552 := st 8 4 3 1 1 a551
theorem a553 : At k0_mxu85_8 553 := st 8 5 0 0 0 a552
theorem a554 : At k0_mxu87_8 554 := st 8 5 0 1 0 a553
theorem a555 : At k0_mxu89_8 555 := st 8 5 1 0 1 a554
theorem a556 : At k0_mxu91_8 556 := st 8 5 1 1 1 a555
theorem a557 : At k0_mxu93_8 557 := st 8 5 2 0 0 a556
theorem a558 : At k0_mxu95_8 558 := fun c g0 g3 g9 => stepM 8 5 2 1 0 (a557 c g0 g3 g9) (by delta k0_pay99 r_670 k0_pay98; exact read_slot 0 8 1280 1280) (read_codes 8 1280)
theorem a559 : At k0_mxu97_8 559 := st 8 5 3 0 1 a558
theorem a560 : At k0_mxu99_8 560 := st 8 5 3 1 1 a559
theorem a561 : At k0_mxu101_8 561 := st 8 6 0 0 0 a560
theorem a562 : At k0_mxu103_8 562 := st 8 6 0 1 0 a561
theorem a563 : At k0_mxu105_8 563 := st 8 6 1 0 1 a562
theorem a564 : At k0_mxu107_8 564 := st 8 6 1 1 1 a563
theorem a565 : At k0_mxu109_8 565 := st 8 6 2 0 0 a564
theorem a566 : At k0_mxu111_8 566 := st 8 6 2 1 0 a565
theorem a567 : At k0_mxu113_8 567 := st 8 6 3 0 1 a566
theorem a568 : At k0_mxu115_8 568 := st 8 6 3 1 1 a567
theorem a569 : At k0_mxu117_8 569 := st 8 7 0 0 0 a568
theorem a570 : At k0_mxu119_8 570 := st 8 7 0 1 0 a569
theorem a571 : At k0_mxu121_8 571 := st 8 7 1 0 1 a570
theorem a572 : At k0_mxu123_8 572 := st 8 7 1 1 1 a571
theorem a573 : At k0_mxu125_8 573 := st 8 7 2 0 0 a572
theorem a574 : At k0_mxu127_8 574 := st 8 7 2 1 0 a573
theorem a575 : At k0_mxu129_8 575 := st 8 7 3 0 1 a574
theorem a576 : At k0_mxu131_8 576 := st 8 7 3 1 1 a575
theorem a577 : At k0_mxu5_9 577 := st 9 0 0 0 0 a576
theorem a578 : At k0_mxu7_9 578 := st 9 0 0 1 0 a577
theorem a579 : At k0_mxu9_9 579 := st 9 0 1 0 1 a578
theorem a580 : At k0_mxu11_9 580 := st 9 0 1 1 1 a579
theorem a581 : At k0_mxu13_9 581 := st 9 0 2 0 0 a580
theorem a582 : At k0_mxu15_9 582 := st 9 0 2 1 0 a581
theorem a583 : At k0_mxu17_9 583 := st 9 0 3 0 1 a582
theorem a584 : At k0_mxu19_9 584 := st 9 0 3 1 1 a583
theorem a585 : At k0_mxu21_9 585 := st 9 1 0 0 0 a584
theorem a586 : At k0_mxu23_9 586 := st 9 1 0 1 0 a585
theorem a587 : At k0_mxu25_9 587 := st 9 1 1 0 1 a586
theorem a588 : At k0_mxu27_9 588 := st 9 1 1 1 1 a587
theorem a589 : At k0_mxu29_9 589 := st 9 1 2 0 0 a588
theorem a590 : At k0_mxu31_9 590 := st 9 1 2 1 0 a589
theorem a591 : At k0_mxu33_9 591 := st 9 1 3 0 1 a590
theorem a592 : At k0_mxu35_9 592 := st 9 1 3 1 1 a591
theorem a593 : At k0_mxu37_9 593 := st 9 2 0 0 0 a592
theorem a594 : At k0_mxu39_9 594 := st 9 2 0 1 0 a593
theorem a595 : At k0_mxu41_9 595 := st 9 2 1 0 1 a594
theorem a596 : At k0_mxu43_9 596 := st 9 2 1 1 1 a595
theorem a597 : At k0_mxu45_9 597 := fun c g0 g3 g9 => stepM 9 2 2 0 0 (a596 c g0 g3 g9) (by delta k0_pay45 r_717 k0_pay44; exact read_slot 1 9 512 1024) (read_codes 9 512)
theorem a598 : At k0_mxu47_9 598 := st 9 2 2 1 0 a597
theorem a599 : At k0_mxu49_9 599 := st 9 2 3 0 1 a598
theorem a600 : At k0_mxu51_9 600 := st 9 2 3 1 1 a599
theorem a601 : At k0_mxu53_9 601 := st 9 3 0 0 0 a600
theorem a602 : At k0_mxu55_9 602 := st 9 3 0 1 0 a601
theorem a603 : At k0_mxu57_9 603 := st 9 3 1 0 1 a602
theorem a604 : At k0_mxu59_9 604 := st 9 3 1 1 1 a603
theorem a605 : At k0_mxu61_9 605 := st 9 3 2 0 0 a604
theorem a606 : At k0_mxu63_9 606 := st 9 3 2 1 0 a605
theorem a607 : At k0_mxu65_9 607 := st 9 3 3 0 1 a606
theorem a608 : At k0_mxu67_9 608 := st 9 3 3 1 1 a607
theorem a609 : At k0_mxu69_9 609 := st 9 4 0 0 0 a608
theorem a610 : At k0_mxu71_9 610 := st 9 4 0 1 0 a609
theorem a611 : At k0_mxu73_9 611 := st 9 4 1 0 1 a610
theorem a612 : At k0_mxu75_9 612 := st 9 4 1 1 1 a611
theorem a613 : At k0_mxu77_9 613 := st 9 4 2 0 0 a612
theorem a614 : At k0_mxu79_9 614 := st 9 4 2 1 0 a613
theorem a615 : At k0_mxu81_9 615 := st 9 4 3 0 1 a614
theorem a616 : At k0_mxu83_9 616 := st 9 4 3 1 1 a615
theorem a617 : At k0_mxu85_9 617 := st 9 5 0 0 0 a616
theorem a618 : At k0_mxu87_9 618 := st 9 5 0 1 0 a617
theorem a619 : At k0_mxu89_9 619 := st 9 5 1 0 1 a618
theorem a620 : At k0_mxu91_9 620 := st 9 5 1 1 1 a619
theorem a621 : At k0_mxu93_9 621 := st 9 5 2 0 0 a620
theorem a622 : At k0_mxu95_9 622 := fun c g0 g3 g9 => stepM 9 5 2 1 0 (a621 c g0 g3 g9) (by delta k0_pay99 r_747 k0_pay98; exact read_slot 1 9 1280 1280) (read_codes 9 1280)
theorem a623 : At k0_mxu97_9 623 := st 9 5 3 0 1 a622
theorem a624 : At k0_mxu99_9 624 := st 9 5 3 1 1 a623
theorem a625 : At k0_mxu101_9 625 := st 9 6 0 0 0 a624
theorem a626 : At k0_mxu103_9 626 := st 9 6 0 1 0 a625
theorem a627 : At k0_mxu105_9 627 := st 9 6 1 0 1 a626
theorem a628 : At k0_mxu107_9 628 := st 9 6 1 1 1 a627
theorem a629 : At k0_mxu109_9 629 := st 9 6 2 0 0 a628
theorem a630 : At k0_mxu111_9 630 := st 9 6 2 1 0 a629
theorem a631 : At k0_mxu113_9 631 := st 9 6 3 0 1 a630
theorem a632 : At k0_mxu115_9 632 := st 9 6 3 1 1 a631
theorem a633 : At k0_mxu117_9 633 := st 9 7 0 0 0 a632
theorem a634 : At k0_mxu119_9 634 := st 9 7 0 1 0 a633
theorem a635 : At k0_mxu121_9 635 := st 9 7 1 0 1 a634
theorem a636 : At k0_mxu123_9 636 := st 9 7 1 1 1 a635
theorem a637 : At k0_mxu125_9 637 := st 9 7 2 0 0 a636
theorem a638 : At k0_mxu127_9 638 := st 9 7 2 1 0 a637
theorem a639 : At k0_mxu129_9 639 := st 9 7 3 0 1 a638
theorem a640 : At k0_mxu131_9 640 := st 9 7 3 1 1 a639
theorem a641 : At k0_mxu5_10 641 := st 10 0 0 0 0 a640
theorem a642 : At k0_mxu7_10 642 := st 10 0 0 1 0 a641
theorem a643 : At k0_mxu9_10 643 := st 10 0 1 0 1 a642
theorem a644 : At k0_mxu11_10 644 := st 10 0 1 1 1 a643
theorem a645 : At k0_mxu13_10 645 := st 10 0 2 0 0 a644
theorem a646 : At k0_mxu15_10 646 := st 10 0 2 1 0 a645
theorem a647 : At k0_mxu17_10 647 := st 10 0 3 0 1 a646
theorem a648 : At k0_mxu19_10 648 := st 10 0 3 1 1 a647
theorem a649 : At k0_mxu21_10 649 := st 10 1 0 0 0 a648
theorem a650 : At k0_mxu23_10 650 := st 10 1 0 1 0 a649
theorem a651 : At k0_mxu25_10 651 := st 10 1 1 0 1 a650
theorem a652 : At k0_mxu27_10 652 := st 10 1 1 1 1 a651
theorem a653 : At k0_mxu29_10 653 := st 10 1 2 0 0 a652
theorem a654 : At k0_mxu31_10 654 := st 10 1 2 1 0 a653
theorem a655 : At k0_mxu33_10 655 := st 10 1 3 0 1 a654
theorem a656 : At k0_mxu35_10 656 := st 10 1 3 1 1 a655
theorem a657 : At k0_mxu37_10 657 := st 10 2 0 0 0 a656
theorem a658 : At k0_mxu39_10 658 := st 10 2 0 1 0 a657
theorem a659 : At k0_mxu41_10 659 := st 10 2 1 0 1 a658
theorem a660 : At k0_mxu43_10 660 := st 10 2 1 1 1 a659
theorem a661 : At k0_mxu45_10 661 := fun c g0 g3 g9 => stepM 10 2 2 0 0 (a660 c g0 g3 g9) (by delta k0_pay45 r_794 k0_pay44; exact read_slot 2 10 512 1024) (read_codes 10 512)
theorem a662 : At k0_mxu47_10 662 := st 10 2 2 1 0 a661
theorem a663 : At k0_mxu49_10 663 := st 10 2 3 0 1 a662
theorem a664 : At k0_mxu51_10 664 := st 10 2 3 1 1 a663
theorem a665 : At k0_mxu53_10 665 := st 10 3 0 0 0 a664
theorem a666 : At k0_mxu55_10 666 := st 10 3 0 1 0 a665
theorem a667 : At k0_mxu57_10 667 := st 10 3 1 0 1 a666
theorem a668 : At k0_mxu59_10 668 := st 10 3 1 1 1 a667
theorem a669 : At k0_mxu61_10 669 := st 10 3 2 0 0 a668
theorem a670 : At k0_mxu63_10 670 := st 10 3 2 1 0 a669
theorem a671 : At k0_mxu65_10 671 := st 10 3 3 0 1 a670
theorem a672 : At k0_mxu67_10 672 := st 10 3 3 1 1 a671
theorem a673 : At k0_mxu69_10 673 := st 10 4 0 0 0 a672
theorem a674 : At k0_mxu71_10 674 := st 10 4 0 1 0 a673
theorem a675 : At k0_mxu73_10 675 := st 10 4 1 0 1 a674
theorem a676 : At k0_mxu75_10 676 := st 10 4 1 1 1 a675
theorem a677 : At k0_mxu77_10 677 := st 10 4 2 0 0 a676
theorem a678 : At k0_mxu79_10 678 := st 10 4 2 1 0 a677
theorem a679 : At k0_mxu81_10 679 := st 10 4 3 0 1 a678
theorem a680 : At k0_mxu83_10 680 := st 10 4 3 1 1 a679
theorem a681 : At k0_mxu85_10 681 := st 10 5 0 0 0 a680
theorem a682 : At k0_mxu87_10 682 := st 10 5 0 1 0 a681
theorem a683 : At k0_mxu89_10 683 := st 10 5 1 0 1 a682
theorem a684 : At k0_mxu91_10 684 := st 10 5 1 1 1 a683
theorem a685 : At k0_mxu93_10 685 := st 10 5 2 0 0 a684
theorem a686 : At k0_mxu95_10 686 := fun c g0 g3 g9 => stepM 10 5 2 1 0 (a685 c g0 g3 g9) (by delta k0_pay99 r_824 k0_pay98; exact read_slot 2 10 1280 1280) (read_codes 10 1280)
theorem a687 : At k0_mxu97_10 687 := st 10 5 3 0 1 a686
theorem a688 : At k0_mxu99_10 688 := st 10 5 3 1 1 a687
theorem a689 : At k0_mxu101_10 689 := st 10 6 0 0 0 a688
theorem a690 : At k0_mxu103_10 690 := st 10 6 0 1 0 a689
theorem a691 : At k0_mxu105_10 691 := st 10 6 1 0 1 a690
theorem a692 : At k0_mxu107_10 692 := st 10 6 1 1 1 a691
theorem a693 : At k0_mxu109_10 693 := st 10 6 2 0 0 a692
theorem a694 : At k0_mxu111_10 694 := st 10 6 2 1 0 a693
theorem a695 : At k0_mxu113_10 695 := st 10 6 3 0 1 a694
theorem a696 : At k0_mxu115_10 696 := st 10 6 3 1 1 a695
theorem a697 : At k0_mxu117_10 697 := st 10 7 0 0 0 a696
theorem a698 : At k0_mxu119_10 698 := st 10 7 0 1 0 a697
theorem a699 : At k0_mxu121_10 699 := st 10 7 1 0 1 a698
theorem a700 : At k0_mxu123_10 700 := st 10 7 1 1 1 a699
theorem a701 : At k0_mxu125_10 701 := st 10 7 2 0 0 a700
theorem a702 : At k0_mxu127_10 702 := st 10 7 2 1 0 a701
theorem a703 : At k0_mxu129_10 703 := st 10 7 3 0 1 a702
theorem a704 : At k0_mxu131_10 704 := st 10 7 3 1 1 a703
theorem a705 : At k0_mxu5_11 705 := st 11 0 0 0 0 a704
theorem a706 : At k0_mxu7_11 706 := st 11 0 0 1 0 a705
theorem a707 : At k0_mxu9_11 707 := st 11 0 1 0 1 a706
theorem a708 : At k0_mxu11_11 708 := st 11 0 1 1 1 a707
theorem a709 : At k0_mxu13_11 709 := st 11 0 2 0 0 a708
theorem a710 : At k0_mxu15_11 710 := st 11 0 2 1 0 a709
theorem a711 : At k0_mxu17_11 711 := st 11 0 3 0 1 a710
theorem a712 : At k0_mxu19_11 712 := st 11 0 3 1 1 a711
theorem a713 : At k0_mxu21_11 713 := st 11 1 0 0 0 a712
theorem a714 : At k0_mxu23_11 714 := st 11 1 0 1 0 a713
theorem a715 : At k0_mxu25_11 715 := st 11 1 1 0 1 a714
theorem a716 : At k0_mxu27_11 716 := st 11 1 1 1 1 a715
theorem a717 : At k0_mxu29_11 717 := st 11 1 2 0 0 a716
theorem a718 : At k0_mxu31_11 718 := st 11 1 2 1 0 a717
theorem a719 : At k0_mxu33_11 719 := st 11 1 3 0 1 a718
theorem a720 : At k0_mxu35_11 720 := st 11 1 3 1 1 a719
theorem a721 : At k0_mxu37_11 721 := st 11 2 0 0 0 a720
theorem a722 : At k0_mxu39_11 722 := st 11 2 0 1 0 a721
theorem a723 : At k0_mxu41_11 723 := st 11 2 1 0 1 a722
theorem a724 : At k0_mxu43_11 724 := st 11 2 1 1 1 a723
theorem a725 : At k0_mxu45_11 725 := fun c g0 g3 g9 => stepM 11 2 2 0 0 (a724 c g0 g3 g9) (by delta k0_pay45 r_871 k0_pay44; exact read_slot 3 11 512 1024) (read_codes 11 512)
theorem a726 : At k0_mxu47_11 726 := st 11 2 2 1 0 a725
theorem a727 : At k0_mxu49_11 727 := st 11 2 3 0 1 a726
theorem a728 : At k0_mxu51_11 728 := st 11 2 3 1 1 a727
theorem a729 : At k0_mxu53_11 729 := st 11 3 0 0 0 a728
theorem a730 : At k0_mxu55_11 730 := st 11 3 0 1 0 a729
theorem a731 : At k0_mxu57_11 731 := st 11 3 1 0 1 a730
theorem a732 : At k0_mxu59_11 732 := st 11 3 1 1 1 a731
theorem a733 : At k0_mxu61_11 733 := st 11 3 2 0 0 a732
theorem a734 : At k0_mxu63_11 734 := st 11 3 2 1 0 a733
theorem a735 : At k0_mxu65_11 735 := st 11 3 3 0 1 a734
theorem a736 : At k0_mxu67_11 736 := st 11 3 3 1 1 a735
theorem a737 : At k0_mxu69_11 737 := st 11 4 0 0 0 a736
theorem a738 : At k0_mxu71_11 738 := st 11 4 0 1 0 a737
theorem a739 : At k0_mxu73_11 739 := st 11 4 1 0 1 a738
theorem a740 : At k0_mxu75_11 740 := st 11 4 1 1 1 a739
theorem a741 : At k0_mxu77_11 741 := st 11 4 2 0 0 a740
theorem a742 : At k0_mxu79_11 742 := st 11 4 2 1 0 a741
theorem a743 : At k0_mxu81_11 743 := st 11 4 3 0 1 a742
theorem a744 : At k0_mxu83_11 744 := st 11 4 3 1 1 a743
theorem a745 : At k0_mxu85_11 745 := st 11 5 0 0 0 a744
theorem a746 : At k0_mxu87_11 746 := st 11 5 0 1 0 a745
theorem a747 : At k0_mxu89_11 747 := st 11 5 1 0 1 a746
theorem a748 : At k0_mxu91_11 748 := st 11 5 1 1 1 a747
theorem a749 : At k0_mxu93_11 749 := st 11 5 2 0 0 a748
theorem a750 : At k0_mxu95_11 750 := fun c g0 g3 g9 => stepM 11 5 2 1 0 (a749 c g0 g3 g9) (by delta k0_pay99 r_901 k0_pay98; exact read_slot 3 11 1280 1280) (read_codes 11 1280)
theorem a751 : At k0_mxu97_11 751 := st 11 5 3 0 1 a750
theorem a752 : At k0_mxu99_11 752 := st 11 5 3 1 1 a751
theorem a753 : At k0_mxu101_11 753 := st 11 6 0 0 0 a752
theorem a754 : At k0_mxu103_11 754 := st 11 6 0 1 0 a753
theorem a755 : At k0_mxu105_11 755 := st 11 6 1 0 1 a754
theorem a756 : At k0_mxu107_11 756 := st 11 6 1 1 1 a755
theorem a757 : At k0_mxu109_11 757 := st 11 6 2 0 0 a756
theorem a758 : At k0_mxu111_11 758 := st 11 6 2 1 0 a757
theorem a759 : At k0_mxu113_11 759 := st 11 6 3 0 1 a758
theorem a760 : At k0_mxu115_11 760 := st 11 6 3 1 1 a759
theorem a761 : At k0_mxu117_11 761 := st 11 7 0 0 0 a760
theorem a762 : At k0_mxu119_11 762 := st 11 7 0 1 0 a761
theorem a763 : At k0_mxu121_11 763 := st 11 7 1 0 1 a762
theorem a764 : At k0_mxu123_11 764 := st 11 7 1 1 1 a763
theorem a765 : At k0_mxu125_11 765 := st 11 7 2 0 0 a764
theorem a766 : At k0_mxu127_11 766 := st 11 7 2 1 0 a765
theorem a767 : At k0_mxu129_11 767 := st 11 7 3 0 1 a766
theorem a768 : At k0_mxu131_11 768 := st 11 7 3 1 1 a767
theorem a769 : At k0_mxu5_12 769 := st 12 0 0 0 0 a768
theorem a770 : At k0_mxu7_12 770 := st 12 0 0 1 0 a769
theorem a771 : At k0_mxu9_12 771 := st 12 0 1 0 1 a770
theorem a772 : At k0_mxu11_12 772 := st 12 0 1 1 1 a771
theorem a773 : At k0_mxu13_12 773 := st 12 0 2 0 0 a772
theorem a774 : At k0_mxu15_12 774 := st 12 0 2 1 0 a773
theorem a775 : At k0_mxu17_12 775 := st 12 0 3 0 1 a774
theorem a776 : At k0_mxu19_12 776 := st 12 0 3 1 1 a775
theorem a777 : At k0_mxu21_12 777 := st 12 1 0 0 0 a776
theorem a778 : At k0_mxu23_12 778 := st 12 1 0 1 0 a777
theorem a779 : At k0_mxu25_12 779 := st 12 1 1 0 1 a778
theorem a780 : At k0_mxu27_12 780 := st 12 1 1 1 1 a779
theorem a781 : At k0_mxu29_12 781 := st 12 1 2 0 0 a780
theorem a782 : At k0_mxu31_12 782 := st 12 1 2 1 0 a781
theorem a783 : At k0_mxu33_12 783 := st 12 1 3 0 1 a782
theorem a784 : At k0_mxu35_12 784 := st 12 1 3 1 1 a783
theorem a785 : At k0_mxu37_12 785 := st 12 2 0 0 0 a784
theorem a786 : At k0_mxu39_12 786 := st 12 2 0 1 0 a785
theorem a787 : At k0_mxu41_12 787 := st 12 2 1 0 1 a786
theorem a788 : At k0_mxu43_12 788 := st 12 2 1 1 1 a787
theorem a789 : At k0_mxu45_12 789 := fun c g0 g3 g9 => stepM 12 2 2 0 0 (a788 c g0 g3 g9) (by delta k0_pay45 r_948 k0_pay44; exact read_slot 4 12 512 1024) (read_codes 12 512)
theorem a790 : At k0_mxu47_12 790 := st 12 2 2 1 0 a789
theorem a791 : At k0_mxu49_12 791 := st 12 2 3 0 1 a790
theorem a792 : At k0_mxu51_12 792 := st 12 2 3 1 1 a791
theorem a793 : At k0_mxu53_12 793 := st 12 3 0 0 0 a792
theorem a794 : At k0_mxu55_12 794 := st 12 3 0 1 0 a793
theorem a795 : At k0_mxu57_12 795 := st 12 3 1 0 1 a794
theorem a796 : At k0_mxu59_12 796 := st 12 3 1 1 1 a795
theorem a797 : At k0_mxu61_12 797 := st 12 3 2 0 0 a796
theorem a798 : At k0_mxu63_12 798 := st 12 3 2 1 0 a797
theorem a799 : At k0_mxu65_12 799 := st 12 3 3 0 1 a798
theorem a800 : At k0_mxu67_12 800 := st 12 3 3 1 1 a799
theorem a801 : At k0_mxu69_12 801 := st 12 4 0 0 0 a800
theorem a802 : At k0_mxu71_12 802 := st 12 4 0 1 0 a801
theorem a803 : At k0_mxu73_12 803 := st 12 4 1 0 1 a802
theorem a804 : At k0_mxu75_12 804 := st 12 4 1 1 1 a803
theorem a805 : At k0_mxu77_12 805 := st 12 4 2 0 0 a804
theorem a806 : At k0_mxu79_12 806 := st 12 4 2 1 0 a805
theorem a807 : At k0_mxu81_12 807 := st 12 4 3 0 1 a806
theorem a808 : At k0_mxu83_12 808 := st 12 4 3 1 1 a807
theorem a809 : At k0_mxu85_12 809 := st 12 5 0 0 0 a808
theorem a810 : At k0_mxu87_12 810 := st 12 5 0 1 0 a809
theorem a811 : At k0_mxu89_12 811 := st 12 5 1 0 1 a810
theorem a812 : At k0_mxu91_12 812 := st 12 5 1 1 1 a811
theorem a813 : At k0_mxu93_12 813 := st 12 5 2 0 0 a812
theorem a814 : At k0_mxu95_12 814 := fun c g0 g3 g9 => stepM 12 5 2 1 0 (a813 c g0 g3 g9) (by delta k0_pay99 r_978 k0_pay98; exact read_slot 4 12 1280 1280) (read_codes 12 1280)
theorem a815 : At k0_mxu97_12 815 := st 12 5 3 0 1 a814
theorem a816 : At k0_mxu99_12 816 := st 12 5 3 1 1 a815
theorem a817 : At k0_mxu101_12 817 := st 12 6 0 0 0 a816
theorem a818 : At k0_mxu103_12 818 := st 12 6 0 1 0 a817
theorem a819 : At k0_mxu105_12 819 := st 12 6 1 0 1 a818
theorem a820 : At k0_mxu107_12 820 := st 12 6 1 1 1 a819
theorem a821 : At k0_mxu109_12 821 := st 12 6 2 0 0 a820
theorem a822 : At k0_mxu111_12 822 := st 12 6 2 1 0 a821
theorem a823 : At k0_mxu113_12 823 := st 12 6 3 0 1 a822
theorem a824 : At k0_mxu115_12 824 := st 12 6 3 1 1 a823
theorem a825 : At k0_mxu117_12 825 := st 12 7 0 0 0 a824
theorem a826 : At k0_mxu119_12 826 := st 12 7 0 1 0 a825
theorem a827 : At k0_mxu121_12 827 := st 12 7 1 0 1 a826
theorem a828 : At k0_mxu123_12 828 := st 12 7 1 1 1 a827
theorem a829 : At k0_mxu125_12 829 := st 12 7 2 0 0 a828
theorem a830 : At k0_mxu127_12 830 := st 12 7 2 1 0 a829
theorem a831 : At k0_mxu129_12 831 := st 12 7 3 0 1 a830
theorem a832 : At k0_mxu131_12 832 := st 12 7 3 1 1 a831
theorem a833 : At k0_mxu5_13 833 := st 13 0 0 0 0 a832
theorem a834 : At k0_mxu7_13 834 := st 13 0 0 1 0 a833
theorem a835 : At k0_mxu9_13 835 := st 13 0 1 0 1 a834
theorem a836 : At k0_mxu11_13 836 := st 13 0 1 1 1 a835
theorem a837 : At k0_mxu13_13 837 := st 13 0 2 0 0 a836
theorem a838 : At k0_mxu15_13 838 := st 13 0 2 1 0 a837
theorem a839 : At k0_mxu17_13 839 := st 13 0 3 0 1 a838
theorem a840 : At k0_mxu19_13 840 := st 13 0 3 1 1 a839
theorem a841 : At k0_mxu21_13 841 := st 13 1 0 0 0 a840
theorem a842 : At k0_mxu23_13 842 := st 13 1 0 1 0 a841
theorem a843 : At k0_mxu25_13 843 := st 13 1 1 0 1 a842
theorem a844 : At k0_mxu27_13 844 := st 13 1 1 1 1 a843
theorem a845 : At k0_mxu29_13 845 := st 13 1 2 0 0 a844
theorem a846 : At k0_mxu31_13 846 := st 13 1 2 1 0 a845
theorem a847 : At k0_mxu33_13 847 := st 13 1 3 0 1 a846
theorem a848 : At k0_mxu35_13 848 := st 13 1 3 1 1 a847
theorem a849 : At k0_mxu37_13 849 := st 13 2 0 0 0 a848
theorem a850 : At k0_mxu39_13 850 := st 13 2 0 1 0 a849
theorem a851 : At k0_mxu41_13 851 := st 13 2 1 0 1 a850
theorem a852 : At k0_mxu43_13 852 := st 13 2 1 1 1 a851
theorem a853 : At k0_mxu45_13 853 := fun c g0 g3 g9 => stepM 13 2 2 0 0 (a852 c g0 g3 g9) (by delta k0_pay45 r_1025 k0_pay44; exact read_slot 5 13 512 1024) (read_codes 13 512)
theorem a854 : At k0_mxu47_13 854 := st 13 2 2 1 0 a853
theorem a855 : At k0_mxu49_13 855 := st 13 2 3 0 1 a854
theorem a856 : At k0_mxu51_13 856 := st 13 2 3 1 1 a855
theorem a857 : At k0_mxu53_13 857 := st 13 3 0 0 0 a856
theorem a858 : At k0_mxu55_13 858 := st 13 3 0 1 0 a857
theorem a859 : At k0_mxu57_13 859 := st 13 3 1 0 1 a858
theorem a860 : At k0_mxu59_13 860 := st 13 3 1 1 1 a859
theorem a861 : At k0_mxu61_13 861 := st 13 3 2 0 0 a860
theorem a862 : At k0_mxu63_13 862 := st 13 3 2 1 0 a861
theorem a863 : At k0_mxu65_13 863 := st 13 3 3 0 1 a862
theorem a864 : At k0_mxu67_13 864 := st 13 3 3 1 1 a863
theorem a865 : At k0_mxu69_13 865 := st 13 4 0 0 0 a864
theorem a866 : At k0_mxu71_13 866 := st 13 4 0 1 0 a865
theorem a867 : At k0_mxu73_13 867 := st 13 4 1 0 1 a866
theorem a868 : At k0_mxu75_13 868 := st 13 4 1 1 1 a867
theorem a869 : At k0_mxu77_13 869 := st 13 4 2 0 0 a868
theorem a870 : At k0_mxu79_13 870 := st 13 4 2 1 0 a869
theorem a871 : At k0_mxu81_13 871 := st 13 4 3 0 1 a870
theorem a872 : At k0_mxu83_13 872 := st 13 4 3 1 1 a871
theorem a873 : At k0_mxu85_13 873 := st 13 5 0 0 0 a872
theorem a874 : At k0_mxu87_13 874 := st 13 5 0 1 0 a873
theorem a875 : At k0_mxu89_13 875 := st 13 5 1 0 1 a874
theorem a876 : At k0_mxu91_13 876 := st 13 5 1 1 1 a875
theorem a877 : At k0_mxu93_13 877 := st 13 5 2 0 0 a876
theorem a878 : At k0_mxu95_13 878 := fun c g0 g3 g9 => stepM 13 5 2 1 0 (a877 c g0 g3 g9) (by delta k0_pay99 r_1055 k0_pay98; exact read_slot 5 13 1280 1280) (read_codes 13 1280)
theorem a879 : At k0_mxu97_13 879 := st 13 5 3 0 1 a878
theorem a880 : At k0_mxu99_13 880 := st 13 5 3 1 1 a879
theorem a881 : At k0_mxu101_13 881 := st 13 6 0 0 0 a880
theorem a882 : At k0_mxu103_13 882 := st 13 6 0 1 0 a881
theorem a883 : At k0_mxu105_13 883 := st 13 6 1 0 1 a882
theorem a884 : At k0_mxu107_13 884 := st 13 6 1 1 1 a883
theorem a885 : At k0_mxu109_13 885 := st 13 6 2 0 0 a884
theorem a886 : At k0_mxu111_13 886 := st 13 6 2 1 0 a885
theorem a887 : At k0_mxu113_13 887 := st 13 6 3 0 1 a886
theorem a888 : At k0_mxu115_13 888 := st 13 6 3 1 1 a887
theorem a889 : At k0_mxu117_13 889 := st 13 7 0 0 0 a888
theorem a890 : At k0_mxu119_13 890 := st 13 7 0 1 0 a889
theorem a891 : At k0_mxu121_13 891 := st 13 7 1 0 1 a890
theorem a892 : At k0_mxu123_13 892 := st 13 7 1 1 1 a891
theorem a893 : At k0_mxu125_13 893 := st 13 7 2 0 0 a892
theorem a894 : At k0_mxu127_13 894 := st 13 7 2 1 0 a893
theorem a895 : At k0_mxu129_13 895 := st 13 7 3 0 1 a894
theorem a896 : At k0_mxu131_13 896 := st 13 7 3 1 1 a895
theorem a897 : At k0_mxu5_14 897 := st 14 0 0 0 0 a896
theorem a898 : At k0_mxu7_14 898 := st 14 0 0 1 0 a897
theorem a899 : At k0_mxu9_14 899 := st 14 0 1 0 1 a898
theorem a900 : At k0_mxu11_14 900 := st 14 0 1 1 1 a899
theorem a901 : At k0_mxu13_14 901 := st 14 0 2 0 0 a900
theorem a902 : At k0_mxu15_14 902 := st 14 0 2 1 0 a901
theorem a903 : At k0_mxu17_14 903 := st 14 0 3 0 1 a902
theorem a904 : At k0_mxu19_14 904 := st 14 0 3 1 1 a903
theorem a905 : At k0_mxu21_14 905 := st 14 1 0 0 0 a904
theorem a906 : At k0_mxu23_14 906 := st 14 1 0 1 0 a905
theorem a907 : At k0_mxu25_14 907 := st 14 1 1 0 1 a906
theorem a908 : At k0_mxu27_14 908 := st 14 1 1 1 1 a907
theorem a909 : At k0_mxu29_14 909 := st 14 1 2 0 0 a908
theorem a910 : At k0_mxu31_14 910 := st 14 1 2 1 0 a909
theorem a911 : At k0_mxu33_14 911 := st 14 1 3 0 1 a910
theorem a912 : At k0_mxu35_14 912 := st 14 1 3 1 1 a911
theorem a913 : At k0_mxu37_14 913 := st 14 2 0 0 0 a912
theorem a914 : At k0_mxu39_14 914 := st 14 2 0 1 0 a913
theorem a915 : At k0_mxu41_14 915 := st 14 2 1 0 1 a914
theorem a916 : At k0_mxu43_14 916 := st 14 2 1 1 1 a915
theorem a917 : At k0_mxu45_14 917 := fun c g0 g3 g9 => stepM 14 2 2 0 0 (a916 c g0 g3 g9) (by delta k0_pay45 r_1102 k0_pay44; exact read_slot 6 14 512 1024) (read_codes 14 512)
theorem a918 : At k0_mxu47_14 918 := st 14 2 2 1 0 a917
theorem a919 : At k0_mxu49_14 919 := st 14 2 3 0 1 a918
theorem a920 : At k0_mxu51_14 920 := st 14 2 3 1 1 a919
theorem a921 : At k0_mxu53_14 921 := st 14 3 0 0 0 a920
theorem a922 : At k0_mxu55_14 922 := st 14 3 0 1 0 a921
theorem a923 : At k0_mxu57_14 923 := st 14 3 1 0 1 a922
theorem a924 : At k0_mxu59_14 924 := st 14 3 1 1 1 a923
theorem a925 : At k0_mxu61_14 925 := st 14 3 2 0 0 a924
theorem a926 : At k0_mxu63_14 926 := st 14 3 2 1 0 a925
theorem a927 : At k0_mxu65_14 927 := st 14 3 3 0 1 a926
theorem a928 : At k0_mxu67_14 928 := st 14 3 3 1 1 a927
theorem a929 : At k0_mxu69_14 929 := st 14 4 0 0 0 a928
theorem a930 : At k0_mxu71_14 930 := st 14 4 0 1 0 a929
theorem a931 : At k0_mxu73_14 931 := st 14 4 1 0 1 a930
theorem a932 : At k0_mxu75_14 932 := st 14 4 1 1 1 a931
theorem a933 : At k0_mxu77_14 933 := st 14 4 2 0 0 a932
theorem a934 : At k0_mxu79_14 934 := st 14 4 2 1 0 a933
theorem a935 : At k0_mxu81_14 935 := st 14 4 3 0 1 a934
theorem a936 : At k0_mxu83_14 936 := st 14 4 3 1 1 a935
theorem a937 : At k0_mxu85_14 937 := st 14 5 0 0 0 a936
theorem a938 : At k0_mxu87_14 938 := st 14 5 0 1 0 a937
theorem a939 : At k0_mxu89_14 939 := st 14 5 1 0 1 a938
theorem a940 : At k0_mxu91_14 940 := st 14 5 1 1 1 a939
theorem a941 : At k0_mxu93_14 941 := st 14 5 2 0 0 a940
theorem a942 : At k0_mxu95_14 942 := fun c g0 g3 g9 => stepM 14 5 2 1 0 (a941 c g0 g3 g9) (by delta k0_pay99 r_1132 k0_pay98; exact read_slot 6 14 1280 1280) (read_codes 14 1280)
theorem a943 : At k0_mxu97_14 943 := st 14 5 3 0 1 a942
theorem a944 : At k0_mxu99_14 944 := st 14 5 3 1 1 a943
theorem a945 : At k0_mxu101_14 945 := st 14 6 0 0 0 a944
theorem a946 : At k0_mxu103_14 946 := st 14 6 0 1 0 a945
theorem a947 : At k0_mxu105_14 947 := st 14 6 1 0 1 a946
theorem a948 : At k0_mxu107_14 948 := st 14 6 1 1 1 a947
theorem a949 : At k0_mxu109_14 949 := st 14 6 2 0 0 a948
theorem a950 : At k0_mxu111_14 950 := st 14 6 2 1 0 a949
theorem a951 : At k0_mxu113_14 951 := st 14 6 3 0 1 a950
theorem a952 : At k0_mxu115_14 952 := st 14 6 3 1 1 a951
theorem a953 : At k0_mxu117_14 953 := st 14 7 0 0 0 a952
theorem a954 : At k0_mxu119_14 954 := st 14 7 0 1 0 a953
theorem a955 : At k0_mxu121_14 955 := st 14 7 1 0 1 a954
theorem a956 : At k0_mxu123_14 956 := st 14 7 1 1 1 a955
theorem a957 : At k0_mxu125_14 957 := st 14 7 2 0 0 a956
theorem a958 : At k0_mxu127_14 958 := st 14 7 2 1 0 a957
theorem a959 : At k0_mxu129_14 959 := st 14 7 3 0 1 a958
theorem a960 : At k0_mxu131_14 960 := st 14 7 3 1 1 a959

variable {c : Dev nD} {g0 : CArr} {g3 : WArr} {g9 : S15x256x2048.Idx → EReal}

theorem p1 : Holds (k0_mxu132 c g0 g3 g9) (accP g0 g3 1) := stepP 0 0 (holdsP_init (a960 c g0 g3 g9))
theorem p2 : Holds (k0_mxu133 c g0 g3 g9) (accP g0 g3 2) := stepP 1 0 (p1)
theorem p3 : Holds (k0_mxu134 c g0 g3 g9) (accP g0 g3 3) := stepP 0 1 (p2)
theorem p4 : Holds (k0_mxu135 c g0 g3 g9) (accP g0 g3 4) := stepP 1 1 (p3)
theorem p5 : Holds (k0_mxu136 c g0 g3 g9) (accP g0 g3 5) := stepP 0 2 (p4)
theorem p6 : Holds (k0_mxu137 c g0 g3 g9) (accP g0 g3 6) := stepP 1 2 (p5)
theorem p7 : Holds (k0_mxu138 c g0 g3 g9) (accP g0 g3 7) := stepP 0 3 (p6)
theorem p8 : Holds (k0_mxu139 c g0 g3 g9) (accP g0 g3 8) := stepP 1 3 (p7)

end Cert.MainIdeal.Hand.bodyRun.sl
end
-- ==== Proof.MainIdeal.Chain2.lean ====
module
public import proofs.«01_k».proof.Proof.MainIdeal.Chain1
public import proofs.«01_k».proof.Proof.MainIdeal.Acc
@[expose] public section
noncomputable section
namespace Cert.MainIdeal.Hand.bodyRun.sl
open Cert.MainIdeal Cert.MainIdeal.Gen Cert.MxuSum
open Idealize.ShloMosaic Idealize.ShloMosaic.ValueIdx
open scoped BigOperators

variable {c : Dev nD} {g0 : CArr} {g3 : WArr} {g9 : S15x256x2048.Idx → EReal}

/-! # The accumulators of the last two column blocks, step by step through the kernel's run -/

theorem t1 : Holds (k0_mxu143 c g0 g3 g9) (accT g0 g3 1) := stepT 0 0 0 0 (holdsT_init p8) (read_win 7 0 0 0 0 2048 0 0) (read_codes 0 0)
theorem t2 : Holds (k0_mxu145 c g0 g3 g9) (accT g0 g3 2) := stepT 0 0 1 0 t1 (read_win 7 0 0 0 0 2048 0 256) (read_codes 0 0)
theorem t3 : Holds (k0_mxu147 c g0 g3 g9) (accT g0 g3 3) := stepT 0 1 0 1 t2 (read_win 7 0 0 0 0 2048 256 0) (read_codes 0 256)
theorem t4 : Holds (k0_mxu149 c g0 g3 g9) (accT g0 g3 4) := stepT 0 1 1 1 t3 (read_win 7 0 0 0 0 2048 256 256) (read_codes 0 256)
theorem t5 : Holds (k0_mxu151 c g0 g3 g9) (accT g0 g3 5) := stepT 0 2 0 0 t4 (read_win 7 0 512 0 512 2048 0 0) (read_codes 0 512)
theorem t6 : Holds (k0_mxu153 c g0 g3 g9) (accT g0 g3 6) := stepT 0 2 1 0 t5 (read_win 7 0 512 0 512 2048 0 256) (read_codes 0 512)
theorem t7 : Holds (k0_mxu155 c g0 g3 g9) (accT g0 g3 7) := stepT 0 3 0 1 t6 (read_win 7 0 512 0 512 2048 256 0) (read_codes 0 768)
theorem t8 : Holds (k0_mxu157 c g0 g3 g9) (accT g0 g3 8) := stepT 0 3 1 1 t7 (read_win 7 0 512 0 512 2048 256 256) (read_codes 0 768)
theorem t9 : Holds (k0_mxu159 c g0 g3 g9) (accT g0 g3 9) := stepT 0 4 0 0 t8 (read_win 7 0 1024 0 1024 2048 0 0) (read_codes 0 1024)
theorem t10 : Holds (k0_mxu161 c g0 g3 g9) (accT g0 g3 10) := stepT 0 4 1 0 t9 (read_win 7 0 1024 0 1024 2048 0 256) (read_codes 0 1024)
theorem t11 : Holds (k0_mxu163 c g0 g3 g9) (accT g0 g3 11) := stepT 0 5 0 1 t10 (read_win 7 0 1024 0 1024 2048 256 0) (read_codes 0 1280)
theorem t12 : Holds (k0_mxu165 c g0 g3 g9) (accT g0 g3 12) := stepT 0 5 1 1 t11 (read_win 7 0 1024 0 1024 2048 256 256) (read_codes 0 1280)
theorem t13 : Holds (k0_mxu167 c g0 g3 g9) (accT g0 g3 13) := stepT 0 6 0 0 t12 (read_win 7 0 1536 0 1536 2048 0 0) (read_codes 0 1536)
theorem t14 : Holds (k0_mxu169 c g0 g3 g9) (accT g0 g3 14) := stepT 0 6 1 0 t13 (read_win 7 0 1536 0 1536 2048 0 256) (read_codes 0 1536)
theorem t15 : Holds (k0_mxu171 c g0 g3 g9) (accT g0 g3 15) := stepT 0 7 0 1 t14 (read_win 7 0 1536 0 1536 2048 256 0) (read_codes 0 1792)
theorem t16 : Holds (k0_mxu173 c g0 g3 g9) (accT g0 g3 16) := stepT 0 7 1 1 t15 (read_win 7 0 1536 0 1536 2048 256 256) (read_codes 0 1792)
theorem t17 : Holds (k0_mxu175 c g0 g3 g9) (accT g0 g3 17) := stepT 1 0 0 0 t16 (read_win 7 512 0 1 0 2048 0 0) (read_codes 1 0)
theorem t18 : Holds (k0_mxu177 c g0 g3 g9) (accT g0 g3 18) := stepT 1 0 1 0 t17 (read_win 7 512 0 1 0 2048 0 256) (read_codes 1 0)
theorem t19 : Holds (k0_mxu179 c g0 g3 g9) (accT g0 g3 19) := stepT 1 1 0 1 t18 (read_win 7 512 0 1 0 2048 256 0) (read_codes 1 256)
theorem t20 : Holds (k0_mxu181 c g0 g3 g9) (accT g0 g3 20) := stepT 1 1 1 1 t19 (read_win 7 512 0 1 0 2048 256 256) (read_codes 1 256)
theorem t21 : Holds (k0_mxu183 c g0 g3 g9) (accT g0 g3 21) := stepT 1 2 0 0 t20 (read_win 7 512 512 1 512 2048 0 0) (read_codes 1 512)
theorem t22 : Holds (k0_mxu185 c g0 g3 g9) (accT g0 g3 22) := stepT 1 2 1 0 t21 (read_win 7 512 512 1 512 2048 0 256) (read_codes 1 512)
theorem t23 : Holds (k0_mxu187 c g0 g3 g9) (accT g0 g3 23) := stepT 1 3 0 1 t22 (read_win 7 512 512 1 512 2048 256 0) (read_codes 1 768)
theorem t24 : Holds (k0_mxu189 c g0 g3 g9) (accT g0 g3 24) := stepT 1 3 1 1 t23 (read_win 7 512 512 1 512 2048 256 256) (read_codes 1 768)
theorem t25 : Holds (k0_mxu191 c g0 g3 g9) (accT g0 g3 25) := stepT 1 4 0 0 t24 (read_win 7 512 1024 1 1024 2048 0 0) (read_codes 1 1024)
theorem t26 : Holds (k0_mxu193 c g0 g3 g9) (accT g0 g3 26) := stepT 1 4 1 0 t25 (read_win 7 512 1024 1 1024 2048 0 256) (read_codes 1 1024)
theorem t27 : Holds (k0_mxu195 c g0 g3 g9) (accT g0 g3 27) := stepT 1 5 0 1 t26 (read_win 7 512 1024 1 1024 2048 256 0) (read_codes 1 1280)
theorem t28 : Holds (k0_mxu197 c g0 g3 g9) (accT g0 g3 28) := stepT 1 5 1 1 t27 (read_win 7 512 1024 1 1024 2048 256 256) (read_codes 1 1280)
theorem t29 : Holds (k0_mxu199 c g0 g3 g9) (accT g0 g3 29) := stepT 1 6 0 0 t28 (read_win 7 512 1536 1 1536 2048 0 0) (read_codes 1 1536)
theorem t30 : Holds (k0_mxu201 c g0 g3 g9) (accT g0 g3 30) := stepT 1 6 1 0 t29 (read_win 7 512 1536 1 1536 2048 0 256) (read_codes 1 1536)
theorem t31 : Holds (k0_mxu203 c g0 g3 g9) (accT g0 g3 31) := stepT 1 7 0 1 t30 (read_win 7 512 1536 1 1536 2048 256 0) (read_codes 1 1792)
theorem t32 : Holds (k0_mxu205 c g0 g3 g9) (accT g0 g3 32) := stepT 1 7 1 1 t31 (read_win 7 512 1536 1 1536 2048 256 256) (read_codes 1 1792)
theorem t33 : Holds (k0_mxu207 c g0 g3 g9) (accT g0 g3 33) := stepT 2 0 0 0 t32 (read_win 7 1024 0 2 0 2048 0 0) (read_codes 2 0)
theorem t34 : Holds (k0_mxu209 c g0 g3 g9) (accT g0 g3 34) := stepT 2 0 1 0 t33 (read_win 7 1024 0 2 0 2048 0 256) (read_codes 2 0)
theorem t35 : Holds (k0_mxu211 c g0 g3 g9) (accT g0 g3 35) := stepT 2 1 0 1 t34 (read_win 7 1024 0 2 0 2048 256 0) (read_codes 2 256)
theorem t36 : Holds (k0_mxu213 c g0 g3 g9) (accT g0 g3 36) := stepT 2 1 1 1 t35 (read_win 7 1024 0 2 0 2048 256 256) (read_codes 2 256)
theorem t37 : Holds (k0_mxu215 c g0 g3 g9) (accT g0 g3 37) := stepT 2 2 0 0 t36 (read_win 7 1024 512 2 512 2048 0 0) (read_codes 2 512)
theorem t38 : Holds (k0_mxu217 c g0 g3 g9) (accT g0 g3 38) := stepT 2 2 1 0 t37 (read_win 7 1024 512 2 512 2048 0 256) (read_codes 2 512)
theorem t39 : Holds (k0_mxu219 c g0 g3 g9) (accT g0 g3 39) := stepT 2 3 0 1 t38 (read_win 7 1024 512 2 512 2048 256 0) (read_codes 2 768)
theorem t40 : Holds (k0_mxu221 c g0 g3 g9) (accT g0 g3 40) := stepT 2 3 1 1 t39 (read_win 7 1024 512 2 512 2048 256 256) (read_codes 2 768)
theorem t41 : Holds (k0_mxu223 c g0 g3 g9) (accT g0 g3 41) := stepT 2 4 0 0 t40 (read_win 7 1024 1024 2 1024 2048 0 0) (read_codes 2 1024)
theorem t42 : Holds (k0_mxu225 c g0 g3 g9) (accT g0 g3 42) := stepT 2 4 1 0 t41 (read_win 7 1024 1024 2 1024 2048 0 256) (read_codes 2 1024)
theorem t43 : Holds (k0_mxu227 c g0 g3 g9) (accT g0 g3 43) := stepT 2 5 0 1 t42 (read_win 7 1024 1024 2 1024 2048 256 0) (read_codes 2 1280)
theorem t44 : Holds (k0_mxu229 c g0 g3 g9) (accT g0 g3 44) := stepT 2 5 1 1 t43 (read_win 7 1024 1024 2 1024 2048 256 256) (read_codes 2 1280)
theorem t45 : Holds (k0_mxu231 c g0 g3 g9) (accT g0 g3 45) := stepT 2 6 0 0 t44 (read_win 7 1024 1536 2 1536 2048 0 0) (read_codes 2 1536)
theorem t46 : Holds (k0_mxu233 c g0 g3 g9) (accT g0 g3 46) := stepT 2 6 1 0 t45 (read_win 7 1024 1536 2 1536 2048 0 256) (read_codes 2 1536)
theorem t47 : Holds (k0_mxu235 c g0 g3 g9) (accT g0 g3 47) := stepT 2 7 0 1 t46 (read_win 7 1024 1536 2 1536 2048 256 0) (read_codes 2 1792)
theorem t48 : Holds (k0_mxu237 c g0 g3 g9) (accT g0 g3 48) := stepT 2 7 1 1 t47 (read_win 7 1024 1536 2 1536 2048 256 256) (read_codes 2 1792)
theorem t49 : Holds (k0_mxu143_1 c g0 g3 g9) (accT g0 g3 49) := stepT 3 0 0 0 t48 (read_win 0 0 0 3 0 2048 0 0) (read_codes 3 0)
theorem t50 : Holds (k0_mxu145_1 c g0 g3 g9) (accT g0 g3 50) := stepT 3 0 1 0 t49 (read_win 0 0 0 3 0 2048 0 256) (read_codes 3 0)
theorem t51 : Holds (k0_mxu147_1 c g0 g3 g9) (accT g0 g3 51) := stepT 3 1 0 1 t50 (read_win 0 0 0 3 0 2048 256 0) (read_codes 3 256)
theorem t52 : Holds (k0_mxu149_1 c g0 g3 g9) (accT g0 g3 52) := stepT 3 1 1 1 t51 (read_win 0 0 0 3 0 2048 256 256) (read_codes 3 256)
theorem t53 : Holds (k0_mxu151_1 c g0 g3 g9) (accT g0 g3 53) := stepT 3 2 0 0 t52 (read_win 0 0 512 3 512 2048 0 0) (read_codes 3 512)
theorem t54 : Holds (k0_mxu153_1 c g0 g3 g9) (accT g0 g3 54) := stepT 3 2 1 0 t53 (read_win 0 0 512 3 512 2048 0 256) (read_codes 3 512)
theorem t55 : Holds (k0_mxu155_1 c g0 g3 g9) (accT g0 g3 55) := stepT 3 3 0 1 t54 (read_win 0 0 512 3 512 2048 256 0) (read_codes 3 768)
theorem t56 : Holds (k0_mxu157_1 c g0 g3 g9) (accT g0 g3 56) := stepT 3 3 1 1 t55 (read_win 0 0 512 3 512 2048 256 256) (read_codes 3 768)
theorem t57 : Holds (k0_mxu159_1 c g0 g3 g9) (accT g0 g3 57) := stepT 3 4 0 0 t56 (read_win 0 0 1024 3 1024 2048 0 0) (read_codes 3 1024)
theorem t58 : Holds (k0_mxu161_1 c g0 g3 g9) (accT g0 g3 58) := stepT 3 4 1 0 t57 (read_win 0 0 1024 3 1024 2048 0 256) (read_codes 3 1024)
theorem t59 : Holds (k0_mxu163_1 c g0 g3 g9) (accT g0 g3 59) := stepT 3 5 0 1 t58 (read_win 0 0 1024 3 1024 2048 256 0) (read_codes 3 1280)
theorem t60 : Holds (k0_mxu165_1 c g0 g3 g9) (accT g0 g3 60) := stepT 3 5 1 1 t59 (read_win 0 0 1024 3 1024 2048 256 256) (read_codes 3 1280)
theorem t61 : Holds (k0_mxu167_1 c g0 g3 g9) (accT g0 g3 61) := stepT 3 6 0 0 t60 (read_win 0 0 1536 3 1536 2048 0 0) (read_codes 3 1536)
theorem t62 : Holds (k0_mxu169_1 c g0 g3 g9) (accT g0 g3 62) := stepT 3 6 1 0 t61 (read_win 0 0 1536 3 1536 2048 0 256) (read_codes 3 1536)
theorem t63 : Holds (k0_mxu171_1 c g0 g3 g9) (accT g0 g3 63) := stepT 3 7 0 1 t62 (read_win 0 0 1536 3 1536 2048 256 0) (read_codes 3 1792)
theorem t64 : Holds (k0_mxu173_1 c g0 g3 g9) (accT g0 g3 64) := stepT 3 7 1 1 t63 (read_win 0 0 1536 3 1536 2048 256 256) (read_codes 3 1792)
theorem t65 : Holds (k0_mxu175_1 c g0 g3 g9) (accT g0 g3 65) := stepT 4 0 0 0 t64 (read_win 0 512 0 4 0 2048 0 0) (read_codes 4 0)
theorem t66 : Holds (k0_mxu177_1 c g0 g3 g9) (accT g0 g3 66) := stepT 4 0 1 0 t65 (read_win 0 512 0 4 0 2048 0 256) (read_codes 4 0)
theorem t67 : Holds (k0_mxu179_1 c g0 g3 g9) (accT g0 g3 67) := stepT 4 1 0 1 t66 (read_win 0 512 0 4 0 2048 256 0) (read_codes 4 256)
theorem t68 : Holds (k0_mxu181_1 c g0 g3 g9) (accT g0 g3 68) := stepT 4 1 1 1 t67 (read_win 0 512 0 4 0 2048 256 256) (read_codes 4 256)
theorem t69 : Holds (k0_mxu183_1 c g0 g3 g9) (accT g0 g3 69) := stepT 4 2 0 0 t68 (read_win 0 512 512 4 512 2048 0 0) (read_codes 4 512)
theorem t70 : Holds (k0_mxu185_1 c g0 g3 g9) (accT g0 g3 70) := stepT 4 2 1 0 t69 (read_win 0 512 512 4 512 2048 0 256) (read_codes 4 512)
theorem t71 : Holds (k0_mxu187_1 c g0 g3 g9) (accT g0 g3 71) := stepT 4 3 0 1 t70 (read_win 0 512 512 4 512 2048 256 0) (read_codes 4 768)
theorem t72 : Holds (k0_mxu189_1 c g0 g3 g9) (accT g0 g3 72) := stepT 4 3 1 1 t71 (read_win 0 512 512 4 512 2048 256 256) (read_codes 4 768)
theorem t73 : Holds (k0_mxu191_1 c g0 g3 g9) (accT g0 g3 73) := stepT 4 4 0 0 t72 (read_win 0 512 1024 4 1024 2048 0 0) (read_codes 4 1024)
theorem t74 : Holds (k0_mxu193_1 c g0 g3 g9) (accT g0 g3 74) := stepT 4 4 1 0 t73 (read_win 0 512 1024 4 1024 2048 0 256) (read_codes 4 1024)
theorem t75 : Holds (k0_mxu195_1 c g0 g3 g9) (accT g0 g3 75) := stepT 4 5 0 1 t74 (read_win 0 512 1024 4 1024 2048 256 0) (read_codes 4 1280)
theorem t76 : Holds (k0_mxu197_1 c g0 g3 g9) (accT g0 g3 76) := stepT 4 5 1 1 t75 (read_win 0 512 1024 4 1024 2048 256 256) (read_codes 4 1280)
theorem t77 : Holds (k0_mxu199_1 c g0 g3 g9) (accT g0 g3 77) := stepT 4 6 0 0 t76 (read_win 0 512 1536 4 1536 2048 0 0) (read_codes 4 1536)
theorem t78 : Holds (k0_mxu201_1 c g0 g3 g9) (accT g0 g3 78) := stepT 4 6 1 0 t77 (read_win 0 512 1536 4 1536 2048 0 256) (read_codes 4 1536)
theorem t79 : Holds (k0_mxu203_1 c g0 g3 g9) (accT g0 g3 79) := stepT 4 7 0 1 t78 (read_win 0 512 1536 4 1536 2048 256 0) (read_codes 4 1792)
theorem t80 : Holds (k0_mxu205_1 c g0 g3 g9) (accT g0 g3 80) := stepT 4 7 1 1 t79 (read_win 0 512 1536 4 1536 2048 256 256) (read_codes 4 1792)
theorem t81 : Holds (k0_mxu207_1 c g0 g3 g9) (accT g0 g3 81) := stepT 5 0 0 0 t80 (read_win 0 1024 0 5 0 2048 0 0) (read_codes 5 0)
theorem t82 : Holds (k0_mxu209_1 c g0 g3 g9) (accT g0 g3 82) := stepT 5 0 1 0 t81 (read_win 0 1024 0 5 0 2048 0 256) (read_codes 5 0)
theorem t83 : Holds (k0_mxu211_1 c g0 g3 g9) (accT g0 g3 83) := stepT 5 1 0 1 t82 (read_win 0 1024 0 5 0 2048 256 0) (read_codes 5 256)
theorem t84 : Holds (k0_mxu213_1 c g0 g3 g9) (accT g0 g3 84) := stepT 5 1 1 1 t83 (read_win 0 1024 0 5 0 2048 256 256) (read_codes 5 256)
theorem t85 : Holds (k0_mxu215_1 c g0 g3 g9) (accT g0 g3 85) := stepT 5 2 0 0 t84 (read_win 0 1024 512 5 512 2048 0 0) (read_codes 5 512)
theorem t86 : Holds (k0_mxu217_1 c g0 g3 g9) (accT g0 g3 86) := stepT 5 2 1 0 t85 (read_win 0 1024 512 5 512 2048 0 256) (read_codes 5 512)
theorem t87 : Holds (k0_mxu219_1 c g0 g3 g9) (accT g0 g3 87) := stepT 5 3 0 1 t86 (read_win 0 1024 512 5 512 2048 256 0) (read_codes 5 768)
theorem t88 : Holds (k0_mxu221_1 c g0 g3 g9) (accT g0 g3 88) := stepT 5 3 1 1 t87 (read_win 0 1024 512 5 512 2048 256 256) (read_codes 5 768)
theorem t89 : Holds (k0_mxu223_1 c g0 g3 g9) (accT g0 g3 89) := stepT 5 4 0 0 t88 (read_win 0 1024 1024 5 1024 2048 0 0) (read_codes 5 1024)
theorem t90 : Holds (k0_mxu225_1 c g0 g3 g9) (accT g0 g3 90) := stepT 5 4 1 0 t89 (read_win 0 1024 1024 5 1024 2048 0 256) (read_codes 5 1024)
theorem t91 : Holds (k0_mxu227_1 c g0 g3 g9) (accT g0 g3 91) := stepT 5 5 0 1 t90 (read_win 0 1024 1024 5 1024 2048 256 0) (read_codes 5 1280)
theorem t92 : Holds (k0_mxu229_1 c g0 g3 g9) (accT g0 g3 92) := stepT 5 5 1 1 t91 (read_win 0 1024 1024 5 1024 2048 256 256) (read_codes 5 1280)
theorem t93 : Holds (k0_mxu231_1 c g0 g3 g9) (accT g0 g3 93) := stepT 5 6 0 0 t92 (read_win 0 1024 1536 5 1536 2048 0 0) (read_codes 5 1536)
theorem t94 : Holds (k0_mxu233_1 c g0 g3 g9) (accT g0 g3 94) := stepT 5 6 1 0 t93 (read_win 0 1024 1536 5 1536 2048 0 256) (read_codes 5 1536)
theorem t95 : Holds (k0_mxu235_1 c g0 g3 g9) (accT g0 g3 95) := stepT 5 7 0 1 t94 (read_win 0 1024 1536 5 1536 2048 256 0) (read_codes 5 1792)
theorem t96 : Holds (k0_mxu237_1 c g0 g3 g9) (accT g0 g3 96) := stepT 5 7 1 1 t95 (read_win 0 1024 1536 5 1536 2048 256 256) (read_codes 5 1792)
theorem t97 : Holds (k0_mxu143_2 c g0 g3 g9) (accT g0 g3 97) := stepT 6 0 0 0 t96 (read_win 1 0 0 6 0 2048 0 0) (read_codes 6 0)
theorem t98 : Holds (k0_mxu145_2 c g0 g3 g9) (accT g0 g3 98) := stepT 6 0 1 0 t97 (read_win 1 0 0 6 0 2048 0 256) (read_codes 6 0)
theorem t99 : Holds (k0_mxu147_2 c g0 g3 g9) (accT g0 g3 99) := stepT 6 1 0 1 t98 (read_win 1 0 0 6 0 2048 256 0) (read_codes 6 256)
theorem t100 : Holds (k0_mxu149_2 c g0 g3 g9) (accT g0 g3 100) := stepT 6 1 1 1 t99 (read_win 1 0 0 6 0 2048 256 256) (read_codes 6 256)
theorem t101 : Holds (k0_mxu151_2 c g0 g3 g9) (accT g0 g3 101) := stepT 6 2 0 0 t100 (read_win 1 0 512 6 512 2048 0 0) (read_codes 6 512)
theorem t102 : Holds (k0_mxu153_2 c g0 g3 g9) (accT g0 g3 102) := stepT 6 2 1 0 t101 (read_win 1 0 512 6 512 2048 0 256) (read_codes 6 512)
theorem t103 : Holds (k0_mxu155_2 c g0 g3 g9) (accT g0 g3 103) := stepT 6 3 0 1 t102 (read_win 1 0 512 6 512 2048 256 0) (read_codes 6 768)
theorem t104 : Holds (k0_mxu157_2 c g0 g3 g9) (accT g0 g3 104) := stepT 6 3 1 1 t103 (read_win 1 0 512 6 512 2048 256 256) (read_codes 6 768)
theorem t105 : Holds (k0_mxu159_2 c g0 g3 g9) (accT g0 g3 105) := stepT 6 4 0 0 t104 (read_win 1 0 1024 6 1024 2048 0 0) (read_codes 6 1024)
theorem t106 : Holds (k0_mxu161_2 c g0 g3 g9) (accT g0 g3 106) := stepT 6 4 1 0 t105 (read_win 1 0 1024 6 1024 2048 0 256) (read_codes 6 1024)
theorem t107 : Holds (k0_mxu163_2 c g0 g3 g9) (accT g0 g3 107) := stepT 6 5 0 1 t106 (read_win 1 0 1024 6 1024 2048 256 0) (read_codes 6 1280)
theorem t108 : Holds (k0_mxu165_2 c g0 g3 g9) (accT g0 g3 108) := stepT 6 5 1 1 t107 (read_win 1 0 1024 6 1024 2048 256 256) (read_codes 6 1280)
theorem t109 : Holds (k0_mxu167_2 c g0 g3 g9) (accT g0 g3 109) := stepT 6 6 0 0 t108 (read_win 1 0 1536 6 1536 2048 0 0) (read_codes 6 1536)
theorem t110 : Holds (k0_mxu169_2 c g0 g3 g9) (accT g0 g3 110) := stepT 6 6 1 0 t109 (read_win 1 0 1536 6 1536 2048 0 256) (read_codes 6 1536)
theorem t111 : Holds (k0_mxu171_2 c g0 g3 g9) (accT g0 g3 111) := stepT 6 7 0 1 t110 (read_win 1 0 1536 6 1536 2048 256 0) (read_codes 6 1792)
theorem t112 : Holds (k0_mxu173_2 c g0 g3 g9) (accT g0 g3 112) := stepT 6 7 1 1 t111 (read_win 1 0 1536 6 1536 2048 256 256) (read_codes 6 1792)
theorem t113 : Holds (k0_mxu175_2 c g0 g3 g9) (accT g0 g3 113) := stepT 7 0 0 0 t112 (read_win 1 512 0 7 0 2048 0 0) (read_codes 7 0)
theorem t114 : Holds (k0_mxu177_2 c g0 g3 g9) (accT g0 g3 114) := stepT 7 0 1 0 t113 (read_win 1 512 0 7 0 2048 0 256) (read_codes 7 0)
theorem t115 : Holds (k0_mxu179_2 c g0 g3 g9) (accT g0 g3 115) := stepT 7 1 0 1 t114 (read_win 1 512 0 7 0 2048 256 0) (read_codes 7 256)
theorem t116 : Holds (k0_mxu181_2 c g0 g3 g9) (accT g0 g3 116) := stepT 7 1 1 1 t115 (read_win 1 512 0 7 0 2048 256 256) (read_codes 7 256)
theorem t117 : Holds (k0_mxu183_2 c g0 g3 g9) (accT g0 g3 117) := stepT 7 2 0 0 t116 (read_win 1 512 512 7 512 2048 0 0) (read_codes 7 512)
theorem t118 : Holds (k0_mxu185_2 c g0 g3 g9) (accT g0 g3 118) := stepT 7 2 1 0 t117 (read_win 1 512 512 7 512 2048 0 256) (read_codes 7 512)
theorem t119 : Holds (k0_mxu187_2 c g0 g3 g9) (accT g0 g3 119) := stepT 7 3 0 1 t118 (read_win 1 512 512 7 512 2048 256 0) (read_codes 7 768)
theorem t120 : Holds (k0_mxu189_2 c g0 g3 g9) (accT g0 g3 120) := stepT 7 3 1 1 t119 (read_win 1 512 512 7 512 2048 256 256) (read_codes 7 768)
theorem t121 : Holds (k0_mxu191_2 c g0 g3 g9) (accT g0 g3 121) := stepT 7 4 0 0 t120 (read_win 1 512 1024 7 1024 2048 0 0) (read_codes 7 1024)
theorem t122 : Holds (k0_mxu193_2 c g0 g3 g9) (accT g0 g3 122) := stepT 7 4 1 0 t121 (read_win 1 512 1024 7 1024 2048 0 256) (read_codes 7 1024)
theorem t123 : Holds (k0_mxu195_2 c g0 g3 g9) (accT g0 g3 123) := stepT 7 5 0 1 t122 (read_win 1 512 1024 7 1024 2048 256 0) (read_codes 7 1280)
theorem t124 : Holds (k0_mxu197_2 c g0 g3 g9) (accT g0 g3 124) := stepT 7 5 1 1 t123 (read_win 1 512 1024 7 1024 2048 256 256) (read_codes 7 1280)
theorem t125 : Holds (k0_mxu199_2 c g0 g3 g9) (accT g0 g3 125) := stepT 7 6 0 0 t124 (read_win 1 512 1536 7 1536 2048 0 0) (read_codes 7 1536)
theorem t126 : Holds (k0_mxu201_2 c g0 g3 g9) (accT g0 g3 126) := stepT 7 6 1 0 t125 (read_win 1 512 1536 7 1536 2048 0 256) (read_codes 7 1536)
theorem t127 : Holds (k0_mxu203_2 c g0 g3 g9) (accT g0 g3 127) := stepT 7 7 0 1 t126 (read_win 1 512 1536 7 1536 2048 256 0) (read_codes 7 1792)
theorem t128 : Holds (k0_mxu205_2 c g0 g3 g9) (accT g0 g3 128) := stepT 7 7 1 1 t127 (read_win 1 512 1536 7 1536 2048 256 256) (read_codes 7 1792)
theorem t129 : Holds (k0_mxu207_2 c g0 g3 g9) (accT g0 g3 129) := stepT 8 0 0 0 t128 (read_win 1 1024 0 8 0 2048 0 0) (read_codes 8 0)
theorem t130 : Holds (k0_mxu209_2 c g0 g3 g9) (accT g0 g3 130) := stepT 8 0 1 0 t129 (read_win 1 1024 0 8 0 2048 0 256) (read_codes 8 0)
theorem t131 : Holds (k0_mxu211_2 c g0 g3 g9) (accT g0 g3 131) := stepT 8 1 0 1 t130 (read_win 1 1024 0 8 0 2048 256 0) (read_codes 8 256)
theorem t132 : Holds (k0_mxu213_2 c g0 g3 g9) (accT g0 g3 132) := stepT 8 1 1 1 t131 (read_win 1 1024 0 8 0 2048 256 256) (read_codes 8 256)
theorem t133 : Holds (k0_mxu215_2 c g0 g3 g9) (accT g0 g3 133) := stepT 8 2 0 0 t132 (read_win 1 1024 512 8 512 2048 0 0) (read_codes 8 512)
theorem t134 : Holds (k0_mxu217_2 c g0 g3 g9) (accT g0 g3 134) := stepT 8 2 1 0 t133 (read_win 1 1024 512 8 512 2048 0 256) (read_codes 8 512)
theorem t135 : Holds (k0_mxu219_2 c g0 g3 g9) (accT g0 g3 135) := stepT 8 3 0 1 t134 (read_win 1 1024 512 8 512 2048 256 0) (read_codes 8 768)
theorem t136 : Holds (k0_mxu221_2 c g0 g3 g9) (accT g0 g3 136) := stepT 8 3 1 1 t135 (read_win 1 1024 512 8 512 2048 256 256) (read_codes 8 768)
theorem t137 : Holds (k0_mxu223_2 c g0 g3 g9) (accT g0 g3 137) := stepT 8 4 0 0 t136 (read_win 1 1024 1024 8 1024 2048 0 0) (read_codes 8 1024)
theorem t138 : Holds (k0_mxu225_2 c g0 g3 g9) (accT g0 g3 138) := stepT 8 4 1 0 t137 (read_win 1 1024 1024 8 1024 2048 0 256) (read_codes 8 1024)
theorem t139 : Holds (k0_mxu227_2 c g0 g3 g9) (accT g0 g3 139) := stepT 8 5 0 1 t138 (read_win 1 1024 1024 8 1024 2048 256 0) (read_codes 8 1280)
theorem t140 : Holds (k0_mxu229_2 c g0 g3 g9) (accT g0 g3 140) := stepT 8 5 1 1 t139 (read_win 1 1024 1024 8 1024 2048 256 256) (read_codes 8 1280)
theorem t141 : Holds (k0_mxu231_2 c g0 g3 g9) (accT g0 g3 141) := stepT 8 6 0 0 t140 (read_win 1 1024 1536 8 1536 2048 0 0) (read_codes 8 1536)
theorem t142 : Holds (k0_mxu233_2 c g0 g3 g9) (accT g0 g3 142) := stepT 8 6 1 0 t141 (read_win 1 1024 1536 8 1536 2048 0 256) (read_codes 8 1536)
theorem t143 : Holds (k0_mxu235_2 c g0 g3 g9) (accT g0 g3 143) := stepT 8 7 0 1 t142 (read_win 1 1024 1536 8 1536 2048 256 0) (read_codes 8 1792)
theorem t144 : Holds (k0_mxu237_2 c g0 g3 g9) (accT g0 g3 144) := stepT 8 7 1 1 t143 (read_win 1 1024 1536 8 1536 2048 256 256) (read_codes 8 1792)
theorem t145 : Holds (k0_mxu143_3 c g0 g3 g9) (accT g0 g3 145) := stepT 9 0 0 0 t144 (read_win 2 0 0 9 0 2048 0 0) (read_codes 9 0)
theorem t146 : Holds (k0_mxu145_3 c g0 g3 g9) (accT g0 g3 146) := stepT 9 0 1 0 t145 (read_win 2 0 0 9 0 2048 0 256) (read_codes 9 0)
theorem t147 : Holds (k0_mxu147_3 c g0 g3 g9) (accT g0 g3 147) := stepT 9 1 0 1 t146 (read_win 2 0 0 9 0 2048 256 0) (read_codes 9 256)
theorem t148 : Holds (k0_mxu149_3 c g0 g3 g9) (accT g0 g3 148) := stepT 9 1 1 1 t147 (read_win 2 0 0 9 0 2048 256 256) (read_codes 9 256)
theorem t149 : Holds (k0_mxu151_3 c g0 g3 g9) (accT g0 g3 149) := stepT 9 2 0 0 t148 (read_win 2 0 512 9 512 2048 0 0) (read_codes 9 512)
theorem t150 : Holds (k0_mxu153_3 c g0 g3 g9) (accT g0 g3 150) := stepT 9 2 1 0 t149 (read_win 2 0 512 9 512 2048 0 256) (read_codes 9 512)
theorem t151 : Holds (k0_mxu155_3 c g0 g3 g9) (accT g0 g3 151) := stepT 9 3 0 1 t150 (read_win 2 0 512 9 512 2048 256 0) (read_codes 9 768)
theorem t152 : Holds (k0_mxu157_3 c g0 g3 g9) (accT g0 g3 152) := stepT 9 3 1 1 t151 (read_win 2 0 512 9 512 2048 256 256) (read_codes 9 768)
theorem t153 : Holds (k0_mxu159_3 c g0 g3 g9) (accT g0 g3 153) := stepT 9 4 0 0 t152 (read_win 2 0 1024 9 1024 2048 0 0) (read_codes 9 1024)
theorem t154 : Holds (k0_mxu161_3 c g0 g3 g9) (accT g0 g3 154) := stepT 9 4 1 0 t153 (read_win 2 0 1024 9 1024 2048 0 256) (read_codes 9 1024)
theorem t155 : Holds (k0_mxu163_3 c g0 g3 g9) (accT g0 g3 155) := stepT 9 5 0 1 t154 (read_win 2 0 1024 9 1024 2048 256 0) (read_codes 9 1280)
theorem t156 : Holds (k0_mxu165_3 c g0 g3 g9) (accT g0 g3 156) := stepT 9 5 1 1 t155 (read_win 2 0 1024 9 1024 2048 256 256) (read_codes 9 1280)
theorem t157 : Holds (k0_mxu167_3 c g0 g3 g9) (accT g0 g3 157) := stepT 9 6 0 0 t156 (read_win 2 0 1536 9 1536 2048 0 0) (read_codes 9 1536)
theorem t158 : Holds (k0_mxu169_3 c g0 g3 g9) (accT g0 g3 158) := stepT 9 6 1 0 t157 (read_win 2 0 1536 9 1536 2048 0 256) (read_codes 9 1536)
theorem t159 : Holds (k0_mxu171_3 c g0 g3 g9) (accT g0 g3 159) := stepT 9 7 0 1 t158 (read_win 2 0 1536 9 1536 2048 256 0) (read_codes 9 1792)
theorem t160 : Holds (k0_mxu173_3 c g0 g3 g9) (accT g0 g3 160) := stepT 9 7 1 1 t159 (read_win 2 0 1536 9 1536 2048 256 256) (read_codes 9 1792)
theorem t161 : Holds (k0_mxu175_3 c g0 g3 g9) (accT g0 g3 161) := stepT 10 0 0 0 t160 (read_win 2 512 0 10 0 2048 0 0) (read_codes 10 0)
theorem t162 : Holds (k0_mxu177_3 c g0 g3 g9) (accT g0 g3 162) := stepT 10 0 1 0 t161 (read_win 2 512 0 10 0 2048 0 256) (read_codes 10 0)
theorem t163 : Holds (k0_mxu179_3 c g0 g3 g9) (accT g0 g3 163) := stepT 10 1 0 1 t162 (read_win 2 512 0 10 0 2048 256 0) (read_codes 10 256)
theorem t164 : Holds (k0_mxu181_3 c g0 g3 g9) (accT g0 g3 164) := stepT 10 1 1 1 t163 (read_win 2 512 0 10 0 2048 256 256) (read_codes 10 256)
theorem t165 : Holds (k0_mxu183_3 c g0 g3 g9) (accT g0 g3 165) := stepT 10 2 0 0 t164 (read_win 2 512 512 10 512 2048 0 0) (read_codes 10 512)
theorem t166 : Holds (k0_mxu185_3 c g0 g3 g9) (accT g0 g3 166) := stepT 10 2 1 0 t165 (read_win 2 512 512 10 512 2048 0 256) (read_codes 10 512)
theorem t167 : Holds (k0_mxu187_3 c g0 g3 g9) (accT g0 g3 167) := stepT 10 3 0 1 t166 (read_win 2 512 512 10 512 2048 256 0) (read_codes 10 768)
theorem t168 : Holds (k0_mxu189_3 c g0 g3 g9) (accT g0 g3 168) := stepT 10 3 1 1 t167 (read_win 2 512 512 10 512 2048 256 256) (read_codes 10 768)
theorem t169 : Holds (k0_mxu191_3 c g0 g3 g9) (accT g0 g3 169) := stepT 10 4 0 0 t168 (read_win 2 512 1024 10 1024 2048 0 0) (read_codes 10 1024)
theorem t170 : Holds (k0_mxu193_3 c g0 g3 g9) (accT g0 g3 170) := stepT 10 4 1 0 t169 (read_win 2 512 1024 10 1024 2048 0 256) (read_codes 10 1024)
theorem t171 : Holds (k0_mxu195_3 c g0 g3 g9) (accT g0 g3 171) := stepT 10 5 0 1 t170 (read_win 2 512 1024 10 1024 2048 256 0) (read_codes 10 1280)
theorem t172 : Holds (k0_mxu197_3 c g0 g3 g9) (accT g0 g3 172) := stepT 10 5 1 1 t171 (read_win 2 512 1024 10 1024 2048 256 256) (read_codes 10 1280)
theorem t173 : Holds (k0_mxu199_3 c g0 g3 g9) (accT g0 g3 173) := stepT 10 6 0 0 t172 (read_win 2 512 1536 10 1536 2048 0 0) (read_codes 10 1536)
theorem t174 : Holds (k0_mxu201_3 c g0 g3 g9) (accT g0 g3 174) := stepT 10 6 1 0 t173 (read_win 2 512 1536 10 1536 2048 0 256) (read_codes 10 1536)
theorem t175 : Holds (k0_mxu203_3 c g0 g3 g9) (accT g0 g3 175) := stepT 10 7 0 1 t174 (read_win 2 512 1536 10 1536 2048 256 0) (read_codes 10 1792)
theorem t176 : Holds (k0_mxu205_3 c g0 g3 g9) (accT g0 g3 176) := stepT 10 7 1 1 t175 (read_win 2 512 1536 10 1536 2048 256 256) (read_codes 10 1792)
theorem t177 : Holds (k0_mxu207_3 c g0 g3 g9) (accT g0 g3 177) := stepT 11 0 0 0 t176 (read_win 2 1024 0 11 0 2048 0 0) (read_codes 11 0)
theorem t178 : Holds (k0_mxu209_3 c g0 g3 g9) (accT g0 g3 178) := stepT 11 0 1 0 t177 (read_win 2 1024 0 11 0 2048 0 256) (read_codes 11 0)
theorem t179 : Holds (k0_mxu211_3 c g0 g3 g9) (accT g0 g3 179) := stepT 11 1 0 1 t178 (read_win 2 1024 0 11 0 2048 256 0) (read_codes 11 256)
theorem t180 : Holds (k0_mxu213_3 c g0 g3 g9) (accT g0 g3 180) := stepT 11 1 1 1 t179 (read_win 2 1024 0 11 0 2048 256 256) (read_codes 11 256)
theorem t181 : Holds (k0_mxu215_3 c g0 g3 g9) (accT g0 g3 181) := stepT 11 2 0 0 t180 (read_win 2 1024 512 11 512 2048 0 0) (read_codes 11 512)
theorem t182 : Holds (k0_mxu217_3 c g0 g3 g9) (accT g0 g3 182) := stepT 11 2 1 0 t181 (read_win 2 1024 512 11 512 2048 0 256) (read_codes 11 512)
theorem t183 : Holds (k0_mxu219_3 c g0 g3 g9) (accT g0 g3 183) := stepT 11 3 0 1 t182 (read_win 2 1024 512 11 512 2048 256 0) (read_codes 11 768)
theorem t184 : Holds (k0_mxu221_3 c g0 g3 g9) (accT g0 g3 184) := stepT 11 3 1 1 t183 (read_win 2 1024 512 11 512 2048 256 256) (read_codes 11 768)
theorem t185 : Holds (k0_mxu223_3 c g0 g3 g9) (accT g0 g3 185) := stepT 11 4 0 0 t184 (read_win 2 1024 1024 11 1024 2048 0 0) (read_codes 11 1024)
theorem t186 : Holds (k0_mxu225_3 c g0 g3 g9) (accT g0 g3 186) := stepT 11 4 1 0 t185 (read_win 2 1024 1024 11 1024 2048 0 256) (read_codes 11 1024)
theorem t187 : Holds (k0_mxu227_3 c g0 g3 g9) (accT g0 g3 187) := stepT 11 5 0 1 t186 (read_win 2 1024 1024 11 1024 2048 256 0) (read_codes 11 1280)
theorem t188 : Holds (k0_mxu229_3 c g0 g3 g9) (accT g0 g3 188) := stepT 11 5 1 1 t187 (read_win 2 1024 1024 11 1024 2048 256 256) (read_codes 11 1280)
theorem t189 : Holds (k0_mxu231_3 c g0 g3 g9) (accT g0 g3 189) := stepT 11 6 0 0 t188 (read_win 2 1024 1536 11 1536 2048 0 0) (read_codes 11 1536)
theorem t190 : Holds (k0_mxu233_3 c g0 g3 g9) (accT g0 g3 190) := stepT 11 6 1 0 t189 (read_win 2 1024 1536 11 1536 2048 0 256) (read_codes 11 1536)
theorem t191 : Holds (k0_mxu235_3 c g0 g3 g9) (accT g0 g3 191) := stepT 11 7 0 1 t190 (read_win 2 1024 1536 11 1536 2048 256 0) (read_codes 11 1792)
theorem t192 : Holds (k0_mxu237_3 c g0 g3 g9) (accT g0 g3 192) := stepT 11 7 1 1 t191 (read_win 2 1024 1536 11 1536 2048 256 256) (read_codes 11 1792)
theorem t193 : Holds (k0_mxu143_4 c g0 g3 g9) (accT g0 g3 193) := stepT 12 0 0 0 t192 (read_win 3 0 0 12 0 2048 0 0) (read_codes 12 0)
theorem t194 : Holds (k0_mxu145_4 c g0 g3 g9) (accT g0 g3 194) := stepT 12 0 1 0 t193 (read_win 3 0 0 12 0 2048 0 256) (read_codes 12 0)
theorem t195 : Holds (k0_mxu147_4 c g0 g3 g9) (accT g0 g3 195) := stepT 12 1 0 1 t194 (read_win 3 0 0 12 0 2048 256 0) (read_codes 12 256)
theorem t196 : Holds (k0_mxu149_4 c g0 g3 g9) (accT g0 g3 196) := stepT 12 1 1 1 t195 (read_win 3 0 0 12 0 2048 256 256) (read_codes 12 256)
theorem t197 : Holds (k0_mxu151_4 c g0 g3 g9) (accT g0 g3 197) := stepT 12 2 0 0 t196 (read_win 3 0 512 12 512 2048 0 0) (read_codes 12 512)
theorem t198 : Holds (k0_mxu153_4 c g0 g3 g9) (accT g0 g3 198) := stepT 12 2 1 0 t197 (read_win 3 0 512 12 512 2048 0 256) (read_codes 12 512)
theorem t199 : Holds (k0_mxu155_4 c g0 g3 g9) (accT g0 g3 199) := stepT 12 3 0 1 t198 (read_win 3 0 512 12 512 2048 256 0) (read_codes 12 768)
theorem t200 : Holds (k0_mxu157_4 c g0 g3 g9) (accT g0 g3 200) := stepT 12 3 1 1 t199 (read_win 3 0 512 12 512 2048 256 256) (read_codes 12 768)
theorem t201 : Holds (k0_mxu159_4 c g0 g3 g9) (accT g0 g3 201) := stepT 12 4 0 0 t200 (read_win 3 0 1024 12 1024 2048 0 0) (read_codes 12 1024)
theorem t202 : Holds (k0_mxu161_4 c g0 g3 g9) (accT g0 g3 202) := stepT 12 4 1 0 t201 (read_win 3 0 1024 12 1024 2048 0 256) (read_codes 12 1024)
theorem t203 : Holds (k0_mxu163_4 c g0 g3 g9) (accT g0 g3 203) := stepT 12 5 0 1 t202 (read_win 3 0 1024 12 1024 2048 256 0) (read_codes 12 1280)
theorem t204 : Holds (k0_mxu165_4 c g0 g3 g9) (accT g0 g3 204) := stepT 12 5 1 1 t203 (read_win 3 0 1024 12 1024 2048 256 256) (read_codes 12 1280)
theorem t205 : Holds (k0_mxu167_4 c g0 g3 g9) (accT g0 g3 205) := stepT 12 6 0 0 t204 (read_win 3 0 1536 12 1536 2048 0 0) (read_codes 12 1536)
theorem t206 : Holds (k0_mxu169_4 c g0 g3 g9) (accT g0 g3 206) := stepT 12 6 1 0 t205 (read_win 3 0 1536 12 1536 2048 0 256) (read_codes 12 1536)
theorem t207 : Holds (k0_mxu171_4 c g0 g3 g9) (accT g0 g3 207) := stepT 12 7 0 1 t206 (read_win 3 0 1536 12 1536 2048 256 0) (read_codes 12 1792)
theorem t208 : Holds (k0_mxu173_4 c g0 g3 g9) (accT g0 g3 208) := stepT 12 7 1 1 t207 (read_win 3 0 1536 12 1536 2048 256 256) (read_codes 12 1792)
theorem t209 : Holds (k0_mxu175_4 c g0 g3 g9) (accT g0 g3 209) := stepT 13 0 0 0 t208 (read_win 3 512 0 13 0 2048 0 0) (read_codes 13 0)
theorem t210 : Holds (k0_mxu177_4 c g0 g3 g9) (accT g0 g3 210) := stepT 13 0 1 0 t209 (read_win 3 512 0 13 0 2048 0 256) (read_codes 13 0)
theorem t211 : Holds (k0_mxu179_4 c g0 g3 g9) (accT g0 g3 211) := stepT 13 1 0 1 t210 (read_win 3 512 0 13 0 2048 256 0) (read_codes 13 256)
theorem t212 : Holds (k0_mxu181_4 c g0 g3 g9) (accT g0 g3 212) := stepT 13 1 1 1 t211 (read_win 3 512 0 13 0 2048 256 256) (read_codes 13 256)
theorem t213 : Holds (k0_mxu183_4 c g0 g3 g9) (accT g0 g3 213) := stepT 13 2 0 0 t212 (read_win 3 512 512 13 512 2048 0 0) (read_codes 13 512)
theorem t214 : Holds (k0_mxu185_4 c g0 g3 g9) (accT g0 g3 214) := stepT 13 2 1 0 t213 (read_win 3 512 512 13 512 2048 0 256) (read_codes 13 512)
theorem t215 : Holds (k0_mxu187_4 c g0 g3 g9) (accT g0 g3 215) := stepT 13 3 0 1 t214 (read_win 3 512 512 13 512 2048 256 0) (read_codes 13 768)
theorem t216 : Holds (k0_mxu189_4 c g0 g3 g9) (accT g0 g3 216) := stepT 13 3 1 1 t215 (read_win 3 512 512 13 512 2048 256 256) (read_codes 13 768)
theorem t217 : Holds (k0_mxu191_4 c g0 g3 g9) (accT g0 g3 217) := stepT 13 4 0 0 t216 (read_win 3 512 1024 13 1024 2048 0 0) (read_codes 13 1024)
theorem t218 : Holds (k0_mxu193_4 c g0 g3 g9) (accT g0 g3 218) := stepT 13 4 1 0 t217 (read_win 3 512 1024 13 1024 2048 0 256) (read_codes 13 1024)
theorem t219 : Holds (k0_mxu195_4 c g0 g3 g9) (accT g0 g3 219) := stepT 13 5 0 1 t218 (read_win 3 512 1024 13 1024 2048 256 0) (read_codes 13 1280)
theorem t220 : Holds (k0_mxu197_4 c g0 g3 g9) (accT g0 g3 220) := stepT 13 5 1 1 t219 (read_win 3 512 1024 13 1024 2048 256 256) (read_codes 13 1280)
theorem t221 : Holds (k0_mxu199_4 c g0 g3 g9) (accT g0 g3 221) := stepT 13 6 0 0 t220 (read_win 3 512 1536 13 1536 2048 0 0) (read_codes 13 1536)
theorem t222 : Holds (k0_mxu201_4 c g0 g3 g9) (accT g0 g3 222) := stepT 13 6 1 0 t221 (read_win 3 512 1536 13 1536 2048 0 256) (read_codes 13 1536)
theorem t223 : Holds (k0_mxu203_4 c g0 g3 g9) (accT g0 g3 223) := stepT 13 7 0 1 t222 (read_win 3 512 1536 13 1536 2048 256 0) (read_codes 13 1792)
theorem t224 : Holds (k0_mxu205_4 c g0 g3 g9) (accT g0 g3 224) := stepT 13 7 1 1 t223 (read_win 3 512 1536 13 1536 2048 256 256) (read_codes 13 1792)
theorem t225 : Holds (k0_mxu207_4 c g0 g3 g9) (accT g0 g3 225) := stepT 14 0 0 0 t224 (read_win 3 1024 0 14 0 2048 0 0) (read_codes 14 0)
theorem t226 : Holds (k0_mxu209_4 c g0 g3 g9) (accT g0 g3 226) := stepT 14 0 1 0 t225 (read_win 3 1024 0 14 0 2048 0 256) (read_codes 14 0)
theorem t227 : Holds (k0_mxu211_4 c g0 g3 g9) (accT g0 g3 227) := stepT 14 1 0 1 t226 (read_win 3 1024 0 14 0 2048 256 0) (read_codes 14 256)
theorem t228 : Holds (k0_mxu213_4 c g0 g3 g9) (accT g0 g3 228) := stepT 14 1 1 1 t227 (read_win 3 1024 0 14 0 2048 256 256) (read_codes 14 256)
theorem t229 : Holds (k0_mxu215_4 c g0 g3 g9) (accT g0 g3 229) := stepT 14 2 0 0 t228 (read_win 3 1024 512 14 512 2048 0 0) (read_codes 14 512)
theorem t230 : Holds (k0_mxu217_4 c g0 g3 g9) (accT g0 g3 230) := stepT 14 2 1 0 t229 (read_win 3 1024 512 14 512 2048 0 256) (read_codes 14 512)
theorem t231 : Holds (k0_mxu219_4 c g0 g3 g9) (accT g0 g3 231) := stepT 14 3 0 1 t230 (read_win 3 1024 512 14 512 2048 256 0) (read_codes 14 768)
theorem t232 : Holds (k0_mxu221_4 c g0 g3 g9) (accT g0 g3 232) := stepT 14 3 1 1 t231 (read_win 3 1024 512 14 512 2048 256 256) (read_codes 14 768)
theorem t233 : Holds (k0_mxu223_4 c g0 g3 g9) (accT g0 g3 233) := stepT 14 4 0 0 t232 (read_win 3 1024 1024 14 1024 2048 0 0) (read_codes 14 1024)
theorem t234 : Holds (k0_mxu225_4 c g0 g3 g9) (accT g0 g3 234) := stepT 14 4 1 0 t233 (read_win 3 1024 1024 14 1024 2048 0 256) (read_codes 14 1024)
theorem t235 : Holds (k0_mxu227_4 c g0 g3 g9) (accT g0 g3 235) := stepT 14 5 0 1 t234 (read_win 3 1024 1024 14 1024 2048 256 0) (read_codes 14 1280)
theorem t236 : Holds (k0_mxu229_4 c g0 g3 g9) (accT g0 g3 236) := stepT 14 5 1 1 t235 (read_win 3 1024 1024 14 1024 2048 256 256) (read_codes 14 1280)
theorem t237 : Holds (k0_mxu231_4 c g0 g3 g9) (accT g0 g3 237) := stepT 14 6 0 0 t236 (read_win 3 1024 1536 14 1536 2048 0 0) (read_codes 14 1536)
theorem t238 : Holds (k0_mxu233_4 c g0 g3 g9) (accT g0 g3 238) := stepT 14 6 1 0 t237 (read_win 3 1024 1536 14 1536 2048 0 256) (read_codes 14 1536)
theorem t239 : Holds (k0_mxu235_4 c g0 g3 g9) (accT g0 g3 239) := stepT 14 7 0 1 t238 (read_win 3 1024 1536 14 1536 2048 256 0) (read_codes 14 1792)
theorem t240 : Holds (k0_mxu237_4 c g0 g3 g9) (accT g0 g3 240) := stepT 14 7 1 1 t239 (read_win 3 1024 1536 14 1536 2048 256 256) (read_codes 14 1792)

end Cert.MainIdeal.Hand.bodyRun.sl
end
-- ==== Proof.MainIdeal.Out.lean ====
module
public import proofs.«01_k».proof.Proof.MainIdeal.Acc
public import proofs.«01_k».proof.Proof.MainIdeal.Finish
@[expose] public section
noncomputable section
namespace Cert.MainIdeal.Hand
open Cert.MainIdeal Cert.MainIdeal.Gen Cert.MxuSum
open Idealize.ShloMosaic Idealize.ShloMosaic.ValueIdx
open scoped BigOperators

/-! # The result's column blocks, and the arrays they are read back from -/

/-- The scales' buffer: one row scale, repeated over 128 lanes. -/
abbrev GArr : Type := S256x128.Idx → EReal
abbrev RowArr : Type := S1x2560.Idx → EReal

/-- The whole sum behind one element of the result. -/
def dotFull (g0 : CArr) (g3 : WArr) (r : Fin 256) (n : Fin 2560) : EReal :=
  ∑ p : Fin 15 × Fin 8, ∑ x : Fin 256, g0 (ix3 p.1 r (⟨256 * p.2.val + x.val, by omega⟩ : Fin 2048)) * g3 (ix3 p.1 (⟨256 * p.2.val + x.val, by omega⟩ : Fin 2048) n)

/-- What the kernel computes as its result, element by element. -/
def yEl (g0 : CArr) (g1 : GArr) (g3 : WArr) (g4 g5 : RowArr) (r : Fin 256) (n : Fin 2560) : EReal :=
  dotFull g0 g3 r n * (g1 (ix2 r (⟨n.val % 128, by omega⟩ : Fin 128)) * g4 (ix2 (0 : Fin 1) n)) + g5 (ix2 (0 : Fin 1) n)
def yFull (g0 : CArr) (g1 : GArr) (g3 : WArr) (g4 g5 : RowArr) : S256x2560.Idx → EReal := fun i => yEl g0 g1 g3 g4 g5 (i 0) (i 1)

abbrev colOf (n : Fin 10) (x : Fin 256) : Fin 2560 := ⟨256 * n.val + x.val, by omega⟩

/-- One column block of the result. -/
theorem blk (g0 : CArr) (g1 : GArr) (g3 : WArr) (g4 g5 : RowArr) (n : Fin 10) (gs : FVec Ideal S256x128 .f32) (acc : FVec Ideal S256x256 .f32) (ws bias : FVec Ideal S1x256 .f32)
    (hgs : gs = g1) (hacc : acc = fun i => ∑ p : Fin 15 × Fin 8, term g0 g3 n p i) (hws : ws = fun j => g4 (ix2 (0 : Fin 1) (colOf n (j 1)))) (hbias : bias = fun j => g5 (ix2 (0 : Fin 1) (colOf n (j 1))))
    (hc hb hs ht) (x : S256x256.Idx) :
    (shapeCast S256x256 (truncf (F := Ideal) .bf16 (addf (mulf acc (mulf (concatenate S256x256 1 [⟨S256x128, gs⟩, ⟨S256x128, gs⟩] hc) (broadcastTo S256x256 ws hb)))
      (broadcastTo S256x256 bias hb)) ht) hs : FVec Ideal S256x256 .bf16) x = yEl g0 g1 g3 g4 g5 (x 0) (colOf n (x 1)) := by
  subst hgs
  obtain ⟨r, c, rfl⟩ := ix2_exists x
  rw [shapeCast_self, ValueIdx.truncf_apply, ValueIdx.addf_apply, ValueIdx.mulf_apply, ValueIdx.mulf_apply, broadcastTo_1b_ab_apply, broadcastTo_1b_ab_apply, hacc, hws, hbias]
  have hcat : concatenate S256x256 1 [⟨S256x128, gs⟩, ⟨S256x128, gs⟩] hc (ix2 r c) = gs (ix2 r (⟨(colOf n c).val % 128, by omega⟩ : Fin 128)) := by
    by_cases h : c.val < 128
    · refine concatenate_pair_apply_left (t := S256x256) (s₁ := S256x128) (s₂ := S256x128) 1 gs gs hc (ix2 r c) rfl (ix2 r (⟨(colOf n c).val % 128, by omega⟩ : Fin 128)) fun b => ?_
      match b with
      | ⟨0, _⟩ => rfl
      | ⟨1, _⟩ => show (256 * n.val + c.val) % 128 = c.val; omega
    · refine concatenate_pair_apply_right (t := S256x256) (s₁ := S256x128) (s₂ := S256x128) 1 gs gs hc (ix2 r c) rfl rfl (ix2 r (⟨(colOf n c).val % 128, by omega⟩ : Fin 128)) ?_ ?_
      · intro b hb
        match b with
        | ⟨0, _⟩ => rfl
        | ⟨1, _⟩ => exact absurd rfl hb
      · show (256 * n.val + c.val) % 128 + 128 = c.val; omega
  rw [hcat]
  rfl

/-- An array written in pieces that all agree with one array, read at an element some piece covers. -/
theorem read_writes_agree {κ : Kind} {sp : Space} {s : Shape} {e : EltTy} (v : View sig κ sp s e) (f : v.ty.Contents (Elt Ideal)) (Y : s.Idx → Elt Ideal e) (y : s.Idx) :
    ∀ L : List (View.Piece (Elt Ideal) s e), (∀ p ∈ L, ∀ x : p.1.shape.Idx, p.2 x = Y (p.1.emb x)) → (∃ p ∈ L, y ∈ p.1.set) →
      v.read (Elt Ideal) (v.writes (Elt Ideal) f L) y = Y y
  | [], _, h => by obtain ⟨_, hm, _⟩ := h; exact absurd hm List.not_mem_nil
  | p :: L, hP, h => by
    by_cases hy : y ∈ p.1.set
    · obtain ⟨x, rfl⟩ : ∃ x, p.1.emb x = y := p.1.exists_idx_of_mem hy
      rw [View.read_writes_cons_emb]
      exact hP p List.mem_cons_self x
    · have hy' : y ∉ Finset.univ.map p.1.emb := by rwa [Rect.map_emb_univ]
      rw [View.writes_cons, View.read_slice_write_of_not_mem p.1 _ _ _ hy']
      refine read_writes_agree v f Y y L (fun q hq => hP q (List.mem_cons_of_mem _ hq)) ?_
      obtain ⟨q, hq, hyq⟩ := h
      rcases List.mem_cons.mp hq with rfl | hq'
      · exact absurd hyq hy
      · exact ⟨q, hq', hyq⟩

/-- The element of the result a block's piece writes. -/
theorem yFull_at (g0 : CArr) (g1 : GArr) (g3 : WArr) (g4 g5 : RowArr) (n : Fin 10) (a : ℕ) (e : a = 256 * n.val)
    (h : ∀ x, (![0, a] : Fin 2 → ℕ) x + S256x256.size x ≤ S256x2560.size x) (x : S256x256.Idx) :
    yFull g0 g1 g3 g4 g5 ((Rect.unit (s := S256x2560) ![0, a] S256x256.size h).emb x) = yEl g0 g1 g3 g4 g5 (x 0) (colOf n (x 1)) := by
  subst e
  unfold yFull
  congr 1 <;> apply Fin.ext
  · show 0 + 1 * (x 0).val = (x 0).val; omega
  · show 256 * n.val + 1 * (x 1).val = 256 * n.val + (x 1).val; omega

/-- A block covers the columns of its own 256. -/
theorem covers (a w : ℕ) (h : ∀ x, (![0, a] : Fin 2 → ℕ) x + (⟨2, ![256, w]⟩ : Shape).size x ≤ S256x2560.size x) (i : S256x2560.Idx) (hl : a ≤ (i 1).val) (hr : (i 1).val < a + w) :
    i ∈ (Rect.unit (s := S256x2560) ![0, a] (⟨2, ![256, w]⟩ : Shape).size h).set := by
  rw [Rect.mem_set_unit]
  intro x
  match x with
  | ⟨0, _⟩ => exact ⟨Nat.zero_le _, by show (i 0).val < 0 + 256; have := (i 0).isLt; rw [Nat.zero_add]; exact this⟩
  | ⟨1, _⟩ => exact ⟨hl, hr⟩

/-- A block of the weights' scales read from its buffer after the copy filled it. -/
theorem read_ws {g12 g4 : RowArr} (n : Fin 10) (a : ℕ) (e : a = 256 * n.val) {h : ∀ x, (![0, a] : Fin 2 → ℕ) x + S1x256.size x ≤ S1x2560.size x} :
    (View.readAt (Elt Ideal) (Memref.whole cc0_scratch3).view (Rect.unit (s := S1x2560) ![0, a] S1x256.size h).toLoadRect
      (View.write (Elt Ideal) (Memref.whole cc0_scratch3).view g12 (ReadAs.same.apply (View.read (Elt Ideal) (Memref.whole main_v2).view g4)) Finset.univ) : FVec Ideal S1x256 .f32)
      = fun j => g4 (ix2 (0 : Fin 1) (colOf n (j 1))) := by
  subst e
  have e : (View.write (Elt Ideal) (Memref.whole cc0_scratch3).view g12 (ReadAs.same.apply (View.read (Elt Ideal) (Memref.whole main_v2).view g4)) Finset.univ) = g4 := by
    exact View.write_whole_univ _ _ _
  funext j
  rw [e, View.readAt_apply, View.read_apply]
  show g4 _ = g4 _
  congr 1
  funext x; fin_cases x <;> apply Fin.ext
  · show 0 + 1 * (j 0).val = 0; have : (j 0).val < 1 := (j 0).isLt; omega
  · show 256 * n.val + 1 * (j 1).val = 256 * n.val + (j 1).val; omega

/-- A block of the bias read from its buffer after the copy filled it. -/
theorem read_bias {g13 g5 : RowArr} (n : Fin 10) (a : ℕ) (e : a = 256 * n.val) {h : ∀ x, (![0, a] : Fin 2 → ℕ) x + S1x256.size x ≤ S1x2560.size x} :
    (View.readAt (Elt Ideal) (Memref.whole cc0_scratch4).view (Rect.unit (s := S1x2560) ![0, a] S1x256.size h).toLoadRect
      (View.write (Elt Ideal) (Memref.whole cc0_scratch4).view g13 (ReadAs.same.apply (View.read (Elt Ideal) (Memref.whole main_v3).view g5)) Finset.univ) : FVec Ideal S1x256 .f32)
      = fun j => g5 (ix2 (0 : Fin 1) (colOf n (j 1))) := by
  subst e
  have e : (View.write (Elt Ideal) (Memref.whole cc0_scratch4).view g13 (ReadAs.same.apply (View.read (Elt Ideal) (Memref.whole main_v3).view g5)) Finset.univ) = g5 := by
    exact View.write_whole_univ _ _ _
  funext j
  rw [e, View.readAt_apply, View.read_apply]
  show g5 _ = g5 _
  congr 1
  funext x; fin_cases x <;> apply Fin.ext
  · show 0 + 1 * (j 0).val = 0; have : (j 0).val < 1 := (j 0).isLt; omega
  · show 256 * n.val + 1 * (j 1).val = 256 * n.val + (j 1).val; omega

/-- The row scales read from their buffer after the copy filled it. -/
theorem read_gs {g10 g1 : GArr} {h : ∀ x, (![0, 0] : Fin 2 → ℕ) x + S256x128.size x ≤ S256x128.size x} :
    (View.readAt (Elt Ideal) (Memref.whole cc0_scratch1).view (Rect.unit (s := S256x128) ![0, 0] S256x128.size h).toLoadRect
      (View.write (Elt Ideal) (Memref.whole cc0_scratch1).view g10 (ReadAs.same.apply (View.read (Elt Ideal) (Memref.whole main_v1).view g1)) Finset.univ) : FVec Ideal S256x128 .f32) = g1 := by
  have e : (View.write (Elt Ideal) (Memref.whole cc0_scratch1).view g10 (ReadAs.same.apply (View.read (Elt Ideal) (Memref.whole main_v1).view g1)) Finset.univ) = g1 := by
    exact View.write_whole_univ _ _ _
  funext j
  rw [e, View.readAt_apply, View.read_apply]
  show g1 _ = g1 _
  congr 1
  funext x; fin_cases x <;> apply Fin.ext
  · show 0 + 1 * (j 0).val = (j 0).val; omega
  · show 0 + 1 * (j 1).val = (j 1).val; omega

/-! ## The packed features -/

/-- The packed features: batch, kernel position, sample, channel. -/
def gArr (g0 : CArr) : S2x15x128x2048.Idx → EReal := fun i => g0 (ix3 (i 1) (⟨128 * (i 0).val + (i 2).val, by have h0 : (i 0).val < 2 := (i 0).isLt; have h2 : (i 2).val < 128 := (i 2).isLt; omega⟩ : Fin 256) (i 3))
/-- Copy `n`'s part of it. -/
def gPay (g0 : CArr) (n : ℕ) : S128x2048.Idx → EReal := fun x => g0 (ix3 (gK n) (⟨128 * (gB n).val + (x 0).val, by have h0 := (gB n).isLt; have h2 : (x 0).val < 128 := (x 0).isLt; omega⟩ : Fin 256) (x 1))

/-- Copy `n`'s payload, as it reads the codes' buffer. -/
theorem read_cwin {g9 : S15x256x2048.Idx → EReal} {g0 : CArr} (n : ℕ) (k a : ℕ) (hk : k = (gK n).val) (ha : a = 128 * (gB n).val)
    {h : ∀ x, (![k, a, 0] : Fin 3 → ℕ) x + S1x128x2048.size x ≤ S15x256x2048.size x} {h'} :
    (ReadAs.same.apply (View.read (Elt Ideal) (((Memref.whole cc0_scratch0).slice (Rect.unit (s := S15x256x2048) ![k, a, 0] S1x128x2048.size h) h').squeeze S128x2048 squeezes_S1x128x2048_S128x2048).view
      (View.write (Elt Ideal) (Memref.whole cc0_scratch0).view g9 (ReadAs.same.apply (View.read (Elt Ideal) (Memref.whole main_arg0).view g0)) Finset.univ)) : S128x2048.Idx → EReal) = gPay g0 n := by
  subst hk ha
  have e : (View.write (Elt Ideal) (Memref.whole cc0_scratch0).view g9 (ReadAs.same.apply (View.read (Elt Ideal) (Memref.whole main_arg0).view g0)) Finset.univ) = g0 := by
    exact View.write_whole_univ _ _ _
  rw [e]
  funext x
  obtain ⟨s, d, rfl⟩ : ∃ (s : Fin 128) (d : Fin 2048), x = ix2 s d := ⟨x 0, x 1, by funext y; fin_cases y <;> rfl⟩
  show g0 ((Rect.unit (s := S15x256x2048) ![(gK n).val, 128 * (gB n).val, 0] S1x128x2048.size h).emb (Shape.reshapeEquiv _ _)) = g0 _
  rw [reshapeEquiv_ix2_1ab]
  congr 1
  funext x; fin_cases x <;> apply Fin.ext
  · show (gK n).val + 1 * 0 = (gK n).val; omega
  · show 128 * (gB n).val + 1 * s.val = 128 * (gB n).val + s.val; omega
  · show 0 + 1 * d.val = d.val; omega

theorem gw_emb (b : Fin 2) (k : Fin 15) (s : Fin 128) (d : Fin 2048) : (gWM b k).view.emb (ix2 s d) = ix4 b k s d := by
  show (Rect.unit (s := S2x15x128x2048) ![b.val, k.val, 0, 0] S1x1x128x2048.size _).emb (Shape.reshapeEquiv _ _) = _
  rw [reshapeEquiv_ix2_11ab]
  funext x; fin_cases x <;> apply Fin.ext
  · show b.val + 1 * 0 = b.val; omega
  · show k.val + 1 * 0 = k.val; omega
  · show 0 + 1 * s.val = s.val; omega
  · show 0 + 1 * d.val = d.val; omega

/-- The thirty copies of its parts make the packed features' array. -/
theorem gAfter_eq (g7 : S2x15x128x2048.Idx → EReal) (g0 : CArr) (v : ℕ → S128x2048.Idx → EReal) (hv : ∀ n < 30, v n = gPay g0 n) :
    (gAfter (F := Ideal) g7 v 30 : S2x15x128x2048.Idx → EReal) = gArr g0 := by
  funext i
  obtain ⟨b, k, s, d, rfl⟩ : ∃ (b : Fin 2) (k : Fin 15) (s : Fin 128) (d : Fin 2048), i = ix4 b k s d := ⟨i 0, i 1, i 2, i 3, by funext y; fin_cases y <;> rfl⟩
  obtain ⟨n, hn, hb, hk⟩ : ∃ n, n < 30 ∧ gB n = b ∧ gK n = k := ⟨2 * k.val + b.val, by omega, Fin.ext (by show (2 * k.val + b.val) % 2 = b.val; omega), Fin.ext (by show (2 * k.val + b.val) / 2 % 15 = k.val; omega)⟩
  subst hb hk
  have hm : ix4 (gB n) (gK n) s d ∈ (gWM (gB n) (gK n)).view.set := by rw [← gw_emb]; exact View.emb_mem_set _ _
  have h1 := gAfter_keeps (F := Ideal) g7 v n (29 - n) (by omega) _ hm
  have e30 : n + 1 + (29 - n) = 30 := by omega
  rw [e30] at h1
  refine h1.symm.trans ?_
  show View.write (Elt Ideal) (gWM (gB n) (gK n)).view (gAfter (F := Ideal) g7 v n) (v n) Finset.univ (ix4 (gB n) (gK n) s d) = _
  rw [← gw_emb, View.write_emb_of_mem _ _ (Finset.mem_univ _), hv n hn, gw_emb]
  rfl

theorem gAfter_eq' (g7 : S2x15x128x2048.Idx → EReal) (g0 : CArr) (w : Fin 30 → S128x2048.Idx → EReal) (hw : ∀ j : Fin 30, w j = gPay g0 (0 + j.val)) :
    (gAfter (F := Ideal) g7 (fun n => w (Fin.ofNat 30 n)) 30 : S2x15x128x2048.Idx → EReal) = gArr g0 :=
  gAfter_eq g7 g0 _ fun n hn => (hw (Fin.ofNat 30 n)).trans (congrArg (gPay g0) ((Nat.zero_add _).trans (Nat.mod_eq_of_lt hn)))

/-- The copies' payloads from copy `m` on, one at a time. -/
theorem cons_all (g0 : CArr) (m : ℕ) {n : ℕ} {a : S128x2048.Idx → EReal} {s : Fin n → S128x2048.Idx → EReal} (h0 : a = gPay g0 m) (hs : ∀ j : Fin n, s j = gPay g0 (m + 1 + j.val)) :
    ∀ j : Fin (n + 1), Matrix.vecCons a s j = gPay g0 (m + j.val) :=
  fun j => Fin.cases h0 (fun j => (hs j).trans (congrArg (gPay g0) (by show m + 1 + j.val = m + (j.val + 1); omega))) j

end Cert.MainIdeal.Hand
end
-- ==== Proof.MainIdeal.Values.lean ====
module
public import proofs.«01_k».proof.Proof.Gen.MainIdeal.Frame
public import proofs.«01_k».proof.Proof.Gen.MainIdeal.Skeleton
public import Idealize.ShloMosaic.Lib.Tactic
public import Idealize.ShloMosaic.Lib.Pipeline.FrameBody
public import Idealize.ShloMosaic.Lib.MixedBatch
public import Idealize.ShloMosaic.Lib.Ring
public import Idealize.ShloMosaic.Lib.WordCmp
public import Idealize.ShloMosaic.Lib.Mxu.Walk
public import proofs.«01_k».proof.Proof.MainIdeal.Finish
public import proofs.«01_k».proof.Proof.MainIdeal.Chain2
public import proofs.«01_k».proof.Proof.MainIdeal.Out
@[expose] public section
noncomputable section
namespace Cert.MainIdeal.Hand
open Cert.MainIdeal Cert.MainIdeal.Gen
open Cert.MxuSum Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
local notation "𝕄" => MT nD τ sig Unit (Elt Ideal) ℕ (Pipeline.UD sig nD τ) ℕ

namespace bodyRun.sl
variable {c : Dev nD} {g0 : CArr} {g1 g10 : GArr} {g3 : WArr} {g4 g5 g12 g13 : RowArr} {g9 : S15x256x2048.Idx → EReal} {g14 : S256x2560.Idx → EReal}

/-! # The result's ten column blocks -/

theorem acc0 : (v196_r0 c g0 g3 g9 : FVec Ideal S256x256 .f32) = fun i => ∑ p : Fin 15 × Fin 8, term g0 g3 0 p i := ((readP 0 0 (holdsP_init (a960 c g0 g3 g9))).trans (accM_full g0 g3 0 0))
theorem y0 (x : S256x256.Idx) : (k0_pay256 (r_1155 c g0 g1 g3 g4 g5 g9 g10 g12 g13) : FVec Ideal S256x256 .bf16) x = yFull g0 g1 g3 g4 g5 ((Rect.unit (s := S256x2560) ![0, 0] S256x256.size inb_S256x2560_S256x256_0_0).emb x) := by
  rw [yFull_at g0 g1 g3 g4 g5 0 0 rfl]
  delta k0_pay256 r_1155 k0_pay255
  exact blk g0 g1 g3 g4 g5 0 _ _ _ _ read_gs acc0 (read_ws 0 0 rfl) (read_bias 0 0 rfl) _ _ _ _ x
theorem acc1 : (v210_r0 c g0 g3 g9 : FVec Ideal S256x256 .f32) = fun i => ∑ p : Fin 15 × Fin 8, term g0 g3 1 p i := ((readP 1 0 p1).trans (accM_full g0 g3 1 0))
theorem y1 (x : S256x256.Idx) : (k0_pay257 (v194_r0 c g1 g10) (v210_r0 c g0 g3 g9) (v211_r0 c g4 g12) (v215_r0 c g5 g13) : FVec Ideal S256x256 .bf16) x = yFull g0 g1 g3 g4 g5 ((Rect.unit (s := S256x2560) ![0, 256] S256x256.size inb_S256x2560_S256x256_0_256).emb x) := by
  rw [yFull_at g0 g1 g3 g4 g5 1 256 rfl]
  exact blk g0 g1 g3 g4 g5 1 _ _ _ _ read_gs acc1 (read_ws 1 256 rfl) (read_bias 1 256 rfl) _ _ _ _ x
theorem acc2 : (v224_r0 c g0 g3 g9 : FVec Ideal S256x256 .f32) = fun i => ∑ p : Fin 15 × Fin 8, term g0 g3 2 p i := ((readP 0 1 p2).trans (accM_full g0 g3 0 1))
theorem y2 (x : S256x256.Idx) : (k0_pay258 (v194_r0 c g1 g10) (v224_r0 c g0 g3 g9) (v225_r0 c g4 g12) (v229_r0 c g5 g13) : FVec Ideal S256x256 .bf16) x = yFull g0 g1 g3 g4 g5 ((Rect.unit (s := S256x2560) ![0, 512] S256x256.size inb_S256x2560_S256x256_0_512).emb x) := by
  rw [yFull_at g0 g1 g3 g4 g5 2 512 rfl]
  exact blk g0 g1 g3 g4 g5 2 _ _ _ _ read_gs acc2 (read_ws 2 512 rfl) (read_bias 2 512 rfl) _ _ _ _ x
theorem acc3 : (v238_r0 c g0 g3 g9 : FVec Ideal S256x256 .f32) = fun i => ∑ p : Fin 15 × Fin 8, term g0 g3 3 p i := ((readP 1 1 p3).trans (accM_full g0 g3 1 1))
theorem y3 (x : S256x256.Idx) : (k0_pay260 (r_1156 c g1 g10) (v238_r0 c g0 g3 g9) (v239_r0 c g4 g12) (v243_r0 c g5 g13) : FVec Ideal S256x256 .bf16) x = yFull g0 g1 g3 g4 g5 ((Rect.unit (s := S256x2560) ![0, 768] S256x256.size inb_S256x2560_S256x256_0_768).emb x) := by
  rw [yFull_at g0 g1 g3 g4 g5 3 768 rfl]
  delta k0_pay260 r_1156 k0_pay259
  exact blk g0 g1 g3 g4 g5 3 _ _ _ _ read_gs acc3 (read_ws 3 768 rfl) (read_bias 3 768 rfl) _ _ _ _ x
theorem acc4 : (v252_r0 c g0 g3 g9 : FVec Ideal S256x256 .f32) = fun i => ∑ p : Fin 15 × Fin 8, term g0 g3 4 p i := ((readP 0 2 p4).trans (accM_full g0 g3 0 2))
theorem y4 (x : S256x256.Idx) : (k0_pay261 (v194_r0 c g1 g10) (v252_r0 c g0 g3 g9) (v253_r0 c g4 g12) (v257_r0 c g5 g13) : FVec Ideal S256x256 .bf16) x = yFull g0 g1 g3 g4 g5 ((Rect.unit (s := S256x2560) ![0, 1024] S256x256.size inb_S256x2560_S256x256_0_1024).emb x) := by
  rw [yFull_at g0 g1 g3 g4 g5 4 1024 rfl]
  exact blk g0 g1 g3 g4 g5 4 _ _ _ _ read_gs acc4 (read_ws 4 1024 rfl) (read_bias 4 1024 rfl) _ _ _ _ x
theorem acc5 : (v266_r0 c g0 g3 g9 : FVec Ideal S256x256 .f32) = fun i => ∑ p : Fin 15 × Fin 8, term g0 g3 5 p i := ((readP 1 2 p5).trans (accM_full g0 g3 1 2))
theorem y5 (x : S256x256.Idx) : (k0_pay263 (r_1157 c g0 g1 g3 g4 g5 g9 g10 g12 g13) : FVec Ideal S256x256 .bf16) x = yFull g0 g1 g3 g4 g5 ((Rect.unit (s := S256x2560) ![0, 1280] S256x256.size inb_S256x2560_S256x256_0_1280).emb x) := by
  rw [yFull_at g0 g1 g3 g4 g5 5 1280 rfl]
  delta k0_pay263 r_1157 k0_pay262
  exact blk g0 g1 g3 g4 g5 5 _ _ _ _ read_gs acc5 (read_ws 5 1280 rfl) (read_bias 5 1280 rfl) _ _ _ _ x
theorem acc6 : (v280_r0 c g0 g3 g9 : FVec Ideal S256x256 .f32) = fun i => ∑ p : Fin 15 × Fin 8, term g0 g3 6 p i := ((readP 0 3 p6).trans (accM_full g0 g3 0 3))
theorem y6 (x : S256x256.Idx) : (k0_pay264 (v194_r0 c g1 g10) (v280_r0 c g0 g3 g9) (v281_r0 c g4 g12) (v285_r0 c g5 g13) : FVec Ideal S256x256 .bf16) x = yFull g0 g1 g3 g4 g5 ((Rect.unit (s := S256x2560) ![0, 1536] S256x256.size inb_S256x2560_S256x256_0_1536).emb x) := by
  rw [yFull_at g0 g1 g3 g4 g5 6 1536 rfl]
  exact blk g0 g1 g3 g4 g5 6 _ _ _ _ read_gs acc6 (read_ws 6 1536 rfl) (read_bias 6 1536 rfl) _ _ _ _ x
theorem acc7 : (v294_r0 c g0 g3 g9 : FVec Ideal S256x256 .f32) = fun i => ∑ p : Fin 15 × Fin 8, term g0 g3 7 p i := ((readP 1 3 p7).trans (accM_full g0 g3 1 3))
theorem y7 (x : S256x256.Idx) : (k0_pay265 (v194_r0 c g1 g10) (v294_r0 c g0 g3 g9) (v295_r0 c g4 g12) (v299_r0 c g5 g13) : FVec Ideal S256x256 .bf16) x = yFull g0 g1 g3 g4 g5 ((Rect.unit (s := S256x2560) ![0, 1792] S256x256.size inb_S256x2560_S256x256_0_1792).emb x) := by
  rw [yFull_at g0 g1 g3 g4 g5 7 1792 rfl]
  exact blk g0 g1 g3 g4 g5 7 _ _ _ _ read_gs acc7 (read_ws 7 1792 rfl) (read_bias 7 1792 rfl) _ _ _ _ x
theorem acc8 : (v312_r0 c g0 g3 g9 : FVec Ideal S256x256 .f32) = fun i => ∑ p : Fin 15 × Fin 8, term g0 g3 8 p i := ((t240.val 0 0).trans (accT_full g0 g3 0))
theorem y8 (x : S256x256.Idx) : (k0_pay270 (v194_r0 c g1 g10) (v312_r0 c g0 g3 g9) (v313_r0 c g4 g12) (v317_r0 c g5 g13) : FVec Ideal S256x256 .bf16) x = yFull g0 g1 g3 g4 g5 ((Rect.unit (s := S256x2560) ![0, 2048] S256x256.size inb_S256x2560_S256x256_0_2048).emb x) := by
  rw [yFull_at g0 g1 g3 g4 g5 8 2048 rfl]
  exact blk g0 g1 g3 g4 g5 8 _ _ _ _ read_gs acc8 (read_ws 8 2048 rfl) (read_bias 8 2048 rfl) _ _ _ _ x
theorem acc9 : (v326_r0 c g0 g3 g9 : FVec Ideal S256x256 .f32) = fun i => ∑ p : Fin 15 × Fin 8, term g0 g3 9 p i := (((t240.pop 0 0).val 1 0).trans ((funext fun _ => if_neg (by decide)).trans (accT_full g0 g3 1)))
theorem y9 (x : S256x256.Idx) : (k0_pay271 (v194_r0 c g1 g10) (v326_r0 c g0 g3 g9) (v327_r0 c g4 g12) (v331_r0 c g5 g13) : FVec Ideal S256x256 .bf16) x = yFull g0 g1 g3 g4 g5 ((Rect.unit (s := S256x2560) ![0, 2304] S256x256.size inb_S256x2560_S256x256_0_2304).emb x) := by
  rw [yFull_at g0 g1 g3 g4 g5 9 2304 rfl]
  exact blk g0 g1 g3 g4 g5 9 _ _ _ _ read_gs acc9 (read_ws 9 2304 rfl) (read_bias 9 2304 rfl) _ _ _ _ x
theorem H14_3_agree : ∀ p ∈ (H14_3 c g0 g1 g3 g4 g5 g9 g10 g12 g13 : List (View.Piece (Elt Ideal) S256x2560 .bf16)), ∀ x : p.1.shape.Idx, p.2 x = yFull g0 g1 g3 g4 g5 (p.1.emb x) := by
  delta H14_3
  exact List.forall_mem_cons.2 ⟨y2, List.forall_mem_cons.2 ⟨y1, List.forall_mem_cons.2 ⟨y0, List.forall_mem_nil _⟩⟩⟩
theorem H14_5_agree : ∀ p ∈ (H14_5 c g0 g1 g3 g4 g5 g9 g10 g12 g13 : List (View.Piece (Elt Ideal) S256x2560 .bf16)), ∀ x : p.1.shape.Idx, p.2 x = yFull g0 g1 g3 g4 g5 (p.1.emb x) := by
  delta H14_5
  exact List.forall_mem_cons.2 ⟨y4, List.forall_mem_cons.2 ⟨y3, H14_3_agree⟩⟩
theorem H14_8_agree : ∀ p ∈ (H14_8 c g0 g1 g3 g4 g5 g9 g10 g12 g13 : List (View.Piece (Elt Ideal) S256x2560 .bf16)), ∀ x : p.1.shape.Idx, p.2 x = yFull g0 g1 g3 g4 g5 (p.1.emb x) := by
  delta H14_8
  exact List.forall_mem_cons.2 ⟨y7, List.forall_mem_cons.2 ⟨y6, List.forall_mem_cons.2 ⟨y5, H14_5_agree⟩⟩⟩
theorem H14_10_agree : ∀ p ∈ (H14_10 c g0 g1 g3 g4 g5 g9 g10 g12 g13 : List (View.Piece (Elt Ideal) S256x2560 .bf16)), ∀ x : p.1.shape.Idx, p.2 x = yFull g0 g1 g3 g4 g5 (p.1.emb x) := by
  delta H14_10
  exact List.forall_mem_cons.2 ⟨y9, List.forall_mem_cons.2 ⟨y8, H14_8_agree⟩⟩
theorem H14_8_covers (i : S256x2560.Idx) (hi : (i 1).val < 2048) : ∃ p ∈ (H14_8 c g0 g1 g3 g4 g5 g9 g10 g12 g13 : List (View.Piece (Elt Ideal) S256x2560 .bf16)), i ∈ p.1.set := by
  delta H14_8 H14_5 H14_3
  by_cases h7 : 1792 ≤ (i 1).val
  · exact ⟨_, .head _, covers 1792 256 inb_S256x2560_S256x256_0_1792 i h7 (by omega)⟩
  by_cases h6 : 1536 ≤ (i 1).val
  · exact ⟨_, .tail _ (.head _), covers 1536 256 inb_S256x2560_S256x256_0_1536 i h6 (by omega)⟩
  by_cases h5 : 1280 ≤ (i 1).val
  · exact ⟨_, .tail _ (.tail _ (.head _)), covers 1280 256 inb_S256x2560_S256x256_0_1280 i h5 (by omega)⟩
  by_cases h4 : 1024 ≤ (i 1).val
  · exact ⟨_, .tail _ (.tail _ (.tail _ (.head _))), covers 1024 256 inb_S256x2560_S256x256_0_1024 i h4 (by omega)⟩
  by_cases h3 : 768 ≤ (i 1).val
  · exact ⟨_, .tail _ (.tail _ (.tail _ (.tail _ (.head _)))), covers 768 256 inb_S256x2560_S256x256_0_768 i h3 (by omega)⟩
  by_cases h2 : 512 ≤ (i 1).val
  · exact ⟨_, .tail _ (.tail _ (.tail _ (.tail _ (.tail _ (.head _))))), covers 512 256 inb_S256x2560_S256x256_0_512 i h2 (by omega)⟩
  by_cases h1 : 256 ≤ (i 1).val
  · exact ⟨_, .tail _ (.tail _ (.tail _ (.tail _ (.tail _ (.tail _ (.head _)))))), covers 256 256 inb_S256x2560_S256x256_0_256 i h1 (by omega)⟩
  by_cases h0 : 0 ≤ (i 1).val
  · exact ⟨_, .tail _ (.tail _ (.tail _ (.tail _ (.tail _ (.tail _ (.tail _ (.head _))))))), covers 0 256 inb_S256x2560_S256x256_0_0 i h0 (by omega)⟩
  omega
theorem H14_10_covers (i : S256x2560.Idx) (hi : (i 1).val < 2560) : ∃ p ∈ (H14_10 c g0 g1 g3 g4 g5 g9 g10 g12 g13 : List (View.Piece (Elt Ideal) S256x2560 .bf16)), i ∈ p.1.set := by
  delta H14_10 H14_8 H14_5 H14_3
  by_cases h9 : 2304 ≤ (i 1).val
  · exact ⟨_, .head _, covers 2304 256 inb_S256x2560_S256x256_0_2304 i h9 (by omega)⟩
  by_cases h8 : 2048 ≤ (i 1).val
  · exact ⟨_, .tail _ (.head _), covers 2048 256 inb_S256x2560_S256x256_0_2048 i h8 (by omega)⟩
  by_cases h7 : 1792 ≤ (i 1).val
  · exact ⟨_, .tail _ (.tail _ (.head _)), covers 1792 256 inb_S256x2560_S256x256_0_1792 i h7 (by omega)⟩
  by_cases h6 : 1536 ≤ (i 1).val
  · exact ⟨_, .tail _ (.tail _ (.tail _ (.head _))), covers 1536 256 inb_S256x2560_S256x256_0_1536 i h6 (by omega)⟩
  by_cases h5 : 1280 ≤ (i 1).val
  · exact ⟨_, .tail _ (.tail _ (.tail _ (.tail _ (.head _)))), covers 1280 256 inb_S256x2560_S256x256_0_1280 i h5 (by omega)⟩
  by_cases h4 : 1024 ≤ (i 1).val
  · exact ⟨_, .tail _ (.tail _ (.tail _ (.tail _ (.tail _ (.head _))))), covers 1024 256 inb_S256x2560_S256x256_0_1024 i h4 (by omega)⟩
  by_cases h3 : 768 ≤ (i 1).val
  · exact ⟨_, .tail _ (.tail _ (.tail _ (.tail _ (.tail _ (.tail _ (.head _)))))), covers 768 256 inb_S256x2560_S256x256_0_768 i h3 (by omega)⟩
  by_cases h2 : 512 ≤ (i 1).val
  · exact ⟨_, .tail _ (.tail _ (.tail _ (.tail _ (.tail _ (.tail _ (.tail _ (.head _))))))), covers 512 256 inb_S256x2560_S256x256_0_512 i h2 (by omega)⟩
  by_cases h1 : 256 ≤ (i 1).val
  · exact ⟨_, .tail _ (.tail _ (.tail _ (.tail _ (.tail _ (.tail _ (.tail _ (.tail _ (.head _)))))))), covers 256 256 inb_S256x2560_S256x256_0_256 i h1 (by omega)⟩
  by_cases h0 : 0 ≤ (i 1).val
  · exact ⟨_, .tail _ (.tail _ (.tail _ (.tail _ (.tail _ (.tail _ (.tail _ (.tail _ (.tail _ (.head _))))))))), covers 0 256 inb_S256x2560_S256x256_0_0 i h0 (by omega)⟩
  omega
theorem dma274_eq (x : S256x2048.Idx) : (dma274 (F := Ideal) c g0 g1 g3 g4 g5 g9 g10 g12 g13 g14 : S256x2048.Idx → Elt Ideal .bf16) x
    = yFull g0 g1 g3 g4 g5 ((Rect.unit (s := S256x2560) ![0, 0] S256x2048.size inb_S256x2560_S256x2048_0_0).emb x) := by
  refine read_writes_agree (Memref.whole cc0_scratch5).view g14 (yFull g0 g1 g3 g4 g5) _ _ H14_8_agree (H14_8_covers _ ?_)
  show 0 + 1 * (x 1).val < 2048
  have : (x 1).val < 2048 := (x 1).isLt
  omega
theorem dma646_eq (x : S256x512.Idx) : (dma646 (F := Ideal) c g0 g1 g3 g4 g5 g9 g10 g12 g13 g14 : S256x512.Idx → Elt Ideal .bf16) x
    = yFull g0 g1 g3 g4 g5 ((Rect.unit (s := S256x2560) ![0, 2048] S256x512.size inb_S256x2560_S256x512_0_2048).emb x) := by
  refine read_writes_agree (Memref.whole cc0_scratch5).view g14 (yFull g0 g1 g3 g4 g5) _ _ H14_10_agree (H14_10_covers _ ?_)
  show 2048 + 1 * (x 1).val < 2560
  have : (x 1).val < 512 := (x 1).isLt
  omega
end bodyRun.sl

/-- What the kernel leaves in its first result. -/
def yVal (_c : Dev nD) (g0 : CArr) (g1 : GArr) (g3 : WArr) (g4 g5 : RowArr) : S256x2560.Idx → EReal := yFull g0 g1 g3 g4 g5
/-- What it leaves in its second. -/
def gVal (_c : Dev nD) (g0 : CArr) : S2x15x128x2048.Idx → EReal := gArr g0
/-- What it leaves in its third. -/
def gsVal (_c : Dev nD) (g2 : S2x128.Idx → EReal) : S2x128.Idx → EReal := g2

/-- The result's array after its two copies. -/
def yWritten (c : Dev nD) (g0 : Buf (Elt Ideal) ((c : Thread nD τ).loc main_arg0)) (g1 : Buf (Elt Ideal) ((c : Thread nD τ).loc main_v1)) (g2 : Buf (Elt Ideal) ((c : Thread nD τ).loc main_arg1)) (g3 : Buf (Elt Ideal) ((c : Thread nD τ).loc main_arg2)) (g4 : Buf (Elt Ideal) ((c : Thread nD τ).loc main_v2)) (g5 : Buf (Elt Ideal) ((c : Thread nD τ).loc main_v3)) (g6 : Buf (Elt Ideal) ((c : Thread nD τ).loc main_v4_0)) (g7 : Buf (Elt Ideal) ((c : Thread nD τ).loc main_v4_1)) (g8 : Buf (Elt Ideal) ((c : Thread nD τ).loc main_v4_2)) (g9 : Buf (Elt Ideal) ((c : Thread nD τ).loc cc0_scratch0)) (g10 : Buf (Elt Ideal) ((c : Thread nD τ).loc cc0_scratch1)) (g11 : Buf (Elt Ideal) ((c : Thread nD τ).loc cc0_scratch2)) (g12 : Buf (Elt Ideal) ((c : Thread nD τ).loc cc0_scratch3)) (g13 : Buf (Elt Ideal) ((c : Thread nD τ).loc cc0_scratch4)) (g14 : Buf (Elt Ideal) ((c : Thread nD τ).loc cc0_scratch5)) (g15 : Buf (Elt Ideal) ((c : Thread nD τ).loc cc0_scratch6)) : S256x2560.Idx → EReal :=
  (Memref.whole main_v4_0).view.writes (Elt Ideal) g6
    [⟨Rect.unit ![0, 2048] S256x512.size inb_S256x2560_S256x512_0_2048, bodyRun.sl.dma646 c g0 g1 g3 g4 g5 g9 g10 g12 g13 g14⟩,
     ⟨Rect.unit ![0, 0] S256x2048.size inb_S256x2560_S256x2048_0_0, bodyRun.sl.dma274 c g0 g1 g3 g4 g5 g9 g10 g12 g13 g14⟩]

set_option maxHeartbeats 4000000 in
theorem yWritten_eq (c : Dev nD) (g0 : Buf (Elt Ideal) ((c : Thread nD τ).loc main_arg0)) (g1 : Buf (Elt Ideal) ((c : Thread nD τ).loc main_v1)) (g2 : Buf (Elt Ideal) ((c : Thread nD τ).loc main_arg1)) (g3 : Buf (Elt Ideal) ((c : Thread nD τ).loc main_arg2)) (g4 : Buf (Elt Ideal) ((c : Thread nD τ).loc main_v2)) (g5 : Buf (Elt Ideal) ((c : Thread nD τ).loc main_v3)) (g6 : Buf (Elt Ideal) ((c : Thread nD τ).loc main_v4_0)) (g7 : Buf (Elt Ideal) ((c : Thread nD τ).loc main_v4_1)) (g8 : Buf (Elt Ideal) ((c : Thread nD τ).loc main_v4_2)) (g9 : Buf (Elt Ideal) ((c : Thread nD τ).loc cc0_scratch0)) (g10 : Buf (Elt Ideal) ((c : Thread nD τ).loc cc0_scratch1)) (g11 : Buf (Elt Ideal) ((c : Thread nD τ).loc cc0_scratch2)) (g12 : Buf (Elt Ideal) ((c : Thread nD τ).loc cc0_scratch3)) (g13 : Buf (Elt Ideal) ((c : Thread nD τ).loc cc0_scratch4)) (g14 : Buf (Elt Ideal) ((c : Thread nD τ).loc cc0_scratch5)) (g15 : Buf (Elt Ideal) ((c : Thread nD τ).loc cc0_scratch6)) : yWritten c g0 g1 g2 g3 g4 g5 g6 g7 g8 g9 g10 g11 g12 g13 g14 g15 = yVal c g0 g1 g3 g4 g5 := by
  funext i
  have hc : ∃ p ∈ ([⟨Rect.unit ![0, 2048] S256x512.size inb_S256x2560_S256x512_0_2048, bodyRun.sl.dma646 c g0 g1 g3 g4 g5 g9 g10 g12 g13 g14⟩,
     ⟨Rect.unit ![0, 0] S256x2048.size inb_S256x2560_S256x2048_0_0, bodyRun.sl.dma274 c g0 g1 g3 g4 g5 g9 g10 g12 g13 g14⟩] : List (View.Piece (Elt Ideal) S256x2560 .bf16)), i ∈ p.1.set := by
    have hi : (i 1).val < 2560 := (i 1).isLt
    by_cases h : 2048 ≤ (i 1).val
    · exact ⟨_, .head _, covers 2048 512 inb_S256x2560_S256x512_0_2048 i h hi⟩
    · exact ⟨_, .tail _ (.head _), covers 0 2048 inb_S256x2560_S256x2048_0_0 i (Nat.zero_le _) (by omega)⟩
  have ha : ∀ p ∈ ([⟨Rect.unit ![0, 2048] S256x512.size inb_S256x2560_S256x512_0_2048, bodyRun.sl.dma646 c g0 g1 g3 g4 g5 g9 g10 g12 g13 g14⟩,
     ⟨Rect.unit ![0, 0] S256x2048.size inb_S256x2560_S256x2048_0_0, bodyRun.sl.dma274 c g0 g1 g3 g4 g5 g9 g10 g12 g13 g14⟩] : List (View.Piece (Elt Ideal) S256x2560 .bf16)), ∀ x : p.1.shape.Idx, p.2 x = yFull g0 g1 g3 g4 g5 (p.1.emb x) :=
    List.forall_mem_cons.2 ⟨bodyRun.sl.dma646_eq, List.forall_mem_cons.2 ⟨bodyRun.sl.dma274_eq, List.forall_mem_nil _⟩⟩
  exact read_writes_agree (Memref.whole main_v4_0).view g6 (yFull g0 g1 g3 g4 g5) i _ ha hc

theorem yEq (c : Dev nD) (g0 : Buf (Elt Ideal) ((c : Thread nD τ).loc main_arg0)) (g1 : Buf (Elt Ideal) ((c : Thread nD τ).loc main_v1)) (g2 : Buf (Elt Ideal) ((c : Thread nD τ).loc main_arg1)) (g3 : Buf (Elt Ideal) ((c : Thread nD τ).loc main_arg2)) (g4 : Buf (Elt Ideal) ((c : Thread nD τ).loc main_v2)) (g5 : Buf (Elt Ideal) ((c : Thread nD τ).loc main_v3)) (g6 : Buf (Elt Ideal) ((c : Thread nD τ).loc main_v4_0)) (g7 : Buf (Elt Ideal) ((c : Thread nD τ).loc main_v4_1)) (g8 : Buf (Elt Ideal) ((c : Thread nD τ).loc main_v4_2)) (g9 : Buf (Elt Ideal) ((c : Thread nD τ).loc cc0_scratch0)) (g10 : Buf (Elt Ideal) ((c : Thread nD τ).loc cc0_scratch1)) (g11 : Buf (Elt Ideal) ((c : Thread nD τ).loc cc0_scratch2)) (g12 : Buf (Elt Ideal) ((c : Thread nD τ).loc cc0_scratch3)) (g13 : Buf (Elt Ideal) ((c : Thread nD τ).loc cc0_scratch4)) (g14 : Buf (Elt Ideal) ((c : Thread nD τ).loc cc0_scratch5)) (g15 : Buf (Elt Ideal) ((c : Thread nD τ).loc cc0_scratch6)) : ((bodyRun (F := Ideal) c g0 g1 g2 g3 g4 g5 g6 g7 g8 g9 g10 g11 g12 g13 g14 g15).1.1 : S256x2560.Idx → EReal) = yVal c g0 g1 g3 g4 g5 := by
  refine Eq.trans ?_ (yWritten_eq c g0 g1 g2 g3 g4 g5 g6 g7 g8 g9 g10 g11 g12 g13 g14 g15)
  delta bodyRun
  rfl

set_option maxHeartbeats 4000000 in
theorem gEq (c : Dev nD) (g0 : Buf (Elt Ideal) ((c : Thread nD τ).loc main_arg0)) (g1 : Buf (Elt Ideal) ((c : Thread nD τ).loc main_v1)) (g2 : Buf (Elt Ideal) ((c : Thread nD τ).loc main_arg1)) (g3 : Buf (Elt Ideal) ((c : Thread nD τ).loc main_arg2)) (g4 : Buf (Elt Ideal) ((c : Thread nD τ).loc main_v2)) (g5 : Buf (Elt Ideal) ((c : Thread nD τ).loc main_v3)) (g6 : Buf (Elt Ideal) ((c : Thread nD τ).loc main_v4_0)) (g7 : Buf (Elt Ideal) ((c : Thread nD τ).loc main_v4_1)) (g8 : Buf (Elt Ideal) ((c : Thread nD τ).loc main_v4_2)) (g9 : Buf (Elt Ideal) ((c : Thread nD τ).loc cc0_scratch0)) (g10 : Buf (Elt Ideal) ((c : Thread nD τ).loc cc0_scratch1)) (g11 : Buf (Elt Ideal) ((c : Thread nD τ).loc cc0_scratch2)) (g12 : Buf (Elt Ideal) ((c : Thread nD τ).loc cc0_scratch3)) (g13 : Buf (Elt Ideal) ((c : Thread nD τ).loc cc0_scratch4)) (g14 : Buf (Elt Ideal) ((c : Thread nD τ).loc cc0_scratch5)) (g15 : Buf (Elt Ideal) ((c : Thread nD τ).loc cc0_scratch6)) : ((bodyRun (F := Ideal) c g0 g1 g2 g3 g4 g5 g6 g7 g8 g9 g10 g11 g12 g13 g14 g15).1.2.1 : S2x15x128x2048.Idx → EReal) = gVal c g0 := by
  delta bodyRun
  refine gAfter_eq' g7 g0 _ ?_
  refine cons_all g0 0 ?_ ?_
  · exact read_cwin (g9 := g9) (g0 := g0) 0 0 0 rfl rfl (h := by decide) (h' := fun _ => rfl)
  refine cons_all g0 1 ?_ ?_
  · exact read_cwin (g9 := g9) (g0 := g0) 1 0 128 rfl rfl (h := by decide) (h' := fun _ => rfl)
  refine cons_all g0 2 ?_ ?_
  · exact read_cwin (g9 := g9) (g0 := g0) 2 1 0 rfl rfl (h := by decide) (h' := fun _ => rfl)
  refine cons_all g0 3 ?_ ?_
  · exact read_cwin (g9 := g9) (g0 := g0) 3 1 128 rfl rfl (h := by decide) (h' := fun _ => rfl)
  refine cons_all g0 4 ?_ ?_
  · exact read_cwin (g9 := g9) (g0 := g0) 4 2 0 rfl rfl (h := by decide) (h' := fun _ => rfl)
  refine cons_all g0 5 ?_ ?_
  · exact read_cwin (g9 := g9) (g0 := g0) 5 2 128 rfl rfl (h := by decide) (h' := fun _ => rfl)
  refine cons_all g0 6 ?_ ?_
  · exact read_cwin (g9 := g9) (g0 := g0) 6 3 0 rfl rfl (h := by decide) (h' := fun _ => rfl)
  refine cons_all g0 7 ?_ ?_
  · exact read_cwin (g9 := g9) (g0 := g0) 7 3 128 rfl rfl (h := by decide) (h' := fun _ => rfl)
  refine cons_all g0 8 ?_ ?_
  · exact read_cwin (g9 := g9) (g0 := g0) 8 4 0 rfl rfl (h := by decide) (h' := fun _ => rfl)
  refine cons_all g0 9 ?_ ?_
  · exact read_cwin (g9 := g9) (g0 := g0) 9 4 128 rfl rfl (h := by decide) (h' := fun _ => rfl)
  refine cons_all g0 10 ?_ ?_
  · exact read_cwin (g9 := g9) (g0 := g0) 10 5 0 rfl rfl (h := by decide) (h' := fun _ => rfl)
  refine cons_all g0 11 ?_ ?_
  · exact read_cwin (g9 := g9) (g0 := g0) 11 5 128 rfl rfl (h := by decide) (h' := fun _ => rfl)
  refine cons_all g0 12 ?_ ?_
  · exact read_cwin (g9 := g9) (g0 := g0) 12 6 0 rfl rfl (h := by decide) (h' := fun _ => rfl)
  refine cons_all g0 13 ?_ ?_
  · exact read_cwin (g9 := g9) (g0 := g0) 13 6 128 rfl rfl (h := by decide) (h' := fun _ => rfl)
  refine cons_all g0 14 ?_ ?_
  · exact read_cwin (g9 := g9) (g0 := g0) 14 7 0 rfl rfl (h := by decide) (h' := fun _ => rfl)
  refine cons_all g0 15 ?_ ?_
  · exact read_cwin (g9 := g9) (g0 := g0) 15 7 128 rfl rfl (h := by decide) (h' := fun _ => rfl)
  refine cons_all g0 16 ?_ ?_
  · exact read_cwin (g9 := g9) (g0 := g0) 16 8 0 rfl rfl (h := by decide) (h' := fun _ => rfl)
  refine cons_all g0 17 ?_ ?_
  · exact read_cwin (g9 := g9) (g0 := g0) 17 8 128 rfl rfl (h := by decide) (h' := fun _ => rfl)
  refine cons_all g0 18 ?_ ?_
  · exact read_cwin (g9 := g9) (g0 := g0) 18 9 0 rfl rfl (h := by decide) (h' := fun _ => rfl)
  refine cons_all g0 19 ?_ ?_
  · exact read_cwin (g9 := g9) (g0 := g0) 19 9 128 rfl rfl (h := by decide) (h' := fun _ => rfl)
  refine cons_all g0 20 ?_ ?_
  · exact read_cwin (g9 := g9) (g0 := g0) 20 10 0 rfl rfl (h := by decide) (h' := fun _ => rfl)
  refine cons_all g0 21 ?_ ?_
  · exact read_cwin (g9 := g9) (g0 := g0) 21 10 128 rfl rfl (h := by decide) (h' := fun _ => rfl)
  refine cons_all g0 22 ?_ ?_
  · exact read_cwin (g9 := g9) (g0 := g0) 22 11 0 rfl rfl (h := by decide) (h' := fun _ => rfl)
  refine cons_all g0 23 ?_ ?_
  · exact read_cwin (g9 := g9) (g0 := g0) 23 11 128 rfl rfl (h := by decide) (h' := fun _ => rfl)
  refine cons_all g0 24 ?_ ?_
  · exact read_cwin (g9 := g9) (g0 := g0) 24 12 0 rfl rfl (h := by decide) (h' := fun _ => rfl)
  refine cons_all g0 25 ?_ ?_
  · exact read_cwin (g9 := g9) (g0 := g0) 25 12 128 rfl rfl (h := by decide) (h' := fun _ => rfl)
  refine cons_all g0 26 ?_ ?_
  · exact read_cwin (g9 := g9) (g0 := g0) 26 13 0 rfl rfl (h := by decide) (h' := fun _ => rfl)
  refine cons_all g0 27 ?_ ?_
  · exact read_cwin (g9 := g9) (g0 := g0) 27 13 128 rfl rfl (h := by decide) (h' := fun _ => rfl)
  refine cons_all g0 28 ?_ ?_
  · exact read_cwin (g9 := g9) (g0 := g0) 28 14 0 rfl rfl (h := by decide) (h' := fun _ => rfl)
  refine cons_all g0 29 ?_ ?_
  · exact read_cwin (g9 := g9) (g0 := g0) 29 14 128 rfl rfl (h := by decide) (h' := fun _ => rfl)
  exact fun j => j.elim0

theorem gsEq (c : Dev nD) (g0 : Buf (Elt Ideal) ((c : Thread nD τ).loc main_arg0)) (g1 : Buf (Elt Ideal) ((c : Thread nD τ).loc main_v1)) (g2 : Buf (Elt Ideal) ((c : Thread nD τ).loc main_arg1)) (g3 : Buf (Elt Ideal) ((c : Thread nD τ).loc main_arg2)) (g4 : Buf (Elt Ideal) ((c : Thread nD τ).loc main_v2)) (g5 : Buf (Elt Ideal) ((c : Thread nD τ).loc main_v3)) (g6 : Buf (Elt Ideal) ((c : Thread nD τ).loc main_v4_0)) (g7 : Buf (Elt Ideal) ((c : Thread nD τ).loc main_v4_1)) (g8 : Buf (Elt Ideal) ((c : Thread nD τ).loc main_v4_2)) (g9 : Buf (Elt Ideal) ((c : Thread nD τ).loc cc0_scratch0)) (g10 : Buf (Elt Ideal) ((c : Thread nD τ).loc cc0_scratch1)) (g11 : Buf (Elt Ideal) ((c : Thread nD τ).loc cc0_scratch2)) (g12 : Buf (Elt Ideal) ((c : Thread nD τ).loc cc0_scratch3)) (g13 : Buf (Elt Ideal) ((c : Thread nD τ).loc cc0_scratch4)) (g14 : Buf (Elt Ideal) ((c : Thread nD τ).loc cc0_scratch5)) (g15 : Buf (Elt Ideal) ((c : Thread nD τ).loc cc0_scratch6)) : ((bodyRun (F := Ideal) c g0 g1 g2 g3 g4 g5 g6 g7 g8 g9 g10 g11 g12 g13 g14 g15).1.2.2 : S2x128.Idx → EReal) = gsVal c g2 := by
  have e : (View.write (Elt Ideal) (Memref.whole cc0_scratch2).view g11 (ReadAs.same.apply (View.read (Elt Ideal) (Memref.whole main_arg1).view g2)) Finset.univ) = g2 := by
    exact View.write_whole_univ _ _ _
  delta bodyRun
  show View.write (Elt Ideal) (Memref.whole main_v4_2).view g8 (ReadAs.same.apply (View.read (Elt Ideal) (Memref.whole cc0_scratch2).view
    (View.write (Elt Ideal) (Memref.whole cc0_scratch2).view g11 (ReadAs.same.apply (View.read (Elt Ideal) (Memref.whole main_arg1).view g2)) Finset.univ))) Finset.univ = _
  rw [e]
  exact View.write_whole_univ _ _ _

/-- The kernel body on its whole buffers: from the inputs at given contents, every other buffer at anything and every cell
    at zero, it runs to the inputs unchanged, the results at the contents named above, the scratch buffers at some contents and
    every cell back at zero. -/
theorem body_whole (c : Dev nD) (g0 : Buf (Elt Ideal) ((c : Thread nD τ).loc main_arg0)) (g1 : Buf (Elt Ideal) ((c : Thread nD τ).loc main_v1)) (g2 : Buf (Elt Ideal) ((c : Thread nD τ).loc main_arg1)) (g3 : Buf (Elt Ideal) ((c : Thread nD τ).loc main_arg2)) (g4 : Buf (Elt Ideal) ((c : Thread nD τ).loc main_v2)) (g5 : Buf (Elt Ideal) ((c : Thread nD τ).loc main_v3)) (g6 : Buf (Elt Ideal) ((c : Thread nD τ).loc main_v4_0)) (g7 : Buf (Elt Ideal) ((c : Thread nD τ).loc main_v4_1)) (g8 : Buf (Elt Ideal) ((c : Thread nD τ).loc main_v4_2)) (g9 : Buf (Elt Ideal) ((c : Thread nD τ).loc cc0_scratch0)) (g10 : Buf (Elt Ideal) ((c : Thread nD τ).loc cc0_scratch1)) (g11 : Buf (Elt Ideal) ((c : Thread nD τ).loc cc0_scratch2)) (g12 : Buf (Elt Ideal) ((c : Thread nD τ).loc cc0_scratch3)) (g13 : Buf (Elt Ideal) ((c : Thread nD τ).loc cc0_scratch4)) (g14 : Buf (Elt Ideal) ((c : Thread nD τ).loc cc0_scratch5)) (g15 : Buf (Elt Ideal) ((c : Thread nD τ).loc cc0_scratch6)) (W : Waits sig Unit) (K : PUnit → sProp 𝕄) :
    iprop((((c : Thread nD τ).loc main_arg0) ↦{fullShare} g0) ∗ (((c : Thread nD τ).loc main_v1) ↦{fullShare} g1) ∗ (((c : Thread nD τ).loc main_arg1) ↦{fullShare} g2) ∗ (((c : Thread nD τ).loc main_arg2) ↦{fullShare} g3) ∗ (((c : Thread nD τ).loc main_v2) ↦{fullShare} g4) ∗ (((c : Thread nD τ).loc main_v3) ↦{fullShare} g5) ∗ (((c : Thread nD τ).loc main_v4_0) ↦{fullShare} g6) ∗ (((c : Thread nD τ).loc main_v4_1) ↦{fullShare} g7) ∗ (((c : Thread nD τ).loc main_v4_2) ↦{fullShare} g8) ∗ (((c : Thread nD τ).loc cc0_scratch0) ↦{fullShare} g9) ∗ (((c : Thread nD τ).loc cc0_scratch1) ↦{fullShare} g10) ∗ (((c : Thread nD τ).loc cc0_scratch2) ↦{fullShare} g11) ∗ (((c : Thread nD τ).loc cc0_scratch3) ↦{fullShare} g12) ∗ (((c : Thread nD τ).loc cc0_scratch4) ↦{fullShare} g13) ∗ (((c : Thread nD τ).loc cc0_scratch5) ↦{fullShare} g14) ∗ (((c : Thread nD τ).loc cc0_scratch6) ↦{fullShare} g15)
        ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ owes (c : Thread nD τ) 0 W
        ∗ (iprop((((c : Thread nD τ).loc main_arg0) ↦{fullShare} g0) ∗ (((c : Thread nD τ).loc main_v1) ↦{fullShare} g1) ∗ (((c : Thread nD τ).loc main_arg1) ↦{fullShare} g2) ∗ (((c : Thread nD τ).loc main_arg2) ↦{fullShare} g3) ∗ (((c : Thread nD τ).loc main_v2) ↦{fullShare} g4) ∗ (((c : Thread nD τ).loc main_v3) ↦{fullShare} g5) ∗ (((c : Thread nD τ).loc main_v4_0) ↦{fullShare} (yVal c g0 g1 g3 g4 g5 : Buf (Elt Ideal) ((c : Thread nD τ).loc main_v4_0))) ∗ (((c : Thread nD τ).loc main_v4_1) ↦{fullShare} (gVal c g0 : Buf (Elt Ideal) ((c : Thread nD τ).loc main_v4_1))) ∗ (((c : Thread nD τ).loc main_v4_2) ↦{fullShare} (gsVal c g2 : Buf (Elt Ideal) ((c : Thread nD τ).loc main_v4_2))) ∗ (∃ f, ((c : Thread nD τ).loc cc0_scratch0) ↦{fullShare} f) ∗ (∃ f, ((c : Thread nD τ).loc cc0_scratch1) ↦{fullShare} f) ∗ (∃ f, ((c : Thread nD τ).loc cc0_scratch2) ↦{fullShare} f) ∗ (∃ f, ((c : Thread nD τ).loc cc0_scratch3) ↦{fullShare} f) ∗ (∃ f, ((c : Thread nD τ).loc cc0_scratch4) ↦{fullShare} f) ∗ (∃ f, ((c : Thread nD τ).loc cc0_scratch5) ↦{fullShare} f) ∗ (∃ f, ((c : Thread nD τ).loc cc0_scratch6) ↦{fullShare} f)
            ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ (∃ W', owes (c : Thread nD τ) 0 W')) -∗ K ⟨⟩))
      ⊢ wp frame (wpE (defs₀ (F := Ideal)) Variants.none c none) Set.univ
          (cc0_kpconv_main (Memref.whole main_arg0) (Memref.isWhole_whole _) (Memref.whole main_v1) (Memref.isWhole_whole _) (Memref.whole main_arg1) (Memref.isWhole_whole _) (Memref.whole main_arg2) (Memref.isWhole_whole _) (Memref.whole main_v2) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11) K := by
  have h := (bodyRun (F := Ideal) c g0 g1 g2 g3 g4 g5 g6 g7 g8 g9 g10 g11 g12 g13 g14 g15).2 W K
  have hY : (bodyRun (F := Ideal) c g0 g1 g2 g3 g4 g5 g6 g7 g8 g9 g10 g11 g12 g13 g14 g15).1 = ((yVal c g0 g1 g3 g4 g5 : Buf (Elt Ideal) ((c : Thread nD τ).loc main_v4_0)), (gVal c g0 : Buf (Elt Ideal) ((c : Thread nD τ).loc main_v4_1)), (gsVal c g2 : Buf (Elt Ideal) ((c : Thread nD τ).loc main_v4_2))) :=
    Prod.ext (yEq c g0 g1 g2 g3 g4 g5 g6 g7 g8 g9 g10 g11 g12 g13 g14 g15) (Prod.ext (gEq c g0 g1 g2 g3 g4 g5 g6 g7 g8 g9 g10 g11 g12 g13 g14 g15) (gsEq c g0 g1 g2 g3 g4 g5 g6 g7 g8 g9 g10 g11 g12 g13 g14 g15))
  rw [hY] at h
  exact h

end Cert.MainIdeal.Hand
end
-- ==== Proof.MainIdeal.Frame.lean ====
module
public import proofs.«01_k».proof.Proof.Gen.MainIdeal.Frame
public import proofs.«01_k».proof.Proof.Gen.MainIdeal.Launch
public import proofs.«01_k».proof.Proof.Gen.MainIdeal.Points
public import proofs.«01_k».proof.Proof.MainIdeal.Values
public import Idealize.ShloMosaic.Lib.Pipeline.FrameValue
public import Idealize.ShloMosaic.PureOps.Ideal.Laws
public import Idealize.ShloMosaic.Lib.Tactic
public import Idealize.ShloMosaic.Lib.Pipeline.FrameBody
public import Idealize.ShloMosaic.Lib.MixedBatch
public import Idealize.ShloMosaic.Lib.Ring
public import Idealize.ShloMosaic.Lib.WordCmp
@[expose] public section
noncomputable section
namespace Cert.MainIdeal.Hand
open Cert.MainIdeal Cert.MainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
local notation "𝕄" => MT nD τ sig Unit (Elt Ideal) ℕ (Pipeline.UD sig nD τ) ℕ

variable (m : (ℓ : Loc nD τ sig) → Buf (Elt Ideal) ℓ) (ρ : Dev nD → PrngReg)

/-! ## The region's operands -/

/-- The buffers the kernel's copies read: the six inputs. -/
def H0 : Finset (Ref sig .tc) := {main_arg0, main_v1, main_arg1, main_arg2, main_v2, main_v3}
/-- The buffers the kernel's copies write: the three results. -/
def R0 : Finset (Ref sig .tc) := {main_v4_0, main_v4_1, main_v4_2}
theorem H0_sub : H0 ⊆ Pipeline.restRefs sig (cfg0.spec) := by decide
theorem R0_sub : R0 ⊆ Pipeline.restRefs sig (cfg0.spec) \ H0 := by decide

/-- What the results hold after the region. -/
def outs (c : Dev nD) : (b : Ref sig .tc) → Buf (Elt Ideal) ((c : Thread nD τ).loc b) :=
  Function.update (Function.update (Function.update (V m c)
    main_v4_0 (yVal c (V m c main_arg0) (V m c main_v1) (V m c main_arg2) (V m c main_v2) (V m c main_v3)))
    main_v4_1 (gVal c (V m c main_arg0)))
    main_v4_2 (gsVal c (V m c main_arg1))
theorem outs_y (c : Dev nD) : outs m c main_v4_0 = yVal c (V m c main_arg0) (V m c main_v1) (V m c main_arg2) (V m c main_v2) (V m c main_v3) := by
  unfold outs; rw [Function.update_of_ne (by decide), Function.update_of_ne (by decide), Function.update_self]
theorem outs_g (c : Dev nD) : outs m c main_v4_1 = gVal c (V m c main_arg0) := by
  unfold outs; rw [Function.update_of_ne (by decide), Function.update_self]
theorem outs_gs (c : Dev nD) : outs m c main_v4_2 = gsVal c (V m c main_arg1) := by
  unfold outs; rw [Function.update_self]

/-- The kernel's nineteen DMA cells. -/
abbrev osem0 : Fin 19 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18] : Fin 19 → SemLoc sig) j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt Ideal) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) := by
  rw [Pipeline.ownSems0_eq_of_list c osem0 [0, 1, 2, 3, 4, 5, 6, 7, 8, 9, 10, 11, 12, 13, 14, 15, 16, 17, 18] (by decide) (by decide)]; rfl
theorem hbmPts0_eq (c : Dev nD) :
    (bigSep H0 (fun b => ((c : Thread nD τ).loc b) ↦{fullShare} V m c b) : sProp 𝕄)
      = iprop((((c : Thread nD τ).loc main_arg0) ↦{fullShare} V m c main_arg0) ∗ (((c : Thread nD τ).loc main_v1) ↦{fullShare} V m c main_v1) ∗ (((c : Thread nD τ).loc main_arg1) ↦{fullShare} V m c main_arg1) ∗ (((c : Thread nD τ).loc main_arg2) ↦{fullShare} V m c main_arg2) ∗ (((c : Thread nD τ).loc main_v2) ↦{fullShare} V m c main_v2) ∗ (((c : Thread nD τ).loc main_v3) ↦{fullShare} V m c main_v3)) := by
  rw [BI.bigSep_eq_bigSepL_of_eq [main_arg0, main_v1, main_arg1, main_arg2, main_v2, main_v3] (by decide) (by decide)]; rfl
theorem routed0_eq (c : Dev nD) (G : (b : Ref sig .tc) → Buf (Elt Ideal) ((c : Thread nD τ).loc b)) :
    (Pipeline.routed R0 c G : sProp 𝕄)
      = iprop((((c : Thread nD τ).loc main_v4_0) ↦{fullShare} G main_v4_0) ∗ (((c : Thread nD τ).loc main_v4_1) ↦{fullShare} G main_v4_1) ∗ (((c : Thread nD τ).loc main_v4_2) ↦{fullShare} G main_v4_2)) := by
  unfold Pipeline.routed; rw [BI.bigSep_eq_bigSepL_of_eq [main_v4_0, main_v4_1, main_v4_2] (by decide) (by decide)]; rfl
theorem Phi0_eq (G : (c : Dev nD) → (b : Ref sig .tc) → Buf (Elt Ideal) ((c : Thread nD τ).loc b)) (c : Dev nD) :
    (Pipeline.ΦDRG osem0 (cfg0.spec) H0 R0 (V m) G c : sProp 𝕄)
      = iprop(iprop((∃ f : Buf (Elt Ideal) ((c : Thread nD τ).loc cc0_scratch0), ((c : Thread nD τ).loc cc0_scratch0) ↦{fullShare} f) ∗ (∃ f : Buf (Elt Ideal) ((c : Thread nD τ).loc cc0_scratch1), ((c : Thread nD τ).loc cc0_scratch1) ↦{fullShare} f) ∗ (∃ f : Buf (Elt Ideal) ((c : Thread nD τ).loc cc0_scratch2), ((c : Thread nD τ).loc cc0_scratch2) ↦{fullShare} f) ∗ (∃ f : Buf (Elt Ideal) ((c : Thread nD τ).loc cc0_scratch3), ((c : Thread nD τ).loc cc0_scratch3) ↦{fullShare} f) ∗ (∃ f : Buf (Elt Ideal) ((c : Thread nD τ).loc cc0_scratch4), ((c : Thread nD τ).loc cc0_scratch4) ↦{fullShare} f) ∗ (∃ f : Buf (Elt Ideal) ((c : Thread nD τ).loc cc0_scratch5), ((c : Thread nD τ).loc cc0_scratch5) ↦{fullShare} f) ∗ (∃ f : Buf (Elt Ideal) ((c : Thread nD τ).loc cc0_scratch6), ((c : Thread nD τ).loc cc0_scratch6) ↦{fullShare} f))
          ∗ (∃ r, prngReg c r)
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0)
          ∗ iprop((((c : Thread nD τ).loc main_arg0) ↦{fullShare} V m c main_arg0) ∗ (((c : Thread nD τ).loc main_v1) ↦{fullShare} V m c main_v1) ∗ (((c : Thread nD τ).loc main_arg1) ↦{fullShare} V m c main_arg1) ∗ (((c : Thread nD τ).loc main_arg2) ↦{fullShare} V m c main_arg2) ∗ (((c : Thread nD τ).loc main_v2) ↦{fullShare} V m c main_v2) ∗ (((c : Thread nD τ).loc main_v3) ↦{fullShare} V m c main_v3))
          ∗ iprop((((c : Thread nD τ).loc main_v4_0) ↦{fullShare} G c main_v4_0) ∗ (((c : Thread nD τ).loc main_v4_1) ↦{fullShare} G c main_v4_1) ∗ (((c : Thread nD τ).loc main_v4_2) ↦{fullShare} G c main_v4_2))) := by
  rw [Pipeline.ΦDRG_eq, scopedRest0_eq, ownSems00_eq, hbmPts0_eq, routed0_eq]

/-! ## The body at the one point -/

/-- The proof data of the region: no staged windows, the kernel's own buffers and cells in the invariant. -/
def dats (_ : Fin 1) (c : Dev nD) : Dat τ (Elt Ideal) Unit ℕ (Pipeline.UD sig nD τ) ℕ cfg0 c where
  A w := V m c (Pipeline.arrRef (cfg0.spec) w)
  after w t := w.elim0
  Φ t := Pipeline.ΦDRG osem0 (cfg0.spec) H0 R0 (V m) (if t = 0 then V m else outs m) c
  q _ := fullShare
  owed _ := 0

theorem A_eq (c : Dev nD) (w : Fin cfg0.W) : (dats m 0 c).A w = V m c (Pipeline.arrRef (cfg0.spec) w) := by
  dsimp only [dats]

theorem Phi_start (c : Dev nD) (t : Fin cfg0.N) : (dats m 0 c).Φ t.castSucc = Pipeline.ΦDRG osem0 (cfg0.spec) H0 R0 (V m) (V m) c := by
  dsimp only [dats]; rw [if_pos (by revert t; decide)]
theorem Phi_end (c : Dev nD) (t : Fin cfg0.N) : (dats m 0 c).Φ t.succ = Pipeline.ΦDRG osem0 (cfg0.spec) H0 R0 (V m) (outs m) c := by
  dsimp only [dats]; rw [if_neg (by revert t; decide)]

def bodyPre (c : Dev nD) (t : Fin cfg0.N) : sProp 𝕄 :=
  iprop((dats m 0 c).Φ t.castSucc ∗ (dats m 0 c).owesAt () t.castSucc)
def bodyPost (c : Dev nD) (t : Fin cfg0.N) : sProp 𝕄 :=
  iprop((dats m 0 c).Φ t.succ ∗ (dats m 0 c).owesAt () t.succ)

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [Phi_start, Phi_end, Phi0_eq m (V m), Phi0_eq m (outs m), outs_y, outs_g, outs_gs]
  unfold Dat.owesAt Pipeline.owesWithin
  rw [show (dats m 0 c).owed t.castSucc = 0 from rfl, show (dats m 0 c).owed t.succ = 0 from rfl]
  iintro ⟨⟨⟨⟨%fs0, HS0⟩, ⟨%fs1, HS1⟩, ⟨%fs2, HS2⟩, ⟨%fs3, HS3⟩, ⟨%fs4, HS4⟩, ⟨%fs5, HS5⟩, ⟨%fs6, HS6⟩⟩, Hg, ⟨Hq0, Hq1, Hq2, Hq3, Hq4, Hq5, Hq6, Hq7, Hq8, Hq9, Hq10, Hq11, Hq12, Hq13, Hq14, Hq15, Hq16, Hq17, Hq18⟩, ⟨HH0, HH1, HH2, HH3, HH4, HH5⟩, ⟨HH6, HH7, HH8⟩⟩, ⟨%W, -, HW⟩⟩
  iapply (body_whole c (V m c main_arg0) (V m c main_v1) (V m c main_arg1) (V m c main_arg2) (V m c main_v2) (V m c main_v3) (V m c main_v4_0) (V m c main_v4_1) (V m c main_v4_2) fs0 fs1 fs2 fs3 fs4 fs5 fs6 W _)
  isplitl [HH0]; · iexact HH0
  isplitl [HH1]; · iexact HH1
  isplitl [HH2]; · iexact HH2
  isplitl [HH3]; · iexact HH3
  isplitl [HH4]; · iexact HH4
  isplitl [HH5]; · iexact HH5
  isplitl [HH6]; · iexact HH6
  isplitl [HH7]; · iexact HH7
  isplitl [HH8]; · iexact HH8
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [HW]; · iexact HW
  iintro ⟨HH0, HH1, HH2, HH3, HH4, HH5, HH6, HH7, HH8, HS0, HS1, HS2, HS3, HS4, HS5, HS6, Hq0, Hq1, Hq2, Hq3, Hq4, Hq5, Hq6, Hq7, Hq8, Hq9, Hq10, Hq11, Hq12, Hq13, Hq14, Hq15, Hq16, Hq17, Hq18, ⟨%W', HW'⟩⟩
  isplitl [HH0 HH1 HH2 HH3 HH4 HH5 HH6 HH7 HH8 HS0 HS1 HS2 HS3 HS4 HS5 HS6 Hg Hq0 Hq1 Hq2 Hq3 Hq4 Hq5 Hq6 Hq7 Hq8 Hq9 Hq10 Hq11 Hq12 Hq13 Hq14 Hq15 Hq16 Hq17 Hq18]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    isplitl [Hg]; · iexact Hg
    isplitl [Hq0 Hq1 Hq2 Hq3 Hq4 Hq5 Hq6 Hq7 Hq8 Hq9 Hq10 Hq11 Hq12 Hq13 Hq14 Hq15 Hq16 Hq17 Hq18]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      iexact Hq18
    isplitl [HH0 HH1 HH2 HH3 HH4 HH5]
    · isplitl [HH0]; · iexact HH0
      isplitl [HH1]; · iexact HH1
      isplitl [HH2]; · iexact HH2
      isplitl [HH3]; · iexact HH3
      isplitl [HH4]; · iexact HH4
      iexact HH5
    isplitl [HH6]; · iexact HH6
    isplitl [HH7]; · iexact HH7
    iexact HH8
  iexists W'; isplitr; · ipureintro; exact fun _ _ => Or.inl trivial
  iexact HW'

theorem defs₀_row (t : Fin cfg0.N) :
    defs₀ (F := Ideal) .tc cfg0.body (cfg0.bodyArgs t (cfg0.slots t)) = bodyAt0 t := by
  unfold defs₀; rw [Defs.onTc_tc]

theorem bigSep_none (Φ : Fin cfg0.W → sProp 𝕄) : bigSep Finset.univ Φ = iprop(emp) := by
  rw [show (Finset.univ : Finset (Fin cfg0.W)) = ∅ from rfl]; exact BI.bigSep_empty

theorem body_obligation (c : Dev nD) : BodyObligation (dats m 0 c) (defs₀ (F := Ideal)) Variants.none () Set.univ := fun t => by
  rw [bigSep_none, bigSep_none, defs₀_row]
  exact triple_restated (sound_body m c t) rfl (Laws.sep_mono .rfl Laws.sep_emp.1) fun _ => Laws.sep_mono .rfl Laws.sep_emp.2

/-! ## The run and the frame -/

theorem hmainD (𝒱₀ : Variants) : Pipeline.HMain (Ix := Unit) (Name := ℕ) (U := Pipeline.UD sig nD τ) (Lvl := ℕ) cfgs 0 defs₀ 𝒱₀ m (main (F := Ideal)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := Ideal))) (s₀ m ρ) (fun r => Pipeline.FramePostRG cfgs (dats m) 0 R0 (V m) (outs m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m)
    (hmain := hmainD m Variants.none) (hA := A_eq m) (G := outs m)
    (hin := fun _ => .rfl) (hout := fun _ => .rfl)

/-- THE FRAME: the program runs to its end, its arguments end as they were, every semaphore counter ends at zero. -/
theorem frame : θ_run defs (onTc (τ := τ) (main (F := Ideal))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c),
      ((h.1.toR c).2 main_arg4 (Finset.mem_sdiff.mpr ⟨Pipeline.mem_restRefs_of main_arg4 (by decide) (by decide), by decide⟩)).trans (V_main_arg4 m c)⟩, h.2⟩) (run_main m ρ)

/-- The program's results, beside its unchanged arguments. -/
theorem values : θ_run defs (onTc (τ := τ) (main (F := Ideal))) ⟨m, fun _ => 0, ρ⟩ (fun r => ∀ c : Dev nD,
      r.2.mem ((c.tc : Thread nD τ).loc main_v4_0) = yVal c (V m c main_arg0) (V m c main_v1) (V m c main_arg2) (V m c main_v2) (V m c main_v3)
      ∧ r.2.mem ((c.tc : Thread nD τ).loc main_v4_1) = gVal c (V m c main_arg0)
      ∧ r.2.mem ((c.tc : Thread nD τ).loc main_v4_2) = gsVal c (V m c main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1.written c (by decide)).trans (outs_y m c), (h.1.written c (by decide)).trans (outs_g m c),
      (h.1.written c (by decide)).trans (outs_gs m c), ((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c),
      ((h.1.toR c).2 main_arg4 (Finset.mem_sdiff.mpr ⟨Pipeline.mem_restRefs_of main_arg4 (by decide) (by decide), by decide⟩)).trans (V_main_arg4 m c)⟩) (run_main m ρ)

end Cert.MainIdeal.Hand

end
-- ==== Proof.MainReferenceIdeal.Value.lean ====
module
public import proofs.«01_k».proof.Proof.Gen.MainReferenceIdeal.Value
public import Idealize.ShloMosaic.PureOps.Ideal.Laws
public import Idealize.ShloMosaic.Lib.StableHlo.Run
public import Idealize.ShloMosaic.Lib.MatmulPlain
public import Idealize.ShloMosaic.Lib.ValueLayout
public import Idealize.ShloMosaic.Lib.Pipeline.Value
public import Idealize.ShloMosaic.Lib.Pipeline.ValueKit.Acc
public import Idealize.ShloMosaic.Lib.ValueIdx
@[expose] public section
noncomputable section
namespace Cert.MainReferenceIdeal.Hand
open Cert.MainReferenceIdeal Cert.MainReferenceIdeal.Gen
open Idealize.ShloMosaic Idealize.ShloMosaic.TcCoe Idealize.ShloMosaic.ValueIdx Idealize.SL.Sem
open scoped BigOperators
variable (m : (ℓ : Loc nD τ sig) → Buf (Elt Ideal) ℓ) (ρ : Dev nD → PrngReg)

theorem V_main_v3 (c : Dev nD) : V m c main_v3 = shapeCast S256x30720 (transpose S256x15x2048 [1, 0, 2] (m ((c : Thread nD τ).loc main_arg0)) transposes_S15x256x2048_S256x15x2048_1_0_2) shapeCasts_S256x15x2048_S256x30720 := by
  show StableHlo.after hostOps0 _ (Proc.devRef .tc main_v3) = _
  after_results
  rfl
theorem V_main_v1 (c : Dev nD) : V m c main_v1 = transpose S2x15x128x2048 [1, 0, 2, 3] (shapeCast S15x2x128x2048 (m ((c : Thread nD τ).loc main_arg0)) shapeCasts_S15x256x2048_S15x2x128x2048) transposes_S15x2x128x2048_S2x15x128x2048_1_0_2_3 := by
  show StableHlo.after hostOps0 _ (Proc.devRef .tc main_v1) = _
  after_results
  rfl
theorem V_main_v4 (c : Dev nD) : V m c main_v4 = shapeCast S256x1 (m ((c : Thread nD τ).loc main_arg1)) shapeCasts_S2x128_S256x1 := by
  show StableHlo.after hostOps0 _ (Proc.devRef .tc main_v4) = _
  after_results
  rfl
theorem V_main_v5 (c : Dev nD) : V m c main_v5 = shapeCast S30720x2560 (m ((c : Thread nD τ).loc main_arg2)) shapeCasts_S15x2048x2560_S30720x2560 := by
  show StableHlo.after hostOps0 _ (Proc.devRef .tc main_v5) = _
  after_results
  rfl
theorem V_main_v6 (c : Dev nD) : V m c main_v6 = shapeCast S1x2560 (m ((c : Thread nD τ).loc main_arg3)) shapeCasts_S2560_S1x2560 := by
  show StableHlo.after hostOps0 _ (Proc.devRef .tc main_v6) = _
  after_results
  rfl
theorem V_main_v7 (c : Dev nD) : V m c main_v7 = shapeCast S1x2560 (m ((c : Thread nD τ).loc main_arg4)) shapeCasts_S2560_S1x2560 := by
  show StableHlo.after hostOps0 _ (Proc.devRef .tc main_v7) = _
  after_results
  rfl

/-! ## The region's one point sees each array whole -/

theorem emb0 (t : Fin cfg0.N) (x : S256x30720.Idx) : ((cfg0.win 0).blk t).view.emb x = x :=
  funext fun a => Fin.ext (win0_0.rect_emb_val_of_index_zero t a (by fin_cases t; fin_cases a <;> rfl) x)
theorem iblk0 (c : Dev nD) (t : Fin cfg0.N) : (iblk m c 0 t : S256x30720.Idx → EReal) = V m c main_v3 := by
  funext x; show V m c main_v3 (((cfg0.win 0).blk t).view.emb x) = _; rw [emb0]
theorem emb1 (t : Fin cfg0.N) (x : S256x1.Idx) : ((cfg0.win 1).blk t).view.emb x = x :=
  funext fun a => Fin.ext (win0_1.rect_emb_val_of_index_zero t a (by fin_cases t; fin_cases a <;> rfl) x)
theorem iblk1 (c : Dev nD) (t : Fin cfg0.N) : (iblk m c 1 t : S256x1.Idx → EReal) = V m c main_v4 := by
  funext x; show V m c main_v4 (((cfg0.win 1).blk t).view.emb x) = _; rw [emb1]
theorem emb2 (t : Fin cfg0.N) (x : S30720x2560.Idx) : ((cfg0.win 2).blk t).view.emb x = x :=
  funext fun a => Fin.ext (win0_2.rect_emb_val_of_index_zero t a (by fin_cases t; fin_cases a <;> rfl) x)
theorem iblk2 (c : Dev nD) (t : Fin cfg0.N) : (iblk m c 2 t : S30720x2560.Idx → EReal) = V m c main_v5 := by
  funext x; show V m c main_v5 (((cfg0.win 2).blk t).view.emb x) = _; rw [emb2]
theorem emb3 (t : Fin cfg0.N) (x : S1x2560.Idx) : ((cfg0.win 3).blk t).view.emb x = x :=
  funext fun a => Fin.ext (win0_3.rect_emb_val_of_index_zero t a (by fin_cases t; fin_cases a <;> rfl) x)
theorem iblk3 (c : Dev nD) (t : Fin cfg0.N) : (iblk m c 3 t : S1x2560.Idx → EReal) = V m c main_v6 := by
  funext x; show V m c main_v6 (((cfg0.win 3).blk t).view.emb x) = _; rw [emb3]
theorem emb4 (t : Fin cfg0.N) (x : S1x2560.Idx) : ((cfg0.win 4).blk t).view.emb x = x :=
  funext fun a => Fin.ext (win0_4.rect_emb_val_of_index_zero t a (by fin_cases t; fin_cases a <;> rfl) x)
theorem iblk4 (c : Dev nD) (t : Fin cfg0.N) : (iblk m c 4 t : S1x2560.Idx → EReal) = V m c main_v7 := by
  funext x; show V m c main_v7 (((cfg0.win 4).blk t).view.emb x) = _; rw [emb4]
theorem emb5 (t : Fin cfg0.N) (x : S256x2560.Idx) : ((cfg0.win 5).blk t).view.emb x = x :=
  funext fun a => Fin.ext (win0_5.rect_emb_val_of_index_zero t a (by fin_cases t; fin_cases a <;> rfl) x)

/-- The region's one point. -/
abbrev t0 : Fin cfg0.N := ⟨0, by decide⟩

/-- What the kernel stores, of the arrays it reads. -/
theorem arr_eq (c : Dev nD) : ((dats m 0 c).arrAt 5 cfg0.N : S256x2560.Idx → EReal) = k0_pay1 (F := Ideal) (V m c main_v3) (V m c main_v5) (V m c main_v4) (V m c main_v6) (V m c main_v7) := by
  have h := Value.blocks5 m c t0 (by decide)
  rw [Value.flushed5] at h
  have h2 : out0_5 (F := Ideal) (iblk m c 0 t0) (iblk m c 1 t0) (iblk m c 2 t0) (iblk m c 3 t0) (iblk m c 4 t0) = k0_pay1 (F := Ideal) (V m c main_v3) (V m c main_v5) (V m c main_v4) (V m c main_v6) (V m c main_v7) := by
    unfold out0_5
    rw [View.canon_cons_unit_lit' _ _ _ (by decide)]
    rw [View.ld_unit_lit' _ _ (by decide), View.ld_unit_lit' _ _ (by decide), View.ld_unit_lit' _ _ (by decide), View.ld_unit_lit' _ _ (by decide), View.ld_unit_lit' _ _ (by decide)]
    exact congr (congr (congr (congr (congrArg (k0_pay1 (F := Ideal)) (iblk0 m c t0)) (iblk2 m c t0)) (iblk1 m c t0)) (iblk3 m c t0)) (iblk4 m c t0)
  rw [h2] at h
  funext x
  have hx := congrFun h x
  rw [View.read_apply] at hx
  have e := emb5 t0 x
  exact (congrArg ((dats m 0 c).arrAt 5 cfg0.N : S256x2560.Idx → EReal) e).symm.trans hx

/-- The payload, element by element. -/
theorem pay_apply (a : FVec Ideal S256x30720 .fp8e4m3) (b : FVec Ideal S30720x2560 .fp8e4m3) (g : FVec Ideal S256x1 .f32) (w bi : FVec Ideal S1x2560 .f32) (r : Fin 256) (n : Fin 2560) :
    (k0_pay1 (F := Ideal) a b g w bi (ix2 r n) : EReal) = (∑ k : Fin 30720, (a (ix2 r k) : EReal) * b (ix2 k n)) * ((g (ix2 r (0 : Fin 1)) : EReal) * w (ix2 (0 : Fin 1) n)) + bi (ix2 (0 : Fin 1) n) := by
  unfold k0_pay1
  rw [shapeCast_self, shapeCast_self, shapeCast_self, shapeCast_self, shapeCast_self]
  rw [ValueIdx.truncf_apply, ValueIdx.addf_apply, ValueIdx.mulf_apply, ValueIdx.mulf_apply, broadcastTo_1b_ab_apply, broadcastTo_1b_ab_apply]
  have hg : broadcastTo S256x2560 g broadcasts_S256x1_S256x2560 (ix2 r n) = g (ix2 r (0 : Fin 1)) :=
    broadcastTo_apply g broadcasts_S256x1_S256x2560 (ix2 r n) (ix2 r (0 : Fin 1)) fun x => by
      match x with
      | ⟨0, _⟩ => rfl
      | ⟨1, _⟩ => rfl
  rw [hg]
  have hm : (matmul (F := Ideal) dot_S256x30720_S30720x2560_S256x2560_1_0_0_1_n_n none (extf .bf16 a bitsLt_fp8e4m3_bf16) (extf .bf16 b bitsLt_fp8e4m3_bf16) (constant S256x2560 .f32 0x00000000#32) (ix2 r n) : EReal)
      = ∑ k : Fin 30720, (a (ix2 r k) : EReal) * b (ix2 k n) := by
    refine (Ideal.matmul_plain_apply (M := 256) (K := 30720) (N := 2560) none (extf .bf16 a bitsLt_fp8e4m3_bf16) (extf .bf16 b bitsLt_fp8e4m3_bf16) (constant S256x2560 .f32 0x00000000#32) r n).trans ?_
    have hz : (constant (F := Ideal) S256x2560 .f32 0x00000000#32 (ix2 r n) : EReal) = 0 := Ideal.ofBits_zero_f32
    rw [hz, zero_add]
    rfl
  rw [hm]

/-- A sum over the contracted axis, by kernel position, block of 256 channels and channel. -/
theorem sum_split (f : Fin 30720 → EReal) :
    ∑ k, f k = ∑ p : Fin 15 × Fin 8, ∑ x : Fin 256, f ⟨2048 * p.1.val + (256 * p.2.val + x.val), by omega⟩ := by
  rw [← Equiv.sum_comp (((finProdFinEquiv (m := 15) (n := 8)).prodCongr (Equiv.refl (Fin 256))).trans (finProdFinEquiv (m := 15 * 8) (n := 256))) f, Fintype.sum_prod_type]
  refine Finset.sum_congr rfl fun p _ => Finset.sum_congr rfl fun x _ => congrArg f (Fin.ext ?_)
  show x.val + 256 * (p.2.val + 8 * p.1.val) = 2048 * p.1.val + (256 * p.2.val + x.val)
  omega

/-! ## The arrays the kernel reads, of the arguments -/

theorem codes_at (c : Dev nD) (r : Fin 256) (k : Fin 15) (d : Fin 2048) (h : 2048 * k.val + d.val < 30720) :
    (V m c main_v3 (ix2 r (⟨2048 * k.val + d.val, h⟩ : Fin 30720)) : EReal) = m ((c : Thread nD τ).loc main_arg0) (ix3 k r d) := by
  rw [V_main_v3]
  refine (shapeCast_apply _ shapeCasts_S256x15x2048_S256x30720 (ix2 r (⟨2048 * k.val + d.val, h⟩ : Fin 30720)) (ix3 r k d) ?_).trans ?_
  · rw [Shape.rowMajor_val_three, Shape.rowMajor_val_two]
    show (r.val * 15 + k.val) * 2048 + d.val = r.val * 30720 + (2048 * k.val + d.val)
    omega
  · exact transpose_apply _ _ _ _ _ fun b => match b with | ⟨0, _⟩ => rfl | ⟨1, _⟩ => rfl | ⟨2, _⟩ => rfl
theorem weights_at (c : Dev nD) (k : Fin 15) (d : Fin 2048) (n : Fin 2560) (h : 2048 * k.val + d.val < 30720) :
    (V m c main_v5 (ix2 (⟨2048 * k.val + d.val, h⟩ : Fin 30720) n) : EReal) = m ((c : Thread nD τ).loc main_arg2) (ix3 k d n) := by
  rw [V_main_v5]
  refine shapeCast_apply _ shapeCasts_S15x2048x2560_S30720x2560 (ix2 (⟨2048 * k.val + d.val, h⟩ : Fin 30720) n) (ix3 k d n) ?_
  rw [Shape.rowMajor_val_three, Shape.rowMajor_val_two]
  show (k.val * 2048 + d.val) * 2560 + n.val = (2048 * k.val + d.val) * 2560 + n.val
  omega

/-- One element of the scaled product, of the codes, their scales as a column, the weights, and their scales and the bias as rows. -/
def refEl (a : S15x256x2048.Idx → EReal) (g : S256x1.Idx → EReal) (w : S15x2048x2560.Idx → EReal) (ws bi : S1x2560.Idx → EReal) (r : Fin 256) (n : Fin 2560) : EReal :=
  (∑ p : Fin 15 × Fin 8, ∑ x : Fin 256, a (ix3 p.1 r (⟨256 * p.2.val + x.val, by omega⟩ : Fin 2048)) * w (ix3 p.1 (⟨256 * p.2.val + x.val, by omega⟩ : Fin 2048) n))
    * (g (ix2 r (0 : Fin 1)) * ws (ix2 (0 : Fin 1) n)) + bi (ix2 (0 : Fin 1) n)

/-- The reference's result at one element. -/
theorem y_at (c : Dev nD) (r : Fin 256) (n : Fin 2560) :
    ((dats m 0 c).arrAt 5 cfg0.N : S256x2560.Idx → EReal) (ix2 r n)
      = refEl (m ((c : Thread nD τ).loc main_arg0)) (shapeCast S256x1 (m ((c : Thread nD τ).loc main_arg1)) shapeCasts_S2x128_S256x1) (m ((c : Thread nD τ).loc main_arg2))
        (shapeCast S1x2560 (m ((c : Thread nD τ).loc main_arg3)) shapeCasts_S2560_S1x2560) (shapeCast S1x2560 (m ((c : Thread nD τ).loc main_arg4)) shapeCasts_S2560_S1x2560) r n := by
  rw [arr_eq, pay_apply, sum_split, V_main_v4, V_main_v6, V_main_v7]
  unfold refEl
  refine congrArg (fun z : EReal => z * _ + _) ?_
  refine Finset.sum_congr rfl fun p _ => Finset.sum_congr rfl fun x _ => ?_
  have e1 := codes_at m c r p.1 (⟨256 * p.2.val + x.val, by omega⟩ : Fin 2048) (by have := p.1.isLt; have := p.2.isLt; show 2048 * p.1.val + (256 * p.2.val + x.val) < 30720; omega)
  have e2 := weights_at m c p.1 (⟨256 * p.2.val + x.val, by omega⟩ : Fin 2048) n (by have := p.1.isLt; have := p.2.isLt; show 2048 * p.1.val + (256 * p.2.val + x.val) < 30720; omega)
  exact congr (congrArg (fun u v : EReal => u * v) e1) e2

/-- The reference's packed features at one element. -/
theorem g_at (c : Dev nD) (b : Fin 2) (k : Fin 15) (s : Fin 128) (d : Fin 2048) :
    (V m c main_v1 (ix4 b k s d) : EReal) = m ((c : Thread nD τ).loc main_arg0) (ix3 k (⟨128 * b.val + s.val, by omega⟩ : Fin 256) d) := by
  rw [V_main_v1]
  refine (transpose_apply _ _ _ (ix4 b k s d) (ix4 k b s d) fun b => match b with | ⟨0, _⟩ => rfl | ⟨1, _⟩ => rfl | ⟨2, _⟩ => rfl | ⟨3, _⟩ => rfl).trans ?_
  refine shapeCast_apply _ shapeCasts_S15x256x2048_S15x2x128x2048 (ix4 k b s d) (ix3 k (⟨128 * b.val + s.val, by omega⟩ : Fin 256) d) ?_
  rw [Shape.rowMajor_val_three, Shape.rowMajor_val_four]
  show (k.val * 256 + (128 * b.val + s.val)) * 2048 + d.val = ((k.val * 2 + b.val) * 128 + s.val) * 2048 + d.val
  omega

/-- The reference's run, with its packed features named too. -/
theorem run : θ_run defs (onTc (τ := τ) (main (F := Ideal))) ⟨m, fun _ => 0, ρ⟩ fun r => ∀ c : Dev nD,
      r.2.mem ((c : Thread nD τ).loc main_v8) = (dats m 0 c).arrAt 5 cfg0.N
      ∧ r.2.mem ((c : Thread nD τ).loc main_v1) = V m c main_v1
      ∧ r.2.mem ((c : Thread nD τ).loc main_arg1) = m ((c : Thread nD τ).loc main_arg1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨Value.post5 m r h c,
      (h c).2 main_v1 (Pipeline.mem_restRefs_of main_v1 (by decide) (by decide)),
      Value.kept_main_arg1 m r h c, Value.kept_main_arg0 m r h c, Value.kept_main_arg1 m r h c, Value.kept_main_arg2 m r h c, Value.kept_main_arg3 m r h c, Value.kept_main_arg4 m r h c⟩)
    (run_main m ρ)

end Cert.MainReferenceIdeal.Hand
end
-- ==== Proof.Agree.lean ====
/- The main product and the reference compute the same arrays, from arguments that agree. -/
module
public import proofs.«01_k».proof.Proof.Gen.MainIdeal.Frame
public import proofs.«01_k».proof.Proof.Gen.MainIdeal.Launch
public import proofs.«01_k».proof.Proof.MainIdeal.Out
public import proofs.«01_k».proof.Proof.MainReferenceIdeal.Value
public import Idealize.ShloMosaic.PureOps.Ideal.Laws
public import Idealize.ShloMosaic.Lib.StableHlo.Run
public import Idealize.ShloMosaic.Lib.ValueLayout
public import Idealize.ShloMosaic.Lib.Pipeline.Value
@[expose] public section
noncomputable section
namespace Cert.MainIdeal.Hand
open Cert.MainIdeal Cert.MainIdeal.Gen
open Idealize.ShloMosaic Idealize.ShloMosaic.TcCoe Idealize.ShloMosaic.ValueIdx
open scoped BigOperators
variable (m : (ℓ : Loc nD τ sig) → Buf (Elt Ideal) ℓ)

/-- The scales as the kernel reads them: the column repeated along 128 lanes. -/
theorem V_main_v1 (c : Dev nD) : V m c main_v1 = broadcastInDim S256x128 ![0, 1] bcast_S256x1_S256x128_0_1 (shapeCast S256x1 (m ((c : Thread nD τ).loc main_arg1)) shapeCasts_S2x128_S256x1) := by
  show StableHlo.after hostOps0 _ (Proc.devRef .tc main_v1) = _
  after_results
  rfl
/-- The weights' scales as a row. -/
theorem V_main_v2 (c : Dev nD) : V m c main_v2 = shapeCast S1x2560 (m ((c : Thread nD τ).loc main_arg3)) shapeCasts_S2560_S1x2560 := by
  show StableHlo.after hostOps0 _ (Proc.devRef .tc main_v2) = _
  after_results
  rfl
/-- The bias as a row. -/
theorem V_main_v3 (c : Dev nD) : V m c main_v3 = shapeCast S1x2560 (m ((c : Thread nD τ).loc main_arg4)) shapeCasts_S2560_S1x2560 := by
  show StableHlo.after hostOps0 _ (Proc.devRef .tc main_v3) = _
  after_results
  rfl

/-- One element of the kernel's result is the reference's. -/
theorem yEl_ref (a : S15x256x2048.Idx → EReal) (g : S256x1.Idx → EReal) (w : S15x2048x2560.Idx → EReal) (ws bi : S1x2560.Idx → EReal) (r : Fin 256) (n : Fin 2560) :
    yEl a (broadcastInDim S256x128 ![0, 1] bcast_S256x1_S256x128_0_1 g) w ws bi r n = Cert.MainReferenceIdeal.Hand.refEl a g w ws bi r n := by
  have hb : broadcastInDim S256x128 ![0, 1] bcast_S256x1_S256x128_0_1 g (ix2 r (⟨n.val % 128, by omega⟩ : Fin 128)) = g (ix2 r (0 : Fin 1)) :=
    broadcastInDim_apply _ _ _ _ _ fun b => match b with | ⟨0, _⟩ => rfl | ⟨1, _⟩ => rfl
  unfold yEl
  rw [hb]
  rfl

variable (m' : (ℓ : Loc Cert.MainReferenceIdeal.nD Cert.MainReferenceIdeal.τ Cert.MainReferenceIdeal.sig) → Buf (Elt Ideal) ℓ)

/-- The kernel's first result is the reference's. -/
theorem y_agree (c : Dev nD)
    (h0 : m' ((c.tc : Thread Cert.MainReferenceIdeal.nD Cert.MainReferenceIdeal.τ).loc Cert.MainReferenceIdeal.main_arg0) = m ((c.tc : Thread nD τ).loc main_arg0))
    (h1 : m' ((c.tc : Thread Cert.MainReferenceIdeal.nD Cert.MainReferenceIdeal.τ).loc Cert.MainReferenceIdeal.main_arg1) = m ((c.tc : Thread nD τ).loc main_arg1))
    (h2 : m' ((c.tc : Thread Cert.MainReferenceIdeal.nD Cert.MainReferenceIdeal.τ).loc Cert.MainReferenceIdeal.main_arg2) = m ((c.tc : Thread nD τ).loc main_arg2))
    (h3 : m' ((c.tc : Thread Cert.MainReferenceIdeal.nD Cert.MainReferenceIdeal.τ).loc Cert.MainReferenceIdeal.main_arg3) = m ((c.tc : Thread nD τ).loc main_arg3))
    (h4 : m' ((c.tc : Thread Cert.MainReferenceIdeal.nD Cert.MainReferenceIdeal.τ).loc Cert.MainReferenceIdeal.main_arg4) = m ((c.tc : Thread nD τ).loc main_arg4)) :
    ((Cert.MainReferenceIdeal.Gen.dats m' 0 c).arrAt 5 Cert.MainReferenceIdeal.cfg0.N : S256x2560.Idx → EReal)
      = yFull (V m c main_arg0) (V m c main_v1) (V m c main_arg2) (V m c main_v2) (V m c main_v3) := by
  funext i
  have e : ix2 (i 0) (i 1) = i := by
    funext b
    match b with
    | ⟨0, _⟩ => rfl
    | ⟨1, _⟩ => rfl
  rw [← e]
  refine (Cert.MainReferenceIdeal.Hand.y_at m' c (i 0) (i 1)).trans ?_
  rw [h0, h1, h2, h3, h4, V_main_arg0, V_main_v1, V_main_arg2, V_main_v2, V_main_v3]
  exact (yEl_ref _ _ _ _ _ (i 0) (i 1)).symm

/-- The kernel's second result is the reference's. -/
theorem g_agree (c : Dev nD)
    (h0 : m' ((c.tc : Thread Cert.MainReferenceIdeal.nD Cert.MainReferenceIdeal.τ).loc Cert.MainReferenceIdeal.main_arg0) = m ((c.tc : Thread nD τ).loc main_arg0)) :
    (Cert.MainReferenceIdeal.Gen.V m' c Cert.MainReferenceIdeal.main_v1 : S2x15x128x2048.Idx → EReal) = gArr (V m c main_arg0) := by
  funext i
  have e : ix4 (i 0) (i 1) (i 2) (i 3) = i := by
    funext b
    match b with
    | ⟨0, _⟩ => rfl
    | ⟨1, _⟩ => rfl
    | ⟨2, _⟩ => rfl
    | ⟨3, _⟩ => rfl
  rw [← e]
  refine (Cert.MainReferenceIdeal.Hand.g_at m' c (i 0) (i 1) (i 2) (i 3)).trans ?_
  rw [h0, V_main_arg0]
  rfl

end Cert.MainIdeal.Hand
end
-- ==== Proof.lean ====
/- The certificate's claim, put together from the parts: each program's frame, and the main product's value. -/
module

public import proofs.«01_k».proof.Defs
public import proofs.«01_k».proof.Proof.Kernel.Frame
public import proofs.«01_k».proof.Proof.KernelIdeal.Frame
public import proofs.«01_k».proof.Proof.Main.Frame
public import proofs.«01_k».proof.Proof.MainIdeal.Frame
public import proofs.«01_k».proof.Proof.Gen.MainReferenceIdeal.Frame
public import proofs.«01_k».proof.Proof.Gen.MainReferenceIdeal.Value
public import proofs.«01_k».proof.Proof.Agree

@[expose] public section

noncomputable section

namespace Cert.Proof
open Idealize.ShloMosaic Idealize.SL.Sem

/-- The main product and its reference end with equal results. -/
theorem algebraic : algebraic_MainIdeal_MainReferenceIdeal (hMainIdeal := Cert.MainIdeal.Gen.facts) (hMainReferenceIdeal := Cert.MainReferenceIdeal.Gen.facts) := by
  intro m g m' g' _ hm
  refine ⟨fun c => Cert.MainIdeal.Hand.yVal c (Cert.MainIdeal.Gen.V m c Cert.MainIdeal.main_arg0) (Cert.MainIdeal.Gen.V m c Cert.MainIdeal.main_v1) (Cert.MainIdeal.Gen.V m c Cert.MainIdeal.main_arg2) (Cert.MainIdeal.Gen.V m c Cert.MainIdeal.main_v2) (Cert.MainIdeal.Gen.V m c Cert.MainIdeal.main_v3),
    fun c => Cert.MainIdeal.Hand.gVal c (Cert.MainIdeal.Gen.V m c Cert.MainIdeal.main_arg0),
    fun c => Cert.MainIdeal.Hand.gsVal c (Cert.MainIdeal.Gen.V m c Cert.MainIdeal.main_arg1), Cert.MainIdeal.Hand.values m g, ?_⟩
  refine (θ_run _ _ _).mono (fun r h c => ?_) (Cert.MainReferenceIdeal.Hand.run m' g')
  obtain ⟨h0, h1, h2, h3, h4⟩ := hm c
  obtain ⟨ry, rg, rs, r0, r1, r2, r3, r4⟩ := h c
  exact ⟨ry.trans (Cert.MainIdeal.Hand.y_agree m m' c h0 h1 h2 h3 h4), rg.trans (Cert.MainIdeal.Hand.g_agree m m' c h0),
    rs.trans (h1.trans (Cert.MainIdeal.Gen.V_main_arg1 m c).symm), r0, r1, r2, r3, r4⟩

theorem claim : Cert.Claim :=
  ⟨Cert.Kernel.Gen.facts, Cert.KernelIdeal.Gen.facts, Cert.Main.Gen.facts, Cert.MainIdeal.Gen.facts, Cert.MainReferenceIdeal.Gen.facts,
    fun m ρ _ => Cert.Kernel.Hand.frame m ρ, fun m ρ _ => Cert.KernelIdeal.Hand.frame m ρ, fun m ρ _ => Cert.Main.Hand.frame m ρ, fun m ρ _ => Cert.MainIdeal.Hand.frame m ρ,
    fun m ρ _ => Cert.MainReferenceIdeal.Gen.frame m ρ, trivial, trivial, algebraic⟩

end Cert.Proof

end
